-- ==== Defs.lean ====
def Pre_DxKernel (m : (ℓ : Loc Cert.DxKernel.nD Cert.DxKernel.τ Cert.DxKernel.sig) → Buf (Elt Bits) ℓ) : Prop :=
  True

def Pre_DxKernelIdeal (m : (ℓ : Loc Cert.DxKernelIdeal.nD Cert.DxKernelIdeal.τ Cert.DxKernelIdeal.sig) → Buf (Elt Ideal) ℓ) : Prop :=
  True

def Pre_DxKernelIdeal_dx_finite [hPre_dx_finite : Cert.Pre_dx_finite.Facts] (m : (ℓ : Loc Cert.DxKernelIdeal.nD Cert.DxKernelIdeal.τ Cert.DxKernelIdeal.sig) → Buf (Elt Ideal) ℓ) : Prop :=
  ∀ c : Dev Cert.DxKernelIdeal.nD,
    (Cert.Pre_dx_finite.fn (F := Ideal) (m ((c.tc : Thread Cert.DxKernelIdeal.nD Cert.DxKernelIdeal.τ).loc Cert.DxKernelIdeal.main_arg0)) (m ((c.tc : Thread Cert.DxKernelIdeal.nD Cert.DxKernelIdeal.τ).loc Cert.DxKernelIdeal.main_arg1)) (m ((c.tc : Thread Cert.DxKernelIdeal.nD Cert.DxKernelIdeal.τ).loc Cert.DxKernelIdeal.main_arg2)) (m ((c.tc : Thread Cert.DxKernelIdeal.nD Cert.DxKernelIdeal.τ).loc Cert.DxKernelIdeal.main_arg3)) (m ((c.tc : Thread Cert.DxKernelIdeal.nD Cert.DxKernelIdeal.τ).loc Cert.DxKernelIdeal.main_arg4))).1 = (fun _ => 1#1)
    ∧ (Cert.Pre_dx_finite.fn (F := Ideal) (m ((c.tc : Thread Cert.DxKernelIdeal.nD Cert.DxKernelIdeal.τ).loc Cert.DxKernelIdeal.main_arg0)) (m ((c.tc : Thread Cert.DxKernelIdeal.nD Cert.DxKernelIdeal.τ).loc Cert.DxKernelIdeal.main_arg1)) (m ((c.tc : Thread Cert.DxKernelIdeal.nD Cert.DxKernelIdeal.τ).loc Cert.DxKernelIdeal.main_arg2)) (m ((c.tc : Thread Cert.DxKernelIdeal.nD Cert.DxKernelIdeal.τ).loc Cert.DxKernelIdeal.main_arg3)) (m ((c.tc : Thread Cert.DxKernelIdeal.nD Cert.DxKernelIdeal.τ).loc Cert.DxKernelIdeal.main_arg4))).2.1 = (fun _ => 1#1)
    ∧ (Cert.Pre_dx_finite.fn (F := Ideal) (m ((c.tc : Thread Cert.DxKernelIdeal.nD Cert.DxKernelIdeal.τ).loc Cert.DxKernelIdeal.main_arg0)) (m ((c.tc : Thread Cert.DxKernelIdeal.nD Cert.DxKernelIdeal.τ).loc Cert.DxKernelIdeal.main_arg1)) (m ((c.tc : Thread Cert.DxKernelIdeal.nD Cert.DxKernelIdeal.τ).loc Cert.DxKernelIdeal.main_arg2)) (m ((c.tc : Thread Cert.DxKernelIdeal.nD Cert.DxKernelIdeal.τ).loc Cert.DxKernelIdeal.main_arg3)) (m ((c.tc : Thread Cert.DxKernelIdeal.nD Cert.DxKernelIdeal.τ).loc Cert.DxKernelIdeal.main_arg4))).2.2.1 = (fun _ => 1#1)
    ∧ (Cert.Pre_dx_finite.fn (F := Ideal) (m ((c.tc : Thread Cert.DxKernelIdeal.nD Cert.DxKernelIdeal.τ).loc Cert.DxKernelIdeal.main_arg0)) (m ((c.tc : Thread Cert.DxKernelIdeal.nD Cert.DxKernelIdeal.τ).loc Cert.DxKernelIdeal.main_arg1)) (m ((c.tc : Thread Cert.DxKernelIdeal.nD Cert.DxKernelIdeal.τ).loc Cert.DxKernelIdeal.main_arg2)) (m ((c.tc : Thread Cert.DxKernelIdeal.nD Cert.DxKernelIdeal.τ).loc Cert.DxKernelIdeal.main_arg3)) (m ((c.tc : Thread Cert.DxKernelIdeal.nD Cert.DxKernelIdeal.τ).loc Cert.DxKernelIdeal.main_arg4))).2.2.2 = (fun _ => 1#1)

def Pre_DxReferenceIdeal (m : (ℓ : Loc Cert.DxReferenceIdeal.nD Cert.DxReferenceIdeal.τ Cert.DxReferenceIdeal.sig) → Buf (Elt Ideal) ℓ) : Prop :=
  True

def Pre_DxReferenceIdeal_dx_finite [hPre_dx_finite : Cert.Pre_dx_finite.Facts] (m : (ℓ : Loc Cert.DxReferenceIdeal.nD Cert.DxReferenceIdeal.τ Cert.DxReferenceIdeal.sig) → Buf (Elt Ideal) ℓ) : Prop :=
  ∀ c : Dev Cert.DxReferenceIdeal.nD,
    (Cert.Pre_dx_finite.fn (F := Ideal) (m ((c.tc : Thread Cert.DxReferenceIdeal.nD Cert.DxReferenceIdeal.τ).loc Cert.DxReferenceIdeal.main_arg0)) (m ((c.tc : Thread Cert.DxReferenceIdeal.nD Cert.DxReferenceIdeal.τ).loc Cert.DxReferenceIdeal.main_arg1)) (m ((c.tc : Thread Cert.DxReferenceIdeal.nD Cert.DxReferenceIdeal.τ).loc Cert.DxReferenceIdeal.main_arg2)) (m ((c.tc : Thread Cert.DxReferenceIdeal.nD Cert.DxReferenceIdeal.τ).loc Cert.DxReferenceIdeal.main_arg3)) (m ((c.tc : Thread Cert.DxReferenceIdeal.nD Cert.DxReferenceIdeal.τ).loc Cert.DxReferenceIdeal.main_arg4))).1 = (fun _ => 1#1)
    ∧ (Cert.Pre_dx_finite.fn (F := Ideal) (m ((c.tc : Thread Cert.DxReferenceIdeal.nD Cert.DxReferenceIdeal.τ).loc Cert.DxReferenceIdeal.main_arg0)) (m ((c.tc : Thread Cert.DxReferenceIdeal.nD Cert.DxReferenceIdeal.τ).loc Cert.DxReferenceIdeal.main_arg1)) (m ((c.tc : Thread Cert.DxReferenceIdeal.nD Cert.DxReferenceIdeal.τ).loc Cert.DxReferenceIdeal.main_arg2)) (m ((c.tc : Thread Cert.DxReferenceIdeal.nD Cert.DxReferenceIdeal.τ).loc Cert.DxReferenceIdeal.main_arg3)) (m ((c.tc : Thread Cert.DxReferenceIdeal.nD Cert.DxReferenceIdeal.τ).loc Cert.DxReferenceIdeal.main_arg4))).2.1 = (fun _ => 1#1)
    ∧ (Cert.Pre_dx_finite.fn (F := Ideal) (m ((c.tc : Thread Cert.DxReferenceIdeal.nD Cert.DxReferenceIdeal.τ).loc Cert.DxReferenceIdeal.main_arg0)) (m ((c.tc : Thread Cert.DxReferenceIdeal.nD Cert.DxReferenceIdeal.τ).loc Cert.DxReferenceIdeal.main_arg1)) (m ((c.tc : Thread Cert.DxReferenceIdeal.nD Cert.DxReferenceIdeal.τ).loc Cert.DxReferenceIdeal.main_arg2)) (m ((c.tc : Thread Cert.DxReferenceIdeal.nD Cert.DxReferenceIdeal.τ).loc Cert.DxReferenceIdeal.main_arg3)) (m ((c.tc : Thread Cert.DxReferenceIdeal.nD Cert.DxReferenceIdeal.τ).loc Cert.DxReferenceIdeal.main_arg4))).2.2.1 = (fun _ => 1#1)
    ∧ (Cert.Pre_dx_finite.fn (F := Ideal) (m ((c.tc : Thread Cert.DxReferenceIdeal.nD Cert.DxReferenceIdeal.τ).loc Cert.DxReferenceIdeal.main_arg0)) (m ((c.tc : Thread Cert.DxReferenceIdeal.nD Cert.DxReferenceIdeal.τ).loc Cert.DxReferenceIdeal.main_arg1)) (m ((c.tc : Thread Cert.DxReferenceIdeal.nD Cert.DxReferenceIdeal.τ).loc Cert.DxReferenceIdeal.main_arg2)) (m ((c.tc : Thread Cert.DxReferenceIdeal.nD Cert.DxReferenceIdeal.τ).loc Cert.DxReferenceIdeal.main_arg3)) (m ((c.tc : Thread Cert.DxReferenceIdeal.nD Cert.DxReferenceIdeal.τ).loc Cert.DxReferenceIdeal.main_arg4))).2.2.2 = (fun _ => 1#1)

def Pre_PjKernel (m : (ℓ : Loc Cert.PjKernel.nD Cert.PjKernel.τ Cert.PjKernel.sig) → Buf (Elt Bits) ℓ) : Prop :=
  True

def Pre_PjKernelIdeal (m : (ℓ : Loc Cert.PjKernelIdeal.nD Cert.PjKernelIdeal.τ Cert.PjKernelIdeal.sig) → Buf (Elt Ideal) ℓ) : Prop :=
  True

def Pre_PjKernelIdeal_pj_finite [hPre_pj_finite : Cert.Pre_pj_finite.Facts] (m : (ℓ : Loc Cert.PjKernelIdeal.nD Cert.PjKernelIdeal.τ Cert.PjKernelIdeal.sig) → Buf (Elt Ideal) ℓ) : Prop :=
  ∀ c : Dev Cert.PjKernelIdeal.nD,
    (Cert.Pre_pj_finite.fn (F := Ideal) (m ((c.tc : Thread Cert.PjKernelIdeal.nD Cert.PjKernelIdeal.τ).loc Cert.PjKernelIdeal.main_arg0)) (m ((c.tc : Thread Cert.PjKernelIdeal.nD Cert.PjKernelIdeal.τ).loc Cert.PjKernelIdeal.main_arg1)) (m ((c.tc : Thread Cert.PjKernelIdeal.nD Cert.PjKernelIdeal.τ).loc Cert.PjKernelIdeal.main_arg2)) (m ((c.tc : Thread Cert.PjKernelIdeal.nD Cert.PjKernelIdeal.τ).loc Cert.PjKernelIdeal.main_arg3)) (m ((c.tc : Thread Cert.PjKernelIdeal.nD Cert.PjKernelIdeal.τ).loc Cert.PjKernelIdeal.main_arg4))).1 = (fun _ => 1#1)
    ∧ (Cert.Pre_pj_finite.fn (F := Ideal) (m ((c.tc : Thread Cert.PjKernelIdeal.nD Cert.PjKernelIdeal.τ).loc Cert.PjKernelIdeal.main_arg0)) (m ((c.tc : Thread Cert.PjKernelIdeal.nD Cert.PjKernelIdeal.τ).loc Cert.PjKernelIdeal.main_arg1)) (m ((c.tc : Thread Cert.PjKernelIdeal.nD Cert.PjKernelIdeal.τ).loc Cert.PjKernelIdeal.main_arg2)) (m ((c.tc : Thread Cert.PjKernelIdeal.nD Cert.PjKernelIdeal.τ).loc Cert.PjKernelIdeal.main_arg3)) (m ((c.tc : Thread Cert.PjKernelIdeal.nD Cert.PjKernelIdeal.τ).loc Cert.PjKernelIdeal.main_arg4))).2.1 = (fun _ => 1#1)
    ∧ (Cert.Pre_pj_finite.fn (F := Ideal) (m ((c.tc : Thread Cert.PjKernelIdeal.nD Cert.PjKernelIdeal.τ).loc Cert.PjKernelIdeal.main_arg0)) (m ((c.tc : Thread Cert.PjKernelIdeal.nD Cert.PjKernelIdeal.τ).loc Cert.PjKernelIdeal.main_arg1)) (m ((c.tc : Thread Cert.PjKernelIdeal.nD Cert.PjKernelIdeal.τ).loc Cert.PjKernelIdeal.main_arg2)) (m ((c.tc : Thread Cert.PjKernelIdeal.nD Cert.PjKernelIdeal.τ).loc Cert.PjKernelIdeal.main_arg3)) (m ((c.tc : Thread Cert.PjKernelIdeal.nD Cert.PjKernelIdeal.τ).loc Cert.PjKernelIdeal.main_arg4))).2.2.1 = (fun _ => 1#1)
    ∧ (Cert.Pre_pj_finite.fn (F := Ideal) (m ((c.tc : Thread Cert.PjKernelIdeal.nD Cert.PjKernelIdeal.τ).loc Cert.PjKernelIdeal.main_arg0)) (m ((c.tc : Thread Cert.PjKernelIdeal.nD Cert.PjKernelIdeal.τ).loc Cert.PjKernelIdeal.main_arg1)) (m ((c.tc : Thread Cert.PjKernelIdeal.nD Cert.PjKernelIdeal.τ).loc Cert.PjKernelIdeal.main_arg2)) (m ((c.tc : Thread Cert.PjKernelIdeal.nD Cert.PjKernelIdeal.τ).loc Cert.PjKernelIdeal.main_arg3)) (m ((c.tc : Thread Cert.PjKernelIdeal.nD Cert.PjKernelIdeal.τ).loc Cert.PjKernelIdeal.main_arg4))).2.2.2 = (fun _ => 1#1)

def Pre_PjReferenceIdeal (m : (ℓ : Loc Cert.PjReferenceIdeal.nD Cert.PjReferenceIdeal.τ Cert.PjReferenceIdeal.sig) → Buf (Elt Ideal) ℓ) : Prop :=
  True

def Pre_PjReferenceIdeal_pj_finite [hPre_pj_finite : Cert.Pre_pj_finite.Facts] (m : (ℓ : Loc Cert.PjReferenceIdeal.nD Cert.PjReferenceIdeal.τ Cert.PjReferenceIdeal.sig) → Buf (Elt Ideal) ℓ) : Prop :=
  ∀ c : Dev Cert.PjReferenceIdeal.nD,
    (Cert.Pre_pj_finite.fn (F := Ideal) (m ((c.tc : Thread Cert.PjReferenceIdeal.nD Cert.PjReferenceIdeal.τ).loc Cert.PjReferenceIdeal.main_arg0)) (m ((c.tc : Thread Cert.PjReferenceIdeal.nD Cert.PjReferenceIdeal.τ).loc Cert.PjReferenceIdeal.main_arg1)) (m ((c.tc : Thread Cert.PjReferenceIdeal.nD Cert.PjReferenceIdeal.τ).loc Cert.PjReferenceIdeal.main_arg2)) (m ((c.tc : Thread Cert.PjReferenceIdeal.nD Cert.PjReferenceIdeal.τ).loc Cert.PjReferenceIdeal.main_arg3)) (m ((c.tc : Thread Cert.PjReferenceIdeal.nD Cert.PjReferenceIdeal.τ).loc Cert.PjReferenceIdeal.main_arg4))).1 = (fun _ => 1#1)
    ∧ (Cert.Pre_pj_finite.fn (F := Ideal) (m ((c.tc : Thread Cert.PjReferenceIdeal.nD Cert.PjReferenceIdeal.τ).loc Cert.PjReferenceIdeal.main_arg0)) (m ((c.tc : Thread Cert.PjReferenceIdeal.nD Cert.PjReferenceIdeal.τ).loc Cert.PjReferenceIdeal.main_arg1)) (m ((c.tc : Thread Cert.PjReferenceIdeal.nD Cert.PjReferenceIdeal.τ).loc Cert.PjReferenceIdeal.main_arg2)) (m ((c.tc : Thread Cert.PjReferenceIdeal.nD Cert.PjReferenceIdeal.τ).loc Cert.PjReferenceIdeal.main_arg3)) (m ((c.tc : Thread Cert.PjReferenceIdeal.nD Cert.PjReferenceIdeal.τ).loc Cert.PjReferenceIdeal.main_arg4))).2.1 = (fun _ => 1#1)
    ∧ (Cert.Pre_pj_finite.fn (F := Ideal) (m ((c.tc : Thread Cert.PjReferenceIdeal.nD Cert.PjReferenceIdeal.τ).loc Cert.PjReferenceIdeal.main_arg0)) (m ((c.tc : Thread Cert.PjReferenceIdeal.nD Cert.PjReferenceIdeal.τ).loc Cert.PjReferenceIdeal.main_arg1)) (m ((c.tc : Thread Cert.PjReferenceIdeal.nD Cert.PjReferenceIdeal.τ).loc Cert.PjReferenceIdeal.main_arg2)) (m ((c.tc : Thread Cert.PjReferenceIdeal.nD Cert.PjReferenceIdeal.τ).loc Cert.PjReferenceIdeal.main_arg3)) (m ((c.tc : Thread Cert.PjReferenceIdeal.nD Cert.PjReferenceIdeal.τ).loc Cert.PjReferenceIdeal.main_arg4))).2.2.1 = (fun _ => 1#1)
    ∧ (Cert.Pre_pj_finite.fn (F := Ideal) (m ((c.tc : Thread Cert.PjReferenceIdeal.nD Cert.PjReferenceIdeal.τ).loc Cert.PjReferenceIdeal.main_arg0)) (m ((c.tc : Thread Cert.PjReferenceIdeal.nD Cert.PjReferenceIdeal.τ).loc Cert.PjReferenceIdeal.main_arg1)) (m ((c.tc : Thread Cert.PjReferenceIdeal.nD Cert.PjReferenceIdeal.τ).loc Cert.PjReferenceIdeal.main_arg2)) (m ((c.tc : Thread Cert.PjReferenceIdeal.nD Cert.PjReferenceIdeal.τ).loc Cert.PjReferenceIdeal.main_arg3)) (m ((c.tc : Thread Cert.PjReferenceIdeal.nD Cert.PjReferenceIdeal.τ).loc Cert.PjReferenceIdeal.main_arg4))).2.2.2 = (fun _ => 1#1)

def Pre_DwKernel (m : (ℓ : Loc Cert.DwKernel.nD Cert.DwKernel.τ Cert.DwKernel.sig) → Buf (Elt Bits) ℓ) : Prop :=
  True

def Pre_DwKernelIdeal (m : (ℓ : Loc Cert.DwKernelIdeal.nD Cert.DwKernelIdeal.τ Cert.DwKernelIdeal.sig) → Buf (Elt Ideal) ℓ) : Prop :=
  True

def Pre_DwReferenceIdeal (m : (ℓ : Loc Cert.DwReferenceIdeal.nD Cert.DwReferenceIdeal.τ Cert.DwReferenceIdeal.sig) → Buf (Elt Ideal) ℓ) : Prop :=
  True

def Pre_MxKernel (m : (ℓ : Loc Cert.MxKernel.nD Cert.MxKernel.τ Cert.MxKernel.sig) → Buf (Elt Bits) ℓ) : Prop :=
  True

def Pre_MxKernelIdeal (m : (ℓ : Loc Cert.MxKernelIdeal.nD Cert.MxKernelIdeal.τ Cert.MxKernelIdeal.sig) → Buf (Elt Ideal) ℓ) : Prop :=
  True

def Pre_MxKernelIdeal_mx_finite [hPre_mx_finite : Cert.Pre_mx_finite.Facts] (m : (ℓ : Loc Cert.MxKernelIdeal.nD Cert.MxKernelIdeal.τ Cert.MxKernelIdeal.sig) → Buf (Elt Ideal) ℓ) : Prop :=
  ∀ c : Dev Cert.MxKernelIdeal.nD,
    (Cert.Pre_mx_finite.fn (F := Ideal) (m ((c.tc : Thread Cert.MxKernelIdeal.nD Cert.MxKernelIdeal.τ).loc Cert.MxKernelIdeal.main_arg0)) (m ((c.tc : Thread Cert.MxKernelIdeal.nD Cert.MxKernelIdeal.τ).loc Cert.MxKernelIdeal.main_arg1)) (m ((c.tc : Thread Cert.MxKernelIdeal.nD Cert.MxKernelIdeal.τ).loc Cert.MxKernelIdeal.main_arg2)) (m ((c.tc : Thread Cert.MxKernelIdeal.nD Cert.MxKernelIdeal.τ).loc Cert.MxKernelIdeal.main_arg3)) (m ((c.tc : Thread Cert.MxKernelIdeal.nD Cert.MxKernelIdeal.τ).loc Cert.MxKernelIdeal.main_arg4)) (m ((c.tc : Thread Cert.MxKernelIdeal.nD Cert.MxKernelIdeal.τ).loc Cert.MxKernelIdeal.main_arg5)) (m ((c.tc : Thread Cert.MxKernelIdeal.nD Cert.MxKernelIdeal.τ).loc Cert.MxKernelIdeal.main_arg6))).1 = (fun _ => 1#1)
    ∧ (Cert.Pre_mx_finite.fn (F := Ideal) (m ((c.tc : Thread Cert.MxKernelIdeal.nD Cert.MxKernelIdeal.τ).loc Cert.MxKernelIdeal.main_arg0)) (m ((c.tc : Thread Cert.MxKernelIdeal.nD Cert.MxKernelIdeal.τ).loc Cert.MxKernelIdeal.main_arg1)) (m ((c.tc : Thread Cert.MxKernelIdeal.nD Cert.MxKernelIdeal.τ).loc Cert.MxKernelIdeal.main_arg2)) (m ((c.tc : Thread Cert.MxKernelIdeal.nD Cert.MxKernelIdeal.τ).loc Cert.MxKernelIdeal.main_arg3)) (m ((c.tc : Thread Cert.MxKernelIdeal.nD Cert.MxKernelIdeal.τ).loc Cert.MxKernelIdeal.main_arg4)) (m ((c.tc : Thread Cert.MxKernelIdeal.nD Cert.MxKernelIdeal.τ).loc Cert.MxKernelIdeal.main_arg5)) (m ((c.tc : Thread Cert.MxKernelIdeal.nD Cert.MxKernelIdeal.τ).loc Cert.MxKernelIdeal.main_arg6))).2.1 = (fun _ => 1#1)
    ∧ (Cert.Pre_mx_finite.fn (F := Ideal) (m ((c.tc : Thread Cert.MxKernelIdeal.nD Cert.MxKernelIdeal.τ).loc Cert.MxKernelIdeal.main_arg0)) (m ((c.tc : Thread Cert.MxKernelIdeal.nD Cert.MxKernelIdeal.τ).loc Cert.MxKernelIdeal.main_arg1)) (m ((c.tc : Thread Cert.MxKernelIdeal.nD Cert.MxKernelIdeal.τ).loc Cert.MxKernelIdeal.main_arg2)) (m ((c.tc : Thread Cert.MxKernelIdeal.nD Cert.MxKernelIdeal.τ).loc Cert.MxKernelIdeal.main_arg3)) (m ((c.tc : Thread Cert.MxKernelIdeal.nD Cert.MxKernelIdeal.τ).loc Cert.MxKernelIdeal.main_arg4)) (m ((c.tc : Thread Cert.MxKernelIdeal.nD Cert.MxKernelIdeal.τ).loc Cert.MxKernelIdeal.main_arg5)) (m ((c.tc : Thread Cert.MxKernelIdeal.nD Cert.MxKernelIdeal.τ).loc Cert.MxKernelIdeal.main_arg6))).2.2.1 = (fun _ => 1#1)
    ∧ (Cert.Pre_mx_finite.fn (F := Ideal) (m ((c.tc : Thread Cert.MxKernelIdeal.nD Cert.MxKernelIdeal.τ).loc Cert.MxKernelIdeal.main_arg0)) (m ((c.tc : Thread Cert.MxKernelIdeal.nD Cert.MxKernelIdeal.τ).loc Cert.MxKernelIdeal.main_arg1)) (m ((c.tc : Thread Cert.MxKernelIdeal.nD Cert.MxKernelIdeal.τ).loc Cert.MxKernelIdeal.main_arg2)) (m ((c.tc : Thread Cert.MxKernelIdeal.nD Cert.MxKernelIdeal.τ).loc Cert.MxKernelIdeal.main_arg3)) (m ((c.tc : Thread Cert.MxKernelIdeal.nD Cert.MxKernelIdeal.τ).loc Cert.MxKernelIdeal.main_arg4)) (m ((c.tc : Thread Cert.MxKernelIdeal.nD Cert.MxKernelIdeal.τ).loc Cert.MxKernelIdeal.main_arg5)) (m ((c.tc : Thread Cert.MxKernelIdeal.nD Cert.MxKernelIdeal.τ).loc Cert.MxKernelIdeal.main_arg6))).2.2.2.1 = (fun _ => 1#1)
    ∧ (Cert.Pre_mx_finite.fn (F := Ideal) (m ((c.tc : Thread Cert.MxKernelIdeal.nD Cert.MxKernelIdeal.τ).loc Cert.MxKernelIdeal.main_arg0)) (m ((c.tc : Thread Cert.MxKernelIdeal.nD Cert.MxKernelIdeal.τ).loc Cert.MxKernelIdeal.main_arg1)) (m ((c.tc : Thread Cert.MxKernelIdeal.nD Cert.MxKernelIdeal.τ).loc Cert.MxKernelIdeal.main_arg2)) (m ((c.tc : Thread Cert.MxKernelIdeal.nD Cert.MxKernelIdeal.τ).loc Cert.MxKernelIdeal.main_arg3)) (m ((c.tc : Thread Cert.MxKernelIdeal.nD Cert.MxKernelIdeal.τ).loc Cert.MxKernelIdeal.main_arg4)) (m ((c.tc : Thread Cert.MxKernelIdeal.nD Cert.MxKernelIdeal.τ).loc Cert.MxKernelIdeal.main_arg5)) (m ((c.tc : Thread Cert.MxKernelIdeal.nD Cert.MxKernelIdeal.τ).loc Cert.MxKernelIdeal.main_arg6))).2.2.2.2.1 = (fun _ => 1#1)
    ∧ (Cert.Pre_mx_finite.fn (F := Ideal) (m ((c.tc : Thread Cert.MxKernelIdeal.nD Cert.MxKernelIdeal.τ).loc Cert.MxKernelIdeal.main_arg0)) (m ((c.tc : Thread Cert.MxKernelIdeal.nD Cert.MxKernelIdeal.τ).loc Cert.MxKernelIdeal.main_arg1)) (m ((c.tc : Thread Cert.MxKernelIdeal.nD Cert.MxKernelIdeal.τ).loc Cert.MxKernelIdeal.main_arg2)) (m ((c.tc : Thread Cert.MxKernelIdeal.nD Cert.MxKernelIdeal.τ).loc Cert.MxKernelIdeal.main_arg3)) (m ((c.tc : Thread Cert.MxKernelIdeal.nD Cert.MxKernelIdeal.τ).loc Cert.MxKernelIdeal.main_arg4)) (m ((c.tc : Thread Cert.MxKernelIdeal.nD Cert.MxKernelIdeal.τ).loc Cert.MxKernelIdeal.main_arg5)) (m ((c.tc : Thread Cert.MxKernelIdeal.nD Cert.MxKernelIdeal.τ).loc Cert.MxKernelIdeal.main_arg6))).2.2.2.2.2.1 = (fun _ => 1#1)
    ∧ (Cert.Pre_mx_finite.fn (F := Ideal) (m ((c.tc : Thread Cert.MxKernelIdeal.nD Cert.MxKernelIdeal.τ).loc Cert.MxKernelIdeal.main_arg0)) (m ((c.tc : Thread Cert.MxKernelIdeal.nD Cert.MxKernelIdeal.τ).loc Cert.MxKernelIdeal.main_arg1)) (m ((c.tc : Thread Cert.MxKernelIdeal.nD Cert.MxKernelIdeal.τ).loc Cert.MxKernelIdeal.main_arg2)) (m ((c.tc : Thread Cert.MxKernelIdeal.nD Cert.MxKernelIdeal.τ).loc Cert.MxKernelIdeal.main_arg3)) (m ((c.tc : Thread Cert.MxKernelIdeal.nD Cert.MxKernelIdeal.τ).loc Cert.MxKernelIdeal.main_arg4)) (m ((c.tc : Thread Cert.MxKernelIdeal.nD Cert.MxKernelIdeal.τ).loc Cert.MxKernelIdeal.main_arg5)) (m ((c.tc : Thread Cert.MxKernelIdeal.nD Cert.MxKernelIdeal.τ).loc Cert.MxKernelIdeal.main_arg6))).2.2.2.2.2.2 = (fun _ => 1#1)

def Pre_MxReferenceIdeal (m : (ℓ : Loc Cert.MxReferenceIdeal.nD Cert.MxReferenceIdeal.τ Cert.MxReferenceIdeal.sig) → Buf (Elt Ideal) ℓ) : Prop :=
  True

def Pre_MxReferenceIdeal_mx_finite [hPre_mx_finite : Cert.Pre_mx_finite.Facts] (m : (ℓ : Loc Cert.MxReferenceIdeal.nD Cert.MxReferenceIdeal.τ Cert.MxReferenceIdeal.sig) → Buf (Elt Ideal) ℓ) : Prop :=
  ∀ c : Dev Cert.MxReferenceIdeal.nD,
    (Cert.Pre_mx_finite.fn (F := Ideal) (m ((c.tc : Thread Cert.MxReferenceIdeal.nD Cert.MxReferenceIdeal.τ).loc Cert.MxReferenceIdeal.main_arg0)) (m ((c.tc : Thread Cert.MxReferenceIdeal.nD Cert.MxReferenceIdeal.τ).loc Cert.MxReferenceIdeal.main_arg1)) (m ((c.tc : Thread Cert.MxReferenceIdeal.nD Cert.MxReferenceIdeal.τ).loc Cert.MxReferenceIdeal.main_arg2)) (m ((c.tc : Thread Cert.MxReferenceIdeal.nD Cert.MxReferenceIdeal.τ).loc Cert.MxReferenceIdeal.main_arg3)) (m ((c.tc : Thread Cert.MxReferenceIdeal.nD Cert.MxReferenceIdeal.τ).loc Cert.MxReferenceIdeal.main_arg4)) (m ((c.tc : Thread Cert.MxReferenceIdeal.nD Cert.MxReferenceIdeal.τ).loc Cert.MxReferenceIdeal.main_arg5)) (m ((c.tc : Thread Cert.MxReferenceIdeal.nD Cert.MxReferenceIdeal.τ).loc Cert.MxReferenceIdeal.main_arg6))).1 = (fun _ => 1#1)
    ∧ (Cert.Pre_mx_finite.fn (F := Ideal) (m ((c.tc : Thread Cert.MxReferenceIdeal.nD Cert.MxReferenceIdeal.τ).loc Cert.MxReferenceIdeal.main_arg0)) (m ((c.tc : Thread Cert.MxReferenceIdeal.nD Cert.MxReferenceIdeal.τ).loc Cert.MxReferenceIdeal.main_arg1)) (m ((c.tc : Thread Cert.MxReferenceIdeal.nD Cert.MxReferenceIdeal.τ).loc Cert.MxReferenceIdeal.main_arg2)) (m ((c.tc : Thread Cert.MxReferenceIdeal.nD Cert.MxReferenceIdeal.τ).loc Cert.MxReferenceIdeal.main_arg3)) (m ((c.tc : Thread Cert.MxReferenceIdeal.nD Cert.MxReferenceIdeal.τ).loc Cert.MxReferenceIdeal.main_arg4)) (m ((c.tc : Thread Cert.MxReferenceIdeal.nD Cert.MxReferenceIdeal.τ).loc Cert.MxReferenceIdeal.main_arg5)) (m ((c.tc : Thread Cert.MxReferenceIdeal.nD Cert.MxReferenceIdeal.τ).loc Cert.MxReferenceIdeal.main_arg6))).2.1 = (fun _ => 1#1)
    ∧ (Cert.Pre_mx_finite.fn (F := Ideal) (m ((c.tc : Thread Cert.MxReferenceIdeal.nD Cert.MxReferenceIdeal.τ).loc Cert.MxReferenceIdeal.main_arg0)) (m ((c.tc : Thread Cert.MxReferenceIdeal.nD Cert.MxReferenceIdeal.τ).loc Cert.MxReferenceIdeal.main_arg1)) (m ((c.tc : Thread Cert.MxReferenceIdeal.nD Cert.MxReferenceIdeal.τ).loc Cert.MxReferenceIdeal.main_arg2)) (m ((c.tc : Thread Cert.MxReferenceIdeal.nD Cert.MxReferenceIdeal.τ).loc Cert.MxReferenceIdeal.main_arg3)) (m ((c.tc : Thread Cert.MxReferenceIdeal.nD Cert.MxReferenceIdeal.τ).loc Cert.MxReferenceIdeal.main_arg4)) (m ((c.tc : Thread Cert.MxReferenceIdeal.nD Cert.MxReferenceIdeal.τ).loc Cert.MxReferenceIdeal.main_arg5)) (m ((c.tc : Thread Cert.MxReferenceIdeal.nD Cert.MxReferenceIdeal.τ).loc Cert.MxReferenceIdeal.main_arg6))).2.2.1 = (fun _ => 1#1)
    ∧ (Cert.Pre_mx_finite.fn (F := Ideal) (m ((c.tc : Thread Cert.MxReferenceIdeal.nD Cert.MxReferenceIdeal.τ).loc Cert.MxReferenceIdeal.main_arg0)) (m ((c.tc : Thread Cert.MxReferenceIdeal.nD Cert.MxReferenceIdeal.τ).loc Cert.MxReferenceIdeal.main_arg1)) (m ((c.tc : Thread Cert.MxReferenceIdeal.nD Cert.MxReferenceIdeal.τ).loc Cert.MxReferenceIdeal.main_arg2)) (m ((c.tc : Thread Cert.MxReferenceIdeal.nD Cert.MxReferenceIdeal.τ).loc Cert.MxReferenceIdeal.main_arg3)) (m ((c.tc : Thread Cert.MxReferenceIdeal.nD Cert.MxReferenceIdeal.τ).loc Cert.MxReferenceIdeal.main_arg4)) (m ((c.tc : Thread Cert.MxReferenceIdeal.nD Cert.MxReferenceIdeal.τ).loc Cert.MxReferenceIdeal.main_arg5)) (m ((c.tc : Thread Cert.MxReferenceIdeal.nD Cert.MxReferenceIdeal.τ).loc Cert.MxReferenceIdeal.main_arg6))).2.2.2.1 = (fun _ => 1#1)
    ∧ (Cert.Pre_mx_finite.fn (F := Ideal) (m ((c.tc : Thread Cert.MxReferenceIdeal.nD Cert.MxReferenceIdeal.τ).loc Cert.MxReferenceIdeal.main_arg0)) (m ((c.tc : Thread Cert.MxReferenceIdeal.nD Cert.MxReferenceIdeal.τ).loc Cert.MxReferenceIdeal.main_arg1)) (m ((c.tc : Thread Cert.MxReferenceIdeal.nD Cert.MxReferenceIdeal.τ).loc Cert.MxReferenceIdeal.main_arg2)) (m ((c.tc : Thread Cert.MxReferenceIdeal.nD Cert.MxReferenceIdeal.τ).loc Cert.MxReferenceIdeal.main_arg3)) (m ((c.tc : Thread Cert.MxReferenceIdeal.nD Cert.MxReferenceIdeal.τ).loc Cert.MxReferenceIdeal.main_arg4)) (m ((c.tc : Thread Cert.MxReferenceIdeal.nD Cert.MxReferenceIdeal.τ).loc Cert.MxReferenceIdeal.main_arg5)) (m ((c.tc : Thread Cert.MxReferenceIdeal.nD Cert.MxReferenceIdeal.τ).loc Cert.MxReferenceIdeal.main_arg6))).2.2.2.2.1 = (fun _ => 1#1)
    ∧ (Cert.Pre_mx_finite.fn (F := Ideal) (m ((c.tc : Thread Cert.MxReferenceIdeal.nD Cert.MxReferenceIdeal.τ).loc Cert.MxReferenceIdeal.main_arg0)) (m ((c.tc : Thread Cert.MxReferenceIdeal.nD Cert.MxReferenceIdeal.τ).loc Cert.MxReferenceIdeal.main_arg1)) (m ((c.tc : Thread Cert.MxReferenceIdeal.nD Cert.MxReferenceIdeal.τ).loc Cert.MxReferenceIdeal.main_arg2)) (m ((c.tc : Thread Cert.MxReferenceIdeal.nD Cert.MxReferenceIdeal.τ).loc Cert.MxReferenceIdeal.main_arg3)) (m ((c.tc : Thread Cert.MxReferenceIdeal.nD Cert.MxReferenceIdeal.τ).loc Cert.MxReferenceIdeal.main_arg4)) (m ((c.tc : Thread Cert.MxReferenceIdeal.nD Cert.MxReferenceIdeal.τ).loc Cert.MxReferenceIdeal.main_arg5)) (m ((c.tc : Thread Cert.MxReferenceIdeal.nD Cert.MxReferenceIdeal.τ).loc Cert.MxReferenceIdeal.main_arg6))).2.2.2.2.2.1 = (fun _ => 1#1)
    ∧ (Cert.Pre_mx_finite.fn (F := Ideal) (m ((c.tc : Thread Cert.MxReferenceIdeal.nD Cert.MxReferenceIdeal.τ).loc Cert.MxReferenceIdeal.main_arg0)) (m ((c.tc : Thread Cert.MxReferenceIdeal.nD Cert.MxReferenceIdeal.τ).loc Cert.MxReferenceIdeal.main_arg1)) (m ((c.tc : Thread Cert.MxReferenceIdeal.nD Cert.MxReferenceIdeal.τ).loc Cert.MxReferenceIdeal.main_arg2)) (m ((c.tc : Thread Cert.MxReferenceIdeal.nD Cert.MxReferenceIdeal.τ).loc Cert.MxReferenceIdeal.main_arg3)) (m ((c.tc : Thread Cert.MxReferenceIdeal.nD Cert.MxReferenceIdeal.τ).loc Cert.MxReferenceIdeal.main_arg4)) (m ((c.tc : Thread Cert.MxReferenceIdeal.nD Cert.MxReferenceIdeal.τ).loc Cert.MxReferenceIdeal.main_arg5)) (m ((c.tc : Thread Cert.MxReferenceIdeal.nD Cert.MxReferenceIdeal.τ).loc Cert.MxReferenceIdeal.main_arg6))).2.2.2.2.2.2 = (fun _ => 1#1)

def Pre_NpKernel (m : (ℓ : Loc Cert.NpKernel.nD Cert.NpKernel.τ Cert.NpKernel.sig) → Buf (Elt Bits) ℓ) : Prop :=
  True

def Pre_NpKernelIdeal (m : (ℓ : Loc Cert.NpKernelIdeal.nD Cert.NpKernelIdeal.τ Cert.NpKernelIdeal.sig) → Buf (Elt Ideal) ℓ) : Prop :=
  True

def Pre_NpReferenceIdeal (m : (ℓ : Loc Cert.NpReferenceIdeal.nD Cert.NpReferenceIdeal.τ Cert.NpReferenceIdeal.sig) → Buf (Elt Ideal) ℓ) : Prop :=
  True

def Pre_FwKernel (m : (ℓ : Loc Cert.FwKernel.nD Cert.FwKernel.τ Cert.FwKernel.sig) → Buf (Elt Bits) ℓ) : Prop :=
  True

def Pre_FwKernelIdeal (m : (ℓ : Loc Cert.FwKernelIdeal.nD Cert.FwKernelIdeal.τ Cert.FwKernelIdeal.sig) → Buf (Elt Ideal) ℓ) : Prop :=
  True

def Pre_FwKernelIdeal_fw_finite [hPre_fw_finite : Cert.Pre_fw_finite.Facts] (m : (ℓ : Loc Cert.FwKernelIdeal.nD Cert.FwKernelIdeal.τ Cert.FwKernelIdeal.sig) → Buf (Elt Ideal) ℓ) : Prop :=
  ∀ c : Dev Cert.FwKernelIdeal.nD,
    (Cert.Pre_fw_finite.fn (F := Ideal) (m ((c.tc : Thread Cert.FwKernelIdeal.nD Cert.FwKernelIdeal.τ).loc Cert.FwKernelIdeal.main_arg0)) (m ((c.tc : Thread Cert.FwKernelIdeal.nD Cert.FwKernelIdeal.τ).loc Cert.FwKernelIdeal.main_arg1)) (m ((c.tc : Thread Cert.FwKernelIdeal.nD Cert.FwKernelIdeal.τ).loc Cert.FwKernelIdeal.main_arg2)) (m ((c.tc : Thread Cert.FwKernelIdeal.nD Cert.FwKernelIdeal.τ).loc Cert.FwKernelIdeal.main_arg3)) (m ((c.tc : Thread Cert.FwKernelIdeal.nD Cert.FwKernelIdeal.τ).loc Cert.FwKernelIdeal.main_arg4)) (m ((c.tc : Thread Cert.FwKernelIdeal.nD Cert.FwKernelIdeal.τ).loc Cert.FwKernelIdeal.main_arg5)) (m ((c.tc : Thread Cert.FwKernelIdeal.nD Cert.FwKernelIdeal.τ).loc Cert.FwKernelIdeal.main_arg6))).1 = (fun _ => 1#1)
    ∧ (Cert.Pre_fw_finite.fn (F := Ideal) (m ((c.tc : Thread Cert.FwKernelIdeal.nD Cert.FwKernelIdeal.τ).loc Cert.FwKernelIdeal.main_arg0)) (m ((c.tc : Thread Cert.FwKernelIdeal.nD Cert.FwKernelIdeal.τ).loc Cert.FwKernelIdeal.main_arg1)) (m ((c.tc : Thread Cert.FwKernelIdeal.nD Cert.FwKernelIdeal.τ).loc Cert.FwKernelIdeal.main_arg2)) (m ((c.tc : Thread Cert.FwKernelIdeal.nD Cert.FwKernelIdeal.τ).loc Cert.FwKernelIdeal.main_arg3)) (m ((c.tc : Thread Cert.FwKernelIdeal.nD Cert.FwKernelIdeal.τ).loc Cert.FwKernelIdeal.main_arg4)) (m ((c.tc : Thread Cert.FwKernelIdeal.nD Cert.FwKernelIdeal.τ).loc Cert.FwKernelIdeal.main_arg5)) (m ((c.tc : Thread Cert.FwKernelIdeal.nD Cert.FwKernelIdeal.τ).loc Cert.FwKernelIdeal.main_arg6))).2.1 = (fun _ => 1#1)
    ∧ (Cert.Pre_fw_finite.fn (F := Ideal) (m ((c.tc : Thread Cert.FwKernelIdeal.nD Cert.FwKernelIdeal.τ).loc Cert.FwKernelIdeal.main_arg0)) (m ((c.tc : Thread Cert.FwKernelIdeal.nD Cert.FwKernelIdeal.τ).loc Cert.FwKernelIdeal.main_arg1)) (m ((c.tc : Thread Cert.FwKernelIdeal.nD Cert.FwKernelIdeal.τ).loc Cert.FwKernelIdeal.main_arg2)) (m ((c.tc : Thread Cert.FwKernelIdeal.nD Cert.FwKernelIdeal.τ).loc Cert.FwKernelIdeal.main_arg3)) (m ((c.tc : Thread Cert.FwKernelIdeal.nD Cert.FwKernelIdeal.τ).loc Cert.FwKernelIdeal.main_arg4)) (m ((c.tc : Thread Cert.FwKernelIdeal.nD Cert.FwKernelIdeal.τ).loc Cert.FwKernelIdeal.main_arg5)) (m ((c.tc : Thread Cert.FwKernelIdeal.nD Cert.FwKernelIdeal.τ).loc Cert.FwKernelIdeal.main_arg6))).2.2.1 = (fun _ => 1#1)
    ∧ (Cert.Pre_fw_finite.fn (F := Ideal) (m ((c.tc : Thread Cert.FwKernelIdeal.nD Cert.FwKernelIdeal.τ).loc Cert.FwKernelIdeal.main_arg0)) (m ((c.tc : Thread Cert.FwKernelIdeal.nD Cert.FwKernelIdeal.τ).loc Cert.FwKernelIdeal.main_arg1)) (m ((c.tc : Thread Cert.FwKernelIdeal.nD Cert.FwKernelIdeal.τ).loc Cert.FwKernelIdeal.main_arg2)) (m ((c.tc : Thread Cert.FwKernelIdeal.nD Cert.FwKernelIdeal.τ).loc Cert.FwKernelIdeal.main_arg3)) (m ((c.tc : Thread Cert.FwKernelIdeal.nD Cert.FwKernelIdeal.τ).loc Cert.FwKernelIdeal.main_arg4)) (m ((c.tc : Thread Cert.FwKernelIdeal.nD Cert.FwKernelIdeal.τ).loc Cert.FwKernelIdeal.main_arg5)) (m ((c.tc : Thread Cert.FwKernelIdeal.nD Cert.FwKernelIdeal.τ).loc Cert.FwKernelIdeal.main_arg6))).2.2.2 = (fun _ => 1#1)

def Pre_FwReferenceIdeal (m : (ℓ : Loc Cert.FwReferenceIdeal.nD Cert.FwReferenceIdeal.τ Cert.FwReferenceIdeal.sig) → Buf (Elt Ideal) ℓ) : Prop :=
  True

def Pre_FwReferenceIdeal_fw_finite [hPre_fw_finite : Cert.Pre_fw_finite.Facts] (m : (ℓ : Loc Cert.FwReferenceIdeal.nD Cert.FwReferenceIdeal.τ Cert.FwReferenceIdeal.sig) → Buf (Elt Ideal) ℓ) : Prop :=
  ∀ c : Dev Cert.FwReferenceIdeal.nD,
    (Cert.Pre_fw_finite.fn (F := Ideal) (m ((c.tc : Thread Cert.FwReferenceIdeal.nD Cert.FwReferenceIdeal.τ).loc Cert.FwReferenceIdeal.main_arg0)) (m ((c.tc : Thread Cert.FwReferenceIdeal.nD Cert.FwReferenceIdeal.τ).loc Cert.FwReferenceIdeal.main_arg1)) (m ((c.tc : Thread Cert.FwReferenceIdeal.nD Cert.FwReferenceIdeal.τ).loc Cert.FwReferenceIdeal.main_arg2)) (m ((c.tc : Thread Cert.FwReferenceIdeal.nD Cert.FwReferenceIdeal.τ).loc Cert.FwReferenceIdeal.main_arg3)) (m ((c.tc : Thread Cert.FwReferenceIdeal.nD Cert.FwReferenceIdeal.τ).loc Cert.FwReferenceIdeal.main_arg4)) (m ((c.tc : Thread Cert.FwReferenceIdeal.nD Cert.FwReferenceIdeal.τ).loc Cert.FwReferenceIdeal.main_arg5)) (m ((c.tc : Thread Cert.FwReferenceIdeal.nD Cert.FwReferenceIdeal.τ).loc Cert.FwReferenceIdeal.main_arg6))).1 = (fun _ => 1#1)
    ∧ (Cert.Pre_fw_finite.fn (F := Ideal) (m ((c.tc : Thread Cert.FwReferenceIdeal.nD Cert.FwReferenceIdeal.τ).loc Cert.FwReferenceIdeal.main_arg0)) (m ((c.tc : Thread Cert.FwReferenceIdeal.nD Cert.FwReferenceIdeal.τ).loc Cert.FwReferenceIdeal.main_arg1)) (m ((c.tc : Thread Cert.FwReferenceIdeal.nD Cert.FwReferenceIdeal.τ).loc Cert.FwReferenceIdeal.main_arg2)) (m ((c.tc : Thread Cert.FwReferenceIdeal.nD Cert.FwReferenceIdeal.τ).loc Cert.FwReferenceIdeal.main_arg3)) (m ((c.tc : Thread Cert.FwReferenceIdeal.nD Cert.FwReferenceIdeal.τ).loc Cert.FwReferenceIdeal.main_arg4)) (m ((c.tc : Thread Cert.FwReferenceIdeal.nD Cert.FwReferenceIdeal.τ).loc Cert.FwReferenceIdeal.main_arg5)) (m ((c.tc : Thread Cert.FwReferenceIdeal.nD Cert.FwReferenceIdeal.τ).loc Cert.FwReferenceIdeal.main_arg6))).2.1 = (fun _ => 1#1)
    ∧ (Cert.Pre_fw_finite.fn (F := Ideal) (m ((c.tc : Thread Cert.FwReferenceIdeal.nD Cert.FwReferenceIdeal.τ).loc Cert.FwReferenceIdeal.main_arg0)) (m ((c.tc : Thread Cert.FwReferenceIdeal.nD Cert.FwReferenceIdeal.τ).loc Cert.FwReferenceIdeal.main_arg1)) (m ((c.tc : Thread Cert.FwReferenceIdeal.nD Cert.FwReferenceIdeal.τ).loc Cert.FwReferenceIdeal.main_arg2)) (m ((c.tc : Thread Cert.FwReferenceIdeal.nD Cert.FwReferenceIdeal.τ).loc Cert.FwReferenceIdeal.main_arg3)) (m ((c.tc : Thread Cert.FwReferenceIdeal.nD Cert.FwReferenceIdeal.τ).loc Cert.FwReferenceIdeal.main_arg4)) (m ((c.tc : Thread Cert.FwReferenceIdeal.nD Cert.FwReferenceIdeal.τ).loc Cert.FwReferenceIdeal.main_arg5)) (m ((c.tc : Thread Cert.FwReferenceIdeal.nD Cert.FwReferenceIdeal.τ).loc Cert.FwReferenceIdeal.main_arg6))).2.2.1 = (fun _ => 1#1)
    ∧ (Cert.Pre_fw_finite.fn (F := Ideal) (m ((c.tc : Thread Cert.FwReferenceIdeal.nD Cert.FwReferenceIdeal.τ).loc Cert.FwReferenceIdeal.main_arg0)) (m ((c.tc : Thread Cert.FwReferenceIdeal.nD Cert.FwReferenceIdeal.τ).loc Cert.FwReferenceIdeal.main_arg1)) (m ((c.tc : Thread Cert.FwReferenceIdeal.nD Cert.FwReferenceIdeal.τ).loc Cert.FwReferenceIdeal.main_arg2)) (m ((c.tc : Thread Cert.FwReferenceIdeal.nD Cert.FwReferenceIdeal.τ).loc Cert.FwReferenceIdeal.main_arg3)) (m ((c.tc : Thread Cert.FwReferenceIdeal.nD Cert.FwReferenceIdeal.τ).loc Cert.FwReferenceIdeal.main_arg4)) (m ((c.tc : Thread Cert.FwReferenceIdeal.nD Cert.FwReferenceIdeal.τ).loc Cert.FwReferenceIdeal.main_arg5)) (m ((c.tc : Thread Cert.FwReferenceIdeal.nD Cert.FwReferenceIdeal.τ).loc Cert.FwReferenceIdeal.main_arg6))).2.2.2 = (fun _ => 1#1)

def quiescent_DxKernel [hDxKernel : Cert.DxKernel.Facts] : Prop :=
  ∀ (m : (ℓ : Loc Cert.DxKernel.nD Cert.DxKernel.τ Cert.DxKernel.sig) → Buf (Elt Bits) ℓ) (g : Dev Cert.DxKernel.nD → PrngReg), Pre_DxKernel m →
    θ_run (Cert.DxKernel.defs (F := Bits)) (onTc (τ := Cert.DxKernel.τ) (Cert.DxKernel.main (F := Bits))) ⟨m, fun _ => 0, g⟩ (fun r => (∀ c : Dev Cert.DxKernel.nD,
      r.2.mem ((c.tc : Thread Cert.DxKernel.nD Cert.DxKernel.τ).loc Cert.DxKernel.main_arg0) = m ((c.tc : Thread Cert.DxKernel.nD Cert.DxKernel.τ).loc Cert.DxKernel.main_arg0)
      ∧ r.2.mem ((c.tc : Thread Cert.DxKernel.nD Cert.DxKernel.τ).loc Cert.DxKernel.main_arg1) = m ((c.tc : Thread Cert.DxKernel.nD Cert.DxKernel.τ).loc Cert.DxKernel.main_arg1)
      ∧ r.2.mem ((c.tc : Thread Cert.DxKernel.nD Cert.DxKernel.τ).loc Cert.DxKernel.main_arg2) = m ((c.tc : Thread Cert.DxKernel.nD Cert.DxKernel.τ).loc Cert.DxKernel.main_arg2)
      ∧ r.2.mem ((c.tc : Thread Cert.DxKernel.nD Cert.DxKernel.τ).loc Cert.DxKernel.main_arg3) = m ((c.tc : Thread Cert.DxKernel.nD Cert.DxKernel.τ).loc Cert.DxKernel.main_arg3)
      ∧ r.2.mem ((c.tc : Thread Cert.DxKernel.nD Cert.DxKernel.τ).loc Cert.DxKernel.main_arg4) = m ((c.tc : Thread Cert.DxKernel.nD Cert.DxKernel.τ).loc Cert.DxKernel.main_arg4))
      ∧ r.2.sem = fun _ => 0)

def quiescent_DxKernelIdeal [hDxKernelIdeal : Cert.DxKernelIdeal.Facts] : Prop :=
  ∀ (m : (ℓ : Loc Cert.DxKernelIdeal.nD Cert.DxKernelIdeal.τ Cert.DxKernelIdeal.sig) → Buf (Elt Ideal) ℓ) (g : Dev Cert.DxKernelIdeal.nD → PrngReg), Pre_DxKernelIdeal m →
    θ_run (Cert.DxKernelIdeal.defs (F := Ideal)) (onTc (τ := Cert.DxKernelIdeal.τ) (Cert.DxKernelIdeal.main (F := Ideal))) ⟨m, fun _ => 0, g⟩ (fun r => (∀ c : Dev Cert.DxKernelIdeal.nD,
      r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
      ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1)
      ∧ r.2.mem ((c.tc : Thread Cert.DxKernelIdeal.nD Cert.DxKernelIdeal.τ).loc Cert.DxKernelIdeal.main_arg2) = m ((c.tc : Thread Cert.DxKernelIdeal.nD Cert.DxKernelIdeal.τ).loc Cert.DxKernelIdeal.main_arg2)
      ∧ r.2.mem ((c.tc : Thread Cert.DxKernelIdeal.nD Cert.DxKernelIdeal.τ).loc Cert.DxKernelIdeal.main_arg3) = m ((c.tc : Thread Cert.DxKernelIdeal.nD Cert.DxKernelIdeal.τ).loc Cert.DxKernelIdeal.main_arg3)
      ∧ r.2.mem ((c.tc : Thread Cert.DxKernelIdeal.nD Cert.DxKernelIdeal.τ).loc Cert.DxKernelIdeal.main_arg4) = m ((c.tc : Thread Cert.DxKernelIdeal.nD Cert.DxKernelIdeal.τ).loc Cert.DxKernelIdeal.main_arg4))
      ∧ r.2.sem = fun _ => 0)

def quiescent_DxKernelIdeal_pre_dx_finite [hDxKernelIdeal : Cert.DxKernelIdeal.Facts] [hPre_dx_finite : Cert.Pre_dx_finite.Facts] : Prop :=
  ∀ (m : (ℓ : Loc Cert.DxKernelIdeal.nD Cert.DxKernelIdeal.τ Cert.DxKernelIdeal.sig) → Buf (Elt Ideal) ℓ) (g : Dev Cert.DxKernelIdeal.nD → PrngReg), Pre_DxKernelIdeal_dx_finite m →
    θ_run (Cert.DxKernelIdeal.defs (F := Ideal)) (onTc (τ := Cert.DxKernelIdeal.τ) (Cert.DxKernelIdeal.main (F := Ideal))) ⟨m, fun _ => 0, g⟩ (fun r => (∀ c : Dev Cert.DxKernelIdeal.nD,
      r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
      ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1)
      ∧ r.2.mem ((c.tc : Thread Cert.DxKernelIdeal.nD Cert.DxKernelIdeal.τ).loc Cert.DxKernelIdeal.main_arg2) = m ((c.tc : Thread Cert.DxKernelIdeal.nD Cert.DxKernelIdeal.τ).loc Cert.DxKernelIdeal.main_arg2)
      ∧ r.2.mem ((c.tc : Thread Cert.DxKernelIdeal.nD Cert.DxKernelIdeal.τ).loc Cert.DxKernelIdeal.main_arg3) = m ((c.tc : Thread Cert.DxKernelIdeal.nD Cert.DxKernelIdeal.τ).loc Cert.DxKernelIdeal.main_arg3)
      ∧ r.2.mem ((c.tc : Thread Cert.DxKernelIdeal.nD Cert.DxKernelIdeal.τ).loc Cert.DxKernelIdeal.main_arg4) = m ((c.tc : Thread Cert.DxKernelIdeal.nD Cert.DxKernelIdeal.τ).loc Cert.DxKernelIdeal.main_arg4))
      ∧ r.2.sem = fun _ => 0)

def quiescent_DxReferenceIdeal [hDxReferenceIdeal : Cert.DxReferenceIdeal.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1)
      ∧ r.2.mem ((c.tc : Thread Cert.DxReferenceIdeal.nD Cert.DxReferenceIdeal.τ).loc Cert.DxReferenceIdeal.main_arg2) = m ((c.tc : Thread Cert.DxReferenceIdeal.nD Cert.DxReferenceIdeal.τ).loc Cert.DxReferenceIdeal.main_arg2)
      ∧ r.2.mem ((c.tc : Thread Cert.DxReferenceIdeal.nD Cert.DxReferenceIdeal.τ).loc Cert.DxReferenceIdeal.main_arg3) = m ((c.tc : Thread Cert.DxReferenceIdeal.nD Cert.DxReferenceIdeal.τ).loc Cert.DxReferenceIdeal.main_arg3)
      ∧ r.2.mem ((c.tc : Thread Cert.DxReferenceIdeal.nD Cert.DxReferenceIdeal.τ).loc Cert.DxReferenceIdeal.main_arg4) = m ((c.tc : Thread Cert.DxReferenceIdeal.nD Cert.DxReferenceIdeal.τ).loc Cert.DxReferenceIdeal.main_arg4))
      ∧ r.2.sem = fun _ => 0)

def quiescent_DxReferenceIdeal_pre_dx_finite [hDxReferenceIdeal : Cert.DxReferenceIdeal.Facts] [hPre_dx_finite : Cert.Pre_dx_finite.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal_dx_finite m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1)
      ∧ r.2.mem ((c.tc : Thread Cert.DxReferenceIdeal.nD Cert.DxReferenceIdeal.τ).loc Cert.DxReferenceIdeal.main_arg2) = m ((c.tc : Thread Cert.DxReferenceIdeal.nD Cert.DxReferenceIdeal.τ).loc Cert.DxReferenceIdeal.main_arg2)
      ∧ r.2.mem ((c.tc : Thread Cert.DxReferenceIdeal.nD Cert.DxReferenceIdeal.τ).loc Cert.DxReferenceIdeal.main_arg3) = m ((c.tc : Thread Cert.DxReferenceIdeal.nD Cert.DxReferenceIdeal.τ).loc Cert.DxReferenceIdeal.main_arg3)
      ∧ r.2.mem ((c.tc : Thread Cert.DxReferenceIdeal.nD Cert.DxReferenceIdeal.τ).loc Cert.DxReferenceIdeal.main_arg4) = m ((c.tc : Thread Cert.DxReferenceIdeal.nD Cert.DxReferenceIdeal.τ).loc Cert.DxReferenceIdeal.main_arg4))
      ∧ r.2.sem = fun _ => 0)

def quiescent_PjKernel [hPjKernel : Cert.PjKernel.Facts] : Prop :=
  ∀ (m : (ℓ : Loc Cert.PjKernel.nD Cert.PjKernel.τ Cert.PjKernel.sig) → Buf (Elt Bits) ℓ) (g : Dev Cert.PjKernel.nD → PrngReg), Pre_PjKernel m →
    θ_run (Cert.PjKernel.defs (F := Bits)) (onTc (τ := Cert.PjKernel.τ) (Cert.PjKernel.main (F := Bits))) ⟨m, fun _ => 0, g⟩ (fun r => (∀ c : Dev Cert.PjKernel.nD,
      r.2.mem ((c.tc : Thread Cert.PjKernel.nD Cert.PjKernel.τ).loc Cert.PjKernel.main_arg0) = m ((c.tc : Thread Cert.PjKernel.nD Cert.PjKernel.τ).loc Cert.PjKernel.main_arg0)
      ∧ r.2.mem ((c.tc : Thread Cert.PjKernel.nD Cert.PjKernel.τ).loc Cert.PjKernel.main_arg1) = m ((c.tc : Thread Cert.PjKernel.nD Cert.PjKernel.τ).loc Cert.PjKernel.main_arg1)
      ∧ r.2.mem ((c.tc : Thread Cert.PjKernel.nD Cert.PjKernel.τ).loc Cert.PjKernel.main_arg2) = m ((c.tc : Thread Cert.PjKernel.nD Cert.PjKernel.τ).loc Cert.PjKernel.main_arg2)
      ∧ r.2.mem ((c.tc : Thread Cert.PjKernel.nD Cert.PjKernel.τ).loc Cert.PjKernel.main_arg3) = m ((c.tc : Thread Cert.PjKernel.nD Cert.PjKernel.τ).loc Cert.PjKernel.main_arg3)
      ∧ r.2.mem ((c.tc : Thread Cert.PjKernel.nD Cert.PjKernel.τ).loc Cert.PjKernel.main_arg4) = m ((c.tc : Thread Cert.PjKernel.nD Cert.PjKernel.τ).loc Cert.PjKernel.main_arg4))
      ∧ r.2.sem = fun _ => 0)

def quiescent_PjKernelIdeal [hPjKernelIdeal : Cert.PjKernelIdeal.Facts] : Prop :=
  ∀ (m : (ℓ : Loc Cert.PjKernelIdeal.nD Cert.PjKernelIdeal.τ Cert.PjKernelIdeal.sig) → Buf (Elt Ideal) ℓ) (g : Dev Cert.PjKernelIdeal.nD → PrngReg), Pre_PjKernelIdeal m →
    θ_run (Cert.PjKernelIdeal.defs (F := Ideal)) (onTc (τ := Cert.PjKernelIdeal.τ) (Cert.PjKernelIdeal.main (F := Ideal))) ⟨m, fun _ => 0, g⟩ (fun r => (∀ c : Dev Cert.PjKernelIdeal.nD,
      r.2.mem ((c.tc : Thread Cert.PjKernelIdeal.nD Cert.PjKernelIdeal.τ).loc Cert.PjKernelIdeal.main_arg0) = m ((c.tc : Thread Cert.PjKernelIdeal.nD Cert.PjKernelIdeal.τ).loc Cert.PjKernelIdeal.main_arg0)
      ∧ r.2.mem ((c.tc : Thread Cert.PjKernelIdeal.nD Cert.PjKernelIdeal.τ).loc Cert.PjKernelIdeal.main_arg1) = m ((c.tc : Thread Cert.PjKernelIdeal.nD Cert.PjKernelIdeal.τ).loc Cert.PjKernelIdeal.main_arg1)
      ∧ r.2.mem ((c.tc : Thread Cert.PjKernelIdeal.nD Cert.PjKernelIdeal.τ).loc Cert.PjKernelIdeal.main_arg2) = m ((c.tc : Thread Cert.PjKernelIdeal.nD Cert.PjKernelIdeal.τ).loc Cert.PjKernelIdeal.main_arg2)
      ∧ r.2.mem ((c.tc : Thread Cert.PjKernelIdeal.nD Cert.PjKernelIdeal.τ).loc Cert.PjKernelIdeal.main_arg3) = m ((c.tc : Thread Cert.PjKernelIdeal.nD Cert.PjKernelIdeal.τ).loc Cert.PjKernelIdeal.main_arg3)
      ∧ r.2.mem ((c.tc : Thread Cert.PjKernelIdeal.nD Cert.PjKernelIdeal.τ).loc Cert.PjKernelIdeal.main_arg4) = m ((c.tc : Thread Cert.PjKernelIdeal.nD Cert.PjKernelIdeal.τ).loc Cert.PjKernelIdeal.main_arg4))
      ∧ r.2.sem = fun _ => 0)

def quiescent_PjKernelIdeal_pre_pj_finite [hPjKernelIdeal : Cert.PjKernelIdeal.Facts] [hPre_pj_finite : Cert.Pre_pj_finite.Facts] : Prop :=
  ∀ (m : (ℓ : Loc Cert.PjKernelIdeal.nD Cert.PjKernelIdeal.τ Cert.PjKernelIdeal.sig) → Buf (Elt Ideal) ℓ) (g : Dev Cert.PjKernelIdeal.nD → PrngReg), Pre_PjKernelIdeal_pj_finite m →
    θ_run (Cert.PjKernelIdeal.defs (F := Ideal)) (onTc (τ := Cert.PjKernelIdeal.τ) (Cert.PjKernelIdeal.main (F := Ideal))) ⟨m, fun _ => 0, g⟩ (fun r => (∀ c : Dev Cert.PjKernelIdeal.nD,
      r.2.mem ((c.tc : Thread Cert.PjKernelIdeal.nD Cert.PjKernelIdeal.τ).loc Cert.PjKernelIdeal.main_arg0) = m ((c.tc : Thread Cert.PjKernelIdeal.nD Cert.PjKernelIdeal.τ).loc Cert.PjKernelIdeal.main_arg0)
      ∧ r.2.mem ((c.tc : Thread Cert.PjKernelIdeal.nD Cert.PjKernelIdeal.τ).loc Cert.PjKernelIdeal.main_arg1) = m ((c.tc : Thread Cert.PjKernelIdeal.nD Cert.PjKernelIdeal.τ).loc Cert.PjKernelIdeal.main_arg1)
      ∧ r.2.mem ((c.tc : Thread Cert.PjKernelIdeal.nD Cert.PjKernelIdeal.τ).loc Cert.PjKernelIdeal.main_arg2) = m ((c.tc : Thread Cert.PjKernelIdeal.nD Cert.PjKernelIdeal.τ).loc Cert.PjKernelIdeal.main_arg2)
      ∧ r.2.mem ((c.tc : Thread Cert.PjKernelIdeal.nD Cert.PjKernelIdeal.τ).loc Cert.PjKernelIdeal.main_arg3) = m ((c.tc : Thread Cert.PjKernelIdeal.nD Cert.PjKernelIdeal.τ).loc Cert.PjKernelIdeal.main_arg3)
      ∧ r.2.mem ((c.tc : Thread Cert.PjKernelIdeal.nD Cert.PjKernelIdeal.τ).loc Cert.PjKernelIdeal.main_arg4) = m ((c.tc : Thread Cert.PjKernelIdeal.nD Cert.PjKernelIdeal.τ).loc Cert.PjKernelIdeal.main_arg4))
      ∧ r.2.sem = fun _ => 0)

def quiescent_PjReferenceIdeal [hPjReferenceIdeal : Cert.PjReferenceIdeal.Facts] : Prop :=
  ∀ (m : (ℓ : Loc Cert.PjReferenceIdeal.nD Cert.PjReferenceIdeal.τ Cert.PjReferenceIdeal.sig) → Buf (Elt Ideal) ℓ) (g : Dev Cert.PjReferenceIdeal.nD → PrngReg), Pre_PjReferenceIdeal m →
    θ_run (Cert.PjReferenceIdeal.defs (F := Ideal)) (onTc (τ := Cert.PjReferenceIdeal.τ) (Cert.PjReferenceIdeal.main (F := Ideal))) ⟨m, fun _ => 0, g⟩ (fun r => (∀ c : Dev Cert.PjReferenceIdeal.nD,
      r.2.mem ((c.tc : Thread Cert.PjReferenceIdeal.nD Cert.PjReferenceIdeal.τ).loc Cert.PjReferenceIdeal.main_arg0) = m ((c.tc : Thread Cert.PjReferenceIdeal.nD Cert.PjReferenceIdeal.τ).loc Cert.PjReferenceIdeal.main_arg0)
      ∧ r.2.mem ((c.tc : Thread Cert.PjReferenceIdeal.nD Cert.PjReferenceIdeal.τ).loc Cert.PjReferenceIdeal.main_arg1) = m ((c.tc : Thread Cert.PjReferenceIdeal.nD Cert.PjReferenceIdeal.τ).loc Cert.PjReferenceIdeal.main_arg1)
      ∧ r.2.mem ((c.tc : Thread Cert.PjReferenceIdeal.nD Cert.PjReferenceIdeal.τ).loc Cert.PjReferenceIdeal.main_arg2) = m ((c.tc : Thread Cert.PjReferenceIdeal.nD Cert.PjReferenceIdeal.τ).loc Cert.PjReferenceIdeal.main_arg2)
      ∧ r.2.mem ((c.tc : Thread Cert.PjReferenceIdeal.nD Cert.PjReferenceIdeal.τ).loc Cert.PjReferenceIdeal.main_arg3) = m ((c.tc : Thread Cert.PjReferenceIdeal.nD Cert.PjReferenceIdeal.τ).loc Cert.PjReferenceIdeal.main_arg3)
      ∧ r.2.mem ((c.tc : Thread Cert.PjReferenceIdeal.nD Cert.PjReferenceIdeal.τ).loc Cert.PjReferenceIdeal.main_arg4) = m ((c.tc : Thread Cert.PjReferenceIdeal.nD Cert.PjReferenceIdeal.τ).loc Cert.PjReferenceIdeal.main_arg4))
      ∧ r.2.sem = fun _ => 0)

def quiescent_PjReferenceIdeal_pre_pj_finite [hPjReferenceIdeal : Cert.PjReferenceIdeal.Facts] [hPre_pj_finite : Cert.Pre_pj_finite.Facts] : Prop :=
  ∀ (m : (ℓ : Loc Cert.PjReferenceIdeal.nD Cert.PjReferenceIdeal.τ Cert.PjReferenceIdeal.sig) → Buf (Elt Ideal) ℓ) (g : Dev Cert.PjReferenceIdeal.nD → PrngReg), Pre_PjReferenceIdeal_pj_finite m →
    θ_run (Cert.PjReferenceIdeal.defs (F := Ideal)) (onTc (τ := Cert.PjReferenceIdeal.τ) (Cert.PjReferenceIdeal.main (F := Ideal))) ⟨m, fun _ => 0, g⟩ (fun r => (∀ c : Dev Cert.PjReferenceIdeal.nD,
      r.2.mem ((c.tc : Thread Cert.PjReferenceIdeal.nD Cert.PjReferenceIdeal.τ).loc Cert.PjReferenceIdeal.main_arg0) = m ((c.tc : Thread Cert.PjReferenceIdeal.nD Cert.PjReferenceIdeal.τ).loc Cert.PjReferenceIdeal.main_arg0)
      ∧ r.2.mem ((c.tc : Thread Cert.PjReferenceIdeal.nD Cert.PjReferenceIdeal.τ).loc Cert.PjReferenceIdeal.main_arg1) = m ((c.tc : Thread Cert.PjReferenceIdeal.nD Cert.PjReferenceIdeal.τ).loc Cert.PjReferenceIdeal.main_arg1)
      ∧ r.2.mem ((c.tc : Thread Cert.PjReferenceIdeal.nD Cert.PjReferenceIdeal.τ).loc Cert.PjReferenceIdeal.main_arg2) = m ((c.tc : Thread Cert.PjReferenceIdeal.nD Cert.PjReferenceIdeal.τ).loc Cert.PjReferenceIdeal.main_arg2)
      ∧ r.2.mem ((c.tc : Thread Cert.PjReferenceIdeal.nD Cert.PjReferenceIdeal.τ).loc Cert.PjReferenceIdeal.main_arg3) = m ((c.tc : Thread Cert.PjReferenceIdeal.nD Cert.PjReferenceIdeal.τ).loc Cert.PjReferenceIdeal.main_arg3)
      ∧ r.2.mem ((c.tc : Thread Cert.PjReferenceIdeal.nD Cert.PjReferenceIdeal.τ).loc Cert.PjReferenceIdeal.main_arg4) = m ((c.tc : Thread Cert.PjReferenceIdeal.nD Cert.PjReferenceIdeal.τ).loc Cert.PjReferenceIdeal.main_arg4))
      ∧ r.2.sem = fun _ => 0)

def quiescent_DwKernel [hDwKernel : Cert.DwKernel.Facts] : Prop :=
  ∀ (m : (ℓ : Loc Cert.DwKernel.nD Cert.DwKernel.τ Cert.DwKernel.sig) → Buf (Elt Bits) ℓ) (g : Dev Cert.DwKernel.nD → PrngReg), Pre_DwKernel m →
    θ_run (Cert.DwKernel.defs (F := Bits)) (onTc (τ := Cert.DwKernel.τ) (Cert.DwKernel.main (F := Bits))) ⟨m, fun _ => 0, g⟩ (fun r => (∀ c : Dev Cert.DwKernel.nD,
      r.2.mem ((c.tc : Thread Cert.DwKernel.nD Cert.DwKernel.τ).loc Cert.DwKernel.main_arg0) = m ((c.tc : Thread Cert.DwKernel.nD Cert.DwKernel.τ).loc Cert.DwKernel.main_arg0)
      ∧ r.2.mem ((c.tc : Thread Cert.DwKernel.nD Cert.DwKernel.τ).loc Cert.DwKernel.main_arg1) = m ((c.tc : Thread Cert.DwKernel.nD Cert.DwKernel.τ).loc Cert.DwKernel.main_arg1)
      ∧ r.2.mem ((c.tc : Thread Cert.DwKernel.nD Cert.DwKernel.τ).loc Cert.DwKernel.main_arg2) = m ((c.tc : Thread Cert.DwKernel.nD Cert.DwKernel.τ).loc Cert.DwKernel.main_arg2))
      ∧ r.2.sem = fun _ => 0)

def quiescent_DwKernelIdeal [hDwKernelIdeal : Cert.DwKernelIdeal.Facts] : Prop :=
  ∀ (m : (ℓ : Loc Cert.DwKernelIdeal.nD Cert.DwKernelIdeal.τ Cert.DwKernelIdeal.sig) → Buf (Elt Ideal) ℓ) (g : Dev Cert.DwKernelIdeal.nD → PrngReg), Pre_DwKernelIdeal m →
    θ_run (Cert.DwKernelIdeal.defs (F := Ideal)) (onTc (τ := Cert.DwKernelIdeal.τ) (Cert.DwKernelIdeal.main (F := Ideal))) ⟨m, fun _ => 0, g⟩ (fun r => (∀ c : Dev Cert.DwKernelIdeal.nD,
      r.2.mem ((c.tc : Thread Cert.DwKernelIdeal.nD Cert.DwKernelIdeal.τ).loc Cert.DwKernelIdeal.main_arg0) = m ((c.tc : Thread Cert.DwKernelIdeal.nD Cert.DwKernelIdeal.τ).loc Cert.DwKernelIdeal.main_arg0)
      ∧ r.2.mem ((c.tc : Thread Cert.DwKernelIdeal.nD Cert.DwKernelIdeal.τ).loc Cert.DwKernelIdeal.main_arg1) = m ((c.tc : Thread Cert.DwKernelIdeal.nD Cert.DwKernelIdeal.τ).loc Cert.DwKernelIdeal.main_arg1)
      ∧ r.2.mem ((c.tc : Thread Cert.DwKernelIdeal.nD Cert.DwKernelIdeal.τ).loc Cert.DwKernelIdeal.main_arg2) = m ((c.tc : Thread Cert.DwKernelIdeal.nD Cert.DwKernelIdeal.τ).loc Cert.DwKernelIdeal.main_arg2))
      ∧ r.2.sem = fun _ => 0)

def quiescent_DwReferenceIdeal [hDwReferenceIdeal : Cert.DwReferenceIdeal.Facts] : Prop :=
  ∀ (m : (ℓ : Loc Cert.DwReferenceIdeal.nD Cert.DwReferenceIdeal.τ Cert.DwReferenceIdeal.sig) → Buf (Elt Ideal) ℓ) (g : Dev Cert.DwReferenceIdeal.nD → PrngReg), Pre_DwReferenceIdeal m →
    θ_run (Cert.DwReferenceIdeal.defs (F := Ideal)) (onTc (τ := Cert.DwReferenceIdeal.τ) (Cert.DwReferenceIdeal.main (F := Ideal))) ⟨m, fun _ => 0, g⟩ (fun r => (∀ c : Dev Cert.DwReferenceIdeal.nD,
      r.2.mem ((c.tc : Thread Cert.DwReferenceIdeal.nD Cert.DwReferenceIdeal.τ).loc Cert.DwReferenceIdeal.main_arg0) = m ((c.tc : Thread Cert.DwReferenceIdeal.nD Cert.DwReferenceIdeal.τ).loc Cert.DwReferenceIdeal.main_arg0)
      ∧ r.2.mem ((c.tc : Thread Cert.DwReferenceIdeal.nD Cert.DwReferenceIdeal.τ).loc Cert.DwReferenceIdeal.main_arg1) = m ((c.tc : Thread Cert.DwReferenceIdeal.nD Cert.DwReferenceIdeal.τ).loc Cert.DwReferenceIdeal.main_arg1)
      ∧ r.2.mem ((c.tc : Thread Cert.DwReferenceIdeal.nD Cert.DwReferenceIdeal.τ).loc Cert.DwReferenceIdeal.main_arg2) = m ((c.tc : Thread Cert.DwReferenceIdeal.nD Cert.DwReferenceIdeal.τ).loc Cert.DwReferenceIdeal.main_arg2))
      ∧ r.2.sem = fun _ => 0)

def quiescent_MxKernel [hMxKernel : Cert.MxKernel.Facts] : Prop :=
  ∀ (m : (ℓ : Loc Cert.MxKernel.nD Cert.MxKernel.τ Cert.MxKernel.sig) → Buf (Elt Bits) ℓ) (g : Dev Cert.MxKernel.nD → PrngReg), Pre_MxKernel m →
    θ_run (Cert.MxKernel.defs (F := Bits)) (onTc (τ := Cert.MxKernel.τ) (Cert.MxKernel.main (F := Bits))) ⟨m, fun _ => 0, g⟩ (fun r => (∀ c : Dev Cert.MxKernel.nD,
      r.2.mem ((c.tc : Thread Cert.MxKernel.nD Cert.MxKernel.τ).loc Cert.MxKernel.main_arg0) = m ((c.tc : Thread Cert.MxKernel.nD Cert.MxKernel.τ).loc Cert.MxKernel.main_arg0)
      ∧ r.2.mem ((c.tc : Thread Cert.MxKernel.nD Cert.MxKernel.τ).loc Cert.MxKernel.main_arg1) = m ((c.tc : Thread Cert.MxKernel.nD Cert.MxKernel.τ).loc Cert.MxKernel.main_arg1)
      ∧ r.2.mem ((c.tc : Thread Cert.MxKernel.nD Cert.MxKernel.τ).loc Cert.MxKernel.main_arg2) = m ((c.tc : Thread Cert.MxKernel.nD Cert.MxKernel.τ).loc Cert.MxKernel.main_arg2)
      ∧ r.2.mem ((c.tc : Thread Cert.MxKernel.nD Cert.MxKernel.τ).loc Cert.MxKernel.main_arg3) = m ((c.tc : Thread Cert.MxKernel.nD Cert.MxKernel.τ).loc Cert.MxKernel.main_arg3)
      ∧ r.2.mem ((c.tc : Thread Cert.MxKernel.nD Cert.MxKernel.τ).loc Cert.MxKernel.main_arg4) = m ((c.tc : Thread Cert.MxKernel.nD Cert.MxKernel.τ).loc Cert.MxKernel.main_arg4)
      ∧ r.2.mem ((c.tc : Thread Cert.MxKernel.nD Cert.MxKernel.τ).loc Cert.MxKernel.main_arg5) = m ((c.tc : Thread Cert.MxKernel.nD Cert.MxKernel.τ).loc Cert.MxKernel.main_arg5)
      ∧ r.2.mem ((c.tc : Thread Cert.MxKernel.nD Cert.MxKernel.τ).loc Cert.MxKernel.main_arg6) = m ((c.tc : Thread Cert.MxKernel.nD Cert.MxKernel.τ).loc Cert.MxKernel.main_arg6))
      ∧ r.2.sem = fun _ => 0)

def quiescent_MxKernelIdeal [hMxKernelIdeal : Cert.MxKernelIdeal.Facts] : Prop :=
  ∀ (m : (ℓ : Loc Cert.MxKernelIdeal.nD Cert.MxKernelIdeal.τ Cert.MxKernelIdeal.sig) → Buf (Elt Ideal) ℓ) (g : Dev Cert.MxKernelIdeal.nD → PrngReg), Pre_MxKernelIdeal m →
    θ_run (Cert.MxKernelIdeal.defs (F := Ideal)) (onTc (τ := Cert.MxKernelIdeal.τ) (Cert.MxKernelIdeal.main (F := Ideal))) ⟨m, fun _ => 0, g⟩ (fun r => (∀ c : Dev Cert.MxKernelIdeal.nD,
      r.2.mem ((c.tc : Thread Cert.MxKernelIdeal.nD Cert.MxKernelIdeal.τ).loc Cert.MxKernelIdeal.main_arg0) = m ((c.tc : Thread Cert.MxKernelIdeal.nD Cert.MxKernelIdeal.τ).loc Cert.MxKernelIdeal.main_arg0)
      ∧ r.2.mem ((c.tc : Thread Cert.MxKernelIdeal.nD Cert.MxKernelIdeal.τ).loc Cert.MxKernelIdeal.main_arg1) = m ((c.tc : Thread Cert.MxKernelIdeal.nD Cert.MxKernelIdeal.τ).loc Cert.MxKernelIdeal.main_arg1)
      ∧ r.2.mem ((c.tc : Thread Cert.MxKernelIdeal.nD Cert.MxKernelIdeal.τ).loc Cert.MxKernelIdeal.main_arg2) = m ((c.tc : Thread Cert.MxKernelIdeal.nD Cert.MxKernelIdeal.τ).loc Cert.MxKernelIdeal.main_arg2)
      ∧ r.2.mem ((c.tc : Thread Cert.MxKernelIdeal.nD Cert.MxKernelIdeal.τ).loc Cert.MxKernelIdeal.main_arg3) = m ((c.tc : Thread Cert.MxKernelIdeal.nD Cert.MxKernelIdeal.τ).loc Cert.MxKernelIdeal.main_arg3)
      ∧ r.2.mem ((c.tc : Thread Cert.MxKernelIdeal.nD Cert.MxKernelIdeal.τ).loc Cert.MxKernelIdeal.main_arg4) = m ((c.tc : Thread Cert.MxKernelIdeal.nD Cert.MxKernelIdeal.τ).loc Cert.MxKernelIdeal.main_arg4)
      ∧ r.2.mem ((c.tc : Thread Cert.MxKernelIdeal.nD Cert.MxKernelIdeal.τ).loc Cert.MxKernelIdeal.main_arg5) = m ((c.tc : Thread Cert.MxKernelIdeal.nD Cert.MxKernelIdeal.τ).loc Cert.MxKernelIdeal.main_arg5)
      ∧ r.2.mem ((c.tc : Thread Cert.MxKernelIdeal.nD Cert.MxKernelIdeal.τ).loc Cert.MxKernelIdeal.main_arg6) = m ((c.tc : Thread Cert.MxKernelIdeal.nD Cert.MxKernelIdeal.τ).loc Cert.MxKernelIdeal.main_arg6))
      ∧ r.2.sem = fun _ => 0)

def quiescent_MxKernelIdeal_pre_mx_finite [hMxKernelIdeal : Cert.MxKernelIdeal.Facts] [hPre_mx_finite : Cert.Pre_mx_finite.Facts] : Prop :=
  ∀ (m : (ℓ : Loc Cert.MxKernelIdeal.nD Cert.MxKernelIdeal.τ Cert.MxKernelIdeal.sig) → Buf (Elt Ideal) ℓ) (g : Dev Cert.MxKernelIdeal.nD → PrngReg), Pre_MxKernelIdeal_mx_finite m →
    θ_run (Cert.MxKernelIdeal.defs (F := Ideal)) (onTc (τ := Cert.MxKernelIdeal.τ) (Cert.MxKernelIdeal.main (F := Ideal))) ⟨m, fun _ => 0, g⟩ (fun r => (∀ c : Dev Cert.MxKernelIdeal.nD,
      r.2.mem ((c.tc : Thread Cert.MxKernelIdeal.nD Cert.MxKernelIdeal.τ).loc Cert.MxKernelIdeal.main_arg0) = m ((c.tc : Thread Cert.MxKernelIdeal.nD Cert.MxKernelIdeal.τ).loc Cert.MxKernelIdeal.main_arg0)
      ∧ r.2.mem ((c.tc : Thread Cert.MxKernelIdeal.nD Cert.MxKernelIdeal.τ).loc Cert.MxKernelIdeal.main_arg1) = m ((c.tc : Thread Cert.MxKernelIdeal.nD Cert.MxKernelIdeal.τ).loc Cert.MxKernelIdeal.main_arg1)
      ∧ r.2.mem ((c.tc : Thread Cert.MxKernelIdeal.nD Cert.MxKernelIdeal.τ).loc Cert.MxKernelIdeal.main_arg2) = m ((c.tc : Thread Cert.MxKernelIdeal.nD Cert.MxKernelIdeal.τ).loc Cert.MxKernelIdeal.main_arg2)
      ∧ r.2.mem ((c.tc : Thread Cert.MxKernelIdeal.nD Cert.MxKernelIdeal.τ).loc Cert.MxKernelIdeal.main_arg3) = m ((c.tc : Thread Cert.MxKernelIdeal.nD Cert.MxKernelIdeal.τ).loc Cert.MxKernelIdeal.main_arg3)
      ∧ r.2.mem ((c.tc : Thread Cert.MxKernelIdeal.nD Cert.MxKernelIdeal.τ).loc Cert.MxKernelIdeal.main_arg4) = m ((c.tc : Thread Cert.MxKernelIdeal.nD Cert.MxKernelIdeal.τ).loc Cert.MxKernelIdeal.main_arg4)
      ∧ r.2.mem ((c.tc : Thread Cert.MxKernelIdeal.nD Cert.MxKernelIdeal.τ).loc Cert.MxKernelIdeal.main_arg5) = m ((c.tc : Thread Cert.MxKernelIdeal.nD Cert.MxKernelIdeal.τ).loc Cert.MxKernelIdeal.main_arg5)
      ∧ r.2.mem ((c.tc : Thread Cert.MxKernelIdeal.nD Cert.MxKernelIdeal.τ).loc Cert.MxKernelIdeal.main_arg6) = m ((c.tc : Thread Cert.MxKernelIdeal.nD Cert.MxKernelIdeal.τ).loc Cert.MxKernelIdeal.main_arg6))
      ∧ r.2.sem = fun _ => 0)

def quiescent_MxReferenceIdeal [hMxReferenceIdeal : Cert.MxReferenceIdeal.Facts] : Prop :=
  ∀ (m : (ℓ : Loc Cert.MxReferenceIdeal.nD Cert.MxReferenceIdeal.τ Cert.MxReferenceIdeal.sig) → Buf (Elt Ideal) ℓ) (g : Dev Cert.MxReferenceIdeal.nD → PrngReg), Pre_MxReferenceIdeal m →
    θ_run (Cert.MxReferenceIdeal.defs (F := Ideal)) (onTc (τ := Cert.MxReferenceIdeal.τ) (Cert.MxReferenceIdeal.main (F := Ideal))) ⟨m, fun _ => 0, g⟩ (fun r => (∀ c : Dev Cert.MxReferenceIdeal.nD,
      r.2.mem ((c.tc : Thread Cert.MxReferenceIdeal.nD Cert.MxReferenceIdeal.τ).loc Cert.MxReferenceIdeal.main_arg0) = m ((c.tc : Thread Cert.MxReferenceIdeal.nD Cert.MxReferenceIdeal.τ).loc Cert.MxReferenceIdeal.main_arg0)
      ∧ r.2.mem ((c.tc : Thread Cert.MxReferenceIdeal.nD Cert.MxReferenceIdeal.τ).loc Cert.MxReferenceIdeal.main_arg1) = m ((c.tc : Thread Cert.MxReferenceIdeal.nD Cert.MxReferenceIdeal.τ).loc Cert.MxReferenceIdeal.main_arg1)
      ∧ r.2.mem ((c.tc : Thread Cert.MxReferenceIdeal.nD Cert.MxReferenceIdeal.τ).loc Cert.MxReferenceIdeal.main_arg2) = m ((c.tc : Thread Cert.MxReferenceIdeal.nD Cert.MxReferenceIdeal.τ).loc Cert.MxReferenceIdeal.main_arg2)
      ∧ r.2.mem ((c.tc : Thread Cert.MxReferenceIdeal.nD Cert.MxReferenceIdeal.τ).loc Cert.MxReferenceIdeal.main_arg3) = m ((c.tc : Thread Cert.MxReferenceIdeal.nD Cert.MxReferenceIdeal.τ).loc Cert.MxReferenceIdeal.main_arg3)
      ∧ r.2.mem ((c.tc : Thread Cert.MxReferenceIdeal.nD Cert.MxReferenceIdeal.τ).loc Cert.MxReferenceIdeal.main_arg4) = m ((c.tc : Thread Cert.MxReferenceIdeal.nD Cert.MxReferenceIdeal.τ).loc Cert.MxReferenceIdeal.main_arg4)
      ∧ r.2.mem ((c.tc : Thread Cert.MxReferenceIdeal.nD Cert.MxReferenceIdeal.τ).loc Cert.MxReferenceIdeal.main_arg5) = m ((c.tc : Thread Cert.MxReferenceIdeal.nD Cert.MxReferenceIdeal.τ).loc Cert.MxReferenceIdeal.main_arg5)
      ∧ r.2.mem ((c.tc : Thread Cert.MxReferenceIdeal.nD Cert.MxReferenceIdeal.τ).loc Cert.MxReferenceIdeal.main_arg6) = m ((c.tc : Thread Cert.MxReferenceIdeal.nD Cert.MxReferenceIdeal.τ).loc Cert.MxReferenceIdeal.main_arg6))
      ∧ r.2.sem = fun _ => 0)

def quiescent_MxReferenceIdeal_pre_mx_finite [hMxReferenceIdeal : Cert.MxReferenceIdeal.Facts] [hPre_mx_finite : Cert.Pre_mx_finite.Facts] : Prop :=
  ∀ (m : (ℓ : Loc Cert.MxReferenceIdeal.nD Cert.MxReferenceIdeal.τ Cert.MxReferenceIdeal.sig) → Buf (Elt Ideal) ℓ) (g : Dev Cert.MxReferenceIdeal.nD → PrngReg), Pre_MxReferenceIdeal_mx_finite m →
    θ_run (Cert.MxReferenceIdeal.defs (F := Ideal)) (onTc (τ := Cert.MxReferenceIdeal.τ) (Cert.MxReferenceIdeal.main (F := Ideal))) ⟨m, fun _ => 0, g⟩ (fun r => (∀ c : Dev Cert.MxReferenceIdeal.nD,
      r.2.mem ((c.tc : Thread Cert.MxReferenceIdeal.nD Cert.MxReferenceIdeal.τ).loc Cert.MxReferenceIdeal.main_arg0) = m ((c.tc : Thread Cert.MxReferenceIdeal.nD Cert.MxReferenceIdeal.τ).loc Cert.MxReferenceIdeal.main_arg0)
      ∧ r.2.mem ((c.tc : Thread Cert.MxReferenceIdeal.nD Cert.MxReferenceIdeal.τ).loc Cert.MxReferenceIdeal.main_arg1) = m ((c.tc : Thread Cert.MxReferenceIdeal.nD Cert.MxReferenceIdeal.τ).loc Cert.MxReferenceIdeal.main_arg1)
      ∧ r.2.mem ((c.tc : Thread Cert.MxReferenceIdeal.nD Cert.MxReferenceIdeal.τ).loc Cert.MxReferenceIdeal.main_arg2) = m ((c.tc : Thread Cert.MxReferenceIdeal.nD Cert.MxReferenceIdeal.τ).loc Cert.MxReferenceIdeal.main_arg2)
      ∧ r.2.mem ((c.tc : Thread Cert.MxReferenceIdeal.nD Cert.MxReferenceIdeal.τ).loc Cert.MxReferenceIdeal.main_arg3) = m ((c.tc : Thread Cert.MxReferenceIdeal.nD Cert.MxReferenceIdeal.τ).loc Cert.MxReferenceIdeal.main_arg3)
      ∧ r.2.mem ((c.tc : Thread Cert.MxReferenceIdeal.nD Cert.MxReferenceIdeal.τ).loc Cert.MxReferenceIdeal.main_arg4) = m ((c.tc : Thread Cert.MxReferenceIdeal.nD Cert.MxReferenceIdeal.τ).loc Cert.MxReferenceIdeal.main_arg4)
      ∧ r.2.mem ((c.tc : Thread Cert.MxReferenceIdeal.nD Cert.MxReferenceIdeal.τ).loc Cert.MxReferenceIdeal.main_arg5) = m ((c.tc : Thread Cert.MxReferenceIdeal.nD Cert.MxReferenceIdeal.τ).loc Cert.MxReferenceIdeal.main_arg5)
      ∧ r.2.mem ((c.tc : Thread Cert.MxReferenceIdeal.nD Cert.MxReferenceIdeal.τ).loc Cert.MxReferenceIdeal.main_arg6) = m ((c.tc : Thread Cert.MxReferenceIdeal.nD Cert.MxReferenceIdeal.τ).loc Cert.MxReferenceIdeal.main_arg6))
      ∧ r.2.sem = fun _ => 0)

def quiescent_NpKernel [hNpKernel : Cert.NpKernel.Facts] : Prop :=
  ∀ (m : (ℓ : Loc Cert.NpKernel.nD Cert.NpKernel.τ Cert.NpKernel.sig) → Buf (Elt Bits) ℓ) (g : Dev Cert.NpKernel.nD → PrngReg), Pre_NpKernel m →
    θ_run (Cert.NpKernel.defs (F := Bits)) (onTc (τ := Cert.NpKernel.τ) (Cert.NpKernel.main (F := Bits))) ⟨m, fun _ => 0, g⟩ (fun r => (∀ c : Dev Cert.NpKernel.nD,
      r.2.mem ((c.tc : Thread Cert.NpKernel.nD Cert.NpKernel.τ).loc Cert.NpKernel.main_arg0) = m ((c.tc : Thread Cert.NpKernel.nD Cert.NpKernel.τ).loc Cert.NpKernel.main_arg0)
      ∧ r.2.mem ((c.tc : Thread Cert.NpKernel.nD Cert.NpKernel.τ).loc Cert.NpKernel.main_arg1) = m ((c.tc : Thread Cert.NpKernel.nD Cert.NpKernel.τ).loc Cert.NpKernel.main_arg1)
      ∧ r.2.mem ((c.tc : Thread Cert.NpKernel.nD Cert.NpKernel.τ).loc Cert.NpKernel.main_arg2) = m ((c.tc : Thread Cert.NpKernel.nD Cert.NpKernel.τ).loc Cert.NpKernel.main_arg2))
      ∧ r.2.sem = fun _ => 0)

def quiescent_NpKernelIdeal [hNpKernelIdeal : Cert.NpKernelIdeal.Facts] : Prop :=
  ∀ (m : (ℓ : Loc Cert.NpKernelIdeal.nD Cert.NpKernelIdeal.τ Cert.NpKernelIdeal.sig) → Buf (Elt Ideal) ℓ) (g : Dev Cert.NpKernelIdeal.nD → PrngReg), Pre_NpKernelIdeal m →
    θ_run (Cert.NpKernelIdeal.defs (F := Ideal)) (onTc (τ := Cert.NpKernelIdeal.τ) (Cert.NpKernelIdeal.main (F := Ideal))) ⟨m, fun _ => 0, g⟩ (fun r => (∀ c : Dev Cert.NpKernelIdeal.nD,
      r.2.mem ((c.tc : Thread Cert.NpKernelIdeal.nD Cert.NpKernelIdeal.τ).loc Cert.NpKernelIdeal.main_arg0) = m ((c.tc : Thread Cert.NpKernelIdeal.nD Cert.NpKernelIdeal.τ).loc Cert.NpKernelIdeal.main_arg0)
      ∧ r.2.mem ((c.tc : Thread Cert.NpKernelIdeal.nD Cert.NpKernelIdeal.τ).loc Cert.NpKernelIdeal.main_arg1) = m ((c.tc : Thread Cert.NpKernelIdeal.nD Cert.NpKernelIdeal.τ).loc Cert.NpKernelIdeal.main_arg1)
      ∧ r.2.mem ((c.tc : Thread Cert.NpKernelIdeal.nD Cert.NpKernelIdeal.τ).loc Cert.NpKernelIdeal.main_arg2) = m ((c.tc : Thread Cert.NpKernelIdeal.nD Cert.NpKernelIdeal.τ).loc Cert.NpKernelIdeal.main_arg2))
      ∧ r.2.sem = fun _ => 0)

def quiescent_NpReferenceIdeal [hNpReferenceIdeal : Cert.NpReferenceIdeal.Facts] : Prop :=
  ∀ (m : (ℓ : Loc Cert.NpReferenceIdeal.nD Cert.NpReferenceIdeal.τ Cert.NpReferenceIdeal.sig) → Buf (Elt Ideal) ℓ) (g : Dev Cert.NpReferenceIdeal.nD → PrngReg), Pre_NpReferenceIdeal m →
    θ_run (Cert.NpReferenceIdeal.defs (F := Ideal)) (onTc (τ := Cert.NpReferenceIdeal.τ) (Cert.NpReferenceIdeal.main (F := Ideal))) ⟨m, fun _ => 0, g⟩ (fun r => (∀ c : Dev Cert.NpReferenceIdeal.nD,
      r.2.mem ((c.tc : Thread Cert.NpReferenceIdeal.nD Cert.NpReferenceIdeal.τ).loc Cert.NpReferenceIdeal.main_arg0) = m ((c.tc : Thread Cert.NpReferenceIdeal.nD Cert.NpReferenceIdeal.τ).loc Cert.NpReferenceIdeal.main_arg0)
      ∧ r.2.mem ((c.tc : Thread Cert.NpReferenceIdeal.nD Cert.NpReferenceIdeal.τ).loc Cert.NpReferenceIdeal.main_arg1) = m ((c.tc : Thread Cert.NpReferenceIdeal.nD Cert.NpReferenceIdeal.τ).loc Cert.NpReferenceIdeal.main_arg1)
      ∧ r.2.mem ((c.tc : Thread Cert.NpReferenceIdeal.nD Cert.NpReferenceIdeal.τ).loc Cert.NpReferenceIdeal.main_arg2) = m ((c.tc : Thread Cert.NpReferenceIdeal.nD Cert.NpReferenceIdeal.τ).loc Cert.NpReferenceIdeal.main_arg2))
      ∧ r.2.sem = fun _ => 0)

def quiescent_FwKernel [hFwKernel : Cert.FwKernel.Facts] : Prop :=
  ∀ (m : (ℓ : Loc Cert.FwKernel.nD Cert.FwKernel.τ Cert.FwKernel.sig) → Buf (Elt Bits) ℓ) (g : Dev Cert.FwKernel.nD → PrngReg), Pre_FwKernel m →
    θ_run (Cert.FwKernel.defs (F := Bits)) (onTc (τ := Cert.FwKernel.τ) (Cert.FwKernel.main (F := Bits))) ⟨m, fun _ => 0, g⟩ (fun r => (∀ c : Dev Cert.FwKernel.nD,
      r.2.mem ((c.tc : Thread Cert.FwKernel.nD Cert.FwKernel.τ).loc Cert.FwKernel.main_arg0) = m ((c.tc : Thread Cert.FwKernel.nD Cert.FwKernel.τ).loc Cert.FwKernel.main_arg0)
      ∧ r.2.mem ((c.tc : Thread Cert.FwKernel.nD Cert.FwKernel.τ).loc Cert.FwKernel.main_arg1) = m ((c.tc : Thread Cert.FwKernel.nD Cert.FwKernel.τ).loc Cert.FwKernel.main_arg1)
      ∧ r.2.mem ((c.tc : Thread Cert.FwKernel.nD Cert.FwKernel.τ).loc Cert.FwKernel.main_arg2) = m ((c.tc : Thread Cert.FwKernel.nD Cert.FwKernel.τ).loc Cert.FwKernel.main_arg2)
      ∧ r.2.mem ((c.tc : Thread Cert.FwKernel.nD Cert.FwKernel.τ).loc Cert.FwKernel.main_arg3) = m ((c.tc : Thread Cert.FwKernel.nD Cert.FwKernel.τ).loc Cert.FwKernel.main_arg3)
      ∧ r.2.mem ((c.tc : Thread Cert.FwKernel.nD Cert.FwKernel.τ).loc Cert.FwKernel.main_arg4) = m ((c.tc : Thread Cert.FwKernel.nD Cert.FwKernel.τ).loc Cert.FwKernel.main_arg4)
      ∧ r.2.mem ((c.tc : Thread Cert.FwKernel.nD Cert.FwKernel.τ).loc Cert.FwKernel.main_arg5) = m ((c.tc : Thread Cert.FwKernel.nD Cert.FwKernel.τ).loc Cert.FwKernel.main_arg5)
      ∧ r.2.mem ((c.tc : Thread Cert.FwKernel.nD Cert.FwKernel.τ).loc Cert.FwKernel.main_arg6) = m ((c.tc : Thread Cert.FwKernel.nD Cert.FwKernel.τ).loc Cert.FwKernel.main_arg6))
      ∧ r.2.sem = fun _ => 0)

def quiescent_FwKernelIdeal [hFwKernelIdeal : Cert.FwKernelIdeal.Facts] : Prop :=
  ∀ (m : (ℓ : Loc Cert.FwKernelIdeal.nD Cert.FwKernelIdeal.τ Cert.FwKernelIdeal.sig) → Buf (Elt Ideal) ℓ) (g : Dev Cert.FwKernelIdeal.nD → PrngReg), Pre_FwKernelIdeal m →
    θ_run (Cert.FwKernelIdeal.defs (F := Ideal)) (onTc (τ := Cert.FwKernelIdeal.τ) (Cert.FwKernelIdeal.main (F := Ideal))) ⟨m, fun _ => 0, g⟩ (fun r => (∀ c : Dev Cert.FwKernelIdeal.nD,
      r.2.mem ((c.tc : Thread Cert.FwKernelIdeal.nD Cert.FwKernelIdeal.τ).loc Cert.FwKernelIdeal.main_arg0) = m ((c.tc : Thread Cert.FwKernelIdeal.nD Cert.FwKernelIdeal.τ).loc Cert.FwKernelIdeal.main_arg0)
      ∧ r.2.mem ((c.tc : Thread Cert.FwKernelIdeal.nD Cert.FwKernelIdeal.τ).loc Cert.FwKernelIdeal.main_arg1) = m ((c.tc : Thread Cert.FwKernelIdeal.nD Cert.FwKernelIdeal.τ).loc Cert.FwKernelIdeal.main_arg1)
      ∧ r.2.mem ((c.tc : Thread Cert.FwKernelIdeal.nD Cert.FwKernelIdeal.τ).loc Cert.FwKernelIdeal.main_arg2) = m ((c.tc : Thread Cert.FwKernelIdeal.nD Cert.FwKernelIdeal.τ).loc Cert.FwKernelIdeal.main_arg2)
      ∧ r.2.mem ((c.tc : Thread Cert.FwKernelIdeal.nD Cert.FwKernelIdeal.τ).loc Cert.FwKernelIdeal.main_arg3) = m ((c.tc : Thread Cert.FwKernelIdeal.nD Cert.FwKernelIdeal.τ).loc Cert.FwKernelIdeal.main_arg3)
      ∧ r.2.mem ((c.tc : Thread Cert.FwKernelIdeal.nD Cert.FwKernelIdeal.τ).loc Cert.FwKernelIdeal.main_arg4) = m ((c.tc : Thread Cert.FwKernelIdeal.nD Cert.FwKernelIdeal.τ).loc Cert.FwKernelIdeal.main_arg4)
      ∧ r.2.mem ((c.tc : Thread Cert.FwKernelIdeal.nD Cert.FwKernelIdeal.τ).loc Cert.FwKernelIdeal.main_arg5) = m ((c.tc : Thread Cert.FwKernelIdeal.nD Cert.FwKernelIdeal.τ).loc Cert.FwKernelIdeal.main_arg5)
      ∧ r.2.mem ((c.tc : Thread Cert.FwKernelIdeal.nD Cert.FwKernelIdeal.τ).loc Cert.FwKernelIdeal.main_arg6) = m ((c.tc : Thread Cert.FwKernelIdeal.nD Cert.FwKernelIdeal.τ).loc Cert.FwKernelIdeal.main_arg6))
      ∧ r.2.sem = fun _ => 0)

def quiescent_FwKernelIdeal_pre_fw_finite [hFwKernelIdeal : Cert.FwKernelIdeal.Facts] [hPre_fw_finite : Cert.Pre_fw_finite.Facts] : Prop :=
  ∀ (m : (ℓ : Loc Cert.FwKernelIdeal.nD Cert.FwKernelIdeal.τ Cert.FwKernelIdeal.sig) → Buf (Elt Ideal) ℓ) (g : Dev Cert.FwKernelIdeal.nD → PrngReg), Pre_FwKernelIdeal_fw_finite m →
    θ_run (Cert.FwKernelIdeal.defs (F := Ideal)) (onTc (τ := Cert.FwKernelIdeal.τ) (Cert.FwKernelIdeal.main (F := Ideal))) ⟨m, fun _ => 0, g⟩ (fun r => (∀ c : Dev Cert.FwKernelIdeal.nD,
      r.2.mem ((c.tc : Thread Cert.FwKernelIdeal.nD Cert.FwKernelIdeal.τ).loc Cert.FwKernelIdeal.main_arg0) = m ((c.tc : Thread Cert.FwKernelIdeal.nD Cert.FwKernelIdeal.τ).loc Cert.FwKernelIdeal.main_arg0)
      ∧ r.2.mem ((c.tc : Thread Cert.FwKernelIdeal.nD Cert.FwKernelIdeal.τ).loc Cert.FwKernelIdeal.main_arg1) = m ((c.tc : Thread Cert.FwKernelIdeal.nD Cert.FwKernelIdeal.τ).loc Cert.FwKernelIdeal.main_arg1)
      ∧ r.2.mem ((c.tc : Thread Cert.FwKernelIdeal.nD Cert.FwKernelIdeal.τ).loc Cert.FwKernelIdeal.main_arg2) = m ((c.tc : Thread Cert.FwKernelIdeal.nD Cert.FwKernelIdeal.τ).loc Cert.FwKernelIdeal.main_arg2)
      ∧ r.2.mem ((c.tc : Thread Cert.FwKernelIdeal.nD Cert.FwKernelIdeal.τ).loc Cert.FwKernelIdeal.main_arg3) = m ((c.tc : Thread Cert.FwKernelIdeal.nD Cert.FwKernelIdeal.τ).loc Cert.FwKernelIdeal.main_arg3)
      ∧ r.2.mem ((c.tc : Thread Cert.FwKernelIdeal.nD Cert.FwKernelIdeal.τ).loc Cert.FwKernelIdeal.main_arg4) = m ((c.tc : Thread Cert.FwKernelIdeal.nD Cert.FwKernelIdeal.τ).loc Cert.FwKernelIdeal.main_arg4)
      ∧ r.2.mem ((c.tc : Thread Cert.FwKernelIdeal.nD Cert.FwKernelIdeal.τ).loc Cert.FwKernelIdeal.main_arg5) = m ((c.tc : Thread Cert.FwKernelIdeal.nD Cert.FwKernelIdeal.τ).loc Cert.FwKernelIdeal.main_arg5)
      ∧ r.2.mem ((c.tc : Thread Cert.FwKernelIdeal.nD Cert.FwKernelIdeal.τ).loc Cert.FwKernelIdeal.main_arg6) = m ((c.tc : Thread Cert.FwKernelIdeal.nD Cert.FwKernelIdeal.τ).loc Cert.FwKernelIdeal.main_arg6))
      ∧ r.2.sem = fun _ => 0)

def quiescent_FwReferenceIdeal [hFwReferenceIdeal : Cert.FwReferenceIdeal.Facts] : Prop :=
  ∀ (m : (ℓ : Loc Cert.FwReferenceIdeal.nD Cert.FwReferenceIdeal.τ Cert.FwReferenceIdeal.sig) → Buf (Elt Ideal) ℓ) (g : Dev Cert.FwReferenceIdeal.nD → PrngReg), Pre_FwReferenceIdeal m →
    θ_run (Cert.FwReferenceIdeal.defs (F := Ideal)) (onTc (τ := Cert.FwReferenceIdeal.τ) (Cert.FwReferenceIdeal.main (F := Ideal))) ⟨m, fun _ => 0, g⟩ (fun r => (∀ c : Dev Cert.FwReferenceIdeal.nD,
      r.2.mem ((c.tc : Thread Cert.FwReferenceIdeal.nD Cert.FwReferenceIdeal.τ).loc Cert.FwReferenceIdeal.main_arg0) = m ((c.tc : Thread Cert.FwReferenceIdeal.nD Cert.FwReferenceIdeal.τ).loc Cert.FwReferenceIdeal.main_arg0)
      ∧ r.2.mem ((c.tc : Thread Cert.FwReferenceIdeal.nD Cert.FwReferenceIdeal.τ).loc Cert.FwReferenceIdeal.main_arg1) = m ((c.tc : Thread Cert.FwReferenceIdeal.nD Cert.FwReferenceIdeal.τ).loc Cert.FwReferenceIdeal.main_arg1)
      ∧ r.2.mem ((c.tc : Thread Cert.FwReferenceIdeal.nD Cert.FwReferenceIdeal.τ).loc Cert.FwReferenceIdeal.main_arg2) = m ((c.tc : Thread Cert.FwReferenceIdeal.nD Cert.FwReferenceIdeal.τ).loc Cert.FwReferenceIdeal.main_arg2)
      ∧ r.2.mem ((c.tc : Thread Cert.FwReferenceIdeal.nD Cert.FwReferenceIdeal.τ).loc Cert.FwReferenceIdeal.main_arg3) = m ((c.tc : Thread Cert.FwReferenceIdeal.nD Cert.FwReferenceIdeal.τ).loc Cert.FwReferenceIdeal.main_arg3)
      ∧ r.2.mem ((c.tc : Thread Cert.FwReferenceIdeal.nD Cert.FwReferenceIdeal.τ).loc Cert.FwReferenceIdeal.main_arg4) = m ((c.tc : Thread Cert.FwReferenceIdeal.nD Cert.FwReferenceIdeal.τ).loc Cert.FwReferenceIdeal.main_arg4)
      ∧ r.2.mem ((c.tc : Thread Cert.FwReferenceIdeal.nD Cert.FwReferenceIdeal.τ).loc Cert.FwReferenceIdeal.main_arg5) = m ((c.tc : Thread Cert.FwReferenceIdeal.nD Cert.FwReferenceIdeal.τ).loc Cert.FwReferenceIdeal.main_arg5)
      ∧ r.2.mem ((c.tc : Thread Cert.FwReferenceIdeal.nD Cert.FwReferenceIdeal.τ).loc Cert.FwReferenceIdeal.main_arg6) = m ((c.tc : Thread Cert.FwReferenceIdeal.nD Cert.FwReferenceIdeal.τ).loc Cert.FwReferenceIdeal.main_arg6))
      ∧ r.2.sem = fun _ => 0)

def quiescent_FwReferenceIdeal_pre_fw_finite [hFwReferenceIdeal : Cert.FwReferenceIdeal.Facts] [hPre_fw_finite : Cert.Pre_fw_finite.Facts] : Prop :=
  ∀ (m : (ℓ : Loc Cert.FwReferenceIdeal.nD Cert.FwReferenceIdeal.τ Cert.FwReferenceIdeal.sig) → Buf (Elt Ideal) ℓ) (g : Dev Cert.FwReferenceIdeal.nD → PrngReg), Pre_FwReferenceIdeal_fw_finite m →
    θ_run (Cert.FwReferenceIdeal.defs (F := Ideal)) (onTc (τ := Cert.FwReferenceIdeal.τ) (Cert.FwReferenceIdeal.main (F := Ideal))) ⟨m, fun _ => 0, g⟩ (fun r => (∀ c : Dev Cert.FwReferenceIdeal.nD,
      r.2.mem ((c.tc : Thread Cert.FwReferenceIdeal.nD Cert.FwReferenceIdeal.τ).loc Cert.FwReferenceIdeal.main_arg0) = m ((c.tc : Thread Cert.FwReferenceIdeal.nD Cert.FwReferenceIdeal.τ).loc Cert.FwReferenceIdeal.main_arg0)
      ∧ r.2.mem ((c.tc : Thread Cert.FwReferenceIdeal.nD Cert.FwReferenceIdeal.τ).loc Cert.FwReferenceIdeal.main_arg1) = m ((c.tc : Thread Cert.FwReferenceIdeal.nD Cert.FwReferenceIdeal.τ).loc Cert.FwReferenceIdeal.main_arg1)
      ∧ r.2.mem ((c.tc : Thread Cert.FwReferenceIdeal.nD Cert.FwReferenceIdeal.τ).loc Cert.FwReferenceIdeal.main_arg2) = m ((c.tc : Thread Cert.FwReferenceIdeal.nD Cert.FwReferenceIdeal.τ).loc Cert.FwReferenceIdeal.main_arg2)
      ∧ r.2.mem ((c.tc : Thread Cert.FwReferenceIdeal.nD Cert.FwReferenceIdeal.τ).loc Cert.FwReferenceIdeal.main_arg3) = m ((c.tc : Thread Cert.FwReferenceIdeal.nD Cert.FwReferenceIdeal.τ).loc Cert.FwReferenceIdeal.main_arg3)
      ∧ r.2.mem ((c.tc : Thread Cert.FwReferenceIdeal.nD Cert.FwReferenceIdeal.τ).loc Cert.FwReferenceIdeal.main_arg4) = m ((c.tc : Thread Cert.FwReferenceIdeal.nD Cert.FwReferenceIdeal.τ).loc Cert.FwReferenceIdeal.main_arg4)
      ∧ r.2.mem ((c.tc : Thread Cert.FwReferenceIdeal.nD Cert.FwReferenceIdeal.τ).loc Cert.FwReferenceIdeal.main_arg5) = m ((c.tc : Thread Cert.FwReferenceIdeal.nD Cert.FwReferenceIdeal.τ).loc Cert.FwReferenceIdeal.main_arg5)
      ∧ r.2.mem ((c.tc : Thread Cert.FwReferenceIdeal.nD Cert.FwReferenceIdeal.τ).loc Cert.FwReferenceIdeal.main_arg6) = m ((c.tc : Thread Cert.FwReferenceIdeal.nD Cert.FwReferenceIdeal.τ).loc Cert.FwReferenceIdeal.main_arg6))
      ∧ r.2.sem = fun _ => 0)

def preserves_DxKernel_DxKernelIdeal : Prop :=
  True

def algebraic_DxKernelIdeal_DxReferenceIdeal_pre_dx_finite [hDxKernelIdeal : Cert.DxKernelIdeal.Facts] [hDxReferenceIdeal : Cert.DxReferenceIdeal.Facts] [hPre_dx_finite : Cert.Pre_dx_finite.Facts] : Prop :=
  ∀ (m : (ℓ : Loc Cert.DxKernelIdeal.nD Cert.DxKernelIdeal.τ Cert.DxKernelIdeal.sig) → Buf (Elt Ideal) ℓ) (g : Dev Cert.DxKernelIdeal.nD → PrngReg)
    (m' : (ℓ : Loc Cert.DxReferenceIdeal.nD Cert.DxReferenceIdeal.τ Cert.DxReferenceIdeal.sig) → Buf (Elt Ideal) ℓ) (g' : Dev Cert.DxReferenceIdeal.nD → PrngReg), Pre_DxKernelIdeal_dx_finite m →
    (∀ c : Dev Cert.DxKernelIdeal.nD,
      m' ((c.tc : Thread Cert.DxReferenceIdeal.nD Cert.DxReferenceIdeal.τ).loc Cert.DxReferenceIdeal.main_arg0) = m ((c.tc : Thread Cert.DxKernelIdeal.nD Cert.DxKernelIdeal.τ).loc Cert.DxKernelIdeal.main_arg0)
      ∧ m' ((c.tc : Thread Cert.DxReferenceIdeal.nD Cert.DxReferenceIdeal.τ).loc Cert.DxReferenceIdeal.main_arg1) = m ((c.tc : Thread Cert.DxKernelIdeal.nD Cert.DxKernelIdeal.τ).loc Cert.DxKernelIdeal.main_arg1)
      ∧ m' ((c.tc : Thread Cert.DxReferenceIdeal.nD Cert.DxReferenceIdeal.τ).loc Cert.DxReferenceIdeal.main_arg2) = m ((c.tc : Thread Cert.DxKernelIdeal.nD Cert.DxKernelIdeal.τ).loc Cert.DxKernelIdeal.main_arg2)
      ∧ m' ((c.tc : Thread Cert.DxReferenceIdeal.nD Cert.DxReferenceIdeal.τ).loc Cert.DxReferenceIdeal.main_arg3) = m ((c.tc : Thread Cert.DxKernelIdeal.nD Cert.DxKernelIdeal.τ).loc Cert.DxKernelIdeal.main_arg3)
      ∧ m' ((c.tc : Thread Cert.DxReferenceIdeal.nD Cert.DxReferenceIdeal.τ).loc Cert.DxReferenceIdeal.main_arg4) = m ((c.tc : Thread Cert.DxKernelIdeal.nD Cert.DxKernelIdeal.τ).loc Cert.DxKernelIdeal.main_arg4)) →
    ∃ (v0 : (c : Dev Cert.DxKernelIdeal.nD) → Buf (Elt Ideal) ((c.tc : Thread Cert.DxKernelIdeal.nD Cert.DxKernelIdeal.τ).loc Cert.DxKernelIdeal.main_v4_0)) (v1 : (c : Dev Cert.DxKernelIdeal.nD) → Buf (Elt Ideal) ((c.tc : Thread Cert.DxKernelIdeal.nD Cert.DxKernelIdeal.τ).loc Cert.DxKernelIdeal.main_v4_1)),
      θ_run (Cert.DxKernelIdeal.defs (F := Ideal)) (onTc (τ := Cert.DxKernelIdeal.τ) (Cert.DxKernelIdeal.main (F := Ideal))) ⟨m, fun _ => 0, g⟩ (fun r => ∀ c : Dev Cert.DxKernelIdeal.nD,
          r.2.mem ((c.tc : Thread Cert.DxKernelIdeal.nD Cert.DxKernelIdeal.τ).loc Cert.DxKernelIdeal.main_v4_0) = v0 c
          ∧ r.2.mem ((c.tc : Thread Cert.DxKernelIdeal.nD Cert.DxKernelIdeal.τ).loc Cert.DxKernelIdeal.main_v4_1) = v1 c
          ∧ r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
          ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1)
          ∧ r.2.mem ((c.tc : Thread Cert.DxKernelIdeal.nD Cert.DxKernelIdeal.τ).loc Cert.DxKernelIdeal.main_arg2) = m ((c.tc : Thread Cert.DxKernelIdeal.nD Cert.DxKernelIdeal.τ).loc Cert.DxKernelIdeal.main_arg2)
          ∧ r.2.mem ((c.tc : Thread Cert.DxKernelIdeal.nD Cert.DxKernelIdeal.τ).loc Cert.DxKernelIdeal.main_arg3) = m ((c.tc : Thread Cert.DxKernelIdeal.nD Cert.DxKernelIdeal.τ).loc Cert.DxKernelIdeal.main_arg3)
          ∧ r.2.mem ((c.tc : Thread Cert.DxKernelIdeal.nD Cert.DxKernelIdeal.τ).loc Cert.DxKernelIdeal.main_arg4) = m ((c.tc : Thread Cert.DxKernelIdeal.nD Cert.DxKernelIdeal.τ).loc Cert.DxKernelIdeal.main_arg4))
      ∧ θ_run (Cert.DxReferenceIdeal.defs (F := Ideal)) (onTc (τ := Cert.DxReferenceIdeal.τ) (Cert.DxReferenceIdeal.main (F := Ideal))) ⟨m', fun _ => 0, g'⟩ (fun r => ∀ c : Dev Cert.DxReferenceIdeal.nD,
          r.2.mem ((c.tc : Thread Cert.DxReferenceIdeal.nD Cert.DxReferenceIdeal.τ).loc Cert.DxReferenceIdeal.main_v42) = v0 c
          ∧ r.2.mem ((c.tc : Thread Cert.DxReferenceIdeal.nD Cert.DxReferenceIdeal.τ).loc Cert.DxReferenceIdeal.main_v43) = v1 c
          ∧ r.2.mem ((c.tc : Thread Cert.DxReferenceIdeal.nD Cert.DxReferenceIdeal.τ).loc Cert.DxReferenceIdeal.main_arg0) = m' ((c.tc : Thread Cert.DxReferenceIdeal.nD Cert.DxReferenceIdeal.τ).loc Cert.DxReferenceIdeal.main_arg0)
          ∧ r.2.mem ((c.tc : Thread Cert.DxReferenceIdeal.nD Cert.DxReferenceIdeal.τ).loc Cert.DxReferenceIdeal.main_arg1) = m' ((c.tc : Thread Cert.DxReferenceIdeal.nD Cert.DxReferenceIdeal.τ).loc Cert.DxReferenceIdeal.main_arg1)
          ∧ r.2.mem ((c.tc : Thread Cert.DxReferenceIdeal.nD Cert.DxReferenceIdeal.τ).loc Cert.DxReferenceIdeal.main_arg2) = m' ((c.tc : Thread Cert.DxReferenceIdeal.nD Cert.DxReferenceIdeal.τ).loc Cert.DxReferenceIdeal.main_arg2)
          ∧ r.2.mem ((c.tc : Thread Cert.DxReferenceIdeal.nD Cert.DxReferenceIdeal.τ).loc Cert.DxReferenceIdeal.main_arg3) = m' ((c.tc : Thread Cert.DxReferenceIdeal.nD Cert.DxReferenceIdeal.τ).loc Cert.DxReferenceIdeal.main_arg3)
          ∧ r.2.mem ((c.tc : Thread Cert.DxReferenceIdeal.nD Cert.DxReferenceIdeal.τ).loc Cert.DxReferenceIdeal.main_arg4) = m' ((c.tc : Thread Cert.DxReferenceIdeal.nD Cert.DxReferenceIdeal.τ).loc Cert.DxReferenceIdeal.main_arg4))

def preserves_PjKernel_PjKernelIdeal : Prop :=
  True

def algebraic_PjKernelIdeal_PjReferenceIdeal_pre_pj_finite [hPjKernelIdeal : Cert.PjKernelIdeal.Facts] [hPjReferenceIdeal : Cert.PjReferenceIdeal.Facts] [hPre_pj_finite : Cert.Pre_pj_finite.Facts] : Prop :=
  ∀ (m : (ℓ : Loc Cert.PjKernelIdeal.nD Cert.PjKernelIdeal.τ Cert.PjKernelIdeal.sig) → Buf (Elt Ideal) ℓ) (g : Dev Cert.PjKernelIdeal.nD → PrngReg)
    (m' : (ℓ : Loc Cert.PjReferenceIdeal.nD Cert.PjReferenceIdeal.τ Cert.PjReferenceIdeal.sig) → Buf (Elt Ideal) ℓ) (g' : Dev Cert.PjReferenceIdeal.nD → PrngReg), Pre_PjKernelIdeal_pj_finite m →
    (∀ c : Dev Cert.PjKernelIdeal.nD,
      m' ((c.tc : Thread Cert.PjReferenceIdeal.nD Cert.PjReferenceIdeal.τ).loc Cert.PjReferenceIdeal.main_arg0) = m ((c.tc : Thread Cert.PjKernelIdeal.nD Cert.PjKernelIdeal.τ).loc Cert.PjKernelIdeal.main_arg0)
      ∧ m' ((c.tc : Thread Cert.PjReferenceIdeal.nD Cert.PjReferenceIdeal.τ).loc Cert.PjReferenceIdeal.main_arg1) = m ((c.tc : Thread Cert.PjKernelIdeal.nD Cert.PjKernelIdeal.τ).loc Cert.PjKernelIdeal.main_arg1)
      ∧ m' ((c.tc : Thread Cert.PjReferenceIdeal.nD Cert.PjReferenceIdeal.τ).loc Cert.PjReferenceIdeal.main_arg2) = m ((c.tc : Thread Cert.PjKernelIdeal.nD Cert.PjKernelIdeal.τ).loc Cert.PjKernelIdeal.main_arg2)
      ∧ m' ((c.tc : Thread Cert.PjReferenceIdeal.nD Cert.PjReferenceIdeal.τ).loc Cert.PjReferenceIdeal.main_arg3) = m ((c.tc : Thread Cert.PjKernelIdeal.nD Cert.PjKernelIdeal.τ).loc Cert.PjKernelIdeal.main_arg3)
      ∧ m' ((c.tc : Thread Cert.PjReferenceIdeal.nD Cert.PjReferenceIdeal.τ).loc Cert.PjReferenceIdeal.main_arg4) = m ((c.tc : Thread Cert.PjKernelIdeal.nD Cert.PjKernelIdeal.τ).loc Cert.PjKernelIdeal.main_arg4)) →
    ∃ (v0 : (c : Dev Cert.PjKernelIdeal.nD) → Buf (Elt Ideal) ((c.tc : Thread Cert.PjKernelIdeal.nD Cert.PjKernelIdeal.τ).loc Cert.PjKernelIdeal.main_v4_0)) (v1 : (c : Dev Cert.PjKernelIdeal.nD) → Buf (Elt Ideal) ((c.tc : Thread Cert.PjKernelIdeal.nD Cert.PjKernelIdeal.τ).loc Cert.PjKernelIdeal.main_v4_1)) (v2 : (c : Dev Cert.PjKernelIdeal.nD) → Buf (Elt Ideal) ((c.tc : Thread Cert.PjKernelIdeal.nD Cert.PjKernelIdeal.τ).loc Cert.PjKernelIdeal.main_v4_2)),
      θ_run (Cert.PjKernelIdeal.defs (F := Ideal)) (onTc (τ := Cert.PjKernelIdeal.τ) (Cert.PjKernelIdeal.main (F := Ideal))) ⟨m, fun _ => 0, g⟩ (fun r => ∀ c : Dev Cert.PjKernelIdeal.nD,
          r.2.mem ((c.tc : Thread Cert.PjKernelIdeal.nD Cert.PjKernelIdeal.τ).loc Cert.PjKernelIdeal.main_v4_0) = v0 c
          ∧ r.2.mem ((c.tc : Thread Cert.PjKernelIdeal.nD Cert.PjKernelIdeal.τ).loc Cert.PjKernelIdeal.main_v4_1) = v1 c
          ∧ r.2.mem ((c.tc : Thread Cert.PjKernelIdeal.nD Cert.PjKernelIdeal.τ).loc Cert.PjKernelIdeal.main_v4_2) = v2 c
          ∧ r.2.mem ((c.tc : Thread Cert.PjKernelIdeal.nD Cert.PjKernelIdeal.τ).loc Cert.PjKernelIdeal.main_arg0) = m ((c.tc : Thread Cert.PjKernelIdeal.nD Cert.PjKernelIdeal.τ).loc Cert.PjKernelIdeal.main_arg0)
          ∧ r.2.mem ((c.tc : Thread Cert.PjKernelIdeal.nD Cert.PjKernelIdeal.τ).loc Cert.PjKernelIdeal.main_arg1) = m ((c.tc : Thread Cert.PjKernelIdeal.nD Cert.PjKernelIdeal.τ).loc Cert.PjKernelIdeal.main_arg1)
          ∧ r.2.mem ((c.tc : Thread Cert.PjKernelIdeal.nD Cert.PjKernelIdeal.τ).loc Cert.PjKernelIdeal.main_arg2) = m ((c.tc : Thread Cert.PjKernelIdeal.nD Cert.PjKernelIdeal.τ).loc Cert.PjKernelIdeal.main_arg2)
          ∧ r.2.mem ((c.tc : Thread Cert.PjKernelIdeal.nD Cert.PjKernelIdeal.τ).loc Cert.PjKernelIdeal.main_arg3) = m ((c.tc : Thread Cert.PjKernelIdeal.nD Cert.PjKernelIdeal.τ).loc Cert.PjKernelIdeal.main_arg3)
          ∧ r.2.mem ((c.tc : Thread Cert.PjKernelIdeal.nD Cert.PjKernelIdeal.τ).loc Cert.PjKernelIdeal.main_arg4) = m ((c.tc : Thread Cert.PjKernelIdeal.nD Cert.PjKernelIdeal.τ).loc Cert.PjKernelIdeal.main_arg4))
      ∧ θ_run (Cert.PjReferenceIdeal.defs (F := Ideal)) (onTc (τ := Cert.PjReferenceIdeal.τ) (Cert.PjReferenceIdeal.main (F := Ideal))) ⟨m', fun _ => 0, g'⟩ (fun r => ∀ c : Dev Cert.PjReferenceIdeal.nD,
          r.2.mem ((c.tc : Thread Cert.PjReferenceIdeal.nD Cert.PjReferenceIdeal.τ).loc Cert.PjReferenceIdeal.main_v44) = v0 c
          ∧ r.2.mem ((c.tc : Thread Cert.PjReferenceIdeal.nD Cert.PjReferenceIdeal.τ).loc Cert.PjReferenceIdeal.main_v46) = v1 c
          ∧ r.2.mem ((c.tc : Thread Cert.PjReferenceIdeal.nD Cert.PjReferenceIdeal.τ).loc Cert.PjReferenceIdeal.main_v47) = v2 c
          ∧ r.2.mem ((c.tc : Thread Cert.PjReferenceIdeal.nD Cert.PjReferenceIdeal.τ).loc Cert.PjReferenceIdeal.main_arg0) = m' ((c.tc : Thread Cert.PjReferenceIdeal.nD Cert.PjReferenceIdeal.τ).loc Cert.PjReferenceIdeal.main_arg0)
          ∧ r.2.mem ((c.tc : Thread Cert.PjReferenceIdeal.nD Cert.PjReferenceIdeal.τ).loc Cert.PjReferenceIdeal.main_arg1) = m' ((c.tc : Thread Cert.PjReferenceIdeal.nD Cert.PjReferenceIdeal.τ).loc Cert.PjReferenceIdeal.main_arg1)
          ∧ r.2.mem ((c.tc : Thread Cert.PjReferenceIdeal.nD Cert.PjReferenceIdeal.τ).loc Cert.PjReferenceIdeal.main_arg2) = m' ((c.tc : Thread Cert.PjReferenceIdeal.nD Cert.PjReferenceIdeal.τ).loc Cert.PjReferenceIdeal.main_arg2)
          ∧ r.2.mem ((c.tc : Thread Cert.PjReferenceIdeal.nD Cert.PjReferenceIdeal.τ).loc Cert.PjReferenceIdeal.main_arg3) = m' ((c.tc : Thread Cert.PjReferenceIdeal.nD Cert.PjReferenceIdeal.τ).loc Cert.PjReferenceIdeal.main_arg3)
          ∧ r.2.mem ((c.tc : Thread Cert.PjReferenceIdeal.nD Cert.PjReferenceIdeal.τ).loc Cert.PjReferenceIdeal.main_arg4) = m' ((c.tc : Thread Cert.PjReferenceIdeal.nD Cert.PjReferenceIdeal.τ).loc Cert.PjReferenceIdeal.main_arg4))

def preserves_DwKernel_DwKernelIdeal : Prop :=
  True

def algebraic_DwKernelIdeal_DwReferenceIdeal [hDwKernelIdeal : Cert.DwKernelIdeal.Facts] [hDwReferenceIdeal : Cert.DwReferenceIdeal.Facts] : Prop :=
  ∀ (m : (ℓ : Loc Cert.DwKernelIdeal.nD Cert.DwKernelIdeal.τ Cert.DwKernelIdeal.sig) → Buf (Elt Ideal) ℓ) (g : Dev Cert.DwKernelIdeal.nD → PrngReg)
    (m' : (ℓ : Loc Cert.DwReferenceIdeal.nD Cert.DwReferenceIdeal.τ Cert.DwReferenceIdeal.sig) → Buf (Elt Ideal) ℓ) (g' : Dev Cert.DwReferenceIdeal.nD → PrngReg), Pre_DwKernelIdeal m →
    (∀ c : Dev Cert.DwKernelIdeal.nD,
      m' ((c.tc : Thread Cert.DwReferenceIdeal.nD Cert.DwReferenceIdeal.τ).loc Cert.DwReferenceIdeal.main_arg0) = m ((c.tc : Thread Cert.DwKernelIdeal.nD Cert.DwKernelIdeal.τ).loc Cert.DwKernelIdeal.main_arg0)
      ∧ m' ((c.tc : Thread Cert.DwReferenceIdeal.nD Cert.DwReferenceIdeal.τ).loc Cert.DwReferenceIdeal.main_arg1) = m ((c.tc : Thread Cert.DwKernelIdeal.nD Cert.DwKernelIdeal.τ).loc Cert.DwKernelIdeal.main_arg1)
      ∧ m' ((c.tc : Thread Cert.DwReferenceIdeal.nD Cert.DwReferenceIdeal.τ).loc Cert.DwReferenceIdeal.main_arg2) = m ((c.tc : Thread Cert.DwKernelIdeal.nD Cert.DwKernelIdeal.τ).loc Cert.DwKernelIdeal.main_arg2)) →
    ∃ (v0 : (c : Dev Cert.DwKernelIdeal.nD) → Buf (Elt Ideal) ((c.tc : Thread Cert.DwKernelIdeal.nD Cert.DwKernelIdeal.τ).loc Cert.DwKernelIdeal.main_v1)),
      θ_run (Cert.DwKernelIdeal.defs (F := Ideal)) (onTc (τ := Cert.DwKernelIdeal.τ) (Cert.DwKernelIdeal.main (F := Ideal))) ⟨m, fun _ => 0, g⟩ (fun r => ∀ c : Dev Cert.DwKernelIdeal.nD,
          r.2.mem ((c.tc : Thread Cert.DwKernelIdeal.nD Cert.DwKernelIdeal.τ).loc Cert.DwKernelIdeal.main_v1) = v0 c
          ∧ r.2.mem ((c.tc : Thread Cert.DwKernelIdeal.nD Cert.DwKernelIdeal.τ).loc Cert.DwKernelIdeal.main_arg0) = m ((c.tc : Thread Cert.DwKernelIdeal.nD Cert.DwKernelIdeal.τ).loc Cert.DwKernelIdeal.main_arg0)
          ∧ r.2.mem ((c.tc : Thread Cert.DwKernelIdeal.nD Cert.DwKernelIdeal.τ).loc Cert.DwKernelIdeal.main_arg1) = m ((c.tc : Thread Cert.DwKernelIdeal.nD Cert.DwKernelIdeal.τ).loc Cert.DwKernelIdeal.main_arg1)
          ∧ r.2.mem ((c.tc : Thread Cert.DwKernelIdeal.nD Cert.DwKernelIdeal.τ).loc Cert.DwKernelIdeal.main_arg2) = m ((c.tc : Thread Cert.DwKernelIdeal.nD Cert.DwKernelIdeal.τ).loc Cert.DwKernelIdeal.main_arg2))
      ∧ θ_run (Cert.DwReferenceIdeal.defs (F := Ideal)) (onTc (τ := Cert.DwReferenceIdeal.τ) (Cert.DwReferenceIdeal.main (F := Ideal))) ⟨m', fun _ => 0, g'⟩ (fun r => ∀ c : Dev Cert.DwReferenceIdeal.nD,
          r.2.mem ((c.tc : Thread Cert.DwReferenceIdeal.nD Cert.DwReferenceIdeal.τ).loc Cert.DwReferenceIdeal.main_v21) = v0 c
          ∧ r.2.mem ((c.tc : Thread Cert.DwReferenceIdeal.nD Cert.DwReferenceIdeal.τ).loc Cert.DwReferenceIdeal.main_arg0) = m' ((c.tc : Thread Cert.DwReferenceIdeal.nD Cert.DwReferenceIdeal.τ).loc Cert.DwReferenceIdeal.main_arg0)
          ∧ r.2.mem ((c.tc : Thread Cert.DwReferenceIdeal.nD Cert.DwReferenceIdeal.τ).loc Cert.DwReferenceIdeal.main_arg1) = m' ((c.tc : Thread Cert.DwReferenceIdeal.nD Cert.DwReferenceIdeal.τ).loc Cert.DwReferenceIdeal.main_arg1)
          ∧ r.2.mem ((c.tc : Thread Cert.DwReferenceIdeal.nD Cert.DwReferenceIdeal.τ).loc Cert.DwReferenceIdeal.main_arg2) = m' ((c.tc : Thread Cert.DwReferenceIdeal.nD Cert.DwReferenceIdeal.τ).loc Cert.DwReferenceIdeal.main_arg2))

def preserves_MxKernel_MxKernelIdeal : Prop :=
  IdealRules.named_const.Statement Cert.MxKernelIdeal.κ "mask" .f32 0xF149F2CA#32 ⊥

def algebraic_MxKernelIdeal_MxReferenceIdeal_pre_mx_finite [hMxKernelIdeal : Cert.MxKernelIdeal.Facts] [hMxReferenceIdeal : Cert.MxReferenceIdeal.Facts] [hPre_mx_finite : Cert.Pre_mx_finite.Facts] : Prop :=
  ∀ (m : (ℓ : Loc Cert.MxKernelIdeal.nD Cert.MxKernelIdeal.τ Cert.MxKernelIdeal.sig) → Buf (Elt Ideal) ℓ) (g : Dev Cert.MxKernelIdeal.nD → PrngReg)
    (m' : (ℓ : Loc Cert.MxReferenceIdeal.nD Cert.MxReferenceIdeal.τ Cert.MxReferenceIdeal.sig) → Buf (Elt Ideal) ℓ) (g' : Dev Cert.MxReferenceIdeal.nD → PrngReg), Pre_MxKernelIdeal_mx_finite m →
    (∀ c : Dev Cert.MxKernelIdeal.nD,
      m' ((c.tc : Thread Cert.MxReferenceIdeal.nD Cert.MxReferenceIdeal.τ).loc Cert.MxReferenceIdeal.main_arg0) = m ((c.tc : Thread Cert.MxKernelIdeal.nD Cert.MxKernelIdeal.τ).loc Cert.MxKernelIdeal.main_arg0)
      ∧ m' ((c.tc : Thread Cert.MxReferenceIdeal.nD Cert.MxReferenceIdeal.τ).loc Cert.MxReferenceIdeal.main_arg1) = m ((c.tc : Thread Cert.MxKernelIdeal.nD Cert.MxKernelIdeal.τ).loc Cert.MxKernelIdeal.main_arg1)
      ∧ m' ((c.tc : Thread Cert.MxReferenceIdeal.nD Cert.MxReferenceIdeal.τ).loc Cert.MxReferenceIdeal.main_arg2) = m ((c.tc : Thread Cert.MxKernelIdeal.nD Cert.MxKernelIdeal.τ).loc Cert.MxKernelIdeal.main_arg2)
      ∧ m' ((c.tc : Thread Cert.MxReferenceIdeal.nD Cert.MxReferenceIdeal.τ).loc Cert.MxReferenceIdeal.main_arg3) = m ((c.tc : Thread Cert.MxKernelIdeal.nD Cert.MxKernelIdeal.τ).loc Cert.MxKernelIdeal.main_arg3)
      ∧ m' ((c.tc : Thread Cert.MxReferenceIdeal.nD Cert.MxReferenceIdeal.τ).loc Cert.MxReferenceIdeal.main_arg4) = m ((c.tc : Thread Cert.MxKernelIdeal.nD Cert.MxKernelIdeal.τ).loc Cert.MxKernelIdeal.main_arg4)
      ∧ m' ((c.tc : Thread Cert.MxReferenceIdeal.nD Cert.MxReferenceIdeal.τ).loc Cert.MxReferenceIdeal.main_arg5) = m ((c.tc : Thread Cert.MxKernelIdeal.nD Cert.MxKernelIdeal.τ).loc Cert.MxKernelIdeal.main_arg5)
      ∧ m' ((c.tc : Thread Cert.MxReferenceIdeal.nD Cert.MxReferenceIdeal.τ).loc Cert.MxReferenceIdeal.main_arg6) = m ((c.tc : Thread Cert.MxKernelIdeal.nD Cert.MxKernelIdeal.τ).loc Cert.MxKernelIdeal.main_arg6)) →
    ∃ (v0 : (c : Dev Cert.MxKernelIdeal.nD) → Buf (Elt Ideal) ((c.tc : Thread Cert.MxKernelIdeal.nD Cert.MxKernelIdeal.τ).loc Cert.MxKernelIdeal.main_v99_0)) (v1 : (c : Dev Cert.MxKernelIdeal.nD) → Buf (Elt Ideal) ((c.tc : Thread Cert.MxKernelIdeal.nD Cert.MxKernelIdeal.τ).loc Cert.MxKernelIdeal.main_v99_1)) (v2 : (c : Dev Cert.MxKernelIdeal.nD) → Buf (Elt Ideal) ((c.tc : Thread Cert.MxKernelIdeal.nD Cert.MxKernelIdeal.τ).loc Cert.MxKernelIdeal.main_v99_2)) (v3 : (c : Dev Cert.MxKernelIdeal.nD) → Buf (Elt Ideal) ((c.tc : Thread Cert.MxKernelIdeal.nD Cert.MxKernelIdeal.τ).loc Cert.MxKernelIdeal.main_v99_3)) (v4 : (c : Dev Cert.MxKernelIdeal.nD) → Buf (Elt Ideal) ((c.tc : Thread Cert.MxKernelIdeal.nD Cert.MxKernelIdeal.τ).loc Cert.MxKernelIdeal.main_v99_4)) (v5 : (c : Dev Cert.MxKernelIdeal.nD) → Buf (Elt Ideal) ((c.tc : Thread Cert.MxKernelIdeal.nD Cert.MxKernelIdeal.τ).loc Cert.MxKernelIdeal.main_v99_5)),
      θ_run (Cert.MxKernelIdeal.defs (F := Ideal)) (onTc (τ := Cert.MxKernelIdeal.τ) (Cert.MxKernelIdeal.main (F := Ideal))) ⟨m, fun _ => 0, g⟩ (fun r => ∀ c : Dev Cert.MxKernelIdeal.nD,
          r.2.mem ((c.tc : Thread Cert.MxKernelIdeal.nD Cert.MxKernelIdeal.τ).loc Cert.MxKernelIdeal.main_v99_0) = v0 c
          ∧ r.2.mem ((c.tc : Thread Cert.MxKernelIdeal.nD Cert.MxKernelIdeal.τ).loc Cert.MxKernelIdeal.main_v99_1) = v1 c
          ∧ r.2.mem ((c.tc : Thread Cert.MxKernelIdeal.nD Cert.MxKernelIdeal.τ).loc Cert.MxKernelIdeal.main_v99_2) = v2 c
          ∧ r.2.mem ((c.tc : Thread Cert.MxKernelIdeal.nD Cert.MxKernelIdeal.τ).loc Cert.MxKernelIdeal.main_v99_3) = v3 c
          ∧ r.2.mem ((c.tc : Thread Cert.MxKernelIdeal.nD Cert.MxKernelIdeal.τ).loc Cert.MxKernelIdeal.main_v99_4) = v4 c
          ∧ r.2.mem ((c.tc : Thread Cert.MxKernelIdeal.nD Cert.MxKernelIdeal.τ).loc Cert.MxKernelIdeal.main_v99_5) = v5 c
          ∧ r.2.mem ((c.tc : Thread Cert.MxKernelIdeal.nD Cert.MxKernelIdeal.τ).loc Cert.MxKernelIdeal.main_arg0) = m ((c.tc : Thread Cert.MxKernelIdeal.nD Cert.MxKernelIdeal.τ).loc Cert.MxKernelIdeal.main_arg0)
          ∧ r.2.mem ((c.tc : Thread Cert.MxKernelIdeal.nD Cert.MxKernelIdeal.τ).loc Cert.MxKernelIdeal.main_arg1) = m ((c.tc : Thread Cert.MxKernelIdeal.nD Cert.MxKernelIdeal.τ).loc Cert.MxKernelIdeal.main_arg1)
          ∧ r.2.mem ((c.tc : Thread Cert.MxKernelIdeal.nD Cert.MxKernelIdeal.τ).loc Cert.MxKernelIdeal.main_arg2) = m ((c.tc : Thread Cert.MxKernelIdeal.nD Cert.MxKernelIdeal.τ).loc Cert.MxKernelIdeal.main_arg2)
          ∧ r.2.mem ((c.tc : Thread Cert.MxKernelIdeal.nD Cert.MxKernelIdeal.τ).loc Cert.MxKernelIdeal.main_arg3) = m ((c.tc : Thread Cert.MxKernelIdeal.nD Cert.MxKernelIdeal.τ).loc Cert.MxKernelIdeal.main_arg3)
          ∧ r.2.mem ((c.tc : Thread Cert.MxKernelIdeal.nD Cert.MxKernelIdeal.τ).loc Cert.MxKernelIdeal.main_arg4) = m ((c.tc : Thread Cert.MxKernelIdeal.nD Cert.MxKernelIdeal.τ).loc Cert.MxKernelIdeal.main_arg4)
          ∧ r.2.mem ((c.tc : Thread Cert.MxKernelIdeal.nD Cert.MxKernelIdeal.τ).loc Cert.MxKernelIdeal.main_arg5) = m ((c.tc : Thread Cert.MxKernelIdeal.nD Cert.MxKernelIdeal.τ).loc Cert.MxKernelIdeal.main_arg5)
          ∧ r.2.mem ((c.tc : Thread Cert.MxKernelIdeal.nD Cert.MxKernelIdeal.τ).loc Cert.MxKernelIdeal.main_arg6) = m ((c.tc : Thread Cert.MxKernelIdeal.nD Cert.MxKernelIdeal.τ).loc Cert.MxKernelIdeal.main_arg6))
      ∧ θ_run (Cert.MxReferenceIdeal.defs (F := Ideal)) (onTc (τ := Cert.MxReferenceIdeal.τ) (Cert.MxReferenceIdeal.main (F := Ideal))) ⟨m', fun _ => 0, g'⟩ (fun r => ∀ c : Dev Cert.MxReferenceIdeal.nD,
          r.2.mem ((c.tc : Thread Cert.MxReferenceIdeal.nD Cert.MxReferenceIdeal.τ).loc Cert.MxReferenceIdeal.main_v265) = v0 c
          ∧ r.2.mem ((c.tc : Thread Cert.MxReferenceIdeal.nD Cert.MxReferenceIdeal.τ).loc Cert.MxReferenceIdeal.main_v267) = v1 c
          ∧ r.2.mem ((c.tc : Thread Cert.MxReferenceIdeal.nD Cert.MxReferenceIdeal.τ).loc Cert.MxReferenceIdeal.main_v268) = v2 c
          ∧ r.2.mem ((c.tc : Thread Cert.MxReferenceIdeal.nD Cert.MxReferenceIdeal.τ).loc Cert.MxReferenceIdeal.main_v184) = v3 c
          ∧ r.2.mem ((c.tc : Thread Cert.MxReferenceIdeal.nD Cert.MxReferenceIdeal.τ).loc Cert.MxReferenceIdeal.main_v269) = v4 c
          ∧ r.2.mem ((c.tc : Thread Cert.MxReferenceIdeal.nD Cert.MxReferenceIdeal.τ).loc Cert.MxReferenceIdeal.main_v270) = v5 c
          ∧ r.2.mem ((c.tc : Thread Cert.MxReferenceIdeal.nD Cert.MxReferenceIdeal.τ).loc Cert.MxReferenceIdeal.main_arg0) = m' ((c.tc : Thread Cert.MxReferenceIdeal.nD Cert.MxReferenceIdeal.τ).loc Cert.MxReferenceIdeal.main_arg0)
          ∧ r.2.mem ((c.tc : Thread Cert.MxReferenceIdeal.nD Cert.MxReferenceIdeal.τ).loc Cert.MxReferenceIdeal.main_arg1) = m' ((c.tc : Thread Cert.MxReferenceIdeal.nD Cert.MxReferenceIdeal.τ).loc Cert.MxReferenceIdeal.main_arg1)
          ∧ r.2.mem ((c.tc : Thread Cert.MxReferenceIdeal.nD Cert.MxReferenceIdeal.τ).loc Cert.MxReferenceIdeal.main_arg2) = m' ((c.tc : Thread Cert.MxReferenceIdeal.nD Cert.MxReferenceIdeal.τ).loc Cert.MxReferenceIdeal.main_arg2)
          ∧ r.2.mem ((c.tc : Thread Cert.MxReferenceIdeal.nD Cert.MxReferenceIdeal.τ).loc Cert.MxReferenceIdeal.main_arg3) = m' ((c.tc : Thread Cert.MxReferenceIdeal.nD Cert.MxReferenceIdeal.τ).loc Cert.MxReferenceIdeal.main_arg3)
          ∧ r.2.mem ((c.tc : Thread Cert.MxReferenceIdeal.nD Cert.MxReferenceIdeal.τ).loc Cert.MxReferenceIdeal.main_arg4) = m' ((c.tc : Thread Cert.MxReferenceIdeal.nD Cert.MxReferenceIdeal.τ).loc Cert.MxReferenceIdeal.main_arg4)
          ∧ r.2.mem ((c.tc : Thread Cert.MxReferenceIdeal.nD Cert.MxReferenceIdeal.τ).loc Cert.MxReferenceIdeal.main_arg5) = m' ((c.tc : Thread Cert.MxReferenceIdeal.nD Cert.MxReferenceIdeal.τ).loc Cert.MxReferenceIdeal.main_arg5)
          ∧ r.2.mem ((c.tc : Thread Cert.MxReferenceIdeal.nD Cert.MxReferenceIdeal.τ).loc Cert.MxReferenceIdeal.main_arg6) = m' ((c.tc : Thread Cert.MxReferenceIdeal.nD Cert.MxReferenceIdeal.τ).loc Cert.MxReferenceIdeal.main_arg6))

def preserves_NpKernel_NpKernelIdeal : Prop :=
  True

def algebraic_NpKernelIdeal_NpReferenceIdeal [hNpKernelIdeal : Cert.NpKernelIdeal.Facts] [hNpReferenceIdeal : Cert.NpReferenceIdeal.Facts] : Prop :=
  ∀ (m : (ℓ : Loc Cert.NpKernelIdeal.nD Cert.NpKernelIdeal.τ Cert.NpKernelIdeal.sig) → Buf (Elt Ideal) ℓ) (g : Dev Cert.NpKernelIdeal.nD → PrngReg)
    (m' : (ℓ : Loc Cert.NpReferenceIdeal.nD Cert.NpReferenceIdeal.τ Cert.NpReferenceIdeal.sig) → Buf (Elt Ideal) ℓ) (g' : Dev Cert.NpReferenceIdeal.nD → PrngReg), Pre_NpKernelIdeal m →
    (∀ c : Dev Cert.NpKernelIdeal.nD,
      m' ((c.tc : Thread Cert.NpReferenceIdeal.nD Cert.NpReferenceIdeal.τ).loc Cert.NpReferenceIdeal.main_arg0) = m ((c.tc : Thread Cert.NpKernelIdeal.nD Cert.NpKernelIdeal.τ).loc Cert.NpKernelIdeal.main_arg0)
      ∧ m' ((c.tc : Thread Cert.NpReferenceIdeal.nD Cert.NpReferenceIdeal.τ).loc Cert.NpReferenceIdeal.main_arg1) = m ((c.tc : Thread Cert.NpKernelIdeal.nD Cert.NpKernelIdeal.τ).loc Cert.NpKernelIdeal.main_arg1)
      ∧ m' ((c.tc : Thread Cert.NpReferenceIdeal.nD Cert.NpReferenceIdeal.τ).loc Cert.NpReferenceIdeal.main_arg2) = m ((c.tc : Thread Cert.NpKernelIdeal.nD Cert.NpKernelIdeal.τ).loc Cert.NpKernelIdeal.main_arg2)) →
    ∃ (v0 : (c : Dev Cert.NpKernelIdeal.nD) → Buf (Elt Ideal) ((c.tc : Thread Cert.NpKernelIdeal.nD Cert.NpKernelIdeal.τ).loc Cert.NpKernelIdeal.main_v4)),
      θ_run (Cert.NpKernelIdeal.defs (F := Ideal)) (onTc (τ := Cert.NpKernelIdeal.τ) (Cert.NpKernelIdeal.main (F := Ideal))) ⟨m, fun _ => 0, g⟩ (fun r => ∀ c : Dev Cert.NpKernelIdeal.nD,
          r.2.mem ((c.tc : Thread Cert.NpKernelIdeal.nD Cert.NpKernelIdeal.τ).loc Cert.NpKernelIdeal.main_v4) = v0 c
          ∧ r.2.mem ((c.tc : Thread Cert.NpKernelIdeal.nD Cert.NpKernelIdeal.τ).loc Cert.NpKernelIdeal.main_arg0) = m ((c.tc : Thread Cert.NpKernelIdeal.nD Cert.NpKernelIdeal.τ).loc Cert.NpKernelIdeal.main_arg0)
          ∧ r.2.mem ((c.tc : Thread Cert.NpKernelIdeal.nD Cert.NpKernelIdeal.τ).loc Cert.NpKernelIdeal.main_arg1) = m ((c.tc : Thread Cert.NpKernelIdeal.nD Cert.NpKernelIdeal.τ).loc Cert.NpKernelIdeal.main_arg1)
          ∧ r.2.mem ((c.tc : Thread Cert.NpKernelIdeal.nD Cert.NpKernelIdeal.τ).loc Cert.NpKernelIdeal.main_arg2) = m ((c.tc : Thread Cert.NpKernelIdeal.nD Cert.NpKernelIdeal.τ).loc Cert.NpKernelIdeal.main_arg2))
      ∧ θ_run (Cert.NpReferenceIdeal.defs (F := Ideal)) (onTc (τ := Cert.NpReferenceIdeal.τ) (Cert.NpReferenceIdeal.main (F := Ideal))) ⟨m', fun _ => 0, g'⟩ (fun r => ∀ c : Dev Cert.NpReferenceIdeal.nD,
          r.2.mem ((c.tc : Thread Cert.NpReferenceIdeal.nD Cert.NpReferenceIdeal.τ).loc Cert.NpReferenceIdeal.main_v16) = v0 c
          ∧ r.2.mem ((c.tc : Thread Cert.NpReferenceIdeal.nD Cert.NpReferenceIdeal.τ).loc Cert.NpReferenceIdeal.main_arg0) = m' ((c.tc : Thread Cert.NpReferenceIdeal.nD Cert.NpReferenceIdeal.τ).loc Cert.NpReferenceIdeal.main_arg0)
          ∧ r.2.mem ((c.tc : Thread Cert.NpReferenceIdeal.nD Cert.NpReferenceIdeal.τ).loc Cert.NpReferenceIdeal.main_arg1) = m' ((c.tc : Thread Cert.NpReferenceIdeal.nD Cert.NpReferenceIdeal.τ).loc Cert.NpReferenceIdeal.main_arg1)
          ∧ r.2.mem ((c.tc : Thread Cert.NpReferenceIdeal.nD Cert.NpReferenceIdeal.τ).loc Cert.NpReferenceIdeal.main_arg2) = m' ((c.tc : Thread Cert.NpReferenceIdeal.nD Cert.NpReferenceIdeal.τ).loc Cert.NpReferenceIdeal.main_arg2))

def preserves_FwKernel_FwKernelIdeal : Prop :=
  IdealRules.named_const.Statement Cert.FwKernelIdeal.κ "mask" .f32 0xF149F2CA#32 ⊥

def algebraic_FwKernelIdeal_FwReferenceIdeal_pre_fw_finite [hFwKernelIdeal : Cert.FwKernelIdeal.Facts] [hFwReferenceIdeal : Cert.FwReferenceIdeal.Facts] [hPre_fw_finite : Cert.Pre_fw_finite.Facts] : Prop :=
  ∀ (m : (ℓ : Loc Cert.FwKernelIdeal.nD Cert.FwKernelIdeal.τ Cert.FwKernelIdeal.sig) → Buf (Elt Ideal) ℓ) (g : Dev Cert.FwKernelIdeal.nD → PrngReg)
    (m' : (ℓ : Loc Cert.FwReferenceIdeal.nD Cert.FwReferenceIdeal.τ Cert.FwReferenceIdeal.sig) → Buf (Elt Ideal) ℓ) (g' : Dev Cert.FwReferenceIdeal.nD → PrngReg), Pre_FwKernelIdeal_fw_finite m →
    (∀ c : Dev Cert.FwKernelIdeal.nD,
      m' ((c.tc : Thread Cert.FwReferenceIdeal.nD Cert.FwReferenceIdeal.τ).loc Cert.FwReferenceIdeal.main_arg0) = m ((c.tc : Thread Cert.FwKernelIdeal.nD Cert.FwKernelIdeal.τ).loc Cert.FwKernelIdeal.main_arg0)
      ∧ m' ((c.tc : Thread Cert.FwReferenceIdeal.nD Cert.FwReferenceIdeal.τ).loc Cert.FwReferenceIdeal.main_arg1) = m ((c.tc : Thread Cert.FwKernelIdeal.nD Cert.FwKernelIdeal.τ).loc Cert.FwKernelIdeal.main_arg1)
      ∧ m' ((c.tc : Thread Cert.FwReferenceIdeal.nD Cert.FwReferenceIdeal.τ).loc Cert.FwReferenceIdeal.main_arg2) = m ((c.tc : Thread Cert.FwKernelIdeal.nD Cert.FwKernelIdeal.τ).loc Cert.FwKernelIdeal.main_arg2)
      ∧ m' ((c.tc : Thread Cert.FwReferenceIdeal.nD Cert.FwReferenceIdeal.τ).loc Cert.FwReferenceIdeal.main_arg3) = m ((c.tc : Thread Cert.FwKernelIdeal.nD Cert.FwKernelIdeal.τ).loc Cert.FwKernelIdeal.main_arg3)
      ∧ m' ((c.tc : Thread Cert.FwReferenceIdeal.nD Cert.FwReferenceIdeal.τ).loc Cert.FwReferenceIdeal.main_arg4) = m ((c.tc : Thread Cert.FwKernelIdeal.nD Cert.FwKernelIdeal.τ).loc Cert.FwKernelIdeal.main_arg4)
      ∧ m' ((c.tc : Thread Cert.FwReferenceIdeal.nD Cert.FwReferenceIdeal.τ).loc Cert.FwReferenceIdeal.main_arg5) = m ((c.tc : Thread Cert.FwKernelIdeal.nD Cert.FwKernelIdeal.τ).loc Cert.FwKernelIdeal.main_arg5)
      ∧ m' ((c.tc : Thread Cert.FwReferenceIdeal.nD Cert.FwReferenceIdeal.τ).loc Cert.FwReferenceIdeal.main_arg6) = m ((c.tc : Thread Cert.FwKernelIdeal.nD Cert.FwKernelIdeal.τ).loc Cert.FwKernelIdeal.main_arg6)) →
    ∃ (v0 : (c : Dev Cert.FwKernelIdeal.nD) → Buf (Elt Ideal) ((c.tc : Thread Cert.FwKernelIdeal.nD Cert.FwKernelIdeal.τ).loc Cert.FwKernelIdeal.main_v4_0)) (v1 : (c : Dev Cert.FwKernelIdeal.nD) → Buf (Elt Ideal) ((c.tc : Thread Cert.FwKernelIdeal.nD Cert.FwKernelIdeal.τ).loc Cert.FwKernelIdeal.main_v4_1)) (v2 : (c : Dev Cert.FwKernelIdeal.nD) → Buf (Elt Ideal) ((c.tc : Thread Cert.FwKernelIdeal.nD Cert.FwKernelIdeal.τ).loc Cert.FwKernelIdeal.main_v4_2)),
      θ_run (Cert.FwKernelIdeal.defs (F := Ideal)) (onTc (τ := Cert.FwKernelIdeal.τ) (Cert.FwKernelIdeal.main (F := Ideal))) ⟨m, fun _ => 0, g⟩ (fun r => ∀ c : Dev Cert.FwKernelIdeal.nD,
          r.2.mem ((c.tc : Thread Cert.FwKernelIdeal.nD Cert.FwKernelIdeal.τ).loc Cert.FwKernelIdeal.main_v4_0) = v0 c
          ∧ r.2.mem ((c.tc : Thread Cert.FwKernelIdeal.nD Cert.FwKernelIdeal.τ).loc Cert.FwKernelIdeal.main_v4_1) = v1 c
          ∧ r.2.mem ((c.tc : Thread Cert.FwKernelIdeal.nD Cert.FwKernelIdeal.τ).loc Cert.FwKernelIdeal.main_v4_2) = v2 c
          ∧ r.2.mem ((c.tc : Thread Cert.FwKernelIdeal.nD Cert.FwKernelIdeal.τ).loc Cert.FwKernelIdeal.main_arg0) = m ((c.tc : Thread Cert.FwKernelIdeal.nD Cert.FwKernelIdeal.τ).loc Cert.FwKernelIdeal.main_arg0)
          ∧ r.2.mem ((c.tc : Thread Cert.FwKernelIdeal.nD Cert.FwKernelIdeal.τ).loc Cert.FwKernelIdeal.main_arg1) = m ((c.tc : Thread Cert.FwKernelIdeal.nD Cert.FwKernelIdeal.τ).loc Cert.FwKernelIdeal.main_arg1)
          ∧ r.2.mem ((c.tc : Thread Cert.FwKernelIdeal.nD Cert.FwKernelIdeal.τ).loc Cert.FwKernelIdeal.main_arg2) = m ((c.tc : Thread Cert.FwKernelIdeal.nD Cert.FwKernelIdeal.τ).loc Cert.FwKernelIdeal.main_arg2)
          ∧ r.2.mem ((c.tc : Thread Cert.FwKernelIdeal.nD Cert.FwKernelIdeal.τ).loc Cert.FwKernelIdeal.main_arg3) = m ((c.tc : Thread Cert.FwKernelIdeal.nD Cert.FwKernelIdeal.τ).loc Cert.FwKernelIdeal.main_arg3)
          ∧ r.2.mem ((c.tc : Thread Cert.FwKernelIdeal.nD Cert.FwKernelIdeal.τ).loc Cert.FwKernelIdeal.main_arg4) = m ((c.tc : Thread Cert.FwKernelIdeal.nD Cert.FwKernelIdeal.τ).loc Cert.FwKernelIdeal.main_arg4)
          ∧ r.2.mem ((c.tc : Thread Cert.FwKernelIdeal.nD Cert.FwKernelIdeal.τ).loc Cert.FwKernelIdeal.main_arg5) = m ((c.tc : Thread Cert.FwKernelIdeal.nD Cert.FwKernelIdeal.τ).loc Cert.FwKernelIdeal.main_arg5)
          ∧ r.2.mem ((c.tc : Thread Cert.FwKernelIdeal.nD Cert.FwKernelIdeal.τ).loc Cert.FwKernelIdeal.main_arg6) = m ((c.tc : Thread Cert.FwKernelIdeal.nD Cert.FwKernelIdeal.τ).loc Cert.FwKernelIdeal.main_arg6))
      ∧ θ_run (Cert.FwReferenceIdeal.defs (F := Ideal)) (onTc (τ := Cert.FwReferenceIdeal.τ) (Cert.FwReferenceIdeal.main (F := Ideal))) ⟨m', fun _ => 0, g'⟩ (fun r => ∀ c : Dev Cert.FwReferenceIdeal.nD,
          r.2.mem ((c.tc : Thread Cert.FwReferenceIdeal.nD Cert.FwReferenceIdeal.τ).loc Cert.FwReferenceIdeal.main_v96) = v0 c
          ∧ r.2.mem ((c.tc : Thread Cert.FwReferenceIdeal.nD Cert.FwReferenceIdeal.τ).loc Cert.FwReferenceIdeal.main_v95) = v1 c
          ∧ r.2.mem ((c.tc : Thread Cert.FwReferenceIdeal.nD Cert.FwReferenceIdeal.τ).loc Cert.FwReferenceIdeal.main_v112) = v2 c
          ∧ r.2.mem ((c.tc : Thread Cert.FwReferenceIdeal.nD Cert.FwReferenceIdeal.τ).loc Cert.FwReferenceIdeal.main_arg0) = m' ((c.tc : Thread Cert.FwReferenceIdeal.nD Cert.FwReferenceIdeal.τ).loc Cert.FwReferenceIdeal.main_arg0)
          ∧ r.2.mem ((c.tc : Thread Cert.FwReferenceIdeal.nD Cert.FwReferenceIdeal.τ).loc Cert.FwReferenceIdeal.main_arg1) = m' ((c.tc : Thread Cert.FwReferenceIdeal.nD Cert.FwReferenceIdeal.τ).loc Cert.FwReferenceIdeal.main_arg1)
          ∧ r.2.mem ((c.tc : Thread Cert.FwReferenceIdeal.nD Cert.FwReferenceIdeal.τ).loc Cert.FwReferenceIdeal.main_arg2) = m' ((c.tc : Thread Cert.FwReferenceIdeal.nD Cert.FwReferenceIdeal.τ).loc Cert.FwReferenceIdeal.main_arg2)
          ∧ r.2.mem ((c.tc : Thread Cert.FwReferenceIdeal.nD Cert.FwReferenceIdeal.τ).loc Cert.FwReferenceIdeal.main_arg3) = m' ((c.tc : Thread Cert.FwReferenceIdeal.nD Cert.FwReferenceIdeal.τ).loc Cert.FwReferenceIdeal.main_arg3)
          ∧ r.2.mem ((c.tc : Thread Cert.FwReferenceIdeal.nD Cert.FwReferenceIdeal.τ).loc Cert.FwReferenceIdeal.main_arg4) = m' ((c.tc : Thread Cert.FwReferenceIdeal.nD Cert.FwReferenceIdeal.τ).loc Cert.FwReferenceIdeal.main_arg4)
          ∧ r.2.mem ((c.tc : Thread Cert.FwReferenceIdeal.nD Cert.FwReferenceIdeal.τ).loc Cert.FwReferenceIdeal.main_arg5) = m' ((c.tc : Thread Cert.FwReferenceIdeal.nD Cert.FwReferenceIdeal.τ).loc Cert.FwReferenceIdeal.main_arg5)
          ∧ r.2.mem ((c.tc : Thread Cert.FwReferenceIdeal.nD Cert.FwReferenceIdeal.τ).loc Cert.FwReferenceIdeal.main_arg6) = m' ((c.tc : Thread Cert.FwReferenceIdeal.nD Cert.FwReferenceIdeal.τ).loc Cert.FwReferenceIdeal.main_arg6))

def Claim : Prop :=
  ∃ (hDxKernel : Cert.DxKernel.Facts) (hDxKernelIdeal : Cert.DxKernelIdeal.Facts) (hDxReferenceIdeal : Cert.DxReferenceIdeal.Facts) (hPjKernel : Cert.PjKernel.Facts) (hPjKernelIdeal : Cert.PjKernelIdeal.Facts) (hPjReferenceIdeal : Cert.PjReferenceIdeal.Facts) (hDwKernel : Cert.DwKernel.Facts) (hDwKernelIdeal : Cert.DwKernelIdeal.Facts) (hDwReferenceIdeal : Cert.DwReferenceIdeal.Facts) (hMxKernel : Cert.MxKernel.Facts) (hMxKernelIdeal : Cert.MxKernelIdeal.Facts) (hMxReferenceIdeal : Cert.MxReferenceIdeal.Facts) (hNpKernel : Cert.NpKernel.Facts) (hNpKernelIdeal : Cert.NpKernelIdeal.Facts) (hNpReferenceIdeal : Cert.NpReferenceIdeal.Facts) (hFwKernel : Cert.FwKernel.Facts) (hFwKernelIdeal : Cert.FwKernelIdeal.Facts) (hFwReferenceIdeal : Cert.FwReferenceIdeal.Facts) (hPre_dx_finite : Cert.Pre_dx_finite.Facts) (hPre_pj_finite : Cert.Pre_pj_finite.Facts) (hPre_mx_finite : Cert.Pre_mx_finite.Facts) (hPre_fw_finite : Cert.Pre_fw_finite.Facts),
    quiescent_DxKernel (hDxKernel := hDxKernel)
    ∧ quiescent_DxKernelIdeal (hDxKernelIdeal := hDxKernelIdeal)
    ∧ quiescent_DxKernelIdeal_pre_dx_finite (hDxKernelIdeal := hDxKernelIdeal) (hPre_dx_finite := hPre_dx_finite)
    ∧ quiescent_DxReferenceIdeal (hDxReferenceIdeal := hDxReferenceIdeal)
    ∧ quiescent_DxReferenceIdeal_pre_dx_finite (hDxReferenceIdeal := hDxReferenceIdeal) (hPre_dx_finite := hPre_dx_finite)
    ∧ quiescent_PjKernel (hPjKernel := hPjKernel)
    ∧ quiescent_PjKernelIdeal (hPjKernelIdeal := hPjKernelIdeal)
    ∧ quiescent_PjKernelIdeal_pre_pj_finite (hPjKernelIdeal := hPjKernelIdeal) (hPre_pj_finite := hPre_pj_finite)
    ∧ quiescent_PjReferenceIdeal (hPjReferenceIdeal := hPjReferenceIdeal)
    ∧ quiescent_PjReferenceIdeal_pre_pj_finite (hPjReferenceIdeal := hPjReferenceIdeal) (hPre_pj_finite := hPre_pj_finite)
    ∧ quiescent_DwKernel (hDwKernel := hDwKernel)
    ∧ quiescent_DwKernelIdeal (hDwKernelIdeal := hDwKernelIdeal)
    ∧ quiescent_DwReferenceIdeal (hDwReferenceIdeal := hDwReferenceIdeal)
    ∧ quiescent_MxKernel (hMxKernel := hMxKernel)
    ∧ quiescent_MxKernelIdeal (hMxKernelIdeal := hMxKernelIdeal)
    ∧ quiescent_MxKernelIdeal_pre_mx_finite (hMxKernelIdeal := hMxKernelIdeal) (hPre_mx_finite := hPre_mx_finite)
    ∧ quiescent_MxReferenceIdeal (hMxReferenceIdeal := hMxReferenceIdeal)
    ∧ quiescent_MxReferenceIdeal_pre_mx_finite (hMxReferenceIdeal := hMxReferenceIdeal) (hPre_mx_finite := hPre_mx_finite)
    ∧ quiescent_NpKernel (hNpKernel := hNpKernel)
    ∧ quiescent_NpKernelIdeal (hNpKernelIdeal := hNpKernelIdeal)
    ∧ quiescent_NpReferenceIdeal (hNpReferenceIdeal := hNpReferenceIdeal)
    ∧ quiescent_FwKernel (hFwKernel := hFwKernel)
    ∧ quiescent_FwKernelIdeal (hFwKernelIdeal := hFwKernelIdeal)
    ∧ quiescent_FwKernelIdeal_pre_fw_finite (hFwKernelIdeal := hFwKernelIdeal) (hPre_fw_finite := hPre_fw_finite)
    ∧ quiescent_FwReferenceIdeal (hFwReferenceIdeal := hFwReferenceIdeal)
    ∧ quiescent_FwReferenceIdeal_pre_fw_finite (hFwReferenceIdeal := hFwReferenceIdeal) (hPre_fw_finite := hPre_fw_finite)
    ∧ preserves_DxKernel_DxKernelIdeal
    ∧ algebraic_DxKernelIdeal_DxReferenceIdeal_pre_dx_finite (hDxKernelIdeal := hDxKernelIdeal) (hDxReferenceIdeal := hDxReferenceIdeal) (hPre_dx_finite := hPre_dx_finite)
    ∧ preserves_PjKernel_PjKernelIdeal
    ∧ algebraic_PjKernelIdeal_PjReferenceIdeal_pre_pj_finite (hPjKernelIdeal := hPjKernelIdeal) (hPjReferenceIdeal := hPjReferenceIdeal) (hPre_pj_finite := hPre_pj_finite)
    ∧ preserves_DwKernel_DwKernelIdeal
    ∧ algebraic_DwKernelIdeal_DwReferenceIdeal (hDwKernelIdeal := hDwKernelIdeal) (hDwReferenceIdeal := hDwReferenceIdeal)
    ∧ preserves_MxKernel_MxKernelIdeal
    ∧ algebraic_MxKernelIdeal_MxReferenceIdeal_pre_mx_finite (hMxKernelIdeal := hMxKernelIdeal) (hMxReferenceIdeal := hMxReferenceIdeal) (hPre_mx_finite := hPre_mx_finite)
    ∧ preserves_NpKernel_NpKernelIdeal
    ∧ algebraic_NpKernelIdeal_NpReferenceIdeal (hNpKernelIdeal := hNpKernelIdeal) (hNpReferenceIdeal := hNpReferenceIdeal)
    ∧ preserves_FwKernel_FwKernelIdeal
    ∧ algebraic_FwKernelIdeal_FwReferenceIdeal_pre_fw_finite (hFwKernelIdeal := hFwKernelIdeal) (hFwReferenceIdeal := hFwReferenceIdeal) (hPre_fw_finite := hPre_fw_finite)
-- ==== Pre_dx_finite.lean ====
abbrev S8192x2304 : Shape := ⟨2, ![8192, 2304]⟩
abbrev S1x1024x2304 : Shape := ⟨3, ![1, 1024, 2304]⟩
abbrev S8192x1024 : Shape := ⟨2, ![8192, 1024]⟩
abbrev S2x1024 : Shape := ⟨2, ![2, 1024]⟩
abbrev S_ : Shape := ⟨0, ![]⟩
abbrev S1x1024 : Shape := ⟨2, ![1, 1024]⟩

class Facts : Prop where
  bitsLt_bf16_f32 : FTy.bits .bf16 < FTy.bits .f32
  bcast_S_S8192x2304 : S_.BroadcastsInDim S8192x2304 (![] : Fin 0 → Fin S8192x2304.rank)
  bcast_S_S1x1024x2304 : S_.BroadcastsInDim S1x1024x2304 (![] : Fin 0 → Fin S1x1024x2304.rank)
  bcast_S_S8192x1024 : S_.BroadcastsInDim S8192x1024 (![] : Fin 0 → Fin S8192x1024.rank)
  slices_S2x1024_S1x1024_0_0 : S2x1024.Slices ![0, 0] S1x1024
  bcast_S_S1x1024 : S_.BroadcastsInDim S1x1024 (![] : Fin 0 → Fin S1x1024.rank)

variable [Facts]

def fn {F : FTy → Type} [FloatOps F] (main_arg0 : FVec F S8192x2304 .bf16) (main_arg1 : FVec F S1x1024x2304 .f32) (main_arg2 : FVec F S8192x1024 .f32) (main_arg3 : FVec F S2x1024 .f32) (main_arg4 : FVec F S8192x1024 .f32) : IVec S8192x2304 1 × IVec S1x1024x2304 1 × IVec S8192x1024 1 × IVec S1x1024 1 :=
  let main_v0 : FVec F S8192x2304 .f32 := (extf .f32 · bitsLt_bf16_f32) main_arg0
  let main_v1 : FVec F S8192x2304 .f32 := Host.absf main_v0
  let main_cst : FVec F S_ .f32 := constant S_ .f32 0x7F800000#32
  let main_v2 : FVec F S8192x2304 .f32 := broadcastInDim S8192x2304 ![] bcast_S_S8192x2304 main_cst
  let main_v3 : IVec S8192x2304 1 := cmpf .olt main_v1 main_v2
  let main_v4 : FVec F S1x1024x2304 .f32 := Host.absf main_arg1
  let main_cst_0 : FVec F S_ .f32 := constant S_ .f32 0x7F800000#32
  let main_v5 : FVec F S1x1024x2304 .f32 := broadcastInDim S1x1024x2304 ![] bcast_S_S1x1024x2304 main_cst_0
  let main_v6 : IVec S1x1024x2304 1 := cmpf .olt main_v4 main_v5
  let main_v7 : FVec F S8192x1024 .f32 := Host.absf main_arg2
  let main_cst_1 : FVec F S_ .f32 := constant S_ .f32 0x7F800000#32
  let main_v8 : FVec F S8192x1024 .f32 := broadcastInDim S8192x1024 ![] bcast_S_S8192x1024 main_cst_1
  let main_v9 : IVec S8192x1024 1 := cmpf .olt main_v7 main_v8
  let main_v10 : FVec F S1x1024 .f32 := (extractStridedSlice S1x1024 ![0, 0] · slices_S2x1024_S1x1024_0_0) main_arg3
  let main_v11 : FVec F S1x1024 .f32 := Host.absf main_v10
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  (main_v3, main_v6, main_v9, main_v13)
-- ==== Pre_fw_finite.lean ====
abbrev S8192x2304 : Shape := ⟨2, ![8192, 2304]⟩
abbrev S1x8 : Shape := ⟨2, ![1, 8]⟩
abbrev S1x4x128x128 : Shape := ⟨4, ![1, 4, 128, 128]⟩
abbrev S1x512 : Shape := ⟨2, ![1, 512]⟩
abbrev S1x1024x1024 : Shape := ⟨3, ![1, 1024, 1024]⟩
abbrev S8192x1024 : Shape := ⟨2, ![8192, 1024]⟩
abbrev S2x1024 : Shape := ⟨2, ![2, 1024]⟩
abbrev S_ : Shape := ⟨0, ![]⟩

class Facts : Prop where
  bcast_S_S8192x2304 : S_.BroadcastsInDim S8192x2304 (![] : Fin 0 → Fin S8192x2304.rank)
  bcast_S_S1x8 : S_.BroadcastsInDim S1x8 (![] : Fin 0 → Fin S1x8.rank)
  bcast_S_S1x4x128x128 : S_.BroadcastsInDim S1x4x128x128 (![] : Fin 0 → Fin S1x4x128x128.rank)
  bcast_S_S1x512 : S_.BroadcastsInDim S1x512 (![] : Fin 0 → Fin S1x512.rank)

variable [Facts]

def fn {F : FTy → Type} [FloatOps F] (main_arg0 : FVec F S8192x2304 .f32) (main_arg1 : FVec F S1x8 .f32) (main_arg2 : FVec F S1x4x128x128 .f32) (main_arg3 : FVec F S1x512 .f32) (main_arg4 : FVec F S1x1024x1024 .f32) (main_arg5 : FVec F S8192x1024 .f32) (main_arg6 : FVec F S2x1024 .f32) : IVec S8192x2304 1 × IVec S1x8 1 × IVec S1x4x128x128 1 × IVec S1x512 1 :=
  let main_v0 : FVec F S8192x2304 .f32 := Host.absf main_arg0
  let main_cst : FVec F S_ .f32 := constant S_ .f32 0x7F800000#32
  let main_v1 : FVec F S8192x2304 .f32 := broadcastInDim S8192x2304 ![] bcast_S_S8192x2304 main_cst
  let main_v2 : IVec S8192x2304 1 := cmpf .olt main_v0 main_v1
  let main_v3 : FVec F S1x8 .f32 := Host.absf main_arg1
  let main_cst_0 : FVec F S_ .f32 := constant S_ .f32 0x7F800000#32
  let main_v4 : FVec F S1x8 .f32 := broadcastInDim S1x8 ![] bcast_S_S1x8 main_cst_0
  let main_v5 : IVec S1x8 1 := cmpf .olt main_v3 main_v4
  let main_v6 : FVec F S1x4x128x128 .f32 := Host.absf main_arg2
  let main_cst_1 : FVec F S_ .f32 := constant S_ .f32 0x7F800000#32
  let main_v7 : FVec F S1x4x128x128 .f32 := broadcastInDim S1x4x128x128 ![] bcast_S_S1x4x128x128 main_cst_1
  let main_v8 : IVec S1x4x128x128 1 := cmpf .olt main_v6 main_v7
  let main_v9 : FVec F S1x512 .f32 := Host.absf main_arg3
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  (main_v2, main_v5, main_v8, main_v11)
-- ==== Pre_mx_finite.lean ====
abbrev S8192x2304 : Shape := ⟨2, ![8192, 2304]⟩
abbrev S1x8 : Shape := ⟨2, ![1, 8]⟩
abbrev S1x4x128x128 : Shape := ⟨4, ![1, 4, 128, 128]⟩
abbrev S1x512 : Shape := ⟨2, ![1, 512]⟩
abbrev S1x1024x1024 : Shape := ⟨3, ![1, 1024, 1024]⟩
abbrev S2x1024 : Shape := ⟨2, ![2, 1024]⟩
abbrev S8192x1024 : Shape := ⟨2, ![8192, 1024]⟩
abbrev S_ : Shape := ⟨0, ![]⟩
abbrev S1x1024 : Shape := ⟨2, ![1, 1024]⟩

class Facts : Prop where
  bcast_S_S8192x2304 : S_.BroadcastsInDim S8192x2304 (![] : Fin 0 → Fin S8192x2304.rank)
  bcast_S_S1x8 : S_.BroadcastsInDim S1x8 (![] : Fin 0 → Fin S1x8.rank)
  bcast_S_S1x4x128x128 : S_.BroadcastsInDim S1x4x128x128 (![] : Fin 0 → Fin S1x4x128x128.rank)
  bcast_S_S1x512 : S_.BroadcastsInDim S1x512 (![] : Fin 0 → Fin S1x512.rank)
  bcast_S_S1x1024x1024 : S_.BroadcastsInDim S1x1024x1024 (![] : Fin 0 → Fin S1x1024x1024.rank)
  slices_S2x1024_S1x1024_0_0 : S2x1024.Slices ![0, 0] S1x1024
  bcast_S_S1x1024 : S_.BroadcastsInDim S1x1024 (![] : Fin 0 → Fin S1x1024.rank)
  bcast_S_S8192x1024 : S_.BroadcastsInDim S8192x1024 (![] : Fin 0 → Fin S8192x1024.rank)

variable [Facts]

def fn_part1 {F : FTy → Type} [FloatOps F] (main_arg6 : FVec F S8192x1024 .f32) (main_v2 : IVec S8192x2304 1) (main_v5 : IVec S1x8 1) (main_v8 : IVec S1x4x128x128 1) (main_v11 : IVec S1x512 1) (main_v14 : IVec S1x1024x1024 1) (main_v16 : FVec F S1x1024 .f32) (main_v17 : FVec F S1x1024 .f32) : IVec S8192x2304 1 × IVec S1x8 1 × IVec S1x4x128x128 1 × IVec S1x512 1 × IVec S1x1024x1024 1 × IVec S1x1024 1 × IVec S8192x1024 1 :=
  let main_v18 : IVec S1x1024 1 := cmpf .olt main_v16 main_v17
  let main_v19 : FVec F S8192x1024 .f32 := Host.absf main_arg6
  let main_cst_5 : FVec F S_ .f32 := constant S_ .f32 0x7F800000#32
  let main_v20 : FVec F S8192x1024 .f32 := broadcastInDim S8192x1024 ![] bcast_S_S8192x1024 main_cst_5
  let main_v21 : IVec S8192x1024 1 := cmpf .olt main_v19 main_v20
  (main_v2, main_v5, main_v8, main_v11, main_v14, main_v18, main_v21)

def fn {F : FTy → Type} [FloatOps F] (main_arg0 : FVec F S8192x2304 .f32) (main_arg1 : FVec F S1x8 .f32) (main_arg2 : FVec F S1x4x128x128 .f32) (main_arg3 : FVec F S1x512 .f32) (main_arg4 : FVec F S1x1024x1024 .f32) (main_arg5 : FVec F S2x1024 .f32) (main_arg6 : FVec F S8192x1024 .f32) : IVec S8192x2304 1 × IVec S1x8 1 × IVec S1x4x128x128 1 × IVec S1x512 1 × IVec S1x1024x1024 1 × IVec S1x1024 1 × IVec S8192x1024 1 :=
  let main_v0 : FVec F S8192x2304 .f32 := Host.absf main_arg0
  let main_cst : FVec F S_ .f32 := constant S_ .f32 0x7F800000#32
  let main_v1 : FVec F S8192x2304 .f32 := broadcastInDim S8192x2304 ![] bcast_S_S8192x2304 main_cst
  let main_v2 : IVec S8192x2304 1 := cmpf .olt main_v0 main_v1
  let main_v3 : FVec F S1x8 .f32 := Host.absf main_arg1
  let main_cst_0 : FVec F S_ .f32 := constant S_ .f32 0x7F800000#32
  let main_v4 : FVec F S1x8 .f32 := broadcastInDim S1x8 ![] bcast_S_S1x8 main_cst_0
  let main_v5 : IVec S1x8 1 := cmpf .olt main_v3 main_v4
  let main_v6 : FVec F S1x4x128x128 .f32 := Host.absf main_arg2
  let main_cst_1 : FVec F S_ .f32 := constant S_ .f32 0x7F800000#32
  let main_v7 : FVec F S1x4x128x128 .f32 := broadcastInDim S1x4x128x128 ![] bcast_S_S1x4x128x128 main_cst_1
  let main_v8 : IVec S1x4x128x128 1 := cmpf .olt main_v6 main_v7
  let main_v9 : FVec F S1x512 .f32 := Host.absf main_arg3
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_v12 : FVec F S1x1024x1024 .f32 := Host.absf main_arg4
  let main_cst_3 : FVec F S_ .f32 := constant S_ .f32 0x7F800000#32
  let main_v13 : FVec F S1x1024x1024 .f32 := broadcastInDim S1x1024x1024 ![] bcast_S_S1x1024x1024 main_cst_3
  let main_v14 : IVec S1x1024x1024 1 := cmpf .olt main_v12 main_v13
  let main_v15 : FVec F S1x1024 .f32 := (extractStridedSlice S1x1024 ![0, 0] · slices_S2x1024_S1x1024_0_0) main_arg5
  let main_v16 : FVec F S1x1024 .f32 := Host.absf main_v15
  let main_cst_4 : FVec F S_ .f32 := constant S_ .f32 0x7F800000#32
  let main_v17 : FVec F S1x1024 .f32 := broadcastInDim S1x1024 ![] bcast_S_S1x1024 main_cst_4
  fn_part1 (F := F) main_arg6 main_v2 main_v5 main_v8 main_v11 main_v14 main_v16 main_v17
-- ==== Pre_pj_finite.lean ====
abbrev S8192x3072 : Shape := ⟨2, ![8192, 3072]⟩
abbrev S1x1024x3072 : Shape := ⟨3, ![1, 1024, 3072]⟩
abbrev S8192x1024 : Shape := ⟨2, ![8192, 1024]⟩
abbrev S2x1024 : Shape := ⟨2, ![2, 1024]⟩
abbrev S_ : Shape := ⟨0, ![]⟩
abbrev S1x1024 : Shape := ⟨2, ![1, 1024]⟩

class Facts : Prop where
  bitsLt_bf16_f32 : FTy.bits .bf16 < FTy.bits .f32
  bcast_S_S8192x3072 : S_.BroadcastsInDim S8192x3072 (![] : Fin 0 → Fin S8192x3072.rank)
  bcast_S_S1x1024x3072 : S_.BroadcastsInDim S1x1024x3072 (![] : Fin 0 → Fin S1x1024x3072.rank)
  bcast_S_S8192x1024 : S_.BroadcastsInDim S8192x1024 (![] : Fin 0 → Fin S8192x1024.rank)
  slices_S2x1024_S1x1024_1_0 : S2x1024.Slices ![1, 0] S1x1024
  bcast_S_S1x1024 : S_.BroadcastsInDim S1x1024 (![] : Fin 0 → Fin S1x1024.rank)

variable [Facts]

def fn {F : FTy → Type} [FloatOps F] (main_arg0 : FVec F S8192x3072 .bf16) (main_arg1 : FVec F S1x1024x3072 .f32) (main_arg2 : FVec F S8192x1024 .f32) (main_arg3 : FVec F S2x1024 .f32) (main_arg4 : FVec F S8192x1024 .f32) : IVec S8192x3072 1 × IVec S1x1024x3072 1 × IVec S8192x1024 1 × IVec S1x1024 1 :=
  let main_v0 : FVec F S8192x3072 .f32 := (extf .f32 · bitsLt_bf16_f32) main_arg0
  let main_v1 : FVec F S8192x3072 .f32 := Host.absf main_v0
  let main_cst : FVec F S_ .f32 := constant S_ .f32 0x7F800000#32
  let main_v2 : FVec F S8192x3072 .f32 := broadcastInDim S8192x3072 ![] bcast_S_S8192x3072 main_cst
  let main_v3 : IVec S8192x3072 1 := cmpf .olt main_v1 main_v2
  let main_v4 : FVec F S1x1024x3072 .f32 := Host.absf main_arg1
  let main_cst_0 : FVec F S_ .f32 := constant S_ .f32 0x7F800000#32
  let main_v5 : FVec F S1x1024x3072 .f32 := broadcastInDim S1x1024x3072 ![] bcast_S_S1x1024x3072 main_cst_0
  let main_v6 : IVec S1x1024x3072 1 := cmpf .olt main_v4 main_v5
  let main_v7 : FVec F S8192x1024 .f32 := Host.absf main_arg2
  let main_cst_1 : FVec F S_ .f32 := constant S_ .f32 0x7F800000#32
  let main_v8 : FVec F S8192x1024 .f32 := broadcastInDim S8192x1024 ![] bcast_S_S8192x1024 main_cst_1
  let main_v9 : IVec S8192x1024 1 := cmpf .olt main_v7 main_v8
  let main_v10 : FVec F S1x1024 .f32 := (extractStridedSlice S1x1024 ![1, 0] · slices_S2x1024_S1x1024_1_0) main_arg3
  let main_v11 : FVec F S1x1024 .f32 := Host.absf main_v10
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  (main_v3, main_v6, main_v9, main_v13)
-- ==== DxKernel.lean ====
abbrev S8192x2304 : Shape := ⟨2, ![8192, 2304]⟩
abbrev S1x1024x2304 : Shape := ⟨3, ![1, 1024, 2304]⟩
abbrev S8192x1024 : Shape := ⟨2, ![8192, 1024]⟩
abbrev S2x1024 : Shape := ⟨2, ![2, 1024]⟩
abbrev S1024x2304 : Shape := ⟨2, ![1024, 2304]⟩
abbrev S2304x1024 : Shape := ⟨2, ![2304, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 11
  | .vmem => 11
  | .smem => 0
  | _ => 0

abbrev bufTy : (tb : Table) → Fin (tcTables nBuf tb) → BufTy
  | .hbm, ⟨0, _⟩ => ⟨S8192x2304, .bf16⟩
  | .hbm, ⟨1, _⟩ => ⟨S1x1024x2304, .f32⟩
  | .hbm, ⟨2, _⟩ => ⟨S8192x1024, .f32⟩
  | .hbm, ⟨3, _⟩ => ⟨S2x1024, .f32⟩
  | .hbm, ⟨4, _⟩ => ⟨S8192x1024, .f32⟩
  | .hbm, ⟨5, _⟩ => ⟨S1024x2304, .f32⟩
  | .hbm, ⟨6, _⟩ => ⟨S2304x1024, .f32⟩
  | .hbm, ⟨7, _⟩ => ⟨S2304x1024, .bf16⟩
  | .hbm, ⟨8, _⟩ => ⟨S1x1024, .f32⟩
  | .hbm, ⟨9, _⟩ => ⟨S8192x1024, .f32⟩
  | .hbm, ⟨10, _⟩ => ⟨S1x1024, .f32⟩
  | .local _ .vmem, ⟨0, _⟩ => ⟨S1024x2304, .bf16⟩
  | .local _ .vmem, ⟨1, _⟩ => ⟨S1024x2304, .bf16⟩
  | .local _ .vmem, ⟨2, _⟩ => ⟨S2304x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S8192x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2304x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DxReferenceIdeal.lean ====
abbrev S8192x2304 : Shape := ⟨2, ![8192, 2304]⟩
abbrev S1x1024x2304 : Shape := ⟨3, ![1, 1024, 2304]⟩
abbrev S8192x1024 : Shape := ⟨2, ![8192, 1024]⟩
abbrev S2x1024 : Shape := ⟨2, ![2, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x2304 : Shape := ⟨2, ![1024, 2304]⟩

abbrev nBuf : Space → Nat
  | .hbm => 58
  | .vmem => 0
  | .smem => 0
  | _ => 0

abbrev bufTy : (tb : Table) → Fin (tcTables nBuf tb) → BufTy
  | .hbm, ⟨0, _⟩ => ⟨S8192x2304, .bf16⟩
  | .hbm, ⟨1, _⟩ => ⟨S1x1024x2304, .f32⟩
  | .hbm, ⟨2, _⟩ => ⟨S8192x1024, .f32⟩
  | .hbm, ⟨3, _⟩ => ⟨S2x1024, .f32⟩
  | .hbm, ⟨4, _⟩ => ⟨S8192x1024, .f32⟩
  | .hbm, ⟨5, _⟩ => ⟨S1x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S1024x2304, .f32⟩
  | .hbm, ⟨28, _⟩ => ⟨S8192x2304, .f32⟩
  | .hbm, ⟨29, _⟩ => ⟨S8192x2304, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S1x1024, .f32⟩
  | _, _ => ⟨S8192x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== PjKernel.lean ====
abbrev S8192x3072 : Shape := ⟨2, ![8192, 3072]⟩
abbrev S1x1024x3072 : Shape := ⟨3, ![1, 1024, 3072]⟩
abbrev S8192x1024 : Shape := ⟨2, ![8192, 1024]⟩
abbrev S2x1024 : Shape := ⟨2, ![2, 1024]⟩
abbrev S1024x3072 : Shape := ⟨2, ![1024, 3072]⟩
abbrev S3072x1024 : Shape := ⟨2, ![3072, 1024]⟩
abbrev S1x1024 : Shape := ⟨2, ![1, 1024]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 12
  | .vmem => 13
  | .smem => 0
  | _ => 0

abbrev bufTy : (tb : Table) → Fin (tcTables nBuf tb) → BufTy
  | .hbm, ⟨0, _⟩ => ⟨S8192x3072, .bf16⟩
  | .hbm, ⟨1, _⟩ => ⟨S1x1024x3072, .f32⟩
  | .hbm, ⟨2, _⟩ => ⟨S8192x1024, .f32⟩
  | .hbm, ⟨3, _⟩ => ⟨S2x1024, .f32⟩
  | .hbm, ⟨4, _⟩ => ⟨S8192x1024, .f32⟩
  | .hbm, ⟨5, _⟩ => ⟨S1024x3072, .f32⟩
  | .hbm, ⟨6, _⟩ => ⟨S3072x1024, .f32⟩
  | .hbm, ⟨7, _⟩ => ⟨S3072x1024, .bf16⟩
  | .hbm, ⟨8, _⟩ => ⟨S1x1024, .f32⟩
  | .hbm, ⟨9, _⟩ => ⟨S8192x1024, .f32⟩
  | .hbm, ⟨10, _⟩ => ⟨S3072x1024, .bf16⟩
  | .hbm, ⟨11, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S3072x1024, .bf16⟩
  | .local _ .vmem, ⟨11, _⟩ => ⟨S1x1024, .f32⟩
  | .local _ .vmem, ⟨12, _⟩ => ⟨S3072x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v51 : BitVec 1 := Scalar.cmpi .eq arg0 c15_i32
  let v52 : BitVec 32 := Scalar.extui v51
  let c0_i32_27 : BitVec 32 := 0#32
  let v53 : BitVec 1 := Scalar.cmpi .ne v52 c0_i32_27
  v53

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3072x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== PjReferenceIdeal.lean ====
abbrev S8192x3072 : Shape := ⟨2, ![8192, 3072]⟩
abbrev S1x1024x3072 : Shape := ⟨3, ![1, 1024, 3072]⟩
abbrev S8192x1024 : Shape := ⟨2, ![8192, 1024]⟩
abbrev S2x1024 : Shape := ⟨2, ![2, 1024]⟩
abbrev S1x1024 : Shape := ⟨2, ![1, 1024]⟩
abbrev S1024 : Shape := ⟨1, ![1024]⟩
abbrev S1024x3072 : Shape := ⟨2, ![1024, 3072]⟩
abbrev S_ : Shape := ⟨0, ![]⟩
abbrev S8192 : Shape := ⟨1, ![8192]⟩
abbrev S8192x1 : Shape := ⟨2, ![8192, 1]⟩
abbrev S3072x1024 : Shape := ⟨2, ![3072, 1024]⟩

abbrev nBuf : Space → Nat
  | .hbm => 62
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1x1024x3072, .f32⟩
  | .hbm, ⟨2, _⟩ => ⟨S8192x1024, .f32⟩
  | .hbm, ⟨3, _⟩ => ⟨S2x1024, .f32⟩
  | .hbm, ⟨4, _⟩ => ⟨S8192x1024, .f32⟩
  | .hbm, ⟨5, _⟩ => ⟨S1x1024, .f32⟩
  | .hbm, ⟨6, _⟩ => ⟨S1024, .f32⟩
  | .hbm, ⟨7, _⟩ => ⟨S1024x3072, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x3072, .f32⟩
  | .hbm, ⟨29, _⟩ => ⟨S8192x3072, .f32⟩
  | .hbm, ⟨30, _⟩ => ⟨S3072x1024, .f32⟩
  | .hbm, ⟨31, _⟩ => ⟨S1024x3072, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S3072x1024, .f32⟩
  | .hbm, ⟨60, _⟩ => ⟨S3072x1024, .bf16⟩
  | .hbm, ⟨61, _⟩ => ⟨S1x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== DwKernel.lean ====
abbrev S8192x2304 : Shape := ⟨2, ![8192, 2304]⟩
abbrev S8192x1024 : Shape := ⟨2, ![8192, 1024]⟩
abbrev S2x1024 : Shape := ⟨2, ![2, 1024]⟩
abbrev S1x1024 : Shape := ⟨2, ![1, 1024]⟩
abbrev S2304x1024 : Shape := ⟨2, ![2304, 1024]⟩
abbrev S1024x2304 : Shape := ⟨2, ![1024, 2304]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x2304, .bf16⟩
  | .hbm, ⟨1, _⟩ => ⟨S8192x1024, .f32⟩
  | .hbm, ⟨2, _⟩ => ⟨S2x1024, .f32⟩
  | .hbm, ⟨3, _⟩ => ⟨S1x1024, .f32⟩
  | .hbm, ⟨4, _⟩ => ⟨S2304x1024, .bf16⟩
  | .local _ .vmem, ⟨0, _⟩ => ⟨S1024x2304, .bf16⟩
  | .local _ .vmem, ⟨1, _⟩ => ⟨S1024x2304, .bf16⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S2304x1024, .bf16⟩
  | .local _ .vmem, ⟨6, _⟩ => ⟨S2304x1024, .f32⟩
  | _, _ => ⟨S8192x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v26 : BitVec 1 := Scalar.cmpi .eq arg0 c7_i32
  let v27 : BitVec 32 := Scalar.extui v26
  let c0_i32_13 : BitVec 32 := 0#32
  let v28 : BitVec 1 := Scalar.cmpi .ne v27 c0_i32_13
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2304x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== DwReferenceIdeal.lean ====
abbrev S8192x2304 : Shape := ⟨2, ![8192, 2304]⟩
abbrev S8192x1024 : Shape := ⟨2, ![8192, 1024]⟩
abbrev S2x1024 : Shape := ⟨2, ![2, 1024]⟩
abbrev S_ : Shape := ⟨0, ![]⟩
abbrev S1024x2304 : Shape := ⟨2, ![1024, 2304]⟩
abbrev S1x1024 : Shape := ⟨2, ![1, 1024]⟩
abbrev S1024 : Shape := ⟨1, ![1024]⟩
abbrev S8192 : Shape := ⟨1, ![8192]⟩
abbrev S8192x1 : Shape := ⟨2, ![8192, 1]⟩
abbrev S2304x1024 : Shape := ⟨2, ![2304, 1024]⟩

abbrev nBuf : Space → Nat
  | .hbm => 29
  | .vmem => 0
  | .smem => 0
  | _ => 0

abbrev bufTy : (tb : Table) → Fin (tcTables nBuf tb) → BufTy
  | .hbm, ⟨0, _⟩ => ⟨S8192x2304, .bf16⟩
  | .hbm, ⟨1, _⟩ => ⟨S8192x1024, .f32⟩
  | .hbm, ⟨2, _⟩ => ⟨S2x1024, .f32⟩
  | .hbm, ⟨3, _⟩ => ⟨S_, .f32⟩
  | .hbm, ⟨4, _⟩ => ⟨S1024x2304, .f32⟩
  | .hbm, ⟨5, _⟩ => ⟨S1x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x2304, .f32⟩
  | .hbm, ⟨24, _⟩ => ⟨S8192x2304, .f32⟩
  | .hbm, ⟨25, _⟩ => ⟨S2304x1024, .f32⟩
  | .hbm, ⟨26, _⟩ => ⟨S1024x2304, .f32⟩
  | .hbm, ⟨27, _⟩ => ⟨S2304x1024, .f32⟩
  | .hbm, ⟨28, _⟩ => ⟨S2304x1024, .bf16⟩
  | _, _ => ⟨S8192x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== MxKernel.lean ====
abbrev S8192x2304 : Shape := ⟨2, ![8192, 2304]⟩
abbrev S1x8 : Shape := ⟨2, ![1, 8]⟩
abbrev S1x4x128x128 : Shape := ⟨4, ![1, 4, 128, 128]⟩
abbrev S1x512 : Shape := ⟨2, ![1, 512]⟩
abbrev S1x1024x1024 : Shape := ⟨3, ![1, 1024, 1024]⟩
abbrev S2x1024 : Shape := ⟨2, ![2, 1024]⟩
abbrev S8192x1024 : Shape := ⟨2, ![8192, 1024]⟩
abbrev S8 : Shape := ⟨1, ![8]⟩
abbrev S4 : Shape := ⟨1, ![4]⟩
abbrev S1024x1024 : Shape := ⟨2, ![1024, 1024]⟩
abbrev S1x1024 : Shape := ⟨2, ![1, 1024]⟩
abbrev S4x128x128 : Shape := ⟨3, ![4, 128, 128]⟩
abbrev S8192x512 : Shape := ⟨2, ![8192, 512]⟩
abbrev S64x128x2x4x64 : Shape := ⟨5, ![64, 128, 2, 4, 64]⟩
abbrev S8192x256 : Shape := ⟨2, ![8192, 256]⟩
abbrev S64x128x2x2x64 : Shape := ⟨5, ![64, 128, 2, 2, 64]⟩
abbrev S_ : Shape := ⟨0, ![]⟩
abbrev S1x128x2x2x64 : Shape := ⟨5, ![1, 128, 2, 2, 64]⟩
abbrev S63x128x2x2x64 : Shape := ⟨5, ![63, 128, 2, 2, 64]⟩
abbrev S64x256x2x2x64 : Shape := ⟨5, ![64, 256, 2, 2, 64]⟩
abbrev S64x256x1x2x64 : Shape := ⟨5, ![64, 256, 1, 2, 64]⟩
abbrev S64x256x2x64 : Shape := ⟨4, ![64, 256, 2, 64]⟩
abbrev S64x2x128x4x256 : Shape := ⟨5, ![64, 2, 128, 4, 256]⟩
abbrev S256x256 : Shape := ⟨2, ![256, 256]⟩
abbrev S128x256 : Shape := ⟨2, ![128, 256]⟩
abbrev S64x256 : Shape := ⟨2, ![64, 256]⟩
abbrev S64x128x256 : Shape := ⟨3, ![64, 128, 256]⟩
abbrev S2x4 : Shape := ⟨2, ![2, 4]⟩
abbrev S2x128x4x256 : Shape := ⟨4, ![2, 128, 4, 256]⟩
abbrev S64x2x128x4 : Shape := ⟨4, ![64, 2, 128, 4]⟩
abbrev S64x2x128x4x64 : Shape := ⟨5, ![64, 2, 128, 4, 64]⟩
abbrev S8192x4x128 : Shape := ⟨3, ![8192, 4, 128]⟩
abbrev S16x4x128 : Shape := ⟨3, ![16, 4, 128]⟩
abbrev S8208x4x128 : Shape := ⟨3, ![8208, 4, 128]⟩
abbrev S8192x1x128 : Shape := ⟨3, ![8192, 1, 128]⟩
abbrev S8193x4 : Shape := ⟨2, ![8193, 4]⟩
abbrev S8192x4 : Shape := ⟨2, ![8192, 4]⟩
abbrev S4x8192x128 : Shape := ⟨3, ![4, 8192, 128]⟩
abbrev S8x128 : Shape := ⟨2, ![8, 128]⟩
abbrev S512x128 : Shape := ⟨2, ![512, 128]⟩
abbrev S512x2304 : Shape := ⟨2, ![512, 2304]⟩
abbrev S128x2304 : Shape := ⟨2, ![128, 2304]⟩
abbrev S16x2304 : Shape := ⟨2, ![16, 2304]⟩
abbrev S512x1024 : Shape := ⟨2, ![512, 1024]⟩
abbrev S16x1024 : Shape := ⟨2, ![16, 1024]⟩
abbrev S640x256 : Shape := ⟨2, ![640, 256]⟩
abbrev S2x512x256 : Shape := ⟨3, ![2, 512, 256]⟩
abbrev S528x1024 : Shape := ⟨2, ![528, 1024]⟩
abbrev S1x256 : Shape := ⟨2, ![1, 256]⟩
abbrev S512x256 : Shape := ⟨2, ![512, 256]⟩
abbrev S512x1 : Shape := ⟨2, ![512, 1]⟩
abbrev S1x512x256 : Shape := ⟨3, ![1, 512, 256]⟩
abbrev S528 : Shape := ⟨1, ![528]⟩
abbrev S528x1 : Shape := ⟨2, ![528, 1]⟩
abbrev S1024 : Shape := ⟨1, ![1024]⟩
abbrev S128x512 : Shape := ⟨2, ![128, 512]⟩
abbrev S256x128 : Shape := ⟨2, ![256, 128]⟩
abbrev S1x1 : Shape := ⟨2, ![1, 1]⟩
abbrev S512 : Shape := ⟨1, ![512]⟩
abbrev S128 : Shape := ⟨1, ![128]⟩
abbrev S128x1 : Shape := ⟨2, ![128, 1]⟩
abbrev S1x128 : Shape := ⟨2, ![1, 128]⟩
abbrev S1x128x1 : Shape := ⟨3, ![1, 128, 1]⟩
abbrev S1 : Shape := ⟨1, ![1]⟩
abbrev S1x1x1 : Shape := ⟨3, ![1, 1, 1]⟩
abbrev S1x128x128 : Shape := ⟨3, ![1, 128, 128]⟩
abbrev S128x128 : Shape := ⟨2, ![128, 128]⟩
abbrev S16x128 : Shape := ⟨2, ![16, 128]⟩
abbrev S528x128 : Shape := ⟨2, ![528, 128]⟩

abbrev nBuf : Space → Nat
  | .hbm => 126
  | .vmem => 33
  | .smem => 1
  | _ => 0

abbrev bufTy : (tb : Table) → Fin (tcTables nBuf tb) → BufTy
  | .hbm, ⟨0, _⟩ => ⟨S8192x2304, .f32⟩
  | .hbm, ⟨1, _⟩ => ⟨S1x8, .f32⟩
  | .hbm, ⟨2, _⟩ => ⟨S1x4x128x128, .f32⟩
  | .hbm, ⟨3, _⟩ => ⟨S1x512, .f32⟩
  | .hbm, ⟨4, _⟩ => ⟨S1x1024x1024, .f32⟩
  | .hbm, ⟨5, _⟩ => ⟨S2x1024, .f32⟩
  | .hbm, ⟨6, _⟩ => ⟨S8192x1024, .f32⟩
  | .hbm, ⟨7, _⟩ => ⟨S8, .f32⟩
  | .hbm, ⟨8, _⟩ => ⟨S4, .i32⟩
  | .hbm, ⟨9, _⟩ => ⟨S1024x1024, .f32⟩
  | .hbm, ⟨10, _⟩ => ⟨S1x1024, .f32⟩
  | .hbm, ⟨11, _⟩ => ⟨S4x128x128, .f32⟩
  | .hbm, ⟨12, _⟩ => ⟨S8192x512, .f32⟩
  | .hbm, ⟨13, _⟩ => ⟨S64x128x2x4x64, .f32⟩
  | .hbm, ⟨14, _⟩ => ⟨S8192x256, .f32⟩
  | .hbm, ⟨15, _⟩ => ⟨S64x128x2x2x64, .f32⟩
  | .hbm, ⟨16, _⟩ => ⟨S_, .f32⟩
  | .hbm, ⟨17, _⟩ => ⟨S1x128x2x2x64, .f32⟩
  | .hbm, ⟨18, _⟩ => ⟨S63x128x2x2x64, .f32⟩
  | .hbm, ⟨19, _⟩ => ⟨S64x128x2x2x64, .f32⟩
  | .hbm, ⟨20, _⟩ => ⟨S64x256x2x2x64, .f32⟩
  | .hbm, ⟨21, _⟩ => ⟨S64x256x1x2x64, .f32⟩
  | .hbm, ⟨22, _⟩ => ⟨S64x256x2x64, .f32⟩
  | .hbm, ⟨23, _⟩ => ⟨S64x256x1x2x64, .f32⟩
  | .hbm, ⟨24, _⟩ => ⟨S64x256x2x64, .f32⟩
  | .hbm, ⟨25, _⟩ => ⟨S64x2x128x4x256, .f32⟩
  | .hbm, ⟨26, _⟩ => ⟨S_, .f32⟩
  | .hbm, ⟨27, _⟩ => ⟨S64x2x128x4x256, .f32⟩
  | .hbm, ⟨28, _⟩ => ⟨S64x2x128x4x256, .f32⟩
  | .hbm, ⟨29, _⟩ => ⟨S256x256, .i32⟩
  | .hbm, ⟨30, _⟩ => ⟨S128x256, .i32⟩
  | .hbm, ⟨31, _⟩ => ⟨S128x256, .i32⟩
  | .hbm, ⟨32, _⟩ => ⟨S128x256, .i32⟩
  | .hbm, ⟨33, _⟩ => ⟨S_, .i32⟩
  | .hbm, ⟨34, _⟩ => ⟨S128x256, .i32⟩
  | .hbm, ⟨35, _⟩ => ⟨S128x256, .i1⟩
  | .hbm, ⟨36, _⟩ => ⟨S_, .i32⟩
  | .hbm, ⟨37, _⟩ => ⟨S128x256, .i32⟩
  | .hbm, ⟨38, _⟩ => ⟨S128x256, .i1⟩
  | .hbm, ⟨39, _⟩ => ⟨S128x256, .i1⟩
  | .hbm, ⟨40, _⟩ => ⟨S_, .i32⟩
  | .hbm, ⟨41, _⟩ => ⟨S64x256, .i32⟩
  | .hbm, ⟨42, _⟩ => ⟨S64x256, .i32⟩
  | .hbm, ⟨43, _⟩ => ⟨S64x256, .i32⟩
  | .hbm, ⟨44, _⟩ => ⟨S64x256, .i32⟩
  | .hbm, ⟨45, _⟩ => ⟨S64x256, .i32⟩
  | .hbm, ⟨46, _⟩ => ⟨S64x256, .i1⟩
  | .hbm, ⟨47, _⟩ => ⟨S64x128x256, .i1⟩
  | .hbm, ⟨48, _⟩ => ⟨S64x128x256, .i1⟩
  | .hbm, ⟨49, _⟩ => ⟨S64x128x256, .i1⟩
  | .hbm, ⟨50, _⟩ => ⟨S2x4, .f32⟩
  | .hbm, ⟨51, _⟩ => ⟨S2x128x4x256, .f32⟩
  | .hbm, ⟨52, _⟩ => ⟨S128x256, .f32⟩
  | .hbm, ⟨53, _⟩ => ⟨S2x128x4x256, .f32⟩
  | .hbm, ⟨54, _⟩ => ⟨S2x128x4x256, .f32⟩
  | .hbm, ⟨55, _⟩ => ⟨S64x2x128x4x256, .i1⟩
  | .hbm, ⟨56, _⟩ => ⟨S64x2x128x4x256, .f32⟩
  | .hbm, ⟨57, _⟩ => ⟨S64x2x128x4x256, .f32⟩
  | .hbm, ⟨58, _⟩ => ⟨S_, .f32⟩
  | .hbm, ⟨59, _⟩ => ⟨S64x2x128x4x256, .f32⟩
  | .hbm, ⟨60, _⟩ => ⟨S64x2x128x4x256, .f32⟩
  | .hbm, ⟨61, _⟩ => ⟨S2x4, .f32⟩
  | .hbm, ⟨62, _⟩ => ⟨S64x2x128x4, .f32⟩
  | .hbm, ⟨63, _⟩ => ⟨S_, .f32⟩
  | .hbm, ⟨64, _⟩ => ⟨S64x2x128x4, .f32⟩
  | .hbm, ⟨65, _⟩ => ⟨S64x2x128x4, .f32⟩
  | .hbm, ⟨66, _⟩ => ⟨S64x2x128x4x256, .f32⟩
  | .hbm, ⟨67, _⟩ => ⟨S64x2x128x4x256, .f32⟩
  | .hbm, ⟨68, _⟩ => ⟨S64x2x128x4x256, .f32⟩
  | .hbm, ⟨69, _⟩ => ⟨S_, .f32⟩
  | .hbm, ⟨70, _⟩ => ⟨S64x2x128x4, .f32⟩
  | .hbm, ⟨71, _⟩ => ⟨S64x2x128x4, .f32⟩
  | .hbm, ⟨72, _⟩ => ⟨S64x2x128x4, .f32⟩
  | .hbm, ⟨73, _⟩ => ⟨S64x2x128x4, .f32⟩
  | .hbm, ⟨74, _⟩ => ⟨S64x2x128x4x256, .f32⟩
  | .hbm, ⟨75, _⟩ => ⟨S64x2x128x4x256, .f32⟩
  | .hbm, ⟨76, _⟩ => ⟨S64x2x128x4x64, .f32⟩
  | .hbm, ⟨77, _⟩ => ⟨S64x128x2x4x64, .f32⟩
  | .hbm, ⟨78, _⟩ => ⟨S8192x512, .f32⟩
  | .hbm, ⟨79, _⟩ => ⟨S8192x512, .f32⟩
  | .hbm, ⟨80, _⟩ => ⟨S8192x4x128, .f32⟩
  | .hbm, ⟨81, _⟩ => ⟨S_, .f32⟩
  | .hbm, ⟨82, _⟩ => ⟨S_, .f32⟩
  | .hbm, ⟨83, _⟩ => ⟨S8192x4x128, .f32⟩
  | .hbm, ⟨84, _⟩ => ⟨S_, .f32⟩
  | .hbm, ⟨85, _⟩ => ⟨S16x4x128, .f32⟩
  | .hbm, ⟨86, _⟩ => ⟨S8208x4x128, .f32⟩
  | .hbm, ⟨87, _⟩ => ⟨S8192x1x128, .f32⟩
  | .hbm, ⟨88, _⟩ => ⟨S8192x1x128, .f32⟩
  | .hbm, ⟨89, _⟩ => ⟨S8192x1x128, .f32⟩
  | .hbm, ⟨90, _⟩ => ⟨S8192x1x128, .f32⟩
  | .hbm, ⟨91, _⟩ => ⟨S8192x4x128, .f32⟩
  | .hbm, ⟨92, _⟩ => ⟨S8193x4, .i32⟩
  | .hbm, ⟨93, _⟩ => ⟨S8192x4, .i32⟩
  | .hbm, ⟨94, _⟩ => ⟨S8192x4, .i32⟩
  | .hbm, ⟨95, _⟩ => ⟨S8192x4, .i32⟩
  | .hbm, ⟨96, _⟩ => ⟨S8192x4, .f32⟩
  | .hbm, ⟨97, _⟩ => ⟨S8192x4x128, .f32⟩
  | .hbm, ⟨98, _⟩ => ⟨S8192x4x128, .f32⟩
  | .hbm, ⟨99, _⟩ => ⟨S8192x4x128, .f32⟩
  | .hbm, ⟨100, _⟩ => ⟨S8192x4x128, .f32⟩
  | .hbm, ⟨101, _⟩ => ⟨S4x8192x128, .f32⟩
  | .hbm, ⟨102, _⟩ => ⟨S8192x4x128, .f32⟩
  | .hbm, ⟨103, _⟩ => ⟨S8192x512, .f32⟩
  | .hbm, ⟨104, _⟩ => ⟨S8192x512, .f32⟩
  | .hbm, ⟨105, _⟩ => ⟨S8192x512, .f32⟩
  | .hbm, ⟨106, _⟩ => ⟨S8192x512, .f32⟩
  | .hbm, ⟨107, _⟩ => ⟨S8192x512, .f32⟩
  | .hbm, ⟨108, _⟩ => ⟨S8192x1024, .f32⟩
  | .hbm, ⟨109, _⟩ => ⟨S8192x1024, .f32⟩
  | .hbm, ⟨110, _⟩ => ⟨S8192x1024, .f32⟩
  | .hbm, ⟨111, _⟩ => ⟨S8192x1024, .f32⟩
  | .hbm, ⟨112, _⟩ => ⟨S_, .f32⟩
  | .hbm, ⟨113, _⟩ => ⟨S8192x1024, .f32⟩
  | .hbm, ⟨114, _⟩ => ⟨S8192x1024, .f32⟩
  | .hbm, ⟨115, _⟩ => ⟨S8192x1024, .f32⟩
  | .hbm, ⟨116, _⟩ => ⟨S8192x1024, .f32⟩
  | .hbm, ⟨117, _⟩ => ⟨S8192x1024, .f32⟩
  | .hbm, ⟨118, _⟩ => ⟨S8192x1024, .bf16⟩
  | .hbm, ⟨119, _⟩ => ⟨S1024x1024, .bf16⟩
  | .hbm, ⟨120, _⟩ => ⟨S8192x2304, .bf16⟩
  | .hbm, ⟨121, _⟩ => ⟨S8x128, .f32⟩
  | .hbm, ⟨122, _⟩ => ⟨S512x128, .f32⟩
  | .hbm, ⟨123, _⟩ => ⟨S1x512, .f32⟩
  | .hbm, ⟨124, _⟩ => ⟨S1024x1024, .bf16⟩
  | .hbm, ⟨125, _⟩ => ⟨S1x1024, .f32⟩
  | .local _ .vmem, ⟨0, _⟩ => ⟨S512x2304, .f32⟩
  | .local _ .vmem, ⟨1, _⟩ => ⟨S512x2304, .f32⟩
  | .local _ .vmem, ⟨2, _⟩ => ⟨S128x2304, .f32⟩
  | .local _ .vmem, ⟨3, _⟩ => ⟨S128x2304, .f32⟩
  | .local _ .vmem, ⟨4, _⟩ => ⟨S16x2304, .f32⟩
  | .local _ .vmem, ⟨5, _⟩ => ⟨S16x2304, .f32⟩
  | .local _ .vmem, ⟨6, _⟩ => ⟨S512x1024, .f32⟩
  | .local _ .vmem, ⟨7, _⟩ => ⟨S512x1024, .f32⟩
  | .local _ .vmem, ⟨8, _⟩ => ⟨S16x1024, .f32⟩
  | .local _ .vmem, ⟨9, _⟩ => ⟨S16x1024, .f32⟩
  | .local _ .vmem, ⟨10, _⟩ => ⟨S512x1024, .f32⟩
  | .local _ .vmem, ⟨11, _⟩ => ⟨S512x1024, .f32⟩
  | .local _ .vmem, ⟨12, _⟩ => ⟨S16x1024, .f32⟩
  | .local _ .vmem, ⟨13, _⟩ => ⟨S16x1024, .f32⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1x1024, .f32⟩
  | .local _ .vmem, ⟨18, _⟩ => ⟨S4x128x128, .f32⟩
  | .local _ .vmem, ⟨19, _⟩ => ⟨S1x512, .f32⟩
  | .local _ .vmem, ⟨20, _⟩ => ⟨S512x2304, .bf16⟩
  | .local _ .vmem, ⟨21, _⟩ => ⟨S512x2304, .bf16⟩
  | .local _ .vmem, ⟨22, _⟩ => ⟨S8x128, .f32⟩
  | .local _ .vmem, ⟨23, _⟩ => ⟨S512x128, .f32⟩
  | .local _ .vmem, ⟨24, _⟩ => ⟨S1x512, .f32⟩
  | .local _ .vmem, ⟨25, _⟩ => ⟨S1024x1024, .bf16⟩
  | .local _ .vmem, ⟨26, _⟩ => ⟨S1x1024, .f32⟩
  | .local _ .vmem, ⟨27, _⟩ => ⟨S640x256, .f32⟩
  | .local _ .vmem, ⟨28, _⟩ => ⟨S640x256, .f32⟩
  | .local _ .vmem, ⟨29, _⟩ => ⟨S128x256, .f32⟩
  | .local _ .vmem, ⟨30, _⟩ => ⟨S2x512x256, .f32⟩
  | .local _ .vmem, ⟨31, _⟩ => ⟨S1024x1024, .f32⟩
  | .local _ .vmem, ⟨32, _⟩ => ⟨S528x1024, .f32⟩
  | .local _ .smem, ⟨0, _⟩ => ⟨S1x8, .f32⟩
  | _, _ => ⟨S8192x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .smem, ⟨0, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_v22 : Ref sig .tc := ⟨.hbm, 34, rfl⟩
abbrev main_v23 : Ref sig .tc := ⟨.hbm, 35, rfl⟩
abbrev main_c_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_5 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_7 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_call0_call0_cst : Ref sig .tc := ⟨.hbm, 81, rfl⟩
abbrev main_call0_call0_v0 : Ref sig .tc := ⟨.hbm, 82, rfl⟩
abbrev main_v64 : Ref sig .tc := ⟨.hbm, 83, rfl⟩
abbrev main_cst_8 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_cst_9 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99_0 : Ref sig .tc := ⟨.hbm, 120, rfl⟩
abbrev main_v99_1 : Ref sig .tc := ⟨.hbm, 121, rfl⟩
abbrev main_v99_2 : Ref sig .tc := ⟨.hbm, 122, rfl⟩
abbrev main_v99_3 : Ref sig .tc := ⟨.hbm, 123, rfl⟩
abbrev main_v99_4 : Ref sig .tc := ⟨.hbm, 124, rfl⟩
abbrev main_v99_5 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_stg10_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27

abbrev nD : Nat := 1
abbrev τ : Topo := Topo.v7x

variable {F : FTy → Type} [FloatOps F]

abbrev grid0 : Pipeline.Grid := ⟨1, ![16], ![false]⟩

def k0_mult1 : BitVec 32 :=
  let c0_i32_76 : BitVec 32 := 0#32
  let c128_i32 : BitVec 32 := 128#32
  let v188 : BitVec 32 := Scalar.muli c0_i32_76 c128_i32
  v188
def k0_off1 (c0_i32_76 : BitVec 32) : Fin 2 → Nat :=
  let c128_i32 : BitVec 32 := 128#32
  let v188 : BitVec 32 := Scalar.muli c0_i32_76 c128_i32
  let v189 : BitVec 32 := v188
  let v192 : Index := Scalar.indexCast v189
  let c0_78 : Index := 0#32
  ![v192.toNat, 0]
def k0_off2 (c0_i32_76 : BitVec 32) : Fin 2 → Nat :=
  let c128_i32 : BitVec 32 := 128#32
  let v188 : BitVec 32 := Scalar.muli c0_i32_76 c128_i32
  let v189 : BitVec 32 := v188
  let v194 : Index := Scalar.indexCast v189
  let c768 : Index := 768#32
  ![v194.toNat, 768]
def k0_off3 (c0_i32_76 : BitVec 32) : Fin 2 → Nat :=
  let c128_i32 : BitVec 32 := 128#32
  let v188 : BitVec 32 := Scalar.muli c0_i32_76 c128_i32
  let v189 : BitVec 32 := v188
  let v197 : Index := Scalar.indexCast v189
  let c0_81 : Index := 0#32
  ![v197.toNat, 0]
def k0_off4 (c0_i32_76 : BitVec 32) : Fin 2 → Nat :=
  let c128_i32 : BitVec 32 := 128#32
  let v188 : BitVec 32 := Scalar.muli c0_i32_76 c128_i32
  let v189 : BitVec 32 := v188
  let v199 : Index := Scalar.indexCast v189
  let c0_82 : Index := 0#32
  ![v199.toNat, 0]
def k0_off5 (c0_i32_76 : BitVec 32) : Fin 2 → Nat :=
  let c128_i32 : BitVec 32 := 128#32
  let v188 : BitVec 32 := Scalar.muli c0_i32_76 c128_i32
  let v189 : BitVec 32 := v188
  let v201 : Index := Scalar.indexCast v189
  let c128_83 : Index := 128#32
  ![v201.toNat, 128]
def k0_off6 (c0_i32_76 : BitVec 32) : Fin 2 → Nat :=
  let c128_i32 : BitVec 32 := 128#32
  let v188 : BitVec 32 := Scalar.muli c0_i32_76 c128_i32
  let v189 : BitVec 32 := v188
  let v732 : Index := Scalar.indexCast v189
  let c0_252 : Index := 0#32
  ![v732.toNat, 0]
def k0_mult2 : BitVec 32 :=
  let c1_i32_254 : BitVec 32 := 1#32
  let c128_i32_255 : BitVec 32 := 128#32
  let v739 : BitVec 32 := Scalar.muli c1_i32_254 c128_i32_255
  v739
def k0_mult3 : BitVec 32 :=
  let c2_i32_441 : BitVec 32 := 2#32
  let c128_i32_442 : BitVec 32 := 128#32
  let v1290 : BitVec 32 := Scalar.muli c2_i32_441 c128_i32_442
  v1290
def k0_mult4 : BitVec 32 :=
  let c3_i32_628 : BitVec 32 := 3#32
  let c128_i32_629 : BitVec 32 := 128#32
  let v1841 : BitVec 32 := Scalar.muli c3_i32_628 c128_i32_629
  v1841
def k0_cond3 (i : grid0.Coords) : BitVec 1 :=
  let arg0 : BitVec 32 := BitVec.ofNat 32 (i 0).val
  let c15_i32_39 : BitVec 32 := 15#32
  let v121 : BitVec 1 := Scalar.cmpi .eq arg0 c15_i32_39
  let v164 : BitVec 32 := Scalar.extui v121
  let c0_i32_57 : BitVec 32 := 0#32
  let v165 : BitVec 1 := Scalar.cmpi .ne v164 c0_i32_57
  v165

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 1 := Scalar.cmpi .eq arg0 c15_i32
  let c15_i32_0 : BitVec 32 := 15#32
  let v1 : BitVec 32 := Scalar.subi c15_i32_0 arg0
  let c4_i32 : BitVec 32 := 4#32
  let v2 : BitVec 32 := Scalar.muli v1 c4_i32
  let c1_i32 : BitVec 32 := 1#32
  let v3 : BitVec 32 := Scalar.subi v2 c1_i32
  let c0_i32 : BitVec 32 := 0#32
  let v4 : BitVec 32 := Scalar.select v0 c0_i32 v3
  let c0_i32_1 : BitVec 32 := 0#32
  let c0_i32_2 : BitVec 32 := 0#32
  ![v4.toNat, c0_i32_1.toNat]

def cc0_transform_2 (i : grid0.Coords) : Fin 2 → Nat :=
  let arg0 : BitVec 32 := BitVec.ofNat 32 (i 0).val
  let c0_i32 : BitVec 32 := 0#32
  let v0 : BitVec 1 := Scalar.cmpi .eq arg0 c0_i32
  let c15_i32 : BitVec 32 := 15#32
  let v1 : BitVec 32 := Scalar.subi c15_i32 arg0
  let c1_i32 : BitVec 32 := 1#32
  let v2 : BitVec 32 := Scalar.addi v1 c1_i32
  let c32_i32 : BitVec 32 := 32#32
  let v3 : BitVec 32 := Scalar.muli v2 c32_i32
  let c511_i32 : BitVec 32 := 511#32
  let v4 : BitVec 32 := Scalar.select v0 c511_i32 v3
  let c0_i32_0 : BitVec 32 := 0#32
  let c0_i32_1 : BitVec 32 := 0#32
  ![v4.toNat, c0_i32_0.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let v0 : BitVec 1 := Scalar.cmpi .eq arg0 c0_i32
  let c15_i32 : BitVec 32 := 15#32
  let v1 : BitVec 32 := Scalar.subi c15_i32 arg0
  let c1_i32 : BitVec 32 := 1#32
  let v2 : BitVec 32 := Scalar.addi v1 c1_i32
  let c32_i32 : BitVec 32 := 32#32
  let v3 : BitVec 32 := Scalar.muli v2 c32_i32
  let c511_i32 : BitVec 32 := 511#32
  let v4 : BitVec 32 := Scalar.select v0 c511_i32 v3
  let c0_i32_0 : BitVec 32 := 0#32
  let c0_i32_1 : BitVec 32 := 0#32
  ![v4.toNat, c0_i32_0.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let v0 : BitVec 1 := Scalar.cmpi .eq arg0 c0_i32
  let c15_i32 : BitVec 32 := 15#32
  let v1 : BitVec 32 := Scalar.subi c15_i32 arg0
  let c1_i32 : BitVec 32 := 1#32
  let v2 : BitVec 32 := Scalar.addi v1 c1_i32
  let c32_i32 : BitVec 32 := 32#32
  let v3 : BitVec 32 := Scalar.muli v2 c32_i32
  let c511_i32 : BitVec 32 := 511#32
  let v4 : BitVec 32 := Scalar.select v0 c511_i32 v3
  let c0_i32_0 : BitVec 32 := 0#32
  let c0_i32_1 : BitVec 32 := 0#32
  ![v4.toNat, c0_i32_0.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .smem S1x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x2304 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== MxKernelIdeal.lean ====
variable {F : FTy → Type} [FloatOps F] [Named F]
def κ : String → Option EReal := fun
  | "mask" => some ⊥
  | _ => none
-- ==== MxReferenceIdeal.lean ====
abbrev S8192x2304 : Shape := ⟨2, ![8192, 2304]⟩
abbrev S1x8 : Shape := ⟨2, ![1, 8]⟩
abbrev S1x4x128x128 : Shape := ⟨4, ![1, 4, 128, 128]⟩
abbrev S1x512 : Shape := ⟨2, ![1, 512]⟩
abbrev S1x1024x1024 : Shape := ⟨3, ![1, 1024, 1024]⟩
abbrev S2x1024 : Shape := ⟨2, ![2, 1024]⟩
abbrev S8192x1024 : Shape := ⟨2, ![8192, 1024]⟩
abbrev S8 : Shape := ⟨1, ![8]⟩
abbrev S4 : Shape := ⟨1, ![4]⟩
abbrev S4x128x128 : Shape := ⟨3, ![4, 128, 128]⟩
abbrev S1024x1024 : Shape := ⟨2, ![1024, 1024]⟩
abbrev S1x1024 : Shape := ⟨2, ![1, 1024]⟩
abbrev S1024 : Shape := ⟨1, ![1024]⟩
abbrev S8192x512 : Shape := ⟨2, ![8192, 512]⟩
abbrev S64x128x2x4x64 : Shape := ⟨5, ![64, 128, 2, 4, 64]⟩
abbrev S8192x256 : Shape := ⟨2, ![8192, 256]⟩
abbrev S64x128x2x2x64 : Shape := ⟨5, ![64, 128, 2, 2, 64]⟩
abbrev S_ : Shape := ⟨0, ![]⟩
abbrev S1x128x2x2x64 : Shape := ⟨5, ![1, 128, 2, 2, 64]⟩
abbrev S63x128x2x2x64 : Shape := ⟨5, ![63, 128, 2, 2, 64]⟩
abbrev S64x256x2x2x64 : Shape := ⟨5, ![64, 256, 2, 2, 64]⟩
abbrev S64x256x1x2x64 : Shape := ⟨5, ![64, 256, 1, 2, 64]⟩
abbrev S64x256x2x64 : Shape := ⟨4, ![64, 256, 2, 64]⟩
abbrev S64x2x128x4x256 : Shape := ⟨5, ![64, 2, 128, 4, 256]⟩
abbrev S256x256 : Shape := ⟨2, ![256, 256]⟩
abbrev S128x256 : Shape := ⟨2, ![128, 256]⟩
abbrev S64x256 : Shape := ⟨2, ![64, 256]⟩
abbrev S64x128x256 : Shape := ⟨3, ![64, 128, 256]⟩
abbrev S2x4 : Shape := ⟨2, ![2, 4]⟩
abbrev S2x128x4x256 : Shape := ⟨4, ![2, 128, 4, 256]⟩
abbrev S64x2x128x4 : Shape := ⟨4, ![64, 2, 128, 4]⟩
abbrev S64x2x128x4x1 : Shape := ⟨5, ![64, 2, 128, 4, 1]⟩
abbrev S64x2x128x4x64 : Shape := ⟨5, ![64, 2, 128, 4, 64]⟩
abbrev S8192x4x128 : Shape := ⟨3, ![8192, 4, 128]⟩
abbrev S16x4x128 : Shape := ⟨3, ![16, 4, 128]⟩
abbrev S8208x4x128 : Shape := ⟨3, ![8208, 4, 128]⟩
abbrev S8192x1x128 : Shape := ⟨3, ![8192, 1, 128]⟩
abbrev S8193x4 : Shape := ⟨2, ![8193, 4]⟩
abbrev S8192x4 : Shape := ⟨2, ![8192, 4]⟩
abbrev S4x8192x128 : Shape := ⟨3, ![4, 8192, 128]⟩
abbrev S8192 : Shape := ⟨1, ![8192]⟩
abbrev S8192x1 : Shape := ⟨2, ![8192, 1]⟩
abbrev S512 : Shape := ⟨1, ![512]⟩
abbrev S64x2x64x256 : Shape := ⟨4, ![64, 2, 64, 256]⟩
abbrev S64x2x256x64 : Shape := ⟨4, ![64, 2, 256, 64]⟩
abbrev S8x1 : Shape := ⟨2, ![8, 1]⟩
abbrev S8x128 : Shape := ⟨2, ![8, 128]⟩
abbrev S512x128 : Shape := ⟨2, ![512, 128]⟩

abbrev nBuf : Space → Nat
  | .hbm => 333
  | .vmem => 0
  | .smem => 0
  | _ => 0

abbrev hbmTy0_0 (i : Nat) : BufTy := match i % 128 with
  | 0 => ⟨S8192x2304, .f32⟩
  | 1 => ⟨S1x8, .f32⟩
  | 2 => ⟨S1x4x128x128, .f32⟩
  | 3 => ⟨S1x512, .f32⟩
  | 4 => ⟨S1x1024x1024, .f32⟩
  | 5 => ⟨S2x1024, .f32⟩
  | 6 => ⟨S8192x1024, .f32⟩
  | 7 => ⟨S8, .f32⟩
  | 8 => ⟨S4, .i32⟩
  | 9 => ⟨S4x128x128, .f32⟩
  | 10 => ⟨S1024x1024, .f32⟩
  | 11 => ⟨S1x1024, .f32⟩
  | 12 => ⟨S1024, .f32⟩
  | 13 => ⟨S8192x512, .f32⟩
  | 14 => ⟨S64x128x2x4x64, .f32⟩
  | 15 => ⟨S8192x256, .f32⟩
  | 16 => ⟨S64x128x2x2x64, .f32⟩
  | 17 => ⟨S_, .f32⟩
  | 18 => ⟨S1x128x2x2x64, .f32⟩
  | 19 => ⟨S63x128x2x2x64, .f32⟩
  | 20 => ⟨S64x128x2x2x64, .f32⟩
  | 21 => ⟨S_, .f32⟩
  | 22 => ⟨S1x128x2x2x64, .f32⟩
  | 23 => ⟨S64x256x2x2x64, .f32⟩
  | 24 => ⟨S64x256x1x2x64, .f32⟩
  | 25 => ⟨S64x256x2x64, .f32⟩
  | 26 => ⟨S64x256x1x2x64, .f32⟩
  | 27 => ⟨S64x256x2x64, .f32⟩
  | 28 => ⟨S64x2x128x4x256, .f32⟩
  | 29 => ⟨S_, .f32⟩
  | 30 => ⟨S64x2x128x4x256, .f32⟩
  | 31 => ⟨S64x2x128x4x256, .f32⟩
  | 32 => ⟨S256x256, .i32⟩
  | 33 => ⟨S128x256, .i32⟩
  | 34 => ⟨S128x256, .i32⟩
  | 35 => ⟨S128x256, .i32⟩
  | 36 => ⟨S_, .i32⟩
  | 37 => ⟨S128x256, .i32⟩
  | 38 => ⟨S128x256, .i1⟩
  | 39 => ⟨S_, .i32⟩
  | 40 => ⟨S128x256, .i32⟩
  | 41 => ⟨S128x256, .i1⟩
  | 42 => ⟨S128x256, .i1⟩
  | 43 => ⟨S_, .i32⟩
  | 44 => ⟨S64x256, .i32⟩
  | 45 => ⟨S64x256, .i32⟩
  | 46 => ⟨S64x256, .i32⟩
  | 47 => ⟨S64x256, .i32⟩
  | 48 => ⟨S64x256, .i32⟩
  | 49 => ⟨S64x256, .i1⟩
  | 50 => ⟨S64x128x256, .i1⟩
  | 51 => ⟨S64x128x256, .i1⟩
  | 52 => ⟨S64x128x256, .i1⟩
  | 53 => ⟨S2x4, .f32⟩
  | 54 => ⟨S2x128x4x256, .f32⟩
  | 55 => ⟨S128x256, .f32⟩
  | 56 => ⟨S2x128x4x256, .f32⟩
  | 57 => ⟨S2x128x4x256, .f32⟩
  | 58 => ⟨S64x2x128x4x256, .i1⟩
  | 59 => ⟨S64x2x128x4x256, .f32⟩
  | 60 => ⟨S64x2x128x4x256, .f32⟩
  | 61 => ⟨S_, .f32⟩
  | 62 => ⟨S64x2x128x4x256, .f32⟩
  | 63 => ⟨S64x2x128x4x256, .f32⟩
  | 64 => ⟨S_, .f32⟩
  | 65 => ⟨S64x2x128x4x256, .f32⟩
  | 66 => ⟨S2x4, .f32⟩
  | 67 => ⟨S64x2x128x4, .f32⟩
  | 68 => ⟨S_, .f32⟩
  | 69 => ⟨S64x2x128x4, .f32⟩
  | 70 => ⟨S64x2x128x4x1, .f32⟩
  | 71 => ⟨S64x2x128x4x256, .f32⟩
  | 72 => ⟨S64x2x128x4x256, .i1⟩
  | 73 => ⟨S64x2x128x4x256, .f32⟩
  | 74 => ⟨S_, .f32⟩
  | 75 => ⟨S64x2x128x4, .f32⟩
  | 76 => ⟨S64x2x128x4, .f32⟩
  | 77 => ⟨S64x2x128x4, .i1⟩
  | 78 => ⟨S64x2x128x4, .i1⟩
  | 79 => ⟨S_, .f32⟩
  | 80 => ⟨S64x2x128x4, .f32⟩
  | 81 => ⟨S_, .f32⟩
  | 82 => ⟨S64x2x128x4, .f32⟩
  | 83 => ⟨S_, .f32⟩
  | 84 => ⟨S64x2x128x4, .f32⟩
  | 85 => ⟨S64x2x128x4, .f32⟩
  | 86 => ⟨S64x2x128x4, .f32⟩
  | 87 => ⟨S64x2x128x4, .i1⟩
  | 88 => ⟨S64x2x128x4, .i1⟩
  | 89 => ⟨S_, .f32⟩
  | 90 => ⟨S64x2x128x4, .f32⟩
  | 91 => ⟨S_, .f32⟩
  | 92 => ⟨S64x2x128x4, .f32⟩
  | 93 => ⟨S_, .f32⟩
  | 94 => ⟨S64x2x128x4, .f32⟩
  | 95 => ⟨S64x2x128x4, .f32⟩
  | 96 => ⟨S64x2x128x4, .f32⟩
  | 97 => ⟨S64x2x128x4x256, .f32⟩
  | 98 => ⟨S64x2x128x4x256, .f32⟩
  | 99 => ⟨S64x2x128x4x256, .f32⟩
  | 100 => ⟨S_, .f32⟩
  | 101 => ⟨S64x2x128x4, .f32⟩
  | 102 => ⟨S64x2x128x4, .f32⟩
  | 103 => ⟨S64x2x128x4, .f32⟩
  | 104 => ⟨S64x2x128x4, .f32⟩
  | 105 => ⟨S64x2x128x4x256, .f32⟩
  | 106 => ⟨S64x2x128x4x256, .f32⟩
  | 107 => ⟨S64x2x128x4x256, .f32⟩
  | 108 => ⟨S_, .f32⟩
  | 109 => ⟨S64x2x128x4x256, .f32⟩
  | 110 => ⟨S64x2x128x4x256, .f32⟩
  | 111 => ⟨S64x2x128x4x64, .f32⟩
  | 112 => ⟨S64x128x2x4x64, .f32⟩
  | 113 => ⟨S8192x512, .f32⟩
  | 114 => ⟨S8192x512, .f32⟩
  | 115 => ⟨S8192x4x128, .f32⟩
  | 116 => ⟨S_, .f32⟩
  | 117 => ⟨S_, .f32⟩
  | 118 => ⟨S8192x4x128, .f32⟩
  | 119 => ⟨S_, .f32⟩
  | 120 => ⟨S16x4x128, .f32⟩
  | 121 => ⟨S8208x4x128, .f32⟩
  | 122 => ⟨S_, .f32⟩
  | 123 => ⟨S16x4x128, .f32⟩
  | 124 => ⟨S8192x1x128, .f32⟩
  | 125 => ⟨S8192x1x128, .f32⟩
  | 126 => ⟨S8192x1x128, .f32⟩
  | 127 => ⟨S8192x1x128, .f32⟩
  | _ => ⟨S8192x2304, .f32⟩

abbrev hbmTy0_1 (i : Nat) : BufTy := match i % 128 with
  | 0 => ⟨S8192x4x128, .f32⟩
  | 1 => ⟨S8193x4, .i32⟩
  | 2 => ⟨S8192x4, .i32⟩
  | 3 => ⟨S8192x4, .i32⟩
  | 4 => ⟨S8192x4, .i32⟩
  | 5 => ⟨S8192x4, .f32⟩
  | 6 => ⟨S8192x4x128, .f32⟩
  | 7 => ⟨S8192x4x128, .f32⟩
  | 8 => ⟨S8192x4x128, .f32⟩
  | 9 => ⟨S8192x4x128, .f32⟩
  | 10 => ⟨S4x8192x128, .f32⟩
  | 11 => ⟨S8192x4x128, .f32⟩
  | 12 => ⟨S8192x512, .f32⟩
  | 13 => ⟨S8192x512, .f32⟩
  | 14 => ⟨S8192x512, .f32⟩
  | 15 => ⟨S8192x512, .f32⟩
  | 16 => ⟨S8192x512, .f32⟩
  | 17 => ⟨S8192x1024, .f32⟩
  | 18 => ⟨S8192x1024, .f32⟩
  | 19 => ⟨S8192x1024, .f32⟩
  | 20 => ⟨S8192x1024, .f32⟩
  | 21 => ⟨S_, .f32⟩
  | 22 => ⟨S8192x1024, .f32⟩
  | 23 => ⟨S8192x1024, .f32⟩
  | 24 => ⟨S8192x1024, .f32⟩
  | 25 => ⟨S8192x1024, .f32⟩
  | 26 => ⟨S_, .f32⟩
  | 27 => ⟨S8192x1024, .f32⟩
  | 28 => ⟨S8192x1024, .f32⟩
  | 29 => ⟨S8192x1024, .f32⟩
  | 30 => ⟨S8192x1024, .f32⟩
  | 31 => ⟨S8192x1024, .f32⟩
  | 32 => ⟨S_, .f32⟩
  | 33 => ⟨S8192, .f32⟩
  | 34 => ⟨S8192x1, .f32⟩
  | 35 => ⟨S_, .f32⟩
  | 36 => ⟨S8192x1, .f32⟩
  | 37 => ⟨S8192x1, .f32⟩
  | 38 => ⟨S_, .f32⟩
  | 39 => ⟨S8192x1, .f32⟩
  | 40 => ⟨S8192x1, .f32⟩
  | 41 => ⟨S8192x1, .f32⟩
  | 42 => ⟨S8192x1, .f32⟩
  | 43 => ⟨S_, .f32⟩
  | 44 => ⟨S8192x1, .f32⟩
  | 45 => ⟨S8192x1, .f32⟩
  | 46 => ⟨S8192x1024, .f32⟩
  | 47 => ⟨S8192x1024, .f32⟩
  | 48 => ⟨S1x1024, .f32⟩
  | 49 => ⟨S8192x1024, .f32⟩
  | 50 => ⟨S8192x1024, .f32⟩
  | 51 => ⟨S8192x1024, .f32⟩
  | 52 => ⟨S_, .f32⟩
  | 53 => ⟨S1024, .f32⟩
  | 54 => ⟨S1x1024, .f32⟩
  | 55 => ⟨S8192x1024, .f32⟩
  | 56 => ⟨S8192x1024, .f32⟩
  | 57 => ⟨S_, .f32⟩
  | 58 => ⟨S1024, .f32⟩
  | 59 => ⟨S8192x1024, .f32⟩
  | 60 => ⟨S_, .f32⟩
  | 61 => ⟨S8192, .f32⟩
  | 62 => ⟨S8192x1, .f32⟩
  | 63 => ⟨S8192x1024, .f32⟩
  | 64 => ⟨S8192x1024, .f32⟩
  | 65 => ⟨S8192x1, .f32⟩
  | 66 => ⟨S_, .f32⟩
  | 67 => ⟨S8192x1, .f32⟩
  | 68 => ⟨S8192x1, .f32⟩
  | 69 => ⟨S_, .f32⟩
  | 70 => ⟨S8192, .f32⟩
  | 71 => ⟨S8192x1024, .f32⟩
  | 72 => ⟨S8192x1024, .f32⟩
  | 73 => ⟨S8192x1024, .f32⟩
  | 74 => ⟨S8192x1024, .f32⟩
  | 75 => ⟨S8192x1024, .f32⟩
  | 76 => ⟨S1024x1024, .f32⟩
  | 77 => ⟨S1024x1024, .f32⟩
  | 78 => ⟨S8192x1024, .f32⟩
  | 79 => ⟨S8192x1024, .f32⟩
  | 80 => ⟨S8192x1024, .f32⟩
  | 81 => ⟨S8192x1024, .f32⟩
  | 82 => ⟨S8192x1024, .f32⟩
  | 83 => ⟨S8192x1024, .f32⟩
  | 84 => ⟨S8192x1024, .f32⟩
  | 85 => ⟨S8192x1024, .f32⟩
  | 86 => ⟨S8192x1024, .f32⟩
  | 87 => ⟨S8192x1024, .f32⟩
  | 88 => ⟨S8192x512, .f32⟩
  | 89 => ⟨S8192x512, .f32⟩
  | 90 => ⟨S8192x512, .f32⟩
  | 91 => ⟨S8192x512, .f32⟩
  | 92 => ⟨S_, .f32⟩
  | 93 => ⟨S8192x2304, .f32⟩
  | 94 => ⟨S_, .f32⟩
  | 95 => ⟨S8192x2304, .f32⟩
  | 96 => ⟨S8192x2304, .f32⟩
  | 97 => ⟨S8192x512, .f32⟩
  | 98 => ⟨S8192x512, .f32⟩
  | 99 => ⟨S_, .f32⟩
  | 100 => ⟨S512, .f32⟩
  | 101 => ⟨S1x512, .f32⟩
  | 102 => ⟨S8192x4x128, .f32⟩
  | 103 => ⟨S4x8192x128, .f32⟩
  | 104 => ⟨S4x128x128, .f32⟩
  | 105 => ⟨S4x128x128, .f32⟩
  | 106 => ⟨S4x8192x128, .f32⟩
  | 107 => ⟨S8192x4x128, .f32⟩
  | 108 => ⟨S8192x4x128, .f32⟩
  | 109 => ⟨S8192x4x128, .f32⟩
  | 110 => ⟨S8192x4x128, .f32⟩
  | 111 => ⟨S8192x1x128, .f32⟩
  | 112 => ⟨S8192x1x128, .f32⟩
  | 113 => ⟨S8192x1x128, .f32⟩
  | 114 => ⟨S8192x1x128, .f32⟩
  | 115 => ⟨S_, .f32⟩
  | 116 => ⟨S8208x4x128, .f32⟩
  | 117 => ⟨S_, .f32⟩
  | 118 => ⟨S8208x4x128, .f32⟩
  | 119 => ⟨S8208x4x128, .f32⟩
  | 120 => ⟨S_, .f32⟩
  | 121 => ⟨S8208x4x128, .f32⟩
  | 122 => ⟨S8208x4x128, .f32⟩
  | 123 => ⟨S_, .f32⟩
  | 124 => ⟨S8208x4x128, .f32⟩
  | 125 => ⟨S8208x4x128, .f32⟩
  | 126 => ⟨S16x4x128, .f32⟩
  | 127 => ⟨S8192x4x128, .f32⟩
  | _ => ⟨S8192x2304, .f32⟩

abbrev hbmTy0_2 (i : Nat) : BufTy := match i % 128 with
  | 0 => ⟨S8192x4x128, .f32⟩
  | 1 => ⟨S_, .f32⟩
  | 2 => ⟨S_, .f32⟩
  | 3 => ⟨S8192x4x128, .f32⟩
  | 4 => ⟨S8192x4x128, .f32⟩
  | 5 => ⟨S8192x512, .f32⟩
  | 6 => ⟨S_, .f32⟩
  | 7 => ⟨S8192x2304, .f32⟩
  | 8 => ⟨S8192x2304, .f32⟩
  | 9 => ⟨S64x128x2x4x64, .f32⟩
  | 10 => ⟨S64x2x128x4x64, .f32⟩
  | 11 => ⟨S64x2x64x256, .f32⟩
  | 12 => ⟨S64x256x2x64, .f32⟩
  | 13 => ⟨S64x2x128x4x256, .f32⟩
  | 14 => ⟨S64x2x128x4x256, .f32⟩
  | 15 => ⟨S64x2x128x4x256, .f32⟩
  | 16 => ⟨S64x2x128x4x256, .f32⟩
  | 17 => ⟨S64x2x128x4x256, .f32⟩
  | 18 => ⟨S_, .f32⟩
  | 19 => ⟨S64x2x128x4, .f32⟩
  | 20 => ⟨S64x2x128x4, .f32⟩
  | 21 => ⟨S64x2x128x4, .f32⟩
  | 22 => ⟨S64x2x128x4x256, .f32⟩
  | 23 => ⟨S64x2x128x4x256, .f32⟩
  | 24 => ⟨S64x2x128x4x256, .f32⟩
  | 25 => ⟨S64x2x128x4x256, .f32⟩
  | 26 => ⟨S_, .f32⟩
  | 27 => ⟨S64x2x128x4, .f32⟩
  | 28 => ⟨S64x2x128x4, .f32⟩
  | 29 => ⟨S64x2x128x4, .f32⟩
  | 30 => ⟨S64x2x128x4, .f32⟩
  | 31 => ⟨S64x2x128x4, .f32⟩
  | 32 => ⟨S64x2x128x4, .f32⟩
  | 33 => ⟨S64x2x128x4x256, .f32⟩
  | 34 => ⟨S64x2x128x4x256, .f32⟩
  | 35 => ⟨S64x2x128x4x256, .f32⟩
  | 36 => ⟨S_, .f32⟩
  | 37 => ⟨S2x4, .f32⟩
  | 38 => ⟨S1x8, .f32⟩
  | 39 => ⟨S_, .f32⟩
  | 40 => ⟨S64x2x128x4x256, .f32⟩
  | 41 => ⟨S64x2x128x4x256, .f32⟩
  | 42 => ⟨S_, .f32⟩
  | 43 => ⟨S64x2x128x4x256, .f32⟩
  | 44 => ⟨S64x2x128x4x256, .f32⟩
  | 45 => ⟨S64x2x256x64, .f32⟩
  | 46 => ⟨S64x256x2x64, .f32⟩
  | 47 => ⟨S64x2x128x4x64, .f32⟩
  | 48 => ⟨S64x128x2x4x64, .f32⟩
  | 49 => ⟨S64x256x1x2x64, .f32⟩
  | 50 => ⟨S_, .f32⟩
  | 51 => ⟨S64x256x2x2x64, .f32⟩
  | 52 => ⟨S64x256x1x2x64, .f32⟩
  | 53 => ⟨S_, .f32⟩
  | 54 => ⟨S64x256x2x2x64, .f32⟩
  | 55 => ⟨S64x256x2x2x64, .f32⟩
  | 56 => ⟨S64x128x2x2x64, .f32⟩
  | 57 => ⟨S64x128x2x2x64, .f32⟩
  | 58 => ⟨S1x128x2x2x64, .f32⟩
  | 59 => ⟨S63x128x2x2x64, .f32⟩
  | 60 => ⟨S_, .f32⟩
  | 61 => ⟨S64x128x2x2x64, .f32⟩
  | 62 => ⟨S64x128x2x2x64, .f32⟩
  | 63 => ⟨S8192x256, .f32⟩
  | 64 => ⟨S_, .f32⟩
  | 65 => ⟨S8192x2304, .f32⟩
  | 66 => ⟨S8192x2304, .f32⟩
  | 67 => ⟨S8192x512, .f32⟩
  | 68 => ⟨S_, .f32⟩
  | 69 => ⟨S8192x2304, .f32⟩
  | 70 => ⟨S8192x2304, .f32⟩
  | 71 => ⟨S8192x2304, .bf16⟩
  | 72 => ⟨S8x1, .f32⟩
  | 73 => ⟨S8x128, .f32⟩
  | 74 => ⟨S512x128, .f32⟩
  | 75 => ⟨S1024x1024, .bf16⟩
  | 76 => ⟨S1x1024, .f32⟩
  | _ => ⟨S8192x2304, .f32⟩

abbrev hbmTy (i : Nat) : BufTy := match i / 128 with
  | 0 => hbmTy0_0 i
  | 1 => hbmTy0_1 i
  | 2 => hbmTy0_2 i
  | _ => ⟨S8192x2304, .f32⟩

abbrev bufTy : (tb : Table) → Fin (tcTables nBuf tb) → BufTy
  | .hbm, ⟨i, _⟩ => hbmTy i
  | _, _ => ⟨S8192x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_3 : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_9 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_10 : Ref sig .tc := ⟨.hbm, 79, rfl⟩
abbrev main_v60 : Ref sig .tc := ⟨.hbm, 80, rfl⟩
abbrev main_cst_11 : Ref sig .tc := ⟨.hbm, 81, rfl⟩
abbrev main_v61 : Ref sig .tc := ⟨.hbm, 82, rfl⟩
abbrev main_cst_12 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_13 : Ref sig .tc := ⟨.hbm, 89, rfl⟩
abbrev main_v67 : Ref sig .tc := ⟨.hbm, 90, rfl⟩
abbrev main_cst_14 : Ref sig .tc := ⟨.hbm, 91, rfl⟩
abbrev main_v68 : Ref sig .tc := ⟨.hbm, 92, rfl⟩
abbrev main_cst_15 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_16 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_17 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_call0_call0_cst : Ref sig .tc := ⟨.hbm, 116, rfl⟩
abbrev main_call0_call0_v0 : Ref sig .tc := ⟨.hbm, 117, rfl⟩
abbrev main_v89 : Ref sig .tc := ⟨.hbm, 118, rfl⟩
abbrev main_cst_18 : Ref sig .tc := ⟨.hbm, 119, rfl⟩
abbrev main_v90 : Ref sig .tc := ⟨.hbm, 120, rfl⟩
abbrev main_v91 : Ref sig .tc := ⟨.hbm, 121, rfl⟩
abbrev main_cst_19 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_cst_20 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_cst_21 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_cst_22 : Ref sig .tc := ⟨.hbm, 160, rfl⟩
abbrev main_v127 : Ref sig .tc := ⟨.hbm, 161, rfl⟩
abbrev main_v128 : Ref sig .tc := ⟨.hbm, 162, rfl⟩
abbrev main_cst_23 : Ref sig .tc := ⟨.hbm, 163, rfl⟩
abbrev main_v129 : Ref sig .tc := ⟨.hbm, 164, rfl⟩
abbrev main_v130 : Ref sig .tc := ⟨.hbm, 165, rfl⟩
abbrev main_cst_24 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_cst_25 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_cst_26 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_cst_27 : Ref sig .tc := ⟨.hbm, 185, rfl⟩
abbrev main_v147 : Ref sig .tc := ⟨.hbm, 186, rfl⟩
abbrev main_v148 : Ref sig .tc := ⟨.hbm, 187, rfl⟩
abbrev main_cst_28 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_cst_29 : Ref sig .tc := ⟨.hbm, 194, rfl⟩
abbrev main_v154 : Ref sig .tc := ⟨.hbm, 195, rfl⟩
abbrev main_v155 : Ref sig .tc := ⟨.hbm, 196, rfl⟩
abbrev main_cst_30 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_cst_31 : Ref sig .tc := ⟨.hbm, 220, rfl⟩
abbrev main_v178 : Ref sig .tc := ⟨.hbm, 221, rfl⟩
abbrev main_cst_32 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_cst_33 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_cst_34 : Ref sig .tc := ⟨.hbm, 243, rfl⟩
abbrev main_v198 : Ref sig .tc := ⟨.hbm, 244, rfl⟩
abbrev main_cst_35 : Ref sig .tc := ⟨.hbm, 245, rfl⟩
abbrev main_v199 : Ref sig .tc := ⟨.hbm, 246, rfl⟩
abbrev main_v200 : Ref sig .tc := ⟨.hbm, 247, rfl⟩
abbrev main_cst_36 : Ref sig .tc := ⟨.hbm, 248, rfl⟩
abbrev main_v201 : Ref sig .tc := ⟨.hbm, 249, rfl⟩
abbrev main_v202 : Ref sig .tc := ⟨.hbm, 250, rfl⟩
abbrev main_cst_37 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_v206 : Ref sig .tc := ⟨.hbm, 255, rfl⟩
abbrev main_v207 : Ref sig .tc := ⟨.hbm, 256, rfl⟩
abbrev main_call1_call0_cst : Ref sig .tc := ⟨.hbm, 257, rfl⟩
abbrev main_call1_call0_v0 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_cst_38 : Ref sig .tc := ⟨.hbm, 262, rfl⟩
abbrev main_v211 : Ref sig .tc := ⟨.hbm, 263, rfl⟩
abbrev main_v212 : Ref sig .tc := ⟨.hbm, 264, rfl⟩
abbrev main_v213 : Ref sig .tc := ⟨.hbm, 265, rfl⟩
abbrev main_v214 : Ref sig .tc := ⟨.hbm, 266, rfl⟩
abbrev main_v215 : Ref sig .tc := ⟨.hbm, 267, rfl⟩
abbrev main_v216 : Ref sig .tc := ⟨.hbm, 268, rfl⟩
abbrev main_v217 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_v221 : Ref sig .tc := ⟨.hbm, 273, rfl⟩
abbrev main_cst_39 : Ref sig .tc := ⟨.hbm, 274, rfl⟩
abbrev main_v222 : Ref sig .tc := ⟨.hbm, 275, rfl⟩
abbrev main_v223 : Ref sig .tc := ⟨.hbm, 276, rfl⟩
abbrev main_v224 : Ref sig .tc := ⟨.hbm, 277, rfl⟩
abbrev main_v225 : Ref sig .tc := ⟨.hbm, 278, rfl⟩
abbrev main_v226 : Ref sig .tc := ⟨.hbm, 279, rfl⟩
abbrev main_v227 : Ref sig .tc := ⟨.hbm, 280, rfl⟩
abbrev main_v228 : Ref sig .tc := ⟨.hbm, 281, rfl⟩
abbrev main_cst_40 : Ref sig .tc := ⟨.hbm, 282, rfl⟩
abbrev main_v229 : Ref sig .tc := ⟨.hbm, 283, rfl⟩
abbrev main_v230 : Ref sig .tc := ⟨.hbm, 284, rfl⟩
abbrev main_v231 : Ref sig .tc := ⟨.hbm, 285, rfl⟩
abbrev main_v232 : Ref sig .tc := ⟨.hbm, 286, rfl⟩
abbrev main_v233 : Ref sig .tc := ⟨.hbm, 287, rfl⟩
abbrev main_v234 : Ref sig .tc := ⟨.hbm, 288, rfl⟩
abbrev main_v235 : Ref sig .tc := ⟨.hbm, 289, rfl⟩
abbrev main_v236 : Ref sig .tc := ⟨.hbm, 290, rfl⟩
abbrev main_v237 : Ref sig .tc := ⟨.hbm, 291, rfl⟩
abbrev main_cst_41 : Ref sig .tc := ⟨.hbm, 292, rfl⟩
abbrev main_v238 : Ref sig .tc := ⟨.hbm, 293, rfl⟩
abbrev main_v239 : Ref sig .tc := ⟨.hbm, 294, rfl⟩
abbrev main_cst_42 : Ref sig .tc := ⟨.hbm, 295, rfl⟩
abbrev main_v240 : Ref sig .tc := ⟨.hbm, 296, rfl⟩
abbrev main_v241 : Ref sig .tc := ⟨.hbm, 297, rfl⟩
abbrev main_cst_43 : Ref sig .tc := ⟨.hbm, 298, rfl⟩
abbrev main_v242 : Ref sig .tc := ⟨.hbm, 299, rfl⟩
abbrev main_v243 : Ref sig .tc := ⟨.hbm, 300, rfl⟩
abbrev main_v244 : Ref sig .tc := ⟨.hbm, 301, rfl⟩
abbrev main_v245 : Ref sig .tc := ⟨.hbm, 302, rfl⟩
abbrev main_v246 : Ref sig .tc := ⟨.hbm, 303, rfl⟩
abbrev main_v247 : Ref sig .tc := ⟨.hbm, 304, rfl⟩
abbrev main_v248 : Ref sig .tc := ⟨.hbm, 305, rfl⟩
abbrev main_cst_44 : Ref sig .tc := ⟨.hbm, 306, rfl⟩
abbrev main_v249 : Ref sig .tc := ⟨.hbm, 307, rfl⟩
abbrev main_v250 : Ref sig .tc := ⟨.hbm, 308, rfl⟩
abbrev main_cst_45 : Ref sig .tc := ⟨.hbm, 309, rfl⟩
abbrev main_v251 : Ref sig .tc := ⟨.hbm, 310, rfl⟩
abbrev main_v252 : Ref sig .tc := ⟨.hbm, 311, rfl⟩
abbrev main_v253 : Ref sig .tc := ⟨.hbm, 312, rfl⟩
abbrev main_v254 : Ref sig .tc := ⟨.hbm, 313, rfl⟩
abbrev main_v255 : Ref sig .tc := ⟨.hbm, 314, rfl⟩
abbrev main_v256 : Ref sig .tc := ⟨.hbm, 315, rfl⟩
abbrev main_cst_46 : Ref sig .tc := ⟨.hbm, 316, rfl⟩
abbrev main_v257 : Ref sig .tc := ⟨.hbm, 317, rfl⟩
abbrev main_v258 : Ref sig .tc := ⟨.hbm, 318, rfl⟩
abbrev main_v259 : Ref sig .tc := ⟨.hbm, 319, rfl⟩
abbrev main_cst_47 : Ref sig .tc := ⟨.hbm, 320, rfl⟩
abbrev main_v260 : Ref sig .tc := ⟨.hbm, 321, rfl⟩
abbrev main_v261 : Ref sig .tc := ⟨.hbm, 322, rfl⟩
abbrev main_v262 : Ref sig .tc := ⟨.hbm, 323, rfl⟩
abbrev main_cst_48 : Ref sig .tc := ⟨.hbm, 324, rfl⟩
abbrev main_v263 : Ref sig .tc := ⟨.hbm, 325, rfl⟩
abbrev main_v264 : Ref sig .tc := ⟨.hbm, 326, rfl⟩
abbrev main_v265 : Ref sig .tc := ⟨.hbm, 327, rfl⟩
abbrev main_v266 : Ref sig .tc := ⟨.hbm, 328, rfl⟩
abbrev main_v267 : Ref sig .tc := ⟨.hbm, 329, rfl⟩
abbrev main_v268 : Ref sig .tc := ⟨.hbm, 330, rfl⟩
abbrev main_v269 : Ref sig .tc := ⟨.hbm, 331, rfl⟩
abbrev main_v270 : Ref sig .tc := ⟨.hbm, 332, rfl⟩

abbrev nD : Nat := 1
abbrev τ : Topo := Topo.v7x

variable {F : FTy → Type} [FloatOps F]
-- ==== NpKernel.lean ====
abbrev S8192x1024 : Shape := ⟨2, ![8192, 1024]⟩
abbrev S2x1024 : Shape := ⟨2, ![2, 1024]⟩
abbrev S1x1024x3072 : Shape := ⟨3, ![1, 1024, 3072]⟩
abbrev S1024x3072 : Shape := ⟨2, ![1024, 3072]⟩
abbrev S3072x1024 : Shape := ⟨2, ![3072, 1024]⟩
abbrev S1x1024 : Shape := ⟨2, ![1, 1024]⟩
abbrev S8192x3072 : Shape := ⟨2, ![8192, 3072]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .hbm, ⟨2, _⟩ => ⟨S1x1024x3072, .f32⟩
  | .hbm, ⟨3, _⟩ => ⟨S1024x3072, .f32⟩
  | .hbm, ⟨4, _⟩ => ⟨S3072x1024, .f32⟩
  | .hbm, ⟨5, _⟩ => ⟨S3072x1024, .bf16⟩
  | .hbm, ⟨6, _⟩ => ⟨S1x1024, .f32⟩
  | .hbm, ⟨7, _⟩ => ⟨S8192x3072, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S3072x1024, .bf16⟩
  | .local _ .vmem, ⟨4, _⟩ => ⟨S1024x3072, .f32⟩
  | .local _ .vmem, ⟨5, _⟩ => ⟨S1024x3072, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NpReferenceIdeal.lean ====
abbrev S8192x1024 : Shape := ⟨2, ![8192, 1024]⟩
abbrev S2x1024 : Shape := ⟨2, ![2, 1024]⟩
abbrev S1x1024x3072 : Shape := ⟨3, ![1, 1024, 3072]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x3072 : Shape := ⟨2, ![1024, 3072]⟩
abbrev S8192x3072 : Shape := ⟨2, ![8192, 3072]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .hbm, ⟨2, _⟩ => ⟨S1x1024x3072, .f32⟩
  | .hbm, ⟨3, _⟩ => ⟨S1x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S1024x3072, .f32⟩
  | .hbm, ⟨22, _⟩ => ⟨S8192x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== FwKernel.lean ====
abbrev S8192x2304 : Shape := ⟨2, ![8192, 2304]⟩
abbrev S1x8 : Shape := ⟨2, ![1, 8]⟩
abbrev S1x4x128x128 : Shape := ⟨4, ![1, 4, 128, 128]⟩
abbrev S1x512 : Shape := ⟨2, ![1, 512]⟩
abbrev S1x1024x1024 : Shape := ⟨3, ![1, 1024, 1024]⟩
abbrev S8192x1024 : Shape := ⟨2, ![8192, 1024]⟩
abbrev S2x1024 : Shape := ⟨2, ![2, 1024]⟩
abbrev S4x128x128 : Shape := ⟨3, ![4, 128, 128]⟩
abbrev S1024x1024 : Shape := ⟨2, ![1024, 1024]⟩
abbrev S1x1024 : Shape := ⟨2, ![1, 1024]⟩
abbrev S512x2304 : Shape := ⟨2, ![512, 2304]⟩
abbrev S128x2304 : Shape := ⟨2, ![128, 2304]⟩
abbrev S512x1024 : Shape := ⟨2, ![512, 1024]⟩
abbrev S640x256 : Shape := ⟨2, ![640, 256]⟩
abbrev S2x512x256 : Shape := ⟨3, ![2, 512, 256]⟩
abbrev S1x256 : Shape := ⟨2, ![1, 256]⟩
abbrev S512x256 : Shape := ⟨2, ![512, 256]⟩
abbrev S512x1 : Shape := ⟨2, ![512, 1]⟩
abbrev S1x512x256 : Shape := ⟨3, ![1, 512, 256]⟩
abbrev S128x256 : Shape := ⟨2, ![128, 256]⟩
abbrev S128x512 : Shape := ⟨2, ![128, 512]⟩
abbrev S256x128 : Shape := ⟨2, ![256, 128]⟩
abbrev S256x256 : Shape := ⟨2, ![256, 256]⟩
abbrev S1x1 : Shape := ⟨2, ![1, 1]⟩
abbrev S512x128 : Shape := ⟨2, ![512, 128]⟩
abbrev S512 : Shape := ⟨1, ![512]⟩
abbrev S16x128 : Shape := ⟨2, ![16, 128]⟩
abbrev S528x128 : Shape := ⟨2, ![528, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 14
  | .vmem => 18
  | .smem => 1
  | _ => 0

abbrev bufTy : (tb : Table) → Fin (tcTables nBuf tb) → BufTy
  | .hbm, ⟨0, _⟩ => ⟨S8192x2304, .f32⟩
  | .hbm, ⟨1, _⟩ => ⟨S1x8, .f32⟩
  | .hbm, ⟨2, _⟩ => ⟨S1x4x128x128, .f32⟩
  | .hbm, ⟨3, _⟩ => ⟨S1x512, .f32⟩
  | .hbm, ⟨4, _⟩ => ⟨S1x1024x1024, .f32⟩
  | .hbm, ⟨5, _⟩ => ⟨S8192x1024, .f32⟩
  | .hbm, ⟨6, _⟩ => ⟨S2x1024, .f32⟩
  | .hbm, ⟨7, _⟩ => ⟨S4x128x128, .f32⟩
  | .hbm, ⟨8, _⟩ => ⟨S1024x1024, .f32⟩
  | .hbm, ⟨9, _⟩ => ⟨S1024x1024, .bf16⟩
  | .hbm, ⟨10, _⟩ => ⟨S1x1024, .f32⟩
  | .hbm, ⟨11, _⟩ => ⟨S8192x1024, .bf16⟩
  | .hbm, ⟨12, _⟩ => ⟨S8192x1024, .f32⟩
  | .hbm, ⟨13, _⟩ => ⟨S8192x1024, .f32⟩
  | .local _ .vmem, ⟨0, _⟩ => ⟨S512x2304, .f32⟩
  | .local _ .vmem, ⟨1, _⟩ => ⟨S512x2304, .f32⟩
  | .local _ .vmem, ⟨2, _⟩ => ⟨S128x2304, .f32⟩
  | .local _ .vmem, ⟨3, _⟩ => ⟨S128x2304, .f32⟩
  | .local _ .vmem, ⟨4, _⟩ => ⟨S4x128x128, .f32⟩
  | .local _ .vmem, ⟨5, _⟩ => ⟨S1x512, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S640x256, .f32⟩
  | .local _ .vmem, ⟨17, _⟩ => ⟨S2x512x256, .f32⟩
  | .local _ .smem, ⟨0, _⟩ => ⟨S1x8, .f32⟩
  | _, _ => ⟨S8192x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def k0_mult1 : BitVec 32 :=
  let c0_i32_34 : BitVec 32 := 0#32
  let c128_i32 : BitVec 32 := 128#32
  let v117 : BitVec 32 := Scalar.muli c0_i32_34 c128_i32
  v117
def k0_off1 (c0_i32_34 : BitVec 32) : Fin 2 → Nat :=
  let c128_i32 : BitVec 32 := 128#32
  let v117 : BitVec 32 := Scalar.muli c0_i32_34 c128_i32
  let v118 : BitVec 32 := v117
  let v121 : Index := Scalar.indexCast v118
  let c0_36 : Index := 0#32
  ![v121.toNat, 0]
def k0_off2 (c0_i32_34 : BitVec 32) : Fin 2 → Nat :=
  let c128_i32 : BitVec 32 := 128#32
  let v117 : BitVec 32 := Scalar.muli c0_i32_34 c128_i32
  let v118 : BitVec 32 := v117
  let v123 : Index := Scalar.indexCast v118
  let c768 : Index := 768#32
  ![v123.toNat, 768]
def k0_off3 (c0_i32_34 : BitVec 32) : Fin 2 → Nat :=
  let c128_i32 : BitVec 32 := 128#32
  let v117 : BitVec 32 := Scalar.muli c0_i32_34 c128_i32
  let v118 : BitVec 32 := v117
  let v125 : Index := Scalar.indexCast v118
  let c0_37 : Index := 0#32
  ![v125.toNat, 0]
def k0_off4 (c0_i32_34 : BitVec 32) : Fin 2 → Nat :=
  let c128_i32 : BitVec 32 := 128#32
  let v117 : BitVec 32 := Scalar.muli c0_i32_34 c128_i32
  let v118 : BitVec 32 := v117
  let v127 : Index := Scalar.indexCast v118
  let c128_38 : Index := 128#32
  ![v127.toNat, 128]
def k0_off5 (c0_i32_34 : BitVec 32) : Fin 2 → Nat :=
  let c128_i32 : BitVec 32 := 128#32
  let v117 : BitVec 32 := Scalar.muli c0_i32_34 c128_i32
  let v118 : BitVec 32 := v117
  let v381 : Index := Scalar.indexCast v118
  let c0_114 : Index := 0#32
  ![v381.toNat, 0]
def k0_mult2 : BitVec 32 :=
  let c1_i32_115 : BitVec 32 := 1#32
  let c128_i32_116 : BitVec 32 := 128#32
  let v383 : BitVec 32 := Scalar.muli c1_i32_115 c128_i32_116
  v383
def k0_mult3 : BitVec 32 :=
  let c2_i32_206 : BitVec 32 := 2#32
  let c128_i32_207 : BitVec 32 := 128#32
  let v649 : BitVec 32 := Scalar.muli c2_i32_206 c128_i32_207
  v649
def k0_mult4 : BitVec 32 :=
  let c3_i32_297 : BitVec 32 := 3#32
  let c128_i32_298 : BitVec 32 := 128#32
  let v915 : BitVec 32 := Scalar.muli c3_i32_297 c128_i32_298
  v915
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FwKernelIdeal.lean ====
variable {F : FTy → Type} [FloatOps F] [Named F]
def κ : String → Option EReal := fun
  | "mask" => some ⊥
  | _ => none
-- ==== FwReferenceIdeal.lean ====
abbrev S8192x2304 : Shape := ⟨2, ![8192, 2304]⟩
abbrev S1x8 : Shape := ⟨2, ![1, 8]⟩
abbrev S1x4x128x128 : Shape := ⟨4, ![1, 4, 128, 128]⟩
abbrev S1x512 : Shape := ⟨2, ![1, 512]⟩
abbrev S1x1024x1024 : Shape := ⟨3, ![1, 1024, 1024]⟩
abbrev S8192x1024 : Shape := ⟨2, ![8192, 1024]⟩
abbrev S2x1024 : Shape := ⟨2, ![2, 1024]⟩
abbrev S8 : Shape := ⟨1, ![8]⟩
abbrev S4 : Shape := ⟨1, ![4]⟩
abbrev S4x128x128 : Shape := ⟨3, ![4, 128, 128]⟩
abbrev S8192x512 : Shape := ⟨2, ![8192, 512]⟩
abbrev S64x128x2x4x64 : Shape := ⟨5, ![64, 128, 2, 4, 64]⟩
abbrev S8192x256 : Shape := ⟨2, ![8192, 256]⟩
abbrev S64x128x2x2x64 : Shape := ⟨5, ![64, 128, 2, 2, 64]⟩
abbrev S_ : Shape := ⟨0, ![]⟩
abbrev S1x128x2x2x64 : Shape := ⟨5, ![1, 128, 2, 2, 64]⟩
abbrev S63x128x2x2x64 : Shape := ⟨5, ![63, 128, 2, 2, 64]⟩
abbrev S64x256x2x2x64 : Shape := ⟨5, ![64, 256, 2, 2, 64]⟩
abbrev S64x256x1x2x64 : Shape := ⟨5, ![64, 256, 1, 2, 64]⟩
abbrev S64x256x2x64 : Shape := ⟨4, ![64, 256, 2, 64]⟩
abbrev S64x2x128x4x256 : Shape := ⟨5, ![64, 2, 128, 4, 256]⟩
abbrev S256x256 : Shape := ⟨2, ![256, 256]⟩
abbrev S128x256 : Shape := ⟨2, ![128, 256]⟩
abbrev S64x256 : Shape := ⟨2, ![64, 256]⟩
abbrev S64x128x256 : Shape := ⟨3, ![64, 128, 256]⟩
abbrev S2x4 : Shape := ⟨2, ![2, 4]⟩
abbrev S2x128x4x256 : Shape := ⟨4, ![2, 128, 4, 256]⟩
abbrev S64x2x128x4 : Shape := ⟨4, ![64, 2, 128, 4]⟩
abbrev S64x2x128x4x64 : Shape := ⟨5, ![64, 2, 128, 4, 64]⟩
abbrev S8192x4x128 : Shape := ⟨3, ![8192, 4, 128]⟩
abbrev S16x4x128 : Shape := ⟨3, ![16, 4, 128]⟩
abbrev S8208x4x128 : Shape := ⟨3, ![8208, 4, 128]⟩
abbrev S8192x1x128 : Shape := ⟨3, ![8192, 1, 128]⟩
abbrev S8193x4 : Shape := ⟨2, ![8193, 4]⟩
abbrev S8192x4 : Shape := ⟨2, ![8192, 4]⟩
abbrev S4x8192x128 : Shape := ⟨3, ![4, 8192, 128]⟩
abbrev S1024x1024 : Shape := ⟨2, ![1024, 1024]⟩
abbrev S1x1024 : Shape := ⟨2, ![1, 1024]⟩
abbrev S1024 : Shape := ⟨1, ![1024]⟩
abbrev S8192 : Shape := ⟨1, ![8192]⟩
abbrev S8192x1 : Shape := ⟨2, ![8192, 1]⟩

abbrev nBuf : Space → Nat
  | .hbm => 137
  | .vmem => 0
  | .smem => 0
  | _ => 0

abbrev hbmTy0_0 (i : Nat) : BufTy := match i % 128 with
  | 0 => ⟨S8192x2304, .f32⟩
  | 1 => ⟨S1x8, .f32⟩
  | 2 => ⟨S1x4x128x128, .f32⟩
  | 3 => ⟨S1x512, .f32⟩
  | 4 => ⟨S1x1024x1024, .f32⟩
  | 5 => ⟨S8192x1024, .f32⟩
  | 6 => ⟨S2x1024, .f32⟩
  | 7 => ⟨S8, .f32⟩
  | 8 => ⟨S4, .i32⟩
  | 9 => ⟨S4x128x128, .f32⟩
  | 10 => ⟨S8192x512, .f32⟩
  | 11 => ⟨S64x128x2x4x64, .f32⟩
  | 12 => ⟨S8192x256, .f32⟩
  | 13 => ⟨S64x128x2x2x64, .f32⟩
  | 14 => ⟨S_, .f32⟩
  | 15 => ⟨S1x128x2x2x64, .f32⟩
  | 16 => ⟨S63x128x2x2x64, .f32⟩
  | 17 => ⟨S64x128x2x2x64, .f32⟩
  | 18 => ⟨S64x256x2x2x64, .f32⟩
  | 19 => ⟨S64x256x1x2x64, .f32⟩
  | 20 => ⟨S64x256x2x64, .f32⟩
  | 21 => ⟨S64x256x1x2x64, .f32⟩
  | 22 => ⟨S64x256x2x64, .f32⟩
  | 23 => ⟨S64x2x128x4x256, .f32⟩
  | 24 => ⟨S_, .f32⟩
  | 25 => ⟨S64x2x128x4x256, .f32⟩
  | 26 => ⟨S64x2x128x4x256, .f32⟩
  | 27 => ⟨S256x256, .i32⟩
  | 28 => ⟨S128x256, .i32⟩
  | 29 => ⟨S128x256, .i32⟩
  | 30 => ⟨S128x256, .i32⟩
  | 31 => ⟨S_, .i32⟩
  | 32 => ⟨S128x256, .i32⟩
  | 33 => ⟨S128x256, .i1⟩
  | 34 => ⟨S_, .i32⟩
  | 35 => ⟨S128x256, .i32⟩
  | 36 => ⟨S128x256, .i1⟩
  | 37 => ⟨S128x256, .i1⟩
  | 38 => ⟨S_, .i32⟩
  | 39 => ⟨S64x256, .i32⟩
  | 40 => ⟨S64x256, .i32⟩
  | 41 => ⟨S64x256, .i32⟩
  | 42 => ⟨S64x256, .i32⟩
  | 43 => ⟨S64x256, .i32⟩
  | 44 => ⟨S64x256, .i1⟩
  | 45 => ⟨S64x128x256, .i1⟩
  | 46 => ⟨S64x128x256, .i1⟩
  | 47 => ⟨S64x128x256, .i1⟩
  | 48 => ⟨S2x4, .f32⟩
  | 49 => ⟨S2x128x4x256, .f32⟩
  | 50 => ⟨S128x256, .f32⟩
  | 51 => ⟨S2x128x4x256, .f32⟩
  | 52 => ⟨S2x128x4x256, .f32⟩
  | 53 => ⟨S64x2x128x4x256, .i1⟩
  | 54 => ⟨S64x2x128x4x256, .f32⟩
  | 55 => ⟨S64x2x128x4x256, .f32⟩
  | 56 => ⟨S_, .f32⟩
  | 57 => ⟨S64x2x128x4x256, .f32⟩
  | 58 => ⟨S64x2x128x4x256, .f32⟩
  | 59 => ⟨S2x4, .f32⟩
  | 60 => ⟨S64x2x128x4, .f32⟩
  | 61 => ⟨S_, .f32⟩
  | 62 => ⟨S64x2x128x4, .f32⟩
  | 63 => ⟨S64x2x128x4, .f32⟩
  | 64 => ⟨S64x2x128x4x256, .f32⟩
  | 65 => ⟨S64x2x128x4x256, .f32⟩
  | 66 => ⟨S64x2x128x4x256, .f32⟩
  | 67 => ⟨S_, .f32⟩
  | 68 => ⟨S64x2x128x4, .f32⟩
  | 69 => ⟨S64x2x128x4, .f32⟩
  | 70 => ⟨S64x2x128x4, .f32⟩
  | 71 => ⟨S64x2x128x4, .f32⟩
  | 72 => ⟨S64x2x128x4x256, .f32⟩
  | 73 => ⟨S64x2x128x4x256, .f32⟩
  | 74 => ⟨S64x2x128x4x64, .f32⟩
  | 75 => ⟨S64x128x2x4x64, .f32⟩
  | 76 => ⟨S8192x512, .f32⟩
  | 77 => ⟨S8192x512, .f32⟩
  | 78 => ⟨S8192x4x128, .f32⟩
  | 79 => ⟨S_, .f32⟩
  | 80 => ⟨S_, .f32⟩
  | 81 => ⟨S8192x4x128, .f32⟩
  | 82 => ⟨S_, .f32⟩
  | 83 => ⟨S16x4x128, .f32⟩
  | 84 => ⟨S8208x4x128, .f32⟩
  | 85 => ⟨S8192x1x128, .f32⟩
  | 86 => ⟨S8192x1x128, .f32⟩
  | 87 => ⟨S8192x1x128, .f32⟩
  | 88 => ⟨S8192x1x128, .f32⟩
  | 89 => ⟨S8192x4x128, .f32⟩
  | 90 => ⟨S8193x4, .i32⟩
  | 91 => ⟨S8192x4, .i32⟩
  | 92 => ⟨S8192x4, .i32⟩
  | 93 => ⟨S8192x4, .i32⟩
  | 94 => ⟨S8192x4, .f32⟩
  | 95 => ⟨S8192x4x128, .f32⟩
  | 96 => ⟨S8192x4x128, .f32⟩
  | 97 => ⟨S8192x4x128, .f32⟩
  | 98 => ⟨S8192x4x128, .f32⟩
  | 99 => ⟨S4x8192x128, .f32⟩
  | 100 => ⟨S8192x4x128, .f32⟩
  | 101 => ⟨S8192x512, .f32⟩
  | 102 => ⟨S8192x512, .f32⟩
  | 103 => ⟨S8192x512, .f32⟩
  | 104 => ⟨S8192x512, .f32⟩
  | 105 => ⟨S8192x512, .f32⟩
  | 106 => ⟨S8192x1024, .f32⟩
  | 107 => ⟨S8192x1024, .f32⟩
  | 108 => ⟨S8192x1024, .f32⟩
  | 109 => ⟨S8192x1024, .f32⟩
  | 110 => ⟨S_, .f32⟩
  | 111 => ⟨S8192x1024, .f32⟩
  | 112 => ⟨S8192x1024, .f32⟩
  | 113 => ⟨S8192x1024, .f32⟩
  | 114 => ⟨S8192x1024, .f32⟩
  | 115 => ⟨S1024x1024, .f32⟩
  | 116 => ⟨S8192x1024, .f32⟩
  | 117 => ⟨S8192x1024, .bf16⟩
  | 118 => ⟨S1x1024, .f32⟩
  | 119 => ⟨S1024, .f32⟩
  | 120 => ⟨S8192x1024, .f32⟩
  | 121 => ⟨S_, .f32⟩
  | 122 => ⟨S8192, .f32⟩
  | 123 => ⟨S8192x1, .f32⟩
  | 124 => ⟨S_, .f32⟩
  | 125 => ⟨S8192x1, .f32⟩
  | 126 => ⟨S8192x1, .f32⟩
  | 127 => ⟨S_, .f32⟩
  | _ => ⟨S8192x2304, .f32⟩

abbrev hbmTy0_1 (i : Nat) : BufTy := match i % 128 with
  | 0 => ⟨S8192x1, .f32⟩
  | 1 => ⟨S8192x1, .f32⟩
  | 2 => ⟨S8192x1, .f32⟩
  | 3 => ⟨S8192x1024, .f32⟩
  | 4 => ⟨S8192x1024, .f32⟩
  | 5 => ⟨S1x1024, .f32⟩
  | 6 => ⟨S8192x1024, .f32⟩
  | 7 => ⟨S8192x1024, .f32⟩
  | 8 => ⟨S8192x1024, .f32⟩
  | _ => ⟨S8192x2304, .f32⟩

abbrev hbmTy (i : Nat) : BufTy := match i / 128 with
  | 0 => hbmTy0_0 i
  | 1 => hbmTy0_1 i
  | _ => ⟨S8192x2304, .f32⟩

abbrev bufTy : (tb : Table) → Fin (tcTables nBuf tb) → BufTy
  | .hbm, ⟨i, _⟩ => hbmTy i
  | _, _ => ⟨S8192x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_7 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_call0_call0_cst : Ref sig .tc := ⟨.hbm, 79, rfl⟩
abbrev main_call0_call0_v0 : Ref sig .tc := ⟨.hbm, 80, rfl⟩
abbrev main_v62 : Ref sig .tc := ⟨.hbm, 81, rfl⟩
abbrev main_cst_8 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_cst_9 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_cst_10 : Ref sig .tc := ⟨.hbm, 121, rfl⟩
abbrev main_v100 : Ref sig .tc := ⟨.hbm, 122, rfl⟩
abbrev main_v101 : Ref sig .tc := ⟨.hbm, 123, rfl⟩
abbrev main_cst_11 : Ref sig .tc := ⟨.hbm, 124, rfl⟩
abbrev main_v102 : Ref sig .tc := ⟨.hbm, 125, rfl⟩
abbrev main_v103 : Ref sig .tc := ⟨.hbm, 126, rfl⟩
abbrev main_cst_12 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩

abbrev nD : Nat := 1
abbrev τ : Topo := Topo.v7x

variable {F : FTy → Type} [FloatOps F]
-- ==== Proof.RealLift.lean ====
/- Lifting extended-real expressions of finite arguments to the reals. -/
module

public import Idealize.ShloMosaic.PureOps.Ideal
public import Idealize.ShloMosaic.Lib.Pointwise

@[expose] public section

noncomputable section

namespace Cert.Proof.RealLift

open Idealize.ShloMosaic

/-- An extended real whose absolute value lies below infinity is a real. -/
theorem real_of_abs_lt {x : EReal} (h : max x (-x) < ⊤) : ∃ r : ℝ, x = (r : EReal) := by
  induction x using EReal.rec with
  | bot => simp at h
  | top => simp at h
  | coe r => exact ⟨r, rfl⟩

/-- The cast of a finite sum of reals is the sum of the casts. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Dividing two reals, the divisor not zero. -/
theorem div_coe_coe (a b : ℝ) (h : b ≠ 0) : Ideal.div (a : EReal) (b : EReal) = ((a / b : ℝ) : EReal) := by
  rw [Ideal.div_coe h, ← EReal.coe_mul, mul_one_div]

/-- The reciprocal square root of a positive real. -/
theorem rsqrt_pos (a : ℝ) (h : 0 < a) : Ideal.rsqrt (a : EReal) = (((Real.sqrt a)⁻¹ : ℝ) : EReal) := by
  rw [Ideal.rsqrt_coe, if_neg (not_lt.mpr h.le), if_neg h.ne']

/-- The number the norm's epsilon stands for. -/
def eps : ℝ := 8796093 / 8796093022208

theorem eps_pos : 0 < eps := by unfold eps; norm_num

/-- The words of the constants the programs use. -/
theorem bits_eps : Ideal.ofBits .f32 0x358637BD#32 = (eps : EReal) := by
  unfold eps; simp [Ideal.ofBits, Ideal.ieee, -EReal.coe_mul]; norm_num
theorem bits_1024 : Ideal.ofBits .f32 0x44800000#32 = ((1024 : ℝ) : EReal) := by
  simp [Ideal.ofBits, Ideal.ieee, -EReal.coe_mul]; norm_num
theorem bits_neg_half : Ideal.ofBits .f32 0xBF000000#32 = ((-(1 / 2) : ℝ) : EReal) := by
  simp [Ideal.ofBits, Ideal.ieee, -EReal.coe_mul]; norm_num
theorem bits_inf : Ideal.ofBits .f32 0x7F800000#32 = ⊤ := by
  simp [Ideal.ofBits, Ideal.ieee]

/-- The word a finiteness predicate leaves at an element, read back: the element is a real. -/
theorem real_of_word {φ : FTy} {x : Ideal φ}
    (h : BitVec.ofBool (decide ((FloatOps.absf x : EReal) < Ideal.ofBits .f32 0x7F800000#32)) = 1#1) : ∃ v : ℝ, (x : EReal) = (v : EReal) := by
  refine real_of_abs_lt (x := x) ?_
  rw [bits_inf] at h
  by_contra hn
  rw [decide_eq_false (by exact hn)] at h
  exact absurd h (by decide)

end Cert.Proof.RealLift

end
-- ==== Proof.Norm.lean ====
/- The row norm over the reals, with its gradient. -/
module

public import proofs.«01_k».proof.Proof.RealLift

@[expose] public section

noncomputable section

open Idealize.ShloMosaic

/-! ## The row functions over the reals -/

namespace Cert.Proof.Norm

open Cert.Proof.RealLift

/-- The mean square of a row plus epsilon. -/
def ms (x : Fin 1024 → ℝ) : ℝ := (∑ j, x j * x j) / 1024 + eps

theorem ms_pos (x : Fin 1024 → ℝ) : 0 < ms x := by
  have h : 0 ≤ ∑ j, x j * x j := Finset.sum_nonneg fun j _ => mul_self_nonneg _
  have := eps_pos
  unfold ms
  positivity

/-- The reciprocal root mean square of a row. -/
def rs (x : Fin 1024 → ℝ) : ℝ := (Real.sqrt (ms x))⁻¹

/-- The row's mean square as the programs write it. -/
theorem ms_eq (x : Fin 1024 → ℝ) :
    Ideal.div (∑ j, (x j : EReal) * (x j : EReal)) (Ideal.ofBits .f32 0x44800000#32) + Ideal.ofBits .f32 0x358637BD#32 = (ms x : EReal) := by
  simp only [bits_1024, bits_eps, ← EReal.coe_mul, ← coe_sum]
  rw [div_coe_coe _ _ (by norm_num), ← EReal.coe_add]
  rfl

/-- The reciprocal root mean square as the programs write it. -/
theorem rs_eq (x : Fin 1024 → ℝ) : Ideal.rsqrt (ms x : EReal) = (rs x : EReal) := rsqrt_pos _ (ms_pos x)

/-- The norm's gradient on one row: `q` the cotangent times the gain. -/
def back (x q : Fin 1024 → ℝ) (i : Fin 1024) : ℝ :=
  rs x * (q i - x i * rs x * ((∑ j, q j * (x j * rs x)) / 1024))

/-- The coefficient the derivative of the mean square multiplies a row by. -/
def coef (x q : Fin 1024 → ℝ) : ℝ := (∑ j, x j * q j) * (-(1 / 2) * (rs x / ms x)) / 1024

/-- The derivative rule's expression of the norm's gradient is the kernel's. -/
theorem back_eq (x q : Fin 1024 → ℝ) (i : Fin 1024) : q i * rs x + x i * coef x q + coef x q * x i = back x q i := by
  have h : rs x * rs x = (ms x)⁻¹ := by
    unfold rs
    rw [← mul_inv, Real.mul_self_sqrt (ms_pos x).le]
  have hs : ∑ j, q j * (x j * rs x) = (∑ j, x j * q j) * rs x := by
    rw [Finset.sum_mul]
    exact Finset.sum_congr rfl fun j _ => by ring
  unfold back coef
  rw [hs, div_eq_mul_inv (rs x), ← h]
  ring

end Cert.Proof.Norm

end
-- ==== Proof.DxPure.lean ====
/- The pure half of the claim on the pre-norm gradient: what the kernel's body stores and what the reference
   computes, each read at an index over finite arguments, are the same real numbers. -/
module

public import proofs.«01_k».proof.Proof.Norm
public import proofs.«01_k».proof.Proof.Gen.DxKernelIdeal.Skeleton
public import proofs.«01_k».proof.Proof.Gen.DxReferenceIdeal.Run

@[expose] public section

set_option maxRecDepth 16384

noncomputable section

open Idealize.ShloMosaic Idealize.ShloMosaic.TcCoe Idealize.SL.Sem

/-! ## The kernel's stores -/

namespace Cert.Proof.Dx.Kernel

open Cert.DxKernelIdeal Cert.DxKernelIdeal.Gen Cert.Proof.RealLift Cert.Proof.Norm

variable (v3 : Vec Ideal S1024x2304 .bf16) (v4 : Vec Ideal S2304x1024 .bf16) (v7 v29 : Vec Ideal S1024x1024 .f32) (v25 : Vec Ideal S1x1024 .f32)
variable (d : Fin 1024 → Fin 2304 → ℝ) (w : Fin 2304 → Fin 1024 → ℝ) (x : Fin 1024 → Fin 1024 → ℝ) (p : Fin 1024 → ℝ)
variable (h3 : ∀ r k, v3 (ix2 r k) = (d r k : EReal)) (h4 : ∀ k i, v4 (ix2 k i) = (w k i : EReal))
variable (h7 : ∀ r i, v7 (ix2 r i) = (x r i : EReal)) (h25 : ∀ i, v25 (ix2 0 i) = (p i : EReal))

include h7 in
/-- The reciprocal root mean squares of a tile's rows. -/
theorem pay4_at (r : Fin 1024) : k0_pay4 (F := Ideal) v7 (ix2 r 0) = (rs (x r) : EReal) := by
  pointwise [k0_pay4]
  simp only [h7]
  rw [ms_eq, rs_eq]

include h7 in
/-- The normalised rows. -/
theorem pay5_at (r i : Fin 1024) : k0_pay5 (F := Ideal) v7 (ix2 r i) = ((x r i * rs (x r) : ℝ) : EReal) := by
  pointwise [k0_pay5, pay4_at v7 x h7]
  rw [h7, EReal.coe_mul]

include h3 h4 in
/-- The cotangent of the normalised rows. -/
theorem pay3_at (r i : Fin 1024) : k0_pay3 (F := Ideal) v3 v4 (ix2 r i) = ((∑ k, d r k * w k i : ℝ) : EReal) := by
  pointwise [k0_pay3]
  simp only [h3, h4, ← EReal.coe_mul, ← coe_sum]

include h3 h4 h7 in
/-- The gain's gradient: what was there and this tile's part. -/
theorem pay6_at (v18 : Vec Ideal S1x1024 .f32) (i : Fin 1024) :
    k0_pay6 (F := Ideal) v3 v4 v7 v18 (ix2 0 i)
      = v18 (ix2 0 i) + ∑ r : Fin 1024, (((∑ k, d r k * w k i) * (x r i * rs (x r)) : ℝ) : EReal) := by
  pointwise [k0_pay6, pay3_at v3 v4 d w h3 h4, pay5_at v7 x h7]
  simp only [EReal.coe_mul]

include h3 h4 h7 h25 in
/-- The tile of the input's gradient. -/
theorem pay1_at (r i : Fin 1024) :
    k0_pay1 (F := Ideal) (k0_pay4 v7) (k0_pay5 v7) (k0_pay7 v3 v4 v25) v29 (k0_pay8 v3 v4 v7 v25) (k0_pay9 (F := Ideal)) (ix2 r i)
      = v29 (ix2 r i) + (back (x r) (fun j => (∑ k, d r k * w k j) * p j) i : EReal) := by
  pointwise [k0_pay1, k0_pay7, k0_pay8, k0_pay9, pay3_at v3 v4 d w h3 h4, pay5_at v7 x h7, pay4_at v7 x h7]
  simp only [h25, bits_1024, ← EReal.coe_mul, ← coe_sum]
  rw [div_coe_coe _ _ (by norm_num)]
  simp only [← EReal.coe_mul, ← EReal.coe_sub]
  rfl

end Cert.Proof.Dx.Kernel

/-! ## The reference -/

namespace Cert.Proof.Dx.Ref

open Cert.DxReferenceIdeal Cert.DxReferenceIdeal.Gen Cert.Proof.RealLift Cert.Proof.Norm

variable (D : FVec Ideal S8192x2304 .bf16) (W : FVec Ideal S1x1024x2304 .f32) (X : FVec Ideal S8192x1024 .f32)
  (P : FVec Ideal S2x1024 .f32) (G : FVec Ideal S8192x1024 .f32)

/-- The rows' mean squares plus epsilon. -/
def meanSq : FVec Ideal S8192x1 .f32 :=
  addf (Host.divf (broadcastInDim S8192x1 ![0] bcast_S8192_S8192x1_0 (Host.reduceAdd (mulf X X) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

/-- The projection's cotangent of its input. -/
def dh : FVec Ideal S8192x1024 .f32 :=
  Host.dotGeneral dot_S8192x2304_S1024x2304_S8192x1024_1_1_0_0_n_n none (extf .f32 D bitsLt_bf16_f32) (shapeCast _ W shapeCasts_S1x1024x2304_S1024x2304)

/-- The cotangent times the gain. -/
def dq : FVec Ideal S8192x1024 .f32 :=
  mulf (dh D W) (broadcastInDim S8192x1024 ![0, 1] bcast_S1x1024_S8192x1024_0_1 (broadcastInDim S1x1024 ![1] bcast_S1024_S1x1024_1 (shapeCast _ (extractStridedSlice S1x1024 ![0, 0] P slices_S2x1024_S1x1024_0_0) shapeCasts_S1x1024_S1024)))

/-- The coefficient of the mean square's derivative. -/
def cf : FVec Ideal S8192x1024 .f32 :=
  broadcastInDim S8192x1024 ![0] bcast_S8192_S8192x1024_0 (Host.reduceAdd (Host.divf (mulf (shapeCast _ (Host.reduceAdd (mulf X (dq D W P)) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (meanSq X)) (meanSq X)))) (broadcastInDim S8192x1 ![] bcast_S_S8192x1 (constant S_ .f32 0x44800000#32))) (constant S_ .f32 0x00000000#32) reducesTo_S8192x1_S8192_d1 h_S_)

/-- The reference's gradient of the rows. -/
def dx : FVec Ideal S8192x1024 .f32 :=
  addf (addf (addf G (mulf (dq D W P) (broadcastInDim S8192x1024 ![0, 1] bcast_S8192x1_S8192x1024_0_1 (Host.rsqrt (meanSq X))))) (mulf X (cf D W X P))) (mulf (cf D W X P) X)

/-- The reference's gradient of the gain. -/
def dgain : FVec Ideal S1x1024 .f32 :=
  broadcastInDim S1x1024 ![1] bcast_S1024_S1x1024_1 (Host.reduceAdd (shapeCast _ (Host.reduceAdd (mulf (mulf X (broadcastInDim S8192x1024 ![0, 1] bcast_S8192x1_S8192x1024_0_1 (Host.rsqrt (meanSq X)))) (dh D W)) (constant S_ .f32 0x00000000#32) reducesTo_S8192x1024_S1024_d0 h_S_) shapeCasts_S1024_S1x1024) (constant S_ .f32 0x00000000#32) reducesTo_S1x1024_S1024_d0 h_S_)

variable (d : Fin 8192 → Fin 2304 → ℝ) (w : Fin 1024 → Fin 2304 → ℝ) (x : Fin 8192 → Fin 1024 → ℝ) (p : Fin 1024 → ℝ)
variable (hD : ∀ r k, D (ix2 r k) = (d r k : EReal)) (hW : ∀ i k, W (ix3 0 i k) = (w i k : EReal))
variable (hX : ∀ r i, X (ix2 r i) = (x r i : EReal)) (hP : ∀ i, P (ix2 0 i) = (p i : EReal))

include hX in
theorem meanSq_at (r : Fin 8192) (u : Fin 1) : meanSq X (ix2 r u) = (ms (x r) : EReal) := by
  pointwise [meanSq]
  simp only [hX]
  exact ms_eq _

include hD hW in
theorem dh_at (r : Fin 8192) (i : Fin 1024) : dh D W (ix2 r i) = ((∑ k, d r k * w i k : ℝ) : EReal) := by
  pointwise [dh]
  simp only [hD, hW, ← EReal.coe_mul, ← coe_sum]

include hD hW hP in
theorem dq_at (r : Fin 8192) (i : Fin 1024) : dq D W P (ix2 r i) = (((∑ k, d r k * w i k) * p i : ℝ) : EReal) := by
  pointwise [dq, dh_at D W d w hD hW]
  rw [hP, EReal.coe_mul]

include hD hW hX hP in
theorem cf_at (r : Fin 8192) (i : Fin 1024) :
    cf D W X P (ix2 r i) = (coef (x r) (fun j => (∑ k, d r k * w j k) * p j) : EReal) := by
  pointwise [cf, dq_at D W P d w p hD hW hP, meanSq_at X x hX]
  simp only [hX, rs_eq, bits_1024, bits_neg_half, ← EReal.coe_mul, ← coe_sum]
  rw [Fin.sum_univ_one, div_coe_coe _ _ (ms_pos _).ne', ← EReal.coe_mul, ← EReal.coe_mul, div_coe_coe _ _ (by norm_num)]
  rfl

include hD hW hX hP in
/-- The reference's gradient of the rows at an index. -/
theorem dx_at (r : Fin 8192) (i : Fin 1024) :
    dx D W X P G (ix2 r i) = G (ix2 r i) + (back (x r) (fun j => (∑ k, d r k * w j k) * p j) i : EReal) := by
  pointwise [dx, dq_at D W P d w p hD hW hP, meanSq_at X x hX, cf_at D W X P d w x p hD hW hX hP]
  rw [rs_eq, hX, ← back_eq, EReal.coe_add, EReal.coe_add, EReal.coe_mul, EReal.coe_mul, EReal.coe_mul (x r i), EReal.coe_mul _ (x r i),
    EReal.coe_mul (∑ k, d r k * w i k), add_assoc, add_assoc, add_assoc]

include hD hW hX in
/-- The reference's gradient of the gain at an index. -/
theorem dgain_at (i : Fin 1024) :
    dgain D W X (ix2 0 i) = ∑ r : Fin 8192, (((∑ k, d r k * w i k) * (x r i * rs (x r)) : ℝ) : EReal) := by
  pointwise [dgain, dh_at D W d w hD hW, meanSq_at X x hX]
  rw [Fin.sum_univ_one]
  simp only [rs_eq, hX, ← EReal.coe_mul]
  refine Finset.sum_congr rfl fun r _ => ?_
  rw [mul_comm]

end Cert.Proof.Dx.Ref
-- ==== Proof.DxValue.lean ====
/- The pre-norm gradient kernel's result arrays, and the reference's, as one function of the arguments. -/
module

public import proofs.«01_k».proof.Proof.DxPure
public import proofs.«01_k».proof.Proof.Gen.DxKernelIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Dx

open Cert.Proof.Norm

/-- The gradient of the rows: what arrived beside it plus the norm's. -/
def dxOf (d : Fin 8192 → Fin 2304 → ℝ) (w : Fin 1024 → Fin 2304 → ℝ) (x : Fin 8192 → Fin 1024 → ℝ) (p : Fin 1024 → ℝ)
    (g : FVec Ideal ⟨2, ![8192, 1024]⟩ .f32) : FVec Ideal ⟨2, ![8192, 1024]⟩ .f32 :=
  fun i => g i + (back (x (i 0)) (fun j => (∑ k, d (i 0) k * w j k) * p j) (i 1) : EReal)

/-- The gradient of the gain. -/
def dgainOf (d : Fin 8192 → Fin 2304 → ℝ) (w : Fin 1024 → Fin 2304 → ℝ) (x : Fin 8192 → Fin 1024 → ℝ) :
    FVec Ideal ⟨2, ![1, 1024]⟩ .f32 :=
  fun i => ∑ r : Fin 8192, (((∑ k, d r k * w (i 1) k) * (x r (i 1) * rs (x r)) : ℝ) : EReal)

end Cert.Proof.Dx

namespace Cert.Proof.Dx.Kernel

open Cert.DxKernelIdeal Cert.DxKernelIdeal.Gen Cert.Proof.RealLift Cert.Proof.Norm

variable (m : (ℓ : Loc nD τ sig) → Buf (Elt Ideal) ℓ)

/-- The accumulator's zero fill. -/
theorem pay2_at (j : S1x1024.Idx) : k0_pay2 (F := Ideal) j = 0 := by pointwise [k0_pay2]

/-- The weights transposed and rounded, as the host hands them to the kernel. -/
def wT (A : FVec Ideal S1x1024x2304 .f32) : FVec Ideal S2304x1024 .bf16 :=
  truncf .bf16 (transpose S2304x1024 [1, 0] (shapeCast S1024x2304 A shapeCasts_S1x1024x2304_S1024x2304) transposes_S1024x2304_S2304x1024_1_0) bitsLt_bf16_f32

theorem wT_at (A : FVec Ideal S1x1024x2304 .f32) (k : Fin 2304) (i : Fin 1024) : wT A (ix2 k i) = A (ix3 0 i k) := by
  pointwise [wT]

/-- The transposed weights as the kernel's region finds them. -/
theorem V_w (c : Dev nD) : V m c main_v2 = wT (m ((c : Thread nD τ).loc main_arg1)) := by
  unfold V wT; after_results; try rfl

/-- The gain's row as the kernel's region finds it. -/
theorem V_p (c : Dev nD) : V m c main_v3 = extractStridedSlice S1x1024 ![0, 0] (m ((c : Thread nD τ).loc main_arg3)) slices_S2x1024_S1x1024_0_0 := by
  unfold V; after_results; try rfl

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

variable (d : Fin 8192 → Fin 2304 → ℝ) (w : Fin 1024 → Fin 2304 → ℝ) (x : Fin 8192 → Fin 1024 → ℝ) (p : Fin 1024 → ℝ)
variable (c : Dev nD)
variable (hD : ∀ r k, (m ((c : Thread nD τ).loc main_arg0) : FVec Ideal S8192x2304 .bf16) (ix2 r k) = (d r k : EReal))
variable (hW : ∀ i k, (m ((c : Thread nD τ).loc main_arg1) : FVec Ideal S1x1024x2304 .f32) (ix3 0 i k) = (w i k : EReal))
variable (hX : ∀ r i, (m ((c : Thread nD τ).loc main_arg2) : FVec Ideal S8192x1024 .f32) (ix2 r i) = (x r i : EReal))
variable (hP : ∀ i, (m ((c : Thread nD τ).loc main_arg3) : FVec Ideal S2x1024 .f32) (ix2 0 i) = (p i : EReal))

/-- A point's row of the whole array. -/
def row (t : Fin cfg0.N) (r : Fin 1024) : Fin 8192 := ⟨t.val * 1024 + r, by have := lt_of_lt_of_eq t.isLt N_0; omega⟩

include hD in
theorem blk0_at (t : Fin cfg0.N) (r : Fin 1024) (k : Fin 2304) :
    (iblk m c 0 t : Vec Ideal S1024x2304 .bf16) (ix2 r k) = (d (row t r) k : EReal) := by
  rw [← hD]

  blk_point [iblk, V, idx t, row]

include hW in
theorem blk1_at (t : Fin cfg0.N) (k : Fin 2304) (i : Fin 1024) :
    (iblk m c 1 t : Vec Ideal S2304x1024 .bf16) (ix2 k i) = (w i k : EReal) := by
  rw [← hW]
  unfold iblk
  rw [show V m c (Pipeline.arrRef spec0 1) = _ from V_w m c]
  have h : (win0_1.blk t).view.emb (ix2 k i) = (ix2 k i : S2304x1024.Idx) := by blk_ext [idx t]
  exact (congrArg (wT (m ((c : Thread nD τ).loc main_arg1))) h).trans (wT_at _ k i)

include hX in
theorem blk2_at (t : Fin cfg0.N) (r i : Fin 1024) :
    (iblk m c 2 t : Vec Ideal S1024x1024 .f32) (ix2 r i) = (x (row t r) i : EReal) := by
  rw [← hX]

  blk_point [iblk, V, idx t, row]

include hP in
theorem blk3_at (t : Fin cfg0.N) (i : Fin 1024) :
    (iblk m c 3 t : Vec Ideal S1x1024 .f32) (ix2 0 i) = (p i : EReal) := by
  rw [← hP]
  blk_point [iblk, V_p, idx t]

theorem blk4_at (t : Fin cfg0.N) (r i : Fin 1024) :
    (iblk m c 4 t : Vec Ideal S1024x1024 .f32) (ix2 r i) = (m ((c : Thread nD τ).loc main_arg4) : FVec Ideal S8192x1024 .f32) (ix2 (row t r) i) := by
  blk_point [iblk, V, idx t, row]

include hD hW hX hP in
/-- The input's gradient the kernel leaves. -/
theorem final5 : (dats m 0 c).arrAt 5 cfg0.N = dxOf d w x p (m ((c : Thread nD τ).loc main_arg4)) := by
  refine (dats m 0 c).arrAt_eq_of_covers 5 _ (by decide +kernel) fun t hf y => ?_
  idx_vars y
  have e := pay1_at (iblk m c 0 t) (iblk m c 1 t) (iblk m c 2 t) (iblk m c 4 t) (iblk m c 3 t)
    (fun r k => d (row t r) k) (fun k i => w i k) (fun r i => x (row t r) i) p (blk0_at m d c hD t) (blk1_at m w c hW t) (blk2_at m x c hX t) (blk3_at m p c hP t) y0 y1
  rw [blk4_at] at e
  have h : (win0_5.blk t).view.emb (ix2 y0 y1) = (ix2 (row t y0) y1 : S8192x1024.Idx) := by blk_ext [idx t, row]
  blk_simp
  rw [after0_5]
  refine Eq.trans ?_ (congrArg (dxOf d w x p (m ((c : Thread nD τ).loc main_arg4))) h).symm
  by_cases h0 : t.val % 8 = 0
  · rw [outsAt0_A m c t h0]
    frame_out
    exact e
  · rw [outsAt0_B m c t h0]
    frame_out
    exact e

include hD hW hX in
/-- The gain's gradient the kernel leaves. -/
theorem final6 : (dats m 0 c).arrAt 6 cfg0.N = dgainOf d w x := by
  have e (t : Fin cfg0.N) (v18 : Vec Ideal S1x1024 .f32) (j : S1x1024.Idx) :
      k0_pay6 (F := Ideal) (iblk m c 0 t) (iblk m c 1 t) (iblk m c 2 t) v18 j
        = v18 j + ∑ r : Fin 1024, (((∑ k, d (row t r) k * w (j 1) k) * (x (row t r) (j 1) * rs (x (row t r))) : ℝ) : EReal) := by
    idx_vars j
    obtain rfl : j0 = 0 := Subsingleton.elim _ _
    exact pay6_at (iblk m c 0 t) (iblk m c 1 t) (iblk m c 2 t)
      (fun r k => d (row t r) k) (fun k i => w i k) (fun r i => x (row t r) i) (blk0_at m d c hD t) (blk1_at m w c hW t) (blk2_at m x c hX t) v18 j1
  refine (dats m 0 c).arrAt_eq_of_after_last 6 t0_7 (by decide +kernel) _ fun j => ?_
  blk_simp
  rw [after0_6, Pipeline.eq_sum_fin_of_reset_step_apply_last (fun n h => (outsAt0 m c n h).2) 8 (fun _ => 0)
    (fun t j => ∑ r : Fin 1024, (((∑ k, d (row t r) k * w (j 1) k) * (x (row t r) (j 1) * rs (x (row t r))) : ℝ) : EReal))
    (fun t h j => by rw [outsAt0_A m c t h]; frame_out; rw [e t, pay2_at])
    (fun t h j => by rw [outsAt0_B m c t h]; frame_out; rw [e t])
    (le_of_eq N_0) t0_7 rfl _, zero_add]
  unfold dgainOf
  exact Fin.sum_mul_add_congr fun s k hl => rfl

end Cert.Proof.Dx.Kernel
-- ==== Proof.DxClaim.lean ====
/- The claims on the pre-norm gradient of layer 0's projection. -/
module

public import proofs.«01_k».proof.Defs
public import proofs.«01_k».proof.Proof.DxValue
public import proofs.«01_k».proof.Proof.Gen.DxKernel.Frame
public import proofs.«01_k».proof.Proof.Gen.Pre_dx_finite
public import Idealize.ShloMosaic.Lib.Claim

@[expose] public section

set_option maxRecDepth 16384

noncomputable section

open Idealize.ShloMosaic Idealize.ShloMosaic.TcCoe Idealize.SL.Sem

namespace Cert.Pre_dx_finite

open Cert.Proof.RealLift

/-- Arrays whose absolute values the predicate finds below infinity are arrays of reals. -/
theorem reals (D W X P G) (h : (fn (F := Ideal) D W X P G).1 = (fun _ => 1#1) ∧ (fn (F := Ideal) D W X P G).2.1 = (fun _ => 1#1)
    ∧ (fn (F := Ideal) D W X P G).2.2.1 = (fun _ => 1#1) ∧ (fn (F := Ideal) D W X P G).2.2.2 = (fun _ => 1#1)) :
    ∃ (d : Fin 8192 → Fin 2304 → ℝ) (w : Fin 1024 → Fin 2304 → ℝ) (x : Fin 8192 → Fin 1024 → ℝ) (p : Fin 1024 → ℝ),
      (∀ r k, D (ix2 r k) = (d r k : EReal)) ∧ (∀ i k, W (ix3 0 i k) = (w i k : EReal))
      ∧ (∀ r i, X (ix2 r i) = (x r i : EReal)) ∧ ∀ i, P (ix2 0 i) = (p i : EReal) := by
  obtain ⟨h0, h1, h2, h3⟩ := h
  have e0 (r k) : ∃ v : ℝ, D (ix2 r k) = (v : EReal) := by
    have h' := congrFun h0 (ix2 r k)
    unfold fn at h'
    pointwise at h'
    exact real_of_word h'
  have e1 (i k) : ∃ v : ℝ, W (ix3 0 i k) = (v : EReal) := by
    have h' := congrFun h1 (ix3 0 i k)
    unfold fn at h'
    pointwise at h'
    exact real_of_word h'
  have e2 (r i) : ∃ v : ℝ, X (ix2 r i) = (v : EReal) := by
    have h' := congrFun h2 (ix2 r i)
    unfold fn at h'
    pointwise at h'
    exact real_of_word h'
  have e3 (i) : ∃ v : ℝ, P (ix2 0 i) = (v : EReal) := by
    have h' := congrFun h3 (ix2 0 i)
    unfold fn at h'
    pointwise at h'
    exact real_of_word h'
  choose d hd using e0
  choose w hw using e1
  choose x hx using e2
  choose p hp using e3
  exact ⟨d, w, x, p, hd, hw, hx, hp⟩

end Cert.Pre_dx_finite

namespace Cert.Proof.Dx

/-- The reference's terms are the functions of the arguments the kernel's results are. -/
theorem ref_dx (D W X P G) (d : Fin 8192 → Fin 2304 → ℝ) (w : Fin 1024 → Fin 2304 → ℝ) (x : Fin 8192 → Fin 1024 → ℝ) (p : Fin 1024 → ℝ)
    (hD : ∀ r k, D (ix2 r k) = (d r k : EReal)) (hW : ∀ i k, W (ix3 0 i k) = (w i k : EReal))
    (hX : ∀ r i, X (ix2 r i) = (x r i : EReal)) (hP : ∀ i, P (ix2 0 i) = (p i : EReal)) :
    Ref.dx D W X P G = dxOf d w x p G := by
  funext i
  idx_vars i
  exact Ref.dx_at D W X P G d w x p hD hW hX hP i0 i1

/-- The same of the gain's gradient. -/
theorem ref_dgain (D W X) (d : Fin 8192 → Fin 2304 → ℝ) (w : Fin 1024 → Fin 2304 → ℝ) (x : Fin 8192 → Fin 1024 → ℝ)
    (hD : ∀ r k, D (ix2 r k) = (d r k : EReal)) (hW : ∀ i k, W (ix3 0 i k) = (w i k : EReal))
    (hX : ∀ r i, X (ix2 r i) = (x r i : EReal)) : Ref.dgain D W X = dgainOf d w x := by
  funext i
  idx_vars i
  obtain rfl : i0 = 0 := Subsingleton.elim _ _
  exact Ref.dgain_at D W X d w x hD hW hX i1

/-- The kernel runs from every memory and leaves its arguments; every counter ends at zero. -/
theorem frame_kernel : Cert.quiescent_DxKernel := fun m ρ _ => Cert.DxKernel.Gen.frame m ρ

/-- The same of its idealization, with or without the precondition. -/
theorem frame_ideal : Cert.quiescent_DxKernelIdeal := fun m ρ _ => Cert.DxKernelIdeal.Gen.frame m ρ
theorem frame_ideal_pre : Cert.quiescent_DxKernelIdeal_pre_dx_finite := fun m ρ _ => Cert.DxKernelIdeal.Gen.frame m ρ

/-- The same of the reference: its host run read at the arguments; it declares no semaphore. -/
theorem frame_ref : Cert.quiescent_DxReferenceIdeal := fun m ρ _ =>
  (θ_run Cert.DxReferenceIdeal.defs _ _).mono (fun r h => ⟨fun c => (h c).2.2, Idealize.ShloMosaic.sem_eq_zero_of_no_sems (by decide) r.2⟩)
    (Cert.DxReferenceIdeal.Value.run (F := Ideal) m ρ)
theorem frame_ref_pre : Cert.quiescent_DxReferenceIdeal_pre_dx_finite := fun m ρ _ => frame_ref m ρ trivial

/-- The idealization rewrote nothing. -/
theorem preserves : Cert.preserves_DxKernel_DxKernelIdeal := trivial

/-- From finite arguments the kernel and the derivative of the forward lines leave the same gradients. -/
theorem algebraic : Cert.algebraic_DxKernelIdeal_DxReferenceIdeal_pre_dx_finite := by
  pair_intro
  · run_from Cert.DxKernelIdeal.Value.run_blocks (F := Ideal) m g
  · run_from Cert.DxReferenceIdeal.Value.run (F := Ideal) m' g'
    · obtain ⟨d, w, x, p, hD, hW, hX, hP⟩ := Cert.Pre_dx_finite.reals _ _ _ _ _ (hpre c)
      refine Eq.trans ?_ (Kernel.final5 m d w x p c hD hW hX hP).symm
      refine Eq.trans ?_ (ref_dx _ _ _ _ _ d w x p hD hW hX hP)
      unfold Cert.DxReferenceIdeal.Value.res_main_v42
      rw [(hagree c).1, (hagree c).2.1, (hagree c).2.2.1, (hagree c).2.2.2.1, (hagree c).2.2.2.2]
      rfl
    · obtain ⟨d, w, x, p, hD, hW, hX, hP⟩ := Cert.Pre_dx_finite.reals _ _ _ _ _ (hpre c)
      refine Eq.trans ?_ (Kernel.final6 m d w x c hD hW hX).symm
      exact ref_dgain _ _ _ d w x hD hW hX

end Cert.Proof.Dx
-- ==== Proof.DwValue.lean ====
/- The weight gradient of a projection behind a norm, `proj0_dw`: the kernel sums, tile by tile, the product of the
   cotangent with the normalised rows; the reference is the derivative of the forward product. No finiteness is needed. -/
module

public import proofs.«01_k».proof.Proof.DxPure
public import proofs.«01_k».proof.Proof.Gen.DwKernelIdeal.Value
public import proofs.«01_k».proof.Proof.Gen.DwReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Norm

/-- A row's reciprocal root mean square, as the programs write it. -/
def rsE (x : Fin 1024 → EReal) : EReal :=
  Ideal.rsqrt (Ideal.div (∑ j, x j * x j) (Ideal.ofBits .f32 0x44800000#32) + Ideal.ofBits .f32 0x358637BD#32)

/-- The projection's weight gradient, transposed: one entry, from the cotangent's column, the rows and the gain. -/
def dwT {rows : ℕ} (d : Fin rows → EReal) (x : Fin rows → Fin 1024 → EReal) (p : EReal) (i : Fin 1024) : EReal :=
  ∑ r, d r * (x r i * rsE (x r) * p)

end Cert.Proof.Norm

namespace Cert.Proof.Dw.Kernel

open Cert.DwKernelIdeal Cert.DwKernelIdeal.Gen Cert.Proof.Norm

/-- The accumulator's zero fill. -/
theorem pay1_at (j : S2304x1024.Idx) : k0_pay1 (F := Ideal) j = 0 := by pointwise [k0_pay1]

/-- A tile's part of the weight gradient. -/
theorem pay2_at (v3 : Vec Ideal S1024x1024 .f32) (v14 : Vec Ideal S1x1024 .f32) (v19 : Vec Ideal S2304x1024 .f32)
    (v20 : Vec Ideal S1024x2304 .bf16) (n : Fin 2304) (i : Fin 1024) :
    k0_pay2 (F := Ideal) v3 v14 v19 v20 (ix2 n i)
      = v19 (ix2 n i) + dwT (fun r : Fin 1024 => v20 (ix2 r n)) (fun r j => v3 (ix2 r j)) (v14 (ix2 0 i)) i := by
  pointwise [k0_pay2]
  rfl

/-- The last point's rounding. -/
theorem pay3_eq (v : Vec Ideal S2304x1024 .f32) (j : S2304x1024.Idx) : k0_pay3 (F := Ideal) v j = v j := by pointwise [k0_pay3]

variable (m : (ℓ : Loc nD τ sig) → Buf (Elt Ideal) ℓ) (c : Dev nD)

/-- The gain's row as the kernel's region finds it. -/
theorem V_p : V m c main_v0 = extractStridedSlice S1x1024 ![0, 0] (m ((c : Thread nD τ).loc main_arg2)) slices_S2x1024_S1x1024_0_0 := by
  unfold V; after_results; try rfl

theorem idx : ∀ t : Fin cfg0.N, win0_0.index t = ![t.val, 0] ∧ win0_1.index t = ![t.val, 0] ∧ win0_2.index t = ![0, 0]
    ∧ win0_3.index t = ![0, 0] :=
  (by decide +kernel : ∀ t : Fin grid0.N, _)

/-- A point's row of the whole array. -/
def row (t : Fin cfg0.N) (r : Fin 1024) : Fin 8192 := ⟨t.val * 1024 + r, by have := lt_of_lt_of_eq t.isLt N_0; omega⟩

theorem blk0_at (t : Fin cfg0.N) (r : Fin 1024) (k : Fin 2304) :
    (iblk m c 0 t : Vec Ideal S1024x2304 .bf16) (ix2 r k) = (m ((c : Thread nD τ).loc main_arg0) : FVec Ideal S8192x2304 .bf16) (ix2 (row t r) k) := by
  blk_point [iblk, V, idx t, row]

theorem blk1_at (t : Fin cfg0.N) (r i : Fin 1024) :
    (iblk m c 1 t : Vec Ideal S1024x1024 .f32) (ix2 r i) = (m ((c : Thread nD τ).loc main_arg1) : FVec Ideal S8192x1024 .f32) (ix2 (row t r) i) := by
  blk_point [iblk, V, idx t, row]

theorem blk2_at (t : Fin cfg0.N) (i : Fin 1024) :
    (iblk m c 2 t : Vec Ideal S1x1024 .f32) (ix2 0 i) = (m ((c : Thread nD τ).loc main_arg2) : FVec Ideal S2x1024 .f32) (ix2 0 i) := by
  blk_point [iblk, V_p, idx t]

/-- The weight gradient as one function of the arguments. -/
def out (D : FVec Ideal S8192x2304 .bf16) (X : FVec Ideal S8192x1024 .f32) (P : FVec Ideal S2x1024 .f32) : FVec Ideal S2304x1024 .bf16 :=
  fun i => dwT (fun r : Fin 8192 => D (ix2 r (i 0))) (fun r j => X (ix2 r j)) (P (ix2 0 (i 1))) (i 1)

/-- One tile's part of it. -/
def part (D : FVec Ideal S8192x2304 .bf16) (X : FVec Ideal S8192x1024 .f32) (P : FVec Ideal S2x1024 .f32) (t : Fin cfg0.N) (j : S2304x1024.Idx) : EReal :=
  dwT (fun r : Fin 1024 => D (ix2 (row t r) (j 0))) (fun r i => X (ix2 (row t r) i)) (P (ix2 0 (j 1))) (j 1)

/-- A point adds its tile's part. -/
theorem step_at (t : Fin cfg0.N) (v : Vec Ideal S2304x1024 .f32) (j : S2304x1024.Idx) :
    k0_pay2 (F := Ideal) (iblk m c 1 t) (iblk m c 2 t) v (iblk m c 0 t) j = v j + part (m ((c : Thread nD τ).loc main_arg0)) (m ((c : Thread nD τ).loc main_arg1)) (m ((c : Thread nD τ).loc main_arg2)) t j := by
  idx_vars j
  rw [pay2_at]
  simp only [blk0_at, blk1_at, blk2_at]
  rfl

/-- The weight gradient the kernel leaves. -/
theorem final3 : (dats m 0 c).arrAt 3 cfg0.N
    = out (m ((c : Thread nD τ).loc main_arg0)) (m ((c : Thread nD τ).loc main_arg1)) (m ((c : Thread nD τ).loc main_arg2)) := by
  refine (dats m 0 c).arrAt_eq_of_after_last 3 t0_7 (by decide +kernel) _ fun j => ?_
  blk_simp
  rw [after0_3]
  have e : (outsAt0 m c t0_7.val t0_7.isLt).1 j = (outsAt0 m c t0_7.val t0_7.isLt).2 j := by
    rw [outsAt0_C m c t0_7 (by decide) (by decide)]
    frame_out
    rw [pay3_eq]
  refine Eq.trans (b := (outsAt0 m c t0_7.val t0_7.isLt).1 j) rfl (e.trans ?_)
  rw [Pipeline.eq_sum_fin_of_reset_step_apply_last (fun n h => (outsAt0 m c n h).2) 8 (fun _ => 0) (fun t j => part (m ((c : Thread nD τ).loc main_arg0)) (m ((c : Thread nD τ).loc main_arg1)) (m ((c : Thread nD τ).loc main_arg2)) t j)
    (fun t h j => by rw [outsAt0_A m c t h (by omega)]; frame_out; rw [step_at, pay1_at])
    (fun t h j => by
      by_cases h1 : t.val % 8 = 7
      · rw [outsAt0_C m c t h h1]; frame_out; rw [step_at, Memref.IsWhole.read_unread (m := Memref.whole cc0_scratch0)]
      · rw [outsAt0_B m c t h h1]; frame_out; rw [step_at, Memref.IsWhole.read_unread (m := Memref.whole cc0_scratch0)])
    (le_of_eq N_0) t0_7 rfl _, zero_add]
  unfold out dwT part
  exact Fin.sum_mul_add_congr fun s k hl => rfl

end Cert.Proof.Dw.Kernel

namespace Cert.Proof.Dw.Ref

open Cert.DwReferenceIdeal Cert.DwReferenceIdeal.Gen Cert.Proof.Norm

/-- The derivative's weight gradient, transposed as the kernel stores it. -/
def dw (D : FVec Ideal S8192x2304 .bf16) (X : FVec Ideal S8192x1024 .f32) (P : FVec Ideal S2x1024 .f32) : FVec Ideal S2304x1024 .bf16 :=
  truncf .bf16 (transpose S2304x1024 [1, 0] (transpose S1024x2304 [1, 0] (Host.dotGeneral dot_S8192x2304_S8192x1024_S2304x1024_0_0_1_1_n_n none (extf .f32 D bitsLt_bf16_f32) (mulf (mulf X (broadcastInDim S8192x1024 ![0, 1] bcast_S8192x1_S8192x1024_0_1 (Host.rsqrt (addf (Host.divf (broadcastInDim S8192x1 ![0] bcast_S8192_S8192x1_0 (Host.reduceAdd (mulf X X) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (shapeCast _ (extractStridedSlice S1x1024 ![0, 0] P slices_S2x1024_S1x1024_0_0) shapeCasts_S1x1024_S1024))))) transposes_S2304x1024_S1024x2304_1_0) transposes_S1024x2304_S2304x1024_1_0) bitsLt_bf16_f32

/-- It is the kernel's function of the arguments. -/
theorem dw_eq (D X P) : dw D X P = Kernel.out D X P := by
  funext i
  idx_vars i
  show _ = dwT _ _ _ _
  pointwise [dw]
  rfl

end Cert.Proof.Dw.Ref
-- ==== Proof.PjValue.lean ====
/- The backward pass of layer 1's projection with the norm in front of it, `proj1_bwd`: the rows' gradient, the weight
   gradient and the gain's gradient, of the kernel and of the derivative of the forward lines, as one function of the arguments. -/
module

public import proofs.«01_k».proof.Proof.DwValue
public import proofs.«01_k».proof.Proof.DxValue
public import proofs.«01_k».proof.Proof.Gen.PjKernelIdeal.Value
public import proofs.«01_k».proof.Proof.Gen.PjReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Pj

open Cert.Proof.Norm

/-- The gradient of the rows: what arrived beside it plus the norm's. -/
def dxOf (d : Fin 8192 → Fin 3072 → ℝ) (w : Fin 1024 → Fin 3072 → ℝ) (x : Fin 8192 → Fin 1024 → ℝ) (p : Fin 1024 → ℝ)
    (g : FVec Ideal ⟨2, ![8192, 1024]⟩ .f32) : FVec Ideal ⟨2, ![8192, 1024]⟩ .f32 :=
  fun i => g i + (back (x (i 0)) (fun j => (∑ k, d (i 0) k * w j k) * p j) (i 1) : EReal)

/-- The gradient of the gain. -/
def dgainOf (d : Fin 8192 → Fin 3072 → ℝ) (w : Fin 1024 → Fin 3072 → ℝ) (x : Fin 8192 → Fin 1024 → ℝ) :
    FVec Ideal ⟨2, ![1, 1024]⟩ .f32 :=
  fun i => ∑ r : Fin 8192, (((∑ k, d r k * w (i 1) k) * (x r (i 1) * rs (x r)) : ℝ) : EReal)

/-- The weight gradient, transposed. -/
def dwOf (D : FVec Ideal ⟨2, ![8192, 3072]⟩ .bf16) (X : FVec Ideal ⟨2, ![8192, 1024]⟩ .f32) (P : FVec Ideal ⟨2, ![2, 1024]⟩ .f32) :
    FVec Ideal ⟨2, ![3072, 1024]⟩ .bf16 :=
  fun i => dwT (fun r : Fin 8192 => D (ix2 r (i 0))) (fun r j => X (ix2 r j)) (P (ix2 1 (i 1))) (i 1)

end Cert.Proof.Pj

/-! ## The kernel's stores -/

namespace Cert.Proof.Pj.Kernel

open Cert.PjKernelIdeal Cert.PjKernelIdeal.Gen Cert.Proof.RealLift Cert.Proof.Norm

section Stores

variable (v3 : Vec Ideal S512x3072 .bf16) (v4 : Vec Ideal S3072x1024 .bf16) (v7 v29 : Vec Ideal S512x1024 .f32) (v18 : Vec Ideal S1x1024 .f32)
variable (d : Fin 512 → Fin 3072 → ℝ) (w : Fin 3072 → Fin 1024 → ℝ) (x : Fin 512 → Fin 1024 → ℝ) (p : Fin 1024 → ℝ)
variable (h3 : ∀ r k, v3 (ix2 r k) = (d r k : EReal)) (h4 : ∀ k i, v4 (ix2 k i) = (w k i : EReal))
variable (h7 : ∀ r i, v7 (ix2 r i) = (x r i : EReal)) (h18 : ∀ i, v18 (ix2 0 i) = (p i : EReal))

/-- The reciprocal root mean squares of a tile's rows, as written. -/
theorem pay7_at (r : Fin 512) : k0_pay7 (F := Ideal) v7 (ix2 r 0) = rsE fun i => v7 (ix2 r i) := by
  pointwise [k0_pay7]
  rfl

/-- A tile's part of the weight gradient. -/
theorem pay2_at (v45 : Vec Ideal S3072x1024 .f32) (n : Fin 3072) (i : Fin 1024) :
    k0_pay2 (F := Ideal) v3 (k0_pay8 v7) (k0_pay9 v18) v45 (ix2 n i)
      = v45 (ix2 n i) + dwT (fun r : Fin 512 => v3 (ix2 r n)) (fun r j => v7 (ix2 r j)) (v18 (ix2 0 i)) i := by
  pointwise [k0_pay2, k0_pay8, k0_pay9, pay7_at]
  rfl

/-- The last point's rounding, and the accumulators' zero fills. -/
theorem pay3_at (v : Vec Ideal S3072x1024 .f32) (j : S3072x1024.Idx) : k0_pay3 (F := Ideal) v j = v j := by pointwise [k0_pay3]
theorem pay4_at (j : S3072x1024.Idx) : k0_pay4 (F := Ideal) j = 0 := by pointwise [k0_pay4]
theorem pay5_at (j : S1x1024.Idx) : k0_pay5 (F := Ideal) j = 0 := by pointwise [k0_pay5]

include h7 in
/-- The reciprocal root mean squares over finite rows. -/
theorem pay7_real (r : Fin 512) : k0_pay7 (F := Ideal) v7 (ix2 r 0) = (rs (x r) : EReal) := by
  rw [pay7_at]
  unfold rsE
  simp only [h7]
  rw [ms_eq, rs_eq]

include h7 in
/-- The normalised rows. -/
theorem pay8_at (r : Fin 512) (i : Fin 1024) : k0_pay8 (F := Ideal) v7 (ix2 r i) = ((x r i * rs (x r) : ℝ) : EReal) := by
  pointwise [k0_pay8, pay7_real v7 x h7]
  rw [h7, EReal.coe_mul]

include h3 h4 in
/-- The cotangent of the normalised rows. -/
theorem pay6_at (r : Fin 512) (i : Fin 1024) : k0_pay6 (F := Ideal) v3 v4 (ix2 r i) = ((∑ k, d r k * w k i : ℝ) : EReal) := by
  pointwise [k0_pay6]
  simp only [h3, h4, ← EReal.coe_mul, ← coe_sum]

include h3 h4 h7 in
/-- The gain's gradient: what was there and this tile's part. -/
theorem pay10_at (v20 : Vec Ideal S1x1024 .f32) (i : Fin 1024) :
    k0_pay10 (F := Ideal) v3 v4 v7 v20 (ix2 0 i)
      = v20 (ix2 0 i) + ∑ r : Fin 512, (((∑ k, d r k * w k i) * (x r i * rs (x r)) : ℝ) : EReal) := by
  pointwise [k0_pay10, pay6_at v3 v4 d w h3 h4, pay8_at v7 x h7]
  simp only [EReal.coe_mul]

include h3 h4 h7 h18 in
/-- The tile of the input's gradient. -/
theorem pay1_at (r : Fin 512) (i : Fin 1024) :
    k0_pay1 (F := Ideal) (k0_pay7 v7) (k0_pay8 v7) (k0_pay11 v3 v4 v18) v29 (k0_pay12 v3 v4 v7 v18) (k0_pay13 (F := Ideal)) (ix2 r i)
      = v29 (ix2 r i) + (back (x r) (fun j => (∑ k, d r k * w k j) * p j) i : EReal) := by
  pointwise [k0_pay1, k0_pay9, k0_pay11, k0_pay12, k0_pay13, pay6_at v3 v4 d w h3 h4, pay8_at v7 x h7, pay7_real v7 x h7]
  simp only [h18, bits_1024, ← EReal.coe_mul, ← coe_sum]
  rw [div_coe_coe _ _ (by norm_num)]
  simp only [← EReal.coe_mul, ← EReal.coe_sub]
  rfl

end Stores

/-! ## The kernel's arrays -/

variable (m : (ℓ : Loc nD τ sig) → Buf (Elt Ideal) ℓ) (c : Dev nD)

/-- The weights transposed and rounded, as the host hands them to the kernel. -/
def wT (A : FVec Ideal S1x1024x3072 .f32) : FVec Ideal S3072x1024 .bf16 :=
  truncf .bf16 (transpose S3072x1024 [1, 0] (shapeCast S1024x3072 A shapeCasts_S1x1024x3072_S1024x3072) transposes_S1024x3072_S3072x1024_1_0) bitsLt_bf16_f32

theorem wT_at (A : FVec Ideal S1x1024x3072 .f32) (k : Fin 3072) (i : Fin 1024) : wT A (ix2 k i) = A (ix3 0 i k) := by
  pointwise [wT]

/-- The transposed weights as the kernel's region finds them. -/
theorem V_w : V m c main_v2 = wT (m ((c : Thread nD τ).loc main_arg1)) := by
  unfold V wT; after_results; try rfl

/-- The gain's row as the kernel's region finds it. -/
theorem V_p : V m c main_v3 = extractStridedSlice S1x1024 ![1, 0] (m ((c : Thread nD τ).loc main_arg3)) slices_S2x1024_S1x1024_1_0 := by
  unfold V; after_results; try rfl

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0]
    ∧ win0_7.index t = ![0, 0] :=
  (by decide +kernel : ∀ t : Fin grid0.N, _)

/-- A point's row of the whole array. -/
def row (t : Fin cfg0.N) (r : Fin 512) : Fin 8192 := ⟨t.val * 512 + r, by have := lt_of_lt_of_eq t.isLt N_0; omega⟩

theorem blk0_at (t : Fin cfg0.N) (r : Fin 512) (k : Fin 3072) :
    (iblk m c 0 t : Vec Ideal S512x3072 .bf16) (ix2 r k) = (m ((c : Thread nD τ).loc main_arg0) : FVec Ideal S8192x3072 .bf16) (ix2 (row t r) k) := by
  blk_point [iblk, V, idx t, row]

theorem blk1_at (t : Fin cfg0.N) (k : Fin 3072) (i : Fin 1024) :
    (iblk m c 1 t : Vec Ideal S3072x1024 .bf16) (ix2 k i) = (m ((c : Thread nD τ).loc main_arg1) : FVec Ideal S1x1024x3072 .f32) (ix3 0 i k) := by
  unfold iblk
  rw [show V m c (Pipeline.arrRef spec0 1) = _ from V_w m c]
  have h : (win0_1.blk t).view.emb (ix2 k i) = (ix2 k i : S3072x1024.Idx) := by blk_ext [idx t]
  exact (congrArg (wT (m ((c : Thread nD τ).loc main_arg1))) h).trans (wT_at _ k i)

theorem blk2_at (t : Fin cfg0.N) (r : Fin 512) (i : Fin 1024) :
    (iblk m c 2 t : Vec Ideal S512x1024 .f32) (ix2 r i) = (m ((c : Thread nD τ).loc main_arg2) : FVec Ideal S8192x1024 .f32) (ix2 (row t r) i) := by
  blk_point [iblk, V, idx t, row]

theorem blk3_at (t : Fin cfg0.N) (i : Fin 1024) :
    (iblk m c 3 t : Vec Ideal S1x1024 .f32) (ix2 0 i) = (m ((c : Thread nD τ).loc main_arg3) : FVec Ideal S2x1024 .f32) (ix2 1 i) := by
  blk_point [iblk, V_p, idx t]

theorem blk4_at (t : Fin cfg0.N) (r : Fin 512) (i : Fin 1024) :
    (iblk m c 4 t : Vec Ideal S512x1024 .f32) (ix2 r i) = (m ((c : Thread nD τ).loc main_arg4) : FVec Ideal S8192x1024 .f32) (ix2 (row t r) i) := by
  blk_point [iblk, V, idx t, row]

/-- One tile's part of the weight gradient. -/
def part (D : FVec Ideal S8192x3072 .bf16) (X : FVec Ideal S8192x1024 .f32) (P : FVec Ideal S2x1024 .f32) (t : Fin cfg0.N) (j : S3072x1024.Idx) : EReal :=
  dwT (fun r : Fin 512 => D (ix2 (row t r) (j 0))) (fun r i => X (ix2 (row t r) i)) (P (ix2 1 (j 1))) (j 1)

/-- A point adds its tile's part to the weight gradient. -/
theorem step_at (t : Fin cfg0.N) (v : Vec Ideal S3072x1024 .f32) (j : S3072x1024.Idx) :
    k0_pay2 (F := Ideal) (iblk m c 0 t) (k0_pay8 (iblk m c 2 t)) (k0_pay9 (iblk m c 3 t)) v j
      = v j + part (m ((c : Thread nD τ).loc main_arg0)) (m ((c : Thread nD τ).loc main_arg2)) (m ((c : Thread nD τ).loc main_arg3)) t j := by
  idx_vars j
  rw [pay2_at]
  simp only [blk0_at, blk2_at, blk3_at]
  rfl

/-- The weight gradient the kernel leaves. -/
theorem final6 : (dats m 0 c).arrAt 6 cfg0.N
    = dwOf (m ((c : Thread nD τ).loc main_arg0)) (m ((c : Thread nD τ).loc main_arg2)) (m ((c : Thread nD τ).loc main_arg3)) := by
  refine (dats m 0 c).arrAt_eq_of_after_last 6 t0_15 (by decide +kernel) _ fun j => ?_
  blk_simp
  rw [after0_6]
  have e : (outsAt0 m c t0_15.val t0_15.isLt).2.1 j = (outsAt0 m c t0_15.val t0_15.isLt).2.2.2 j := by
    rw [outsAt0_C m c t0_15 (by decide) (by decide)]
    frame_out
    rw [pay3_at]
  refine Eq.trans (b := (outsAt0 m c t0_15.val t0_15.isLt).2.1 j) rfl (e.trans ?_)
  rw [Pipeline.eq_sum_fin_of_reset_step_apply_last (fun n h => (outsAt0 m c n h).2.2.2) 16 (fun _ => 0)
    (fun t j => part (m ((c : Thread nD τ).loc main_arg0)) (m ((c : Thread nD τ).loc main_arg2)) (m ((c : Thread nD τ).loc main_arg3)) t j)
    (fun t h j => by rw [outsAt0_A m c t h (by omega)]; frame_out; rw [step_at, pay4_at])
    (fun t h j => by
      by_cases h1 : t.val % 16 = 15
      · rw [outsAt0_C m c t h h1]; frame_out; rw [step_at, Memref.IsWhole.read_unread (m := Memref.whole cc0_scratch0)]
      · rw [outsAt0_B m c t h h1]; frame_out; rw [step_at, Memref.IsWhole.read_unread (m := Memref.whole cc0_scratch0)])
    (le_of_eq N_0) t0_15 rfl _, zero_add]
  unfold dwOf dwT part
  exact Fin.sum_mul_add_congr fun s k hl => rfl

variable (d : Fin 8192 → Fin 3072 → ℝ) (w : Fin 1024 → Fin 3072 → ℝ) (x : Fin 8192 → Fin 1024 → ℝ) (p : Fin 1024 → ℝ)
variable (hD : ∀ r k, (m ((c : Thread nD τ).loc main_arg0) : FVec Ideal S8192x3072 .bf16) (ix2 r k) = (d r k : EReal))
variable (hW : ∀ i k, (m ((c : Thread nD τ).loc main_arg1) : FVec Ideal S1x1024x3072 .f32) (ix3 0 i k) = (w i k : EReal))
variable (hX : ∀ r i, (m ((c : Thread nD τ).loc main_arg2) : FVec Ideal S8192x1024 .f32) (ix2 r i) = (x r i : EReal))
variable (hP : ∀ i, (m ((c : Thread nD τ).loc main_arg3) : FVec Ideal S2x1024 .f32) (ix2 1 i) = (p i : EReal))

include hD hW hX hP in
/-- The input's gradient the kernel leaves. -/
theorem final5 : (dats m 0 c).arrAt 5 cfg0.N = dxOf d w x p (m ((c : Thread nD τ).loc main_arg4)) := by
  refine (dats m 0 c).arrAt_eq_of_covers 5 _ (by decide +kernel) fun t hf y => ?_
  idx_vars y
  have e := pay1_at (iblk m c 0 t) (iblk m c 1 t) (iblk m c 2 t) (iblk m c 4 t) (iblk m c 3 t)
    (fun r k => d (row t r) k) (fun k i => w i k) (fun r i => x (row t r) i) p (fun r k => (blk0_at m c t r k).trans (hD _ _))
    (fun k i => (blk1_at m c t k i).trans (hW _ _)) (fun r i => (blk2_at m c t r i).trans (hX _ _)) (fun i => (blk3_at m c t i).trans (hP _)) y0 y1
  rw [blk4_at] at e
  have h : (win0_5.blk t).view.emb (ix2 y0 y1) = (ix2 (row t y0) y1 : S8192x1024.Idx) := by blk_ext [idx t, row]
  blk_simp
  rw [after0_5]
  refine Eq.trans ?_ (congrArg (dxOf d w x p (m ((c : Thread nD τ).loc main_arg4))) h).symm
  by_cases h0 : t.val % 16 = 0
  · rw [outsAt0_A m c t h0 (by omega)]
    frame_out
    exact e
  · by_cases h1 : t.val % 16 = 15
    · rw [outsAt0_C m c t h0 h1]
      frame_out
      exact e
    · rw [outsAt0_B m c t h0 h1]
      frame_out
      exact e

include hD hW hX in
/-- The gain's gradient the kernel leaves. -/
theorem final7 : (dats m 0 c).arrAt 7 cfg0.N = dgainOf d w x := by
  have e (t : Fin cfg0.N) (v : Vec Ideal S1x1024 .f32) (j : S1x1024.Idx) :
      k0_pay10 (F := Ideal) (iblk m c 0 t) (iblk m c 1 t) (iblk m c 2 t) v j
        = v j + ∑ r : Fin 512, (((∑ k, d (row t r) k * w (j 1) k) * (x (row t r) (j 1) * rs (x (row t r))) : ℝ) : EReal) := by
    idx_vars j
    obtain rfl : j0 = 0 := Subsingleton.elim _ _
    exact pay10_at (iblk m c 0 t) (iblk m c 1 t) (iblk m c 2 t)
      (fun r k => d (row t r) k) (fun k i => w i k) (fun r i => x (row t r) i) (fun r k => (blk0_at m c t r k).trans (hD _ _))
      (fun k i => (blk1_at m c t k i).trans (hW _ _)) (fun r i => (blk2_at m c t r i).trans (hX _ _)) v j1
  refine (dats m 0 c).arrAt_eq_of_after_last 7 t0_15 (by decide +kernel) _ fun j => ?_
  blk_simp
  rw [after0_7, Pipeline.eq_sum_fin_of_reset_step_apply_last (fun n h => (outsAt0 m c n h).2.2.1) 16 (fun _ => 0)
    (fun t j => ∑ r : Fin 512, (((∑ k, d (row t r) k * w (j 1) k) * (x (row t r) (j 1) * rs (x (row t r))) : ℝ) : EReal))
    (fun t h j => by rw [outsAt0_A m c t h (by omega)]; frame_out; rw [e t, pay5_at])
    (fun t h j => by
      by_cases h1 : t.val % 16 = 15
      · rw [outsAt0_C m c t h h1]; frame_out; rw [e t]
      · rw [outsAt0_B m c t h h1]; frame_out; rw [e t])
    (le_of_eq N_0) t0_15 rfl _, zero_add]
  unfold dgainOf
  exact Fin.sum_mul_add_congr fun s k hl => rfl

end Cert.Proof.Pj.Kernel

/-! ## The reference -/

namespace Cert.Proof.Pj.Ref

open Cert.PjReferenceIdeal Cert.PjReferenceIdeal.Gen Cert.Proof.RealLift Cert.Proof.Norm

variable (D : FVec Ideal S8192x3072 .bf16) (W : FVec Ideal S1x1024x3072 .f32) (X : FVec Ideal S8192x1024 .f32)
  (P : FVec Ideal S2x1024 .f32) (G : FVec Ideal S8192x1024 .f32)

/-- The rows' mean squares plus epsilon. -/
def meanSq : FVec Ideal S8192x1 .f32 :=
  addf (Host.divf (broadcastInDim S8192x1 ![0] bcast_S8192_S8192x1_0 (Host.reduceAdd (mulf X X) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

/-- The normalised rows. -/
def xn : FVec Ideal S8192x1024 .f32 := mulf X (broadcastInDim S8192x1024 ![0, 1] bcast_S8192x1_S8192x1024_0_1 (Host.rsqrt (meanSq X)))

/-- The gain on every row. -/
def gain : FVec Ideal S8192x1024 .f32 :=
  broadcastInDim S8192x1024 ![0, 1] bcast_S1x1024_S8192x1024_0_1 (broadcastInDim S1x1024 ![1] bcast_S1024_S1x1024_1 (shapeCast _ (extractStridedSlice S1x1024 ![1, 0] P slices_S2x1024_S1x1024_1_0) shapeCasts_S1x1024_S1024))

/-- The projection's cotangent of its input. -/
def dh : FVec Ideal S8192x1024 .f32 :=
  Host.dotGeneral dot_S8192x3072_S1024x3072_S8192x1024_1_1_0_0_n_n none (extf .f32 D bitsLt_bf16_f32) (shapeCast _ W shapeCasts_S1x1024x3072_S1024x3072)

/-- The coefficient of the mean square's derivative. -/
def cf : FVec Ideal S8192x1024 .f32 :=
  broadcastInDim S8192x1024 ![0] bcast_S8192_S8192x1024_0 (Host.reduceAdd (Host.divf (mulf (shapeCast _ (Host.reduceAdd (mulf X (mulf (dh D W) (gain P))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (meanSq X)) (meanSq X)))) (broadcastInDim S8192x1 ![] bcast_S_S8192x1 (constant S_ .f32 0x44800000#32))) (constant S_ .f32 0x00000000#32) reducesTo_S8192x1_S8192_d1 h_S_)

/-- The reference's gradient of the rows. -/
def dx : FVec Ideal S8192x1024 .f32 :=
  addf (addf (addf G (mulf (mulf (dh D W) (gain P)) (broadcastInDim S8192x1024 ![0, 1] bcast_S8192x1_S8192x1024_0_1 (Host.rsqrt (meanSq X))))) (mulf X (cf D W X P))) (mulf (cf D W X P) X)

/-- The reference's gradient of the gain. -/
def dgain : FVec Ideal S1x1024 .f32 :=
  broadcastInDim S1x1024 ![1] bcast_S1024_S1x1024_1 (Host.reduceAdd (shapeCast _ (Host.reduceAdd (mulf (xn X) (dh D W)) (constant S_ .f32 0x00000000#32) reducesTo_S8192x1024_S1024_d0 h_S_) shapeCasts_S1024_S1x1024) (constant S_ .f32 0x00000000#32) reducesTo_S1x1024_S1024_d0 h_S_)

/-- The reference's weight gradient, transposed as the kernel stores it. -/
def dw : FVec Ideal S3072x1024 .bf16 :=
  truncf .bf16 (transpose S3072x1024 [1, 0] (transpose S1024x3072 [1, 0] (Host.dotGeneral dot_S8192x3072_S8192x1024_S3072x1024_0_0_1_1_n_n none (extf .f32 D bitsLt_bf16_f32) (mulf (xn X) (gain P))) transposes_S3072x1024_S1024x3072_1_0) transposes_S1024x3072_S3072x1024_1_0) bitsLt_bf16_f32

/-- It is the kernel's function of the arguments. -/
theorem dw_eq : dw D X P = dwOf D X P := by
  funext i
  idx_vars i
  show _ = dwT _ _ _ _
  pointwise [dw, xn, gain, meanSq]
  rfl

variable (d : Fin 8192 → Fin 3072 → ℝ) (w : Fin 1024 → Fin 3072 → ℝ) (x : Fin 8192 → Fin 1024 → ℝ) (p : Fin 1024 → ℝ)
variable (hD : ∀ r k, D (ix2 r k) = (d r k : EReal)) (hW : ∀ i k, W (ix3 0 i k) = (w i k : EReal))
variable (hX : ∀ r i, X (ix2 r i) = (x r i : EReal)) (hP : ∀ i, P (ix2 1 i) = (p i : EReal))

include hX in
theorem meanSq_at (r : Fin 8192) (u : Fin 1) : meanSq X (ix2 r u) = (ms (x r) : EReal) := by
  pointwise [meanSq]
  simp only [hX]
  exact ms_eq _

include hD hW in
theorem dh_at (r : Fin 8192) (i : Fin 1024) : dh D W (ix2 r i) = ((∑ k, d r k * w i k : ℝ) : EReal) := by
  pointwise [dh]
  simp only [hD, hW, ← EReal.coe_mul, ← coe_sum]

include hP in
theorem gain_at (r : Fin 8192) (i : Fin 1024) : gain P (ix2 r i) = (p i : EReal) := by
  pointwise [gain]
  exact hP i

include hD hW hX hP in
theorem cf_at (r : Fin 8192) (i : Fin 1024) :
    cf D W X P (ix2 r i) = (coef (x r) (fun j => (∑ k, d r k * w j k) * p j) : EReal) := by
  pointwise [cf, dh_at D W d w hD hW, gain_at P p hP, meanSq_at X x hX]
  simp only [hX, rs_eq, bits_1024, bits_neg_half, ← EReal.coe_mul, ← coe_sum]
  rw [Fin.sum_univ_one, div_coe_coe _ _ (ms_pos _).ne', ← EReal.coe_mul, ← EReal.coe_mul, div_coe_coe _ _ (by norm_num)]
  rfl

include hD hW hX hP in
/-- The reference's gradient of the rows is the kernel's function of the arguments. -/
theorem dx_eq : dx D W X P G = dxOf d w x p G := by
  funext i
  idx_vars i
  show _ = G (ix2 i0 i1) + (back (x i0) (fun j => (∑ k, d i0 k * w j k) * p j) i1 : EReal)
  pointwise [dx, dh_at D W d w hD hW, gain_at P p hP, meanSq_at X x hX, cf_at D W X P d w x p hD hW hX hP]
  rw [rs_eq, hX, ← back_eq, EReal.coe_add, EReal.coe_add, EReal.coe_mul, EReal.coe_mul, EReal.coe_mul (x i0 i1), EReal.coe_mul _ (x i0 i1),
    add_assoc, add_assoc, add_assoc]

include hD hW hX in
/-- The reference's gradient of the gain is the kernel's function of the arguments. -/
theorem dgain_eq : dgain D W X = dgainOf d w x := by
  funext i
  idx_vars i
  obtain rfl : i0 = 0 := Subsingleton.elim _ _
  show _ = ∑ r : Fin 8192, (((∑ k, d r k * w i1 k) * (x r i1 * rs (x r)) : ℝ) : EReal)
  pointwise [dgain, xn, dh_at D W d w hD hW, meanSq_at X x hX]
  rw [Fin.sum_univ_one]
  simp only [rs_eq, hX, ← EReal.coe_mul]
  refine Finset.sum_congr rfl fun r _ => ?_
  rw [mul_comm]

end Cert.Proof.Pj.Ref
-- ==== Proof.ProjClaim.lean ====
/- The claims on layer 1's projection backward and on layer 0's projection weight gradient. -/
module

public import proofs.«01_k».proof.Defs
public import proofs.«01_k».proof.Proof.PjValue
public import proofs.«01_k».proof.Proof.Gen.PjKernel.Frame
public import proofs.«01_k».proof.Proof.Gen.DwKernel.Frame
public import proofs.«01_k».proof.Proof.Gen.Pre_pj_finite
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Pre_pj_finite

open Cert.Proof.RealLift

/-- Arrays whose absolute values the predicate finds below infinity are arrays of reals. -/
theorem reals (D W X P G) (h : (fn (F := Ideal) D W X P G).1 = (fun _ => 1#1) ∧ (fn (F := Ideal) D W X P G).2.1 = (fun _ => 1#1)
    ∧ (fn (F := Ideal) D W X P G).2.2.1 = (fun _ => 1#1) ∧ (fn (F := Ideal) D W X P G).2.2.2 = (fun _ => 1#1)) :
    ∃ (d : Fin 8192 → Fin 3072 → ℝ) (w : Fin 1024 → Fin 3072 → ℝ) (x : Fin 8192 → Fin 1024 → ℝ) (p : Fin 1024 → ℝ),
      (∀ r k, D (ix2 r k) = (d r k : EReal)) ∧ (∀ i k, W (ix3 0 i k) = (w i k : EReal))
      ∧ (∀ r i, X (ix2 r i) = (x r i : EReal)) ∧ ∀ i, P (ix2 1 i) = (p i : EReal) := by
  obtain ⟨h0, h1, h2, h3⟩ := h
  have e0 (r k) : ∃ v : ℝ, D (ix2 r k) = (v : EReal) := by
    have h' := congrFun h0 (ix2 r k)
    unfold fn at h'
    pointwise at h'
    exact real_of_word h'
  have e1 (i k) : ∃ v : ℝ, W (ix3 0 i k) = (v : EReal) := by
    have h' := congrFun h1 (ix3 0 i k)
    unfold fn at h'
    pointwise at h'
    exact real_of_word h'
  have e2 (r i) : ∃ v : ℝ, X (ix2 r i) = (v : EReal) := by
    have h' := congrFun h2 (ix2 r i)
    unfold fn at h'
    pointwise at h'
    exact real_of_word h'
  have e3 (i) : ∃ v : ℝ, P (ix2 1 i) = (v : EReal) := by
    have h' := congrFun h3 (ix2 0 i)
    unfold fn at h'
    pointwise at h'
    exact real_of_word h'
  choose d hd using e0
  choose w hw using e1
  choose x hx using e2
  choose p hp using e3
  exact ⟨d, w, x, p, hd, hw, hx, hp⟩

end Cert.Pre_pj_finite

namespace Cert.Proof.Pj

/-- The kernel runs from every memory and leaves its arguments; every counter ends at zero. -/
theorem frame_kernel : Cert.quiescent_PjKernel := fun m ρ _ => Cert.PjKernel.Gen.frame m ρ

/-- The same of its idealization, with or without the precondition. -/
theorem frame_ideal : Cert.quiescent_PjKernelIdeal := fun m ρ _ => Cert.PjKernelIdeal.Gen.frame m ρ
theorem frame_ideal_pre : Cert.quiescent_PjKernelIdeal_pre_pj_finite := fun m ρ _ => Cert.PjKernelIdeal.Gen.frame m ρ

/-- The same of the reference: its host run read at the arguments; it declares no semaphore. -/
theorem frame_ref : Cert.quiescent_PjReferenceIdeal := fun m ρ _ =>
  (θ_run Cert.PjReferenceIdeal.defs _ _).mono (fun r h => ⟨fun c => (h c).2.2.2, Idealize.ShloMosaic.sem_eq_zero_of_no_sems (by decide) r.2⟩)
    (Cert.PjReferenceIdeal.Value.run (F := Ideal) m ρ)
theorem frame_ref_pre : Cert.quiescent_PjReferenceIdeal_pre_pj_finite := fun m ρ _ => frame_ref m ρ trivial

/-- The idealization rewrote nothing. -/
theorem preserves : Cert.preserves_PjKernel_PjKernelIdeal := trivial

/-- From finite arguments the kernel and the derivative of the forward lines leave the same gradients. -/
theorem algebraic : Cert.algebraic_PjKernelIdeal_PjReferenceIdeal_pre_pj_finite := by
  pair_intro
  · run_from Cert.PjKernelIdeal.Value.run_blocks (F := Ideal) m g
  · run_from Cert.PjReferenceIdeal.Value.run (F := Ideal) m' g'
    · obtain ⟨d, w, x, p, hD, hW, hX, hP⟩ := Cert.Pre_pj_finite.reals _ _ _ _ _ (hpre c)
      refine Eq.trans ?_ (Kernel.final5 m c d w x p hD hW hX hP).symm
      refine Eq.trans ?_ (Ref.dx_eq _ _ _ _ _ d w x p hD hW hX hP)
      unfold Cert.PjReferenceIdeal.Value.res_main_v44
      rw [(hagree c).1, (hagree c).2.1, (hagree c).2.2.1, (hagree c).2.2.2.1, (hagree c).2.2.2.2]
      rfl
    · exact (Ref.dw_eq _ _ _).trans (Kernel.final6 m c).symm
    · obtain ⟨d, w, x, p, hD, hW, hX, hP⟩ := Cert.Pre_pj_finite.reals _ _ _ _ _ (hpre c)
      refine Eq.trans ?_ (Kernel.final7 m c d w x hD hW hX).symm
      exact Ref.dgain_eq _ _ _ d w x hD hW hX

end Cert.Proof.Pj

namespace Cert.Proof.Dw

/-- The kernel runs from every memory and leaves its arguments; every counter ends at zero. -/
theorem frame_kernel : Cert.quiescent_DwKernel := fun m ρ _ => Cert.DwKernel.Gen.frame m ρ

/-- The same of its idealization. -/
theorem frame_ideal : Cert.quiescent_DwKernelIdeal := fun m ρ _ => Cert.DwKernelIdeal.Gen.frame m ρ

/-- The same of the reference: its host run read at the arguments; it declares no semaphore. -/
theorem frame_ref : Cert.quiescent_DwReferenceIdeal := fun m ρ _ =>
  (θ_run Cert.DwReferenceIdeal.defs _ _).mono (fun r h => ⟨fun c => (h c).2, Idealize.ShloMosaic.sem_eq_zero_of_no_sems (by decide) r.2⟩)
    (Cert.DwReferenceIdeal.Value.run (F := Ideal) m ρ)

/-- The idealization rewrote nothing. -/
theorem preserves : Cert.preserves_DwKernel_DwKernelIdeal := trivial

/-- The kernel and the derivative of the forward product leave the same weight gradient, from any arguments. -/
theorem algebraic : Cert.algebraic_DwKernelIdeal_DwReferenceIdeal := by
  pair_intro
  · run_from Cert.DwKernelIdeal.Value.run_blocks (F := Ideal) m g
  · run_from Cert.DwReferenceIdeal.Value.run (F := Ideal) m' g'
    exact (Ref.dw_eq _ _ _).trans (Kernel.final3 m c).symm

end Cert.Proof.Dw
-- ==== Proof.MxModel.lean ====
/- The mixing layer over the reals: one attention head on one block of rows with its gradient, the two gates,
   and the pooled sums. Nothing here mentions a program. -/
module

public import proofs.«01_k».proof.Proof.RealLift

@[expose] public section

noncomputable section

open Idealize.ShloMosaic

namespace Cert.Proof.Mx

open Cert.Proof.RealLift

/-! ## Attention -/

/-- Key `s` of a block of 256 is seen by query `q` of block `n`: it lies in the window and in the sequence. -/
abbrev Seen (n : ℕ) (q : Fin 128) (s : Fin 256) : Prop := (s : ℕ) ≤ q + 128 ∧ (q : ℕ) < s ∧ 128 ≤ n * 128 + s

/-- One head on one block of 128 queries: block number, queries, keys, values, cotangent, slope and sink. -/
structure Head where
  n : ℕ
  Q : Fin 128 → Fin 64 → ℝ
  K : Fin 256 → Fin 64 → ℝ
  V : Fin 256 → Fin 64 → ℝ
  dO : Fin 128 → Fin 64 → ℝ
  sl : ℝ
  sk : ℝ

namespace Head

variable (h : Head)

/-- The score with the position's bias. -/
def lin (q : Fin 128) (s : Fin 256) : ℝ := (∑ d, h.Q q d * h.K s d) * (1 / 8) - h.sl * ((q : ℝ) + 128 - s)

/-- The masked score. -/
def score (q : Fin 128) (s : Fin 256) : EReal := if Seen h.n q s then (h.lin q s : EReal) else ⊥

theorem score_seen {q : Fin 128} {s : Fin 256} (hs : Seen h.n q s) : h.score q s = (h.lin q s : EReal) := if_pos hs

theorem score_unseen {q : Fin 128} {s : Fin 256} (hs : ¬ Seen h.n q s) : h.score q s = ⊥ := if_neg hs

/-- The row's largest masked score or the sink. -/
def M (q : Fin 128) : ℝ := (max (Finset.univ.fold max ⊥ (h.score q)) (h.sk : EReal)).toReal

/-- A maximum of extended reals below infinity lies below infinity. -/
theorem fold_max_lt_top {ι : Type*} (s : Finset ι) (f : ι → EReal) (hf : ∀ i, f i < ⊤) : s.fold max ⊥ f < ⊤ := by
  classical
  induction s using Finset.induction_on with
  | empty => rw [Finset.fold_empty]; exact bot_lt_top
  | insert a s ha ih => rw [Finset.fold_insert ha]; exact max_lt (hf a) ih

theorem score_lt_top (q : Fin 128) (s : Fin 256) : h.score q s < ⊤ := by
  unfold score
  split
  · exact EReal.coe_lt_top _
  · exact bot_lt_top

/-- The row's maximum is a real. -/
theorem max_eq (q : Fin 128) : max (Finset.univ.fold max ⊥ (h.score q)) (h.sk : EReal) = (h.M q : EReal) := by
  refine (EReal.coe_toReal (ne_of_lt ?_) (ne_of_gt ?_)).symm
  · exact max_lt (fold_max_lt_top _ _ (h.score_lt_top q)) (EReal.coe_lt_top _)
  · exact lt_of_lt_of_le (EReal.bot_lt_coe _) (le_max_right _ _)

/-- The exponential of a masked score. -/
def ex (q : Fin 128) (s : Fin 256) : ℝ := if Seen h.n q s then Real.exp (h.lin q s - h.M q) else 0

theorem exp_eq (q : Fin 128) (s : Fin 256) : Ideal.exp (h.score q s - (h.M q : EReal)) = (h.ex q s : EReal) := by
  unfold score ex
  split
  · rw [← EReal.coe_sub, Ideal.exp_coe]
  · rw [EReal.bot_sub, Ideal.exp_bot, EReal.coe_zero]

/-- The exponential of the sink. -/
def es (q : Fin 128) : ℝ := Real.exp (h.sk - h.M q)

theorem exp_sink_eq (q : Fin 128) : Ideal.exp ((h.sk : EReal) - (h.M q : EReal)) = (h.es q : EReal) := by
  rw [← EReal.coe_sub, Ideal.exp_coe]; rfl

/-- The row's normaliser. -/
def den (q : Fin 128) : ℝ := (∑ s, h.ex q s) + h.es q

theorem den_pos (q : Fin 128) : 0 < h.den q := by
  refine add_pos_of_nonneg_of_pos (Finset.sum_nonneg fun s _ => ?_) (Real.exp_pos _)
  unfold ex
  split
  · exact (Real.exp_pos _).le
  · exact le_rfl

/-- The weight of a key. -/
def pr (q : Fin 128) (s : Fin 256) : ℝ := h.ex q s / h.den q

/-- The weight of the sink. -/
def ps (q : Fin 128) : ℝ := h.es q / h.den q

/-- The attended values. -/
def out (q : Fin 128) (d : Fin 64) : ℝ := ∑ s, h.pr q s * h.V s d

/-- The cotangent of a weight. -/
def dp (q : Fin 128) (s : Fin 256) : ℝ := ∑ d, h.dO q d * h.V s d

/-- The row's inner product of output and cotangent. -/
def dl (q : Fin 128) : ℝ := ∑ d, h.dO q d * h.out q d

/-- The cotangent of a score. -/
def ds (q : Fin 128) (s : Fin 256) : ℝ := h.pr q s * (h.dp q s - h.dl q)

/-- The queries' gradient. -/
def dQ (q : Fin 128) (d : Fin 64) : ℝ := (∑ s, h.ds q s * h.K s d) * (1 / 8)

/-- The keys' gradient. -/
def dK (s : Fin 256) (d : Fin 64) : ℝ := ∑ q, h.ds q s * (h.Q q d * (1 / 8))

/-- The values' gradient. -/
def dV (s : Fin 256) (d : Fin 64) : ℝ := ∑ q, h.pr q s * h.dO q d

/-- The sink's part of the block's sink gradient. -/
def dS : ℝ := ∑ q, h.ps q * h.dl q

theorem pr_unseen {q : Fin 128} {s : Fin 256} (hs : ¬ Seen h.n q s) : h.pr q s = 0 := by
  unfold pr ex; rw [if_neg hs, zero_div]

theorem ds_unseen {q : Fin 128} {s : Fin 256} (hs : ¬ Seen h.n q s) : h.ds q s = 0 := by
  unfold ds; rw [h.pr_unseen hs, zero_mul]

/-- The inner product of output and cotangent is the weighted sum of the weights' cotangents. -/
theorem dl_eq (q : Fin 128) : h.dl q = ∑ s, h.pr q s * h.dp q s := by
  unfold dl out dp
  simp only [Finset.mul_sum]
  rw [Finset.sum_comm]
  exact Finset.sum_congr rfl fun s _ => Finset.sum_congr rfl fun d _ => by ring

/-- The derivative of the normaliser as the derivative rule writes it. -/
theorem dden_eq (q : Fin 128) : -(∑ s, h.dp q s * (1 / (h.den q * h.den q)) * h.ex q s) = -(h.dl q / h.den q) := by
  rw [dl_eq, Finset.sum_div]
  refine congrArg _ (Finset.sum_congr rfl fun s _ => ?_)
  have := (h.den_pos q).ne'
  unfold pr
  field_simp

/-- The cotangent of a score as the derivative rule writes it. -/
theorem ds_eq (q : Fin 128) (s : Fin 256) : (h.dp q s / h.den q + -(h.dl q / h.den q)) * h.ex q s = h.ds q s := by
  unfold ds pr
  have := (h.den_pos q).ne'
  field_simp
  ring

/-- The cotangent of the sink's exponential as the derivative rule writes it. -/
theorem dsink_eq (q : Fin 128) : -(h.dl q / h.den q) * h.es q = -(h.ps q * h.dl q) := by
  unfold ps; ring

/-- The maximum receives no cotangent. -/
theorem dmax_eq (q : Fin 128) : -(-(h.ps q * h.dl q)) + ∑ s, -(h.ds q s) = 0 := by
  have hd := (h.den_pos q).ne'
  have h1 : ∑ s, h.ds q s = h.dl q - (∑ s, h.pr q s) * h.dl q := by
    unfold ds
    rw [Finset.sum_mul]
    conv_rhs => rw [dl_eq]
    rw [← Finset.sum_sub_distrib]
    refine Finset.sum_congr rfl fun s _ => ?_
    rw [← dl_eq]
    ring
  have h2 : ∑ s, h.pr q s = 1 - h.ps q := by
    unfold pr ps
    rw [← Finset.sum_div, eq_sub_iff_add_eq, ← add_div]
    exact div_self hd
  rw [Finset.sum_neg_distrib, h1, h2]
  ring

/-- Heads that agree on every key seen have the same weights and gradients. -/
structure Same (h k : Head) : Prop where
  n : h.n = k.n
  Q : h.Q = k.Q
  dO : h.dO = k.dO
  sl : h.sl = k.sl
  sk : h.sk = k.sk
  K : ∀ q s, Seen h.n q s → h.K s = k.K s
  V : ∀ q s, Seen h.n q s → h.V s = k.V s

namespace Same

variable {h} {k : Head} (e : Same h k)
include e

theorem score : h.score = k.score := by
  funext q s
  unfold Head.score
  rw [← e.n]
  split
  next hs => unfold Head.lin; rw [e.Q, e.K q s hs, e.sl]
  next => rfl

theorem M : h.M = k.M := by
  funext q; unfold Head.M; rw [e.score, e.sk]

theorem ex : h.ex = k.ex := by
  funext q s
  unfold Head.ex
  rw [← e.n]
  split
  next hs => unfold Head.lin; rw [e.Q, e.K q s hs, e.sl, e.M]
  next => rfl

theorem den : h.den = k.den := by
  funext q; unfold Head.den Head.es; rw [e.ex, e.sk, e.M]

theorem pr : h.pr = k.pr := by
  funext q s; unfold Head.pr; rw [e.ex, e.den]

theorem ps : h.ps = k.ps := by
  funext q; unfold Head.ps Head.es; rw [e.den, e.sk, e.M]

theorem out : h.out = k.out := by
  funext q d
  unfold Head.out
  rw [← e.pr]
  refine Finset.sum_congr rfl fun s _ => ?_
  by_cases hs : Seen h.n q s
  · rw [e.V q s hs]
  · rw [h.pr_unseen hs, zero_mul, zero_mul]

theorem dl : h.dl = k.dl := by
  funext q; unfold Head.dl; rw [e.dO, e.out]

theorem ds : h.ds = k.ds := by
  funext q s
  by_cases hs : Seen h.n q s
  · unfold Head.ds Head.dp; rw [e.pr, e.dl, e.dO, e.V q s hs]
  · rw [h.ds_unseen hs, k.ds_unseen (e.n ▸ hs)]

theorem dQ : h.dQ = k.dQ := by
  funext q d
  unfold Head.dQ
  rw [← e.ds]
  refine congrArg (· * (1 / 8 : ℝ)) (Finset.sum_congr rfl fun s _ => ?_)
  by_cases hs : Seen h.n q s
  · rw [e.K q s hs]
  · rw [h.ds_unseen hs, zero_mul, zero_mul]

theorem dK : h.dK = k.dK := by
  funext s d; unfold Head.dK; rw [e.ds, e.Q]

theorem dV : h.dV = k.dV := by
  funext s d; unfold Head.dV; rw [e.pr, e.dO]

theorem dS : h.dS = k.dS := by
  unfold Head.dS; rw [e.ps, e.dl]

end Same

end Head

/-! ## Gates -/

/-- The logistic function. -/
def sig (x : ℝ) : ℝ := 1 / (1 + Real.exp (-x))

/-- The gate `x · sig x`. -/
def silu (x : ℝ) : ℝ := x * sig x

/-- The gate's derivative. -/
def dsilu (x : ℝ) : ℝ := sig x + x * sig x * (1 - sig x)

theorem sig_den_pos (x : ℝ) : 0 < 1 + Real.exp (-x) := by have := Real.exp_pos (-x); linarith

/-- The logistic function through the hyperbolic tangent. -/
theorem tanh_sig (x : ℝ) : 1 / 2 * Real.tanh (1 / 2 * x) + 1 / 2 = sig x := by
  have h : Real.exp (-x) = Real.exp (-(1 / 2 * x)) * Real.exp (-(1 / 2 * x)) := by rw [← Real.exp_add]; ring_nf
  have h2 : Real.exp (1 / 2 * x) * Real.exp (-(1 / 2 * x)) = 1 := by rw [← Real.exp_add]; simp
  unfold sig
  rw [Real.tanh_eq_sinh_div_cosh, Real.sinh_eq, Real.cosh_eq, h]
  have ha := Real.exp_pos (1 / 2 * x)
  have hb := Real.exp_pos (-(1 / 2 * x))
  generalize Real.exp (1 / 2 * x) = a at *
  generalize Real.exp (-(1 / 2 * x)) = b at *
  have h3 : (1 : ℝ) + b * b ≠ 0 := by positivity
  have h4 : (a + b) / 2 ≠ 0 := by positivity
  field_simp
  nlinarith

/-! ## Pooling -/

/-- The positions a window of `w` ending at row `r` holds. -/
abbrev In (w r i : ℕ) : Prop := i ≤ r ∧ r < i + w

/-- The number of rows a window of `w` ending at row `r` holds. -/
def cnt (w r : ℕ) : ℝ := ((min (r + 1) w : ℕ) : ℝ)

theorem cnt_pos {w : ℕ} (hw : 0 < w) (r : ℕ) : 0 < cnt w r := by
  unfold cnt
  exact_mod_cast (by omega : 0 < min (r + 1) w)

/-- The window's mean without the row itself. -/
def pool (w : ℕ) (u : Fin 8192 → ℝ) (r : Fin 8192) : ℝ := (∑ i : Fin 8192, if In w r i then u i else 0) / cnt w r - u r

/-- The derivative of `pool`. -/
def unpool (w : ℕ) (d : Fin 8192 → ℝ) (r : Fin 8192) : ℝ :=
  (∑ i : Fin 8192, if In w i r then d i / cnt w i else 0) - d r

/-- Two running sums' difference is the window's sum. -/
theorem window_eq (w : ℕ) (u : Fin 8192 → ℝ) (r : Fin 8192) :
    (∑ i : Fin 8192, if (i : ℕ) ≤ r then u i else 0) - (∑ i : Fin 8192, if (i : ℕ) < r + 1 - w then u i else 0)
      = ∑ i : Fin 8192, if In w r i then u i else 0 := by
  rw [← Finset.sum_sub_distrib]
  refine Finset.sum_congr rfl fun i _ => ?_
  unfold In
  split <;> split <;> split <;> first | omega | simp

/-- The derivative of two running sums' difference. -/
theorem unwindow_eq (w : ℕ) (d : Fin 8192 → ℝ) (r : Fin 8192) :
    (∑ i : Fin 8192, if (r : ℕ) ≤ i then d i else 0) + (∑ i : Fin 8192, if (r : ℕ) < i + 1 - w then -(d i) else 0)
      = ∑ i : Fin 8192, if In w i r then d i else 0 := by
  rw [← Finset.sum_add_distrib]
  refine Finset.sum_congr rfl fun i _ => ?_
  unfold In
  split <;> split <;> split <;> first | omega | simp

end Cert.Proof.Mx

end
-- ==== Proof.MxBody.lean ====
/- One block of 128 query rows of the mixing layer's gradient, as the kernel's body computes it from the vectors it
   loads: two key heads, four query heads stacked over each. Every vector is read at an index as a real. -/
module

public import proofs.«01_k».proof.Proof.MxModel
public import proofs.«01_k».proof.Proof.Gen.MxKernelIdeal.Skeleton

@[expose] public section

set_option maxRecDepth 16384

noncomputable section

open Idealize.ShloMosaic Idealize.ShloMosaic.TcCoe Idealize.SL.Sem

namespace Cert.Proof.Mx.Body

open Cert.MxKernelIdeal Cert.MxKernelIdeal.Gen Cert.Proof.RealLift

/-! ## The constants -/

theorem bits_zero : Ideal.ofBits .f32 0x00000000#32 = ((0 : ℝ) : EReal) := by simp [Ideal.ofBits, Ideal.ieee]
theorem bits_one : Ideal.ofBits .f32 0x3F800000#32 = ((1 : ℝ) : EReal) := by
  simp [Ideal.ofBits, Ideal.ieee, -EReal.coe_mul]; norm_num
theorem bits_half : Ideal.ofBits .f32 0x3F000000#32 = ((1 / 2 : ℝ) : EReal) := by
  simp [Ideal.ofBits, Ideal.ieee, -EReal.coe_mul]; norm_num
theorem bits_eighth : Ideal.ofBits .f32 0x3E000000#32 = ((1 / 8 : ℝ) : EReal) := by
  simp [Ideal.ofBits, Ideal.ieee, -EReal.coe_mul]; norm_num
theorem bits_bot : Ideal.ofBits .f32 0xFF800000#32 = (⊥ : EReal) := by simp [Ideal.ofBits, Ideal.ieee]

/-! ## Lanes and stacked rows -/

/-- A lane of 256 from its group and its column. -/
abbrev lane (g : Fin 4) (d : Fin 64) : Fin 256 := ⟨g * 64 + d, by omega⟩
/-- A lane's group. -/
abbrev lg (l : Fin 256) : Fin 4 := ⟨l / 64, by omega⟩
/-- A lane's column. -/
abbrev ld (l : Fin 256) : Fin 64 := ⟨l % 64, by omega⟩
/-- A stacked row from its group and its row. -/
abbrev row (g : Fin 4) (q : Fin 128) : Fin 512 := ⟨g * 128 + q, by omega⟩
/-- A stacked row's group. -/
abbrev rg (r : Fin 512) : Fin 4 := ⟨r / 128, by omega⟩
/-- A stacked row's row. -/
abbrev rq (r : Fin 512) : Fin 128 := ⟨r % 128, by omega⟩

/-- A sum over 256 lanes, group by group. -/
theorem sum_lanes (F : Fin 256 → ℝ) : ∑ l, F l = ∑ g, ∑ d, F (lane g d) := by
  rw [← (finProdFinEquiv (m := 4) (n := 64)).sum_comp, Fintype.sum_prod_type]
  refine Finset.sum_congr rfl fun g _ => Finset.sum_congr rfl fun d _ => congrArg F (Fin.ext ?_)
  show (d : ℕ) + 64 * g = g * 64 + d
  omega

/-- A sum over 512 stacked rows, group by group. -/
theorem sum_rows (F : Fin 512 → ℝ) : ∑ r, F r = ∑ g, ∑ q, F (row g q) := by
  rw [← (finProdFinEquiv (m := 4) (n := 128)).sum_comp, Fintype.sum_prod_type]
  refine Finset.sum_congr rfl fun g _ => Finset.sum_congr rfl fun d _ => congrArg F (Fin.ext ?_)
  show (d : ℕ) + 128 * g = g * 128 + d
  omega

/-- Lanes of one group only. -/
theorem sum_lanes_of (g : Fin 4) (F : Fin 256 → ℝ) (hF : ∀ l, lg l ≠ g → F l = 0) : ∑ l, F l = ∑ d, F (lane g d) := by
  rw [sum_lanes]
  refine Finset.sum_eq_single g (fun g' _ hne => Finset.sum_eq_zero fun d _ => hF _ ?_) (fun hn => absurd (Finset.mem_univ g) hn)
  intro he
  apply hne
  rw [← he]
  apply Fin.ext
  show (g' : ℕ) = (g' * 64 + d) / 64
  omega

/-- Stacked rows of one group only. -/
theorem sum_rows_of (g : Fin 4) (F : Fin 512 → ℝ) (hF : ∀ r, rg r ≠ g → F r = 0) : ∑ r, F r = ∑ q, F (row g q) := by
  rw [sum_rows]
  refine Finset.sum_eq_single g (fun g' _ hne => Finset.sum_eq_zero fun d _ => hF _ ?_) (fun hn => absurd (Finset.mem_univ g) hn)
  intro he
  apply hne
  rw [← he]
  apply Fin.ext
  show (g' : ℕ) = (g' * 128 + d) / 128
  omega

/-- A selection by a decided bit. -/
theorem sel {α : Type} (p : Prop) [Decidable p] (x y : α) : Scalar.select (BitVec.ofBool (decide p)) x y = if p then x else y := by
  by_cases h : p <;> simp [h, Scalar.select]

/-- A real or zero, cast. -/
theorem coe_ite (p : Prop) [Decidable p] (a : ℝ) : ((if p then a else 0 : ℝ) : EReal) = if p then (a : EReal) else 0 := by
  split <;> rfl

/-- The four ways to be a stacked row. -/
theorem row_cases {P : Fin 512 → Prop} (h : ∀ g q, P (row g q)) (r : Fin 512) : P r := by
  have e : row (rg r) (rq r) = r := Fin.ext (by show r / 128 * 128 + r % 128 = (r : ℕ); omega)
  exact e ▸ h (rg r) (rq r)

theorem rg_row (g : Fin 4) (q : Fin 128) : rg (row g q) = g := Fin.ext (by show (g * 128 + q : ℕ) / 128 = g; omega)
theorem rq_row (g : Fin 4) (q : Fin 128) : rq (row g q) = q := Fin.ext (by show (g * 128 + q : ℕ) % 128 = q; omega)
theorem lg_lane (g : Fin 4) (d : Fin 64) : lg (lane g d) = g := Fin.ext (by show (g * 64 + d : ℕ) / 64 = g; omega)
theorem ld_lane (g : Fin 4) (d : Fin 64) : ld (lane g d) = d := Fin.ext (by show (g * 64 + d : ℕ) % 64 = d; omega)
theorem lane_lg (l : Fin 256) : lane (lg l) (ld l) = l := Fin.ext (by show (l / 64 * 64 + l % 64 : ℕ) = l; omega)

/-! ## The vectors of one key head -/

section Defs

variable (m0 m1 m2 m3 : IVec S1x256 1) (np : BitVec 1) (k4 v4 : FVec Ideal S256x256 .bf16) (qk dok : FVec Ideal S128x256 .f32)
  (bias : FVec Ideal S512x256 .f32) (sink : FVec Ideal S512x1 .f32)

/-- Four masked copies of a tile stacked. -/
def stack (w : BitVec 32) (x : FVec Ideal S128x256 .f32) : FVec Ideal S512x256 .bf16 :=
  truncf .bf16 (concatenate S512x256 0
    [⟨S128x256, mulf x (broadcastTo S128x256 (select m0 (broadcast S1x256 (Scalar.ofBits .f32 w : Ideal .f32)) (broadcast S1x256 (Scalar.ofBits .f32 0x00000000#32))) broadcasts_S1x256_S128x256)⟩,
     ⟨S128x256, mulf x (broadcastTo S128x256 (select m1 (broadcast S1x256 (Scalar.ofBits .f32 w : Ideal .f32)) (broadcast S1x256 (Scalar.ofBits .f32 0x00000000#32))) broadcasts_S1x256_S128x256)⟩,
     ⟨S128x256, mulf x (broadcastTo S128x256 (select m2 (broadcast S1x256 (Scalar.ofBits .f32 w : Ideal .f32)) (broadcast S1x256 (Scalar.ofBits .f32 0x00000000#32))) broadcasts_S1x256_S128x256)⟩,
     ⟨S128x256, mulf x (broadcastTo S128x256 (select m3 (broadcast S1x256 (Scalar.ofBits .f32 w : Ideal .f32)) (broadcast S1x256 (Scalar.ofBits .f32 0x00000000#32))) broadcasts_S1x256_S128x256)⟩]
    concatenates_S128x256_S128x256_S128x256_S128x256_S512x256_d0) bitsLt_bf16_f32

/-- The stacked tile's own lanes put back side by side. -/
def unstack (x : FVec Ideal S512x256 .f32) : FVec Ideal S128x256 .f32 :=
  select (broadcastTo S128x256 (shapeCast S1x256 m0 shapeCasts_S1x256_S1x256) broadcasts_S1x256_S128x256) (extractStridedSlice S128x256 ![0, 0] x slices_S512x256_o0_0_S128x256)
    (select (broadcastTo S128x256 (shapeCast S1x256 m1 shapeCasts_S1x256_S1x256) broadcasts_S1x256_S128x256) (extractStridedSlice S128x256 ![128, 0] x slices_S512x256_o128_0_S128x256)
      (select (broadcastTo S128x256 (shapeCast S1x256 m2 shapeCasts_S1x256_S1x256) broadcasts_S1x256_S128x256) (extractStridedSlice S128x256 ![256, 0] x slices_S512x256_o256_0_S128x256)
        (extractStridedSlice S128x256 ![384, 0] x slices_S512x256_o384_0_S128x256)))

/-- The scores. -/
def scores : FVec Ideal S512x256 .f32 :=
  let s : FVec Ideal S512x256 .f32 := addf (matmul dot_S512x256_S256x256_S512x256_1_1_0_0_n_n none (stack m0 m1 m2 m3 0x3E000000#32 qk) k4 (constant S512x256 .f32 0x00000000#32)) bias
  concatenate S512x256 1
    [⟨S512x128, (Scalar.select np (broadcast S512x128 (Named.named κ "mask" 0xF149F2CA#32 : Ideal .f32)) (extractStridedSlice S512x128 ![0, 0] s slices_S512x256_o0_0_S512x128) : FVec Ideal S512x128 .f32)⟩,
     ⟨S512x128, extractStridedSlice S512x128 ![0, 128] s slices_S512x256_o0_128_S512x128⟩] concatenates_S512x128_S512x128_S512x256_d1

/-- The rows' maxima. -/
def maxes : FVec Ideal S512x1 .f32 :=
  maximumf (shapeCast S512x1 (multiReduction .maximumf [1] S512 (scores m0 m1 m2 m3 np k4 qk bias) 0xFF800000#32 reduces_S512x256_S512 (.inl rfl) rfl) shapeCasts_S512_S512x1) sink

/-- The exponentials. -/
def exps : FVec Ideal S512x256 .f32 :=
  exp (subf (scores m0 m1 m2 m3 np k4 qk bias) (broadcastTo S512x256 (maxes m0 m1 m2 m3 np k4 qk bias sink) broadcasts_S512x1_S512x256))

/-- The sinks' exponentials. -/
def expsink : FVec Ideal S512x1 .f32 := exp (subf sink (maxes m0 m1 m2 m3 np k4 qk bias sink))

/-- The normalisers' inverses. -/
def inv : FVec Ideal S512x1 .f32 :=
  divf (broadcast S512x1 (Scalar.ofBits .f32 0x3F800000#32))
    (addf (shapeCast S512x1 (multiReduction .add [1] S512 (exps m0 m1 m2 m3 np k4 qk bias sink) 0x00000000#32 reduces_S512x256_S512 (.inl rfl) rfl) shapeCasts_S512_S512x1)
      (expsink m0 m1 m2 m3 np k4 qk bias sink))

/-- The weights. -/
def probs : FVec Ideal S512x256 .f32 :=
  mulf (exps m0 m1 m2 m3 np k4 qk bias sink) (broadcastTo S512x256 (inv m0 m1 m2 m3 np k4 qk bias sink) broadcasts_S512x1_S512x256)

/-- The sinks' weights. -/
def sinkprobs : FVec Ideal S512x1 .f32 := mulf (expsink m0 m1 m2 m3 np k4 qk bias sink) (inv m0 m1 m2 m3 np k4 qk bias sink)

/-- The attended values. -/
def outs : FVec Ideal S128x256 .f32 :=
  unstack m0 m1 m2 (matmul dot_S512x256_S256x256_S512x256_1_0_0_1_n_n none (truncf .bf16 (probs m0 m1 m2 m3 np k4 qk bias sink) bitsLt_bf16_f32) v4 (constant S512x256 .f32 0x00000000#32))

/-- One group's inner products of output and cotangent. -/
def delta1 (m : IVec S1x256 1) : FVec Ideal S128x1 .f32 :=
  shapeCast S128x1 (multiReduction .add [1] S128
    (select (broadcastTo S128x256 (shapeCast S1x256 m shapeCasts_S1x256_S1x256) broadcasts_S1x256_S128x256) (mulf dok (outs m0 m1 m2 m3 np k4 v4 qk bias sink)) (broadcast S128x256 (Scalar.ofBits .f32 0x00000000#32)))
    0x00000000#32 reduces_S128x256_S128 (.inl rfl) rfl) shapeCasts_S128_S128x1

/-- The inner products of output and cotangent. -/
def delta : FVec Ideal S512x1 .f32 :=
  concatenate S512x1 0
    [⟨S128x1, delta1 m0 m1 m2 m3 np k4 v4 qk dok bias sink m0⟩, ⟨S128x1, delta1 m0 m1 m2 m3 np k4 v4 qk dok bias sink m1⟩,
     ⟨S128x1, delta1 m0 m1 m2 m3 np k4 v4 qk dok bias sink m2⟩, ⟨S128x1, delta1 m0 m1 m2 m3 np k4 v4 qk dok bias sink m3⟩]
    concatenates_S128x1_S128x1_S128x1_S128x1_S512x1_d0

/-- The scores' cotangents. -/
def dscores : FVec Ideal S512x256 .bf16 :=
  truncf .bf16 (mulf (probs m0 m1 m2 m3 np k4 qk bias sink)
    (subf (matmul dot_S512x256_S256x256_S512x256_1_1_0_0_n_n none (stack m0 m1 m2 m3 0x3F800000#32 dok) v4 (constant S512x256 .f32 0x00000000#32))
      (broadcastTo S512x256 (delta m0 m1 m2 m3 np k4 v4 qk dok bias sink) broadcasts_S512x1_S512x256))) bitsLt_bf16_f32

/-- The sinks' terms. -/
def sinkterm : FVec Ideal S512x1 .f32 :=
  mulf (sinkprobs m0 m1 m2 m3 np k4 qk bias sink) (delta m0 m1 m2 m3 np k4 v4 qk dok bias sink)

/-- The queries' gradient. -/
def dq : FVec Ideal S128x256 .f32 :=
  mulf (unstack m0 m1 m2 (matmul dot_S512x256_S256x256_S512x256_1_0_0_1_n_n none (dscores m0 m1 m2 m3 np k4 v4 qk dok bias sink) k4 (constant S512x256 .f32 0x00000000#32)))
    (broadcast S128x256 (Scalar.ofBits .f32 0x3E000000#32))

/-- Four groups of lanes added. -/
def fold (x : FVec Ideal S256x256 .f32) : FVec Ideal S256x128 .f32 :=
  let a : FVec Ideal S256x128 .f32 := addf (extractStridedSlice S256x128 ![0, 0] x slices_S256x256_o0_0_S256x128) (extractStridedSlice S256x128 ![0, 128] x slices_S256x256_o0_128_S256x128)
  addf a (dynamicRotate 1 64#32 none a rotates_S256x128_d1)

/-- The keys' gradient. -/
def dk : FVec Ideal S256x128 .f32 :=
  fold (matmul dot_S512x256_S512x256_S256x256_0_0_1_1_n_n none (dscores m0 m1 m2 m3 np k4 v4 qk dok bias sink) (stack m0 m1 m2 m3 0x3E000000#32 qk) (constant S256x256 .f32 0x00000000#32))

/-- The values' gradient. -/
def dv : FVec Ideal S256x128 .f32 :=
  fold (matmul dot_S512x256_S512x256_S256x256_0_0_1_1_n_n none (truncf .bf16 (probs m0 m1 m2 m3 np k4 qk bias sink) bitsLt_bf16_f32) (stack m0 m1 m2 m3 0x3F800000#32 dok) (constant S256x256 .f32 0x00000000#32))

end Defs

/-! ## Each vector at an index -/

section Reads

variable {m0 m1 m2 m3 : IVec S1x256 1} {np : BitVec 1} {k4 v4 : FVec Ideal S256x256 .bf16} {qk dok : FVec Ideal S128x256 .f32}
  {bias : FVec Ideal S512x256 .f32} {sink : FVec Ideal S512x1 .f32}

variable (hm0 : ∀ u l, m0 (ix2 u l) = BitVec.ofBool (decide (lg l = 0))) (hm1 : ∀ u l, m1 (ix2 u l) = BitVec.ofBool (decide (lg l = 1)))
  (hm2 : ∀ u l, m2 (ix2 u l) = BitVec.ofBool (decide (lg l = 2))) (hm3 : ∀ u l, m3 (ix2 u l) = BitVec.ofBool (decide (lg l = 3)))

variable (n : ℕ) (Q D : Fin 128 → Fin 256 → ℝ) (K V : Fin 256 → Fin 64 → ℝ) (sl sk : Fin 4 → ℝ)

/-- The head of a group. -/
def hd (g : Fin 4) : Head :=
  ⟨n, fun q d => Q q (lane g d), K, V, fun q d => D q (lane g d), sl g, sk g⟩

variable (hnp : np = BitVec.ofBool (decide (n = 0)))
  (hk : ∀ s l, k4 (ix2 s l) = (K s (ld l) : EReal)) (hv : ∀ s l, v4 (ix2 s l) = (V s (ld l) : EReal))
  (hq : ∀ q l, qk (ix2 q l) = (Q q l : EReal)) (hd' : ∀ q l, dok (ix2 q l) = (D q l : EReal))
  (hb : ∀ r s, bias (ix2 r s) = if (s : ℕ) ≤ rq r + 128 ∧ (rq r : ℕ) < s then ((-(sl (rg r) * ((rq r : ℝ) + 128 - s)) : ℝ) : EReal) else ⊥)
  (hs : ∀ r u, sink (ix2 r u) = (sk (rg r) : EReal))

include hm0 hm1 hm2 hm3 in
/-- A stacked tile holds its lanes in its own group's rows and zero elsewhere. -/
theorem stack_at (w : BitVec 32) (c : ℝ) (hw : Ideal.ofBits .f32 w = (c : EReal)) (x : FVec Ideal S128x256 .f32) (X : Fin 128 → Fin 256 → ℝ)
    (hx : ∀ q l, x (ix2 q l) = (X q l : EReal)) (r : Fin 512) (l : Fin 256) :
    stack m0 m1 m2 m3 w x (ix2 r l) = ((if lg l = rg r then X (rq r) l * c else 0 : ℝ) : EReal) := by
  pointwise [stack]
  simp only [hm0, hm1, hm2, hm3, hx, hw, sel, ← EReal.coe_mul, coe_ite]
  have hr := r.isLt
  split
  next h => rw [show rg r = 0 from Fin.ext (by show (r / 128 : ℕ) = 0; omega), show rq r = ⟨r, h⟩ from Fin.ext (by show (r % 128 : ℕ) = r; omega)]
  next h =>
  split
  next h' => rw [show rg r = 1 from Fin.ext (by show (r / 128 : ℕ) = 1; omega), show rq r = ⟨r - 128, h'⟩ from Fin.ext (by show (r % 128 : ℕ) = r - 128; omega)]
  next h' =>
  split
  next h'' => rw [show rg r = 2 from Fin.ext (by show (r / 128 : ℕ) = 2; omega), show rq r = ⟨r - 128 - 128, h''⟩ from Fin.ext (by show (r % 128 : ℕ) = r - 128 - 128; omega)]
  next h'' => rw [show rg r = 3 from Fin.ext (by show (r / 128 : ℕ) = 3; omega), show rq r = ⟨r - 128 - 128 - 128, by omega⟩ from Fin.ext (by show (r % 128 : ℕ) = r - 128 - 128 - 128; omega)]

include hm0 hm1 hm2 hm3 in
/-- A stacked tile against a head's rows: only the row's own group adds. -/
theorem stack_dot (w : BitVec 32) (c : ℝ) (hw : Ideal.ofBits .f32 w = (c : EReal)) (x : FVec Ideal S128x256 .f32) (X : Fin 128 → Fin 256 → ℝ)
    (hx : ∀ q l, x (ix2 q l) = (X q l : EReal)) (y : FVec Ideal S256x256 .bf16) (Y : Fin 256 → Fin 64 → ℝ) (hy : ∀ s l, y (ix2 s l) = (Y s (ld l) : EReal))
    (r : Fin 512) (s : Fin 256) :
    (∑ l : Fin 256, stack m0 m1 m2 m3 w x (ix2 r l) * y (ix2 s l) : EReal) = ((∑ d, X (rq r) (lane (rg r) d) * c * Y s d : ℝ) : EReal) := by
  simp only [stack_at hm0 hm1 hm2 hm3 w c hw x X hx, hy, ← EReal.coe_mul, ← coe_sum]
  refine congrArg _ ?_
  rw [sum_lanes_of (rg r) _ fun l hl => by rw [if_neg hl, zero_mul]]
  refine Finset.sum_congr rfl fun d _ => ?_
  rw [lg_lane, if_pos rfl, ld_lane]

/-- The word the mask stands for. -/
theorem mask_eq : (Named.named κ "mask" 0xF149F2CA#32 : Ideal .f32) = (⊥ : EReal) := rfl

include hm0 hm1 hm2 hm3 hnp hk hq hb in
/-- The scores are the head's. -/
theorem scores_at (r : Fin 512) (s : Fin 256) :
    scores m0 m1 m2 m3 np k4 qk bias (ix2 r s) = (hd n Q D K V sl sk (rg r)).score (rq r) s := by
  have key : ∀ s : Fin 256, (∑ l : Fin 256, stack m0 m1 m2 m3 0x3E000000#32 qk (ix2 r l) * k4 (ix2 s l) : EReal) + bias (ix2 r s)
      = if (s : ℕ) ≤ rq r + 128 ∧ (rq r : ℕ) < s then ((hd n Q D K V sl sk (rg r)).lin (rq r) s : EReal) else ⊥ := by
    intro s
    rw [stack_dot hm0 hm1 hm2 hm3 _ (1 / 8) bits_eighth qk Q hq k4 K hk, hb]
    split
    · rw [← EReal.coe_add]
      refine congrArg _ ?_
      unfold Head.lin hd
      rw [Finset.sum_mul, sub_eq_add_neg]
      refine congrArg (· + _) (Finset.sum_congr rfl fun d _ => by ring)
    · exact EReal.add_bot _
  pointwise [scores]
  unfold Head.score
  split
  next h =>
    rw [key, hnp, sel, mask_eq]
    by_cases h0 : n = 0
    · rw [if_pos h0, if_neg (by show ¬ Seen n _ _; unfold Seen; omega)]
    · rw [if_neg h0]
      exact if_congr (by show _ ↔ Seen n _ _; unfold Seen; omega) rfl rfl
  next h =>
    rw [show (⟨128 + ((s : ℕ) - 128), by omega⟩ : Fin 256) = s from Fin.ext (by show 128 + ((s : ℕ) - 128) = s; omega), key]
    exact if_congr (by show _ ↔ Seen n _ _; unfold Seen; omega) rfl rfl

include hm0 hm1 hm2 hm3 hnp hk hq hb hs in
/-- The maxima are the head's. -/
theorem maxes_at (r : Fin 512) (u : Fin 1) :
    maxes m0 m1 m2 m3 np k4 qk bias sink (ix2 r u) = ((hd n Q D K V sl sk (rg r)).M (rq r) : EReal) := by
  pointwise [maxes, scores_at hm0 hm1 hm2 hm3 n Q D K V sl sk hnp hk hq hb]
  rw [hs]
  exact Head.max_eq (hd n Q D K V sl sk (rg r)) (rq r)

include hm0 hm1 hm2 hm3 hnp hk hq hb hs in
/-- The exponentials are the head's. -/
theorem exps_at (r : Fin 512) (s : Fin 256) :
    exps m0 m1 m2 m3 np k4 qk bias sink (ix2 r s) = ((hd n Q D K V sl sk (rg r)).ex (rq r) s : EReal) := by
  pointwise [exps, scores_at hm0 hm1 hm2 hm3 n Q D K V sl sk hnp hk hq hb, maxes_at hm0 hm1 hm2 hm3 n Q D K V sl sk hnp hk hq hb hs]
  exact Head.exp_eq (hd n Q D K V sl sk (rg r)) (rq r) s

include hm0 hm1 hm2 hm3 hnp hk hq hb hs in
/-- The sinks' exponentials are the head's. -/
theorem expsink_at (r : Fin 512) (u : Fin 1) :
    expsink m0 m1 m2 m3 np k4 qk bias sink (ix2 r u) = ((hd n Q D K V sl sk (rg r)).es (rq r) : EReal) := by
  pointwise [expsink, maxes_at hm0 hm1 hm2 hm3 n Q D K V sl sk hnp hk hq hb hs]
  rw [hs]
  exact Head.exp_sink_eq (hd n Q D K V sl sk (rg r)) (rq r)

include hm0 hm1 hm2 hm3 hnp hk hq hb hs in
/-- The normalisers' inverses are the head's. -/
theorem inv_at (r : Fin 512) (u : Fin 1) :
    inv m0 m1 m2 m3 np k4 qk bias sink (ix2 r u) = ((1 / (hd n Q D K V sl sk (rg r)).den (rq r) : ℝ) : EReal) := by
  pointwise [inv, exps_at hm0 hm1 hm2 hm3 n Q D K V sl sk hnp hk hq hb hs, expsink_at hm0 hm1 hm2 hm3 n Q D K V sl sk hnp hk hq hb hs]
  rw [← coe_sum, ← EReal.coe_add]
  exact div_coe_coe 1 _ ((hd n Q D K V sl sk (rg r)).den_pos (rq r)).ne'

include hm0 hm1 hm2 hm3 hnp hk hq hb hs in
/-- The weights are the head's. -/
theorem probs_at (r : Fin 512) (s : Fin 256) :
    probs m0 m1 m2 m3 np k4 qk bias sink (ix2 r s) = ((hd n Q D K V sl sk (rg r)).pr (rq r) s : EReal) := by
  pointwise [probs, exps_at hm0 hm1 hm2 hm3 n Q D K V sl sk hnp hk hq hb hs, inv_at hm0 hm1 hm2 hm3 n Q D K V sl sk hnp hk hq hb hs]
  rw [← EReal.coe_mul, mul_one_div]
  rfl

include hm0 hm1 hm2 hm3 hnp hk hq hb hs in
/-- The sinks' weights are the head's. -/
theorem sinkprobs_at (r : Fin 512) (u : Fin 1) :
    sinkprobs m0 m1 m2 m3 np k4 qk bias sink (ix2 r u) = ((hd n Q D K V sl sk (rg r)).ps (rq r) : EReal) := by
  pointwise [sinkprobs, expsink_at hm0 hm1 hm2 hm3 n Q D K V sl sk hnp hk hq hb hs, inv_at hm0 hm1 hm2 hm3 n Q D K V sl sk hnp hk hq hb hs]
  rw [← EReal.coe_mul, mul_one_div]
  rfl

include hm0 hm1 hm2 in
/-- Unstacking takes each lane from its own group's rows. -/
theorem unstack_at (x : FVec Ideal S512x256 .f32) (q : Fin 128) (l : Fin 256) : unstack m0 m1 m2 x (ix2 q l) = x (ix2 (row (lg l) q) l) := by
  pointwise [unstack]
  simp only [hm0, hm1, hm2, sel]
  have hl := l.isLt
  split
  next h => exact congrArg (fun r => x (ix2 r l)) (Fin.ext (by rw [h]; show (q : ℕ) = 0 * 128 + (q : ℕ); omega))
  next h0 =>
  split
  next h => exact congrArg (fun r => x (ix2 r l)) (Fin.ext (by rw [h]; show 128 + (q : ℕ) = 1 * 128 + (q : ℕ); omega))
  next h1 =>
  split
  next h => exact congrArg (fun r => x (ix2 r l)) (Fin.ext (by rw [h]; show 256 + (q : ℕ) = 2 * 128 + (q : ℕ); omega))
  next h2 =>
    have h : lg l = 3 := by
      rw [Fin.ext_iff] at h0 h1 h2 ⊢
      change ¬ (l : ℕ) / 64 = 0 at h0; change ¬ (l : ℕ) / 64 = 1 at h1; change ¬ (l : ℕ) / 64 = 2 at h2
      show (l : ℕ) / 64 = 3
      omega
    exact congrArg (fun r => x (ix2 r l)) (Fin.ext (by rw [h]; show 384 + (q : ℕ) = 3 * 128 + (q : ℕ); omega))

include hm0 hm1 hm2 hm3 hnp hk hv hq hb hs in
/-- The attended values are the heads'. -/
theorem outs_at (q : Fin 128) (l : Fin 256) :
    outs m0 m1 m2 m3 np k4 v4 qk bias sink (ix2 q l) = ((hd n Q D K V sl sk (lg l)).out q (ld l) : EReal) := by
  unfold outs
  rw [unstack_at hm0 hm1 hm2]
  pointwise [probs_at hm0 hm1 hm2 hm3 n Q D K V sl sk hnp hk hq hb hs]
  rw [rg_row, rq_row]
  simp only [hv, ← EReal.coe_mul, ← coe_sum]
  rfl

include hm0 hm1 hm2 hm3 hnp hk hv hq hd' hb hs in
/-- One group's inner products of output and cotangent. -/
theorem delta1_at (g : Fin 4) (m : IVec S1x256 1) (hm : ∀ u l, m (ix2 u l) = BitVec.ofBool (decide (lg l = g))) (q : Fin 128) (u : Fin 1) :
    delta1 m0 m1 m2 m3 np k4 v4 qk dok bias sink m (ix2 q u) = ((hd n Q D K V sl sk g).dl q : EReal) := by
  pointwise [delta1, outs_at hm0 hm1 hm2 hm3 n Q D K V sl sk hnp hk hv hq hb hs]
  simp only [hm, hd', sel, ← EReal.coe_mul, ← coe_ite, ← coe_sum]
  refine congrArg _ ?_
  rw [sum_lanes_of g _ fun l hl => if_neg hl]
  refine Finset.sum_congr rfl fun d _ => ?_
  rw [lg_lane, if_pos rfl, ld_lane]
  rfl

include hm0 hm1 hm2 hm3 hnp hk hv hq hd' hb hs in
/-- The inner products of output and cotangent are the heads'. -/
theorem delta_at (r : Fin 512) (u : Fin 1) :
    delta m0 m1 m2 m3 np k4 v4 qk dok bias sink (ix2 r u) = ((hd n Q D K V sl sk (rg r)).dl (rq r) : EReal) := by
  have D1 := delta1_at hm0 hm1 hm2 hm3 n Q D K V sl sk hnp hk hv hq hd' hb hs
  pointwise [delta, D1 0 m0 hm0, D1 1 m1 hm1, D1 2 m2 hm2, D1 3 m3 hm3]
  have hr := r.isLt
  split
  next h => rw [show rg r = 0 from Fin.ext (by show (r / 128 : ℕ) = 0; omega), show rq r = ⟨r, h⟩ from Fin.ext (by show (r % 128 : ℕ) = r; omega)]
  next h =>
  split
  next h' => rw [show rg r = 1 from Fin.ext (by show (r / 128 : ℕ) = 1; omega), show rq r = ⟨r - 128, h'⟩ from Fin.ext (by show (r % 128 : ℕ) = r - 128; omega)]
  next h' =>
  split
  next h'' => rw [show rg r = 2 from Fin.ext (by show (r / 128 : ℕ) = 2; omega), show rq r = ⟨r - 128 - 128, h''⟩ from Fin.ext (by show (r % 128 : ℕ) = r - 128 - 128; omega)]
  next h'' => rw [show rg r = 3 from Fin.ext (by show (r / 128 : ℕ) = 3; omega), show rq r = ⟨r - 128 - 128 - 128, by omega⟩ from Fin.ext (by show (r % 128 : ℕ) = r - 128 - 128 - 128; omega)]

include hm0 hm1 hm2 hm3 hnp hk hv hq hd' hb hs in
/-- The scores' cotangents are the heads'. -/
theorem dscores_at (r : Fin 512) (s : Fin 256) :
    dscores m0 m1 m2 m3 np k4 v4 qk dok bias sink (ix2 r s) = ((hd n Q D K V sl sk (rg r)).ds (rq r) s : EReal) := by
  pointwise [dscores, probs_at hm0 hm1 hm2 hm3 n Q D K V sl sk hnp hk hq hb hs, delta_at hm0 hm1 hm2 hm3 n Q D K V sl sk hnp hk hv hq hd' hb hs]
  rw [stack_dot hm0 hm1 hm2 hm3 _ 1 bits_one dok D hd' v4 V hv, ← EReal.coe_sub, ← EReal.coe_mul]
  refine congrArg _ ?_
  unfold Head.ds Head.dp hd
  simp only [mul_one]

include hm0 hm1 hm2 hm3 hnp hk hv hq hd' hb hs in
/-- The sinks' terms are the heads'. -/
theorem sinkterm_at (r : Fin 512) (u : Fin 1) :
    sinkterm m0 m1 m2 m3 np k4 v4 qk dok bias sink (ix2 r u)
      = (((hd n Q D K V sl sk (rg r)).ps (rq r) * (hd n Q D K V sl sk (rg r)).dl (rq r) : ℝ) : EReal) := by
  pointwise [sinkterm, sinkprobs_at hm0 hm1 hm2 hm3 n Q D K V sl sk hnp hk hq hb hs, delta_at hm0 hm1 hm2 hm3 n Q D K V sl sk hnp hk hv hq hd' hb hs]
  rw [EReal.coe_mul]

include hm0 hm1 hm2 hm3 hnp hk hv hq hd' hb hs in
/-- The queries' gradient is the heads'. -/
theorem dq_at (q : Fin 128) (l : Fin 256) :
    dq m0 m1 m2 m3 np k4 v4 qk dok bias sink (ix2 q l) = ((hd n Q D K V sl sk (lg l)).dQ q (ld l) : EReal) := by
  pointwise [dq, unstack_at hm0 hm1 hm2, dscores_at hm0 hm1 hm2 hm3 n Q D K V sl sk hnp hk hv hq hd' hb hs]
  rw [bits_eighth, rg_row, rq_row]
  simp only [hk, ← EReal.coe_mul, ← coe_sum]
  rfl

/-- The folded lanes are the sum of the four groups. -/
theorem fold_at (x : FVec Ideal S256x256 .f32) (X : Fin 256 → Fin 256 → ℝ) (hx : ∀ s l, x (ix2 s l) = (X s l : EReal)) (s : Fin 256) (l : Fin 128) :
    fold x (ix2 s l) = ((∑ g, X s (lane g ⟨l % 64, by omega⟩) : ℝ) : EReal) := by
  pointwise [fold]
  simp only [hx, ← EReal.coe_add]
  refine congrArg _ ?_
  rw [Fin.sum_univ_four]
  have hl := l.isLt
  by_cases h : (l : ℕ) < 64
  · rw [show (⟨(l : ℕ), _⟩ : Fin 256) = lane 0 ⟨l % 64, by omega⟩ from Fin.ext (by show (l : ℕ) = 0 * 64 + l % 64; omega),
      show (⟨128 + (l : ℕ), _⟩ : Fin 256) = lane 2 ⟨l % 64, by omega⟩ from Fin.ext (by show 128 + (l : ℕ) = 2 * 64 + l % 64; omega),
      show (⟨((l : ℕ) + 128 - 64) % 128, _⟩ : Fin 256) = lane 1 ⟨l % 64, by omega⟩ from Fin.ext (by show ((l : ℕ) + 128 - 64) % 128 = 1 * 64 + l % 64; omega),
      show (⟨128 + ((l : ℕ) + 128 - 64) % 128, _⟩ : Fin 256) = lane 3 ⟨l % 64, by omega⟩ from Fin.ext (by show 128 + ((l : ℕ) + 128 - 64) % 128 = 3 * 64 + l % 64; omega)]
    ring
  · rw [show (⟨(l : ℕ), _⟩ : Fin 256) = lane 1 ⟨l % 64, by omega⟩ from Fin.ext (by show (l : ℕ) = 1 * 64 + l % 64; omega),
      show (⟨128 + (l : ℕ), _⟩ : Fin 256) = lane 3 ⟨l % 64, by omega⟩ from Fin.ext (by show 128 + (l : ℕ) = 3 * 64 + l % 64; omega),
      show (⟨((l : ℕ) + 128 - 64) % 128, _⟩ : Fin 256) = lane 0 ⟨l % 64, by omega⟩ from Fin.ext (by show ((l : ℕ) + 128 - 64) % 128 = 0 * 64 + l % 64; omega),
      show (⟨128 + ((l : ℕ) + 128 - 64) % 128, _⟩ : Fin 256) = lane 2 ⟨l % 64, by omega⟩ from Fin.ext (by show 128 + ((l : ℕ) + 128 - 64) % 128 = 2 * 64 + l % 64; omega)]
    ring

include hm0 hm1 hm2 hm3 hnp hk hv hq hd' hb hs in
/-- The keys' gradient is the sum of the heads'. -/
theorem dk_at (s : Fin 256) (l : Fin 128) :
    dk m0 m1 m2 m3 np k4 v4 qk dok bias sink (ix2 s l) = ((∑ g, (hd n Q D K V sl sk g).dK s ⟨l % 64, by omega⟩ : ℝ) : EReal) := by
  unfold dk
  rw [fold_at _ (fun s l => (hd n Q D K V sl sk (lg l)).dK s (ld l))]
  · simp only [lg_lane, ld_lane]
  · intro s l
    pointwise [dscores_at hm0 hm1 hm2 hm3 n Q D K V sl sk hnp hk hv hq hd' hb hs]
    simp only [stack_at hm0 hm1 hm2 hm3 _ (1 / 8) bits_eighth qk Q hq, ← EReal.coe_mul, ← coe_sum]
    refine congrArg _ ?_
    rw [sum_rows_of (lg l) _ fun r hr => by rw [if_neg (Ne.symm hr), mul_zero]]
    refine Finset.sum_congr rfl fun q _ => ?_
    rw [rg_row, rq_row, if_pos rfl]
    show _ = _ * (Q q (lane (lg l) (ld l)) * (1 / 8))
    rw [lane_lg]

include hm0 hm1 hm2 hm3 hnp hk hq hd' hb hs in
/-- The values' gradient is the sum of the heads'. -/
theorem dv_at (s : Fin 256) (l : Fin 128) :
    dv m0 m1 m2 m3 np k4 qk dok bias sink (ix2 s l) = ((∑ g, (hd n Q D K V sl sk g).dV s ⟨l % 64, by omega⟩ : ℝ) : EReal) := by
  unfold dv
  rw [fold_at _ (fun s l => (hd n Q D K V sl sk (lg l)).dV s (ld l))]
  · simp only [lg_lane, ld_lane]
  · intro s l
    pointwise [probs_at hm0 hm1 hm2 hm3 n Q D K V sl sk hnp hk hq hb hs]
    simp only [stack_at hm0 hm1 hm2 hm3 _ 1 bits_one dok D hd', ← EReal.coe_mul, ← coe_sum]
    refine congrArg _ ?_
    rw [sum_rows_of (lg l) _ fun r hr => by rw [if_neg (Ne.symm hr), mul_zero]]
    refine Finset.sum_congr rfl fun q _ => ?_
    rw [rg_row, rq_row, if_pos rfl]
    show _ = _ * D q (lane (lg l) (ld l))
    rw [lane_lg, mul_one]

end Reads

end Cert.Proof.Mx.Body

end
-- ==== Proof.MxPoint.lean ====
/- What one grid point of the mixing layer's gradient leaves, as functions of the blocks it reads. -/
module

public import proofs.«01_k».proof.Proof.MxBody
public import proofs.«01_k».proof.Proof.Gen.MxKernelIdeal.Frame
public import Idealize.ShloMosaic.Lib.Pipeline.ValueKit

@[expose] public section

set_option maxRecDepth 16384

noncomputable section

open Idealize.ShloMosaic Idealize.ShloMosaic.TcCoe Idealize.SL.Sem

namespace Cert.Proof.Mx.Point

open Cert.MxKernelIdeal Cert.MxKernelIdeal.Gen

/-- The blocks a grid point reads, and its row block's number. -/
structure Blk where
  ii : BitVec 32
  main : Vec Ideal S512x2304 .f32
  halo : Vec Ideal S128x2304 .f32
  next : Vec Ideal S16x2304 .f32
  gy : Vec Ideal S512x1024 .f32
  gyn : Vec Ideal S16x1024 .f32
  y : Vec Ideal S512x1024 .f32
  yn : Vec Ideal S16x1024 .f32
  mix : Vec Ideal S512x1024 .bf16
  wo : Vec Ideal S1024x1024 .bf16
  po : Vec Ideal S1x1024 .f32
  sinks : Vec Ideal S1x8 .f32
  pw : Vec Ideal S4x128x128 .f32
  ps : Vec Ideal S1x512 .f32

/-! ## Masks -/

/-- The lanes' numbers and their groups of 64. -/
def lanes : IVec S1x256 32 := iota .tc S1x256 32 [1] iota_S1x256_d1_w32
def laneGrp : IVec S1x256 32 :=
  select (andi (cmpi .ne (subi (extui 32 (cmpi .sgt lanes (broadcast S1x256 0#32)) natLt_1_32) (extui 32 (cmpi .slt lanes (broadcast S1x256 0#32)) natLt_1_32)) (broadcast S1x256 1#32))
      (cmpi .ne (remsi lanes (broadcast S1x256 64#32)) (broadcast S1x256 0#32)))
    (subi (divsi lanes (broadcast S1x256 64#32)) (broadcast S1x256 1#32)) (divsi lanes (broadcast S1x256 64#32))
/-- The lanes of a group. -/
def msk (g : BitVec 32) : IVec S1x256 1 := cmpi .eq laneGrp (broadcast S1x256 g)

/-- The first 64 of 128 lanes. -/
def first : IVec S256x128 1 := cmpi .slt (iota .tc S256x128 32 [1] iota_S256x128_d1_w32) (broadcast S256x128 64#32)

/-- The stacked rows' numbers and their groups of 128. -/
def srows : IVec S512x1 32 := iota .tc S512x1 32 [0] iota_S512x1_d0_w32
def rowGrp : IVec S512x1 32 := k0_pay53 srows 128#32 (divsi srows (broadcast S512x1 128#32))

/-- A key head's sinks by stacked row. -/
def rowSinks (s0 s1 s2 s3 : Ideal .f32) : FVec Ideal S512x1 .f32 :=
  select (cmpi .eq rowGrp (broadcast S512x1 3#32)) (broadcast S512x1 s3)
    (select (cmpi .eq rowGrp (broadcast S512x1 2#32)) (broadcast S512x1 s2)
      (select (cmpi .eq rowGrp (broadcast S512x1 1#32)) (broadcast S512x1 s1)
        (select (cmpi .eq rowGrp (broadcast S512x1 0#32)) (broadcast S512x1 s0) (broadcast S512x1 (Scalar.ofBits .f32 0x00000000#32)))))

/-- One key head's 64 lanes four times over. -/
def rep0 (x : FVec Ideal S256x128 .f32) : FVec Ideal S256x256 .bf16 :=
  let o : FVec Ideal S256x128 .f32 := select first x (dynamicRotate 1 64#32 none x rotates_S256x128_d1)
  truncf .bf16 (concatenate S256x256 1 [⟨S256x128, o⟩, ⟨S256x128, o⟩] concatenates_S256x128_S256x128_S256x256_d1) bitsLt_bf16_f32
def rep1 (x : FVec Ideal S256x128 .f32) : FVec Ideal S256x256 .bf16 :=
  let o : FVec Ideal S256x128 .f32 := select first (dynamicRotate 1 64#32 none x rotates_S256x128_d1) x
  truncf .bf16 (concatenate S256x256 1 [⟨S256x128, o⟩, ⟨S256x128, o⟩] concatenates_S256x128_S256x128_S256x256_d1) bitsLt_bf16_f32

/-! ## The output norm's gradient -/

namespace Blk
variable (b : Blk)

def t0 : BitVec 32 := Scalar.muli b.ii 512#32
def g2 : FVec Ideal S528x1024 .f32 := k0_pay26 b.gy b.gyn
def y2 : FVec Ideal S528x1024 .f32 := k0_pay27 b.y b.yn
def dy : FVec Ideal S528x1024 .bf16 := k0_pay35 b.g2 b.y2 (k0_pay31 b.y b.yn) b.po
def dmix : FVec Ideal S528x1024 .f32 := k0_pay38 b.dy b.wo
def dpo (old : Vec Ideal S1x1024 .f32) : FVec Ideal S1x1024 .f32 := k0_pay34 b.g2 b.y2 (k0_pay31 b.y b.yn) old
def dwo (old : Vec Ideal S1024x1024 .f32) : FVec Ideal S1024x1024 .f32 := k0_pay36 b.g2 b.y2 (k0_pay28 b.mix) (k0_pay31 b.y b.yn) b.po old

/-- The stored cotangents, read back. -/
def dmixL : List (View.Piece (Elt Ideal) S528x1024 .f32) := [⟨Rect.unit ![0, 0] ![528, 1024] inb_S528x1024_S528x1024_0_0, b.dmix⟩]

/-- The key and value rows, the block before first. -/
def kvL : List (View.Piece (Elt Ideal) S640x256 .f32) :=
  [⟨Rect.unit ![128, 0] ![512, 256] inb_S640x256_S512x256_128_0, shapeCast S512x256 (View.ld b.main (Rect.unit ![0, 512] ![512, 256] inb_S512x2304_S512x256_0_512)) shapeCasts_S512x256_S512x256⟩,
   ⟨Rect.unit ![0, 0] ![128, 256] inb_S640x256_S128x256_0_0, shapeCast S128x256 (View.ld b.halo (Rect.unit ![0, 512] ![128, 256] inb_S128x2304_S128x256_0_512)) shapeCasts_S128x256_S128x256⟩]

/-- A group's rows before and at the block, and its pooled rows. -/
def ext (h : Vec Ideal S16x128 .f32) (u : Vec Ideal S512x128 .f32) : FVec Ideal S528x128 .f32 :=
  concatenate S528x128 0 [⟨S16x128, Scalar.select (Scalar.cmpi .eq b.ii 0#32) (broadcast S16x128 (Scalar.ofBits .f32 0x00000000#32 : Ideal .f32)) h⟩, ⟨S512x128, u⟩] concatenates_S16x128_S512x128_S528x128_d0

/-- A row block's numbers. -/
def nums : IVec S512x1 32 := addi (addi (broadcast S512x1 b.t0) (iota .tc S512x1 32 [0] iota_S512x1_d0_w32)) (broadcast S512x1 1#32)

/-- The pooled rows from the window's sums. -/
def pooled (w : BitVec 32) (e s : FVec Ideal S528x128 .f32) : FVec Ideal S512x128 .bf16 :=
  truncf .bf16 (subf (divf (extractStridedSlice S512x128 ![16, 0] s slices_S528x128_o16_0_S512x128)
    (broadcastTo S512x128 (sitofp .f32 (minsi b.nums (broadcast S512x1 w)) : FVec Ideal S512x1 .f32) broadcasts_S512x1_S512x128))
    (extractStridedSlice S512x128 ![16, 0] e slices_S528x128_o16_0_S512x128)) bitsLt_bf16_f32

end Blk

/-- A sum with its own rows turned down. -/
def down (k : BitVec 32) (e : FVec Ideal S528x128 .f32) : FVec Ideal S528x128 .f32 := addf e (dynamicRotate 0 k none e rotates_S528x128_d0)

/-- A pooling group's parts of a row block: rows, gate, matrix, scale and cotangent; then the rows of the next block. -/
structure Grp where
  pooled : FVec Ideal S512x128 .bf16
  gb : Vec Ideal S512x128 .f32
  pw : Vec Ideal S1x128x128 .f32
  sc : Vec Ideal S1x128 .f32
  dyb : Vec Ideal S512x128 .f32
  dyn : Vec Ideal S16x128 .f32
  gn : Vec Ideal S16x128 .f32

namespace Grp
variable (g : Grp)

def mat : FVec Ideal S128x128 .bf16 := truncf .bf16 (shapeCast S128x128 g.pw shapeCasts_S1x128x128_S128x128) bitsLt_bf16_f32
def yraw : FVec Ideal S512x128 .f32 := matmul dot_S512x128_S128x128_S512x128_1_0_0_1_n_n none g.pooled g.mat (constant S512x128 .f32 0x00000000#32)
def half : FVec Ideal S512x128 .f32 := broadcast S512x128 (Scalar.ofBits .f32 0x3F000000#32 : Ideal .f32)
def sg : FVec Ideal S512x128 .f32 := addf (mulf half (tanh (mulf half g.gb))) half
def sl : FVec Ideal S512x128 .f32 := mulf g.gb g.sg
def dsl : FVec Ideal S512x128 .f32 := addf g.sg (mulf g.sl (subf (broadcast S512x128 (Scalar.ofBits .f32 0x3F800000#32 : Ideal .f32)) g.sg))
def dyp : FVec Ideal S512x128 .f32 := mulf g.dyb g.sl
def dps (old : Vec Ideal S1x128 .f32) : FVec Ideal S1x128 .f32 :=
  addf (shapeCast S1x128 old shapeCasts_S1x128_S1x128) (shapeCast S1x128 (multiReduction .add [0] S128 (mulf g.dyp g.yraw) 0x00000000#32 reduces_S512x128_S128 (.inl rfl) rfl) shapeCasts_S128_S1x128)
def dgb : FVec Ideal S512x128 .bf16 := truncf .bf16 (mulf (mulf g.dyb (mulf g.yraw (broadcastTo S512x128 g.sc broadcasts_S1x128_S512x128))) g.dsl) bitsLt_bf16_f32
def dyr : FVec Ideal S512x128 .f32 := mulf g.dyp (broadcastTo S512x128 g.sc broadcasts_S1x128_S512x128)
def dpw (old : Vec Ideal S128x128 .f32) : FVec Ideal S128x128 .f32 :=
  addf (shapeCast S128x128 old shapeCasts_S128x128_S128x128) (matmul dot_S512x128_S512x128_S128x128_0_0_1_1_n_n none g.pooled (truncf .bf16 g.dyr bitsLt_bf16_f32) (constant S128x128 .f32 0x00000000#32))
/-- The next block's rows, none after the last block. -/
def dyrn (ii : BitVec 32) : FVec Ideal S16x128 .f32 :=
  let h : FVec Ideal S16x128 .f32 := mulf (broadcast S16x128 (Scalar.ofBits .f32 0x3F000000#32 : Ideal .f32)) g.gn
  Scalar.select (Scalar.cmpi .eq ii 15#32) (broadcast S16x128 (Scalar.ofBits .f32 0x00000000#32 : Ideal .f32))
    (mulf (mulf g.dyn (addf (mulf h (tanh h)) h)) (broadcastTo S16x128 g.sc broadcasts_S1x128_S16x128))
def dpl (ii : BitVec 32) : FVec Ideal S528x128 .f32 :=
  matmul dot_S528x128_S128x128_S528x128_1_1_0_0_n_n none
    (truncf .bf16 (concatenate S528x128 0 [⟨S512x128, g.dyr⟩, ⟨S16x128, g.dyrn ii⟩] concatenates_S512x128_S16x128_S528x128_d0) bitsLt_bf16_f32)
    g.mat (constant S528x128 .f32 0x00000000#32)
/-- The rows' gradient over the window's length. -/
def dplc (ii : BitVec 32) (w : BitVec 32) : FVec Ideal S528x128 .f32 :=
  divf (g.dpl ii) (broadcastTo S528x128 (sitofp .f32 (minsi (addi (addi (broadcast S528x1 (Scalar.muli ii 512#32)) (iota .tc S528x1 32 [0] iota_S528x1_d0_w32)) (broadcast S528x1 1#32)) (broadcast S528x1 w)) : FVec Ideal S528x1 .f32) broadcasts_S528x1_S528x128)
def du (ii : BitVec 32) (s : FVec Ideal S528x128 .f32) : FVec Ideal S512x128 .bf16 :=
  truncf .bf16 (subf (extractStridedSlice S512x128 ![0, 0] s slices_S528x128_o0_0_S512x128) (extractStridedSlice S512x128 ![0, 0] (g.dpl ii) slices_S528x128_o0_0_S512x128)) bitsLt_bf16_f32

end Grp

namespace Blk
variable (b : Blk)

/-- The four pooling groups. -/
def ext0 := b.ext (View.ld b.halo (Rect.unit ![112, 1280] ![16, 128] inb_S128x2304_S16x128_112_1280)) (View.ld b.main (Rect.unit ![0, 1280] ![512, 128] inb_S512x2304_S512x128_0_1280))
def ext1 := b.ext (View.ld b.halo (Rect.unit ![112, 1408] ![16, 128] inb_S128x2304_S16x128_112_1408)) (View.ld b.main (Rect.unit ![0, 1408] ![512, 128] inb_S512x2304_S512x128_0_1408))
def ext2 := b.ext (View.ld b.halo (Rect.unit ![112, 1536] ![16, 128] inb_S128x2304_S16x128_112_1536)) (View.ld b.main (Rect.unit ![0, 1536] ![512, 128] inb_S512x2304_S512x128_0_1536))
def ext3 := b.ext (View.ld b.halo (Rect.unit ![112, 1664] ![16, 128] inb_S128x2304_S16x128_112_1664)) (View.ld b.main (Rect.unit ![0, 1664] ![512, 128] inb_S512x2304_S512x128_0_1664))

/-- The rows of this block, and the rows of the next, of the stored cotangents. -/
abbrev R0 : Rect S528x1024 := Rect.unit ![0, 0] ![512, 1024] inb_S528x1024_S512x1024_0_0
abbrev R1 : Rect S528x1024 := Rect.unit ![512, 0] ![16, 1024] inb_S528x1024_S16x1024_512_0
abbrev dmV : View Cert.MxKernelIdeal.sig (Proc.kind (τ := τ) Proc.tc) Space.vmem S528x1024 .f32 := View.whole cc0_scratch5
def dm (c : ℕ) (h : ∀ a, (![0, c] : Fin 2 → ℕ) a + (![512, 128] : Fin 2 → ℕ) a ≤ S512x1024.size a) : FVec Ideal S512x128 .f32 :=
  dmV.readCov (Val := Elt Ideal) b.dmixL (R0.withinL (Rect.unit (s := S512x1024) ![0, c] ![512, 128] h).toLoadRect (fun _ => rfl))
def dmn (c : ℕ) (h : ∀ a, (![0, c] : Fin 2 → ℕ) a + (![16, 128] : Fin 2 → ℕ) a ≤ S16x1024.size a) : FVec Ideal S16x128 .f32 :=
  dmV.readCov (Val := Elt Ideal) b.dmixL (R1.withinL (Rect.unit (s := S16x1024) ![0, c] ![16, 128] h).toLoadRect (fun _ => rfl))
def dma (r : ℕ) (h : ∀ a, (![r, 0] : Fin 2 → ℕ) a + (![128, 512] : Fin 2 → ℕ) a ≤ S512x1024.size a) : FVec Ideal S128x512 .f32 :=
  dmV.readCov (Val := Elt Ideal) b.dmixL (R0.withinL (Rect.unit (s := S512x1024) ![r, 0] ![128, 512] h).toLoadRect (fun _ => rfl))

def grp0 : Grp := ⟨b.pooled 2#32 b.ext0 (down 1#32 b.ext0), View.ld b.main (Rect.unit ![0, 1792] ![512, 128] inb_S512x2304_S512x128_0_1792),
  View.ld b.pw (Rect.unit ![0, 0, 0] ![1, 128, 128] inb_S4x128x128_S1x128x128_0_0_0), View.ld b.ps (Rect.unit ![0, 0] ![1, 128] inb_S1x512_S1x128_0_0),
  b.dm 512 inb_S512x1024_S512x128_0_512, b.dmn 512 inb_S16x1024_S16x128_0_512,
  View.ld b.next (Rect.unit ![0, 1792] ![16, 128] inb_S16x2304_S16x128_0_1792)⟩
def grp1 : Grp := ⟨b.pooled 4#32 b.ext1 (down 2#32 (down 1#32 b.ext1)), View.ld b.main (Rect.unit ![0, 1920] ![512, 128] inb_S512x2304_S512x128_0_1920),
  View.ld b.pw (Rect.unit ![1, 0, 0] ![1, 128, 128] inb_S4x128x128_S1x128x128_1_0_0), View.ld b.ps (Rect.unit ![0, 128] ![1, 128] inb_S1x512_S1x128_0_128),
  b.dm 640 inb_S512x1024_S512x128_0_640, b.dmn 640 inb_S16x1024_S16x128_0_640,
  View.ld b.next (Rect.unit ![0, 1920] ![16, 128] inb_S16x2304_S16x128_0_1920)⟩
def grp2 : Grp := ⟨b.pooled 8#32 b.ext2 (down 4#32 (down 2#32 (down 1#32 b.ext2))), View.ld b.main (Rect.unit ![0, 2048] ![512, 128] inb_S512x2304_S512x128_0_2048),
  View.ld b.pw (Rect.unit ![2, 0, 0] ![1, 128, 128] inb_S4x128x128_S1x128x128_2_0_0), View.ld b.ps (Rect.unit ![0, 256] ![1, 128] inb_S1x512_S1x128_0_256),
  b.dm 768 inb_S512x1024_S512x128_0_768, b.dmn 768 inb_S16x1024_S16x128_0_768,
  View.ld b.next (Rect.unit ![0, 2048] ![16, 128] inb_S16x2304_S16x128_0_2048)⟩
def grp3 : Grp := ⟨b.pooled 16#32 b.ext3 (down 8#32 (down 4#32 (down 2#32 (down 1#32 b.ext3)))), View.ld b.main (Rect.unit ![0, 2176] ![512, 128] inb_S512x2304_S512x128_0_2176),
  View.ld b.pw (Rect.unit ![3, 0, 0] ![1, 128, 128] inb_S4x128x128_S1x128x128_3_0_0), View.ld b.ps (Rect.unit ![0, 384] ![1, 128] inb_S1x512_S1x128_0_384),
  b.dm 896 inb_S512x1024_S512x128_0_896, b.dmn 896 inb_S16x1024_S16x128_0_896,
  View.ld b.next (Rect.unit ![0, 2176] ![16, 128] inb_S16x2304_S16x128_0_2176)⟩

def du0 := b.grp0.du b.ii (down 527#32 (b.grp0.dplc b.ii 2#32))
def du1 := b.grp1.du b.ii (down 526#32 (down 527#32 (b.grp1.dplc b.ii 4#32)))
def du2 := b.grp2.du b.ii (down 524#32 (down 526#32 (down 527#32 (b.grp2.dplc b.ii 8#32))))
def du3 := b.grp3.du b.ii (down 520#32 (down 524#32 (down 526#32 (down 527#32 (b.grp3.dplc b.ii 16#32)))))

/-- The pooling scales' and matrices' sums after a point. -/
def dpsL (o0 o1 o2 o3 : Vec Ideal S1x128 .f32) : List (View.Piece (Elt Ideal) S1x512 .f32) :=
  [⟨Rect.unit ![0, 384] ![1, 128] inb_S1x512_S1x128_0_384, b.grp3.dps o3⟩, ⟨Rect.unit ![0, 256] ![1, 128] inb_S1x512_S1x128_0_256, b.grp2.dps o2⟩,
   ⟨Rect.unit ![0, 128] ![1, 128] inb_S1x512_S1x128_0_128, b.grp1.dps o1⟩, ⟨Rect.unit ![0, 0] ![1, 128] inb_S1x512_S1x128_0_0, b.grp0.dps o0⟩]
def dpwL (o0 o1 o2 o3 : Vec Ideal S128x128 .f32) : List (View.Piece (Elt Ideal) S512x128 .f32) :=
  [⟨Rect.unit ![384, 0] ![128, 128] inb_S512x128_S128x128_384_0, b.grp3.dpw o3⟩, ⟨Rect.unit ![256, 0] ![128, 128] inb_S512x128_S128x128_256_0, b.grp2.dpw o2⟩,
   ⟨Rect.unit ![128, 0] ![128, 128] inb_S512x128_S128x128_128_0, b.grp1.dpw o1⟩, ⟨Rect.unit ![0, 0] ![128, 128] inb_S512x128_S128x128_0_0, b.grp0.dpw o0⟩]

end Blk

/-! ## The attention -/

namespace Blk
variable (b : Blk)

/-- The two key heads' sinks by stacked row. -/
def sk0 : FVec Ideal S512x1 .f32 := rowSinks (View.ld b.sinks (Rect.unit ![0, 0] ![1, 1] inb_S1x8_S1x1_0_0) (Shape.Idx.first (by decide))) (View.ld b.sinks (Rect.unit ![0, 1] ![1, 1] inb_S1x8_S1x1_0_1) (Shape.Idx.first (by decide)))
  (View.ld b.sinks (Rect.unit ![0, 2] ![1, 1] inb_S1x8_S1x1_0_2) (Shape.Idx.first (by decide))) (View.ld b.sinks (Rect.unit ![0, 3] ![1, 1] inb_S1x8_S1x1_0_3) (Shape.Idx.first (by decide)))
def sk1 : FVec Ideal S512x1 .f32 := rowSinks (View.ld b.sinks (Rect.unit ![0, 4] ![1, 1] inb_S1x8_S1x1_0_4) (Shape.Idx.first (by decide))) (View.ld b.sinks (Rect.unit ![0, 5] ![1, 1] inb_S1x8_S1x1_0_5) (Shape.Idx.first (by decide)))
  (View.ld b.sinks (Rect.unit ![0, 6] ![1, 1] inb_S1x8_S1x1_0_6) (Shape.Idx.first (by decide))) (View.ld b.sinks (Rect.unit ![0, 7] ![1, 1] inb_S1x8_S1x1_0_7) (Shape.Idx.first (by decide)))

abbrev kvV : View Cert.MxKernelIdeal.sig (Proc.kind (τ := τ) Proc.tc) Space.vmem S640x256 .f32 := View.whole cc0_scratch0
def kv (r c : ℕ) (h : ∀ a, (![r, c] : Fin 2 → ℕ) a + (![256, 128] : Fin 2 → ℕ) a ≤ S640x256.size a) : FVec Ideal S256x128 .f32 :=
  kvV.readCov (Val := Elt Ideal) b.kvL (Rect.unit (s := S640x256) ![r, c] ![256, 128] h).toLoadRect
end Blk

/-- A query block's parts: whether it is the first, its keys, values, queries, gate and cotangent; the scores' bias and the sinks. -/
structure Tile where
  np : BitVec 1
  kk : FVec Ideal S256x128 .f32
  vv : FVec Ideal S256x128 .f32
  q : Vec Ideal S128x512 .f32
  ga : Vec Ideal S128x512 .f32
  dya : FVec Ideal S128x512 .f32
  b0 : FVec Ideal S512x256 .f32
  b1 : FVec Ideal S512x256 .f32
  s0 : FVec Ideal S512x1 .f32
  s1 : FVec Ideal S512x1 .f32

namespace Tile
variable (x : Tile)

def half : FVec Ideal S128x512 .f32 := broadcast S128x512 (Scalar.ofBits .f32 0x3F000000#32 : Ideal .f32)
def sg : FVec Ideal S128x512 .f32 := addf (mulf half (tanh (mulf half x.ga))) half
def sl : FVec Ideal S128x512 .f32 := mulf x.ga x.sg
def dsl : FVec Ideal S128x512 .f32 := addf x.sg (mulf x.sl (subf (broadcast S128x512 (Scalar.ofBits .f32 0x3F800000#32 : Ideal .f32)) x.sg))
def dO : FVec Ideal S128x512 .f32 := mulf x.dya x.sl
def q0 : FVec Ideal S128x256 .f32 := extractStridedSlice S128x256 ![0, 0] x.q slices_S128x512_o0_0_S128x256
def q1 : FVec Ideal S128x256 .f32 := extractStridedSlice S128x256 ![0, 256] x.q slices_S128x512_o0_256_S128x256
def d0 : FVec Ideal S128x256 .f32 := extractStridedSlice S128x256 ![0, 0] x.dO slices_S128x512_o0_0_S128x256
def d1 : FVec Ideal S128x256 .f32 := extractStridedSlice S128x256 ![0, 256] x.dO slices_S128x512_o0_256_S128x256
def outs0 := Body.outs (msk 0#32) (msk 1#32) (msk 2#32) (msk 3#32) x.np (rep0 x.kk) (rep0 x.vv) x.q0 x.b0 x.s0
def outs1 := Body.outs (msk 0#32) (msk 1#32) (msk 2#32) (msk 3#32) x.np (rep1 x.kk) (rep1 x.vv) x.q1 x.b1 x.s1
def dq0 := Body.dq (msk 0#32) (msk 1#32) (msk 2#32) (msk 3#32) x.np (rep0 x.kk) (rep0 x.vv) x.q0 x.d0 x.b0 x.s0
def dq1 := Body.dq (msk 0#32) (msk 1#32) (msk 2#32) (msk 3#32) x.np (rep1 x.kk) (rep1 x.vv) x.q1 x.d1 x.b1 x.s1
def dk0 := Body.dk (msk 0#32) (msk 1#32) (msk 2#32) (msk 3#32) x.np (rep0 x.kk) (rep0 x.vv) x.q0 x.d0 x.b0 x.s0
def dk1 := Body.dk (msk 0#32) (msk 1#32) (msk 2#32) (msk 3#32) x.np (rep1 x.kk) (rep1 x.vv) x.q1 x.d1 x.b1 x.s1
def dv0 := Body.dv (msk 0#32) (msk 1#32) (msk 2#32) (msk 3#32) x.np (rep0 x.kk) x.q0 x.d0 x.b0 x.s0
def dv1 := Body.dv (msk 0#32) (msk 1#32) (msk 2#32) (msk 3#32) x.np (rep1 x.kk) x.q1 x.d1 x.b1 x.s1
def st0 := Body.sinkterm (msk 0#32) (msk 1#32) (msk 2#32) (msk 3#32) x.np (rep0 x.kk) (rep0 x.vv) x.q0 x.d0 x.b0 x.s0
def st1 := Body.sinkterm (msk 0#32) (msk 1#32) (msk 2#32) (msk 3#32) x.np (rep1 x.kk) (rep1 x.vv) x.q1 x.d1 x.b1 x.s1
/-- Keys' and values' gradients. -/
def dkv : FVec Ideal S256x256 .f32 :=
  concatenate S256x256 1 [⟨S256x128, select first x.dk0 x.dk1⟩, ⟨S256x128, select first x.dv0 x.dv1⟩] concatenates_S256x128_S256x128_S256x256_d1
def dqs : FVec Ideal S128x512 .bf16 := truncf .bf16 (concatenate S128x512 1 [⟨S128x256, x.dq0⟩, ⟨S128x256, x.dq1⟩] concatenates_S128x256_S128x256_S128x512_d1) bitsLt_bf16_f32
def dga : FVec Ideal S128x512 .bf16 :=
  truncf .bf16 (mulf (mulf x.dya (concatenate S128x512 1 [⟨S128x256, x.outs0⟩, ⟨S128x256, x.outs1⟩] concatenates_S128x256_S128x256_S128x512_d1)) x.dsl) bitsLt_bf16_f32

end Tile

namespace Blk
variable (b : Blk)

/-- The four query blocks, the last window's keys first. -/
def tile0 (b0 b1 : Vec Ideal S1x512x256 .f32) : Tile := ⟨Scalar.cmpi .eq (Scalar.addi b.t0 0#32) 0#32, b.kv 0 0 (by decide), b.kv 0 128 (by decide),
  View.ld b.main (Rect.unit ![0, 0] ![128, 512] (by decide)), View.ld b.main (Rect.unit ![0, 768] ![128, 512] (by decide)),
  b.dma 0 (by decide), shapeCast S512x256 b0 shapeCasts_S1x512x256_S512x256, shapeCast S512x256 b1 shapeCasts_S1x512x256_S512x256, b.sk0, b.sk1⟩
def tile1 (b0 b1 : Vec Ideal S1x512x256 .f32) : Tile := ⟨Scalar.cmpi .eq (Scalar.addi b.t0 128#32) 0#32, b.kv 128 0 (by decide), b.kv 128 128 (by decide),
  View.ld b.main (Rect.unit ![128, 0] ![128, 512] (by decide)), View.ld b.main (Rect.unit ![128, 768] ![128, 512] (by decide)),
  b.dma 128 (by decide), shapeCast S512x256 b0 shapeCasts_S1x512x256_S512x256, shapeCast S512x256 b1 shapeCasts_S1x512x256_S512x256, b.sk0, b.sk1⟩
def tile2 (b0 b1 : Vec Ideal S1x512x256 .f32) : Tile := ⟨Scalar.cmpi .eq (Scalar.addi b.t0 256#32) 0#32, b.kv 256 0 (by decide), b.kv 256 128 (by decide),
  View.ld b.main (Rect.unit ![256, 0] ![128, 512] (by decide)), View.ld b.main (Rect.unit ![256, 768] ![128, 512] (by decide)),
  b.dma 256 (by decide), shapeCast S512x256 b0 shapeCasts_S1x512x256_S512x256, shapeCast S512x256 b1 shapeCasts_S1x512x256_S512x256, b.sk0, b.sk1⟩
def tile3 (b0 b1 : Vec Ideal S1x512x256 .f32) : Tile := ⟨Scalar.cmpi .eq (Scalar.addi b.t0 384#32) 0#32, b.kv 384 0 (by decide), b.kv 384 128 (by decide),
  View.ld b.main (Rect.unit ![384, 0] ![128, 512] (by decide)), View.ld b.main (Rect.unit ![384, 768] ![128, 512] (by decide)),
  b.dma 384 (by decide), shapeCast S512x256 b0 shapeCasts_S1x512x256_S512x256, shapeCast S512x256 b1 shapeCasts_S1x512x256_S512x256, b.sk0, b.sk1⟩

abbrev dkvV : View Cert.MxKernelIdeal.sig (Proc.kind (τ := τ) Proc.tc) Space.vmem S640x256 .f32 := View.whole cc0_scratch1

/-- The keys' and values' gradients a point starts from: what the block after left at the end, nothing elsewhere. -/
def dkvL0 (carry : Vec Ideal S128x256 .f32) : List (View.Piece (Elt Ideal) S640x256 .f32) :=
  [⟨Rect.unit ![512, 0] ![128, 256] inb_S640x256_S128x256_512_0, shapeCast S128x256 carry shapeCasts_S128x256_S128x256⟩,
   ⟨Rect.unit ![0, 0] ![512, 256] inb_S640x256_S512x256_0_0, shapeCast S512x256 (broadcast S512x256 (Scalar.ofBits .f32 0x00000000#32 : Ideal .f32)) shapeCasts_S512x256_S512x256⟩]
/-- One query block's part added. -/
def dkvPut (r : ℕ) (h : ∀ a, (![r, 0] : Fin 2 → ℕ) a + (![256, 256] : Fin 2 → ℕ) a ≤ S640x256.size a) (x : FVec Ideal S256x256 .f32)
    (L : List (View.Piece (Elt Ideal) S640x256 .f32)) : List (View.Piece (Elt Ideal) S640x256 .f32) :=
  ⟨Rect.unit (s := S640x256) ![r, 0] ![256, 256] h, shapeCast S256x256 (addf (dkvV.readCov (Val := Elt Ideal) L (Rect.unit (s := S640x256) ![r, 0] ![256, 256] h).toLoadRect) x) shapeCasts_S256x256_S256x256⟩ :: L
def dkvL (b0 b1 : Vec Ideal S1x512x256 .f32) (carry : Vec Ideal S128x256 .f32) : List (View.Piece (Elt Ideal) S640x256 .f32) :=
  dkvPut 384 (by decide) (b.tile3 b0 b1).dkv (dkvPut 256 (by decide) (b.tile2 b0 b1).dkv
    (dkvPut 128 (by decide) (b.tile1 b0 b1).dkv (dkvPut 0 (by decide) (b.tile0 b0 b1).dkv (dkvL0 carry))))
def carryOut (b0 b1 : Vec Ideal S1x512x256 .f32) (carry : Vec Ideal S128x256 .f32) : FVec Ideal S128x256 .f32 :=
  shapeCast S128x256 (dkvV.readCov (Val := Elt Ideal) (b.dkvL b0 b1 carry) (Rect.unit (s := S640x256) ![0, 0] ![128, 256] inb_S640x256_S128x256_0_0).toLoadRect) shapeCasts_S128x256_S128x256
def dkvOut (b0 b1 : Vec Ideal S1x512x256 .f32) (carry : Vec Ideal S128x256 .f32) : FVec Ideal S512x256 .bf16 :=
  truncf .bf16 (dkvV.readCov (Val := Elt Ideal) (b.dkvL b0 b1 carry) (Rect.unit (s := S640x256) ![128, 0] ![512, 256] inb_S640x256_S512x256_128_0).toLoadRect) bitsLt_bf16_f32

/-- The rows' gradients a point writes. -/
def dprojL (b0 b1 : Vec Ideal S1x512x256 .f32) (carry : Vec Ideal S128x256 .f32) : List (View.Piece (Elt Ideal) S512x2304 .bf16) :=
  [⟨Rect.unit ![0, 1664] ![512, 128] inb_S512x2304_S512x128_0_1664, b.du3⟩, ⟨Rect.unit ![0, 2176] ![512, 128] inb_S512x2304_S512x128_0_2176, b.grp3.dgb⟩,
   ⟨Rect.unit ![0, 1536] ![512, 128] inb_S512x2304_S512x128_0_1536, b.du2⟩, ⟨Rect.unit ![0, 2048] ![512, 128] inb_S512x2304_S512x128_0_2048, b.grp2.dgb⟩,
   ⟨Rect.unit ![0, 1408] ![512, 128] inb_S512x2304_S512x128_0_1408, b.du1⟩, ⟨Rect.unit ![0, 1920] ![512, 128] inb_S512x2304_S512x128_0_1920, b.grp1.dgb⟩,
   ⟨Rect.unit ![0, 1280] ![512, 128] inb_S512x2304_S512x128_0_1280, b.du0⟩, ⟨Rect.unit ![0, 1792] ![512, 128] inb_S512x2304_S512x128_0_1792, b.grp0.dgb⟩,
   ⟨Rect.unit ![0, 512] ![512, 256] inb_S512x2304_S512x256_0_512, b.dkvOut b0 b1 carry⟩,
   ⟨Rect.unit ![384, 768] ![128, 512] (by decide), (b.tile3 b0 b1).dga⟩, ⟨Rect.unit ![384, 0] ![128, 512] (by decide), (b.tile3 b0 b1).dqs⟩,
   ⟨Rect.unit ![256, 768] ![128, 512] (by decide), (b.tile2 b0 b1).dga⟩, ⟨Rect.unit ![256, 0] ![128, 512] (by decide), (b.tile2 b0 b1).dqs⟩,
   ⟨Rect.unit ![128, 768] ![128, 512] (by decide), (b.tile1 b0 b1).dga⟩, ⟨Rect.unit ![128, 0] ![128, 512] (by decide), (b.tile1 b0 b1).dqs⟩,
   ⟨Rect.unit ![0, 768] ![128, 512] (by decide), (b.tile0 b0 b1).dga⟩, ⟨Rect.unit ![0, 0] ![128, 512] (by decide), (b.tile0 b0 b1).dqs⟩]

/-- A head's row of the sinks' sums, less its part. -/
def skRow (old : Vec Ideal S1x128 .f32) (x : FVec Ideal S128x1 .f32) : FVec Ideal S1x128 .f32 :=
  subf (shapeCast S1x128 old shapeCasts_S1x128_S1x128) (broadcastTo S1x128 (broadcast S1x1 (extractAt ![0, 0, 0]
    (shapeCast S1x1x1 (multiReduction .add [1, 2] S1 (shapeCast S1x128x1 x shapeCasts_S128x1_S1x128x1) 0x00000000#32 reduces_S1x128x1_S1 (.inl rfl) rfl) shapeCasts_S1_S1x1x1)
      inpos_S1x1x1_p0_0_0)) broadcasts_S1x1_S1x128)

end Blk

namespace Blk
variable (b : Blk)

/-- One head's row of the sinks' sums rewritten, from the rows so far. -/
def skPut (V : View Cert.MxKernelIdeal.sig (Proc.kind (τ := τ) Proc.tc) Space.vmem S8x128 .f32) (h : ℕ) (inb : ∀ a, (![h, 0] : Fin 2 → ℕ) a + (![1, 128] : Fin 2 → ℕ) a ≤ S8x128.size a)
    (x : FVec Ideal S128x1 .f32) (L : List (View.Piece (Elt Ideal) S8x128 .f32)) : List (View.Piece (Elt Ideal) S8x128 .f32) :=
  ⟨Rect.unit (s := S8x128) ![h, 0] ![1, 128] inb, skRow (V.readCov (Val := Elt Ideal) L (Rect.unit (s := S8x128) ![h, 0] ![1, 128] inb).toLoadRect) x⟩ :: L
/-- The same from the sums before the point. -/
def skNew (o : Vec Ideal S8x128 .f32) (h : ℕ) (inb : ∀ a, (![h, 0] : Fin 2 → ℕ) a + (![1, 128] : Fin 2 → ℕ) a ≤ S8x128.size a)
    (x : FVec Ideal S128x1 .f32) (L : List (View.Piece (Elt Ideal) S8x128 .f32)) : List (View.Piece (Elt Ideal) S8x128 .f32) :=
  ⟨Rect.unit (s := S8x128) ![h, 0] ![1, 128] inb, skRow (View.ld o (Rect.unit (s := S8x128) ![h, 0] ![1, 128] inb)) x⟩ :: L
/-- A head's 128 rows of the stacked terms. -/
def sp0 (x : FVec Ideal S512x1 .f32) : FVec Ideal S128x1 .f32 := extractStridedSlice S128x1 ![0, 0] x slices_S512x1_o0_0_S128x1
def sp1 (x : FVec Ideal S512x1 .f32) : FVec Ideal S128x1 .f32 := extractStridedSlice S128x1 ![128, 0] x slices_S512x1_o128_0_S128x1
def sp2 (x : FVec Ideal S512x1 .f32) : FVec Ideal S128x1 .f32 := extractStridedSlice S128x1 ![256, 0] x slices_S512x1_o256_0_S128x1
def sp3 (x : FVec Ideal S512x1 .f32) : FVec Ideal S128x1 .f32 := extractStridedSlice S128x1 ![384, 0] x slices_S512x1_o384_0_S128x1
/-- One query block's eight rows. -/
def skTile (V : View Cert.MxKernelIdeal.sig (Proc.kind (τ := τ) Proc.tc) Space.vmem S8x128 .f32) (x y : FVec Ideal S512x1 .f32) (L : List (View.Piece (Elt Ideal) S8x128 .f32)) :
    List (View.Piece (Elt Ideal) S8x128 .f32) :=
  skPut V 7 (by decide) (sp3 y) (skPut V 6 (by decide) (sp2 y) (skPut V 5 (by decide) (sp1 y) (skPut V 4 (by decide) (sp0 y)
    (skPut V 3 (by decide) (sp3 x) (skPut V 2 (by decide) (sp2 x) (skPut V 1 (by decide) (sp1 x) (skPut V 0 (by decide) (sp0 x) L)))))))
def skFirst (o : Vec Ideal S8x128 .f32) (x y : FVec Ideal S512x1 .f32) : List (View.Piece (Elt Ideal) S8x128 .f32) :=
  skNew o 7 (by decide) (sp3 y) (skNew o 6 (by decide) (sp2 y) (skNew o 5 (by decide) (sp1 y) (skNew o 4 (by decide) (sp0 y)
    (skNew o 3 (by decide) (sp3 x) (skNew o 2 (by decide) (sp2 x) (skNew o 1 (by decide) (sp1 x) (skNew o 0 (by decide) (sp0 x) [])))))))
/-- The sinks' sums after a point. -/
def dskL (V : View Cert.MxKernelIdeal.sig (Proc.kind (τ := τ) Proc.tc) Space.vmem S8x128 .f32) (b0 b1 : Vec Ideal S1x512x256 .f32)
    (L : List (View.Piece (Elt Ideal) S8x128 .f32)) : List (View.Piece (Elt Ideal) S8x128 .f32) :=
  skTile V (b.tile3 b0 b1).st0 (b.tile3 b0 b1).st1 (skTile V (b.tile2 b0 b1).st0 (b.tile2 b0 b1).st1 (skTile V (b.tile1 b0 b1).st0 (b.tile1 b0 b1).st1 L))

end Blk

/-! ## The scores' bias -/

/-- A stacked row's place in its query block. -/
def inRow : IVec S512x256 32 :=
  select (andi (xori (cmpi .slt (remsi (iota .tc S512x256 32 [0] iota_S512x256_d0_w32) (broadcast S512x256 128#32)) (broadcast S512x256 0#32)) (broadcastTo S512x256 (broadcast S512x256 0#1) broadcasts_S512x256_S512x256))
      (cmpi .ne (remsi (iota .tc S512x256 32 [0] iota_S512x256_d0_w32) (broadcast S512x256 128#32)) (broadcast S512x256 0#32)))
    (addi (remsi (iota .tc S512x256 32 [0] iota_S512x256_d0_w32) (broadcast S512x256 128#32)) (broadcast S512x256 128#32))
    (remsi (iota .tc S512x256 32 [0] iota_S512x256_d0_w32) (broadcast S512x256 128#32))
/-- How far behind the query a key lies, and whether it is in the window. -/
def dist : IVec S512x256 32 := subi (addi inRow (broadcast S512x256 128#32)) (iota .tc S512x256 32 [1] iota_S512x256_d1_w32)
def band : IVec S512x256 1 := andi (cmpi .sge dist (broadcast S512x256 0#32)) (cmpi .slt dist (broadcast S512x256 128#32))
def rq0 : IVec S512x1 32 := divsi srows (broadcast S512x1 128#32)
def rq1 : IVec S512x1 1 := cmpi .ne (subi (extui 32 (cmpi .sgt srows (broadcast S512x1 0#32)) natLt_1_32) (extui 32 (cmpi .slt srows (broadcast S512x1 0#32)) natLt_1_32)) (broadcast S512x1 1#32)
def rq2 : IVec S512x1 32 := remsi srows (broadcast S512x1 128#32)
def biasA : FVec Ideal S1x512x256 .f32 := k0_pay9 dist band rq0 rq1 rq2 0#32
def biasB : FVec Ideal S1x512x256 .f32 := k0_pay21 dist band (k0_pay8 rq0 rq1 rq2 0#32) (k0_pay10 rq0 rq1 rq2 0#32) (k0_pay11 rq0 rq1 rq2 0#32)
def biasL : List (View.Piece (Elt Ideal) S2x512x256 .f32) :=
  [⟨Rect.unit (s := S2x512x256) ![1, 0, 0] ![1, 512, 256] (by decide), biasB⟩, ⟨Rect.unit (s := S2x512x256) ![0, 0, 0] ![1, 512, 256] (by decide), biasA⟩]

abbrev bV : View Cert.MxKernelIdeal.sig (Proc.kind (τ := τ) Proc.tc) Space.vmem S2x512x256 .f32 := View.whole cc0_scratch3
abbrev cV : View Cert.MxKernelIdeal.sig (Proc.kind (τ := τ) Proc.tc) Space.vmem S128x256 .f32 := View.whole cc0_scratch2
abbrev wV : View Cert.MxKernelIdeal.sig (Proc.kind (τ := τ) Proc.tc) Space.vmem S1024x1024 .f32 := View.whole cc0_scratch4
/-- What the first point reads of what it has just set. -/
def bias0A : Vec Ideal S1x512x256 .f32 := bV.readCov (Val := Elt Ideal) biasL (Rect.unit (s := S2x512x256) ![0, 0, 0] ![1, 512, 256] (by decide)).toLoadRect
def bias1A : Vec Ideal S1x512x256 .f32 := bV.readCov (Val := Elt Ideal) biasL (Rect.unit (s := S2x512x256) ![1, 0, 0] ![1, 512, 256] (by decide)).toLoadRect
def carryA : Vec Ideal S128x256 .f32 := cV.readCov (Val := Elt Ideal) [(⟨Rect.unit (s := S128x256) ![0, 0] ![128, 256] (by decide), (k0_pay25 : FVec Ideal S128x256 .f32)⟩ : View.Piece (Elt Ideal) S128x256 .f32)] (Rect.unit (s := S128x256) ![0, 0] ![128, 256] (by decide)).toLoadRect
def dwoA : Vec Ideal S1024x1024 .f32 := wV.readCov (Val := Elt Ideal) [(⟨Rect.unit (s := S1024x1024) ![0, 0] ![1024, 1024] (by decide), (k0_pay29 : FVec Ideal S1024x1024 .f32)⟩ : View.Piece (Elt Ideal) S1024x1024 .f32)] (Rect.unit (s := S1024x1024) ![0, 0] ![1024, 1024] (by decide)).toLoadRect
/-- The last point's rounded copy of the output matrix's sums. -/
def dwo16 (x : FVec Ideal S1024x1024 .f32) : FVec Ideal S1024x1024 .bf16 :=
  let y : FVec Ideal S1024x1024 .f32 := wV.readCov (Val := Elt Ideal) [(⟨Rect.unit (s := S1024x1024) ![0, 0] ![1024, 1024] (by decide), x⟩ : View.Piece (Elt Ideal) S1024x1024 .f32)] (Rect.unit (s := S1024x1024) ![0, 0] ![1024, 1024] (by decide)).toLoadRect
  truncf .bf16 y bitsLt_bf16_f32
def dpoA (V : View Cert.MxKernelIdeal.sig (Proc.kind (τ := τ) Proc.tc) Space.vmem S1x1024 .f32) : Vec Ideal S1x1024 .f32 :=
  V.readCov (Val := Elt Ideal) [(⟨Rect.unit (s := S1x1024) ![0, 0] ![1, 1024] (by decide), (k0_pay30 : FVec Ideal S1x1024 .f32)⟩ : View.Piece (Elt Ideal) S1x1024 .f32)] (Rect.unit (s := S1x1024) ![0, 0] ![1, 1024] (by decide)).toLoadRect

namespace Blk
variable (b : Blk)
def dpsPut (V : View Cert.MxKernelIdeal.sig (Proc.kind (τ := τ) Proc.tc) Space.vmem S1x512 .f32) (g : Grp) (k : ℕ) (h : ∀ a, (![0, k] : Fin 2 → ℕ) a + (![1, 128] : Fin 2 → ℕ) a ≤ S1x512.size a)
    (L : List (View.Piece (Elt Ideal) S1x512 .f32)) : List (View.Piece (Elt Ideal) S1x512 .f32) :=
  ⟨Rect.unit (s := S1x512) ![0, k] ![1, 128] h, g.dps (V.readCov (Val := Elt Ideal) L (Rect.unit (s := S1x512) ![0, k] ![1, 128] h).toLoadRect)⟩ :: L
def dpsLA (V : View Cert.MxKernelIdeal.sig (Proc.kind (τ := τ) Proc.tc) Space.vmem S1x512 .f32) : List (View.Piece (Elt Ideal) S1x512 .f32) :=
  dpsPut V b.grp3 384 (by decide) (dpsPut V b.grp2 256 (by decide) (dpsPut V b.grp1 128 (by decide) (dpsPut V b.grp0 0 (by decide) [⟨Rect.unit ![0, 0] ![1, 512] (by decide), (k0_pay24 : FVec Ideal S1x512 .f32)⟩])))
def dpwPut (V : View Cert.MxKernelIdeal.sig (Proc.kind (τ := τ) Proc.tc) Space.vmem S512x128 .f32) (g : Grp) (k : ℕ) (h : ∀ a, (![k, 0] : Fin 2 → ℕ) a + (![128, 128] : Fin 2 → ℕ) a ≤ S512x128.size a)
    (L : List (View.Piece (Elt Ideal) S512x128 .f32)) : List (View.Piece (Elt Ideal) S512x128 .f32) :=
  ⟨Rect.unit (s := S512x128) ![k, 0] ![128, 128] h, g.dpw (V.readCov (Val := Elt Ideal) L (Rect.unit (s := S512x128) ![k, 0] ![128, 128] h).toLoadRect)⟩ :: L
def dpwLA (V : View Cert.MxKernelIdeal.sig (Proc.kind (τ := τ) Proc.tc) Space.vmem S512x128 .f32) : List (View.Piece (Elt Ideal) S512x128 .f32) :=
  dpwPut V b.grp3 384 (by decide) (dpwPut V b.grp2 256 (by decide) (dpwPut V b.grp1 128 (by decide) (dpwPut V b.grp0 0 (by decide) [⟨Rect.unit ![0, 0] ![512, 128] (by decide), (k0_pay23 : FVec Ideal S512x128 .f32)⟩])))
end Blk

/-- A grid point's blocks. -/
def blk (m : (ℓ : Loc nD τ Cert.MxKernelIdeal.sig) → Buf (Elt Ideal) ℓ) (c : Dev nD) (t : Fin cfg0.N) : Blk :=
  ⟨Scalar.subi 15#32 (BitVec.ofNat 32 (grid0.coords t 0)), iblk m c 0 t, iblk m c 1 t, iblk m c 2 t, iblk m c 3 t, iblk m c 4 t, iblk m c 5 t, iblk m c 6 t,
    iblk m c 7 t, iblk m c 8 t, iblk m c 9 t, iblk m c 10 t, iblk m c 11 t, iblk m c 12 t⟩

end Cert.Proof.Mx.Point
end
-- ==== Proof.MxRead.lean ====
/- The windows' and kept buffers' contents read back, as a point's body reads them. -/
module

public import proofs.«01_k».proof.Proof.MxPoint

@[expose] public section

set_option maxRecDepth 16384
noncomputable section

open Idealize.ShloMosaic Idealize.ShloMosaic.TcCoe Idealize.SL.Sem

namespace Cert.Proof.Mx.Point
open Cert.MxKernelIdeal Cert.MxKernelIdeal.Gen
variable (m : (ℓ : Loc nD τ Cert.MxKernelIdeal.sig) → Buf (Elt Ideal) ℓ)

/-! ## A window's contents, read back -/

theorem rd0 (t : Fin cfg0.N) (v : Vec Ideal S512x2304 .f32) : @View.read Cert.MxKernelIdeal.sig (Elt Ideal) (Proc.kind (τ := τ) Proc.tc) Space.vmem S512x2304 .f32 (ms0_0 t).view ((hs0_0 t).unread v) = v := (hs0_0 t).read_unread v
theorem rd1 (t : Fin cfg0.N) (v : Vec Ideal S128x2304 .f32) : @View.read Cert.MxKernelIdeal.sig (Elt Ideal) (Proc.kind (τ := τ) Proc.tc) Space.vmem S128x2304 .f32 (ms0_1 t).view ((hs0_1 t).unread v) = v := (hs0_1 t).read_unread v
theorem rd2 (t : Fin cfg0.N) (v : Vec Ideal S16x2304 .f32) : @View.read Cert.MxKernelIdeal.sig (Elt Ideal) (Proc.kind (τ := τ) Proc.tc) Space.vmem S16x2304 .f32 (ms0_2 t).view ((hs0_2 t).unread v) = v := (hs0_2 t).read_unread v
theorem rd3 (t : Fin cfg0.N) (v : Vec Ideal S512x1024 .f32) : @View.read Cert.MxKernelIdeal.sig (Elt Ideal) (Proc.kind (τ := τ) Proc.tc) Space.vmem S512x1024 .f32 (ms0_3 t).view ((hs0_3 t).unread v) = v := (hs0_3 t).read_unread v
theorem rd4 (t : Fin cfg0.N) (v : Vec Ideal S16x1024 .f32) : @View.read Cert.MxKernelIdeal.sig (Elt Ideal) (Proc.kind (τ := τ) Proc.tc) Space.vmem S16x1024 .f32 (ms0_4 t).view ((hs0_4 t).unread v) = v := (hs0_4 t).read_unread v
theorem rd5 (t : Fin cfg0.N) (v : Vec Ideal S512x1024 .f32) : @View.read Cert.MxKernelIdeal.sig (Elt Ideal) (Proc.kind (τ := τ) Proc.tc) Space.vmem S512x1024 .f32 (ms0_5 t).view ((hs0_5 t).unread v) = v := (hs0_5 t).read_unread v
theorem rd6 (t : Fin cfg0.N) (v : Vec Ideal S16x1024 .f32) : @View.read Cert.MxKernelIdeal.sig (Elt Ideal) (Proc.kind (τ := τ) Proc.tc) Space.vmem S16x1024 .f32 (ms0_6 t).view ((hs0_6 t).unread v) = v := (hs0_6 t).read_unread v
theorem rd7 (t : Fin cfg0.N) (v : Vec Ideal S512x1024 .bf16) : @View.read Cert.MxKernelIdeal.sig (Elt Ideal) (Proc.kind (τ := τ) Proc.tc) Space.vmem S512x1024 .bf16 (ms0_7 t).view ((hs0_7 t).unread v) = v := (hs0_7 t).read_unread v
theorem rd8 (t : Fin cfg0.N) (v : Vec Ideal S1024x1024 .bf16) : @View.read Cert.MxKernelIdeal.sig (Elt Ideal) (Proc.kind (τ := τ) Proc.tc) Space.vmem S1024x1024 .bf16 (ms0_8 t).view ((hs0_8 t).unread v) = v := (hs0_8 t).read_unread v
theorem rd9 (t : Fin cfg0.N) (v : Vec Ideal S1x1024 .f32) : @View.read Cert.MxKernelIdeal.sig (Elt Ideal) (Proc.kind (τ := τ) Proc.tc) Space.vmem S1x1024 .f32 (ms0_9 t).view ((hs0_9 t).unread v) = v := (hs0_9 t).read_unread v
theorem rd10 (t : Fin cfg0.N) (v : Vec Ideal S1x8 .f32) : @View.read Cert.MxKernelIdeal.sig (Elt Ideal) (Proc.kind (τ := τ) Proc.tc) Space.smem S1x8 .f32 (ms0_10 t).view ((hs0_10 t).unread v) = v := (hs0_10 t).read_unread v
theorem rd11 (t : Fin cfg0.N) (v : Vec Ideal S4x128x128 .f32) : @View.read Cert.MxKernelIdeal.sig (Elt Ideal) (Proc.kind (τ := τ) Proc.tc) Space.vmem S4x128x128 .f32 (ms0_11 t).view ((hs0_11 t).unread v) = v := (hs0_11 t).read_unread v
theorem rd12 (t : Fin cfg0.N) (v : Vec Ideal S1x512 .f32) : @View.read Cert.MxKernelIdeal.sig (Elt Ideal) (Proc.kind (τ := τ) Proc.tc) Space.vmem S1x512 .f32 (ms0_12 t).view ((hs0_12 t).unread v) = v := (hs0_12 t).read_unread v
theorem rd13 (t : Fin cfg0.N) (v : Vec Ideal S512x2304 .bf16) : @View.read Cert.MxKernelIdeal.sig (Elt Ideal) (Proc.kind (τ := τ) Proc.tc) Space.vmem S512x2304 .bf16 (ms0_13 t).view ((hs0_13 t).unread v) = v := (hs0_13 t).read_unread v
theorem rd14 (t : Fin cfg0.N) (v : Vec Ideal S8x128 .f32) : @View.read Cert.MxKernelIdeal.sig (Elt Ideal) (Proc.kind (τ := τ) Proc.tc) Space.vmem S8x128 .f32 (ms0_14 t).view ((hs0_14 t).unread v) = v := (hs0_14 t).read_unread v
theorem rd15 (t : Fin cfg0.N) (v : Vec Ideal S512x128 .f32) : @View.read Cert.MxKernelIdeal.sig (Elt Ideal) (Proc.kind (τ := τ) Proc.tc) Space.vmem S512x128 .f32 (ms0_15 t).view ((hs0_15 t).unread v) = v := (hs0_15 t).read_unread v
theorem rd16 (t : Fin cfg0.N) (v : Vec Ideal S1x512 .f32) : @View.read Cert.MxKernelIdeal.sig (Elt Ideal) (Proc.kind (τ := τ) Proc.tc) Space.vmem S1x512 .f32 (ms0_16 t).view ((hs0_16 t).unread v) = v := (hs0_16 t).read_unread v
theorem rd17 (t : Fin cfg0.N) (v : Vec Ideal S1024x1024 .bf16) : @View.read Cert.MxKernelIdeal.sig (Elt Ideal) (Proc.kind (τ := τ) Proc.tc) Space.vmem S1024x1024 .bf16 (ms0_17 t).view ((hs0_17 t).unread v) = v := (hs0_17 t).read_unread v
theorem rd18 (t : Fin cfg0.N) (v : Vec Ideal S1x1024 .f32) : @View.read Cert.MxKernelIdeal.sig (Elt Ideal) (Proc.kind (τ := τ) Proc.tc) Space.vmem S1x1024 .f32 (ms0_18 t).view ((hs0_18 t).unread v) = v := (hs0_18 t).read_unread v
theorem rdS2 (v : Vec Ideal S128x256 .f32) : @View.read Cert.MxKernelIdeal.sig (Elt Ideal) (Proc.kind (τ := τ) Proc.tc) Space.vmem S128x256 .f32 (View.whole cc0_scratch2) (@Memref.IsWhole.unread Cert.MxKernelIdeal.sig (Elt Ideal) Kind.tc Space.vmem S128x256 .f32 scM0_2 (@Memref.isWhole_whole Cert.MxKernelIdeal.sig Kind.tc cc0_scratch2) v) = v := Memref.IsWhole.read_unread _ v
theorem rdS3 (v : Vec Ideal S2x512x256 .f32) : @View.read Cert.MxKernelIdeal.sig (Elt Ideal) (Proc.kind (τ := τ) Proc.tc) Space.vmem S2x512x256 .f32 (View.whole cc0_scratch3) (@Memref.IsWhole.unread Cert.MxKernelIdeal.sig (Elt Ideal) Kind.tc Space.vmem S2x512x256 .f32 scM0_3 (@Memref.isWhole_whole Cert.MxKernelIdeal.sig Kind.tc cc0_scratch3) v) = v := Memref.IsWhole.read_unread _ v
theorem rdS4 (v : Vec Ideal S1024x1024 .f32) : @View.read Cert.MxKernelIdeal.sig (Elt Ideal) (Proc.kind (τ := τ) Proc.tc) Space.vmem S1024x1024 .f32 (View.whole cc0_scratch4) (@Memref.IsWhole.unread Cert.MxKernelIdeal.sig (Elt Ideal) Kind.tc Space.vmem S1024x1024 .f32 scM0_4 (@Memref.isWhole_whole Cert.MxKernelIdeal.sig Kind.tc cc0_scratch4) v) = v := Memref.IsWhole.read_unread _ v

/-- A grid point's blocks, read back from their windows. -/
def blkR (c : Dev nD) (t : Fin cfg0.N) : Blk :=
  ⟨Scalar.subi 15#32 (BitVec.ofNat 32 (grid0.coords t 0)),
    @View.read Cert.MxKernelIdeal.sig (Elt Ideal) (Proc.kind (τ := τ) Proc.tc) Space.vmem S512x2304 .f32 (ms0_0 t).view ((hs0_0 t).unread (iblk m c 0 t)),
    @View.read Cert.MxKernelIdeal.sig (Elt Ideal) (Proc.kind (τ := τ) Proc.tc) Space.vmem S128x2304 .f32 (ms0_1 t).view ((hs0_1 t).unread (iblk m c 1 t)),
    @View.read Cert.MxKernelIdeal.sig (Elt Ideal) (Proc.kind (τ := τ) Proc.tc) Space.vmem S16x2304 .f32 (ms0_2 t).view ((hs0_2 t).unread (iblk m c 2 t)),
    View.ld (@View.read Cert.MxKernelIdeal.sig (Elt Ideal) (Proc.kind (τ := τ) Proc.tc) Space.vmem S512x1024 .f32 (ms0_3 t).view ((hs0_3 t).unread (iblk m c 3 t))) (Rect.unit ![0, 0] S512x1024.size (by decide)),
    View.ld (@View.read Cert.MxKernelIdeal.sig (Elt Ideal) (Proc.kind (τ := τ) Proc.tc) Space.vmem S16x1024 .f32 (ms0_4 t).view ((hs0_4 t).unread (iblk m c 4 t))) (Rect.unit ![0, 0] S16x1024.size (by decide)),
    View.ld (@View.read Cert.MxKernelIdeal.sig (Elt Ideal) (Proc.kind (τ := τ) Proc.tc) Space.vmem S512x1024 .f32 (ms0_5 t).view ((hs0_5 t).unread (iblk m c 5 t))) (Rect.unit ![0, 0] S512x1024.size (by decide)),
    View.ld (@View.read Cert.MxKernelIdeal.sig (Elt Ideal) (Proc.kind (τ := τ) Proc.tc) Space.vmem S16x1024 .f32 (ms0_6 t).view ((hs0_6 t).unread (iblk m c 6 t))) (Rect.unit ![0, 0] S16x1024.size (by decide)),
    View.ld (@View.read Cert.MxKernelIdeal.sig (Elt Ideal) (Proc.kind (τ := τ) Proc.tc) Space.vmem S512x1024 .bf16 (ms0_7 t).view ((hs0_7 t).unread (iblk m c 7 t))) (Rect.unit ![0, 0] S512x1024.size (by decide)),
    View.ld (@View.read Cert.MxKernelIdeal.sig (Elt Ideal) (Proc.kind (τ := τ) Proc.tc) Space.vmem S1024x1024 .bf16 (ms0_8 t).view ((hs0_8 t).unread (iblk m c 8 t))) (Rect.unit ![0, 0] S1024x1024.size (by decide)),
    View.ld (@View.read Cert.MxKernelIdeal.sig (Elt Ideal) (Proc.kind (τ := τ) Proc.tc) Space.vmem S1x1024 .f32 (ms0_9 t).view ((hs0_9 t).unread (iblk m c 9 t))) (Rect.unit ![0, 0] S1x1024.size (by decide)),
    @View.read Cert.MxKernelIdeal.sig (Elt Ideal) (Proc.kind (τ := τ) Proc.tc) Space.smem S1x8 .f32 (ms0_10 t).view ((hs0_10 t).unread (iblk m c 10 t)),
    @View.read Cert.MxKernelIdeal.sig (Elt Ideal) (Proc.kind (τ := τ) Proc.tc) Space.vmem S4x128x128 .f32 (ms0_11 t).view ((hs0_11 t).unread (iblk m c 11 t)),
    @View.read Cert.MxKernelIdeal.sig (Elt Ideal) (Proc.kind (τ := τ) Proc.tc) Space.vmem S1x512 .f32 (ms0_12 t).view ((hs0_12 t).unread (iblk m c 12 t))⟩

theorem blkR_eq (c : Dev nD) (t : Fin cfg0.N) : blkR m c t = blk m c t := by
  unfold blkR blk
  rw [rd0 t (iblk m c 0 t)]
  rw [rd1 t (iblk m c 1 t)]
  rw [rd2 t (iblk m c 2 t)]
  rw [rd3 t (iblk m c 3 t)]
  rw [rd4 t (iblk m c 4 t)]
  rw [rd5 t (iblk m c 5 t)]
  rw [rd6 t (iblk m c 6 t)]
  rw [rd7 t (iblk m c 7 t)]
  rw [rd8 t (iblk m c 8 t)]
  rw [rd9 t (iblk m c 9 t)]
  rw [rd10 t (iblk m c 10 t)]
  rw [rd11 t (iblk m c 11 t)]
  rw [rd12 t (iblk m c 12 t)]
  rw [View.ld_unit_zero (by decide)]
  rw [View.ld_unit_zero (by decide)]
  rw [View.ld_unit_zero (by decide)]
  rw [View.ld_unit_zero (by decide)]
  rw [View.ld_unit_zero (by decide)]
  rw [View.ld_unit_zero (by decide)]
  rw [View.ld_unit_zero (by decide)]

/-- The bias's two planes, read. -/
abbrev bias0 (v : Vec Ideal S2x512x256 .f32) : Vec Ideal S1x512x256 .f32 := View.ld v (Rect.unit ![0, 0, 0] ![1, 512, 256] (by decide))
abbrev bias1 (v : Vec Ideal S2x512x256 .f32) : Vec Ideal S1x512x256 .f32 := View.ld v (Rect.unit ![1, 0, 0] ![1, 512, 256] (by decide))

/-! ## The kept buffers' contents, read back -/

def raw2 (v : Vec Ideal S128x256 .f32) : Vec Ideal S128x256 .f32 :=
  View.ld (@View.read Cert.MxKernelIdeal.sig (Elt Ideal) (Proc.kind (τ := τ) Proc.tc) Space.vmem S128x256 .f32 (View.whole cc0_scratch2) (@Memref.IsWhole.unread Cert.MxKernelIdeal.sig (Elt Ideal) Kind.tc Space.vmem S128x256 .f32 scM0_2 (@Memref.isWhole_whole Cert.MxKernelIdeal.sig Kind.tc cc0_scratch2) v)) (Rect.unit ![0, 0] S128x256.size (by decide))
def raw3 (v : Vec Ideal S2x512x256 .f32) : Vec Ideal S2x512x256 .f32 :=
  @View.read Cert.MxKernelIdeal.sig (Elt Ideal) (Proc.kind (τ := τ) Proc.tc) Space.vmem S2x512x256 .f32 (View.whole cc0_scratch3) (@Memref.IsWhole.unread Cert.MxKernelIdeal.sig (Elt Ideal) Kind.tc Space.vmem S2x512x256 .f32 scM0_3 (@Memref.isWhole_whole Cert.MxKernelIdeal.sig Kind.tc cc0_scratch3) v)
def raw4 (v : Vec Ideal S1024x1024 .f32) : Vec Ideal S1024x1024 .f32 :=
  View.ld (@View.read Cert.MxKernelIdeal.sig (Elt Ideal) (Proc.kind (τ := τ) Proc.tc) Space.vmem S1024x1024 .f32 (View.whole cc0_scratch4) (@Memref.IsWhole.unread Cert.MxKernelIdeal.sig (Elt Ideal) Kind.tc Space.vmem S1024x1024 .f32 scM0_4 (@Memref.isWhole_whole Cert.MxKernelIdeal.sig Kind.tc cc0_scratch4) v)) (Rect.unit ![0, 0] S1024x1024.size (by decide))
theorem raw2_eq (v : Vec Ideal S128x256 .f32) : raw2 v = v := by unfold raw2; rw [rdS2, View.ld_unit_zero (by decide)]
theorem raw3_eq (v : Vec Ideal S2x512x256 .f32) : raw3 v = v := by unfold raw3; rw [rdS3]
theorem raw4_eq (v : Vec Ideal S1024x1024 .f32) : raw4 v = v := by unfold raw4; rw [rdS4, View.ld_unit_zero (by decide)]
abbrev sV (t : Fin cfg0.N) : View Cert.MxKernelIdeal.sig (Proc.kind (τ := τ) Proc.tc) Space.vmem S8x128 .f32 := (ms0_14 t).view
def raw14 (t : Fin cfg0.N) (v : Vec Ideal S8x128 .f32) : Vec Ideal S8x128 .f32 := (sV t).read (Elt Ideal) ((hs0_14 t).unread v)
def raw15 (t : Fin cfg0.N) (v : Vec Ideal S512x128 .f32) : Vec Ideal S512x128 .f32 :=
  @View.read Cert.MxKernelIdeal.sig (Elt Ideal) (Proc.kind (τ := τ) Proc.tc) Space.vmem S512x128 .f32 (ms0_15 t).view ((hs0_15 t).unread v)
def raw16 (t : Fin cfg0.N) (v : Vec Ideal S1x512 .f32) : Vec Ideal S1x512 .f32 :=
  @View.read Cert.MxKernelIdeal.sig (Elt Ideal) (Proc.kind (τ := τ) Proc.tc) Space.vmem S1x512 .f32 (ms0_16 t).view ((hs0_16 t).unread v)
def raw18 (t : Fin cfg0.N) (v : Vec Ideal S1x1024 .f32) : Vec Ideal S1x1024 .f32 :=
  View.ld (@View.read Cert.MxKernelIdeal.sig (Elt Ideal) (Proc.kind (τ := τ) Proc.tc) Space.vmem S1x1024 .f32 (ms0_18 t).view ((hs0_18 t).unread v)) (Rect.unit ![0, 0] S1x1024.size (by decide))
theorem raw14_eq (t : Fin cfg0.N) (v : Vec Ideal S8x128 .f32) : raw14 t v = v := rd14 t v
theorem raw15_eq (t : Fin cfg0.N) (v : Vec Ideal S512x128 .f32) : raw15 t v = v := rd15 t v
theorem raw16_eq (t : Fin cfg0.N) (v : Vec Ideal S1x512 .f32) : raw16 t v = v := rd16 t v
theorem raw18_eq (t : Fin cfg0.N) (v : Vec Ideal S1x1024 .f32) : raw18 t v = v := by unfold raw18; rw [rd18, View.ld_unit_zero (by decide)]

abbrev poV (t : Fin cfg0.N) : View Cert.MxKernelIdeal.sig (Proc.kind (τ := τ) Proc.tc) Space.vmem S1x1024 .f32 := (ms0_18 t).view
abbrev psV (t : Fin cfg0.N) : View Cert.MxKernelIdeal.sig (Proc.kind (τ := τ) Proc.tc) Space.vmem S1x512 .f32 := (ms0_16 t).view
abbrev wpV (t : Fin cfg0.N) : View Cert.MxKernelIdeal.sig (Proc.kind (τ := τ) Proc.tc) Space.vmem S512x128 .f32 := (ms0_15 t).view

theorem tile_congr {V : View Cert.MxKernelIdeal.sig (Proc.kind (τ := τ) Proc.tc) Space.vmem S8x128 .f32} {x x' y y' : FVec Ideal S512x1 .f32} {L M : List (View.Piece (Elt Ideal) S8x128 .f32)}
    (hx : x = x') (hy : y = y') (hL : L = M) : Blk.skTile V x y L = Blk.skTile V x' y' M := by rw [hx, hy, hL]
theorem first_congr {o : Vec Ideal S8x128 .f32} {x x' y y' : FVec Ideal S512x1 .f32} (hx : x = x') (hy : y = y') : Blk.skFirst o x y = Blk.skFirst o x' y' := by rw [hx, hy]

end Cert.Proof.Mx.Point
end
-- ==== Proof.MxHost.lean ====
/- The mixing layer's mathematics as the plain program computes it on the host: its forward lines and its gradient,
   one vector a definition, over the program's seven arguments. -/
module

public import proofs.«01_k».proof.Proof.Gen.MxReferenceIdeal
public import Idealize.ShloMosaic.PureOps.Ideal

@[expose] public section

noncomputable section

open Idealize.ShloMosaic Idealize.ShloMosaic.TcCoe Idealize.SL.Sem

namespace Cert.Proof.Mx.Host

open Cert.MxReferenceIdeal Cert.MxReferenceIdeal.Gen

variable (a0 : FVec Ideal S8192x2304 .f32) (a1 : FVec Ideal S1x8 .f32) (a2 : FVec Ideal S1x4x128x128 .f32) (a3 : FVec Ideal S1x512 .f32)
  (a4 : FVec Ideal S1x1024x1024 .f32) (a5 : FVec Ideal S2x1024 .f32) (a6 : FVec Ideal S8192x1024 .f32)

/-- The pooling matrices. -/
def poolW : FVec Ideal S4x128x128 .f32 :=
  shapeCast _ a2 shapeCasts_S1x4x128x128_S4x128x128

/-- The output matrix. -/
def outW : FVec Ideal S1024x1024 .f32 :=
  shapeCast _ a4 shapeCasts_S1x1024x1024_S1024x1024

/-- The queries. -/
def queries : FVec Ideal S64x128x2x4x64 .f32 :=
  shapeCast _ (extractStridedSlice S8192x512 ![0, 0] a0 slices_S8192x2304_S8192x512_0_0) shapeCasts_S8192x512_S64x128x2x4x64

/-- The keys and values, block by block. -/
def kvRows : FVec Ideal S64x128x2x2x64 .f32 :=
  shapeCast _ (extractStridedSlice S8192x256 ![0, 512] a0 slices_S8192x2304_S8192x256_0_512) shapeCasts_S8192x256_S64x128x2x2x64

/-- Each block's keys and values behind those of the block before. -/
def kvPast : FVec Ideal S64x256x2x2x64 .f32 :=
  concatenate S64x256x2x2x64 1 [⟨S64x128x2x2x64, (concatenate S64x128x2x2x64 0 [⟨S1x128x2x2x64, (broadcastInDim S1x128x2x2x64 ![] bcast_S_S1x128x2x2x64 (constant (F := Ideal) S_ .f32 0x00000000#32))⟩, ⟨S63x128x2x2x64, (extractStridedSlice S63x128x2x2x64 ![0, 0, 0, 0, 0] (kvRows a0) slices_S64x128x2x2x64_S63x128x2x2x64_0_0_0_0_0)⟩] concatenates_S1x128x2x2x64_S63x128x2x2x64_S64x128x2x2x64_d0)⟩, ⟨S64x128x2x2x64, (kvRows a0)⟩] concatenates_S64x128x2x2x64_S64x128x2x2x64_S64x256x2x2x64_d1

/-- The keys a block looks at. -/
def keys : FVec Ideal S64x256x2x64 .f32 :=
  shapeCast _ (extractStridedSlice S64x256x1x2x64 ![0, 0, 0, 0, 0] (kvPast a0) slices_S64x256x2x2x64_S64x256x1x2x64_0_0_0_0_0) shapeCasts_S64x256x1x2x64_S64x256x2x64

/-- The values a block looks at. -/
def vals : FVec Ideal S64x256x2x64 .f32 :=
  shapeCast _ (extractStridedSlice S64x256x1x2x64 ![0, 0, 1, 0, 0] (kvPast a0) slices_S64x256x2x2x64_S64x256x1x2x64_0_0_1_0_0) shapeCasts_S64x256x1x2x64_S64x256x2x64

/-- The distance from a query to a key. -/
def dist : IVec S128x256 32 :=
  subi (extractStridedSlice S128x256 ![128, 0] (iotaInDim S256x256 32 0) slices_S256x256_S128x256_128_0) (iotaInDim S128x256 32 1)

/-- The block length. -/
def blocks : IVec S64x256 32 :=
  broadcastInDim S64x256 ![] bcast_S_S64x256 (constantI S_ 32 128#32)

/-- The keys a query sees. -/
def seen : IVec S64x2x128x4x256 1 :=
  broadcastInDim S64x2x128x4x256 ![0, 2, 4] bcast_S64x128x256_S64x2x128x4x256_0_2_4 (andi (broadcastInDim S64x128x256 ![1, 2] bcast_S128x256_S64x128x256_1_2 (andi (cmpi .sge dist (broadcastInDim S128x256 ![] bcast_S_S128x256 (constantI S_ 32 0#32))) (cmpi .slt dist (broadcastInDim S128x256 ![] bcast_S_S128x256 (constantI S_ 32 128#32))))) (broadcastInDim S64x128x256 ![0, 2] bcast_S64x256_S64x128x256_0_2 (cmpi .sge (addi (muli (iotaInDim S64x256 32 0) blocks) (iotaInDim S64x256 32 1)) blocks)))

/-- The masked scores. -/
def score : FVec Ideal S64x2x128x4x256 .f32 :=
  select seen (subf (mulf (Host.dotGeneral dot_S64x128x2x4x64_S64x256x2x64_S64x2x128x4x256_4_3_13_1_02_02 none (queries a0) (keys a0)) (broadcastInDim S64x2x128x4x256 ![] bcast_S_S64x2x128x4x256 (constant (F := Ideal) S_ .f32 0x3E000000#32))) (broadcastInDim S64x2x128x4x256 ![1, 2, 3, 4] bcast_S2x128x4x256_S64x2x128x4x256_1_2_3_4 (mulf (broadcastInDim S2x128x4x256 ![0, 2] bcast_S2x4_S2x128x4x256_0_2 (shapeCast _ (fun i => FloatOps.ofBits .f32 (lit0 (S8.rowMajor i)) : FVec Ideal S8 .f32) shapeCasts_S8_S2x4)) (broadcastInDim S2x128x4x256 ![1, 3] bcast_S128x256_S2x128x4x256_1_3 (sitofp .f32 dist))))) (broadcastInDim S64x2x128x4x256 ![] bcast_S_S64x2x128x4x256 (constant (F := Ideal) S_ .f32 0xFF800000#32))

/-- The sinks. -/
def sinks : FVec Ideal S64x2x128x4 .f32 :=
  broadcastInDim S64x2x128x4 ![1, 3] bcast_S2x4_S64x2x128x4_1_3 (shapeCast _ a1 shapeCasts_S1x8_S2x4)

/-- The rows' largest scores. -/
def top : FVec Ideal S64x2x128x4 .f32 :=
  Host.reduce FloatOps.maximumf (score a0) (constant (F := Ideal) S_ .f32 0xFF800000#32) reducesTo_S64x2x128x4x256_S64x2x128x4_d4 h_S_

/-- Where the largest score stands. -/
def hit : FVec Ideal S64x2x128x4x256 .f32 :=
  uitofp .f32 (cmpf .oeq (score a0) (broadcastInDim S64x2x128x4x256 ![0, 1, 2, 3, 4] bcast_S64x2x128x4x1_S64x2x128x4x256_0_1_2_3_4 (shapeCast _ (top a0) shapeCasts_S64x2x128x4_S64x2x128x4x1)))

/-- The rows' maxima. -/
def maxes : FVec Ideal S64x2x128x4 .f32 :=
  maximumf (top a0) (sinks a1)

/-- The exponentials. -/
def exps : FVec Ideal S64x2x128x4x256 .f32 :=
  Host.exp (subf (score a0) (broadcastInDim S64x2x128x4x256 ![0, 1, 2, 3] bcast_S64x2x128x4_S64x2x128x4x256_0_1_2_3 (maxes a0 a1)))

/-- The sinks' exponentials. -/
def expSink : FVec Ideal S64x2x128x4 .f32 :=
  Host.exp (subf (sinks a1) (maxes a0 a1))

/-- The normalisers. -/
def norms : FVec Ideal S64x2x128x4x256 .f32 :=
  broadcastInDim S64x2x128x4x256 ![0, 1, 2, 3] bcast_S64x2x128x4_S64x2x128x4x256_0_1_2_3 (addf (Host.reduceAdd (exps a0 a1) (constant (F := Ideal) S_ .f32 0x00000000#32) reducesTo_S64x2x128x4x256_S64x2x128x4_d4 h_S_) (expSink a0 a1))

/-- The weights. -/
def weights : FVec Ideal S64x2x128x4x256 .f32 :=
  Host.divf (exps a0 a1) (norms a0 a1)

/-- The rows to pool. -/
def pooledIn : FVec Ideal S8192x4x128 .f32 :=
  shapeCast _ (extractStridedSlice S8192x512 ![0, 1280] a0 slices_S8192x2304_S8192x512_0_1280) shapeCasts_S8192x512_S8192x4x128

/-- The running sums. -/
def sums : FVec Ideal S8192x4x128 .f32 :=
  Host.reduceWindowAdd ![8192, 1, 1] ![1, 1, 1] ![8191, 0, 0] ![0, 0, 0] (pooledIn a0) (broadcastInDim S_ ![] bcast_S_S_ (constant (F := Ideal) S_ .f32 0x00000000#32)) reduceWindows_S8192x4x128_S8192x4x128_w8192s1p8191_0_w1s1p0_0_w1s1p0_0 h_S_

/-- The running sums behind sixteen zero rows. -/
def sums16 : FVec Ideal S8208x4x128 .f32 :=
  concatenate S8208x4x128 0 [⟨S16x4x128, (broadcastInDim S16x4x128 ![] bcast_S_S16x4x128 (constant (F := Ideal) S_ .f32 0x00000000#32))⟩, ⟨S8192x4x128, (sums a0)⟩] concatenates_S16x4x128_S8192x4x128_S8208x4x128_d0

/-- The windows' lengths. -/
def counts : FVec Ideal S8192x4x128 .f32 :=
  broadcastInDim S8192x4x128 ![0, 1] bcast_S8192x4_S8192x4x128_0_1 (sitofp .f32 (minsi (extractStridedSlice S8192x4 ![1, 0] (iotaInDim S8193x4 32 0) slices_S8193x4_S8192x4_1_0) (broadcastInDim S8192x4 ![1] bcast_S4_S8192x4_1 (fun i => lit1 (S4.rowMajor i) : IVec S4 32))))

/-- The pooled rows. -/
def pooled : FVec Ideal S8192x4x128 .f32 :=
  subf (Host.divf (subf (sums a0) ((concatenate S8192x4x128 1 [⟨S8192x1x128, ((extractStridedSlice S8192x1x128 ![14, 0, 0] (sums16 a0) slices_S8208x4x128_S8192x1x128_14_0_0) : FVec Ideal S8192x1x128 .f32)⟩, ⟨S8192x1x128, ((extractStridedSlice S8192x1x128 ![12, 1, 0] (sums16 a0) slices_S8208x4x128_S8192x1x128_12_1_0) : FVec Ideal S8192x1x128 .f32)⟩, ⟨S8192x1x128, ((extractStridedSlice S8192x1x128 ![8, 2, 0] (sums16 a0) slices_S8208x4x128_S8192x1x128_8_2_0) : FVec Ideal S8192x1x128 .f32)⟩, ⟨S8192x1x128, ((extractStridedSlice S8192x1x128 ![0, 3, 0] (sums16 a0) slices_S8208x4x128_S8192x1x128_0_3_0) : FVec Ideal S8192x1x128 .f32)⟩] concatenates_S8192x1x128_S8192x1x128_S8192x1x128_S8192x1x128_S8192x4x128_d1 : FVec Ideal S8192x4x128 .f32))) counts) (pooledIn a0)

/-- The pooled rows under the pooling matrices. -/
def raw : FVec Ideal S8192x512 .f32 :=
  shapeCast _ (transpose S8192x4x128 [1, 0, 2] (Host.dotGeneral dot_S8192x4x128_S4x128x128_S4x8192x128_2_1_0_2_1_0 none (pooled a0) (poolW a2)) transposes_S4x8192x128_S8192x4x128_1_0_2) shapeCasts_S8192x4x128_S8192x512

/-- The pooling scales. -/
def scales : FVec Ideal S8192x512 .f32 :=
  broadcastInDim S8192x512 ![0, 1] bcast_S1x512_S8192x512_0_1 a3

/-- The gates' arguments. -/
def gates : FVec Ideal S8192x1024 .f32 :=
  concatenate S8192x1024 1 [⟨S8192x512, (extractStridedSlice S8192x512 ![0, 768] a0 slices_S8192x2304_S8192x512_0_768)⟩, ⟨S8192x512, (extractStridedSlice S8192x512 ![0, 1792] a0 slices_S8192x2304_S8192x512_0_1792)⟩] concatenates_S8192x512_S8192x512_S8192x1024_d1

/-- The two halves before their gates. -/
def halves : FVec Ideal S8192x1024 .f32 :=
  concatenate S8192x1024 1 [⟨S8192x512, (shapeCast _ (transpose S64x128x2x4x64 [0, 2, 1, 3, 4] (Host.dotGeneral dot_S64x2x128x4x256_S64x256x2x64_S64x2x128x4x64_4_1_23_3_01_02 none (weights a0 a1) (vals a0)) transposes_S64x2x128x4x64_S64x128x2x4x64_0_2_1_3_4) shapeCasts_S64x128x2x4x64_S8192x512)⟩, ⟨S8192x512, (mulf (raw a0 a2) (scales a3))⟩] concatenates_S8192x512_S8192x512_S8192x1024_d1

/-- The gates' exponentials. -/
def expGate : FVec Ideal S8192x1024 .f32 :=
  Host.exp (Host.negf (gates a0))

/-- The gates' denominators. -/
def gateDen : FVec Ideal S8192x1024 .f32 :=
  addf (broadcastInDim S8192x1024 ![] bcast_S_S8192x1024 (constant (F := Ideal) S_ .f32 0x3F800000#32)) (expGate a0)

/-- The gates. -/
def silus : FVec Ideal S8192x1024 .f32 :=
  Host.divf (gates a0) (gateDen a0)

/-- The gated halves. -/
def mixed : FVec Ideal S8192x1024 .f32 :=
  mulf (halves a0 a1 a2 a3) (silus a0)

/-- The rows before the norm. -/
def rows : FVec Ideal S8192x1024 .f32 :=
  Host.dotGeneral dot_S8192x1024_S1024x1024_S8192x1024_1_0_0_1_n_n none (mixed a0 a1 a2 a3) (outW a4)

/-- The rows' mean squares. -/
def msq : FVec Ideal S8192x1 .f32 :=
  addf (Host.divf (broadcastInDim S8192x1 ![0] bcast_S8192_S8192x1_0 (Host.reduceAdd (mulf (rows a0 a1 a2 a3 a4) (rows a0 a1 a2 a3 a4)) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32))

/-- Their reciprocal roots. -/
def rsq : FVec Ideal S8192x1 .f32 :=
  Host.rsqrt (msq a0 a1 a2 a3 a4)

/-- The normed rows. -/
def normed : FVec Ideal S8192x1024 .f32 :=
  mulf (rows a0 a1 a2 a3 a4) (broadcastInDim S8192x1024 ![0, 1] bcast_S8192x1_S8192x1024_0_1 (rsq a0 a1 a2 a3 a4))

/-- The gain. -/
def gain : FVec Ideal S1x1024 .f32 :=
  broadcastInDim S1x1024 ![1] bcast_S1024_S1x1024_1 (shapeCast _ (extractStridedSlice S1x1024 ![0, 0] a5 slices_S2x1024_S1x1024_0_0) shapeCasts_S1x1024_S1024)

/-- The cotangent under the gain. -/
def gGain : FVec Ideal S8192x1024 .f32 :=
  mulf a6 (broadcastInDim S8192x1024 ![0, 1] bcast_S1x1024_S8192x1024_0_1 (gain a5))

/-- The norm's correction. -/
def back1 : FVec Ideal S8192x1024 .f32 :=
  broadcastInDim S8192x1024 ![0] bcast_S8192_S8192x1024_0 (Host.reduceAdd (Host.divf (mulf (shapeCast _ (Host.reduceAdd (mulf (rows a0 a1 a2 a3 a4) (gGain a5 a6)) (constant (F := Ideal) S_ .f32 0x00000000#32) reducesTo_S8192x1024_S8192_d1 h_S_) shapeCasts_S8192_S8192x1) (mulf (broadcastInDim S8192x1 ![] bcast_S_S8192x1 (constant (F := Ideal) S_ .f32 0xBF000000#32)) (Host.divf (rsq a0 a1 a2 a3 a4) (msq a0 a1 a2 a3 a4)))) (broadcastInDim S8192x1 ![] bcast_S_S8192x1 (constant (F := Ideal) S_ .f32 0x44800000#32))) (constant (F := Ideal) S_ .f32 0x00000000#32) reducesTo_S8192x1_S8192_d1 h_S_)

/-- The cotangent of the rows. -/
def dRows : FVec Ideal S8192x1024 .f32 :=
  addf (addf (mulf (gGain a5 a6) (broadcastInDim S8192x1024 ![0, 1] bcast_S8192x1_S8192x1024_0_1 (rsq a0 a1 a2 a3 a4))) (mulf (rows a0 a1 a2 a3 a4) (back1 a0 a1 a2 a3 a4 a5 a6))) (mulf (back1 a0 a1 a2 a3 a4 a5 a6) (rows a0 a1 a2 a3 a4))

/-- The cotangent of the gated halves. -/
def dMixed : FVec Ideal S8192x1024 .f32 :=
  Host.dotGeneral dot_S8192x1024_S1024x1024_S8192x1024_1_1_0_0_n_n none (dRows a0 a1 a2 a3 a4 a5 a6) (outW a4)

/-- The cotangent of the gates. -/
def dGate1 : FVec Ideal S8192x1024 .f32 :=
  mulf (halves a0 a1 a2 a3) (dMixed a0 a1 a2 a3 a4 a5 a6)

/-- The cotangent of the halves. -/
def dHalves : FVec Ideal S8192x1024 .f32 :=
  mulf (dMixed a0 a1 a2 a3 a4 a5 a6) (silus a0)

/-- The gradient of the gates' arguments. -/
def dGates : FVec Ideal S8192x1024 .f32 :=
  addf (Host.divf (dGate1 a0 a1 a2 a3 a4 a5 a6) (gateDen a0)) (Host.negf (mulf (Host.negf (mulf (mulf (dGate1 a0 a1 a2 a3 a4 a5 a6) (Host.divf (broadcastInDim S8192x1024 ![] bcast_S_S8192x1024 (constant (F := Ideal) S_ .f32 0x3F800000#32)) (mulf (gateDen a0) (gateDen a0)))) (gates a0))) (expGate a0)))

/-- The cotangent of the pooled half. -/
def dPool : FVec Ideal S8192x512 .f32 :=
  extractStridedSlice S8192x512 ![0, 512] (dHalves a0 a1 a2 a3 a4 a5 a6) slices_S8192x1024_S8192x512_0_512

/-- The same under the scales, group by group. -/
def dRaw : FVec Ideal S4x8192x128 .f32 :=
  transpose S4x8192x128 [1, 0, 2] (shapeCast _ (mulf (dPool a0 a1 a2 a3 a4 a5 a6) (scales a3)) shapeCasts_S8192x512_S8192x4x128) transposes_S8192x4x128_S4x8192x128_1_0_2

/-- The cotangent of the pooled rows. -/
def dPooled : FVec Ideal S8192x4x128 .f32 :=
  transpose S8192x4x128 [1, 0, 2] (Host.dotGeneral dot_S4x8192x128_S4x128x128_S4x8192x128_2_2_1_1_0_0 none (dRaw a0 a1 a2 a3 a4 a5 a6) (poolW a2)) transposes_S4x8192x128_S8192x4x128_1_0_2

/-- The cotangent of the windows' sums. -/
def dSums : FVec Ideal S8192x4x128 .f32 :=
  Host.divf (dPooled a0 a1 a2 a3 a4 a5 a6) counts

/-- The same, negated. -/
def dSumsNeg : FVec Ideal S8192x4x128 .f32 :=
  Host.negf (dSums a0 a1 a2 a3 a4 a5 a6)

/-- What the shifted sums receive. -/
def dShift : FVec Ideal S8208x4x128 .f32 :=
  addf (addf (addf (pad S8208x4x128 ![0, 3, 0] ![16, 0, 0] ![0, 0, 0] (extractStridedSlice S8192x1x128 ![0, 3, 0] (dSumsNeg a0 a1 a2 a3 a4 a5 a6) slices_S8192x4x128_S8192x1x128_0_3_0) (constant (F := Ideal) S_ .f32 0x00000000#32) pads_S8192x1x128_S8208x4x128_0160_300_000 h_S_) (pad S8208x4x128 ![8, 2, 0] ![8, 1, 0] ![0, 0, 0] (extractStridedSlice S8192x1x128 ![0, 2, 0] (dSumsNeg a0 a1 a2 a3 a4 a5 a6) slices_S8192x4x128_S8192x1x128_0_2_0) (constant (F := Ideal) S_ .f32 0x00000000#32) pads_S8192x1x128_S8208x4x128_880_210_000 h_S_)) (pad S8208x4x128 ![12, 1, 0] ![4, 2, 0] ![0, 0, 0] (extractStridedSlice S8192x1x128 ![0, 1, 0] (dSumsNeg a0 a1 a2 a3 a4 a5 a6) slices_S8192x4x128_S8192x1x128_0_1_0) (constant (F := Ideal) S_ .f32 0x00000000#32) pads_S8192x1x128_S8208x4x128_1240_120_000 h_S_)) (pad S8208x4x128 ![14, 0, 0] ![2, 3, 0] ![0, 0, 0] (extractStridedSlice S8192x1x128 ![0, 0, 0] (dSumsNeg a0 a1 a2 a3 a4 a5 a6) slices_S8192x4x128_S8192x1x128_0_0_0) (constant (F := Ideal) S_ .f32 0x00000000#32) pads_S8192x1x128_S8208x4x128_1420_030_000 h_S_)

/-- The cotangent of the attended values. -/
def dAtt : FVec Ideal S64x2x128x4x64 .f32 :=
  transpose S64x2x128x4x64 [0, 2, 1, 3, 4] (shapeCast _ (extractStridedSlice S8192x512 ![0, 0] (dHalves a0 a1 a2 a3 a4 a5 a6) slices_S8192x1024_S8192x512_0_0) shapeCasts_S8192x512_S64x128x2x4x64) transposes_S64x128x2x4x64_S64x2x128x4x64_0_2_1_3_4

/-- The cotangent of the weights. -/
def dWeights : FVec Ideal S64x2x128x4x256 .f32 :=
  Host.dotGeneral dot_S64x2x128x4x64_S64x256x2x64_S64x2x128x4x256_4_3_23_1_01_02 none (dAtt a0 a1 a2 a3 a4 a5 a6) (vals a0)

/-- The cotangent of the normalisers. -/
def dNorm : FVec Ideal S64x2x128x4 .f32 :=
  Host.reduceAdd (Host.negf (mulf (mulf (dWeights a0 a1 a2 a3 a4 a5 a6) (Host.divf (broadcastInDim S64x2x128x4x256 ![] bcast_S_S64x2x128x4x256 (constant (F := Ideal) S_ .f32 0x3F800000#32)) (mulf (norms a0 a1) (norms a0 a1)))) (exps a0 a1))) (constant (F := Ideal) S_ .f32 0x00000000#32) reducesTo_S64x2x128x4x256_S64x2x128x4_d4 h_S_

/-- The cotangent of the sinks' exponents. -/
def dSinkE : FVec Ideal S64x2x128x4 .f32 :=
  mulf (dNorm a0 a1 a2 a3 a4 a5 a6) (expSink a0 a1)

/-- The cotangent of the exponents. -/
def dScoreE : FVec Ideal S64x2x128x4x256 .f32 :=
  mulf (addf (Host.divf (dWeights a0 a1 a2 a3 a4 a5 a6) (norms a0 a1)) (broadcastInDim S64x2x128x4x256 ![0, 1, 2, 3] bcast_S64x2x128x4_S64x2x128x4x256_0_1_2_3 (dNorm a0 a1 a2 a3 a4 a5 a6))) (exps a0 a1)

/-- The cotangent of the maxima. -/
def dMax : FVec Ideal S64x2x128x4 .f32 :=
  addf (Host.negf (dSinkE a0 a1 a2 a3 a4 a5 a6)) (Host.reduceAdd (Host.negf (dScoreE a0 a1 a2 a3 a4 a5 a6)) (constant (F := Ideal) S_ .f32 0x00000000#32) reducesTo_S64x2x128x4x256_S64x2x128x4_d4 h_S_)

/-- The cotangent of the scores. -/
def dScore : FVec Ideal S64x2x128x4x256 .f32 :=
  mulf (select seen (addf (dScoreE a0 a1 a2 a3 a4 a5 a6) (mulf (broadcastInDim S64x2x128x4x256 ![0, 1, 2, 3] bcast_S64x2x128x4_S64x2x128x4x256_0_1_2_3 (Host.divf (mulf (dMax a0 a1 a2 a3 a4 a5 a6) (select (cmpf .ogt (top a0) (sinks a1)) (broadcastInDim S64x2x128x4 ![] bcast_S_S64x2x128x4 (constant (F := Ideal) S_ .f32 0x3F800000#32)) (select (cmpf .oeq (top a0) (sinks a1)) (broadcastInDim S64x2x128x4 ![] bcast_S_S64x2x128x4 (constant (F := Ideal) S_ .f32 0x3F000000#32)) (broadcastInDim S64x2x128x4 ![] bcast_S_S64x2x128x4 (constant (F := Ideal) S_ .f32 0x00000000#32))))) (Host.reduceAdd (hit a0) (constant (F := Ideal) S_ .f32 0x00000000#32) reducesTo_S64x2x128x4x256_S64x2x128x4_d4 h_S_))) (hit a0))) (broadcastInDim S64x2x128x4x256 ![] bcast_S_S64x2x128x4x256 (constant (F := Ideal) S_ .f32 0x00000000#32))) (broadcastInDim S64x2x128x4x256 ![] bcast_S_S64x2x128x4x256 (constant (F := Ideal) S_ .f32 0x3E000000#32))

/-- The cotangent of each block's keys and values. -/
def dKvPast : FVec Ideal S64x256x2x2x64 .f32 :=
  addf (pad S64x256x2x2x64 ![0, 0, 1, 0, 0] ![0, 0, 0, 0, 0] ![0, 0, 0, 0, 0] (broadcastInDim S64x256x1x2x64 ![0, 1, 3, 4] bcast_S64x256x2x64_S64x256x1x2x64_0_1_3_4 (transpose S64x256x2x64 [0, 3, 1, 2] (Host.dotGeneral dot_S64x2x128x4x64_S64x2x128x4x256_S64x2x64x256_23_23_4_4_01_01 none (dAtt a0 a1 a2 a3 a4 a5 a6) (weights a0 a1)) transposes_S64x2x64x256_S64x256x2x64_0_3_1_2)) (constant (F := Ideal) S_ .f32 0x00000000#32) pads_S64x256x1x2x64_S64x256x2x2x64_000_000_100_000_000 h_S_) (pad S64x256x2x2x64 ![0, 0, 0, 0, 0] ![0, 0, 1, 0, 0] ![0, 0, 0, 0, 0] (broadcastInDim S64x256x1x2x64 ![0, 1, 3, 4] bcast_S64x256x2x64_S64x256x1x2x64_0_1_3_4 (transpose S64x256x2x64 [0, 2, 1, 3] (Host.dotGeneral dot_S64x2x128x4x256_S64x128x2x4x64_S64x2x256x64_23_13_4_4_01_02 none (dScore a0 a1 a2 a3 a4 a5 a6) (queries a0)) transposes_S64x2x256x64_S64x256x2x64_0_2_1_3)) (constant (F := Ideal) S_ .f32 0x00000000#32) pads_S64x256x1x2x64_S64x256x2x2x64_000_000_010_000_000 h_S_)

/-- Its first half. -/
def dKvPrev : FVec Ideal S64x128x2x2x64 .f32 :=
  extractStridedSlice S64x128x2x2x64 ![0, 0, 0, 0, 0] (dKvPast a0 a1 a2 a3 a4 a5 a6) slices_S64x256x2x2x64_S64x128x2x2x64_0_0_0_0_0

end Cert.Proof.Mx.Host

end
-- ==== Proof.MxSpec.lean ====
/- The mixing layer's step over the reals: its arguments, its forward values and its gradients, row by row.
   Nothing here mentions a program. -/
module

public import proofs.«01_k».proof.Proof.MxModel
public import proofs.«01_k».proof.Proof.Norm

@[expose] public section

noncomputable section

open Idealize.ShloMosaic

namespace Cert.Proof.Mx

/-- Row `q` of block `n`. -/
def rowOf (n : Fin 64) (q : Fin 128) : Fin 8192 := ⟨n * 128 + q, by omega⟩
/-- The block of a row, and the row in its block. -/
def blkOf (r : Fin 8192) : Fin 64 := ⟨r / 128, by omega⟩
def inBlk (r : Fin 8192) : Fin 128 := ⟨r % 128, by omega⟩
/-- Column `d` of head `h`. -/
def headCol (h : Fin 8) (d : Fin 64) : Fin 512 := ⟨h * 64 + d, by omega⟩
/-- The head of a column, and the column in its head. -/
def headOf (c : Fin 512) : Fin 8 := ⟨c / 64, by omega⟩
def inHead (c : Fin 512) : Fin 64 := ⟨c % 64, by omega⟩
/-- The key head of a head, and one of its four heads. -/
def kvOf (h : Fin 8) : Fin 2 := ⟨h / 4, by omega⟩
def headAt (k : Fin 2) (g : Fin 4) : Fin 8 := ⟨k * 4 + g, by omega⟩
/-- The pooling group of a column, and the column in its group. -/
def grpOf (c : Fin 512) : Fin 4 := ⟨c / 128, by omega⟩
def inGrp (c : Fin 512) : Fin 128 := ⟨c % 128, by omega⟩
def grpCol (g : Fin 4) (e : Fin 128) : Fin 512 := ⟨g * 128 + e, by omega⟩

theorem blkOf_rowOf (n : Fin 64) (q : Fin 128) : blkOf (rowOf n q) = n := Fin.ext (by show (n * 128 + q : ℕ) / 128 = n; omega)
theorem inBlk_rowOf (n : Fin 64) (q : Fin 128) : inBlk (rowOf n q) = q := Fin.ext (by show (n * 128 + q : ℕ) % 128 = q; omega)
theorem rowOf_blkOf (r : Fin 8192) : rowOf (blkOf r) (inBlk r) = r := Fin.ext (by show (r / 128 * 128 + r % 128 : ℕ) = r; omega)
theorem headOf_headCol (h : Fin 8) (d : Fin 64) : headOf (headCol h d) = h := Fin.ext (by show (h * 64 + d : ℕ) / 64 = h; omega)
theorem inHead_headCol (h : Fin 8) (d : Fin 64) : inHead (headCol h d) = d := Fin.ext (by show (h * 64 + d : ℕ) % 64 = d; omega)
theorem headCol_headOf (c : Fin 512) : headCol (headOf c) (inHead c) = c := Fin.ext (by show (c / 64 * 64 + c % 64 : ℕ) = c; omega)
theorem grpOf_grpCol (g : Fin 4) (e : Fin 128) : grpOf (grpCol g e) = g := Fin.ext (by show (g * 128 + e : ℕ) / 128 = g; omega)
theorem inGrp_grpCol (g : Fin 4) (e : Fin 128) : inGrp (grpCol g e) = e := Fin.ext (by show (g * 128 + e : ℕ) % 128 = e; omega)
theorem grpCol_grpOf (c : Fin 512) : grpCol (grpOf c) (inGrp c) = c := Fin.ext (by show (c / 128 * 128 + c % 128 : ℕ) = c; omega)

/-- The distance slope of head `h`. -/
def slope (h : Fin 8) : ℝ := 1 / 2 ^ ((h : ℕ) + 1)

/-- The window's length in pooling group `g`. -/
def win (g : Fin 4) : ℕ := 2 * 2 ^ (g : ℕ)

/-- The arguments: projected rows, sinks, pooling matrices and scales, output matrix, gain and cotangent. -/
structure Inp where
  P : Fin 8192 → Fin 2304 → ℝ
  sk : Fin 8 → ℝ
  W : Fin 4 → Fin 128 → Fin 128 → ℝ
  C : Fin 512 → ℝ
  O : Fin 1024 → Fin 1024 → ℝ
  po : Fin 1024 → ℝ
  G : Fin 8192 → Fin 1024 → ℝ

namespace Inp

variable (x : Inp)

/-- The parts of a projected row. -/
def pq (r : Fin 8192) (c : Fin 512) : ℝ := x.P r ⟨c, by omega⟩
def pk (r : Fin 8192) (c : Fin 128) : ℝ := x.P r ⟨512 + c, by omega⟩
def pv (r : Fin 8192) (c : Fin 128) : ℝ := x.P r ⟨640 + c, by omega⟩
def pga (r : Fin 8192) (c : Fin 512) : ℝ := x.P r ⟨768 + c, by omega⟩
def pu (r : Fin 8192) (c : Fin 512) : ℝ := x.P r ⟨1280 + c, by omega⟩
def pgb (r : Fin 8192) (c : Fin 512) : ℝ := x.P r ⟨1792 + c, by omega⟩

/-- Row `s` of the 256 keys block `n` looks at, zero before the sequence. -/
def past (f : Fin 8192 → Fin 128 → ℝ) (n : Fin 64) (k : Fin 2) (s : Fin 256) (d : Fin 64) : ℝ :=
  if h : 128 ≤ (n : ℕ) * 128 + s then f ⟨n * 128 + s - 128, by omega⟩ ⟨k * 64 + d, by omega⟩ else 0

/-- Head `h` on block `n` under the cotangent `dO` of the attended values. -/
def head (dO : Fin 8192 → Fin 512 → ℝ) (n : Fin 64) (h : Fin 8) : Head :=
  ⟨n, fun q d => x.pq (rowOf n q) (headCol h d), past x.pk n (kvOf h), past x.pv n (kvOf h), fun q d => dO (rowOf n q) (headCol h d), slope h, x.sk h⟩

/-- The attended values. -/
def att (r : Fin 8192) (c : Fin 512) : ℝ := (x.head (fun _ _ => 0) (blkOf r) (headOf c)).out (inBlk r) (inHead c)

/-- The pooled rows, and their image under the group's matrix. -/
def pl (g : Fin 4) (r : Fin 8192) (e : Fin 128) : ℝ := pool (win g) (fun i => x.pu i (grpCol g e)) r
def yraw (r : Fin 8192) (c : Fin 512) : ℝ := ∑ e, x.pl (grpOf c) r e * x.W (grpOf c) e (inGrp c)

/-- The gated halves side by side. -/
def mix (r : Fin 8192) (c : Fin 1024) : ℝ :=
  if h : (c : ℕ) < 512 then x.att r ⟨c, h⟩ * silu (x.pga r ⟨c, h⟩)
  else x.yraw r ⟨c - 512, by omega⟩ * x.C ⟨c - 512, by omega⟩ * silu (x.pgb r ⟨c - 512, by omega⟩)

/-- The output rows before the norm. -/
def y (r : Fin 8192) (j : Fin 1024) : ℝ := ∑ c, x.mix r c * x.O c j

/-- The cotangent of the output rows. -/
def dy (r : Fin 8192) : Fin 1024 → ℝ := Norm.back (x.y r) (fun j => x.G r j * x.po j)

/-- The cotangent of the gated halves. -/
def dmix (r : Fin 8192) (c : Fin 1024) : ℝ := ∑ j, x.dy r j * x.O c j
def dma (r : Fin 8192) (c : Fin 512) : ℝ := x.dmix r ⟨c, by omega⟩
def dmb (r : Fin 8192) (c : Fin 512) : ℝ := x.dmix r ⟨512 + c, by omega⟩

/-- The gradients of the output matrix and of the gain. -/
def dwo (c j : Fin 1024) : ℝ := ∑ r, x.mix r c * x.dy r j
def dpo (j : Fin 1024) : ℝ := ∑ r, x.G r j * (x.y r j * Norm.rs (x.y r))

/-- The cotangent of the attended values. -/
def dO (r : Fin 8192) (c : Fin 512) : ℝ := x.dma r c * silu (x.pga r c)

/-- Head `h` on block `n` under the step's cotangent. -/
def hd (n : Fin 64) (h : Fin 8) : Head := x.head x.dO n h

/-- The gradient of the queries. -/
def dq (r : Fin 8192) (c : Fin 512) : ℝ := (x.hd (blkOf r) (headOf c)).dQ (inBlk r) (inHead c)

/-- What block `n` adds to column `c` of row `s` of its keys' (values') gradient. -/
def dkAt (n : Fin 64) (s : Fin 256) (c : Fin 128) : ℝ := ∑ g, (x.hd n (headAt ⟨c / 64, by omega⟩ g)).dK s ⟨c % 64, by omega⟩
def dvAt (n : Fin 64) (s : Fin 256) (c : Fin 128) : ℝ := ∑ g, (x.hd n (headAt ⟨c / 64, by omega⟩ g)).dV s ⟨c % 64, by omega⟩

/-- A row's gradient: its own block's part and the part of the block after. -/
def both (f : Fin 64 → Fin 256 → Fin 128 → ℝ) (r : Fin 8192) (c : Fin 128) : ℝ :=
  f (blkOf r) ⟨128 + inBlk r, by omega⟩ c + if h : (blkOf r : ℕ) + 1 < 64 then f ⟨blkOf r + 1, h⟩ ⟨inBlk r, by omega⟩ c else 0

/-- The gradients of the keys and of the values. -/
def dk (r : Fin 8192) (c : Fin 128) : ℝ := both x.dkAt r c
def dv (r : Fin 8192) (c : Fin 128) : ℝ := both x.dvAt r c

/-- The gradient of the attention's gate. -/
def dga (r : Fin 8192) (c : Fin 512) : ℝ := x.dma r c * x.att r c * dsilu (x.pga r c)

/-- The gradient of the sinks. -/
def dsk (h : Fin 8) : ℝ := -∑ n, (x.hd n h).dS

/-- The cotangent of the pooled half before its gate. -/
def dyp (r : Fin 8192) (c : Fin 512) : ℝ := x.dmb r c * silu (x.pgb r c)

/-- The gradients of the pooling scales and of the pooled half's gate. -/
def dps (c : Fin 512) : ℝ := ∑ r, x.dyp r c * x.yraw r c
def dgb (r : Fin 8192) (c : Fin 512) : ℝ := x.dmb r c * (x.yraw r c * x.C c) * dsilu (x.pgb r c)

/-- The gradients of the pooling matrices and of the pooled rows. -/
def dyr (r : Fin 8192) (c : Fin 512) : ℝ := x.dyp r c * x.C c
def dpw (g : Fin 4) (e c : Fin 128) : ℝ := ∑ r, x.pl g r e * x.dyr r (grpCol g c)
def dpl (g : Fin 4) (r : Fin 8192) (e : Fin 128) : ℝ := ∑ c, x.dyr r (grpCol g c) * x.W g e c
def du (r : Fin 8192) (c : Fin 512) : ℝ := unpool (win (grpOf c)) (fun i => x.dpl (grpOf c) i (inGrp c)) r

/-- The gradient of a projected row, its six parts side by side. -/
def dproj (r : Fin 8192) (c : Fin 2304) : ℝ :=
  if h0 : (c : ℕ) < 512 then x.dq r ⟨c, h0⟩
  else if h1 : (c : ℕ) < 640 then x.dk r ⟨c - 512, by omega⟩
  else if h2 : (c : ℕ) < 768 then x.dv r ⟨c - 640, by omega⟩
  else if h3 : (c : ℕ) < 1280 then x.dga r ⟨c - 768, by omega⟩
  else if h4 : (c : ℕ) < 1792 then x.du r ⟨c - 1280, by omega⟩
  else x.dgb r ⟨c - 1792, by omega⟩

/-- The attended values do not depend on the cotangent. -/
theorem att_eq (r : Fin 8192) (c : Fin 512) : (x.hd (blkOf r) (headOf c)).out (inBlk r) (inHead c) = x.att r c := rfl

end Inp

end Cert.Proof.Mx

end
-- ==== Proof.MxWindow.lean ====
/- A running sum along the first of three axes, read as a sum over the axis. -/
module

public import Idealize.ShloMosaic.PureOps.Ideal
public import Idealize.ShloMosaic.Lib.Pointwise

@[expose] public section

noncomputable section

open Idealize.ShloMosaic

namespace Cert.Proof.Mx

/-- Adding up a list from a start. -/
theorem foldl_add {α : Type} (l : List α) (f : α → EReal) (v : EReal) : l.foldl (fun r n => r + f n) v = v + (l.map f).sum := by
  induction l generalizing v with
  | nil => simp
  | cons a l ih => rw [List.foldl_cons, ih, List.map_cons, List.sum_cons, add_assoc]

/-- A window's entries, counted by where they lie. -/
theorem sum_shift {N : ℕ} (lo r : ℕ) (hr : r < N) (f : Fin N → EReal) :
    (∑ n : Fin N, if hin : lo ≤ r + n ∧ r + n - lo < N then f ⟨r + n - lo, hin.2⟩ else 0)
      = ∑ i : Fin N, if r ≤ i + lo ∧ i + lo < r + N then f i else 0 := by
  have e1 : ∀ n : Fin N, (if hin : lo ≤ r + n ∧ r + n - lo < N then f ⟨r + n - lo, hin.2⟩ else 0)
      = ∑ i : Fin N, if (i : ℕ) + lo = r + n then f i else 0 := by
    intro n
    split
    next hin =>
      rw [Finset.sum_eq_single ⟨r + n - lo, hin.2⟩]
      · exact (if_pos (by show r + n - lo + lo = r + n; omega)).symm
      · intro i _ hi
        exact if_neg fun he => hi (Fin.ext (by show (i : ℕ) = r + n - lo; omega))
      · exact fun hn => absurd (Finset.mem_univ _) hn
    next hin =>
      refine (Finset.sum_eq_zero fun i _ => if_neg fun he => hin ⟨by omega, ?_⟩).symm
      have := i.isLt
      omega
  rw [Finset.sum_congr rfl fun n _ => e1 n, Finset.sum_comm]
  refine Finset.sum_congr rfl fun i _ => ?_
  split
  next hi =>
    rw [Finset.sum_eq_single ⟨i + lo - r, by omega⟩]
    · exact if_pos (by show (i : ℕ) + lo = r + (i + lo - r); omega)
    · intro n _ hn
      exact if_neg fun he => hn (Fin.ext (by show (n : ℕ) = i + lo - r; omega))
    · exact fun hn => absurd (Finset.mem_univ _) hn
  next hi =>
    refine Finset.sum_eq_zero fun n _ => if_neg fun he => hi ⟨by omega, ?_⟩
    have := n.isLt
    omega

/-- A window sum along the first axis. -/
theorem window_sum {N G E : ℕ} (lo hi : ℕ) (h : (⟨3, ![N, G, E]⟩ : Shape).ReduceWindows ![N, 1, 1] ![1, 1, 1] ![lo, 0, 0] ![hi, 0, 0] ⟨3, ![N, G, E]⟩)
    (x : (⟨3, ![N, G, E]⟩ : Shape).Idx → EReal) (r : Fin N) (g : Fin G) (e : Fin E) :
    Ideal.hostReduceWindowAdd ![N, 1, 1] ![1, 1, 1] ![lo, 0, 0] ![hi, 0, 0] h x 0 (ix3 r g e)
      = ∑ i : Fin N, if (r : ℕ) ≤ i + lo ∧ i + lo < r + N then x (ix3 i g e) else 0 := by
  rw [← sum_shift lo r r.isLt fun i => x (ix3 i g e)]
  unfold Ideal.hostReduceWindowAdd Host.reduceWindow
  dsimp only
  rw [foldl_add, zero_add, ← Fin.sum_univ_def, ← Equiv.sum_comp (Shape.rowMajor _)]
  simp only [Equiv.symm_apply_apply]
  erw [sum_idx3]
  refine Finset.sum_congr rfl fun n _ => ?_
  simp only [Fin.sum_univ_one]
  by_cases hin : lo ≤ r + n ∧ r + n - lo < N
  · rw [dif_pos hin, dif_pos (fun a => by
      match a with
      | ⟨0, _⟩ => exact (by simpa using hin : lo ≤ (r : ℕ) * 1 + n ∧ (r : ℕ) * 1 + n - lo < N)
      | ⟨1, _⟩ => exact (by simpa using g.isLt : 0 ≤ (g : ℕ) * 1 + 0 ∧ (g : ℕ) * 1 + 0 - 0 < G)
      | ⟨2, _⟩ => exact (by simpa using e.isLt : 0 ≤ (e : ℕ) * 1 + 0 ∧ (e : ℕ) * 1 + 0 - 0 < E))]
    refine congrArg x (funext fun a => ?_)
    match a with
    | ⟨0, _⟩ => exact Fin.ext (by show (r : ℕ) * 1 + n - lo = r + n - lo; rw [mul_one])
    | ⟨1, _⟩ => exact Fin.ext (by show (g : ℕ) * 1 + 0 - 0 = g; omega)
    | ⟨2, _⟩ => exact Fin.ext (by show (e : ℕ) * 1 + 0 - 0 = e; omega)
  · rw [dif_neg hin, dif_neg]
    intro ha
    exact hin (by have := ha 0; simpa using this)

end Cert.Proof.Mx

end
-- ==== Proof.MxFwd.lean ====
/- The mixing layer's forward lines on the host, each vector read at an index as a real. -/
module

public import proofs.«01_k».proof.Proof.MxHost
public import proofs.«01_k».proof.Proof.MxSpec
public import proofs.«01_k».proof.Proof.MxWindow

@[expose] public section

set_option maxRecDepth 16384

noncomputable section

open Idealize.ShloMosaic Idealize.ShloMosaic.TcCoe Idealize.SL.Sem

namespace Cert.Proof.Mx.Host

open Cert.MxReferenceIdeal Cert.MxReferenceIdeal.Gen Cert.Proof.RealLift

/-! ## Constants and bits -/

theorem bits_zero : Ideal.ofBits .f32 0x00000000#32 = ((0 : ℝ) : EReal) := by simp [Ideal.ofBits, Ideal.ieee]
theorem bits_one : Ideal.ofBits .f32 0x3F800000#32 = ((1 : ℝ) : EReal) := by
  simp [Ideal.ofBits, Ideal.ieee, -EReal.coe_mul]; norm_num
theorem bits_eighth : Ideal.ofBits .f32 0x3E000000#32 = ((1 / 8 : ℝ) : EReal) := by
  simp [Ideal.ofBits, Ideal.ieee, -EReal.coe_mul]; norm_num
theorem bits_bot : Ideal.ofBits .f32 0xFF800000#32 = (⊥ : EReal) := by simp [Ideal.ofBits, Ideal.ieee]

/-- A selection by a decided bit. -/
theorem sel {α : Type} (p : Prop) [Decidable p] (x y : α) : Scalar.select (BitVec.ofBool (decide p)) x y = if p then x else y := by
  by_cases h : p <;> simp [h, Scalar.select]

/-- Two decided bits. -/
theorem and_bits (p q : Prop) [Decidable p] [Decidable q] : BitVec.ofBool (decide p) &&& BitVec.ofBool (decide q) = BitVec.ofBool (decide (p ∧ q)) := by
  by_cases hp : p <;> by_cases hq : q <;> simp [hp, hq]

/-- The arguments read as reals. -/
structure Reads (x : Inp) (a0 : FVec Ideal S8192x2304 .f32) (a1 : FVec Ideal S1x8 .f32) (a2 : FVec Ideal S1x4x128x128 .f32)
    (a3 : FVec Ideal S1x512 .f32) (a4 : FVec Ideal S1x1024x1024 .f32) (a5 : FVec Ideal S2x1024 .f32) (a6 : FVec Ideal S8192x1024 .f32) : Prop where
  P : ∀ r c, a0 (ix2 r c) = (x.P r c : EReal)
  sk : ∀ u h, a1 (ix2 u h) = (x.sk h : EReal)
  W : ∀ u g e c, a2 (ix4 u g e c) = (x.W g e c : EReal)
  C : ∀ u c, a3 (ix2 u c) = (x.C c : EReal)
  O : ∀ u c j, a4 (ix3 u c j) = (x.O c j : EReal)
  po : ∀ j, a5 (ix2 (0 : Fin 2) j) = (x.po j : EReal)
  G : ∀ r j, a6 (ix2 r j) = (x.G r j : EReal)

variable {x : Inp} {a0 : FVec Ideal S8192x2304 .f32} {a1 : FVec Ideal S1x8 .f32} {a2 : FVec Ideal S1x4x128x128 .f32} {a3 : FVec Ideal S1x512 .f32}
  {a4 : FVec Ideal S1x1024x1024 .f32} {a5 : FVec Ideal S2x1024 .f32} {a6 : FVec Ideal S8192x1024 .f32}
  (h : Reads x a0 a1 a2 a3 a4 a5 a6)

include h

theorem poolW_at (g : Fin 4) (e c : Fin 128) : poolW a2 (ix3 g e c) = (x.W g e c : EReal) := by
  pointwise [poolW, h.W]

theorem outW_at (c j : Fin 1024) : outW a4 (ix2 c j) = (x.O c j : EReal) := by
  pointwise [outW, h.O]

theorem queries_at (n : Fin 64) (q : Fin 128) (k : Fin 2) (g : Fin 4) (d : Fin 64) :
    queries a0 (ix5 n q k g d) = (x.pq (rowOf n q) (headCol (headAt k g) d) : EReal) := by
  pointwise [queries, h.P]
  exact congrArg (fun c => (x.P (rowOf n q) c : EReal)) (Fin.ext (by show (k * 256 + g * 64 + d : ℕ) = (k * 4 + g) * 64 + d; omega))

theorem kvRows_at (n : Fin 64) (q : Fin 128) (t k : Fin 2) (d : Fin 64) :
    kvRows a0 (ix5 n q t k d) = (x.P (rowOf n q) ⟨512 + t * 128 + (k * 64 + d), by omega⟩ : EReal) := by
  pointwise [kvRows, h.P]
  exact congrArg (fun c => (x.P (rowOf n q) c : EReal)) (Fin.ext (by show (512 + (t * 128 + k * 64 + d) : ℕ) = 512 + t * 128 + (k * 64 + d); omega))

omit h in
/-- A small number's word read back as an integer. -/
theorem toInt_small (a : ℕ) (ha : a < 2 ^ 31) : (BitVec.ofNat 32 a).toInt = a := by
  rw [BitVec.toInt_eq_toNat_of_lt (by rw [BitVec.toNat_ofNat]; omega), BitVec.toNat_ofNat]
  omega

omit h in
theorem dist_at (q : Fin 128) (s : Fin 256) : dist (ix2 q s) = BitVec.ofNat 32 (128 + q) - BitVec.ofNat 32 s := by
  pointwise [dist]
  rfl

omit h in
theorem dist_int (q : Fin 128) (s : Fin 256) : (dist (ix2 q s)).toInt = (q : ℤ) + 128 - s := by
  rw [dist_at, BitVec.toInt_sub]
  have := q.isLt; have := s.isLt
  rw [toInt_small _ (by omega), toInt_small _ (by omega), Int.bmod_def]
  push_cast
  omega

omit h in
theorem seen_at (n : Fin 64) (k : Fin 2) (q : Fin 128) (g : Fin 4) (s : Fin 256) :
    seen (ix5 n k q g s) = BitVec.ofBool (decide (Seen n q s)) := by
  pointwise [seen, blocks]
  have hn := n.isLt; have hq := q.isLt; have hs := s.isLt
  have e1 : (IntOp.addi (IntOp.muli (BitVec.ofNat 32 n) 128#32) (BitVec.ofNat 32 s)).toInt = (n : ℤ) * 128 + s := by
    show (BitVec.ofNat 32 n * BitVec.ofNat 32 128 + BitVec.ofNat 32 s).toInt = _
    rw [← BitVec.ofNat_mul, ← BitVec.ofNat_add, toInt_small _ (by omega)]
    push_cast; rfl
  have h0 : (0#32).toInt = 0 := by decide
  have h128 : (128#32).toInt = 128 := by decide
  show BitVec.ofBool (BitVec.sle (0#32) (dist (ix2 q s))) &&& BitVec.ofBool (BitVec.slt (dist (ix2 q s)) (128#32)) &&& BitVec.ofBool (BitVec.sle (128#32) _) = _
  rw [BitVec.sle_eq_decide, BitVec.slt_eq_decide, BitVec.sle_eq_decide, dist_int, e1, h0, h128]
  rw [and_bits, and_bits]
  refine congrArg BitVec.ofBool (decide_eq_decide.mpr ?_)
  unfold Seen
  omega

theorem keys_at (n : Fin 64) (s : Fin 256) (k : Fin 2) (d : Fin 64) : keys a0 (ix4 n s k d) = (Inp.past x.pk n k s d : EReal) := by
  pointwise [keys, kvPast, kvRows_at h]
  unfold Inp.past Inp.pk
  have hn := n.isLt; have hs := s.isLt
  split
  next h1 =>
    split
    next h2 => rw [dif_neg (by omega), EReal.coe_zero]
    next h2 =>
      rw [dif_pos (by omega)]
      refine congrArg₂ (fun r c => (x.P r c : EReal)) (Fin.ext ?_) (Fin.ext ?_)
      · show ((n - 1) * 128 + s : ℕ) = n * 128 + s - 128; omega
      · show (512 + (k * 64 + d) : ℕ) = 512 + (k * 64 + d); omega
  next h1 =>
    rw [dif_pos (by omega)]
    refine congrArg₂ (fun r c => (x.P r c : EReal)) (Fin.ext ?_) (Fin.ext ?_)
    · show (n * 128 + (s - 128) : ℕ) = n * 128 + s - 128; omega
    · show (512 + (k * 64 + d) : ℕ) = 512 + (k * 64 + d); omega

theorem vals_at (n : Fin 64) (s : Fin 256) (k : Fin 2) (d : Fin 64) : vals a0 (ix4 n s k d) = (Inp.past x.pv n k s d : EReal) := by
  pointwise [vals, kvPast, kvRows_at h]
  unfold Inp.past Inp.pv
  have hn := n.isLt; have hs := s.isLt
  split
  next h1 =>
    split
    next h2 => rw [dif_neg (by omega), EReal.coe_zero]
    next h2 =>
      rw [dif_pos (by omega)]
      refine congrArg₂ (fun r c => (x.P r c : EReal)) (Fin.ext ?_) (Fin.ext ?_)
      · show ((n - 1) * 128 + s : ℕ) = n * 128 + s - 128; omega
      · show (512 + 128 + (k * 64 + d) : ℕ) = 640 + (k * 64 + d); omega
  next h1 =>
    rw [dif_pos (by omega)]
    refine congrArg₂ (fun r c => (x.P r c : EReal)) (Fin.ext ?_) (Fin.ext ?_)
    · show (n * 128 + (s - 128) : ℕ) = n * 128 + s - 128; omega
    · show (512 + 128 + (k * 64 + d) : ℕ) = 640 + (k * 64 + d); omega

theorem sinks_at (n : Fin 64) (k : Fin 2) (q : Fin 128) (g : Fin 4) : sinks a1 (ix4 n k q g) = ((x.hd n (headAt k g)).sk : EReal) := by
  pointwise [sinks, h.sk]
  rfl

omit h in
theorem slopes_at (i : Fin 8) : (FloatOps.ofBits .f32 (lit0 (S8.rowMajor (ix1 i))) : Ideal .f32) = (slope i : EReal) := by
  have e : ∀ w : BitVec 32, lit0 (S8.rowMajor (ix1 i)) = w → Ideal.ofBits .f32 w = (slope i : EReal) →
      (FloatOps.ofBits .f32 (lit0 (S8.rowMajor (ix1 i))) : Ideal .f32) = (slope i : EReal) := fun w hw hs => by rw [hw]; exact hs
  fin_vals i with hi
  · obtain rfl : i = 0 := Fin.ext hi
    exact e 0x3F000000#32 (by decide) (by simp [slope, Ideal.ofBits, Ideal.ieee, -EReal.coe_mul]; norm_num)
  · obtain rfl : i = 1 := Fin.ext hi
    exact e 0x3E800000#32 (by decide) (by simp [slope, Ideal.ofBits, Ideal.ieee, -EReal.coe_mul]; norm_num)
  · obtain rfl : i = 2 := Fin.ext hi
    exact e 0x3E000000#32 (by decide) (by simp [slope, Ideal.ofBits, Ideal.ieee, -EReal.coe_mul]; norm_num)
  · obtain rfl : i = 3 := Fin.ext hi
    exact e 0x3D800000#32 (by decide) (by simp [slope, Ideal.ofBits, Ideal.ieee, -EReal.coe_mul]; norm_num)
  · obtain rfl : i = 4 := Fin.ext hi
    exact e 0x3D000000#32 (by decide) (by simp [slope, Ideal.ofBits, Ideal.ieee, -EReal.coe_mul]; norm_num)
  · obtain rfl : i = 5 := Fin.ext hi
    exact e 0x3C800000#32 (by decide) (by simp [slope, Ideal.ofBits, Ideal.ieee, -EReal.coe_mul]; norm_num)
  · obtain rfl : i = 6 := Fin.ext hi
    exact e 0x3C000000#32 (by decide) (by simp [slope, Ideal.ofBits, Ideal.ieee, -EReal.coe_mul]; norm_num)
  · obtain rfl : i = 7 := Fin.ext hi
    exact e 0x3B800000#32 (by decide) (by simp [slope, Ideal.ofBits, Ideal.ieee, -EReal.coe_mul]; norm_num)

omit h in
theorem kvOf_headAt (k : Fin 2) (g : Fin 4) : kvOf (headAt k g) = k := Fin.ext (by show (k * 4 + g : ℕ) / 4 = k; omega)

theorem score_at (n : Fin 64) (k : Fin 2) (q : Fin 128) (g : Fin 4) (s : Fin 256) :
    score a0 (ix5 n k q g s) = (x.hd n (headAt k g)).score q s := by
  pointwise [score, seen_at, queries_at h, keys_at h]
  unfold Head.score
  refine if_congr Iff.rfl ?_ bits_bot
  rw [show (Ideal.ofBits .f32 (lit0 (S8.rowMajor (ix1 (⟨k * 4 + g, by omega⟩ : Fin 8)))) : EReal) = (slope (headAt k g) : EReal) from slopes_at (headAt k g),
    show (FloatOps.sitofp .f32 (dist (ix2 q s)) : Ideal .f32) = (((dist (ix2 q s)).toInt : ℝ) : EReal) from rfl, dist_int]
  simp only [bits_eighth, ← EReal.coe_mul, ← coe_sum, ← EReal.coe_sub]
  refine congrArg _ ?_
  unfold Head.lin Inp.hd Inp.head
  rw [kvOf_headAt]
  push_cast
  rfl

theorem top_at (n : Fin 64) (k : Fin 2) (q : Fin 128) (g : Fin 4) :
    top a0 (ix4 n k q g) = Finset.univ.fold max ⊥ ((x.hd n (headAt k g)).score q) := by
  pointwise [top, score_at h]
  rw [bits_bot]

theorem maxes_at (n : Fin 64) (k : Fin 2) (q : Fin 128) (g : Fin 4) :
    maxes a0 a1 (ix4 n k q g) = ((x.hd n (headAt k g)).M q : EReal) := by
  have key : ∀ (u v : FVec Ideal S64x2x128x4 .f32) i, maximumf u v i = max (u i : EReal) (v i : EReal) := fun _ _ _ => rfl
  unfold maxes
  rw [key, top_at h, sinks_at h]
  exact Head.max_eq (x.hd n (headAt k g)) q

theorem exps_at (n : Fin 64) (k : Fin 2) (q : Fin 128) (g : Fin 4) (s : Fin 256) :
    exps a0 a1 (ix5 n k q g s) = ((x.hd n (headAt k g)).ex q s : EReal) := by
  pointwise [exps, score_at h, maxes_at h]
  exact Head.exp_eq (x.hd n (headAt k g)) q s

theorem expSink_at (n : Fin 64) (k : Fin 2) (q : Fin 128) (g : Fin 4) :
    expSink a0 a1 (ix4 n k q g) = ((x.hd n (headAt k g)).es q : EReal) := by
  pointwise [expSink, sinks_at h, maxes_at h]
  exact Head.exp_sink_eq (x.hd n (headAt k g)) q

theorem norms_at (n : Fin 64) (k : Fin 2) (q : Fin 128) (g : Fin 4) (s : Fin 256) :
    norms a0 a1 (ix5 n k q g s) = ((x.hd n (headAt k g)).den q : EReal) := by
  pointwise [norms, exps_at h, expSink_at h]
  simp only [bits_zero, EReal.coe_zero, zero_add, ← coe_sum, ← EReal.coe_add]
  rfl

theorem weights_at (n : Fin 64) (k : Fin 2) (q : Fin 128) (g : Fin 4) (s : Fin 256) :
    weights a0 a1 (ix5 n k q g s) = ((x.hd n (headAt k g)).pr q s : EReal) := by
  pointwise [weights, exps_at h, norms_at h]
  exact div_coe_coe _ _ ((x.hd n (headAt k g)).den_pos q).ne'

theorem pooledIn_at (r : Fin 8192) (g : Fin 4) (e : Fin 128) : pooledIn a0 (ix3 r g e) = (x.pu r (grpCol g e) : EReal) := by
  pointwise [pooledIn, h.P]
  rfl

theorem sums_at (r : Fin 8192) (g : Fin 4) (e : Fin 128) :
    sums a0 (ix3 r g e) = ((∑ i : Fin 8192, if (i : ℕ) ≤ r then x.pu i (grpCol g e) else 0 : ℝ) : EReal) := by
  have e0 : (broadcastInDim S_ ![] bcast_S_S_ (constant (F := Ideal) S_ .f32 0x00000000#32) (Shape.Idx.first h_S_) : EReal) = 0 := by
    show Ideal.ofBits .f32 0x00000000#32 = 0
    rw [bits_zero, EReal.coe_zero]
  unfold sums Host.reduceWindowAdd
  rw [Ideal.hostReduceWindowAdd_def, e0]
  refine (window_sum 8191 0 _ _ r g e).trans ?_
  rw [coe_sum]
  refine Finset.sum_congr rfl fun i _ => ?_
  rw [pooledIn_at h]
  by_cases hi : (i : ℕ) ≤ r
  · rw [if_pos hi, if_pos ⟨by omega, by omega⟩]
  · rw [if_neg hi, if_neg (by omega), EReal.coe_zero]

omit h in
/-- A running sum some rows earlier. -/
theorem lower_eq (u : Fin 8192 → ℝ) (w : ℕ) (r : Fin 8192) :
    (if hr : (r : ℕ) < w then (0 : EReal) else ((∑ i : Fin 8192, if (i : ℕ) ≤ r - w then u i else 0 : ℝ) : EReal))
      = ((∑ i : Fin 8192, if (i : ℕ) < r + 1 - w then u i else 0 : ℝ) : EReal) := by
  split
  next hr => rw [Finset.sum_eq_zero fun i _ => if_neg (by omega), EReal.coe_zero]
  next hr => exact congrArg _ (Finset.sum_congr rfl fun i _ => if_congr (by omega) rfl rfl)

omit h in
theorem counts_at (r : Fin 8192) (g : Fin 4) (e : Fin 128) : counts (ix3 r g e) = (cnt (win g) r : EReal) := by
  have hr := r.isLt
  have key : ∀ a b : ℕ, a < 2 ^ 31 → b < 2 ^ 31 → (IntOp.minsi (BitVec.ofNat 32 a) (BitVec.ofNat 32 b)).toInt = ((min a b : ℕ) : ℤ) := by
    intro a b ha hb
    unfold IntOp.minsi
    rw [BitVec.slt_eq_decide, toInt_small a ha, toInt_small b hb]
    by_cases hab : a < b
    · rw [if_pos (by simpa using hab), toInt_small a ha, min_eq_left hab.le]
    · rw [if_neg (by simpa using hab), toInt_small b hb, min_eq_right (not_lt.mp hab)]
  have lit : lit1 (S4.rowMajor (ix1 g)) = BitVec.ofNat 32 (win g) := by
    fin_vals g with hg
    · obtain rfl : g = 0 := Fin.ext hg
      rfl
    · obtain rfl : g = 1 := Fin.ext hg
      rfl
    · obtain rfl : g = 2 := Fin.ext hg
      rfl
    · obtain rfl : g = 3 := Fin.ext hg
      rfl
  have hw : win g ≤ 16 := by
    have : 2 ^ (g : ℕ) ≤ 2 ^ 3 := Nat.pow_le_pow_right (by norm_num) (by omega)
    unfold win
    omega
  pointwise [counts]
  rw [lit]
  show (((IntOp.minsi (BitVec.ofNat 32 (1 + r)) (BitVec.ofNat 32 (win g))).toInt : ℝ) : EReal) = _
  rw [key _ _ (by omega) (by omega), Nat.add_comm]
  rfl

set_option maxHeartbeats 1000000 in
theorem pooled_at (r : Fin 8192) (g : Fin 4) (e : Fin 128) : pooled a0 (ix3 r g e) = (x.pl g r e : EReal) := by
  have low : ∀ (w : ℕ) (p : Prop) [Decidable p] (hp : p ↔ (r : ℕ) < w) (f : ¬ p → Fin 8192) (_ : ∀ hr, (f hr : ℕ) = r - w),
      (if hr : p then (0 : EReal) else sums a0 (ix3 (f hr) g e))
        = ((∑ i : Fin 8192, if (i : ℕ) < r + 1 - w then x.pu i (grpCol g e) else 0 : ℝ) : EReal) := by
    intro w p _ hp f hf
    rw [← lower_eq]
    by_cases hr : p
    · rw [dif_pos hr, dif_pos (hp.mp hr)]
    · rw [dif_neg hr, dif_neg (hp.not.mp hr), sums_at h, hf]
  have fin : ∀ w : ℕ, w = win g → Ideal.div (sums a0 (ix3 r g e) - ((∑ i : Fin 8192, if (i : ℕ) < r + 1 - w then x.pu i (grpCol g e) else 0 : ℝ) : EReal))
      (counts (ix3 r g e)) - pooledIn a0 (ix3 r g e) = (x.pl g r e : EReal) := by
    intro w hw
    subst hw
    rw [sums_at h, counts_at, pooledIn_at h, ← EReal.coe_sub, window_eq, div_coe_coe _ _ (cnt_pos (by unfold win; positivity) r).ne', ← EReal.coe_sub]
    rfl
  have cut : ∀ (w : ℕ) (z : EReal), w = win g → z = ((∑ i : Fin 8192, if (i : ℕ) < r + 1 - w then x.pu i (grpCol g e) else 0 : ℝ) : EReal) →
      Ideal.div (sums a0 (ix3 r g e) - z) (counts (ix3 r g e)) - pooledIn a0 (ix3 r g e) = (x.pl g r e : EReal) := by
    intro w z hw hz
    rw [hz]
    exact fin w hw
  pointwise [pooled, sums16]
  clear fin
  generalize sums a0 = S at low cut ⊢
  generalize counts (ix3 r g e) = N at cut ⊢
  generalize pooledIn a0 (ix3 r g e) = U at cut ⊢
  fin_vals g with hg
  · obtain rfl : g = 0 := Fin.ext hg
    refine cut 2 _ rfl ((dif_pos (by decide)).trans (low 2 _ (by omega) _ fun _ => ?_))
    show 14 + (r : ℕ) - 16 = r - 2
    omega
  · obtain rfl : g = 1 := Fin.ext hg
    refine cut 4 _ rfl ((dif_neg (by decide)).trans ((dif_pos (by decide)).trans (low 4 _ (by omega) _ fun _ => ?_)))
    show 12 + (r : ℕ) - 16 = r - 4
    omega
  · obtain rfl : g = 2 := Fin.ext hg
    refine cut 8 _ rfl ((dif_neg (by decide)).trans ((dif_neg (by decide)).trans ((dif_pos (by decide)).trans (low 8 _ (by omega) _ fun _ => ?_))))
    show 8 + (r : ℕ) - 16 = r - 8
    omega
  · obtain rfl : g = 3 := Fin.ext hg
    refine cut 16 _ rfl ((dif_neg (by decide)).trans ((dif_neg (by decide)).trans ((dif_neg (by decide)).trans (low 16 _ (by omega) _ fun _ => ?_))))
    show (r : ℕ) - 16 = r - 16
    omega

theorem raw_at (r : Fin 8192) (c : Fin 512) : raw a0 a2 (ix2 r c) = (x.yraw r c : EReal) := by
  pointwise [raw, pooled_at h, poolW_at h]
  simp only [← EReal.coe_mul, ← coe_sum]
  rfl

theorem halves_at (r : Fin 8192) (c : Fin 1024) :
   halves a0 a1 a2 a3 (ix2 r c) = ((if hc : (c : ℕ) < 512 then x.att r ⟨c, hc⟩ else x.yraw r ⟨c - 512, by omega⟩ * x.C ⟨c - 512, by omega⟩ : ℝ) : EReal) := by
  pointwise [halves, scales, weights_at h, vals_at h, raw_at h, h.C]
  split
  next hc =>
    simp only [← EReal.coe_mul, ← coe_sum]
    refine congrArg _ ?_
    have e1 : headAt ⟨c / 256, by omega⟩ ⟨c / 64 % 4, by omega⟩ = headOf ⟨c, hc⟩ := Fin.ext (by show (c / 256 * 4 + c / 64 % 4 : ℕ) = c / 64; omega)
    have e2 : (⟨c / 256, by omega⟩ : Fin 2) = kvOf (headOf ⟨c, hc⟩) := Fin.ext (by show (c / 256 : ℕ) = c / 64 / 4; omega)
    rw [← x.att_eq]
    unfold Head.out
    rw [e1]
    exact Finset.sum_congr rfl fun i _ => by rw [e2]; rfl
  next hc => rw [← EReal.coe_mul]

theorem gates_at (r : Fin 8192) (c : Fin 1024) :
   gates a0 (ix2 r c) = ((if hc : (c : ℕ) < 512 then x.pga r ⟨c, hc⟩ else x.pgb r ⟨c - 512, by omega⟩ : ℝ) : EReal) := by
  pointwise [gates, h.P]
  split
  · rfl
  · rfl

theorem silus_at (r : Fin 8192) (c : Fin 1024) : silus a0 (ix2 r c)
    = ((if hc : (c : ℕ) < 512 then silu (x.pga r ⟨c, hc⟩) else silu (x.pgb r ⟨c - 512, by omega⟩) : ℝ) : EReal) := by
  pointwise [silus, gateDen, expGate, gates_at h]
  rw [← EReal.coe_neg, Ideal.exp_coe, ← EReal.coe_one, ← EReal.coe_add, div_coe_coe _ _ (sig_den_pos _).ne']
  refine congrArg _ ?_
  split
  · unfold silu sig; rw [mul_one_div]
  · unfold silu sig; rw [mul_one_div]

theorem mixed_at (r : Fin 8192) (c : Fin 1024) : mixed a0 a1 a2 a3 (ix2 r c) = (x.mix r c : EReal) := by
  pointwise [mixed, halves_at h, silus_at h]
  rw [← EReal.coe_mul]
  refine congrArg _ ?_
  unfold Inp.mix
  split
  · rfl
  · rfl

theorem rows_at (r : Fin 8192) (j : Fin 1024) : rows a0 a1 a2 a3 a4 (ix2 r j) = (x.y r j : EReal) := by
  pointwise [rows, mixed_at h, outW_at h]
  simp only [← EReal.coe_mul, ← coe_sum]
  rfl

end Cert.Proof.Mx.Host

end
-- ==== Proof.MxRows.lean ====
/- The rows a grid point of the mixing layer's gradient reads, and its output norm's gradient. -/
module

public import proofs.«01_k».proof.Proof.MxPoint
public import proofs.«01_k».proof.Proof.MxFwd

@[expose] public section

set_option maxRecDepth 16384

noncomputable section

open Idealize.ShloMosaic Idealize.ShloMosaic.TcCoe Idealize.SL.Sem

namespace Cert.Proof.Mx.Point

open Cert.MxKernelIdeal Cert.MxKernelIdeal.Gen Cert.Proof.RealLift Cert.Proof.Norm Cert.Proof.Mx.Host

/-- The rows of row block `i`, of the block after, and of the block before (at the ends the block's nearest). -/
def rowI (i : Fin 16) (r : Fin 512) : Fin 8192 := ⟨512 * (i : ℕ) + (r : ℕ), by omega⟩
def nextRow (i : Fin 16) (r : Fin 16) : Fin 8192 := ⟨(if (i : ℕ) = 15 then 8176 else 512 * ((i : ℕ) + 1)) + (r : ℕ), by split <;> omega⟩
def haloRow (i : Fin 16) (r : Fin 128) : Fin 8192 := ⟨(if (i : ℕ) = 0 then 0 else 512 * (i : ℕ) - 128) + (r : ℕ), by split <;> omega⟩
/-- The block's rows, then the next rows. -/
def extRow (i : Fin 16) (r : Fin 528) : Fin 8192 := if h : (r : ℕ) < 512 then rowI i ⟨r, h⟩ else nextRow i ⟨r - 512, by omega⟩

/-- The blocks a grid point reads hold the step's numbers at row block `i`. -/
structure Blk.Is (b : Blk) (x : Inp) (i : Fin 16) : Prop where
  ii : b.ii = BitVec.ofNat 32 i
  main : ∀ r c, b.main (ix2 r c) = (x.P (rowI i r) c : EReal)
  halo : ∀ r c, b.halo (ix2 r c) = (x.P (haloRow i r) c : EReal)
  next : ∀ r c, b.next (ix2 r c) = (x.P (nextRow i r) c : EReal)
  gy : ∀ r j, b.gy (ix2 r j) = (x.G (rowI i r) j : EReal)
  gyn : ∀ r j, b.gyn (ix2 r j) = (x.G (nextRow i r) j : EReal)
  y : ∀ r j, b.y (ix2 r j) = (x.y (rowI i r) j : EReal)
  yn : ∀ r j, b.yn (ix2 r j) = (x.y (nextRow i r) j : EReal)
  mix : ∀ r c, b.mix (ix2 r c) = (x.mix (rowI i r) c : EReal)
  wo : ∀ c j, b.wo (ix2 c j) = (x.O c j : EReal)
  po : ∀ u j, b.po (ix2 u j) = (x.po j : EReal)
  sinks : ∀ u h, b.sinks (ix2 u h) = (x.sk h : EReal)
  pw : ∀ g e c, b.pw (ix3 g e c) = (x.W g e c : EReal)
  ps : ∀ u c, b.ps (ix2 u c) = (x.C c : EReal)

section
variable (g y : FVec Ideal S528x1024 .f32) (q : FVec Ideal S528x1 .f32) (p : Vec Ideal S1x1024 .f32)
variable (G Y : Fin 528 → Fin 1024 → ℝ) (P : Fin 1024 → ℝ)
variable (hg : ∀ r j, g (ix2 r j) = (G r j : EReal)) (hy : ∀ r j, y (ix2 r j) = (Y r j : EReal)) (hp : ∀ u j, p (ix2 u j) = (P j : EReal))
variable (hq : ∀ r u, q (ix2 r u) = ((∑ j, Y r j * Y r j : ℝ) : EReal))

include hq in
/-- The reciprocal root mean squares. -/
theorem pay32_at (r : Fin 528) (u : Fin 1) : k0_pay32 (F := Ideal) q (ix2 r u) = (rs (Y r) : EReal) := by
  pointwise [k0_pay32]
  rw [hq, coe_sum]
  simp only [EReal.coe_mul]
  rw [ms_eq, rs_eq]

include hq hy in
/-- The normalised rows. -/
theorem pay33_at (r : Fin 528) (j : Fin 1024) : k0_pay33 (F := Ideal) y q (ix2 r j) = ((Y r j * rs (Y r) : ℝ) : EReal) := by
  pointwise [k0_pay33, pay32_at q Y hq]
  rw [hy, EReal.coe_mul]

include hq hy hg hp in
/-- The rows' cotangent. -/
theorem pay35_at (r : Fin 528) (j : Fin 1024) : k0_pay35 (F := Ideal) g y q p (ix2 r j) = (back (Y r) (fun j => G r j * P j) j : EReal) := by
  pointwise [k0_pay35, pay33_at y q Y hy hq, pay32_at q Y hq]
  simp only [hg, hp, bits_1024, ← EReal.coe_mul, ← coe_sum]
  rw [div_coe_coe _ _ (by norm_num)]
  simp only [← EReal.coe_mul, ← EReal.coe_sub]
  rfl

include hq hy hg in
/-- The gain's part. -/
theorem pay34_at (old : Vec Ideal S1x1024 .f32) (u : Fin 1) (j : Fin 1024) : k0_pay34 (F := Ideal) g y q old (ix2 u j)
    = old (ix2 u j) + ((∑ r : Fin 512, G ⟨r, by omega⟩ j * (Y ⟨r, by omega⟩ j * rs (Y ⟨r, by omega⟩)) : ℝ) : EReal) := by
  pointwise [k0_pay34, pay33_at y q Y hy hq]
  simp only [hg, ← EReal.coe_mul, ← coe_sum]

include hq hy hg hp in
/-- The output matrix's part. -/
theorem pay36_at (m : FVec Ideal S512x1024 .bf16) (M : Fin 512 → Fin 1024 → ℝ) (hm : ∀ r c, m (ix2 r c) = (M r c : EReal))
    (old : Vec Ideal S1024x1024 .f32) (c j : Fin 1024) : k0_pay36 (F := Ideal) g y m q p old (ix2 c j)
    = old (ix2 c j) + ((∑ r : Fin 512, M r c * back (Y ⟨r, by omega⟩) (fun j => G ⟨r, by omega⟩ j * P j) j : ℝ) : EReal) := by
  pointwise [k0_pay36, pay35_at g y q p G Y P hg hy hp hq]
  simp only [hm, ← EReal.coe_mul, ← coe_sum]
end

namespace Blk
variable {b : Blk} {x : Inp} {i : Fin 16} (h : b.Is x i)

theorem g2_at (h : b.Is x i) (r : Fin 528) (j : Fin 1024) : b.g2 (ix2 r j) = (x.G (extRow i r) j : EReal) := by
  pointwise [Blk.g2, k0_pay26]
  unfold extRow
  split
  next => rw [h.gy]
  next => rw [h.gyn]

theorem y2_at (h : b.Is x i) (r : Fin 528) (j : Fin 1024) : k0_pay27 (F := Ideal) b.y b.yn (ix2 r j) = (x.y (extRow i r) j : EReal) := by
  pointwise [k0_pay27]
  unfold extRow
  split
  next => rw [h.y]
  next => rw [h.yn]

theorem sq_at (h : b.Is x i) (r : Fin 528) (u : Fin 1) :
    k0_pay31 (F := Ideal) b.y b.yn (ix2 r u) = ((∑ j, x.y (extRow i r) j * x.y (extRow i r) j : ℝ) : EReal) := by
  pointwise [k0_pay31, y2_at h]
  simp only [← EReal.coe_mul, ← coe_sum]

/-- The cotangent of the output rows. -/
theorem dy_at (h : b.Is x i) (r : Fin 528) (j : Fin 1024) : b.dy (ix2 r j) = (x.dy (extRow i r) j : EReal) :=
  pay35_at b.g2 b.y2 (k0_pay31 b.y b.yn) b.po (fun r => x.G (extRow i r)) (fun r => x.y (extRow i r)) x.po (g2_at h) (y2_at h) h.po (sq_at h) r j

/-- The cotangent of the gated halves. -/
theorem dmix_at (h : b.Is x i) (r : Fin 528) (c : Fin 1024) : b.dmix (ix2 r c) = (x.dmix (extRow i r) c : EReal) := by
  pointwise [Blk.dmix, k0_pay38, dy_at h]
  simp only [h.wo, ← EReal.coe_mul, ← coe_sum]
  rfl

theorem extRow_low (i : Fin 16) (r : Fin 512) : extRow i ⟨r, by omega⟩ = rowI i r := dif_pos r.isLt
theorem extRow_high (i : Fin 16) (r : Fin 16) (k : Fin 528) (hk : (k : ℕ) = 512 + r) : extRow i k = nextRow i r := by
  unfold extRow
  rw [dif_neg (by omega)]
  exact congrArg (nextRow i) (Fin.ext (by show (k : ℕ) - 512 = r; omega))

/-- The gain's gradient. -/
theorem dpo_at (h : b.Is x i) (old : Vec Ideal S1x1024 .f32) (u : Fin 1) (j : Fin 1024) : b.dpo old (ix2 u j)
    = old (ix2 u j) + ((∑ r : Fin 512, x.G (rowI i r) j * (x.y (rowI i r) j * rs (x.y (rowI i r))) : ℝ) : EReal) := by
  simp only [← extRow_low]
  exact pay34_at b.g2 b.y2 (k0_pay31 b.y b.yn) (fun r => x.G (extRow i r)) (fun r => x.y (extRow i r)) (g2_at h) (y2_at h) (sq_at h) old u j

/-- The output matrix's gradient. -/
theorem dwo_at (h : b.Is x i) (old : Vec Ideal S1024x1024 .f32) (c j : Fin 1024) : b.dwo old (ix2 c j)
    = old (ix2 c j) + ((∑ r : Fin 512, x.mix (rowI i r) c * x.dy (rowI i r) j : ℝ) : EReal) := by
  have e : ∀ r : Fin 512, x.dy (rowI i r) j = back (x.y (extRow i ⟨r, by omega⟩)) (fun j => x.G (extRow i ⟨r, by omega⟩) j * x.po j) j := fun r => by
    rw [extRow_low]; rfl
  simp only [e]
  exact pay36_at b.g2 b.y2 (k0_pay31 b.y b.yn) b.po (fun r => x.G (extRow i r)) (fun r => x.y (extRow i r)) x.po (g2_at h) (y2_at h) h.po (sq_at h)
    (k0_pay28 b.mix) (fun r => x.mix (rowI i r)) (fun r c => by pointwise [k0_pay28]; exact h.mix r c) old c j

end Blk

end Cert.Proof.Mx.Point
end
-- ==== Proof.MxVal.lean ====
/- The arrays the mixing layer's host part hands to its kernel, as the plain program's forward lines. -/
module

public import proofs.«01_k».proof.Proof.MxRead
public import Idealize.ShloMosaic.Lib.StableHlo.RunRead
public import proofs.«01_k».proof.Proof.MxRows

@[expose] public section

set_option maxRecDepth 16384

noncomputable section

open Idealize.ShloMosaic Idealize.ShloMosaic.TcCoe Idealize.SL.Sem

namespace Cert.Proof.Mx.Point

open Cert.MxKernelIdeal Cert.MxKernelIdeal.Gen Cert.Proof.RealLift Cert.Proof.Norm Cert.Proof.Mx.Host
open Cert.Proof.Mx.Body (rq rg)

variable (m : (ℓ : Loc nD τ Cert.MxKernelIdeal.sig) → Buf (Elt Ideal) ℓ) (c : Dev nD)

/-- The block before: none, then all but the last. -/
def past : (⟨S1x128x2x2x64, .f32⟩ : BufTy).Contents (Elt Ideal) → (⟨S63x128x2x2x64, .f32⟩ : BufTy).Contents (Elt Ideal) → (⟨S64x128x2x2x64, .f32⟩ : BufTy).Contents (Elt Ideal) :=
  fun a b => concatenate S64x128x2x2x64 0 [⟨S1x128x2x2x64, a⟩, ⟨S63x128x2x2x64, b⟩] concatenates_S1x128x2x2x64_S63x128x2x2x64_S64x128x2x2x64_d0
theorem past_eq : ((fun a b => concatenate S64x128x2x2x64 0 [⟨S1x128x2x2x64, a⟩, ⟨S63x128x2x2x64, b⟩] concatenates_S1x128x2x2x64_S63x128x2x2x64_S64x128x2x2x64_d0) : (⟨S1x128x2x2x64, .f32⟩ : BufTy).Contents (Elt Ideal) → (⟨S63x128x2x2x64, .f32⟩ : BufTy).Contents (Elt Ideal) → (⟨S64x128x2x2x64, .f32⟩ : BufTy).Contents (Elt Ideal)) = past := rfl
/-- A block's rows behind those before. -/
def withPast : (⟨S64x128x2x2x64, .f32⟩ : BufTy).Contents (Elt Ideal) → (⟨S64x128x2x2x64, .f32⟩ : BufTy).Contents (Elt Ideal) → (⟨S64x256x2x2x64, .f32⟩ : BufTy).Contents (Elt Ideal) :=
  fun a b => concatenate S64x256x2x2x64 1 [⟨S64x128x2x2x64, a⟩, ⟨S64x128x2x2x64, b⟩] concatenates_S64x128x2x2x64_S64x128x2x2x64_S64x256x2x2x64_d1
theorem withPast_eq : ((fun a b => concatenate S64x256x2x2x64 1 [⟨S64x128x2x2x64, a⟩, ⟨S64x128x2x2x64, b⟩] concatenates_S64x128x2x2x64_S64x128x2x2x64_S64x256x2x2x64_d1) : (⟨S64x128x2x2x64, .f32⟩ : BufTy).Contents (Elt Ideal) → (⟨S64x128x2x2x64, .f32⟩ : BufTy).Contents (Elt Ideal) → (⟨S64x256x2x2x64, .f32⟩ : BufTy).Contents (Elt Ideal)) = withPast := rfl
/-- The running sums behind sixteen zeros. -/
def led : (⟨S16x4x128, .f32⟩ : BufTy).Contents (Elt Ideal) → (⟨S8192x4x128, .f32⟩ : BufTy).Contents (Elt Ideal) → (⟨S8208x4x128, .f32⟩ : BufTy).Contents (Elt Ideal) :=
  fun a b => concatenate S8208x4x128 0 [⟨S16x4x128, a⟩, ⟨S8192x4x128, b⟩] concatenates_S16x4x128_S8192x4x128_S8208x4x128_d0
theorem led_eq : ((fun a b => concatenate S8208x4x128 0 [⟨S16x4x128, a⟩, ⟨S8192x4x128, b⟩] concatenates_S16x4x128_S8192x4x128_S8208x4x128_d0) : (⟨S16x4x128, .f32⟩ : BufTy).Contents (Elt Ideal) → (⟨S8192x4x128, .f32⟩ : BufTy).Contents (Elt Ideal) → (⟨S8208x4x128, .f32⟩ : BufTy).Contents (Elt Ideal)) = led := rfl
/-- Two halves side by side. -/
def beside : (⟨S8192x512, .f32⟩ : BufTy).Contents (Elt Ideal) → (⟨S8192x512, .f32⟩ : BufTy).Contents (Elt Ideal) → (⟨S8192x1024, .f32⟩ : BufTy).Contents (Elt Ideal) :=
  fun a b => concatenate S8192x1024 1 [⟨S8192x512, a⟩, ⟨S8192x512, b⟩] concatenates_S8192x512_S8192x512_S8192x1024_d1
theorem beside_eq : ((fun a b => concatenate S8192x1024 1 [⟨S8192x512, a⟩, ⟨S8192x512, b⟩] concatenates_S8192x512_S8192x512_S8192x1024_d1) : (⟨S8192x512, .f32⟩ : BufTy).Contents (Elt Ideal) → (⟨S8192x512, .f32⟩ : BufTy).Contents (Elt Ideal) → (⟨S8192x1024, .f32⟩ : BufTy).Contents (Elt Ideal)) = beside := rfl
/-- The four lags together. -/
def lags (u0 u1 u2 u3 : (⟨S8192x1x128, .f32⟩ : BufTy).Contents (Elt Ideal)) : (⟨S8192x4x128, .f32⟩ : BufTy).Contents (Elt Ideal) :=
  concatenate S8192x4x128 1 [⟨S8192x1x128, (u0 : (⟨S8192x1x128, .f32⟩ : BufTy).Contents (Elt Ideal))⟩, ⟨S8192x1x128, (u1 : (⟨S8192x1x128, .f32⟩ : BufTy).Contents (Elt Ideal))⟩, ⟨S8192x1x128, (u2 : (⟨S8192x1x128, .f32⟩ : BufTy).Contents (Elt Ideal))⟩, ⟨S8192x1x128, (u3 : (⟨S8192x1x128, .f32⟩ : BufTy).Contents (Elt Ideal))⟩] concatenates_S8192x1x128_S8192x1x128_S8192x1x128_S8192x1x128_S8192x4x128_d1
theorem lags_eq : (fun u : (∀ i : Fin 4, ((![main_v67, main_v68, main_v69, main_v70] : Fin 4 → Ref Cert.MxKernelIdeal.sig .tc) i).ty.Contents (Elt Ideal)) => (concatenate S8192x4x128 1 [⟨S8192x1x128, (u 0 : (⟨S8192x1x128, .f32⟩ : BufTy).Contents (Elt Ideal))⟩, ⟨S8192x1x128, (u 1 : (⟨S8192x1x128, .f32⟩ : BufTy).Contents (Elt Ideal))⟩, ⟨S8192x1x128, (u 2 : (⟨S8192x1x128, .f32⟩ : BufTy).Contents (Elt Ideal))⟩, ⟨S8192x1x128, (u 3 : (⟨S8192x1x128, .f32⟩ : BufTy).Contents (Elt Ideal))⟩] concatenates_S8192x1x128_S8192x1x128_S8192x1x128_S8192x1x128_S8192x4x128_d1 : (⟨S8192x4x128, .f32⟩ : BufTy).Contents (Elt Ideal)))
    = fun u => lags (u 0) (u 1) (u 2) (u 3) := rfl

/-- The position biases. -/
def posBias : FVec Ideal S2x128x4x256 .f32 :=
  mulf (broadcastInDim S2x128x4x256 ![0, 2] bcast_S2x4_S2x128x4x256_0_2 (shapeCast _ (fun i => FloatOps.ofBits .f32 (Cert.MxReferenceIdeal.lit0 (S8.rowMajor i)) : FVec Ideal S8 .f32) shapeCasts_S8_S2x4)) (broadcastInDim S2x128x4x256 ![1, 3] bcast_S128x256_S2x128x4x256_1_3 (sitofp .f32 Cert.Proof.Mx.Host.dist))

/-- They are the same of either program's table of slopes. -/
theorem posBias_eq : mulf (broadcastInDim S2x128x4x256 ![0, 2] bcast_S2x4_S2x128x4x256_0_2 (shapeCast _ (fun i => FloatOps.ofBits .f32 (Cert.MxKernelIdeal.lit0 (S8.rowMajor i)) : FVec Ideal S8 .f32) shapeCasts_S8_S2x4)) (broadcastInDim S2x128x4x256 ![1, 3] bcast_S128x256_S2x128x4x256_1_3 (sitofp .f32 Cert.Proof.Mx.Host.dist)) = posBias := by
  have e : Cert.MxKernelIdeal.lit0 = Cert.MxReferenceIdeal.lit0 := by
    funext i; fin_cases i <;> rfl
  unfold posBias
  rw [show (fun i => FloatOps.ofBits .f32 (Cert.MxKernelIdeal.lit0 (S8.rowMajor i)) : FVec Ideal S8 .f32) = fun i => FloatOps.ofBits .f32 (Cert.MxReferenceIdeal.lit0 (S8.rowMajor i)) from by rw [e]]

/-- The masked scores from their parts. -/
theorem score_of {a0 : FVec Ideal S8192x2304 .f32} {w : IVec S64x2x128x4x256 1} {q : FVec Ideal S64x128x2x4x64 .f32} {k : FVec Ideal S64x256x2x64 .f32}
    {p : FVec Ideal S2x128x4x256 .f32} (hw : w = seen) (hq : q = queries a0) (hk : k = keys a0) (hp : p = posBias) :
    select w (subf (mulf (Host.dotGeneral dot_S64x128x2x4x64_S64x256x2x64_S64x2x128x4x256_4_3_13_1_02_02 none q k) (broadcastInDim S64x2x128x4x256 ![] bcast_S_S64x2x128x4x256 (constant (F := Ideal) S_ .f32 0x3E000000#32))) (broadcastInDim S64x2x128x4x256 ![1, 2, 3, 4] bcast_S2x128x4x256_S64x2x128x4x256_1_2_3_4 p)) (broadcastInDim S64x2x128x4x256 ![] bcast_S_S64x2x128x4x256 (constant (F := Ideal) S_ .f32 0xFF800000#32)) = score a0 := by
  subst hw hq hk hp
  rfl

/-- The weights from the masked scores and the sinks. -/
theorem weights_of {a0 : FVec Ideal S8192x2304 .f32} {a1 : FVec Ideal S1x8 .f32} {s : FVec Ideal S64x2x128x4x256 .f32} {k : FVec Ideal S64x2x128x4 .f32}
    (hs : s = score a0) (hk : k = sinks a1) :
    Host.divf (Host.exp (subf s (broadcastInDim S64x2x128x4x256 ![0, 1, 2, 3] bcast_S64x2x128x4_S64x2x128x4x256_0_1_2_3 (maximumf (Host.reduce FloatOps.maximumf s (constant (F := Ideal) S_ .f32 0xFF800000#32) reducesTo_S64x2x128x4x256_S64x2x128x4_d4 h_S_) k))))
      (broadcastInDim S64x2x128x4x256 ![0, 1, 2, 3] bcast_S64x2x128x4_S64x2x128x4x256_0_1_2_3 (addf (Host.reduceAdd (Host.exp (subf s (broadcastInDim S64x2x128x4x256 ![0, 1, 2, 3] bcast_S64x2x128x4_S64x2x128x4x256_0_1_2_3 (maximumf (Host.reduce FloatOps.maximumf s (constant (F := Ideal) S_ .f32 0xFF800000#32) reducesTo_S64x2x128x4x256_S64x2x128x4_d4 h_S_) k)))) (constant (F := Ideal) S_ .f32 0x00000000#32) reducesTo_S64x2x128x4x256_S64x2x128x4_d4 h_S_)
        (Host.exp (subf k (maximumf (Host.reduce FloatOps.maximumf s (constant (F := Ideal) S_ .f32 0xFF800000#32) reducesTo_S64x2x128x4x256_S64x2x128x4_d4 h_S_) k))))) = weights a0 a1 := by
  subst hs hk
  rfl
set_option maxRecDepth 100000 in
set_option maxHeartbeats 4000000 in
/-- The gated halves as the kernel's region finds them. -/
theorem V_mixed : V m c main_v95 = mixed (m ((c : Thread nD τ).loc main_arg0)) (m ((c : Thread nD τ).loc main_arg1)) (m ((c : Thread nD τ).loc main_arg2)) (m ((c : Thread nD τ).loc main_arg3)) := by
  simp only [V, hostOps0, hostOps0_1, hostOps0_2, List.flatten_cons, List.flatten_nil, List.append_nil, List.cons_append, List.nil_append, past_eq, withPast_eq, led_eq, beside_eq, lags_eq]
  after_reads_simp
  refine Eq.trans (b := mulf (beside (shapeCast _ (transpose S64x128x2x4x64 [0, 2, 1, 3, 4] (Host.dotGeneral dot_S64x2x128x4x256_S64x256x2x64_S64x2x128x4x64_4_1_23_3_01_02 none (weights (m ((c : Thread nD τ).loc main_arg0)) (m ((c : Thread nD τ).loc main_arg1))) (vals (m ((c : Thread nD τ).loc main_arg0)))) transposes_S64x2x128x4x64_S64x128x2x4x64_0_2_1_3_4) shapeCasts_S64x128x2x4x64_S8192x512) (mulf (raw (m ((c : Thread nD τ).loc main_arg0)) (m ((c : Thread nD τ).loc main_arg2))) (scales (m ((c : Thread nD τ).loc main_arg3))))) (Host.divf (gates (m ((c : Thread nD τ).loc main_arg0))) (gateDen (m ((c : Thread nD τ).loc main_arg0))))) ?_ rfl
  refine congrArg₂ mulf (congrArg₂ beside ?_ (congrArg₂ mulf ?_ ?_)) (congrArg₂ Host.divf ?_ ?_)
  · refine congrArg (fun w => shapeCast S8192x512 (transpose S64x128x2x4x64 [0, 2, 1, 3, 4] w transposes_S64x2x128x4x64_S64x128x2x4x64_0_2_1_3_4) shapeCasts_S64x128x2x4x64_S8192x512) ?_
    refine congrArg₂ (Host.dotGeneral dot_S64x2x128x4x256_S64x256x2x64_S64x2x128x4x64_4_1_23_3_01_02 none) (weights_of ?_ ?_) ?_
    · refine score_of ?_ ?_ ?_ ?_
      · rfl
      · rfl
      · rfl
      · exact posBias_eq
    · rfl
    · rfl
  · rfl
  · rfl
  · rfl
  · rfl

set_option maxRecDepth 100000 in
set_option maxHeartbeats 4000000 in
/-- The host's forward rows are the product of the gated halves. -/
theorem V_y_of {w : FVec Ideal S8192x1024 .f32} (h : V m c main_v95 = w) : V m c main_v96 = (Host.dotGeneral dot_S8192x1024_S1024x1024_S8192x1024_1_0_0_1_n_n none w (outW (m ((c : Thread nD τ).loc main_arg4))) : FVec Ideal S8192x1024 .f32) := by
  subst h
  simp only [V, hostOps0, hostOps0_1, hostOps0_2, List.flatten_cons, List.flatten_nil, List.append_nil, List.cons_append, List.nil_append, past_eq, withPast_eq, led_eq, beside_eq, lags_eq]
  after_reads_simp
  rfl

set_option maxRecDepth 100000 in
set_option maxHeartbeats 4000000 in
/-- The gated halves as the kernel takes them are a cast of them. -/
theorem V_mix_of {w : FVec Ideal S8192x1024 .f32} (h : V m c main_v95 = w) : V m c main_v97 = truncf .bf16 w bitsLt_bf16_f32 := by
  subst h
  simp only [V, hostOps0, hostOps0_1, hostOps0_2, List.flatten_cons, List.flatten_nil, List.append_nil, List.cons_append, List.nil_append, past_eq, withPast_eq, led_eq, beside_eq, lags_eq]
  after_reads_simp

/-- The host's forward rows as the kernel's region finds them. -/
theorem V_y : V m c main_v96 = rows (m ((c : Thread nD τ).loc main_arg0)) (m ((c : Thread nD τ).loc main_arg1)) (m ((c : Thread nD τ).loc main_arg2)) (m ((c : Thread nD τ).loc main_arg3)) (m ((c : Thread nD τ).loc main_arg4)) := by
  exact V_y_of m c (V_mixed m c)

/-- The gated halves as the kernel takes them. -/
theorem V_mix : V m c main_v97 = truncf .bf16 (mixed (m ((c : Thread nD τ).loc main_arg0)) (m ((c : Thread nD τ).loc main_arg1)) (m ((c : Thread nD τ).loc main_arg2)) (m ((c : Thread nD τ).loc main_arg3))) bitsLt_bf16_f32 := by
  exact V_mix_of m c (V_mixed m c)

set_option maxHeartbeats 4000000 in
/-- The output matrix as the kernel takes it. -/
theorem V_wo : V m c main_v98 = truncf .bf16 (outW (m ((c : Thread nD τ).loc main_arg4))) bitsLt_bf16_f32 := by
  simp only [V, hostOps0, hostOps0_1, hostOps0_2, List.flatten_cons, List.flatten_nil, List.append_nil, List.cons_append, List.nil_append]
  after_reads_simp
  rfl

set_option maxHeartbeats 4000000 in
/-- The gain as the kernel takes it. -/
theorem V_po : V m c main_v1 = extractStridedSlice S1x1024 ![0, 0] (m ((c : Thread nD τ).loc main_arg5)) slices_S2x1024_S1x1024_0_0 := by
  simp only [V, hostOps0, hostOps0_1, hostOps0_2, List.flatten_cons, List.flatten_nil, List.append_nil, List.cons_append, List.nil_append]
  after_reads_simp

set_option maxHeartbeats 4000000 in
/-- The pooling matrices as the kernel takes them. -/
theorem V_pw : V m c main_v2 = poolW (m ((c : Thread nD τ).loc main_arg2)) := by
  simp only [V, hostOps0, hostOps0_1, hostOps0_2, List.flatten_cons, List.flatten_nil, List.append_nil, List.cons_append, List.nil_append]
  after_reads_simp
  rfl

end Cert.Proof.Mx.Point

end
-- ==== Proof.MxIdx.lean ====
/- Which rows of its arrays the mixing layer's kernel reads and writes at each grid point. -/
module

public import proofs.«01_k».proof.Proof.MxRead
public import proofs.«01_k».proof.Proof.MxRows

@[expose] public section

set_option maxRecDepth 16384

noncomputable section

open Idealize.ShloMosaic Idealize.ShloMosaic.TcCoe Idealize.SL.Sem

namespace Cert.Proof.Mx.Point

open Cert.MxKernelIdeal Cert.MxKernelIdeal.Gen Cert.Proof.RealLift Cert.Proof.Norm Cert.Proof.Mx.Host
open Cert.Proof.Mx.Body (rq rg)

variable (m : (ℓ : Loc nD τ Cert.MxKernelIdeal.sig) → Buf (Elt Ideal) ℓ) (c : Dev nD)

/-- The row block a point handles. -/
def ri (t : Fin cfg0.N) : Fin 16 := ⟨15 - t.val, by omega⟩

theorem idx : ∀ t : Fin cfg0.N, win0_0.index t = ![15 - t.val, 0] ∧ win0_1.index t = ![(if 15 - t.val = 0 then 0 else 4 * (15 - t.val) - 1), 0]
    ∧ win0_2.index t = ![(if 15 - t.val = 15 then 511 else 32 * (15 - t.val + 1)), 0] ∧ win0_3.index t = ![15 - t.val, 0]
    ∧ win0_4.index t = ![(if 15 - t.val = 15 then 511 else 32 * (15 - t.val + 1)), 0] ∧ win0_5.index t = ![15 - t.val, 0]
    ∧ win0_6.index t = ![(if 15 - t.val = 15 then 511 else 32 * (15 - t.val + 1)), 0] ∧ win0_7.index t = ![15 - t.val, 0]
    ∧ win0_8.index t = ![0, 0] ∧ win0_9.index t = ![0, 0] ∧ win0_10.index t = ![0, 0] ∧ win0_11.index t = ![0, 0, 0] ∧ win0_12.index t = ![0, 0]
    ∧ win0_13.index t = ![15 - t.val, 0] :=
  (by decide +kernel : ∀ t : Fin grid0.N, _)

theorem ii_at : ∀ t : Fin cfg0.N, Scalar.subi 15#32 (BitVec.ofNat 32 (grid0.coords t 0).val) = BitVec.ofNat 32 (15 - t.val) :=
  (by decide +kernel : ∀ t : Fin grid0.N, _)

theorem halo_off (i : Fin 16) (r : Fin 128) : (haloRow i r : ℕ) = (if (i : ℕ) = 0 then 0 else 4 * (i : ℕ) - 1) * 128 + r := by
  by_cases h : (i : ℕ) = 0
  · simp only [haloRow, if_pos h, Nat.zero_mul]
  · simp only [haloRow, if_neg h]; omega
theorem next_off (i : Fin 16) (r : Fin 16) : (nextRow i r : ℕ) = (if (i : ℕ) = 15 then 511 else 32 * ((i : ℕ) + 1)) * 16 + r := by
  by_cases h : (i : ℕ) = 15
  · simp only [nextRow, if_pos h]
  · simp only [nextRow, if_neg h]; omega
theorem emb0 (t : Fin cfg0.N) (r : Fin 512) (k : Fin 2304) : (win0_0.blk t).view.emb (ix2 r k) = (ix2 (rowI (ri t) r) k : S8192x2304.Idx) := by
  blk_ext [idx t, rowI, ri]
theorem emb1 (t : Fin cfg0.N) (r : Fin 128) (k : Fin 2304) : (win0_1.blk t).view.emb (ix2 r k) = (ix2 (haloRow (ri t) r) k : S8192x2304.Idx) := by
  blk_ext [idx t]
  exact (halo_off (ri t) r).symm
theorem emb2 (t : Fin cfg0.N) (r : Fin 16) (k : Fin 2304) : (win0_2.blk t).view.emb (ix2 r k) = (ix2 (nextRow (ri t) r) k : S8192x2304.Idx) := by
  blk_ext [idx t]
  exact (next_off (ri t) r).symm
theorem emb3 (t : Fin cfg0.N) (r : Fin 512) (k : Fin 1024) : (win0_3.blk t).view.emb (ix2 r k) = (ix2 (rowI (ri t) r) k : S8192x1024.Idx) := by
  blk_ext [idx t, rowI, ri]
theorem emb4 (t : Fin cfg0.N) (r : Fin 16) (k : Fin 1024) : (win0_4.blk t).view.emb (ix2 r k) = (ix2 (nextRow (ri t) r) k : S8192x1024.Idx) := by
  blk_ext [idx t]
  exact (next_off (ri t) r).symm
theorem emb5 (t : Fin cfg0.N) (r : Fin 512) (k : Fin 1024) : (win0_5.blk t).view.emb (ix2 r k) = (ix2 (rowI (ri t) r) k : S8192x1024.Idx) := by
  blk_ext [idx t, rowI, ri]
theorem emb6 (t : Fin cfg0.N) (r : Fin 16) (k : Fin 1024) : (win0_6.blk t).view.emb (ix2 r k) = (ix2 (nextRow (ri t) r) k : S8192x1024.Idx) := by
  blk_ext [idx t]
  exact (next_off (ri t) r).symm
theorem emb7 (t : Fin cfg0.N) (r : Fin 512) (k : Fin 1024) : (win0_7.blk t).view.emb (ix2 r k) = (ix2 (rowI (ri t) r) k : S8192x1024.Idx) := by
  blk_ext [idx t, rowI, ri]
theorem emb8 (t : Fin cfg0.N) (r k : Fin 1024) : (win0_8.blk t).view.emb (ix2 r k) = (ix2 r k : S1024x1024.Idx) := by
  blk_ext [idx t]
theorem emb9 (t : Fin cfg0.N) (r : Fin 1) (k : Fin 1024) : (win0_9.blk t).view.emb (ix2 r k) = (ix2 r k : S1x1024.Idx) := by
  blk_ext [idx t]
theorem emb10 (t : Fin cfg0.N) (r : Fin 1) (k : Fin 8) : (win0_10.blk t).view.emb (ix2 r k) = (ix2 r k : S1x8.Idx) := by
  blk_ext [idx t]
theorem emb11 (t : Fin cfg0.N) (g : Fin 4) (e k : Fin 128) : (win0_11.blk t).view.emb (ix3 g e k) = (ix3 g e k : S4x128x128.Idx) := by
  blk_ext [idx t]
theorem emb12 (t : Fin cfg0.N) (r : Fin 1) (k : Fin 512) : (win0_12.blk t).view.emb (ix2 r k) = (ix2 r k : S1x512.Idx) := by
  blk_ext [idx t]
theorem emb13 (t : Fin cfg0.N) (r : Fin 512) (k : Fin 2304) : (win0_13.blk t).view.emb (ix2 r k) = (ix2 (rowI (ri t) r) k : S8192x2304.Idx) := by
  blk_ext [idx t, rowI, ri]

end Cert.Proof.Mx.Point

end
-- ==== Proof.MxBlk.lean ====
/- What the mixing layer's kernel reads at each grid point, as the step's numbers. -/
module

public import proofs.«01_k».proof.Proof.MxVal
public import proofs.«01_k».proof.Proof.MxIdx

@[expose] public section

set_option maxRecDepth 16384

noncomputable section

open Idealize.ShloMosaic Idealize.ShloMosaic.TcCoe Idealize.SL.Sem

namespace Cert.Proof.Mx.Point

open Cert.MxKernelIdeal Cert.MxKernelIdeal.Gen Cert.Proof.RealLift Cert.Proof.Norm Cert.Proof.Mx.Host
open Cert.Proof.Mx.Body (rq rg)

variable (m : (ℓ : Loc nD τ Cert.MxKernelIdeal.sig) → Buf (Elt Ideal) ℓ) (c : Dev nD)

/-- A point's block of the forward rows. -/
theorem blk5_at (t : Fin cfg0.N) (r : Fin 512) (k : Fin 1024) : (iblk m c 5 t : Vec Ideal S512x1024 .f32) (ix2 r k)
    = rows (m ((c : Thread nD τ).loc main_arg0)) (m ((c : Thread nD τ).loc main_arg1)) (m ((c : Thread nD τ).loc main_arg2)) (m ((c : Thread nD τ).loc main_arg3)) (m ((c : Thread nD τ).loc main_arg4)) (ix2 (rowI (ri t) r) k) := by
  unfold iblk
  rw [show V m c (Pipeline.arrRef spec0 5) = _ from V_y m c]
  generalize rows _ _ _ _ _ = w
  exact congrArg w (emb5 t r k)
/-- A point's block of the forward rows after its tile. -/
theorem blk6_at (t : Fin cfg0.N) (r : Fin 16) (k : Fin 1024) : (iblk m c 6 t : Vec Ideal S16x1024 .f32) (ix2 r k)
    = rows (m ((c : Thread nD τ).loc main_arg0)) (m ((c : Thread nD τ).loc main_arg1)) (m ((c : Thread nD τ).loc main_arg2)) (m ((c : Thread nD τ).loc main_arg3)) (m ((c : Thread nD τ).loc main_arg4)) (ix2 (nextRow (ri t) r) k) := by
  unfold iblk
  rw [show V m c (Pipeline.arrRef spec0 6) = _ from V_y m c]
  generalize rows _ _ _ _ _ = w
  exact congrArg w (emb6 t r k)
/-- A point's block of the gated halves. -/
theorem blk7_at (t : Fin cfg0.N) (r : Fin 512) (k : Fin 1024) : (iblk m c 7 t : Vec Ideal S512x1024 .bf16) (ix2 r k)
    = mixed (m ((c : Thread nD τ).loc main_arg0)) (m ((c : Thread nD τ).loc main_arg1)) (m ((c : Thread nD τ).loc main_arg2)) (m ((c : Thread nD τ).loc main_arg3)) (ix2 (rowI (ri t) r) k) := by
  unfold iblk
  rw [show V m c (Pipeline.arrRef spec0 7) = _ from V_mix m c]
  generalize mixed _ _ _ _ = w
  exact congrArg (truncf .bf16 w bitsLt_bf16_f32) (emb7 t r k)
/-- A point's block of the output matrix. -/
theorem blk8_at (t : Fin cfg0.N) (r k : Fin 1024) : (iblk m c 8 t : Vec Ideal S1024x1024 .bf16) (ix2 r k)
    = outW (m ((c : Thread nD τ).loc main_arg4)) (ix2 r k) := by
  unfold iblk
  rw [show V m c (Pipeline.arrRef spec0 8) = _ from V_wo m c]
  generalize outW _ = w
  exact congrArg (truncf .bf16 w bitsLt_bf16_f32) (emb8 t r k)
/-- A point's block of the gain. -/
theorem blk9_at (t : Fin cfg0.N) (r : Fin 1) (k : Fin 1024) : (iblk m c 9 t : Vec Ideal S1x1024 .f32) (ix2 r k)
    = extractStridedSlice S1x1024 ![0, 0] (m ((c : Thread nD τ).loc main_arg5)) slices_S2x1024_S1x1024_0_0 (ix2 r k) := by
  unfold iblk
  rw [show V m c (Pipeline.arrRef spec0 9) = _ from V_po m c]
  generalize extractStridedSlice _ _ _ _ = w
  exact congrArg w (emb9 t r k)
/-- A point's block of the pooling matrices. -/
theorem blk11_at (t : Fin cfg0.N) (g : Fin 4) (e k : Fin 128) : (iblk m c 11 t : Vec Ideal S4x128x128 .f32) (ix3 g e k)
    = poolW (m ((c : Thread nD τ).loc main_arg2)) (ix3 g e k) := by
  unfold iblk
  rw [show V m c (Pipeline.arrRef spec0 11) = _ from V_pw m c]
  generalize poolW _ = w
  exact congrArg w (emb11 t g e k)
/-- A point's block of the rows of the projections. -/
theorem blk0_at (t : Fin cfg0.N) (r : Fin 512) (k : Fin 2304) : (iblk m c 0 t : Vec Ideal S512x2304 .f32) (ix2 r k)
    = ((m ((c : Thread nD τ).loc main_arg0)) : Vec Ideal S8192x2304 .f32) (ix2 (rowI (ri t) r) k) := by
  unfold iblk
  rw [show V m c (Pipeline.arrRef spec0 0) = _ from V_main_arg0 m c]
  exact congrArg (m ((c : Thread nD τ).loc main_arg0)) (emb0 t r k)
/-- A point's block of the rows before its tile. -/
theorem blk1_at (t : Fin cfg0.N) (r : Fin 128) (k : Fin 2304) : (iblk m c 1 t : Vec Ideal S128x2304 .f32) (ix2 r k)
    = ((m ((c : Thread nD τ).loc main_arg0)) : Vec Ideal S8192x2304 .f32) (ix2 (haloRow (ri t) r) k) := by
  unfold iblk
  rw [show V m c (Pipeline.arrRef spec0 1) = _ from V_main_arg0 m c]
  exact congrArg (m ((c : Thread nD τ).loc main_arg0)) (emb1 t r k)
/-- A point's block of the rows after its tile. -/
theorem blk2_at (t : Fin cfg0.N) (r : Fin 16) (k : Fin 2304) : (iblk m c 2 t : Vec Ideal S16x2304 .f32) (ix2 r k)
    = ((m ((c : Thread nD τ).loc main_arg0)) : Vec Ideal S8192x2304 .f32) (ix2 (nextRow (ri t) r) k) := by
  unfold iblk
  rw [show V m c (Pipeline.arrRef spec0 2) = _ from V_main_arg0 m c]
  exact congrArg (m ((c : Thread nD τ).loc main_arg0)) (emb2 t r k)
/-- A point's block of the rows of the cotangent. -/
theorem blk3_at (t : Fin cfg0.N) (r : Fin 512) (k : Fin 1024) : (iblk m c 3 t : Vec Ideal S512x1024 .f32) (ix2 r k)
    = ((m ((c : Thread nD τ).loc main_arg6)) : Vec Ideal S8192x1024 .f32) (ix2 (rowI (ri t) r) k) := by
  unfold iblk
  rw [show V m c (Pipeline.arrRef spec0 3) = _ from V_main_arg6 m c]
  exact congrArg (m ((c : Thread nD τ).loc main_arg6)) (emb3 t r k)
/-- A point's block of the cotangent's rows after its tile. -/
theorem blk4_at (t : Fin cfg0.N) (r : Fin 16) (k : Fin 1024) : (iblk m c 4 t : Vec Ideal S16x1024 .f32) (ix2 r k)
    = ((m ((c : Thread nD τ).loc main_arg6)) : Vec Ideal S8192x1024 .f32) (ix2 (nextRow (ri t) r) k) := by
  unfold iblk
  rw [show V m c (Pipeline.arrRef spec0 4) = _ from V_main_arg6 m c]
  exact congrArg (m ((c : Thread nD τ).loc main_arg6)) (emb4 t r k)
/-- A point's block of the sinks. -/
theorem blk10_at (t : Fin cfg0.N) (r : Fin 1) (k : Fin 8) : (iblk m c 10 t : Vec Ideal S1x8 .f32) (ix2 r k)
    = ((m ((c : Thread nD τ).loc main_arg1)) : Vec Ideal S1x8 .f32) (ix2 r k) := by
  unfold iblk
  rw [show V m c (Pipeline.arrRef spec0 10) = _ from V_main_arg1 m c]
  exact congrArg (m ((c : Thread nD τ).loc main_arg1)) (emb10 t r k)
/-- A point's block of the pooling scales. -/
theorem blk12_at (t : Fin cfg0.N) (r : Fin 1) (k : Fin 512) : (iblk m c 12 t : Vec Ideal S1x512 .f32) (ix2 r k)
    = ((m ((c : Thread nD τ).loc main_arg3)) : Vec Ideal S1x512 .f32) (ix2 r k) := by
  unfold iblk
  rw [show V m c (Pipeline.arrRef spec0 12) = _ from V_main_arg3 m c]
  exact congrArg (m ((c : Thread nD τ).loc main_arg3)) (emb12 t r k)

/-- The gain's row. -/
theorem gain_row (a5 : FVec Ideal S2x1024 .f32) (u : Fin 1) (k : Fin 1024) :
    extractStridedSlice S1x1024 ![0, 0] a5 slices_S2x1024_S1x1024_0_0 (ix2 u k) = a5 (ix2 (0 : Fin 2) k) := by
  pointwise []

set_option maxHeartbeats 4000000 in
/-- A point's blocks hold the step's numbers at its row block. -/
theorem blk_is {x : Inp} (h : Reads x (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)))
    (t : Fin cfg0.N) : (blkR m c t).Is x (ri t) := by
  rw [blkR_eq]
  unfold blk
  refine ⟨?_, ?_, ?_, ?_, ?_, ?_, ?_, ?_, ?_, ?_, ?_, ?_, ?_, ?_⟩
  · exact (ii_at t :)
  · intro r k; have e := blk0_at m c t r k; rw [h.P (rowI (ri t) r) k] at e; dsimp only; exact e
  · intro r k; have e := blk1_at m c t r k; rw [h.P (haloRow (ri t) r) k] at e; dsimp only; exact e
  · intro r k; have e := blk2_at m c t r k; rw [h.P (nextRow (ri t) r) k] at e; dsimp only; exact e
  · intro r k; have e := blk3_at m c t r k; rw [h.G (rowI (ri t) r) k] at e; dsimp only; exact e
  · intro r k; have e := blk4_at m c t r k; rw [h.G (nextRow (ri t) r) k] at e; dsimp only; exact e
  · intro r k; have e := blk5_at m c t r k; rw [rows_at h (rowI (ri t) r) k] at e; dsimp only; exact e
  · intro r k; have e := blk6_at m c t r k; rw [rows_at h (nextRow (ri t) r) k] at e; dsimp only; exact e
  · intro r k; have e := blk7_at m c t r k; rw [mixed_at h (rowI (ri t) r) k] at e; dsimp only; exact e
  · intro r k; have e := blk8_at m c t r k; rw [outW_at h r k] at e; dsimp only; exact e
  · intro r k; have e := blk9_at m c t r k; rw [gain_row _ r k, h.po k] at e; dsimp only; exact e
  · intro r k; have e := blk10_at m c t r k; rw [h.sk r k] at e; dsimp only; exact e
  · intro g e k; have q := blk11_at m c t g e k; rw [poolW_at h g e k] at q; dsimp only; exact q
  · intro r k; have e := blk12_at m c t r k; rw [h.C r k] at e; dsimp only; exact e

end Cert.Proof.Mx.Point

end
-- ==== Proof.MxStep.lean ====
/- What a grid point after the first leaves. -/
module

public import proofs.«01_k».proof.Proof.MxRead

@[expose] public section

set_option maxRecDepth 16384
noncomputable section

open Idealize.ShloMosaic Idealize.ShloMosaic.TcCoe Idealize.SL.Sem

namespace Cert.Proof.Mx.Point
open Cert.MxKernelIdeal Cert.MxKernelIdeal.Gen
variable (m : (ℓ : Loc nD τ Cert.MxKernelIdeal.sig) → Buf (Elt Ideal) ℓ)

set_option maxHeartbeats 4000000 in
/-- A point after the first: the rows' gradients, the sums and the part carried to the point before, over the blocks and what the point after it left. -/
theorem step (c : Dev nD) (t : Fin cfg0.N) (h0 : ¬t.val % 16 = 0) :
    (outsAt0 m c t.val t.isLt).1 = View.canon (Val := Elt Ideal) (s := S512x2304) (e := .bf16) ((blkR m c t).dprojL (bias0 (raw3 (outsAt0 m c (t.val - 1) (by omega)).2.2.2.2.2.2.2.1)) (bias1 (raw3 (outsAt0 m c (t.val - 1) (by omega)).2.2.2.2.2.2.2.1)) (raw2 (outsAt0 m c (t.val - 1) (by omega)).2.2.2.2.2.2.1)) ∧
    (outsAt0 m c t.val t.isLt).2.2.1 = View.canon (Val := Elt Ideal) (s := S512x128) (e := .f32) ((blkR m c t).dpwL (View.ld (raw15 t (outsAt0 m c (t.val - 1) (by omega)).2.2.1) (Rect.unit ![0, 0] ![128, 128] (by decide))) (View.ld (raw15 t (outsAt0 m c (t.val - 1) (by omega)).2.2.1) (Rect.unit ![128, 0] ![128, 128] (by decide))) (View.ld (raw15 t (outsAt0 m c (t.val - 1) (by omega)).2.2.1) (Rect.unit ![256, 0] ![128, 128] (by decide))) (View.ld (raw15 t (outsAt0 m c (t.val - 1) (by omega)).2.2.1) (Rect.unit ![384, 0] ![128, 128] (by decide)))) ∧
    (outsAt0 m c t.val t.isLt).2.2.2.1 = View.canon (Val := Elt Ideal) (s := S1x512) (e := .f32) ((blkR m c t).dpsL (View.ld (raw16 t (outsAt0 m c (t.val - 1) (by omega)).2.2.2.1) (Rect.unit ![0, 0] ![1, 128] (by decide))) (View.ld (raw16 t (outsAt0 m c (t.val - 1) (by omega)).2.2.2.1) (Rect.unit ![0, 128] ![1, 128] (by decide))) (View.ld (raw16 t (outsAt0 m c (t.val - 1) (by omega)).2.2.2.1) (Rect.unit ![0, 256] ![1, 128] (by decide))) (View.ld (raw16 t (outsAt0 m c (t.val - 1) (by omega)).2.2.2.1) (Rect.unit ![0, 384] ![1, 128] (by decide)))) ∧
    (outsAt0 m c t.val t.isLt).2.2.2.2.2.1 = View.canon (Val := Elt Ideal) (s := S1x1024) (e := .f32) [⟨Rect.unit ![0, 0] ![1, 1024] (by decide), (blkR m c t).dpo (raw18 t (outsAt0 m c (t.val - 1) (by omega)).2.2.2.2.2.1)⟩] ∧
    (outsAt0 m c t.val t.isLt).2.2.2.2.2.2.1 = View.canon (Val := Elt Ideal) (s := S128x256) (e := .f32) [⟨Rect.unit ![0, 0] ![128, 256] (by decide), (blkR m c t).carryOut (bias0 (raw3 (outsAt0 m c (t.val - 1) (by omega)).2.2.2.2.2.2.2.1)) (bias1 (raw3 (outsAt0 m c (t.val - 1) (by omega)).2.2.2.2.2.2.2.1)) (raw2 (outsAt0 m c (t.val - 1) (by omega)).2.2.2.2.2.2.1)⟩] ∧
    (outsAt0 m c t.val t.isLt).2.2.2.2.2.2.2.2 = View.canon (Val := Elt Ideal) (s := S1024x1024) (e := .f32) [⟨Rect.unit ![0, 0] ![1024, 1024] (by decide), (blkR m c t).dwo (raw4 (outsAt0 m c (t.val - 1) (by omega)).2.2.2.2.2.2.2.2)⟩] := by
  by_cases h2 : t.val % 16 = 15
  · rw [outsAt0_C m c t h0 h0 h2]
    refine ⟨?_, ?_, ?_, ?_, ?_, ?_⟩ <;> (frame_open; refine (View.read_writes_junk_eq_canon _ _).trans ?_; conv_rhs => dsimp only [blkR, raw2, raw3, raw4, raw14, raw15, raw16, raw18, Blk.dwo, Blk.dpo, Blk.dprojL, Blk.dskL, Blk.skTile, Blk.skFirst, Blk.skPut, Blk.skNew, Blk.sp0, Blk.sp1, Blk.sp2, Blk.sp3, Blk.skRow, Blk.dpsL, Blk.dpwL, Blk.grp0, Blk.grp1,
      Blk.grp2, Blk.grp3, Grp.dps, Grp.dpw, Grp.dgb, Grp.dsl, Grp.dyr, Grp.dyrn, Grp.dpl, Grp.dplc, Grp.du, Grp.dyp, Grp.sl, Grp.sg, Grp.yraw, Grp.mat, Blk.du0, Blk.du1, Blk.du2, Blk.du3, Blk.dm, Blk.dmn, Blk.pooled,
      Blk.ext0, Blk.ext1, Blk.ext2, Blk.ext3, Blk.ext, Blk.nums, down, Grp.half, Blk.carryOut, Blk.dkvOut, Blk.dkvL, Blk.dkvPut, Blk.dkvL0, Blk.tile0, Blk.tile1, Blk.tile2, Blk.tile3, Tile.dkv, Tile.dqs, Tile.dga, Tile.outs0, Tile.outs1, Tile.dsl, Tile.st0, Tile.st1, Tile.dq0, Tile.dq1, Tile.dk0, Tile.dk1, Tile.dv0, Tile.dv1,
      Tile.q0, Tile.q1, Tile.d0, Tile.d1, Tile.dO, Tile.sl, Tile.sg, Tile.half, Blk.kv, Blk.kvL, Blk.sk0, Blk.sk1, Blk.dma, Blk.dmixL, Blk.dmix, Blk.dy, Blk.g2, Blk.y2, Blk.t0]) <;> rfl
  · rw [outsAt0_B m c t h0 h0 h2]
    refine ⟨?_, ?_, ?_, ?_, ?_, ?_⟩ <;> (frame_open; refine (View.read_writes_junk_eq_canon _ _).trans ?_; conv_rhs => dsimp only [blkR, raw2, raw3, raw4, raw14, raw15, raw16, raw18, Blk.dwo, Blk.dpo, Blk.dprojL, Blk.dskL, Blk.skTile, Blk.skFirst, Blk.skPut, Blk.skNew, Blk.sp0, Blk.sp1, Blk.sp2, Blk.sp3, Blk.skRow, Blk.dpsL, Blk.dpwL, Blk.grp0, Blk.grp1,
      Blk.grp2, Blk.grp3, Grp.dps, Grp.dpw, Grp.dgb, Grp.dsl, Grp.dyr, Grp.dyrn, Grp.dpl, Grp.dplc, Grp.du, Grp.dyp, Grp.sl, Grp.sg, Grp.yraw, Grp.mat, Blk.du0, Blk.du1, Blk.du2, Blk.du3, Blk.dm, Blk.dmn, Blk.pooled,
      Blk.ext0, Blk.ext1, Blk.ext2, Blk.ext3, Blk.ext, Blk.nums, down, Grp.half, Blk.carryOut, Blk.dkvOut, Blk.dkvL, Blk.dkvPut, Blk.dkvL0, Blk.tile0, Blk.tile1, Blk.tile2, Blk.tile3, Tile.dkv, Tile.dqs, Tile.dga, Tile.outs0, Tile.outs1, Tile.dsl, Tile.st0, Tile.st1, Tile.dq0, Tile.dq1, Tile.dk0, Tile.dk1, Tile.dv0, Tile.dv1,
      Tile.q0, Tile.q1, Tile.d0, Tile.d1, Tile.dO, Tile.sl, Tile.sg, Tile.half, Blk.kv, Blk.kvL, Blk.sk0, Blk.sk1, Blk.dma, Blk.dmixL, Blk.dmix, Blk.dy, Blk.g2, Blk.y2, Blk.t0]) <;> rfl

set_option maxHeartbeats 2000000 in
/-- The same point's sinks' sums. -/
theorem step_dsk (c : Dev nD) (t : Fin cfg0.N) (h0 : ¬t.val % 16 = 0) :
    (outsAt0 m c t.val t.isLt).2.1 = View.canon (Val := Elt Ideal) (s := S8x128) (e := .f32) ((blkR m c t).dskL (sV t) (bias0 (raw3 (outsAt0 m c (t.val - 1) (by omega)).2.2.2.2.2.2.2.1)) (bias1 (raw3 (outsAt0 m c (t.val - 1) (by omega)).2.2.2.2.2.2.2.1)) (Blk.skFirst (raw14 t (outsAt0 m c (t.val - 1) (by omega)).2.1) ((blkR m c t).tile0 (bias0 (raw3 (outsAt0 m c (t.val - 1) (by omega)).2.2.2.2.2.2.2.1)) (bias1 (raw3 (outsAt0 m c (t.val - 1) (by omega)).2.2.2.2.2.2.2.1))).st0 ((blkR m c t).tile0 (bias0 (raw3 (outsAt0 m c (t.val - 1) (by omega)).2.2.2.2.2.2.2.1)) (bias1 (raw3 (outsAt0 m c (t.val - 1) (by omega)).2.2.2.2.2.2.2.1))).st1)) := by
  by_cases h2 : t.val % 16 = 15
  · rw [outsAt0_C m c t h0 h0 h2]; frame_open
    refine (View.read_writes_junk_eq_canon _ _).trans (congrArg View.canon (tile_congr ?_ ?_ (tile_congr ?_ ?_ (tile_congr ?_ ?_ (first_congr ?_ ?_))))) <;>
    · conv_rhs => dsimp only [blkR, raw2, raw3, raw4, raw14, raw15, raw16, raw18, Blk.dwo, Blk.dpo, Blk.dprojL, Blk.dskL, Blk.skTile, Blk.skFirst, Blk.skPut, Blk.skNew, Blk.sp0, Blk.sp1, Blk.sp2, Blk.sp3, Blk.skRow, Blk.dpsL, Blk.dpwL, Blk.grp0, Blk.grp1,
      Blk.grp2, Blk.grp3, Grp.dps, Grp.dpw, Grp.dgb, Grp.dsl, Grp.dyr, Grp.dyrn, Grp.dpl, Grp.dplc, Grp.du, Grp.dyp, Grp.sl, Grp.sg, Grp.yraw, Grp.mat, Blk.du0, Blk.du1, Blk.du2, Blk.du3, Blk.dm, Blk.dmn, Blk.pooled,
      Blk.ext0, Blk.ext1, Blk.ext2, Blk.ext3, Blk.ext, Blk.nums, down, Grp.half, Blk.carryOut, Blk.dkvOut, Blk.dkvL, Blk.dkvPut, Blk.dkvL0, Blk.tile0, Blk.tile1, Blk.tile2, Blk.tile3, Tile.dkv, Tile.dqs, Tile.dga, Tile.outs0, Tile.outs1, Tile.dsl, Tile.st0, Tile.st1, Tile.dq0, Tile.dq1, Tile.dk0, Tile.dk1, Tile.dv0, Tile.dv1,
      Tile.q0, Tile.q1, Tile.d0, Tile.d1, Tile.dO, Tile.sl, Tile.sg, Tile.half, Blk.kv, Blk.kvL, Blk.sk0, Blk.sk1, Blk.dma, Blk.dmixL, Blk.dmix, Blk.dy, Blk.g2, Blk.y2, Blk.t0]
      rfl
  · rw [outsAt0_B m c t h0 h0 h2]; frame_open
    refine (View.read_writes_junk_eq_canon _ _).trans (congrArg View.canon (tile_congr ?_ ?_ (tile_congr ?_ ?_ (tile_congr ?_ ?_ (first_congr ?_ ?_))))) <;>
    · conv_rhs => dsimp only [blkR, raw2, raw3, raw4, raw14, raw15, raw16, raw18, Blk.dwo, Blk.dpo, Blk.dprojL, Blk.dskL, Blk.skTile, Blk.skFirst, Blk.skPut, Blk.skNew, Blk.sp0, Blk.sp1, Blk.sp2, Blk.sp3, Blk.skRow, Blk.dpsL, Blk.dpwL, Blk.grp0, Blk.grp1,
      Blk.grp2, Blk.grp3, Grp.dps, Grp.dpw, Grp.dgb, Grp.dsl, Grp.dyr, Grp.dyrn, Grp.dpl, Grp.dplc, Grp.du, Grp.dyp, Grp.sl, Grp.sg, Grp.yraw, Grp.mat, Blk.du0, Blk.du1, Blk.du2, Blk.du3, Blk.dm, Blk.dmn, Blk.pooled,
      Blk.ext0, Blk.ext1, Blk.ext2, Blk.ext3, Blk.ext, Blk.nums, down, Grp.half, Blk.carryOut, Blk.dkvOut, Blk.dkvL, Blk.dkvPut, Blk.dkvL0, Blk.tile0, Blk.tile1, Blk.tile2, Blk.tile3, Tile.dkv, Tile.dqs, Tile.dga, Tile.outs0, Tile.outs1, Tile.dsl, Tile.st0, Tile.st1, Tile.dq0, Tile.dq1, Tile.dk0, Tile.dk1, Tile.dv0, Tile.dv1,
      Tile.q0, Tile.q1, Tile.d0, Tile.d1, Tile.dO, Tile.sl, Tile.sg, Tile.half, Blk.kv, Blk.kvL, Blk.sk0, Blk.sk1, Blk.dma, Blk.dmixL, Blk.dmix, Blk.dy, Blk.g2, Blk.y2, Blk.t0]
      rfl

set_option maxHeartbeats 1000000 in
/-- The last point's rounded copy. -/
theorem step_last (c : Dev nD) (t : Fin cfg0.N) (h0 : ¬t.val % 16 = 0) (h2 : t.val % 16 = 15) :
    (outsAt0 m c t.val t.isLt).2.2.2.2.1 = View.canon (Val := Elt Ideal) (s := S1024x1024) (e := .bf16) [⟨Rect.unit ![0, 0] ![1024, 1024] (by decide), dwo16 ((blkR m c t).dwo (raw4 (outsAt0 m c (t.val - 1) (by omega)).2.2.2.2.2.2.2.2))⟩] := by
  rw [outsAt0_C m c t h0 h0 h2]; frame_open
  refine (View.read_writes_junk_eq_canon _ _).trans ?_
  conv_rhs => dsimp only [dwo16, blkR, raw2, raw3, raw4, raw14, raw15, raw16, raw18, Blk.dwo, Blk.dpo, Blk.dprojL, Blk.dskL, Blk.skTile, Blk.skFirst, Blk.skPut, Blk.skNew, Blk.sp0, Blk.sp1, Blk.sp2, Blk.sp3, Blk.skRow, Blk.dpsL, Blk.dpwL, Blk.grp0, Blk.grp1,
      Blk.grp2, Blk.grp3, Grp.dps, Grp.dpw, Grp.dgb, Grp.dsl, Grp.dyr, Grp.dyrn, Grp.dpl, Grp.dplc, Grp.du, Grp.dyp, Grp.sl, Grp.sg, Grp.yraw, Grp.mat, Blk.du0, Blk.du1, Blk.du2, Blk.du3, Blk.dm, Blk.dmn, Blk.pooled,
      Blk.ext0, Blk.ext1, Blk.ext2, Blk.ext3, Blk.ext, Blk.nums, down, Grp.half, Blk.carryOut, Blk.dkvOut, Blk.dkvL, Blk.dkvPut, Blk.dkvL0, Blk.tile0, Blk.tile1, Blk.tile2, Blk.tile3, Tile.dkv, Tile.dqs, Tile.dga, Tile.outs0, Tile.outs1, Tile.dsl, Tile.st0, Tile.st1, Tile.dq0, Tile.dq1, Tile.dk0, Tile.dk1, Tile.dv0, Tile.dv1,
      Tile.q0, Tile.q1, Tile.d0, Tile.d1, Tile.dO, Tile.sl, Tile.sg, Tile.half, Blk.kv, Blk.kvL, Blk.sk0, Blk.sk1, Blk.dma, Blk.dmixL, Blk.dmix, Blk.dy, Blk.g2, Blk.y2, Blk.t0]
  rfl

end Cert.Proof.Mx.Point
end
-- ==== Proof.MxStart.lean ====
/- What the first grid point leaves. -/
module

public import proofs.«01_k».proof.Proof.MxRead

@[expose] public section

set_option maxRecDepth 16384
noncomputable section

open Idealize.ShloMosaic Idealize.ShloMosaic.TcCoe Idealize.SL.Sem

namespace Cert.Proof.Mx.Point
open Cert.MxKernelIdeal Cert.MxKernelIdeal.Gen
variable (m : (ℓ : Loc nD τ Cert.MxKernelIdeal.sig) → Buf (Elt Ideal) ℓ)

set_option maxHeartbeats 4000000 in
/-- The first point: the bias set, the sums and the carried part started from nothing. -/
theorem start (c : Dev nD) (t : Fin cfg0.N) (h0 : t.val % 16 = 0) (h2 : ¬t.val % 16 = 15) :
    (outsAt0 m c t.val t.isLt).1 = View.canon (Val := Elt Ideal) (s := S512x2304) (e := .bf16) ((blkR m c t).dprojL bias0A bias1A carryA) ∧
    (outsAt0 m c t.val t.isLt).2.2.1 = View.canon (Val := Elt Ideal) (s := S512x128) (e := .f32) ((blkR m c t).dpwLA (wpV t)) ∧
    (outsAt0 m c t.val t.isLt).2.2.2.1 = View.canon (Val := Elt Ideal) (s := S1x512) (e := .f32) ((blkR m c t).dpsLA (psV t)) ∧
    (outsAt0 m c t.val t.isLt).2.2.2.2.2.1 = View.canon (Val := Elt Ideal) (s := S1x1024) (e := .f32) [⟨Rect.unit ![0, 0] ![1, 1024] (by decide), (blkR m c t).dpo (dpoA (poV t))⟩, ⟨Rect.unit ![0, 0] ![1, 1024] (by decide), (k0_pay30 : FVec Ideal S1x1024 .f32)⟩] ∧
    (outsAt0 m c t.val t.isLt).2.2.2.2.2.2.1 = View.canon (Val := Elt Ideal) (s := S128x256) (e := .f32) [⟨Rect.unit ![0, 0] ![128, 256] (by decide), (blkR m c t).carryOut bias0A bias1A carryA⟩, ⟨Rect.unit ![0, 0] ![128, 256] (by decide), (k0_pay25 : FVec Ideal S128x256 .f32)⟩] ∧
    (outsAt0 m c t.val t.isLt).2.2.2.2.2.2.2.1 = View.canon (Val := Elt Ideal) (s := S2x512x256) (e := .f32) biasL ∧
    (outsAt0 m c t.val t.isLt).2.2.2.2.2.2.2.2 = View.canon (Val := Elt Ideal) (s := S1024x1024) (e := .f32) [⟨Rect.unit ![0, 0] ![1024, 1024] (by decide), (blkR m c t).dwo dwoA⟩, ⟨Rect.unit ![0, 0] ![1024, 1024] (by decide), (k0_pay29 : FVec Ideal S1024x1024 .f32)⟩] := by
  rw [outsAt0_A m c t h0 h0 h2]
  refine ⟨?_, ?_, ?_, ?_, ?_, ?_, ?_⟩ <;> (frame_open; refine (View.read_writes_junk_eq_canon _ _).trans ?_; conv_rhs => dsimp only [blkR, raw2, raw3, raw4, raw14, raw15, raw16, raw18, Blk.dwo, Blk.dpo, Blk.dprojL, Blk.dskL, Blk.skTile, Blk.skFirst, Blk.skPut, Blk.skNew, Blk.sp0, Blk.sp1, Blk.sp2, Blk.sp3, Blk.skRow, Blk.dpsL, Blk.dpwL, Blk.grp0, Blk.grp1,
      Blk.grp2, Blk.grp3, Grp.dps, Grp.dpw, Grp.dgb, Grp.dsl, Grp.dyr, Grp.dyrn, Grp.dpl, Grp.dplc, Grp.du, Grp.dyp, Grp.sl, Grp.sg, Grp.yraw, Grp.mat, Blk.du0, Blk.du1, Blk.du2, Blk.du3, Blk.dm, Blk.dmn, Blk.pooled,
      Blk.ext0, Blk.ext1, Blk.ext2, Blk.ext3, Blk.ext, Blk.nums, down, Grp.half, Blk.carryOut, Blk.dkvOut, Blk.dkvL, Blk.dkvPut, Blk.dkvL0, Blk.tile0, Blk.tile1, Blk.tile2, Blk.tile3, Tile.dkv, Tile.dqs, Tile.dga, Tile.outs0, Tile.outs1, Tile.dsl, Tile.st0, Tile.st1, Tile.dq0, Tile.dq1, Tile.dk0, Tile.dk1, Tile.dv0, Tile.dv1,
      Tile.q0, Tile.q1, Tile.d0, Tile.d1, Tile.dO, Tile.sl, Tile.sg, Tile.half, Blk.kv, Blk.kvL, Blk.sk0, Blk.sk1, Blk.dma, Blk.dmixL, Blk.dmix, Blk.dy, Blk.g2, Blk.y2, Blk.t0, biasL, inRow, dist, band, rq0, rq1, rq2, biasA, biasB, bias0A, bias1A, carryA, dwoA, dpoA, Blk.dpsPut, Blk.dpsLA, Blk.dpwPut, Blk.dpwLA]) <;> rfl

set_option maxHeartbeats 2000000 in
/-- The same point's sinks' sums. -/
theorem start_dsk (c : Dev nD) (t : Fin cfg0.N) (h0 : t.val % 16 = 0) (h2 : ¬t.val % 16 = 15) :
    (outsAt0 m c t.val t.isLt).2.1 = View.canon (Val := Elt Ideal) (s := S8x128) (e := .f32) (Blk.dskL (blkR m c t) (sV t) bias0A bias1A (Blk.skTile (sV t) ((blkR m c t).tile0 bias0A bias1A).st0 ((blkR m c t).tile0 bias0A bias1A).st1 [⟨Rect.unit ![0, 0] ![8, 128] (by decide), (k0_pay22 : FVec Ideal S8x128 .f32)⟩])) := by
  rw [outsAt0_A m c t h0 h0 h2]; frame_open
  refine (View.read_writes_junk_eq_canon _ _).trans (congrArg View.canon (tile_congr ?_ ?_ (tile_congr ?_ ?_ (tile_congr ?_ ?_ (tile_congr ?_ ?_ ?_))))) <;>
  (conv_rhs => dsimp only [blkR, raw2, raw3, raw4, raw14, raw15, raw16, raw18, Blk.dwo, Blk.dpo, Blk.dprojL, Blk.dskL, Blk.skTile, Blk.skFirst, Blk.skPut, Blk.skNew, Blk.sp0, Blk.sp1, Blk.sp2, Blk.sp3, Blk.skRow, Blk.dpsL, Blk.dpwL, Blk.grp0, Blk.grp1,
      Blk.grp2, Blk.grp3, Grp.dps, Grp.dpw, Grp.dgb, Grp.dsl, Grp.dyr, Grp.dyrn, Grp.dpl, Grp.dplc, Grp.du, Grp.dyp, Grp.sl, Grp.sg, Grp.yraw, Grp.mat, Blk.du0, Blk.du1, Blk.du2, Blk.du3, Blk.dm, Blk.dmn, Blk.pooled,
      Blk.ext0, Blk.ext1, Blk.ext2, Blk.ext3, Blk.ext, Blk.nums, down, Grp.half, Blk.carryOut, Blk.dkvOut, Blk.dkvL, Blk.dkvPut, Blk.dkvL0, Blk.tile0, Blk.tile1, Blk.tile2, Blk.tile3, Tile.dkv, Tile.dqs, Tile.dga, Tile.outs0, Tile.outs1, Tile.dsl, Tile.st0, Tile.st1, Tile.dq0, Tile.dq1, Tile.dk0, Tile.dk1, Tile.dv0, Tile.dv1,
      Tile.q0, Tile.q1, Tile.d0, Tile.d1, Tile.dO, Tile.sl, Tile.sg, Tile.half, Blk.kv, Blk.kvL, Blk.sk0, Blk.sk1, Blk.dma, Blk.dmixL, Blk.dmix, Blk.dy, Blk.g2, Blk.y2, Blk.t0, biasL, inRow, dist, band, rq0, rq1, rq2, biasA, biasB, bias0A, bias1A, carryA, dwoA, dpoA, Blk.dpsPut, Blk.dpsLA, Blk.dpwPut, Blk.dpwLA]) <;> rfl

end Cert.Proof.Mx.Point
end
-- ==== Proof.MxWin.lean ====
/- Windows' sums by doubling: what the turned sums of the mixing layer's pooling hold. -/
module

public import proofs.«01_k».proof.Proof.MxPoint
public import proofs.«01_k».proof.Proof.MxFwd

@[expose] public section

set_option maxRecDepth 16384

noncomputable section

open Idealize.ShloMosaic Idealize.ShloMosaic.TcCoe Idealize.SL.Sem

namespace Cert.Proof.Mx.Point

open Cert.MxKernelIdeal Cert.MxKernelIdeal.Gen Cert.Proof.RealLift Cert.Proof.Norm Cert.Proof.Mx.Host

/-- Every row holds the sum of `m` rows, a step of `d` apart around the 528. -/
def Sums (f : ℕ → Fin 128 → ℝ) (d m : ℕ) (s : FVec Ideal S528x128 .f32) : Prop :=
  ∀ (r : Fin 528) (c : Fin 128), s (ix2 r c) = ((∑ j ∈ Finset.range m, f ((r + j * d) % 528) c : ℝ) : EReal)

/-- A sum with its rows turned. -/
theorem down_at (k : BitVec 32) (e : FVec Ideal S528x128 .f32) (r : Fin 528) (c : Fin 128) (r' : Fin 528) (hk : ((r : ℕ) + (528 - k.toNat % 528)) % 528 = r') :
    down k e (ix2 r c) = e (ix2 r c) + e (ix2 r' c) := by
  unfold down
  show e (ix2 r c) + (dynamicRotate 0 k none e rotates_S528x128_d0) (ix2 r c) = _
  refine congrArg (fun z => e (ix2 r c) + z) ?_
  refine congrArg e (funext fun b => ?_)
  match b with
  | ⟨0, _⟩ =>
    refine Fin.ext ?_
    show ((r : ℕ) + 528 - (k.toNat + 0) % 528) % 528 = r'
    have := Nat.mod_lt k.toNat (show 0 < 528 by norm_num)
    rw [← hk, Nat.add_zero]
    congr 1
    omega
  | ⟨1, _⟩ => rfl

/-- One row of each. -/
theorem sums_one {f : ℕ → Fin 128 → ℝ} (d : ℕ) {e : FVec Ideal S528x128 .f32} (he : ∀ (r : Fin 528) (c : Fin 128), e (ix2 r c) = (f r c : EReal)) : Sums f d 1 e := by
  intro r c
  rw [he, Finset.sum_range_one, zero_mul, add_zero, Nat.mod_eq_of_lt r.isLt]

/-- Turning by the rows held doubles them. -/
theorem sums_down {f : ℕ → Fin 128 → ℝ} {d m : ℕ} {s : FVec Ideal S528x128 .f32} (hs : Sums f d m s) (k : BitVec 32) (hk : (528 - k.toNat % 528) % 528 = m * d % 528) :
    Sums f d (m + m) (down k s) := by
  intro r c
  rw [down_at k s r c ⟨((r : ℕ) + (528 - k.toNat % 528)) % 528, Nat.mod_lt _ (by norm_num)⟩ rfl, hs, hs, ← EReal.coe_add, Finset.sum_range_add]
  refine congrArg (fun z : ℝ => (z : EReal)) (congrArg (fun z : ℝ => (∑ j ∈ Finset.range m, f ((r + j * d) % 528) c) + z) (Finset.sum_congr rfl fun j _ => congrArg (fun z => f z c) ?_))
  show (((r : ℕ) + (528 - k.toNat % 528)) % 528 + j * d) % 528 = (r + (m + j) * d) % 528
  rw [add_mul]
  generalize m * d = a at *
  generalize j * d = b at *
  generalize k.toNat % 528 = t at *
  omega

/-- A function on rows as one on numbers. -/
def tot (u : Fin 8192 → ℝ) (n : ℕ) : ℝ := if h : n < 8192 then u ⟨n, h⟩ else 0
theorem tot_lt (u : Fin 8192 → ℝ) (r : Fin 8192) : tot u r = u r := dif_pos r.isLt

/-- The window ending at a row, newest first. -/
theorem back_sum (u : Fin 8192 → ℝ) (R : Fin 8192) (w : ℕ) :
    (∑ j ∈ Finset.range w, if j ≤ (R : ℕ) then tot u (R - j) else 0) = ∑ i : Fin 8192, if In w R i then u i else 0 := by
  have e : (∑ i : Fin 8192, if In w R i then u i else 0) = ∑ n ∈ Finset.range 8192, if In w R n then tot u n else 0 := by
    rw [Finset.sum_range]
    exact Finset.sum_congr rfl fun i _ => by rw [tot_lt]
  rw [e, ← Finset.sum_filter, ← Finset.sum_filter]
  refine Finset.sum_nbij' (fun j => R - j) (fun n => R - n) ?_ ?_ ?_ ?_ ?_
  · intro j hj; simp only [Finset.mem_filter, Finset.mem_range] at hj ⊢; omega
  · intro j hj; simp only [Finset.mem_filter, Finset.mem_range] at hj ⊢; omega
  · intro j hj; simp only [Finset.mem_filter, Finset.mem_range] at hj ⊢; omega
  · intro j hj; simp only [Finset.mem_filter, Finset.mem_range] at hj ⊢; omega
  · intro j hj; rfl

/-- The rows whose window holds a row. -/
theorem fore_sum (u : Fin 8192 → ℝ) (R : Fin 8192) (w : ℕ) :
    (∑ j ∈ Finset.range w, if (R : ℕ) + j < 8192 then tot u (R + j) else 0) = ∑ i : Fin 8192, if In w i R then u i else 0 := by
  have e : (∑ i : Fin 8192, if In w i R then u i else 0) = ∑ n ∈ Finset.range 8192, if In w n R then tot u n else 0 := by
    rw [Finset.sum_range]
    exact Finset.sum_congr rfl fun i _ => by rw [tot_lt]
  rw [e, ← Finset.sum_filter, ← Finset.sum_filter]
  refine Finset.sum_nbij' (fun j => R + j) (fun n => n - R) ?_ ?_ ?_ ?_ ?_
  · intro j hj; simp only [Finset.mem_filter, Finset.mem_range] at hj ⊢; omega
  · intro j hj; simp only [Finset.mem_filter, Finset.mem_range] at hj ⊢; omega
  · intro j hj; simp only [Finset.mem_filter, Finset.mem_range] at hj ⊢; omega
  · intro j hj; simp only [Finset.mem_filter, Finset.mem_range] at hj ⊢; omega
  · intro j hj; rfl

end Cert.Proof.Mx.Point
end
-- ==== Proof.MxGrp.lean ====
/- A pooling group of the mixing layer's gradient at a grid point, read at an index as the step's reals. -/
module

public import proofs.«01_k».proof.Proof.MxWin
public import proofs.«01_k».proof.Proof.MxRows

@[expose] public section

set_option maxRecDepth 16384

noncomputable section

open Idealize.ShloMosaic Idealize.ShloMosaic.TcCoe Idealize.SL.Sem

namespace Cert.Proof.Mx.Point

open Cert.MxKernelIdeal Cert.MxKernelIdeal.Gen Cert.Proof.RealLift Cert.Proof.Norm Cert.Proof.Mx.Host Cert.Proof.Mx.Body

/-- A group's parts are the step's at row block `i`. -/
structure Grp.Is (g : Grp) (x : Inp) (i : Fin 16) (k : Fin 4) : Prop where
  pooled : ∀ r e, g.pooled (ix2 r e) = (x.pl k (rowI i r) e : EReal)
  gb : ∀ r c, g.gb (ix2 r c) = (x.pgb (rowI i r) (grpCol k c) : EReal)
  pw : ∀ u e c, g.pw (ix3 u e c) = (x.W k e c : EReal)
  sc : ∀ u c, g.sc (ix2 u c) = (x.C (grpCol k c) : EReal)
  dyb : ∀ r c, g.dyb (ix2 r c) = (x.dmb (rowI i r) (grpCol k c) : EReal)
  dyn : ∀ r c, g.dyn (ix2 r c) = (x.dmb (nextRow i r) (grpCol k c) : EReal)
  gn : ∀ r c, g.gn (ix2 r c) = (x.pgb (nextRow i r) (grpCol k c) : EReal)

/-- The logistic gate as these lines write it. -/
theorem sgb_eq (v : ℝ) : ((1 / 2 : ℝ) : EReal) * Ideal.tanh (((1 / 2 : ℝ) : EReal) * (v : EReal)) + ((1 / 2 : ℝ) : EReal) = ((sig v : ℝ) : EReal) := by
  rw [← EReal.coe_mul, Ideal.tanh_coe, ← EReal.coe_mul, ← EReal.coe_add, tanh_sig]

/-- The gate's product in the short form. -/
theorem gn_eq (v : ℝ) : ((1 / 2 : ℝ) : EReal) * (v : EReal) * Ideal.tanh (((1 / 2 : ℝ) : EReal) * (v : EReal)) + ((1 / 2 : ℝ) : EReal) * (v : EReal) = ((silu v : ℝ) : EReal) := by
  rw [← EReal.coe_mul, Ideal.tanh_coe, ← EReal.coe_mul, ← EReal.coe_add]
  refine congrArg _ ?_
  unfold silu
  rw [← tanh_sig]
  ring

namespace Grp
variable {g : Grp} {x : Inp} {i : Fin 16} {k : Fin 4}

theorem mat_at (h : g.Is x i k) (e c : Fin 128) : g.mat (ix2 e c) = (x.W k e c : EReal) := by
  pointwise [Grp.mat]
  exact h.pw _ e c

theorem yraw_at (h : g.Is x i k) (r : Fin 512) (c : Fin 128) : g.yraw (ix2 r c) = (x.yraw (rowI i r) (grpCol k c) : EReal) := by
  unfold Inp.yraw
  rw [grpOf_grpCol, inGrp_grpCol]
  pointwise [Grp.yraw, mat_at h, h.pooled]
  simp only [← EReal.coe_mul, ← coe_sum]

theorem sg_at (h : g.Is x i k) (r : Fin 512) (c : Fin 128) : g.sg (ix2 r c) = (sig (x.pgb (rowI i r) (grpCol k c)) : EReal) := by
  pointwise [Grp.sg, Grp.half, h.gb]
  rw [bits_half]
  exact sgb_eq _

theorem sl_at (h : g.Is x i k) (r : Fin 512) (c : Fin 128) : g.sl (ix2 r c) = (silu (x.pgb (rowI i r) (grpCol k c)) : EReal) := by
  pointwise [Grp.sl, sg_at h, h.gb]
  rw [← EReal.coe_mul]
  rfl

theorem dsl_at (h : g.Is x i k) (r : Fin 512) (c : Fin 128) : g.dsl (ix2 r c) = (dsilu (x.pgb (rowI i r) (grpCol k c)) : EReal) := by
  pointwise [Grp.dsl, sl_at h, sg_at h]
  rw [← EReal.coe_one, ← EReal.coe_sub, ← EReal.coe_mul, ← EReal.coe_add]
  rfl

theorem dyp_at (h : g.Is x i k) (r : Fin 512) (c : Fin 128) : g.dyp (ix2 r c) = (x.dyp (rowI i r) (grpCol k c) : EReal) := by
  pointwise [Grp.dyp, sl_at h, h.dyb]
  rw [← EReal.coe_mul]
  rfl

/-- The scales' part. -/
theorem dps_at (h : g.Is x i k) (old : Vec Ideal S1x128 .f32) (u : Fin 1) (c : Fin 128) : g.dps old (ix2 u c)
    = old (ix2 u c) + ((∑ r : Fin 512, x.dyp (rowI i r) (grpCol k c) * x.yraw (rowI i r) (grpCol k c) : ℝ) : EReal) := by
  pointwise [Grp.dps, dyp_at h, yraw_at h]
  simp only [← EReal.coe_mul, ← coe_sum]

theorem dgb_at (h : g.Is x i k) (r : Fin 512) (c : Fin 128) : g.dgb (ix2 r c) = (x.dgb (rowI i r) (grpCol k c) : EReal) := by
  pointwise [Grp.dgb, yraw_at h, dsl_at h, h.dyb, h.sc]
  simp only [← EReal.coe_mul]
  rfl

theorem dyr_at (h : g.Is x i k) (r : Fin 512) (c : Fin 128) : g.dyr (ix2 r c) = (x.dyr (rowI i r) (grpCol k c) : EReal) := by
  pointwise [Grp.dyr, dyp_at h, h.sc]
  rw [← EReal.coe_mul]
  rfl

/-- The group's matrix's part. -/
theorem dpw_at (h : g.Is x i k) (old : Vec Ideal S128x128 .f32) (e c : Fin 128) : g.dpw old (ix2 e c)
    = old (ix2 e c) + ((∑ r : Fin 512, x.pl k (rowI i r) e * x.dyr (rowI i r) (grpCol k c) : ℝ) : EReal) := by
  pointwise [Grp.dpw, dyr_at h, h.pooled]
  simp only [← EReal.coe_mul, ← coe_sum]

theorem last_num : ∀ i : Fin 16, Scalar.cmpi .eq (BitVec.ofNat 32 i) 15#32 = BitVec.ofBool (decide ((i : ℕ) = 15)) := by decide +kernel
theorem zero_num : ∀ i : Fin 16, Scalar.cmpi .eq (BitVec.ofNat 32 i) 0#32 = BitVec.ofBool (decide ((i : ℕ) = 0)) := by decide +kernel

/-- The next block's rows, none after the last. -/
theorem dyrn_at (h : g.Is x i k) (r : Fin 16) (c : Fin 128) :
    g.dyrn (BitVec.ofNat 32 i) (ix2 r c) = ((if (i : ℕ) = 15 then 0 else x.dyr (nextRow i r) (grpCol k c) : ℝ) : EReal) := by
  unfold Grp.dyrn
  rw [last_num, Body.sel]
  split
  next =>
    pointwise []
    rw [EReal.coe_zero]
  next =>
    pointwise [h.gn, h.sc, h.dyn]
    rw [bits_half, gn_eq, ← EReal.coe_mul, ← EReal.coe_mul]
    rfl

/-- Rows past the sequence have none. -/
theorem dpl_at (h : g.Is x i k) (r : Fin 528) (e : Fin 128) :
    g.dpl (BitVec.ofNat 32 i) (ix2 r e) = ((if 512 * (i : ℕ) + r < 8192 then tot (fun n => x.dpl k n e) (512 * i + r) else 0 : ℝ) : EReal) := by
  pointwise [Grp.dpl, dyr_at h, dyrn_at h, mat_at h]
  by_cases hr : (r : ℕ) < 512
  · rw [if_pos (by omega)]
    have e1 : tot (fun n => x.dpl k n e) (512 * i + r) = x.dpl k (rowI i ⟨r, hr⟩) e := tot_lt _ (rowI i ⟨r, hr⟩)
    rw [e1, Inp.dpl, coe_sum]
    refine Finset.sum_congr rfl fun c _ => ?_
    rw [dif_pos hr, EReal.coe_mul]
  · by_cases hi : (i : ℕ) = 15
    · rw [if_neg (by omega), EReal.coe_zero]
      refine Finset.sum_eq_zero fun c _ => ?_
      rw [dif_neg hr, if_pos hi, EReal.coe_zero, zero_mul]
    · rw [if_pos (by omega)]
      have e2 : (nextRow i ⟨r - 512, by omega⟩ : ℕ) = 512 * i + r := by
        show (if (i : ℕ) = 15 then 8176 else 512 * ((i : ℕ) + 1)) + ((r : ℕ) - 512) = 512 * (i : ℕ) + (r : ℕ)
        rw [if_neg hi]; omega
      have e1 : tot (fun n => x.dpl k n e) (512 * i + r) = x.dpl k (nextRow i ⟨r - 512, by omega⟩) e := by
        rw [← e2]; exact tot_lt _ _
      rw [e1, Inp.dpl, coe_sum]
      refine Finset.sum_congr rfl fun c _ => ?_
      rw [dif_neg hr, if_neg hi, EReal.coe_mul]

/-- The window's length at a row. -/
theorem cnt_num : ∀ (k : Fin 4) (i : Fin 16) (r : Fin 528),
    (IntOp.minsi (IntOp.addi (IntOp.addi (Scalar.muli (BitVec.ofNat 32 i) 512#32) (BitVec.ofNat 32 r)) 1#32) (BitVec.ofNat 32 (win k))).toInt = (min (512 * (i : ℕ) + r + 1) (win k) : ℕ) := by
  decide +kernel

theorem cnt_at (k : Fin 4) (i : Fin 16) (r : Fin 528) :
    (FloatOps.sitofp FTy.f32 (IntOp.minsi (IntOp.addi (IntOp.addi (Scalar.muli (BitVec.ofNat 32 i) 512#32) (BitVec.ofNat 32 r)) 1#32) (BitVec.ofNat 32 (win k))) : Ideal .f32)
      = ((cnt (win k) (512 * i + r) : ℝ) : EReal) := by
  show ((((IntOp.minsi (IntOp.addi (IntOp.addi (Scalar.muli (BitVec.ofNat 32 i) 512#32) (BitVec.ofNat 32 r)) 1#32) (BitVec.ofNat 32 (win k))).toInt : ℤ) : ℝ) : EReal) = _
  rw [cnt_num, Int.cast_natCast]
  rfl

theorem win_pos (k : Fin 4) : 0 < win k := Nat.mul_pos (by norm_num) (Nat.pow_pos (by norm_num))
theorem win_le : ∀ k : Fin 4, win k ≤ 16 := by decide

/-- The pooled rows' gradient over the window's length, by number. -/
def dplf (x : Inp) (i : Fin 16) (k : Fin 4) (r : ℕ) (e : Fin 128) : ℝ :=
  if 512 * (i : ℕ) + r < 8192 then tot (fun n => x.dpl k n e / cnt (win k) n) (512 * i + r) else 0

theorem dplc_at (h : g.Is x i k) (r : Fin 528) (e : Fin 128) : g.dplc (BitVec.ofNat 32 i) (BitVec.ofNat 32 (win k)) (ix2 r e) = (dplf x i k r e : EReal) := by
  pointwise [Grp.dplc, dpl_at h]
  rw [cnt_at, div_coe_coe _ _ (cnt_pos (win_pos k) _).ne']
  refine congrArg _ ?_
  unfold dplf
  split
  next hh => unfold tot; rw [dif_pos hh, dif_pos hh]
  next => rw [zero_div]

/-- The rows' gradient from the windows' sums. -/
theorem du_at (h : g.Is x i k) (s : FVec Ideal S528x128 .f32) (hs : Sums (dplf x i k) 1 (win k) s) (r : Fin 512) (c : Fin 128) :
    g.du (BitVec.ofNat 32 i) s (ix2 r c) = (x.du (rowI i r) (grpCol k c) : EReal) := by
  unfold Inp.du unpool
  rw [grpOf_grpCol, inGrp_grpCol, ← fore_sum]
  pointwise [Grp.du, dpl_at h]
  rw [hs, ← EReal.coe_sub, if_pos (by omega)]
  refine congrArg _ (congrArg₂ (· - ·) (Finset.sum_congr rfl fun j hj => ?_) (tot_lt (fun n => x.dpl k n c) (rowI i r)))
  have hw := win_le k
  have hj' := Finset.mem_range.mp hj
  have e : ((r : ℕ) + j * 1) % 528 = r + j := by rw [mul_one]; exact Nat.mod_eq_of_lt (by omega)
  show dplf x i k (((r : ℕ) + j * 1) % 528) c = _
  rw [e]
  unfold dplf
  show (if 512 * (i : ℕ) + (r + j) < 8192 then _ else _) = if (512 * (i : ℕ) + r) + j < 8192 then _ else _
  rw [← add_assoc]
  rfl

end Grp

/-- The rows pooled, by number; none before the sequence. -/
def extf (x : Inp) (i : Fin 16) (k : Fin 4) (r : ℕ) (e : Fin 128) : ℝ :=
  if 16 ≤ 512 * (i : ℕ) + r then tot (fun n => x.pu n (grpCol k e)) (512 * i + r - 16) else 0

namespace Blk
variable {b : Blk} {x : Inp} {i : Fin 16}

/-- The pooled rows from the windows' sums. -/
theorem pooled_at (h : b.Is x i) (k : Fin 4) (e s : FVec Ideal S528x128 .f32) (he : ∀ (r : Fin 528) (c : Fin 128), e (ix2 r c) = (extf x i k r c : EReal))
    (hs : Sums (extf x i k) 527 (win k) s) (r : Fin 512) (c : Fin 128) : b.pooled (BitVec.ofNat 32 (win k)) e s (ix2 r c) = (x.pl k (rowI i r) c : EReal) := by
  unfold Inp.pl pool
  rw [← back_sum]
  pointwise [Blk.pooled, Blk.nums, Blk.t0]
  have ec := Grp.cnt_at k i ⟨r, by omega⟩
  have e1 : (∑ j ∈ Finset.range (win k), extf x i k ((16 + (r : ℕ) + j * 527) % 528) c)
      = ∑ j ∈ Finset.range (win k), if j ≤ ((rowI i r : Fin 8192) : ℕ) then tot (fun n => x.pu n (grpCol k c)) ((rowI i r : Fin 8192) - j) else 0 := by
    refine Finset.sum_congr rfl fun j hj => ?_
    have hw := Grp.win_le k
    have hj' := Finset.mem_range.mp hj
    have e : (16 + (r : ℕ) + j * 527) % 528 = 16 + r - j := by omega
    rw [e]
    unfold extf
    show _ = if j ≤ 512 * (i : ℕ) + r then tot _ (512 * (i : ℕ) + r - j) else 0
    by_cases hh : j ≤ 512 * (i : ℕ) + r
    · rw [if_pos hh, if_pos (by omega)]
      exact congrArg _ (by omega)
    · rw [if_neg hh, if_neg (by omega)]
  have e2 : extf x i k (16 + (r : ℕ)) c = x.pu (rowI i r) (grpCol k c) := by
    unfold extf
    rw [if_pos (by omega), show 512 * (i : ℕ) + (16 + (r : ℕ)) - 16 = ((rowI i r : Fin 8192) : ℕ) from by show _ = 512 * (i : ℕ) + (r : ℕ); omega]
    exact tot_lt _ _
  rw [h.ii, hs, he, show ((⟨16 + (r : ℕ), by omega⟩ : Fin 528) : ℕ) = 16 + r from rfl, e1, e2]
  refine Eq.trans (congrArg₂ (fun p q : EReal => p - q) (congrArg (Ideal.div _) ec) rfl) ?_
  rw [div_coe_coe _ _ (cnt_pos (Grp.win_pos k) _).ne', ← EReal.coe_sub]
  rfl

end Blk

end Cert.Proof.Mx.Point
end
-- ==== Proof.MxMask.lean ====
/- The constant masks and the scores' bias of the mixing layer's gradient, read at an index. -/
module

public import proofs.«01_k».proof.Proof.MxPoint
public import proofs.«01_k».proof.Proof.MxSpec

@[expose] public section

set_option maxRecDepth 16384

noncomputable section

open Idealize.ShloMosaic Idealize.ShloMosaic.TcCoe Idealize.SL.Sem

namespace Cert.Proof.Mx.Point

open Cert.MxKernelIdeal Cert.MxKernelIdeal.Gen Cert.Proof.RealLift Cert.Proof.Mx.Body

/-- A lane's group of 64. -/
theorem laneGrp_at (u : Fin 1) (l : Fin 256) : laneGrp (ix2 u l) = BitVec.ofNat 32 (l / 64) := by
  pointwise [laneGrp, lanes]
  revert l
  decide +kernel

/-- A group's lanes. -/
theorem msk_at (g : Fin 4) (u : Fin 1) (l : Fin 256) : msk (BitVec.ofNat 32 g) (ix2 u l) = BitVec.ofBool (decide (lg l = g)) := by
  pointwise [msk, laneGrp_at]
  revert g l
  decide +kernel

/-- The first 64 of 128 lanes. -/
theorem first_at (s : Fin 256) (l : Fin 128) : first (ix2 s l) = BitVec.ofBool (decide ((l : ℕ) < 64)) := by
  pointwise [first]
  revert l
  decide +kernel

/-- A stacked row's group of 128. -/
theorem rowGrp_at (r : Fin 512) (u : Fin 1) : rowGrp (ix2 r u) = BitVec.ofNat 32 (r / 128) := by
  pointwise [rowGrp, srows, k0_pay53]
  revert r
  decide +kernel

/-- A key head's sinks by stacked row. -/
theorem rowSinks_at (s0 s1 s2 s3 : Ideal .f32) (s : Fin 4 → EReal) (h0 : s0 = s 0) (h1 : s1 = s 1) (h2 : s2 = s 2) (h3 : s3 = s 3) (r : Fin 512) (u : Fin 1) :
    rowSinks s0 s1 s2 s3 (ix2 r u) = s (rg r) := by
  pointwise [rowSinks, rowGrp_at]
  subst h0 h1 h2 h3
  have e : ∀ g : Fin 4, rg r = g → (r / 128 : ℕ) = g := fun g hg => congrArg Fin.val hg
  have key : ∀ g : Fin 4, (r / 128 : ℕ) = g → s (rg r) = s g := fun g hg => congrArg s (Fin.ext hg)
  have hr : (r / 128 : ℕ) < 4 := by omega
  generalize (r / 128 : ℕ) = n at *
  interval_cases n
  · rw [key 0 rfl]; rfl
  · rw [key 1 rfl]; rfl
  · rw [key 2 rfl]; rfl
  · rw [key 3 rfl]; rfl

/-- A stacked row's place in its query block. -/
theorem inRow_at (r : Fin 512) (s : Fin 256) : inRow (ix2 r s) = BitVec.ofNat 32 (r % 128) := by
  pointwise [inRow]
  revert r
  decide +kernel

theorem dist_num : ∀ (q : Fin 128) (s : Fin 256), IntOp.subi (IntOp.addi (BitVec.ofNat 32 q) 128#32) (BitVec.ofNat 32 s) = BitVec.ofInt 32 ((q : ℤ) + 128 - s) := by
  decide +kernel

/-- How far behind its query a key lies. -/
theorem dist_at (r : Fin 512) (s : Fin 256) : dist (ix2 r s) = BitVec.ofInt 32 ((rq r : ℤ) + 128 - s) := by
  pointwise [dist, inRow_at]
  exact dist_num (rq r) s

theorem dist_int : ∀ (q : Fin 128) (s : Fin 256), (BitVec.ofInt 32 ((q : ℤ) + 128 - s)).toInt = (q : ℤ) + 128 - s := by
  decide +kernel

/-- Whether a key lies in its query's window. -/
theorem band_at (r : Fin 512) (s : Fin 256) : band (ix2 r s) = BitVec.ofBool (decide ((s : ℕ) ≤ rq r + 128 ∧ (rq r : ℕ) < s)) := by
  pointwise [band, dist_at]
  have key : ∀ (q : Fin 128) (s : Fin 256), IntOp.andi (IntOp.cmpi .sge (BitVec.ofInt 32 ((q : ℤ) + 128 - s)) 0#32) (IntOp.cmpi .slt (BitVec.ofInt 32 ((q : ℤ) + 128 - s)) 128#32)
      = BitVec.ofBool (decide ((s : ℕ) ≤ q + 128 ∧ (q : ℕ) < s)) := by decide +kernel
  exact key (rq r) s

/-- A stacked row's group as the bias's lines write it. -/
theorem grp_num : ∀ r : Fin 512, Scalar.select
    (IntOp.andi (IntOp.cmpi .ne (IntOp.subi (BitVec.setWidth 32 (IntOp.cmpi .sgt (BitVec.ofNat 32 r) 0#32)) (BitVec.setWidth 32 (IntOp.cmpi .slt (BitVec.ofNat 32 r) 0#32))) 1#32)
      (IntOp.cmpi .ne (IntOp.remsi ArithUnit.vector (BitVec.ofNat 32 r) 128#32) 0#32))
    (IntOp.subi (IntOp.divsi ArithUnit.vector (BitVec.ofNat 32 r) 128#32) 1#32) (IntOp.divsi ArithUnit.vector (BitVec.ofNat 32 r) 128#32) = BitVec.ofNat 32 (r / 128) := by
  decide +kernel

/-- The value chosen for a group out of four. -/
theorem pick (r : Fin 512) (a0 a1 a2 a3 z : EReal) (s : Fin 4 → EReal) (h0 : a0 = s 0) (h1 : a1 = s 1) (h2 : a2 = s 2) (h3 : a3 = s 3) :
    Scalar.select (IntOp.cmpi .eq (BitVec.ofNat 32 (r / 128)) 3#32) a3 (Scalar.select (IntOp.cmpi .eq (BitVec.ofNat 32 (r / 128)) 2#32) a2
      (Scalar.select (IntOp.cmpi .eq (BitVec.ofNat 32 (r / 128)) 1#32) a1 (Scalar.select (IntOp.cmpi .eq (BitVec.ofNat 32 (r / 128)) 0#32) a0 z))) = s (rg r) := by
  subst h0 h1 h2 h3
  have key : ∀ g : Fin 4, (r / 128 : ℕ) = g → s (rg r) = s g := fun g hg => congrArg s (Fin.ext hg)
  have hr : (r / 128 : ℕ) < 4 := by omega
  generalize (r / 128 : ℕ) = n at *
  interval_cases n
  · rw [key 0 rfl]; rfl
  · rw [key 1 rfl]; rfl
  · rw [key 2 rfl]; rfl
  · rw [key 3 rfl]; rfl

/-- The slope times the distance, or the mask. -/
theorem bias_eq (sl : ℝ) (r : Fin 512) (s : Fin 256) :
    (if (s : ℕ) ≤ (r : ℕ) % 128 + 128 ∧ (r : ℕ) % 128 < s then ((0 - (sl : EReal)) * (FloatOps.sitofp FTy.f32 (BitVec.ofInt 32 (((r % 128 : ℕ) : ℤ) + 128 - s)) : Ideal .f32) : EReal)
      else (Named.named κ "mask" 0xF149F2CA#32 : Ideal .f32))
    = if (s : ℕ) ≤ rq r + 128 ∧ (rq r : ℕ) < s then ((-(sl * ((rq r : ℝ) + 128 - s)) : ℝ) : EReal) else ⊥ := by
  split
  next hs =>
    have e : (FloatOps.sitofp FTy.f32 (BitVec.ofInt 32 (((r % 128 : ℕ) : ℤ) + 128 - s)) : Ideal .f32) = (((BitVec.ofInt 32 (((r % 128 : ℕ) : ℤ) + 128 - s)).toInt : ℝ) : EReal) := rfl
    have h2 := dist_int (rq r) s
    rw [e, show (BitVec.ofInt 32 (((r % 128 : ℕ) : ℤ) + 128 - s)).toInt = ((rq r : ℕ) : ℤ) + 128 - s from h2, zero_sub, ← EReal.coe_neg, ← EReal.coe_mul]
    refine congrArg _ ?_
    generalize rq r = a
    push_cast
    ring
  next => rfl

/-- The words of the slopes. -/
theorem w1 : Ideal.ofBits .f32 0x3F000000#32 = ((1 / 2 : ℝ) : EReal) := by simp [Ideal.ofBits, Ideal.ieee, -EReal.coe_mul]; norm_num
theorem w2 : Ideal.ofBits .f32 0x3E800000#32 = ((1 / 4 : ℝ) : EReal) := by simp [Ideal.ofBits, Ideal.ieee, -EReal.coe_mul]; norm_num
theorem w3 : Ideal.ofBits .f32 0x3E000000#32 = ((1 / 8 : ℝ) : EReal) := by simp [Ideal.ofBits, Ideal.ieee, -EReal.coe_mul]; norm_num
theorem w4 : Ideal.ofBits .f32 0x3D800000#32 = ((1 / 16 : ℝ) : EReal) := by simp [Ideal.ofBits, Ideal.ieee, -EReal.coe_mul]; norm_num
theorem w5 : Ideal.ofBits .f32 0x3D000000#32 = ((1 / 32 : ℝ) : EReal) := by simp [Ideal.ofBits, Ideal.ieee, -EReal.coe_mul]; norm_num
theorem w6 : Ideal.ofBits .f32 0x3C800000#32 = ((1 / 64 : ℝ) : EReal) := by simp [Ideal.ofBits, Ideal.ieee, -EReal.coe_mul]; norm_num
theorem w7 : Ideal.ofBits .f32 0x3C000000#32 = ((1 / 128 : ℝ) : EReal) := by simp [Ideal.ofBits, Ideal.ieee, -EReal.coe_mul]; norm_num
theorem w8 : Ideal.ofBits .f32 0x3B800000#32 = ((1 / 256 : ℝ) : EReal) := by simp [Ideal.ofBits, Ideal.ieee, -EReal.coe_mul]; norm_num

theorem slope_num (k : Fin 2) (g : Fin 4) : slope (headAt k g) = 1 / 2 ^ ((k : ℕ) * 4 + g + 1) := rfl

/-- The first key head's bias. -/
theorem biasA_at (u : Fin 1) (r : Fin 512) (s : Fin 256) : biasA (ix3 u r s)
    = if (s : ℕ) ≤ rq r + 128 ∧ (rq r : ℕ) < s then ((-(slope (headAt 0 (rg r)) * ((rq r : ℝ) + 128 - s)) : ℝ) : EReal) else ⊥ := by
  pointwise [biasA, k0_pay9, k0_pay8, rq0, rq1, rq2, srows, dist_at, band_at]
  rw [grp_num r, pick r _ _ _ _ _ (fun g => ((slope (headAt 0 g) : ℝ) : EReal))]
  · exact bias_eq _ r s
  · rw [w1]; refine congrArg _ ?_; rw [slope_num]; norm_num
  · rw [w2]; refine congrArg _ ?_; rw [slope_num]; norm_num
  · rw [w3]; refine congrArg _ ?_; rw [slope_num]; norm_num
  · rw [w4]; refine congrArg _ ?_; rw [slope_num]; norm_num

/-- The second's. -/
theorem biasB_at (u : Fin 1) (r : Fin 512) (s : Fin 256) : biasB (ix3 u r s)
    = if (s : ℕ) ≤ rq r + 128 ∧ (rq r : ℕ) < s then ((-(slope (headAt 1 (rg r)) * ((rq r : ℝ) + 128 - s)) : ℝ) : EReal) else ⊥ := by
  pointwise [biasB, k0_pay21, k0_pay8, k0_pay10, k0_pay11, rq0, rq1, rq2, srows, dist_at, band_at]
  rw [grp_num r, pick r _ _ _ _ _ (fun g => ((slope (headAt 1 g) : ℝ) : EReal))]
  · exact bias_eq _ r s
  · rw [w5]; refine congrArg _ ?_; rw [slope_num]; norm_num
  · rw [w6]; refine congrArg _ ?_; rw [slope_num]; norm_num
  · rw [w7]; refine congrArg _ ?_; rw [slope_num]; norm_num
  · rw [w8]; refine congrArg _ ?_; rw [slope_num]; norm_num

end Cert.Proof.Mx.Point
end
-- ==== Proof.MxTile.lean ====
/- One query block of the mixing layer's gradient, read at an index as the step's reals. -/
module

public import proofs.«01_k».proof.Proof.MxMask

@[expose] public section

set_option maxRecDepth 16384

noncomputable section

open Idealize.ShloMosaic Idealize.ShloMosaic.TcCoe Idealize.SL.Sem

namespace Cert.Proof.Mx.Point

open Cert.MxKernelIdeal Cert.MxKernelIdeal.Gen Cert.Proof.RealLift Cert.Proof.Mx.Body

/-- A query block's parts are the step's at block `n`. -/
structure Tile.Is (t : Tile) (x : Inp) (n : Fin 64) (K V : Fin 256 → Fin 128 → ℝ) : Prop where
  np : t.np = BitVec.ofBool (decide ((n : ℕ) = 0))
  kk : ∀ s c, t.kk (ix2 s c) = (K s c : EReal)
  vv : ∀ s c, t.vv (ix2 s c) = (V s c : EReal)
  K : ∀ (s : Fin 256) c (h : 128 ≤ (n : ℕ) * 128 + s), K s c = x.pk ⟨n * 128 + s - 128, by omega⟩ c
  V : ∀ (s : Fin 256) c (h : 128 ≤ (n : ℕ) * 128 + s), V s c = x.pv ⟨n * 128 + s - 128, by omega⟩ c
  q : ∀ q c, t.q (ix2 q c) = (x.pq (rowOf n q) c : EReal)
  ga : ∀ q c, t.ga (ix2 q c) = (x.pga (rowOf n q) c : EReal)
  dya : ∀ q c, t.dya (ix2 q c) = (x.dma (rowOf n q) c : EReal)
  b0 : ∀ r s, t.b0 (ix2 r s) = if (s : ℕ) ≤ rq r + 128 ∧ (rq r : ℕ) < s then ((-(slope (headAt 0 (rg r)) * ((rq r : ℝ) + 128 - s)) : ℝ) : EReal) else ⊥
  b1 : ∀ r s, t.b1 (ix2 r s) = if (s : ℕ) ≤ rq r + 128 ∧ (rq r : ℕ) < s then ((-(slope (headAt 1 (rg r)) * ((rq r : ℝ) + 128 - s)) : ℝ) : EReal) else ⊥
  s0 : ∀ r u, t.s0 (ix2 r u) = (x.sk (headAt 0 (rg r)) : EReal)
  s1 : ∀ r u, t.s1 (ix2 r u) = (x.sk (headAt 1 (rg r)) : EReal)

/-- The logistic gate as the programs write it. -/
theorem sg_eq (v : ℝ) : ((1 / 2 : ℝ) : EReal) * Ideal.tanh (((1 / 2 : ℝ) : EReal) * (v : EReal)) + ((1 / 2 : ℝ) : EReal) = ((sig v : ℝ) : EReal) := by
  rw [← EReal.coe_mul, Ideal.tanh_coe, ← EReal.coe_mul, ← EReal.coe_add, tanh_sig]

/-- One key head's lanes four times over. -/
theorem rep0_at (a : FVec Ideal S256x128 .f32) (A : Fin 256 → Fin 128 → ℝ) (h : ∀ s c, a (ix2 s c) = (A s c : EReal)) (s l : Fin 256) :
    rep0 a (ix2 s l) = (A s ⟨ld l, by omega⟩ : EReal) := by
  pointwise [rep0, first_at]
  simp only [h]
  have hl := l.isLt
  split <;> split <;> refine congrArg (fun z => ((A s z : ℝ) : EReal)) (Fin.ext ?_) <;> simp only [] <;> omega

theorem rep1_at (a : FVec Ideal S256x128 .f32) (A : Fin 256 → Fin 128 → ℝ) (h : ∀ s c, a (ix2 s c) = (A s c : EReal)) (s l : Fin 256) :
    rep1 a (ix2 s l) = (A s ⟨64 + ld l, by omega⟩ : EReal) := by
  pointwise [rep1, first_at]
  simp only [h]
  have hl := l.isLt
  split <;> split <;> refine congrArg (fun z => ((A s z : ℝ) : EReal)) (Fin.ext ?_) <;> simp only [] <;> omega

namespace Tile

variable {t : Tile} {x : Inp} {n : Fin 64} {K V : Fin 256 → Fin 128 → ℝ} (h : t.Is x n K V)

/-- The gate, its product and its derivative. -/
theorem sg_at (h : t.Is x n K V) (q : Fin 128) (c : Fin 512) : t.sg (ix2 q c) = (sig (x.pga (rowOf n q) c) : EReal) := by
  pointwise [Tile.sg, Tile.half, h.ga]
  rw [bits_half]
  exact sg_eq _

theorem sl_at (h : t.Is x n K V) (q : Fin 128) (c : Fin 512) : t.sl (ix2 q c) = (silu (x.pga (rowOf n q) c) : EReal) := by
  pointwise [Tile.sl, sg_at h, h.ga]
  rw [← EReal.coe_mul]
  rfl

theorem dsl_at (h : t.Is x n K V) (q : Fin 128) (c : Fin 512) : t.dsl (ix2 q c) = (dsilu (x.pga (rowOf n q) c) : EReal) := by
  pointwise [Tile.dsl, sl_at h, sg_at h]
  rw [← EReal.coe_one, ← EReal.coe_sub, ← EReal.coe_mul, ← EReal.coe_add]
  rfl

theorem dO_at (h : t.Is x n K V) (q : Fin 128) (c : Fin 512) : t.dO (ix2 q c) = (x.dO (rowOf n q) c : EReal) := by
  pointwise [Tile.dO, sl_at h, h.dya]
  rw [← EReal.coe_mul]
  rfl

/-- Key head `k`'s queries and cotangents by lane. -/
abbrev Qk (x : Inp) (n : Fin 64) (k : Fin 2) (q : Fin 128) (l : Fin 256) : ℝ := x.pq (rowOf n q) ⟨k * 256 + l, by omega⟩
abbrev Dk (x : Inp) (n : Fin 64) (k : Fin 2) (q : Fin 128) (l : Fin 256) : ℝ := x.dO (rowOf n q) ⟨k * 256 + l, by omega⟩
abbrev Kk (K : Fin 256 → Fin 128 → ℝ) (k : Fin 2) (s : Fin 256) (d : Fin 64) : ℝ := K s ⟨k * 64 + d, by omega⟩

/-- The head the body computes with. -/
abbrev H (x : Inp) (n : Fin 64) (K V : Fin 256 → Fin 128 → ℝ) (k : Fin 2) (g : Fin 4) : Head :=
  Body.hd n (Qk x n k) (Dk x n k) (Kk K k) (Kk V k) (fun g => slope (headAt k g)) (fun g => x.sk (headAt k g)) g

theorem kvOf_headAt (k : Fin 2) (g : Fin 4) : kvOf (headAt k g) = k := Fin.ext (by show (k * 4 + g : ℕ) / 4 = k; omega)

/-- It is the step's, on every key seen. -/
theorem same (h : t.Is x n K V) (k : Fin 2) (g : Fin 4) : Head.Same (H x n K V k g) (x.hd n (headAt k g)) where
  n := rfl
  Q := by
    funext q d
    refine congrArg (x.pq (rowOf n q)) (Fin.ext ?_)
    show (k * 256 + (g * 64 + d) : ℕ) = (k * 4 + g) * 64 + d
    omega
  dO := by
    funext q d
    refine congrArg (x.dO (rowOf n q)) (Fin.ext ?_)
    show (k * 256 + (g * 64 + d) : ℕ) = (k * 4 + g) * 64 + d
    omega
  sl := rfl
  sk := rfl
  K := by
    intro q s hs
    funext d
    show K s ⟨k * 64 + d, _⟩ = Inp.past x.pk n (kvOf (headAt k g)) s d
    rw [kvOf_headAt]
    unfold Inp.past
    split
    next hh => exact h.K s _ hh
    next hh => exact absurd hs.2.2 hh
  V := by
    intro q s hs
    funext d
    show V s ⟨k * 64 + d, _⟩ = Inp.past x.pv n (kvOf (headAt k g)) s d
    rw [kvOf_headAt]
    unfold Inp.past
    split
    next hh => exact h.V s _ hh
    next hh => exact absurd hs.2.2 hh

theorem q0_at (h : t.Is x n K V) (q : Fin 128) (l : Fin 256) : t.q0 (ix2 q l) = (Qk x n 0 q l : EReal) := by
  pointwise [Tile.q0]
  rw [h.q]
  refine congrArg (fun z => ((x.pq (rowOf n q) z : ℝ) : EReal)) (Fin.ext ?_)
  show (l : ℕ) = 0 * 256 + l
  omega
theorem q1_at (h : t.Is x n K V) (q : Fin 128) (l : Fin 256) : t.q1 (ix2 q l) = (Qk x n 1 q l : EReal) := by
  pointwise [Tile.q1]
  rw [h.q]
  refine congrArg (fun z => ((x.pq (rowOf n q) z : ℝ) : EReal)) (Fin.ext ?_)
  show 256 + (l : ℕ) = 1 * 256 + l
  omega
theorem d0_at (h : t.Is x n K V) (q : Fin 128) (l : Fin 256) : t.d0 (ix2 q l) = (Dk x n 0 q l : EReal) := by
  pointwise [Tile.d0, dO_at h]
  refine congrArg (fun z => ((x.dO (rowOf n q) z : ℝ) : EReal)) (Fin.ext ?_)
  show (l : ℕ) = 0 * 256 + l
  omega
theorem d1_at (h : t.Is x n K V) (q : Fin 128) (l : Fin 256) : t.d1 (ix2 q l) = (Dk x n 1 q l : EReal) := by
  pointwise [Tile.d1, dO_at h]
  refine congrArg (fun z => ((x.dO (rowOf n q) z : ℝ) : EReal)) (Fin.ext ?_)
  show 256 + (l : ℕ) = 1 * 256 + l
  omega
theorem k0_at (h : t.Is x n K V) (s l : Fin 256) : rep0 t.kk (ix2 s l) = (Kk K 0 s (ld l) : EReal) := by
  rw [rep0_at _ _ h.kk]; refine congrArg (fun z => ((K s z : ℝ) : EReal)) (Fin.ext ?_); show (l % 64 : ℕ) = 0 * 64 + l % 64; omega
theorem k1_at (h : t.Is x n K V) (s l : Fin 256) : rep1 t.kk (ix2 s l) = (Kk K 1 s (ld l) : EReal) := rep1_at _ _ h.kk s l
theorem v0_at (h : t.Is x n K V) (s l : Fin 256) : rep0 t.vv (ix2 s l) = (Kk V 0 s (ld l) : EReal) := by
  rw [rep0_at _ _ h.vv]; refine congrArg (fun z => ((V s z : ℝ) : EReal)) (Fin.ext ?_); show (l % 64 : ℕ) = 0 * 64 + l % 64; omega
theorem v1_at (h : t.Is x n K V) (s l : Fin 256) : rep1 t.vv (ix2 s l) = (Kk V 1 s (ld l) : EReal) := rep1_at _ _ h.vv s l

/-- The attended values. -/
theorem outs0_at (h : t.Is x n K V) (q : Fin 128) (l : Fin 256) : t.outs0 (ix2 q l) = ((x.hd n (headAt 0 (lg l))).out q (ld l) : EReal) := by
  rw [← (same h 0 (lg l)).out]
  exact Body.outs_at (msk_at 0) (msk_at 1) (msk_at 2) (msk_at 3) n (Qk x n 0) (Dk x n 0) (Kk K 0) (Kk V 0) _ _ h.np (k0_at h) (v0_at h) (q0_at h) h.b0 h.s0 q l
theorem outs1_at (h : t.Is x n K V) (q : Fin 128) (l : Fin 256) : t.outs1 (ix2 q l) = ((x.hd n (headAt 1 (lg l))).out q (ld l) : EReal) := by
  rw [← (same h 1 (lg l)).out]
  exact Body.outs_at (msk_at 0) (msk_at 1) (msk_at 2) (msk_at 3) n (Qk x n 1) (Dk x n 1) (Kk K 1) (Kk V 1) _ _ h.np (k1_at h) (v1_at h) (q1_at h) h.b1 h.s1 q l

/-- The queries' gradient. -/
theorem dq0_at (h : t.Is x n K V) (q : Fin 128) (l : Fin 256) : t.dq0 (ix2 q l) = ((x.hd n (headAt 0 (lg l))).dQ q (ld l) : EReal) := by
  rw [← (same h 0 (lg l)).dQ]
  exact Body.dq_at (msk_at 0) (msk_at 1) (msk_at 2) (msk_at 3) n (Qk x n 0) (Dk x n 0) (Kk K 0) (Kk V 0) _ _ h.np (k0_at h) (v0_at h) (q0_at h) (d0_at h) h.b0 h.s0 q l
theorem dq1_at (h : t.Is x n K V) (q : Fin 128) (l : Fin 256) : t.dq1 (ix2 q l) = ((x.hd n (headAt 1 (lg l))).dQ q (ld l) : EReal) := by
  rw [← (same h 1 (lg l)).dQ]
  exact Body.dq_at (msk_at 0) (msk_at 1) (msk_at 2) (msk_at 3) n (Qk x n 1) (Dk x n 1) (Kk K 1) (Kk V 1) _ _ h.np (k1_at h) (v1_at h) (q1_at h) (d1_at h) h.b1 h.s1 q l

/-- The keys' and values' gradients. -/
theorem dk0_at (h : t.Is x n K V) (s : Fin 256) (l : Fin 128) : t.dk0 (ix2 s l) = ((∑ g, (x.hd n (headAt 0 g)).dK s ⟨l % 64, by omega⟩ : ℝ) : EReal) := by
  simp only [← (same h 0 _).dK]
  exact Body.dk_at (msk_at 0) (msk_at 1) (msk_at 2) (msk_at 3) n (Qk x n 0) (Dk x n 0) (Kk K 0) (Kk V 0) _ _ h.np (k0_at h) (v0_at h) (q0_at h) (d0_at h) h.b0 h.s0 s l
theorem dk1_at (h : t.Is x n K V) (s : Fin 256) (l : Fin 128) : t.dk1 (ix2 s l) = ((∑ g, (x.hd n (headAt 1 g)).dK s ⟨l % 64, by omega⟩ : ℝ) : EReal) := by
  simp only [← (same h 1 _).dK]
  exact Body.dk_at (msk_at 0) (msk_at 1) (msk_at 2) (msk_at 3) n (Qk x n 1) (Dk x n 1) (Kk K 1) (Kk V 1) _ _ h.np (k1_at h) (v1_at h) (q1_at h) (d1_at h) h.b1 h.s1 s l
theorem dv0_at (h : t.Is x n K V) (s : Fin 256) (l : Fin 128) : t.dv0 (ix2 s l) = ((∑ g, (x.hd n (headAt 0 g)).dV s ⟨l % 64, by omega⟩ : ℝ) : EReal) := by
  simp only [← (same h 0 _).dV]
  exact Body.dv_at (msk_at 0) (msk_at 1) (msk_at 2) (msk_at 3) n (Qk x n 0) (Dk x n 0) (Kk K 0) (Kk V 0) _ _ h.np (k0_at h) (q0_at h) (d0_at h) h.b0 h.s0 s l
theorem dv1_at (h : t.Is x n K V) (s : Fin 256) (l : Fin 128) : t.dv1 (ix2 s l) = ((∑ g, (x.hd n (headAt 1 g)).dV s ⟨l % 64, by omega⟩ : ℝ) : EReal) := by
  simp only [← (same h 1 _).dV]
  exact Body.dv_at (msk_at 0) (msk_at 1) (msk_at 2) (msk_at 3) n (Qk x n 1) (Dk x n 1) (Kk K 1) (Kk V 1) _ _ h.np (k1_at h) (q1_at h) (d1_at h) h.b1 h.s1 s l

/-- The sinks' terms. -/
theorem st0_at (h : t.Is x n K V) (r : Fin 512) (u : Fin 1) :
    t.st0 (ix2 r u) = (((x.hd n (headAt 0 (rg r))).ps (rq r) * (x.hd n (headAt 0 (rg r))).dl (rq r) : ℝ) : EReal) := by
  rw [← (same h 0 (rg r)).ps, ← (same h 0 (rg r)).dl]
  exact Body.sinkterm_at (msk_at 0) (msk_at 1) (msk_at 2) (msk_at 3) n (Qk x n 0) (Dk x n 0) (Kk K 0) (Kk V 0) _ _ h.np (k0_at h) (v0_at h) (q0_at h) (d0_at h) h.b0 h.s0 r u
theorem st1_at (h : t.Is x n K V) (r : Fin 512) (u : Fin 1) :
    t.st1 (ix2 r u) = (((x.hd n (headAt 1 (rg r))).ps (rq r) * (x.hd n (headAt 1 (rg r))).dl (rq r) : ℝ) : EReal) := by
  rw [← (same h 1 (rg r)).ps, ← (same h 1 (rg r)).dl]
  exact Body.sinkterm_at (msk_at 0) (msk_at 1) (msk_at 2) (msk_at 3) n (Qk x n 1) (Dk x n 1) (Kk K 1) (Kk V 1) _ _ h.np (k1_at h) (v1_at h) (q1_at h) (d1_at h) h.b1 h.s1 r u

/-- A block's row's head is the row's. -/
theorem hd_of (x : Inp) (n : Fin 64) (q : Fin 128) (c : Fin 512) (k : Fin 2) (l : Fin 256) (hc : (c : ℕ) = k * 256 + l) :
    headAt k (lg l) = headOf c ∧ ld l = inHead c := by
  constructor
  · apply Fin.ext; show (k * 4 + l / 64 : ℕ) = c / 64; omega
  · apply Fin.ext; show (l % 64 : ℕ) = c % 64; omega

/-- The rows' queries' gradient. -/
theorem dqs_at (h : t.Is x n K V) (q : Fin 128) (c : Fin 512) : t.dqs (ix2 q c) = (x.dq (rowOf n q) c : EReal) := by
  unfold Inp.dq
  rw [blkOf_rowOf, inBlk_rowOf]
  pointwise [Tile.dqs, dq0_at h, dq1_at h]
  split
  next hc =>
    obtain ⟨e1, e2⟩ := hd_of x n q c 0 ⟨c, hc⟩ (by show (c : ℕ) = 0 * 256 + c; omega)
    rw [← e1, ← e2]
  next hc =>
    obtain ⟨e1, e2⟩ := hd_of x n q c 1 ⟨c - 256, by omega⟩ (by show (c : ℕ) = 1 * 256 + (c - 256); omega)
    rw [← e1, ← e2]

/-- The rows' gate's gradient. -/
theorem dga_at (h : t.Is x n K V) (q : Fin 128) (c : Fin 512) : t.dga (ix2 q c) = (x.dga (rowOf n q) c : EReal) := by
  unfold Inp.dga
  rw [← Inp.att_eq, blkOf_rowOf, inBlk_rowOf]
  pointwise [Tile.dga, outs0_at h, outs1_at h, dsl_at h, h.dya]
  rw [EReal.coe_mul, EReal.coe_mul]
  split
  next hc =>
    obtain ⟨e1, e2⟩ := hd_of x n q c 0 ⟨c, hc⟩ (by show (c : ℕ) = 0 * 256 + c; omega)
    rw [← e1, ← e2]
  next hc =>
    obtain ⟨e1, e2⟩ := hd_of x n q c 1 ⟨c - 256, by omega⟩ (by show (c : ℕ) = 1 * 256 + (c - 256); omega)
    rw [← e1, ← e2]

/-- The part of the keys' and values' gradients. -/
def add (x : Inp) (n : Fin 64) (s c : Fin 256) : ℝ := if h : (c : ℕ) < 128 then x.dkAt n s ⟨c, h⟩ else x.dvAt n s ⟨c - 128, by omega⟩

theorem dkv_at (h : t.Is x n K V) (s c : Fin 256) : t.dkv (ix2 s c) = (add x n s c : EReal) := by
  unfold add Inp.dkAt Inp.dvAt
  pointwise [Tile.dkv, first_at, dk0_at h, dk1_at h, dv0_at h, dv1_at h]
  have hc := c.isLt
  have key : ∀ (k : Fin 2) (l : Fin 128), (l / 64 : ℕ) = k → (⟨l / 64, by omega⟩ : Fin 2) = k := fun k l e => Fin.ext e
  split
  next h1 =>
    split
    next h2 => rw [key 0 ⟨c, h1⟩ (by show (c / 64 : ℕ) = 0; omega)]
    next h2 => rw [key 1 ⟨c, h1⟩ (by show (c / 64 : ℕ) = 1; omega)]
  next h1 =>
    split
    next h2 => rw [key 0 ⟨c - 128, by omega⟩ (by show ((c - 128) / 64 : ℕ) = 0; omega)]
    next h2 => rw [key 1 ⟨c - 128, by omega⟩ (by show ((c - 128) / 64 : ℕ) = 1; omega)]

end Tile

end Cert.Proof.Mx.Point
end
-- ==== Proof.MxCanon.lean ====
/- A stored list of rectangles of a matrix, read at a row and a column. -/
module

public import proofs.«01_k».proof.Proof.MxPoint

@[expose] public section

set_option maxRecDepth 16384

noncomputable section

open Idealize.ShloMosaic Idealize.ShloMosaic.TcCoe Idealize.SL.Sem

namespace Cert.Proof.Mx.Point

open Cert.MxKernelIdeal

/-- Inside the newest rectangle its own contents are read. -/
theorem canon_in {N M n k o0 o1 : ℕ} {e : EltTy} (inb : ∀ a, (![o0, o1] : Fin 2 → ℕ) a + (![n, k] : Fin 2 → ℕ) a ≤ (⟨2, ![N, M]⟩ : Shape).size a)
    (w : (⟨2, ![n, k]⟩ : Shape).Idx → Elt Ideal e) (L : List (View.Piece (Elt Ideal) ⟨2, ![N, M]⟩ e)) (r : Fin N) (c : Fin M) (i : Fin n) (j : Fin k)
    (hr : (r : ℕ) = o0 + i) (hc : (c : ℕ) = o1 + j) :
    View.canon (Val := Elt Ideal) (⟨Rect.unit (s := ⟨2, ![N, M]⟩) ![o0, o1] ![n, k] inb, w⟩ :: L) (ix2 r c) = w (ix2 i j) := by
  have he : (ix2 r c : (⟨2, ![N, M]⟩ : Shape).Idx) = (Rect.unit (s := ⟨2, ![N, M]⟩) ![o0, o1] ![n, k] inb).emb (ix2 i j) := by
    funext a
    match a with
    | ⟨0, _⟩ => exact Fin.ext (hr.trans (ValueKit.rect_emb_unit_val (s := ⟨2, ![N, M]⟩) ![o0, o1] ![n, k] inb (ix2 i j) 0).symm)
    | ⟨1, _⟩ => exact Fin.ext (hc.trans (ValueKit.rect_emb_unit_val (s := ⟨2, ![N, M]⟩) ![o0, o1] ![n, k] inb (ix2 i j) 1).symm)
  rw [he]
  exact View.canon_cons_emb (Val := Elt Ideal) (Rect.unit (s := ⟨2, ![N, M]⟩) ![o0, o1] ![n, k] inb) w L (ix2 i j)

/-- Outside it the older ones are. -/
theorem canon_out {N M n k o0 o1 : ℕ} {e : EltTy} (inb : ∀ a, (![o0, o1] : Fin 2 → ℕ) a + (![n, k] : Fin 2 → ℕ) a ≤ (⟨2, ![N, M]⟩ : Shape).size a)
    (w : (⟨2, ![n, k]⟩ : Shape).Idx → Elt Ideal e) (L : List (View.Piece (Elt Ideal) ⟨2, ![N, M]⟩ e)) (r : Fin N) (c : Fin M)
    (h : (r : ℕ) < o0 ∨ o0 + n ≤ r ∨ (c : ℕ) < o1 ∨ o1 + k ≤ c) :
    View.canon (Val := Elt Ideal) (⟨Rect.unit (s := ⟨2, ![N, M]⟩) ![o0, o1] ![n, k] inb, w⟩ :: L) (ix2 r c) = View.canon L (ix2 r c) := by
  refine View.canon_cons_of_not_mem _ L fun hm => ?_
  have e0 : o0 ≤ (r : ℕ) ∧ (r : ℕ) < o0 + n := (Rect.mem_set_unit (inb := inb)).mp hm 0
  have e1 : o1 ≤ (c : ℕ) ∧ (c : ℕ) < o1 + k := (Rect.mem_set_unit (inb := inb)).mp hm 1
  omega

/-- A rectangle's load reads the list at the place shifted. -/
theorem cov_at {N M n k o0 o1 : ℕ} {e : EltTy} (V : View Cert.MxKernelIdeal.sig (Proc.kind (τ := τ) Proc.tc) Space.vmem ⟨2, ![N, M]⟩ e)
    (inb : ∀ a, (![o0, o1] : Fin 2 → ℕ) a + (![n, k] : Fin 2 → ℕ) a ≤ (⟨2, ![N, M]⟩ : Shape).size a) (L : List (View.Piece (Elt Ideal) ⟨2, ![N, M]⟩ e))
    (i : Fin n) (j : Fin k) (r : Fin N) (c : Fin M) (hr : (r : ℕ) = o0 + i) (hc : (c : ℕ) = o1 + j) :
    V.readCov (Val := Elt Ideal) L (Rect.unit (s := ⟨2, ![N, M]⟩) ![o0, o1] ![n, k] inb).toLoadRect (ix2 i j) = View.canon (Val := Elt Ideal) L (ix2 r c) := by
  rw [View.readCov_eq_canon']
  refine congrArg (View.canon (Val := Elt Ideal) L) (funext fun a => ?_)
  match a with
  | ⟨0, _⟩ => exact Fin.ext ((ValueKit.rect_emb_unit_val (s := ⟨2, ![N, M]⟩) ![o0, o1] ![n, k] inb (ix2 i j) 0).trans hr.symm)
  | ⟨1, _⟩ => exact Fin.ext ((ValueKit.rect_emb_unit_val (s := ⟨2, ![N, M]⟩) ![o0, o1] ![n, k] inb (ix2 i j) 1).trans hc.symm)

/-- A load of a rectangle of whole contents reads them at the place shifted. -/
theorem ld_at {N M n k o0 o1 : ℕ} {e : EltTy} (X : (⟨2, ![N, M]⟩ : Shape).Idx → Elt Ideal e)
    (inb : ∀ a, (![o0, o1] : Fin 2 → ℕ) a + (![n, k] : Fin 2 → ℕ) a ≤ (⟨2, ![N, M]⟩ : Shape).size a)
    (i : Fin n) (j : Fin k) (r : Fin N) (c : Fin M) (hr : (r : ℕ) = o0 + i) (hc : (c : ℕ) = o1 + j) :
    View.ld (Val := Elt Ideal) (e' := e) X (Rect.unit (s := ⟨2, ![N, M]⟩) ![o0, o1] ![n, k] inb) (ix2 i j) = X (ix2 r c) := by
  refine View.ld_unit_apply_of (S := ⟨2, ![N, M]⟩) X ![o0, o1] ![n, k] inb (ix2 i j) (ix2 r c) fun a => ?_
  match a with
  | ⟨0, _⟩ => exact hr
  | ⟨1, _⟩ => exact hc

end Cert.Proof.Mx.Point
end
-- ==== Proof.MxParts.lean ====
/- The parts a grid point of the mixing layer's gradient works with are the step's, at its row block. -/
module

public import proofs.«01_k».proof.Proof.MxGrp
public import proofs.«01_k».proof.Proof.MxTile
public import proofs.«01_k».proof.Proof.MxCanon

@[expose] public section

set_option maxRecDepth 16384

noncomputable section

open Idealize.ShloMosaic Idealize.ShloMosaic.TcCoe Idealize.SL.Sem

namespace Cert.Proof.Mx.Point

open Cert.MxKernelIdeal Cert.MxKernelIdeal.Gen Cert.Proof.RealLift Cert.Proof.Norm Cert.Proof.Mx.Body

/-- A load inside a rectangle reads the list at the place shifted twice. -/
theorem covW_at {N M A B n k a0 a1 o0 o1 : ℕ} {e : EltTy} (V : View Cert.MxKernelIdeal.sig (Proc.kind (τ := τ) Proc.tc) Space.vmem ⟨2, ![N, M]⟩ e)
    (inA : ∀ a, (![a0, a1] : Fin 2 → ℕ) a + (![A, B] : Fin 2 → ℕ) a ≤ (⟨2, ![N, M]⟩ : Shape).size a)
    (inb : ∀ a, (![o0, o1] : Fin 2 → ℕ) a + (![n, k] : Fin 2 → ℕ) a ≤ (⟨2, ![A, B]⟩ : Shape).size a) (L : List (View.Piece (Elt Ideal) ⟨2, ![N, M]⟩ e))
    (i : Fin n) (j : Fin k) (r : Fin N) (c : Fin M) (hr : (r : ℕ) = a0 + o0 + i) (hc : (c : ℕ) = a1 + o1 + j) :
    V.readCov (Val := Elt Ideal) L ((Rect.unit (s := ⟨2, ![N, M]⟩) ![a0, a1] ![A, B] inA).withinL (Rect.unit (s := ⟨2, ![A, B]⟩) ![o0, o1] ![n, k] inb).toLoadRect (fun _ => rfl)) (ix2 i j)
      = View.canon (Val := Elt Ideal) L (ix2 r c) := by
  rw [View.readCov_eq_canon']
  refine congrArg (View.canon (Val := Elt Ideal) L) (funext fun a => ?_)
  match a with
  | ⟨0, _⟩ => exact Fin.ext (by show (a0 + o0) + 1 * (i : ℕ) = r; omega)
  | ⟨1, _⟩ => exact Fin.ext (by show (a1 + o1) + 1 * (j : ℕ) = c; omega)

/-- The bias of a key head's stacked rows. -/
def BiasIs (k : Fin 2) (v : Vec Ideal S1x512x256 .f32) : Prop := ∀ (u : Fin 1) (r : Fin 512) (s : Fin 256), v (ix3 u r s)
    = if (s : ℕ) ≤ rq r + 128 ∧ (rq r : ℕ) < s then ((-(slope (headAt k (rg r)) * ((rq r : ℝ) + 128 - s)) : ℝ) : EReal) else ⊥

/-- The `j`-th query block of a row block. -/
def nth (i : Fin 16) (j : Fin 4) : Fin 64 := ⟨4 * (i : ℕ) + (j : ℕ), by omega⟩

/-- The rows whose keys and values a point holds: the block before, then its own. -/
def kvRow (i : Fin 16) (s : Fin 640) : Fin 8192 := if h : (s : ℕ) < 128 then haloRow i ⟨s, h⟩ else rowI i ⟨s - 128, by omega⟩
def keysOf (x : Inp) (i : Fin 16) (j : Fin 4) (s : Fin 256) (c : Fin 128) : ℝ := x.P (kvRow i ⟨128 * (j : ℕ) + (s : ℕ), by omega⟩) ⟨512 + (c : ℕ), by omega⟩
def valsOf (x : Inp) (i : Fin 16) (j : Fin 4) (s : Fin 256) (c : Fin 128) : ℝ := x.P (kvRow i ⟨128 * (j : ℕ) + (s : ℕ), by omega⟩) ⟨640 + (c : ℕ), by omega⟩

/-- Where keys lie in the sequence, they are its. -/
theorem kvRow_eq (i : Fin 16) (j : Fin 4) (s : Fin 256) (h : 128 ≤ (nth i j : ℕ) * 128 + s) :
    kvRow i ⟨128 * (j : ℕ) + (s : ℕ), by omega⟩ = ⟨(nth i j : ℕ) * 128 + s - 128, by omega⟩ := by
  have hn : (nth i j : ℕ) = 4 * (i : ℕ) + j := rfl
  apply Fin.ext
  unfold kvRow
  split
  next hs =>
    have hs' : 128 * (j : ℕ) + (s : ℕ) < 128 := hs
    show (if (i : ℕ) = 0 then 0 else 512 * (i : ℕ) - 128) + (128 * (j : ℕ) + (s : ℕ)) = (nth i j : ℕ) * 128 + s - 128
    rw [if_neg (by omega)]
    omega
  next hs =>
    have hs' : ¬ 128 * (j : ℕ) + (s : ℕ) < 128 := hs
    show 512 * (i : ℕ) + (128 * (j : ℕ) + (s : ℕ) - 128) = (nth i j : ℕ) * 128 + s - 128
    omega

namespace Blk
variable {b : Blk} {x : Inp} {i : Fin 16}

theorem dm_at (h : b.Is x i) (c : ℕ) (inb : ∀ a, (![0, c] : Fin 2 → ℕ) a + (![512, 128] : Fin 2 → ℕ) a ≤ S512x1024.size a) (r : Fin 512) (e : Fin 128) (k : Fin 1024) (hk : (k : ℕ) = c + e) :
    b.dm c inb (ix2 r e) = (x.dmix (rowI i r) k : EReal) := by
  unfold Blk.dm Blk.dmixL
  refine (covW_at (N := 528) (M := 1024) (A := 512) (B := 1024) _ _ inb _ r e (⟨r, by omega⟩ : Fin 528) k (by show (r : ℕ) = 0 + 0 + r; omega) (by omega)).trans ?_
  refine (canon_in (N := 528) (M := 1024) _ _ _ _ _ (⟨r, by omega⟩ : Fin 528) k (by show (r : ℕ) = 0 + r; omega) (by omega)).trans ?_
  rw [dmix_at h, extRow_low]

theorem dmn_at (h : b.Is x i) (c : ℕ) (inb : ∀ a, (![0, c] : Fin 2 → ℕ) a + (![16, 128] : Fin 2 → ℕ) a ≤ S16x1024.size a) (r : Fin 16) (e : Fin 128) (k : Fin 1024) (hk : (k : ℕ) = c + e) :
    b.dmn c inb (ix2 r e) = (x.dmix (nextRow i r) k : EReal) := by
  unfold Blk.dmn Blk.dmixL
  refine (covW_at (N := 528) (M := 1024) (A := 16) (B := 1024) _ _ inb _ r e (⟨512 + (r : ℕ), by omega⟩ : Fin 528) k (by show 512 + (r : ℕ) = 512 + 0 + r; omega) (by omega)).trans ?_
  refine (canon_in (N := 528) (M := 1024) _ _ _ _ _ (⟨512 + (r : ℕ), by omega⟩ : Fin 528) k (by show 512 + (r : ℕ) = 0 + (512 + r); omega) (by omega)).trans ?_
  rw [dmix_at h, extRow_high i r _ rfl]

theorem dma_at (h : b.Is x i) (o : ℕ) (inb : ∀ a, (![o, 0] : Fin 2 → ℕ) a + (![128, 512] : Fin 2 → ℕ) a ≤ S512x1024.size a) (q : Fin 128) (c : Fin 512) (r : Fin 512) (hr : (r : ℕ) = o + q) :
    b.dma o inb (ix2 q c) = (x.dma (rowI i r) c : EReal) := by
  unfold Blk.dma Blk.dmixL
  refine (covW_at (N := 528) (M := 1024) (A := 512) (B := 1024) _ _ inb _ q c (⟨r, by omega⟩ : Fin 528) ⟨c, by omega⟩ (by show (r : ℕ) = 0 + o + q; omega) (by show (c : ℕ) = 0 + 0 + c; omega)).trans ?_
  refine (canon_in (N := 528) (M := 1024) _ _ _ _ _ (⟨r, by omega⟩ : Fin 528) ⟨c, by omega⟩ (by show (r : ℕ) = 0 + r; omega) (by show (c : ℕ) = 0 + c; omega)).trans ?_
  rw [dmix_at h, extRow_low]
  rfl

/-- The stored keys and values. -/
theorem kvL_at (h : b.Is x i) (s : Fin 640) (c : Fin 256) : View.canon (Val := Elt Ideal) b.kvL (ix2 s c) = (x.P (kvRow i s) ⟨512 + (c : ℕ), by omega⟩ : EReal) := by
  unfold Blk.kvL kvRow
  split
  next hs =>
    refine (canon_out (N := 640) (M := 256) _ _ _ s c (by omega)).trans ?_
    refine (canon_in (N := 640) (M := 256) _ _ _ s c (⟨s, hs⟩ : Fin 128) c (by show (s : ℕ) = 0 + s; omega) (by omega)).trans ?_
    refine (congrFun (shapeCast_self (s := S128x256) _ _) _).trans ?_
    refine (ld_at (N := 128) (M := 2304) _ _ (⟨s, hs⟩ : Fin 128) c (⟨s, hs⟩ : Fin 128) (⟨512 + (c : ℕ), by omega⟩ : Fin 2304) (by show (s : ℕ) = 0 + s; omega) rfl).trans (h.halo _ _)
  next hs =>
    refine (canon_in (N := 640) (M := 256) _ _ _ s c (⟨s - 128, by omega⟩ : Fin 512) c (by show (s : ℕ) = 128 + (s - 128); omega) (by omega)).trans ?_
    refine (congrFun (shapeCast_self (s := S512x256) _ _) _).trans ?_
    refine (ld_at (N := 512) (M := 2304) _ _ (⟨s - 128, by omega⟩ : Fin 512) c (⟨s - 128, by omega⟩ : Fin 512) (⟨512 + (c : ℕ), by omega⟩ : Fin 2304) (by show (s : ℕ) - 128 = 0 + (s - 128); omega) rfl).trans (h.main _ _)

theorem kv_at (h : b.Is x i) (o c0 : ℕ) (inb : ∀ a, (![o, c0] : Fin 2 → ℕ) a + (![256, 128] : Fin 2 → ℕ) a ≤ S640x256.size a) (s : Fin 256) (c : Fin 128)
    (s' : Fin 640) (hs : (s' : ℕ) = o + s) (c' : Fin 2304) (hc : (c' : ℕ) = 512 + c0 + c) : b.kv o c0 inb (ix2 s c) = (x.P (kvRow i s') c' : EReal) := by
  unfold Blk.kv
  have hc0 : c0 + 128 ≤ 256 := inb 1
  refine (cov_at (N := 640) (M := 256) _ inb _ s c s' ⟨c0 + c, by omega⟩ hs rfl).trans ?_
  rw [kvL_at h]
  exact congrArg (fun z => ((x.P (kvRow i s') z : ℝ) : EReal)) (Fin.ext (by show 512 + (c0 + (c : ℕ)) = c'; omega))

/-- The sinks by head. -/
theorem first_ix : (Shape.Idx.first (by decide) : (⟨2, ![1, 1]⟩ : Shape).Idx) = ix2 0 0 := by
  funext a
  match a with
  | ⟨0, _⟩ => rfl
  | ⟨1, _⟩ => rfl

theorem sink_ld (h : b.Is x i) (k : ℕ) (inb : ∀ a, (![0, k] : Fin 2 → ℕ) a + (![1, 1] : Fin 2 → ℕ) a ≤ S1x8.size a) (hd : Fin 8) (e : (hd : ℕ) = k) (pf) :
    View.ld (Val := Elt Ideal) (e' := .f32) b.sinks (Rect.unit (s := S1x8) ![0, k] ![1, 1] inb) (Shape.Idx.first pf) = (x.sk hd : EReal) := by
  refine Eq.trans (congrArg (View.ld (Val := Elt Ideal) (e' := .f32) b.sinks (Rect.unit (s := S1x8) ![0, k] ![1, 1] inb)) first_ix) ?_
  exact (ld_at (N := 1) (M := 8) _ inb (0 : Fin 1) (0 : Fin 1) (0 : Fin 1) hd rfl (by show (hd : ℕ) = k + 0; omega)).trans (h.sinks _ _)

theorem sk0_at (h : b.Is x i) (r : Fin 512) (u : Fin 1) : b.sk0 (ix2 r u) = (x.sk (headAt 0 (rg r)) : EReal) :=
  rowSinks_at _ _ _ _ (fun g => ((x.sk (headAt 0 g) : ℝ) : EReal)) (sink_ld h 0 _ (headAt 0 0) rfl _) (sink_ld h 1 _ (headAt 0 1) rfl _)
    (sink_ld h 2 _ (headAt 0 2) rfl _) (sink_ld h 3 _ (headAt 0 3) rfl _) r u
theorem sk1_at (h : b.Is x i) (r : Fin 512) (u : Fin 1) : b.sk1 (ix2 r u) = (x.sk (headAt 1 (rg r)) : EReal) :=
  rowSinks_at _ _ _ _ (fun g => ((x.sk (headAt 1 g) : ℝ) : EReal)) (sink_ld h 4 _ (headAt 1 0) rfl _) (sink_ld h 5 _ (headAt 1 1) rfl _)
    (sink_ld h 6 _ (headAt 1 2) rfl _) (sink_ld h 7 _ (headAt 1 3) rfl _) r u

theorem rowOf_nth (i : Fin 16) (j : Fin 4) (q : Fin 128) (r : Fin 512) (hr : (r : ℕ) = 128 * (j : ℕ) + q) : rowI i r = rowOf (nth i j) q :=
  Fin.ext (by show 512 * (i : ℕ) + (r : ℕ) = (4 * (i : ℕ) + (j : ℕ)) * 128 + q; omega)

/-- The `j`-th query block. -/
theorem tile_is (h : b.Is x i) (j : Fin 4) (o : ℕ) (ho : o = 128 * (j : ℕ)) (b0 b1 : Vec Ideal S1x512x256 .f32) (h0 : BiasIs 0 b0) (h1 : BiasIs 1 b1)
    (np : BitVec 1) (hnp : np = BitVec.ofBool (decide ((4 * (i : ℕ) + (j : ℕ)) = 0)))
    (i1 : ∀ a, (![o, 0] : Fin 2 → ℕ) a + (![256, 128] : Fin 2 → ℕ) a ≤ S640x256.size a) (i2 : ∀ a, (![o, 128] : Fin 2 → ℕ) a + (![256, 128] : Fin 2 → ℕ) a ≤ S640x256.size a)
    (i3 : ∀ a, (![o, 0] : Fin 2 → ℕ) a + (![128, 512] : Fin 2 → ℕ) a ≤ S512x2304.size a) (i4 : ∀ a, (![o, 768] : Fin 2 → ℕ) a + (![128, 512] : Fin 2 → ℕ) a ≤ S512x2304.size a)
    (i5 : ∀ a, (![o, 0] : Fin 2 → ℕ) a + (![128, 512] : Fin 2 → ℕ) a ≤ S512x1024.size a)
    (T : Tile) (e0 : T.np = np) (e1 : T.kk = b.kv o 0 i1) (e2 : T.vv = b.kv o 128 i2)
    (e3 : T.q = View.ld (Val := Elt Ideal) (e' := .f32) b.main (Rect.unit (s := S512x2304) ![o, 0] ![128, 512] i3))
    (e4 : T.ga = View.ld (Val := Elt Ideal) (e' := .f32) b.main (Rect.unit (s := S512x2304) ![o, 768] ![128, 512] i4)) (e5 : T.dya = b.dma o i5)
    (e6 : T.b0 = shapeCast S512x256 b0 shapeCasts_S1x512x256_S512x256) (e7 : T.b1 = shapeCast S512x256 b1 shapeCasts_S1x512x256_S512x256)
    (e8 : T.s0 = b.sk0) (e9 : T.s1 = b.sk1) : T.Is x (nth i j) (keysOf x i j) (valsOf x i j) := by
  constructor
  · rw [e0]; exact hnp
  · intro s c
    rw [e1]
    exact kv_at h o 0 i1 s c ⟨128 * (j : ℕ) + (s : ℕ), by omega⟩ (by show 128 * (j : ℕ) + (s : ℕ) = o + s; omega) _ (by show 512 + (c : ℕ) = 512 + 0 + c; omega)
  · intro s c
    rw [e2]
    exact kv_at h o 128 i2 s c ⟨128 * (j : ℕ) + (s : ℕ), by omega⟩ (by show 128 * (j : ℕ) + (s : ℕ) = o + s; omega) _ (by show 640 + (c : ℕ) = 512 + 128 + c; omega)
  · intro s c hs; unfold keysOf Inp.pk; rw [kvRow_eq i j s hs]
  · intro s c hs; unfold valsOf Inp.pv; rw [kvRow_eq i j s hs]
  · intro q c
    rw [e3]
    refine (ld_at (N := 512) (M := 2304) _ i3 q c (⟨128 * (j : ℕ) + (q : ℕ), by omega⟩ : Fin 512) (⟨c, by omega⟩ : Fin 2304) (by show 128 * (j : ℕ) + (q : ℕ) = o + q; omega) (by show (c : ℕ) = 0 + c; omega)).trans ?_
    rw [h.main, rowOf_nth i j q _ rfl]
    rfl
  · intro q c
    rw [e4]
    refine (ld_at (N := 512) (M := 2304) _ i4 q c (⟨128 * (j : ℕ) + (q : ℕ), by omega⟩ : Fin 512) (⟨768 + (c : ℕ), by omega⟩ : Fin 2304) (by show 128 * (j : ℕ) + (q : ℕ) = o + q; omega) rfl).trans ?_
    rw [h.main, rowOf_nth i j q _ rfl]
    rfl
  · intro q c
    rw [e5, ← rowOf_nth i j q ⟨128 * (j : ℕ) + (q : ℕ), by omega⟩ rfl]
    exact dma_at h o i5 q c _ (by show 128 * (j : ℕ) + (q : ℕ) = o + q; omega)
  · intro r s
    rw [e6]
    pointwise []
    exact h0 _ r s
  · intro r s
    rw [e7]
    pointwise []
    exact h1 _ r s
  · intro r u; rw [e8]; exact sk0_at h r u
  · intro r u; rw [e9]; exact sk1_at h r u

/-- Which query block is the first of all. -/
theorem np0 : ∀ i : Fin 16, Scalar.cmpi .eq (Scalar.addi (Scalar.muli (BitVec.ofNat 32 i) 512#32) 0#32) 0#32 = BitVec.ofBool (decide (((4 * (i : ℕ) + ((0 : Fin 4) : ℕ) : ℕ)) = 0)) := by decide +kernel
theorem np1 : ∀ i : Fin 16, Scalar.cmpi .eq (Scalar.addi (Scalar.muli (BitVec.ofNat 32 i) 512#32) 128#32) 0#32 = BitVec.ofBool (decide (((4 * (i : ℕ) + ((1 : Fin 4) : ℕ) : ℕ)) = 0)) := by decide +kernel
theorem np2 : ∀ i : Fin 16, Scalar.cmpi .eq (Scalar.addi (Scalar.muli (BitVec.ofNat 32 i) 512#32) 256#32) 0#32 = BitVec.ofBool (decide (((4 * (i : ℕ) + ((2 : Fin 4) : ℕ) : ℕ)) = 0)) := by decide +kernel
theorem np3 : ∀ i : Fin 16, Scalar.cmpi .eq (Scalar.addi (Scalar.muli (BitVec.ofNat 32 i) 512#32) 384#32) 0#32 = BitVec.ofBool (decide (((4 * (i : ℕ) + ((3 : Fin 4) : ℕ) : ℕ)) = 0)) := by decide +kernel

/-- The four query blocks. -/
theorem tile0_is (h : b.Is x i) (b0 b1 : Vec Ideal S1x512x256 .f32) (h0 : BiasIs 0 b0) (h1 : BiasIs 1 b1) : (b.tile0 b0 b1).Is x (nth i 0) (keysOf x i 0) (valsOf x i 0) := by
  have e : Scalar.cmpi .eq (Scalar.addi (Scalar.muli b.ii 512#32) 0#32) 0#32 = BitVec.ofBool (decide (((4 * (i : ℕ) + ((0 : Fin 4) : ℕ) : ℕ)) = 0)) := by
    rw [h.ii]; exact np0 i
  refine tile_is h 0 0 rfl b0 b1 h0 h1 _ e ?_ ?_ ?_ ?_ ?_ (b.tile0 b0 b1) ?_ ?_ ?_ ?_ ?_ ?_ ?_ ?_ ?_ ?_
  all_goals first | decide | simp only [Blk.tile0, Blk.t0]
theorem tile1_is (h : b.Is x i) (b0 b1 : Vec Ideal S1x512x256 .f32) (h0 : BiasIs 0 b0) (h1 : BiasIs 1 b1) : (b.tile1 b0 b1).Is x (nth i 1) (keysOf x i 1) (valsOf x i 1) := by
  have e : Scalar.cmpi .eq (Scalar.addi (Scalar.muli b.ii 512#32) 128#32) 0#32 = BitVec.ofBool (decide (((4 * (i : ℕ) + ((1 : Fin 4) : ℕ) : ℕ)) = 0)) := by
    rw [h.ii]; exact np1 i
  refine tile_is h 1 128 rfl b0 b1 h0 h1 _ e ?_ ?_ ?_ ?_ ?_ (b.tile1 b0 b1) ?_ ?_ ?_ ?_ ?_ ?_ ?_ ?_ ?_ ?_
  all_goals first | decide | simp only [Blk.tile1, Blk.t0]
theorem tile2_is (h : b.Is x i) (b0 b1 : Vec Ideal S1x512x256 .f32) (h0 : BiasIs 0 b0) (h1 : BiasIs 1 b1) : (b.tile2 b0 b1).Is x (nth i 2) (keysOf x i 2) (valsOf x i 2) := by
  have e : Scalar.cmpi .eq (Scalar.addi (Scalar.muli b.ii 512#32) 256#32) 0#32 = BitVec.ofBool (decide (((4 * (i : ℕ) + ((2 : Fin 4) : ℕ) : ℕ)) = 0)) := by
    rw [h.ii]; exact np2 i
  refine tile_is h 2 256 rfl b0 b1 h0 h1 _ e ?_ ?_ ?_ ?_ ?_ (b.tile2 b0 b1) ?_ ?_ ?_ ?_ ?_ ?_ ?_ ?_ ?_ ?_
  all_goals first | decide | simp only [Blk.tile2, Blk.t0]
theorem tile3_is (h : b.Is x i) (b0 b1 : Vec Ideal S1x512x256 .f32) (h0 : BiasIs 0 b0) (h1 : BiasIs 1 b1) : (b.tile3 b0 b1).Is x (nth i 3) (keysOf x i 3) (valsOf x i 3) := by
  have e : Scalar.cmpi .eq (Scalar.addi (Scalar.muli b.ii 512#32) 384#32) 0#32 = BitVec.ofBool (decide (((4 * (i : ℕ) + ((3 : Fin 4) : ℕ) : ℕ)) = 0)) := by
    rw [h.ii]; exact np3 i
  refine tile_is h 3 384 rfl b0 b1 h0 h1 _ e ?_ ?_ ?_ ?_ ?_ (b.tile3 b0 b1) ?_ ?_ ?_ ?_ ?_ ?_ ?_ ?_ ?_ ?_
  all_goals first | decide | simp only [Blk.tile3, Blk.t0]

/-- A group's rows, before and at the block. -/
theorem ext_at (h : b.Is x i) (k : Fin 4) (o : ℕ) (ho : o = 1280 + 128 * (k : ℕ))
    (i1 : ∀ a, (![112, o] : Fin 2 → ℕ) a + (![16, 128] : Fin 2 → ℕ) a ≤ S128x2304.size a) (i2 : ∀ a, (![0, o] : Fin 2 → ℕ) a + (![512, 128] : Fin 2 → ℕ) a ≤ S512x2304.size a)
    (r : Fin 528) (c : Fin 128) :
    b.ext (View.ld (Val := Elt Ideal) (e' := .f32) b.halo (Rect.unit (s := S128x2304) ![112, o] ![16, 128] i1)) (View.ld (Val := Elt Ideal) (e' := .f32) b.main (Rect.unit (s := S512x2304) ![0, o] ![512, 128] i2)) (ix2 r c)
      = (extf x i k r c : EReal) := by
  unfold Blk.ext extf
  rw [h.ii, Grp.zero_num, Host.sel]
  have hrow : ∀ (n : Fin 8192) (k' : Fin 2304), (k' : ℕ) = o + c → x.P n k' = x.pu n (grpCol k c) := fun n k' e => by
    unfold Inp.pu
    exact congrArg (x.P n) (Fin.ext (by show (k' : ℕ) = 1280 + ((k : ℕ) * 128 + (c : ℕ)); omega))
  have ht : ∀ (a : ℕ) (n : Fin 8192), a = n → tot (fun n => x.pu n (grpCol k c)) a = x.pu n (grpCol k c) := fun a n e => by rw [e]; exact tot_lt _ n
  have hle : o ≤ 1664 := by omega
  have low : (hr : ¬ (r : ℕ) < 16) → b.main (ix2 (⟨r - 16, by omega⟩ : Fin 512) (⟨o + (c : ℕ), by omega⟩ : Fin 2304))
      = ((if 16 ≤ 512 * (i : ℕ) + r then tot (fun n => x.pu n (grpCol k c)) (512 * i + r - 16) else 0 : ℝ) : EReal) := fun hr => by
    rw [if_pos (by omega), h.main, hrow _ _ rfl, ht _ (rowI i ⟨(r : ℕ) - 16, by omega⟩)]
    show 512 * (i : ℕ) + (r : ℕ) - 16 = 512 * (i : ℕ) + ((r : ℕ) - 16)
    omega
  by_cases hi : (i : ℕ) = 0
  · rw [if_pos hi]
    pointwise []
    split
    next hr =>
      rw [if_neg (by omega), EReal.coe_zero]
    next hr => exact low hr
  · rw [if_neg hi]
    pointwise []
    split
    next hr =>
      rw [if_pos (by omega), h.halo, hrow _ _ rfl, ht _ (haloRow i ⟨112 + (r : ℕ), by omega⟩)]
      show 512 * (i : ℕ) + (r : ℕ) - 16 = (if (i : ℕ) = 0 then 0 else 512 * (i : ℕ) - 128) + (112 + (r : ℕ))
      rw [if_neg hi]
      omega
    next hr => exact low hr

/-- A load of one matrix of four. -/
theorem ld3_at (X : Vec Ideal S4x128x128 .f32) (g : ℕ) (inb : ∀ a, (![g, 0, 0] : Fin 3 → ℕ) a + (![1, 128, 128] : Fin 3 → ℕ) a ≤ S4x128x128.size a) (k : Fin 4) (hk : (k : ℕ) = g) (u : Fin 1) (e c : Fin 128) :
    View.ld (Val := Elt Ideal) (e' := .f32) X (Rect.unit (s := S4x128x128) ![g, 0, 0] ![1, 128, 128] inb) (ix3 u e c) = X (ix3 k e c) := by
  refine View.ld_unit_apply_of (S := S4x128x128) X ![g, 0, 0] ![1, 128, 128] inb (ix3 u e c) (ix3 k e c) fun a => ?_
  match a with
  | ⟨0, _⟩ => show (k : ℕ) = g + u; omega
  | ⟨1, _⟩ => show (e : ℕ) = 0 + e; omega
  | ⟨2, _⟩ => show (c : ℕ) = 0 + c; omega

/-- A group. -/
theorem grp_is (h : b.Is x i) (k : Fin 4) (p : FVec Ideal S512x128 .bf16) (hp : ∀ r c, p (ix2 r c) = (x.pl k (rowI i r) c : EReal))
    (og : ℕ) (hg : og = 1792 + 128 * (k : ℕ)) (oc : ℕ) (hc : oc = 128 * (k : ℕ)) (om : ℕ) (hm : om = 512 + 128 * (k : ℕ))
    (i1 : ∀ a, (![0, og] : Fin 2 → ℕ) a + (![512, 128] : Fin 2 → ℕ) a ≤ S512x2304.size a) (i2 : ∀ a, (![(k : ℕ), 0, 0] : Fin 3 → ℕ) a + (![1, 128, 128] : Fin 3 → ℕ) a ≤ S4x128x128.size a)
    (i3 : ∀ a, (![0, oc] : Fin 2 → ℕ) a + (![1, 128] : Fin 2 → ℕ) a ≤ S1x512.size a)
    (i4 : ∀ a, (![0, om] : Fin 2 → ℕ) a + (![512, 128] : Fin 2 → ℕ) a ≤ S512x1024.size a) (i5 : ∀ a, (![0, om] : Fin 2 → ℕ) a + (![16, 128] : Fin 2 → ℕ) a ≤ S16x1024.size a)
    (i6 : ∀ a, (![0, og] : Fin 2 → ℕ) a + (![16, 128] : Fin 2 → ℕ) a ≤ S16x2304.size a)
    (T : Grp) (e0 : T.pooled = p) (e1 : T.gb = View.ld (Val := Elt Ideal) (e' := .f32) b.main (Rect.unit (s := S512x2304) ![0, og] ![512, 128] i1))
    (e2 : T.pw = View.ld (Val := Elt Ideal) (e' := .f32) b.pw (Rect.unit (s := S4x128x128) ![(k : ℕ), 0, 0] ![1, 128, 128] i2))
    (e3 : T.sc = View.ld (Val := Elt Ideal) (e' := .f32) b.ps (Rect.unit (s := S1x512) ![0, oc] ![1, 128] i3)) (e4 : T.dyb = b.dm om i4) (e5 : T.dyn = b.dmn om i5)
    (e6 : T.gn = View.ld (Val := Elt Ideal) (e' := .f32) b.next (Rect.unit (s := S16x2304) ![0, og] ![16, 128] i6)) : T.Is x i k := by
  constructor
  · rw [e0]; exact hp
  · intro r c
    rw [e1]
    refine (ld_at (N := 512) (M := 2304) _ i1 r c r (⟨og + (c : ℕ), by omega⟩ : Fin 2304) (by omega) rfl).trans ?_
    rw [h.main]
    unfold Inp.pgb
    exact congrArg (fun z => ((x.P (rowI i r) z : ℝ) : EReal)) (Fin.ext (by show og + (c : ℕ) = 1792 + ((k : ℕ) * 128 + (c : ℕ)); omega))
  · intro u e c
    rw [e2]
    exact (ld3_at _ _ i2 k rfl u e c).trans (h.pw k e c)
  · intro u c
    rw [e3]
    refine (ld_at (N := 1) (M := 512) _ i3 u c u (grpCol k c) (by omega) (by show (k : ℕ) * 128 + (c : ℕ) = oc + c; omega)).trans ?_
    exact h.ps _ _
  · intro r c
    rw [e4]
    exact dm_at h om i4 r c _ (by show 512 + ((k : ℕ) * 128 + (c : ℕ)) = om + c; omega)
  · intro r c
    rw [e5]
    exact dmn_at h om i5 r c _ (by show 512 + ((k : ℕ) * 128 + (c : ℕ)) = om + c; omega)
  · intro r c
    rw [e6]
    refine (ld_at (N := 16) (M := 2304) _ i6 r c r (⟨og + (c : ℕ), by omega⟩ : Fin 2304) (by omega) rfl).trans ?_
    rw [h.next]
    unfold Inp.pgb
    exact congrArg (fun z => ((x.P (nextRow i r) z : ℝ) : EReal)) (Fin.ext (by show og + (c : ℕ) = 1792 + ((k : ℕ) * 128 + (c : ℕ)); omega))

/-- The four groups and their rows' gradients. -/
theorem grp0_is (h : b.Is x i) : b.grp0.Is x i 0 := by
  have he : ∀ (r : Fin 528) (c : Fin 128), b.ext0 (ix2 r c) = (extf x i 0 r c : EReal) := fun r c => ext_at h 0 1280 rfl _ _ r c
  refine grp_is h 0 _ (pooled_at h 0 b.ext0 _ he (sums_down (sums_one 527 he) 1#32 (by decide))) 1792 rfl 0 rfl 512 rfl ?_ ?_ ?_ ?_ ?_ ?_ b.grp0 ?_ ?_ ?_ ?_ ?_ ?_ ?_
  all_goals first | decide | (simp only [Blk.grp0]; done) | skip
  · simp only [Blk.grp0]
    exact congrArg (fun z => b.pooled z b.ext0 _) (by decide)
  · rfl
theorem du0_at (h : b.Is x i) (r : Fin 512) (c : Fin 128) : b.du0 (ix2 r c) = (x.du (rowI i r) (grpCol 0 c) : EReal) := by
  unfold Blk.du0
  rw [h.ii]
  exact Grp.du_at (grp0_is h) _ (sums_down (sums_one 1 (Grp.dplc_at (grp0_is h))) 527#32 (by decide)) r c
theorem grp1_is (h : b.Is x i) : b.grp1.Is x i 1 := by
  have he : ∀ (r : Fin 528) (c : Fin 128), b.ext1 (ix2 r c) = (extf x i 1 r c : EReal) := fun r c => ext_at h 1 1408 rfl _ _ r c
  refine grp_is h 1 _ (pooled_at h 1 b.ext1 _ he (sums_down (sums_down (sums_one 527 he) 1#32 (by decide)) 2#32 (by decide))) 1920 rfl 128 rfl 640 rfl ?_ ?_ ?_ ?_ ?_ ?_ b.grp1 ?_ ?_ ?_ ?_ ?_ ?_ ?_
  all_goals first | decide | (simp only [Blk.grp1]; done) | skip
  · simp only [Blk.grp1]
    exact congrArg (fun z => b.pooled z b.ext1 _) (by decide)
  · rfl
theorem du1_at (h : b.Is x i) (r : Fin 512) (c : Fin 128) : b.du1 (ix2 r c) = (x.du (rowI i r) (grpCol 1 c) : EReal) := by
  unfold Blk.du1
  rw [h.ii]
  exact Grp.du_at (grp1_is h) _ (sums_down (sums_down (sums_one 1 (Grp.dplc_at (grp1_is h))) 527#32 (by decide)) 526#32 (by decide)) r c
theorem grp2_is (h : b.Is x i) : b.grp2.Is x i 2 := by
  have he : ∀ (r : Fin 528) (c : Fin 128), b.ext2 (ix2 r c) = (extf x i 2 r c : EReal) := fun r c => ext_at h 2 1536 rfl _ _ r c
  refine grp_is h 2 _ (pooled_at h 2 b.ext2 _ he (sums_down (sums_down (sums_down (sums_one 527 he) 1#32 (by decide)) 2#32 (by decide)) 4#32 (by decide))) 2048 rfl 256 rfl 768 rfl ?_ ?_ ?_ ?_ ?_ ?_ b.grp2 ?_ ?_ ?_ ?_ ?_ ?_ ?_
  all_goals first | decide | (simp only [Blk.grp2]; done) | skip
  · simp only [Blk.grp2]
    exact congrArg (fun z => b.pooled z b.ext2 _) (by decide)
  · rfl
theorem du2_at (h : b.Is x i) (r : Fin 512) (c : Fin 128) : b.du2 (ix2 r c) = (x.du (rowI i r) (grpCol 2 c) : EReal) := by
  unfold Blk.du2
  rw [h.ii]
  exact Grp.du_at (grp2_is h) _ (sums_down (sums_down (sums_down (sums_one 1 (Grp.dplc_at (grp2_is h))) 527#32 (by decide)) 526#32 (by decide)) 524#32 (by decide)) r c
theorem grp3_is (h : b.Is x i) : b.grp3.Is x i 3 := by
  have he : ∀ (r : Fin 528) (c : Fin 128), b.ext3 (ix2 r c) = (extf x i 3 r c : EReal) := fun r c => ext_at h 3 1664 rfl _ _ r c
  refine grp_is h 3 _ (pooled_at h 3 b.ext3 _ he (sums_down (sums_down (sums_down (sums_down (sums_one 527 he) 1#32 (by decide)) 2#32 (by decide)) 4#32 (by decide)) 8#32 (by decide))) 2176 rfl 384 rfl 896 rfl ?_ ?_ ?_ ?_ ?_ ?_ b.grp3 ?_ ?_ ?_ ?_ ?_ ?_ ?_
  all_goals first | decide | (simp only [Blk.grp3]; done) | skip
  · simp only [Blk.grp3]
    exact congrArg (fun z => b.pooled z b.ext3 _) (by decide)
  · rfl
theorem du3_at (h : b.Is x i) (r : Fin 512) (c : Fin 128) : b.du3 (ix2 r c) = (x.du (rowI i r) (grpCol 3 c) : EReal) := by
  unfold Blk.du3
  rw [h.ii]
  exact Grp.du_at (grp3_is h) _ (sums_down (sums_down (sums_down (sums_down (sums_one 1 (Grp.dplc_at (grp3_is h))) 527#32 (by decide)) 526#32 (by decide)) 524#32 (by decide)) 520#32 (by decide)) r c

end Blk

end Cert.Proof.Mx.Point
end
-- ==== Proof.MxMem.lean ====
/- What a grid point's stored lists hold: the rows' gradients, the sums and the part carried on. -/
module

public import proofs.«01_k».proof.Proof.MxParts

@[expose] public section

set_option maxRecDepth 16384

noncomputable section

open Idealize.ShloMosaic Idealize.ShloMosaic.TcCoe Idealize.SL.Sem

namespace Cert.Proof.Mx.Point

open Cert.MxKernelIdeal Cert.MxKernelIdeal.Gen Cert.Proof.RealLift Cert.Proof.Norm Cert.Proof.Mx.Host

/-! ## The keys' and values' gradients -/

namespace Blk

theorem put_in (r : ℕ) (h : ∀ a, (![r, 0] : Fin 2 → ℕ) a + (![256, 256] : Fin 2 → ℕ) a ≤ S640x256.size a) (x : FVec Ideal S256x256 .f32)
    (L : List (View.Piece (Elt Ideal) S640x256 .f32)) (s : Fin 640) (c q : Fin 256) (hs : (s : ℕ) = r + q) :
    View.canon (Val := Elt Ideal) (dkvPut r h x L) (ix2 s c) = View.canon (Val := Elt Ideal) L (ix2 s c) + x (ix2 q c) := by
  unfold Blk.dkvPut
  refine (canon_in (N := 640) (M := 256) h _ L s c q c hs (by omega)).trans ?_
  refine (congrFun (shapeCast_self (s := S256x256) _ _) _).trans ?_
  exact congrArg (fun z => z + x (ix2 q c)) (cov_at (N := 640) (M := 256) dkvV h L q c s c hs (by omega))
theorem put_out (r : ℕ) (h : ∀ a, (![r, 0] : Fin 2 → ℕ) a + (![256, 256] : Fin 2 → ℕ) a ≤ S640x256.size a) (x : FVec Ideal S256x256 .f32)
    (L : List (View.Piece (Elt Ideal) S640x256 .f32)) (s : Fin 640) (c : Fin 256) (hs : (s : ℕ) < r ∨ r + 256 ≤ s) :
    View.canon (Val := Elt Ideal) (dkvPut r h x L) (ix2 s c) = View.canon (Val := Elt Ideal) L (ix2 s c) := by
  unfold Blk.dkvPut
  exact canon_out (N := 640) (M := 256) h _ L s c (by omega)

theorem base_low (carry : Vec Ideal S128x256 .f32) (s : Fin 640) (c : Fin 256) (hs : (s : ℕ) < 512) : View.canon (Val := Elt Ideal) (dkvL0 carry) (ix2 s c) = 0 := by
  unfold Blk.dkvL0
  refine (canon_out (N := 640) (M := 256) _ _ _ s c (by omega)).trans ?_
  refine (canon_in (N := 640) (M := 256) _ _ _ s c (⟨s, hs⟩ : Fin 512) c (by show (s : ℕ) = 0 + s; omega) (by omega)).trans ?_
  refine (congrFun (shapeCast_self (s := S512x256) _ _) _).trans ?_
  pointwise []
theorem base_high (carry : Vec Ideal S128x256 .f32) (s : Fin 640) (c : Fin 256) (q : Fin 128) (hs : (s : ℕ) = 512 + q) :
    View.canon (Val := Elt Ideal) (dkvL0 carry) (ix2 s c) = carry (ix2 q c) := by
  unfold Blk.dkvL0
  refine (canon_in (N := 640) (M := 256) _ _ _ s c q c hs (by omega)).trans ?_
  exact congrFun (shapeCast_self (s := S128x256) _ _) _

variable {b : Blk} {x : Inp} {i : Fin 16} {b0 b1 : Vec Ideal S1x512x256 .f32} {carry : Vec Ideal S128x256 .f32}

/-- The part carried to the block before. -/
theorem carryOut_at (h : b.Is x i) (h0 : BiasIs 0 b0) (h1 : BiasIs 1 b1) (q : Fin 128) (c : Fin 256) :
    b.carryOut b0 b1 carry (ix2 q c) = (Tile.add x (nth i 0) ⟨q, by omega⟩ c : EReal) := by
  unfold Blk.carryOut
  refine (congrFun (shapeCast_self (s := S128x256) _ _) _).trans ?_
  have hs : (((⟨q, by omega⟩ : Fin 640)) : ℕ) = 0 + (q : ℕ) := by show (q : ℕ) = 0 + q; omega
  refine (cov_at (N := 640) (M := 256) dkvV _ _ q c (⟨q, by omega⟩ : Fin 640) c hs (by omega)).trans ?_
  unfold Blk.dkvL
  refine (put_out _ _ _ _ _ _ (by show (q : ℕ) < 384 ∨ _; omega)).trans ((put_out _ _ _ _ _ _ (by show (q : ℕ) < 256 ∨ _; omega)).trans
    ((put_out _ _ _ _ _ _ (by show (q : ℕ) < 128 ∨ _; omega)).trans ((put_in _ _ _ _ _ c (⟨q, by omega⟩ : Fin 256) hs).trans ?_)))
  rw [base_low _ _ _ (by show (q : ℕ) < 512; omega), Tile.dkv_at (tile0_is h b0 b1 h0 h1), zero_add]

/-- A key row's gradient and a value row's side by side. -/
def kvGrad (x : Inp) (r : Fin 8192) (c : Fin 256) : ℝ := if h : (c : ℕ) < 128 then x.dk r ⟨c, h⟩ else x.dv r ⟨c - 128, by omega⟩
theorem kvGrad_eq (n : Fin 64) (q : Fin 128) (c : Fin 256) : kvGrad x (rowOf n q) c
    = Tile.add x n ⟨128 + (q : ℕ), by omega⟩ c + if h : (n : ℕ) + 1 < 64 then Tile.add x ⟨n + 1, h⟩ ⟨q, by omega⟩ c else 0 := by
  unfold kvGrad Tile.add
  split <;> simp only [Inp.dk, Inp.dv, Inp.both, blkOf_rowOf, inBlk_rowOf]

/-- What the block after carried. -/
def CarryIs (x : Inp) (i : Fin 16) (carry : Vec Ideal S128x256 .f32) : Prop := ∀ (q : Fin 128) (c : Fin 256),
  carry (ix2 q c) = ((if h : (nth i 3 : ℕ) + 1 < 64 then Tile.add x ⟨nth i 3 + 1, h⟩ ⟨q, by omega⟩ c else 0 : ℝ) : EReal)

/-- The keys' and values' gradients of the block's rows. -/
theorem dkvOut_at (h : b.Is x i) (h0 : BiasIs 0 b0) (h1 : BiasIs 1 b1) (hc : CarryIs x i carry) (r : Fin 512) (c : Fin 256) :
    b.dkvOut b0 b1 carry (ix2 r c) = (kvGrad x (rowI i r) c : EReal) := by
  unfold Blk.dkvOut
  refine (cov_at (N := 640) (M := 256) dkvV _ _ r c (⟨128 + (r : ℕ), by omega⟩ : Fin 640) c rfl (by omega)).trans ?_
  unfold Blk.dkvL
  have next (j : Fin 4) (j' : Fin 4) (hj : (j' : ℕ) = j + 1) : nth i j' = ⟨(nth i j : ℕ) + 1, by show 4 * (i : ℕ) + (j : ℕ) + 1 < 64; omega⟩ :=
    Fin.ext (by show 4 * (i : ℕ) + (j' : ℕ) = 4 * (i : ℕ) + j + 1; omega)
  have two (j j' : Fin 4) (hj : (j' : ℕ) = j + 1) (q : Fin 128) (hq : (r : ℕ) = 128 * (j : ℕ) + q) :
      (0 : EReal) + (Tile.add x (nth i j) ⟨128 + (q : ℕ), by omega⟩ c : EReal) + (Tile.add x (nth i j') ⟨q, by omega⟩ c : EReal) = (kvGrad x (rowI i r) c : EReal) := by
    rw [rowOf_nth i j q r hq, kvGrad_eq, dif_pos (by show 4 * (i : ℕ) + (j : ℕ) + 1 < 64; omega), next j j' hj, zero_add, EReal.coe_add]
  have t0 := Tile.dkv_at (tile0_is h b0 b1 h0 h1)
  have t1 := Tile.dkv_at (tile1_is h b0 b1 h0 h1)
  have t2 := Tile.dkv_at (tile2_is h b0 b1 h0 h1)
  have t3 := Tile.dkv_at (tile3_is h b0 b1 h0 h1)
  by_cases c0 : (r : ℕ) < 128
  · refine (put_out _ _ _ _ _ _ (by show 128 + (r : ℕ) < 384 ∨ _; omega)).trans ((put_out _ _ _ _ _ _ (by show 128 + (r : ℕ) < 256 ∨ _; omega)).trans
      ((put_in _ _ _ _ _ c (⟨r, by omega⟩ : Fin 256) rfl).trans ?_))
    rw [put_in 0 _ _ _ _ c (⟨128 + (r : ℕ), by omega⟩ : Fin 256) (by show 128 + (r : ℕ) = 0 + (128 + r); omega), base_low _ _ _ (by show 128 + (r : ℕ) < 512; omega), t0, t1]
    exact two 0 1 rfl ⟨r, c0⟩ (by show (r : ℕ) = 128 * 0 + r; omega)
  · by_cases c1 : (r : ℕ) < 256
    · refine (put_out _ _ _ _ _ _ (by show 128 + (r : ℕ) < 384 ∨ _; omega)).trans ((put_in _ _ _ _ _ c (⟨r - 128, by omega⟩ : Fin 256) (by show 128 + (r : ℕ) = 256 + (r - 128); omega)).trans ?_)
      rw [put_in 128 _ _ _ _ c (⟨r, by omega⟩ : Fin 256) rfl, put_out 0 _ _ _ _ _ (by show _ ∨ 0 + 256 ≤ 128 + (r : ℕ); omega), base_low _ _ _ (by show 128 + (r : ℕ) < 512; omega), t1, t2]
      exact (congrArg (fun z : Fin 256 => (0 : EReal) + (Tile.add x (nth i 1) z c : EReal) + _) (Fin.ext (by show (r : ℕ) = 128 + (r - 128); omega))).trans
        (two 1 2 rfl ⟨r - 128, by omega⟩ (by show (r : ℕ) = 128 * 1 + (r - 128); omega))
    · by_cases c2 : (r : ℕ) < 384
      · refine (put_in _ _ _ _ _ c (⟨r - 256, by omega⟩ : Fin 256) (by show 128 + (r : ℕ) = 384 + (r - 256); omega)).trans ?_
        rw [put_in 256 _ _ _ _ c (⟨r - 128, by omega⟩ : Fin 256) (by show 128 + (r : ℕ) = 256 + (r - 128); omega), put_out 128 _ _ _ _ _ (by show _ ∨ 128 + 256 ≤ 128 + (r : ℕ); omega),
          put_out 0 _ _ _ _ _ (by show _ ∨ 0 + 256 ≤ 128 + (r : ℕ); omega), base_low _ _ _ (by show 128 + (r : ℕ) < 512; omega), t2, t3]
        exact (congrArg (fun z : Fin 256 => (0 : EReal) + (Tile.add x (nth i 2) z c : EReal) + _) (Fin.ext (by show (r : ℕ) - 128 = 128 + (r - 256); omega))).trans
          (two 2 3 rfl ⟨r - 256, by omega⟩ (by show (r : ℕ) = 128 * 2 + (r - 256); omega))
      · refine (put_in _ _ _ _ _ c (⟨r - 256, by omega⟩ : Fin 256) (by show 128 + (r : ℕ) = 384 + (r - 256); omega)).trans ?_
        rw [put_out 256 _ _ _ _ _ (by show _ ∨ 256 + 256 ≤ 128 + (r : ℕ); omega), put_out 128 _ _ _ _ _ (by show _ ∨ 128 + 256 ≤ 128 + (r : ℕ); omega),
          put_out 0 _ _ _ _ _ (by show _ ∨ 0 + 256 ≤ 128 + (r : ℕ); omega), base_high _ _ _ (⟨r - 384, by omega⟩ : Fin 128) (by show 128 + (r : ℕ) = 512 + (r - 384); omega), t3, hc]
        rw [rowOf_nth i 3 ⟨r - 384, by omega⟩ r (by show (r : ℕ) = 128 * 3 + (r - 384); omega), kvGrad_eq, ← EReal.coe_add, add_comm]
        exact congrArg (fun z : Fin 256 => ((Tile.add x (nth i 3) z c + _ : ℝ) : EReal)) (Fin.ext (by show (r : ℕ) - 256 = 128 + (r - 384); omega))

/-! ## The rows' gradients -/

theorem dproj_q (R : Fin 8192) (c : Fin 2304) (k : Fin 512) (hc : (c : ℕ) = k) : x.dproj R c = x.dq R k := by
  have e : (⟨(c : ℕ), by omega⟩ : Fin 512) = k := Fin.ext hc
  unfold Inp.dproj; rw [dif_pos (by omega), e]
theorem dproj_kv (R : Fin 8192) (c : Fin 2304) (k : Fin 256) (hc : (c : ℕ) = 512 + k) : x.dproj R c = kvGrad x R k := by
  unfold Inp.dproj kvGrad
  rw [dif_neg (by omega)]
  by_cases h : (k : ℕ) < 128
  · rw [dif_pos (by omega), dif_pos h]; exact congrArg (x.dk R) (Fin.ext (by show (c : ℕ) - 512 = k; omega))
  · rw [dif_neg (by omega), dif_pos (by omega), dif_neg h]; exact congrArg (x.dv R) (Fin.ext (by show (c : ℕ) - 640 = k - 128; omega))
theorem dproj_ga (R : Fin 8192) (c : Fin 2304) (k : Fin 512) (hc : (c : ℕ) = 768 + k) : x.dproj R c = x.dga R k := by
  unfold Inp.dproj
  rw [dif_neg (by omega), dif_neg (by omega), dif_neg (by omega), dif_pos (by omega)]
  exact congrArg (x.dga R) (Fin.ext (by show (c : ℕ) - 768 = k; omega))
theorem dproj_u (R : Fin 8192) (c : Fin 2304) (g : Fin 4) (e : Fin 128) (hc : (c : ℕ) = 1280 + 128 * (g : ℕ) + e) : x.dproj R c = x.du R (grpCol g e) := by
  unfold Inp.dproj
  rw [dif_neg (by omega), dif_neg (by omega), dif_neg (by omega), dif_neg (by omega), dif_pos (by omega)]
  exact congrArg (x.du R) (Fin.ext (by show (c : ℕ) - 1280 = g * 128 + e; omega))
theorem dproj_gb (R : Fin 8192) (c : Fin 2304) (g : Fin 4) (e : Fin 128) (hc : (c : ℕ) = 1792 + 128 * (g : ℕ) + e) : x.dproj R c = x.dgb R (grpCol g e) := by
  unfold Inp.dproj
  rw [dif_neg (by omega), dif_neg (by omega), dif_neg (by omega), dif_neg (by omega), dif_neg (by omega)]
  exact congrArg (x.dgb R) (Fin.ext (by show (c : ℕ) - 1792 = g * 128 + e; omega))

set_option maxHeartbeats 2000000 in
/-- The rows' gradients a point writes. -/
theorem dprojL_at (h : b.Is x i) (h0 : BiasIs 0 b0) (h1 : BiasIs 1 b1) (hc : CarryIs x i carry) (r : Fin 512) (c : Fin 2304) :
    View.canon (Val := Elt Ideal) (s := S512x2304) (e := .bf16) (b.dprojL b0 b1 carry) (ix2 r c) = (x.dproj (rowI i r) c : EReal) := by
  have q (T : Tile) (j : Fin 4) (hT : T.Is x (nth i j) (keysOf x i j) (valsOf x i j)) (k : Fin 512) (e : (c : ℕ) = k) (s : Fin 128) (hs : (r : ℕ) = 128 * (j : ℕ) + s) :
      T.dqs (ix2 s k) = (x.dproj (rowI i r) c : EReal) := by
    rw [Tile.dqs_at hT, dproj_q _ c k e, rowOf_nth i j s r hs]
  have ga (T : Tile) (j : Fin 4) (hT : T.Is x (nth i j) (keysOf x i j) (valsOf x i j)) (k : Fin 512) (e : (c : ℕ) = 768 + k) (s : Fin 128) (hs : (r : ℕ) = 128 * (j : ℕ) + s) :
      T.dga (ix2 s k) = (x.dproj (rowI i r) c : EReal) := by
    rw [Tile.dga_at hT, dproj_ga _ c k e, rowOf_nth i j s r hs]
  unfold Blk.dprojL
  by_cases k0 : (c : ℕ) < 512
  · iterate 9 refine (canon_out (N := 512) (M := 2304) _ _ _ r c (by omega)).trans ?_
    by_cases c0 : (r : ℕ) < 128
    · iterate 7 refine (canon_out (N := 512) (M := 2304) _ _ _ r c (by omega)).trans ?_
      exact (canon_in (N := 512) (M := 2304) _ _ _ r c (⟨r, c0⟩ : Fin 128) (⟨c, k0⟩ : Fin 512) (by show (r : ℕ) = 0 + r; omega) (by show (c : ℕ) = 0 + c; omega)).trans
        (q _ 0 (tile0_is h b0 b1 h0 h1) _ rfl _ (by show (r : ℕ) = 128 * 0 + r; omega))
    by_cases c1 : (r : ℕ) < 256
    · iterate 5 refine (canon_out (N := 512) (M := 2304) _ _ _ r c (by omega)).trans ?_
      exact (canon_in (N := 512) (M := 2304) _ _ _ r c (⟨r - 128, by omega⟩ : Fin 128) (⟨c, k0⟩ : Fin 512) (by show (r : ℕ) = 128 + (r - 128); omega) (by show (c : ℕ) = 0 + c; omega)).trans
        (q _ 1 (tile1_is h b0 b1 h0 h1) _ rfl _ (by show (r : ℕ) = 128 * 1 + (r - 128); omega))
    by_cases c2 : (r : ℕ) < 384
    · iterate 3 refine (canon_out (N := 512) (M := 2304) _ _ _ r c (by omega)).trans ?_
      exact (canon_in (N := 512) (M := 2304) _ _ _ r c (⟨r - 256, by omega⟩ : Fin 128) (⟨c, k0⟩ : Fin 512) (by show (r : ℕ) = 256 + (r - 256); omega) (by show (c : ℕ) = 0 + c; omega)).trans
        (q _ 2 (tile2_is h b0 b1 h0 h1) _ rfl _ (by show (r : ℕ) = 128 * 2 + (r - 256); omega))
    · refine (canon_out (N := 512) (M := 2304) _ _ _ r c (by omega)).trans ?_
      exact (canon_in (N := 512) (M := 2304) _ _ _ r c (⟨r - 384, by omega⟩ : Fin 128) (⟨c, k0⟩ : Fin 512) (by show (r : ℕ) = 384 + (r - 384); omega) (by show (c : ℕ) = 0 + c; omega)).trans
        (q _ 3 (tile3_is h b0 b1 h0 h1) _ rfl _ (by show (r : ℕ) = 128 * 3 + (r - 384); omega))
  by_cases k1 : (c : ℕ) < 768
  · iterate 8 refine (canon_out (N := 512) (M := 2304) _ _ _ r c (by omega)).trans ?_
    exact (canon_in (N := 512) (M := 2304) _ _ _ r c r (⟨c - 512, by omega⟩ : Fin 256) (by omega) (by show (c : ℕ) = 512 + (c - 512); omega)).trans
      ((dkvOut_at h h0 h1 hc r _).trans (congrArg (fun z : ℝ => (z : EReal)) (dproj_kv _ c _ (by show (c : ℕ) = 512 + (c - 512); omega)).symm))
  by_cases k2 : (c : ℕ) < 1280
  · have hk : (c : ℕ) = 768 + ((⟨c - 768, by omega⟩ : Fin 512) : ℕ) := by show (c : ℕ) = 768 + (c - 768); omega
    iterate 9 refine (canon_out (N := 512) (M := 2304) _ _ _ r c (by omega)).trans ?_
    by_cases c0 : (r : ℕ) < 128
    · iterate 6 refine (canon_out (N := 512) (M := 2304) _ _ _ r c (by omega)).trans ?_
      exact (canon_in (N := 512) (M := 2304) _ _ _ r c (⟨r, c0⟩ : Fin 128) _ (by show (r : ℕ) = 0 + r; omega) hk).trans
        (ga _ 0 (tile0_is h b0 b1 h0 h1) _ hk _ (by show (r : ℕ) = 128 * 0 + r; omega))
    by_cases c1 : (r : ℕ) < 256
    · iterate 4 refine (canon_out (N := 512) (M := 2304) _ _ _ r c (by omega)).trans ?_
      exact (canon_in (N := 512) (M := 2304) _ _ _ r c (⟨r - 128, by omega⟩ : Fin 128) _ (by show (r : ℕ) = 128 + (r - 128); omega) hk).trans
        (ga _ 1 (tile1_is h b0 b1 h0 h1) _ hk _ (by show (r : ℕ) = 128 * 1 + (r - 128); omega))
    by_cases c2 : (r : ℕ) < 384
    · iterate 2 refine (canon_out (N := 512) (M := 2304) _ _ _ r c (by omega)).trans ?_
      exact (canon_in (N := 512) (M := 2304) _ _ _ r c (⟨r - 256, by omega⟩ : Fin 128) _ (by show (r : ℕ) = 256 + (r - 256); omega) hk).trans
        (ga _ 2 (tile2_is h b0 b1 h0 h1) _ hk _ (by show (r : ℕ) = 128 * 2 + (r - 256); omega))
    · exact (canon_in (N := 512) (M := 2304) _ _ _ r c (⟨r - 384, by omega⟩ : Fin 128) _ (by show (r : ℕ) = 384 + (r - 384); omega) hk).trans
        (ga _ 3 (tile3_is h b0 b1 h0 h1) _ hk _ (by show (r : ℕ) = 128 * 3 + (r - 384); omega))
  have u (g : Fin 4) (e : Fin 128) (k : (c : ℕ) = 1280 + 128 * (g : ℕ) + e) : ((x.du (rowI i r) (grpCol g e) : ℝ) : EReal) = (x.dproj (rowI i r) c : EReal) := by rw [dproj_u _ c g e k]
  have gb (g : Fin 4) (e : Fin 128) (k : (c : ℕ) = 1792 + 128 * (g : ℕ) + e) : ((x.dgb (rowI i r) (grpCol g e) : ℝ) : EReal) = (x.dproj (rowI i r) c : EReal) := by rw [dproj_gb _ c g e k]
  have o (n : ℕ) (hn : n ≤ c) (hl : (c : ℕ) < n + 128) : (c : ℕ) = n + ((⟨c - n, by omega⟩ : Fin 128) : ℕ) := by show (c : ℕ) = n + (c - n); omega
  by_cases k3 : (c : ℕ) < 1408
  · iterate 6 refine (canon_out (N := 512) (M := 2304) _ _ _ r c (by omega)).trans ?_
    exact (canon_in (N := 512) (M := 2304) _ _ _ r c r _ (by omega) (o 1280 (by omega) (by omega))).trans ((du0_at h r _).trans (u 0 _ (o 1280 (by omega) (by omega))))
  by_cases k4 : (c : ℕ) < 1536
  · iterate 4 refine (canon_out (N := 512) (M := 2304) _ _ _ r c (by omega)).trans ?_
    exact (canon_in (N := 512) (M := 2304) _ _ _ r c r _ (by omega) (o 1408 (by omega) (by omega))).trans ((du1_at h r _).trans (u 1 _ (o 1408 (by omega) (by omega))))
  by_cases k5 : (c : ℕ) < 1664
  · iterate 2 refine (canon_out (N := 512) (M := 2304) _ _ _ r c (by omega)).trans ?_
    exact (canon_in (N := 512) (M := 2304) _ _ _ r c r _ (by omega) (o 1536 (by omega) (by omega))).trans ((du2_at h r _).trans (u 2 _ (o 1536 (by omega) (by omega))))
  by_cases k6 : (c : ℕ) < 1792
  · exact (canon_in (N := 512) (M := 2304) _ _ _ r c r _ (by omega) (o 1664 (by omega) (by omega))).trans ((du3_at h r _).trans (u 3 _ (o 1664 (by omega) (by omega))))
  by_cases k7 : (c : ℕ) < 1920
  · iterate 7 refine (canon_out (N := 512) (M := 2304) _ _ _ r c (by omega)).trans ?_
    exact (canon_in (N := 512) (M := 2304) _ _ _ r c r _ (by omega) (o 1792 (by omega) (by omega))).trans ((Grp.dgb_at (grp0_is h) r _).trans (gb 0 _ (o 1792 (by omega) (by omega))))
  by_cases k8 : (c : ℕ) < 2048
  · iterate 5 refine (canon_out (N := 512) (M := 2304) _ _ _ r c (by omega)).trans ?_
    exact (canon_in (N := 512) (M := 2304) _ _ _ r c r _ (by omega) (o 1920 (by omega) (by omega))).trans ((Grp.dgb_at (grp1_is h) r _).trans (gb 1 _ (o 1920 (by omega) (by omega))))
  by_cases k9 : (c : ℕ) < 2176
  · iterate 3 refine (canon_out (N := 512) (M := 2304) _ _ _ r c (by omega)).trans ?_
    exact (canon_in (N := 512) (M := 2304) _ _ _ r c r _ (by omega) (o 2048 (by omega) (by omega))).trans ((Grp.dgb_at (grp2_is h) r _).trans (gb 2 _ (o 2048 (by omega) (by omega))))
  · refine (canon_out (N := 512) (M := 2304) _ _ _ r c (by omega)).trans ?_
    exact (canon_in (N := 512) (M := 2304) _ _ _ r c r _ (by omega) (o 2176 (by omega) (by omega))).trans ((Grp.dgb_at (grp3_is h) r _).trans (gb 3 _ (o 2176 (by omega) (by omega))))

end Blk

end Cert.Proof.Mx.Point
end
-- ==== Proof.MxSums.lean ====
/- What a grid point adds to the sums it keeps, and the scores' bias it reads back. -/
module

public import proofs.«01_k».proof.Proof.MxMem
public import proofs.«01_k».proof.Proof.MxMask

@[expose] public section

set_option maxRecDepth 16384

noncomputable section

open Idealize.ShloMosaic Idealize.ShloMosaic.TcCoe Idealize.SL.Sem

namespace Cert.Proof.Mx.Point

open Cert.MxKernelIdeal Cert.MxKernelIdeal.Gen Cert.Proof.RealLift Cert.Proof.Norm Cert.Proof.Mx.Host
open Cert.Proof.Mx.Body (rq rg)

/-! ## The sums start at zero -/

theorem zero24 (u : Fin 1) (c : Fin 512) : (k0_pay24 : FVec Ideal S1x512 .f32) (ix2 u c) = 0 := by pointwise [k0_pay24]
theorem zero23 (u : Fin 512) (c : Fin 128) : (k0_pay23 : FVec Ideal S512x128 .f32) (ix2 u c) = 0 := by pointwise [k0_pay23]
theorem zero22 (u : Fin 8) (c : Fin 128) : (k0_pay22 : FVec Ideal S8x128 .f32) (ix2 u c) = 0 := by pointwise [k0_pay22]
theorem zero25 (u : Fin 128) (c : Fin 256) : (k0_pay25 : FVec Ideal S128x256 .f32) (ix2 u c) = 0 := by pointwise [k0_pay25]
theorem zero29 (u c : Fin 1024) : (k0_pay29 : FVec Ideal S1024x1024 .f32) (ix2 u c) = 0 := by pointwise [k0_pay29]
theorem zero30 (u : Fin 1) (c : Fin 1024) : (k0_pay30 : FVec Ideal S1x1024 .f32) (ix2 u c) = 0 := by pointwise [k0_pay30]

/-- What a whole rectangle holds, read back. -/
theorem whole_at {N M : ℕ} {e : EltTy} (inb : ∀ a, (![0, 0] : Fin 2 → ℕ) a + (![N, M] : Fin 2 → ℕ) a ≤ (⟨2, ![N, M]⟩ : Shape).size a)
    (w : (⟨2, ![N, M]⟩ : Shape).Idx → Elt Ideal e) (L : List (View.Piece (Elt Ideal) ⟨2, ![N, M]⟩ e)) (r : Fin N) (c : Fin M) :
    View.canon (Val := Elt Ideal) (⟨Rect.unit (s := ⟨2, ![N, M]⟩) ![0, 0] ![N, M] inb, w⟩ :: L) (ix2 r c) = w (ix2 r c) :=
  canon_in inb w L r c r c (by omega) (by omega)

theorem carryA_at (q : Fin 128) (c : Fin 256) : carryA (ix2 q c) = 0 := by
  unfold carryA
  exact (cov_at (N := 128) (M := 256) cV _ _ q c q c (by omega) (by omega)).trans ((whole_at (N := 128) (M := 256) _ _ _ q c).trans (zero25 q c))
theorem dwoA_at (r c : Fin 1024) : dwoA (ix2 r c) = 0 := by
  unfold dwoA
  refine (cov_at (N := 1024) (M := 1024) wV _ _ r c r c (by omega) (by omega)).trans ?_
  refine (canon_in (N := 1024) (M := 1024) _ _ _ r c r c (by omega) (by omega)).trans ?_
  generalize hk : (k0_pay29 : FVec Ideal S1024x1024 .f32) = w
  have := zero29 r c
  rw [hk] at this
  exact this
theorem dpoA_at (V : View Cert.MxKernelIdeal.sig (Proc.kind (τ := τ) Proc.tc) Space.vmem S1x1024 .f32) (u : Fin 1) (c : Fin 1024) : dpoA V (ix2 u c) = 0 := by
  unfold dpoA
  exact (cov_at (N := 1) (M := 1024) V _ _ u c u c (by omega) (by omega)).trans ((whole_at (N := 1) (M := 1024) _ _ _ u c).trans (zero30 u c))
theorem dwo16_at (x : FVec Ideal S1024x1024 .f32) (r c : Fin 1024) : dwo16 x (ix2 r c) = x (ix2 r c) := by
  have key : ∀ y : FVec Ideal S1024x1024 .f32, truncf .bf16 y bitsLt_bf16_f32 (ix2 r c) = y (ix2 r c) := fun _ => rfl
  unfold dwo16
  rw [key]
  refine (cov_at (N := 1024) (M := 1024) wV _ _ r c r c (by omega) (by omega)).trans ?_
  exact canon_in (N := 1024) (M := 1024) _ _ _ r c r c (by omega) (by omega)

namespace Blk
variable {b : Blk} {x : Inp} {i : Fin 16}

/-! ## The pooling scales' sums -/

/-- What a block adds to a pooling scale's gradient. -/
def psPart (x : Inp) (i : Fin 16) (c : Fin 512) : ℝ := ∑ r : Fin 512, x.dyp (rowI i r) c * x.yraw (rowI i r) c

theorem dpsPut_in (V : View Cert.MxKernelIdeal.sig (Proc.kind (τ := τ) Proc.tc) Space.vmem S1x512 .f32) (g : Grp) (k : Fin 4) (hg : g.Is x i k) (o : ℕ) (ho : o = 128 * (k : ℕ))
    (h : ∀ a, (![0, o] : Fin 2 → ℕ) a + (![1, 128] : Fin 2 → ℕ) a ≤ S1x512.size a) (L : List (View.Piece (Elt Ideal) S1x512 .f32)) (u : Fin 1) (c : Fin 512)
    (h0 : o ≤ c) (h1 : (c : ℕ) < o + 128) : View.canon (Val := Elt Ideal) (dpsPut V g o h L) (ix2 u c) = View.canon (Val := Elt Ideal) L (ix2 u c) + (psPart x i c : EReal) := by
  have hc : (c : ℕ) = o + ((⟨c - o, by omega⟩ : Fin 128) : ℕ) := by show (c : ℕ) = o + (c - o); omega
  have e : grpCol k (⟨c - o, by omega⟩ : Fin 128) = c := Fin.ext (by show (k : ℕ) * 128 + (c - o) = c; omega)
  unfold Blk.dpsPut
  refine (canon_in (N := 1) (M := 512) h _ L u c u _ (by omega) hc).trans ?_
  rw [Grp.dps_at hg, cov_at (N := 1) (M := 512) V h L u _ u c (by omega) hc, e]
  rfl
theorem dpsPut_out (V : View Cert.MxKernelIdeal.sig (Proc.kind (τ := τ) Proc.tc) Space.vmem S1x512 .f32) (g : Grp) (o : ℕ)
    (h : ∀ a, (![0, o] : Fin 2 → ℕ) a + (![1, 128] : Fin 2 → ℕ) a ≤ S1x512.size a) (L : List (View.Piece (Elt Ideal) S1x512 .f32)) (u : Fin 1) (c : Fin 512)
    (h0 : (c : ℕ) < o ∨ o + 128 ≤ c) : View.canon (Val := Elt Ideal) (dpsPut V g o h L) (ix2 u c) = View.canon (Val := Elt Ideal) L (ix2 u c) := by
  unfold Blk.dpsPut
  exact canon_out (N := 1) (M := 512) h _ L u c (by omega)

/-- The first point's. -/
theorem dpsLA_at (h : b.Is x i) (V : View Cert.MxKernelIdeal.sig (Proc.kind (τ := τ) Proc.tc) Space.vmem S1x512 .f32) (u : Fin 1) (c : Fin 512) :
    View.canon (Val := Elt Ideal) (b.dpsLA V) (ix2 u c) = 0 + (psPart x i c : EReal) := by
  unfold Blk.dpsLA
  have z := (whole_at (N := 1) (M := 512) (e := .f32) (by decide) (k0_pay24 : FVec Ideal S1x512 .f32) [] u c).trans (zero24 u c)
  by_cases c0 : (c : ℕ) < 128
  · rw [dpsPut_out _ _ 384 _ _ u c (by omega), dpsPut_out _ _ 256 _ _ u c (by omega), dpsPut_out _ _ 128 _ _ u c (by omega), dpsPut_in _ _ 0 (grp0_is h) 0 rfl _ _ u c (by omega) (by omega)]
    exact congrArg (fun w => w + (psPart x i c : EReal)) z
  by_cases c1 : (c : ℕ) < 256
  · rw [dpsPut_out _ _ 384 _ _ u c (by omega), dpsPut_out _ _ 256 _ _ u c (by omega), dpsPut_in _ _ 1 (grp1_is h) 128 rfl _ _ u c (by omega) (by omega), dpsPut_out _ _ 0 _ _ u c (by omega)]
    exact congrArg (fun w => w + (psPart x i c : EReal)) z
  by_cases c2 : (c : ℕ) < 384
  · rw [dpsPut_out _ _ 384 _ _ u c (by omega), dpsPut_in _ _ 2 (grp2_is h) 256 rfl _ _ u c (by omega) (by omega), dpsPut_out _ _ 128 _ _ u c (by omega), dpsPut_out _ _ 0 _ _ u c (by omega)]
    exact congrArg (fun w => w + (psPart x i c : EReal)) z
  · rw [dpsPut_in _ _ 3 (grp3_is h) 384 rfl _ _ u c (by omega) (by omega), dpsPut_out _ _ 256 _ _ u c (by omega), dpsPut_out _ _ 128 _ _ u c (by omega), dpsPut_out _ _ 0 _ _ u c (by omega)]
    exact congrArg (fun w => w + (psPart x i c : EReal)) z

/-- A later point's, over the sums so far. -/
theorem dpsL_at (h : b.Is x i) (X : Vec Ideal S1x512 .f32) (u : Fin 1) (c : Fin 512)
    (i0 : ∀ a, (![0, 0] : Fin 2 → ℕ) a + (![1, 128] : Fin 2 → ℕ) a ≤ S1x512.size a) (i1 : ∀ a, (![0, 128] : Fin 2 → ℕ) a + (![1, 128] : Fin 2 → ℕ) a ≤ S1x512.size a)
    (i2 : ∀ a, (![0, 256] : Fin 2 → ℕ) a + (![1, 128] : Fin 2 → ℕ) a ≤ S1x512.size a) (i3 : ∀ a, (![0, 384] : Fin 2 → ℕ) a + (![1, 128] : Fin 2 → ℕ) a ≤ S1x512.size a) :
    View.canon (Val := Elt Ideal) (s := S1x512) (e := .f32) (b.dpsL (View.ld X (Rect.unit ![0, 0] ![1, 128] i0)) (View.ld X (Rect.unit ![0, 128] ![1, 128] i1))
      (View.ld X (Rect.unit ![0, 256] ![1, 128] i2)) (View.ld X (Rect.unit ![0, 384] ![1, 128] i3))) (ix2 u c) = X (ix2 u c) + (psPart x i c : EReal) := by
  have p (g : Grp) (k : Fin 4) (hg : g.Is x i k) (o : ℕ) (ho : o = 128 * (k : ℕ)) (j : ∀ a, (![0, o] : Fin 2 → ℕ) a + (![1, 128] : Fin 2 → ℕ) a ≤ S1x512.size a) (e : Fin 128) (he : (c : ℕ) = o + e) :
      g.dps (View.ld (Val := Elt Ideal) (e' := .f32) X (Rect.unit (s := S1x512) ![0, o] ![1, 128] j)) (ix2 u e) = X (ix2 u c) + (psPart x i c : EReal) := by
    rw [Grp.dps_at hg, ld_at (N := 1) (M := 512) X j u e u c (by omega) he, show grpCol k e = c from Fin.ext (by show (k : ℕ) * 128 + e = c; omega)]
    rfl
  have o (n : ℕ) (hn : n ≤ c) (hl : (c : ℕ) < n + 128) : (c : ℕ) = n + ((⟨c - n, by omega⟩ : Fin 128) : ℕ) := by show (c : ℕ) = n + (c - n); omega
  unfold Blk.dpsL
  by_cases c3 : 384 ≤ (c : ℕ)
  · exact (canon_in (N := 1) (M := 512) _ _ _ u c u _ (by omega) (o 384 (by omega) (by omega))).trans (p _ 3 (grp3_is h) 384 rfl _ _ (o 384 (by omega) (by omega)))
  refine (canon_out (N := 1) (M := 512) _ _ _ u c (by omega)).trans ?_
  by_cases c2 : 256 ≤ (c : ℕ)
  · exact (canon_in (N := 1) (M := 512) _ _ _ u c u _ (by omega) (o 256 (by omega) (by omega))).trans (p _ 2 (grp2_is h) 256 rfl _ _ (o 256 (by omega) (by omega)))
  refine (canon_out (N := 1) (M := 512) _ _ _ u c (by omega)).trans ?_
  by_cases c1 : 128 ≤ (c : ℕ)
  · exact (canon_in (N := 1) (M := 512) _ _ _ u c u _ (by omega) (o 128 (by omega) (by omega))).trans (p _ 1 (grp1_is h) 128 rfl _ _ (o 128 (by omega) (by omega)))
  refine (canon_out (N := 1) (M := 512) _ _ _ u c (by omega)).trans ?_
  exact (canon_in (N := 1) (M := 512) _ _ _ u c u _ (by omega) (o 0 (by omega) (by omega))).trans (p _ 0 (grp0_is h) 0 rfl _ _ (o 0 (by omega) (by omega)))

/-! ## The pooling matrices' sums -/

/-- What a block adds to a pooling matrix's gradient. -/
def pwPart (x : Inp) (i : Fin 16) (k : Fin 512) (c : Fin 128) : ℝ := ∑ r : Fin 512, x.pl (grpOf k) (rowI i r) (inGrp k) * x.dyr (rowI i r) (grpCol (grpOf k) c)

theorem dpwPut_in (V : View Cert.MxKernelIdeal.sig (Proc.kind (τ := τ) Proc.tc) Space.vmem S512x128 .f32) (g : Grp) (k : Fin 4) (hg : g.Is x i k) (o : ℕ) (ho : o = 128 * (k : ℕ))
    (h : ∀ a, (![o, 0] : Fin 2 → ℕ) a + (![128, 128] : Fin 2 → ℕ) a ≤ S512x128.size a) (L : List (View.Piece (Elt Ideal) S512x128 .f32)) (u : Fin 512) (c : Fin 128)
    (h0 : o ≤ u) (h1 : (u : ℕ) < o + 128) : View.canon (Val := Elt Ideal) (dpwPut V g o h L) (ix2 u c) = View.canon (Val := Elt Ideal) L (ix2 u c) + (pwPart x i u c : EReal) := by
  have hu : (u : ℕ) = o + ((⟨u - o, by omega⟩ : Fin 128) : ℕ) := by show (u : ℕ) = o + (u - o); omega
  have e0 : grpOf u = k := Fin.ext (by show (u : ℕ) / 128 = k; omega)
  have e1 : inGrp u = (⟨u - o, by omega⟩ : Fin 128) := Fin.ext (by show (u : ℕ) % 128 = u - o; omega)
  unfold Blk.dpwPut pwPart
  refine (canon_in (N := 512) (M := 128) h _ L u c _ c hu (by omega)).trans ?_
  rw [Grp.dpw_at hg, cov_at (N := 512) (M := 128) V h L _ c u c hu (by omega), e0, e1]
theorem dpwPut_out (V : View Cert.MxKernelIdeal.sig (Proc.kind (τ := τ) Proc.tc) Space.vmem S512x128 .f32) (g : Grp) (o : ℕ)
    (h : ∀ a, (![o, 0] : Fin 2 → ℕ) a + (![128, 128] : Fin 2 → ℕ) a ≤ S512x128.size a) (L : List (View.Piece (Elt Ideal) S512x128 .f32)) (u : Fin 512) (c : Fin 128)
    (h0 : (u : ℕ) < o ∨ o + 128 ≤ u) : View.canon (Val := Elt Ideal) (dpwPut V g o h L) (ix2 u c) = View.canon (Val := Elt Ideal) L (ix2 u c) := by
  unfold Blk.dpwPut
  exact canon_out (N := 512) (M := 128) h _ L u c (by omega)

/-- The first point's. -/
theorem dpwLA_at (h : b.Is x i) (V : View Cert.MxKernelIdeal.sig (Proc.kind (τ := τ) Proc.tc) Space.vmem S512x128 .f32) (u : Fin 512) (c : Fin 128) :
    View.canon (Val := Elt Ideal) (b.dpwLA V) (ix2 u c) = 0 + (pwPart x i u c : EReal) := by
  unfold Blk.dpwLA
  have z := (whole_at (N := 512) (M := 128) (e := .f32) (by decide) (k0_pay23 : FVec Ideal S512x128 .f32) [] u c).trans (zero23 u c)
  by_cases c0 : (u : ℕ) < 128
  · rw [dpwPut_out _ _ 384 _ _ u c (by omega), dpwPut_out _ _ 256 _ _ u c (by omega), dpwPut_out _ _ 128 _ _ u c (by omega), dpwPut_in _ _ 0 (grp0_is h) 0 rfl _ _ u c (by omega) (by omega)]
    exact congrArg (fun w => w + (pwPart x i u c : EReal)) z
  by_cases c1 : (u : ℕ) < 256
  · rw [dpwPut_out _ _ 384 _ _ u c (by omega), dpwPut_out _ _ 256 _ _ u c (by omega), dpwPut_in _ _ 1 (grp1_is h) 128 rfl _ _ u c (by omega) (by omega), dpwPut_out _ _ 0 _ _ u c (by omega)]
    exact congrArg (fun w => w + (pwPart x i u c : EReal)) z
  by_cases c2 : (u : ℕ) < 384
  · rw [dpwPut_out _ _ 384 _ _ u c (by omega), dpwPut_in _ _ 2 (grp2_is h) 256 rfl _ _ u c (by omega) (by omega), dpwPut_out _ _ 128 _ _ u c (by omega), dpwPut_out _ _ 0 _ _ u c (by omega)]
    exact congrArg (fun w => w + (pwPart x i u c : EReal)) z
  · rw [dpwPut_in _ _ 3 (grp3_is h) 384 rfl _ _ u c (by omega) (by omega), dpwPut_out _ _ 256 _ _ u c (by omega), dpwPut_out _ _ 128 _ _ u c (by omega), dpwPut_out _ _ 0 _ _ u c (by omega)]
    exact congrArg (fun w => w + (pwPart x i u c : EReal)) z

/-- A later point's, over the sums so far. -/
theorem dpwL_at (h : b.Is x i) (X : Vec Ideal S512x128 .f32) (u : Fin 512) (c : Fin 128)
    (i0 : ∀ a, (![0, 0] : Fin 2 → ℕ) a + (![128, 128] : Fin 2 → ℕ) a ≤ S512x128.size a) (i1 : ∀ a, (![128, 0] : Fin 2 → ℕ) a + (![128, 128] : Fin 2 → ℕ) a ≤ S512x128.size a)
    (i2 : ∀ a, (![256, 0] : Fin 2 → ℕ) a + (![128, 128] : Fin 2 → ℕ) a ≤ S512x128.size a) (i3 : ∀ a, (![384, 0] : Fin 2 → ℕ) a + (![128, 128] : Fin 2 → ℕ) a ≤ S512x128.size a) :
    View.canon (Val := Elt Ideal) (s := S512x128) (e := .f32) (b.dpwL (View.ld X (Rect.unit ![0, 0] ![128, 128] i0)) (View.ld X (Rect.unit ![128, 0] ![128, 128] i1))
      (View.ld X (Rect.unit ![256, 0] ![128, 128] i2)) (View.ld X (Rect.unit ![384, 0] ![128, 128] i3))) (ix2 u c) = X (ix2 u c) + (pwPart x i u c : EReal) := by
  have p (g : Grp) (k : Fin 4) (hg : g.Is x i k) (o : ℕ) (ho : o = 128 * (k : ℕ)) (j : ∀ a, (![o, 0] : Fin 2 → ℕ) a + (![128, 128] : Fin 2 → ℕ) a ≤ S512x128.size a) (e : Fin 128) (he : (u : ℕ) = o + e) :
      g.dpw (View.ld (Val := Elt Ideal) (e' := .f32) X (Rect.unit (s := S512x128) ![o, 0] ![128, 128] j)) (ix2 e c) = X (ix2 u c) + (pwPart x i u c : EReal) := by
    unfold pwPart
    rw [Grp.dpw_at hg, ld_at (N := 512) (M := 128) X j e c u c he (by omega), show grpOf u = k from Fin.ext (by show (u : ℕ) / 128 = k; omega),
      show inGrp u = e from Fin.ext (by show (u : ℕ) % 128 = e; omega)]
  have o (n : ℕ) (hn : n ≤ u) (hl : (u : ℕ) < n + 128) : (u : ℕ) = n + ((⟨u - n, by omega⟩ : Fin 128) : ℕ) := by show (u : ℕ) = n + (u - n); omega
  unfold Blk.dpwL
  by_cases c3 : 384 ≤ (u : ℕ)
  · exact (canon_in (N := 512) (M := 128) _ _ _ u c _ c (o 384 (by omega) (by omega)) (by omega)).trans (p _ 3 (grp3_is h) 384 rfl _ _ (o 384 (by omega) (by omega)))
  refine (canon_out (N := 512) (M := 128) _ _ _ u c (by omega)).trans ?_
  by_cases c2 : 256 ≤ (u : ℕ)
  · exact (canon_in (N := 512) (M := 128) _ _ _ u c _ c (o 256 (by omega) (by omega)) (by omega)).trans (p _ 2 (grp2_is h) 256 rfl _ _ (o 256 (by omega) (by omega)))
  refine (canon_out (N := 512) (M := 128) _ _ _ u c (by omega)).trans ?_
  by_cases c1 : 128 ≤ (u : ℕ)
  · exact (canon_in (N := 512) (M := 128) _ _ _ u c _ c (o 128 (by omega) (by omega)) (by omega)).trans (p _ 1 (grp1_is h) 128 rfl _ _ (o 128 (by omega) (by omega)))
  refine (canon_out (N := 512) (M := 128) _ _ _ u c (by omega)).trans ?_
  exact (canon_in (N := 512) (M := 128) _ _ _ u c _ c (o 0 (by omega) (by omega)) (by omega)).trans (p _ 0 (grp0_is h) 0 rfl _ _ (o 0 (by omega) (by omega)))

end Blk

/-! ## The bias read back -/

/-- One matrix of two, read back. -/
theorem bias_in (g : Fin 2) (o : ℕ) (ho : (g : ℕ) = o)
    (inb : ∀ a, (![o, 0, 0] : Fin 3 → ℕ) a + (![1, 512, 256] : Fin 3 → ℕ) a ≤ S2x512x256.size a) (u : Fin 1) (r : Fin 512) (s : Fin 256) :
    (Rect.unit (s := S2x512x256) ![o, 0, 0] ![1, 512, 256] inb).emb (ix3 u r s) = ix3 g r s := by
  funext a
  match a with
  | ⟨0, _⟩ => exact Fin.ext ((ValueKit.rect_emb_unit_val (s := S2x512x256) ![o, 0, 0] ![1, 512, 256] inb (ix3 u r s) 0).trans (by show o + (u : ℕ) = g; omega))
  | ⟨1, _⟩ => exact Fin.ext ((ValueKit.rect_emb_unit_val (s := S2x512x256) ![o, 0, 0] ![1, 512, 256] inb (ix3 u r s) 1).trans (by show 0 + (r : ℕ) = r; omega))
  | ⟨2, _⟩ => exact Fin.ext ((ValueKit.rect_emb_unit_val (s := S2x512x256) ![o, 0, 0] ![1, 512, 256] inb (ix3 u r s) 2).trans (by show 0 + (s : ℕ) = s; omega))

theorem biasL_one (r : Fin 512) (s : Fin 256) : View.canon (Val := Elt Ideal) biasL (ix3 1 r s) = biasB (ix3 0 r s) := by
  unfold biasL
  rw [← bias_in 1 1 rfl (by decide) 0 r s]
  exact View.canon_cons_emb (Val := Elt Ideal) _ _ _ _
theorem biasL_zero (r : Fin 512) (s : Fin 256) : View.canon (Val := Elt Ideal) biasL (ix3 0 r s) = biasA (ix3 0 r s) := by
  unfold biasL
  refine Eq.trans (View.canon_cons_of_not_mem _ _ fun hm => ?_) ?_
  · have e0 : 1 ≤ (0 : ℕ) ∧ _ := (Rect.mem_set_unit (inb := (by decide : ∀ a, (![1, 0, 0] : Fin 3 → ℕ) a + (![1, 512, 256] : Fin 3 → ℕ) a ≤ S2x512x256.size a))).mp hm 0
    omega
  · rw [← bias_in 0 0 rfl (by decide) 0 r s]
    exact View.canon_cons_emb (Val := Elt Ideal) _ _ _ _

/-- What is kept of the bias, matrix by matrix. -/
def KeptIs (v : Vec Ideal S2x512x256 .f32) : Prop := ∀ (k : Fin 2) (r : Fin 512) (s : Fin 256), v (ix3 k r s)
    = if (s : ℕ) ≤ rq r + 128 ∧ (rq r : ℕ) < s then ((-(slope (headAt k (rg r)) * ((rq r : ℝ) + 128 - s)) : ℝ) : EReal) else ⊥

theorem kept_biasL : KeptIs (View.canon (Val := Elt Ideal) biasL) := by
  intro k r s
  match k with
  | 0 => exact (biasL_zero r s).trans (biasA_at 0 r s)
  | 1 => exact (biasL_one r s).trans (biasB_at 0 r s)

theorem bias0A_is : BiasIs 0 bias0A := by
  intro u r s
  unfold bias0A
  rw [View.readCov_eq_canon']
  exact (congrArg (View.canon (Val := Elt Ideal) biasL) (bias_in 0 0 rfl _ u r s)).trans (kept_biasL 0 r s)
theorem bias1A_is : BiasIs 1 bias1A := by
  intro u r s
  unfold bias1A
  rw [View.readCov_eq_canon']
  exact (congrArg (View.canon (Val := Elt Ideal) biasL) (bias_in 1 1 rfl _ u r s)).trans (kept_biasL 1 r s)

end Cert.Proof.Mx.Point
end
-- ==== Proof.MxSink.lean ====
/- What a grid point takes from the sinks' sums. -/
module

public import proofs.«01_k».proof.Proof.MxSums

@[expose] public section

set_option maxRecDepth 16384

noncomputable section

open Idealize.ShloMosaic Idealize.ShloMosaic.TcCoe Idealize.SL.Sem

namespace Cert.Proof.Mx.Point

open Cert.MxKernelIdeal Cert.MxKernelIdeal.Gen Cert.Proof.RealLift Cert.Proof.Norm Cert.Proof.Mx.Host
open Cert.Proof.Mx.Body (rq rg)

namespace Blk
variable {b : Blk} {x : Inp} {i : Fin 16} {b0 b1 : Vec Ideal S1x512x256 .f32}

/-- A row of sums less a column's total. -/
theorem skRow_at (old : Vec Ideal S1x128 .f32) (v : FVec Ideal S128x1 .f32) (X : Fin 128 → ℝ) (hv : ∀ q u, v (ix2 q u) = (X q : EReal)) (u : Fin 1) (l : Fin 128) :
    skRow old v (ix2 u l) = old (ix2 u l) + ((-∑ q, X q : ℝ) : EReal) := by
  pointwise [skRow]
  simp only [hv, ← coe_sum]
  rw [sub_eq_add_neg, ← EReal.coe_neg]
  simp only [Finset.univ_unique, Finset.sum_singleton]

section
variable (V : View Cert.MxKernelIdeal.sig (Proc.kind (τ := τ) Proc.tc) Space.vmem S8x128 .f32)

theorem skPut_in (h : ℕ) (inb : ∀ a, (![h, 0] : Fin 2 → ℕ) a + (![1, 128] : Fin 2 → ℕ) a ≤ S8x128.size a) (v : FVec Ideal S128x1 .f32) (L : List (View.Piece (Elt Ideal) S8x128 .f32))
    (X : Fin 128 → ℝ) (hv : ∀ q u, v (ix2 q u) = (X q : EReal)) (a : Fin 8) (l : Fin 128) (ha : (a : ℕ) = h) :
    View.canon (Val := Elt Ideal) (skPut V h inb v L) (ix2 a l) = View.canon (Val := Elt Ideal) L (ix2 a l) + ((-∑ q, X q : ℝ) : EReal) := by
  unfold Blk.skPut
  refine (canon_in (N := 8) (M := 128) inb _ L a l (0 : Fin 1) l (by show (a : ℕ) = h + 0; omega) (by omega)).trans ?_
  rw [skRow_at _ v X hv, cov_at (N := 8) (M := 128) V inb L (0 : Fin 1) l a l (by show (a : ℕ) = h + 0; omega) (by omega)]
theorem skPut_out (h : ℕ) (inb : ∀ a, (![h, 0] : Fin 2 → ℕ) a + (![1, 128] : Fin 2 → ℕ) a ≤ S8x128.size a) (v : FVec Ideal S128x1 .f32) (L : List (View.Piece (Elt Ideal) S8x128 .f32))
    (a : Fin 8) (l : Fin 128) (ha : (a : ℕ) ≠ h) : View.canon (Val := Elt Ideal) (skPut V h inb v L) (ix2 a l) = View.canon (Val := Elt Ideal) L (ix2 a l) := by
  unfold Blk.skPut
  exact canon_out (N := 8) (M := 128) inb _ L a l (by omega)
end

theorem skNew_in (o : Vec Ideal S8x128 .f32) (h : ℕ) (inb : ∀ a, (![h, 0] : Fin 2 → ℕ) a + (![1, 128] : Fin 2 → ℕ) a ≤ S8x128.size a) (v : FVec Ideal S128x1 .f32)
    (L : List (View.Piece (Elt Ideal) S8x128 .f32)) (X : Fin 128 → ℝ) (hv : ∀ q u, v (ix2 q u) = (X q : EReal)) (a : Fin 8) (l : Fin 128) (ha : (a : ℕ) = h) :
    View.canon (Val := Elt Ideal) (skNew o h inb v L) (ix2 a l) = o (ix2 a l) + ((-∑ q, X q : ℝ) : EReal) := by
  unfold Blk.skNew
  refine (canon_in (N := 8) (M := 128) inb _ L a l (0 : Fin 1) l (by show (a : ℕ) = h + 0; omega) (by omega)).trans ?_
  rw [skRow_at _ v X hv, ld_at (N := 8) (M := 128) o inb (0 : Fin 1) l a l (by show (a : ℕ) = h + 0; omega) (by omega)]
theorem skNew_out (o : Vec Ideal S8x128 .f32) (h : ℕ) (inb : ∀ a, (![h, 0] : Fin 2 → ℕ) a + (![1, 128] : Fin 2 → ℕ) a ≤ S8x128.size a) (v : FVec Ideal S128x1 .f32)
    (L : List (View.Piece (Elt Ideal) S8x128 .f32)) (a : Fin 8) (l : Fin 128) (ha : (a : ℕ) ≠ h) :
    View.canon (Val := Elt Ideal) (skNew o h inb v L) (ix2 a l) = View.canon (Val := Elt Ideal) L (ix2 a l) := by
  unfold Blk.skNew
  exact canon_out (N := 8) (M := 128) inb _ L a l (by omega)

section
variable {v : FVec Ideal S512x1 .f32} {F : Fin 4 → Fin 128 → ℝ} (hv : ∀ r u, v (ix2 r u) = (F (rg r) (rq r) : EReal))

theorem stacked (g : Fin 4) (q : Fin 128) (r : Fin 512) (hr : (r : ℕ) = 128 * (g : ℕ) + q) : rg r = g ∧ rq r = q :=
  ⟨Fin.ext (by show (r : ℕ) / 128 = g; omega), Fin.ext (by show (r : ℕ) % 128 = q; omega)⟩

include hv in
theorem sp0_at (q : Fin 128) (u : Fin 1) : sp0 v (ix2 q u) = (F 0 q : EReal) := by
  pointwise [sp0]
  rw [hv, (stacked 0 q _ (by show (q : ℕ) = 128 * 0 + q; omega)).1, (stacked 0 q _ (by show (q : ℕ) = 128 * 0 + q; omega)).2]
include hv in
theorem sp1_at (q : Fin 128) (u : Fin 1) : sp1 v (ix2 q u) = (F 1 q : EReal) := by
  pointwise [sp1]
  rw [hv, (stacked 1 q _ rfl).1, (stacked 1 q _ rfl).2]
include hv in
theorem sp2_at (q : Fin 128) (u : Fin 1) : sp2 v (ix2 q u) = (F 2 q : EReal) := by
  pointwise [sp2]
  rw [hv, (stacked 2 q _ rfl).1, (stacked 2 q _ rfl).2]
include hv in
theorem sp3_at (q : Fin 128) (u : Fin 1) : sp3 v (ix2 q u) = (F 3 q : EReal) := by
  pointwise [sp3]
  rw [hv, (stacked 3 q _ rfl).1, (stacked 3 q _ rfl).2]
end

section
variable {v w : FVec Ideal S512x1 .f32} {D : Fin 8 → Fin 128 → ℝ} (hv : ∀ r u, v (ix2 r u) = (D (headAt 0 (rg r)) (rq r) : EReal)) (hw : ∀ r u, w (ix2 r u) = (D (headAt 1 (rg r)) (rq r) : EReal))

include hv hw in
/-- One query block's eight rows. -/
theorem skTile_at (V : View Cert.MxKernelIdeal.sig (Proc.kind (τ := τ) Proc.tc) Space.vmem S8x128 .f32) (L : List (View.Piece (Elt Ideal) S8x128 .f32)) (a : Fin 8) (l : Fin 128) :
    View.canon (Val := Elt Ideal) (skTile V v w L) (ix2 a l) = View.canon (Val := Elt Ideal) L (ix2 a l) + ((-∑ q, D a q : ℝ) : EReal) := by
  have low (g : Fin 4) (e : (a : ℕ) = g) : headAt 0 g = a := Fin.ext (by show 0 * 4 + (g : ℕ) = a; omega)
  have high (g : Fin 4) (e : (a : ℕ) = 4 + g) : headAt 1 g = a := Fin.ext (by show 1 * 4 + (g : ℕ) = a; omega)
  have a0 := sp0_at (F := fun g => D (headAt 0 g)) hv
  have a1 := sp1_at (F := fun g => D (headAt 0 g)) hv
  have a2 := sp2_at (F := fun g => D (headAt 0 g)) hv
  have a3 := sp3_at (F := fun g => D (headAt 0 g)) hv
  have a4 := sp0_at (F := fun g => D (headAt 1 g)) hw
  have a5 := sp1_at (F := fun g => D (headAt 1 g)) hw
  have a6 := sp2_at (F := fun g => D (headAt 1 g)) hw
  have a7 := sp3_at (F := fun g => D (headAt 1 g)) hw
  unfold Blk.skTile
  rcases (by omega : (a : ℕ) = 0 ∨ (a : ℕ) = 1 ∨ (a : ℕ) = 2 ∨ (a : ℕ) = 3 ∨ (a : ℕ) = 4 ∨ (a : ℕ) = 5 ∨ (a : ℕ) = 6 ∨ (a : ℕ) = 7) with e | e | e | e | e | e | e | e
  · iterate 7 rw [skPut_out V _ _ _ _ a l (by omega)]
    rw [skPut_in V 0 _ _ _ _ a0 a l e, low 0 e]
  · iterate 6 rw [skPut_out V _ _ _ _ a l (by omega)]
    rw [skPut_in V 1 _ _ _ _ a1 a l e, low 1 e]
    iterate 1 rw [skPut_out V _ _ _ _ a l (by omega)]
  · iterate 5 rw [skPut_out V _ _ _ _ a l (by omega)]
    rw [skPut_in V 2 _ _ _ _ a2 a l e, low 2 e]
    iterate 2 rw [skPut_out V _ _ _ _ a l (by omega)]
  · iterate 4 rw [skPut_out V _ _ _ _ a l (by omega)]
    rw [skPut_in V 3 _ _ _ _ a3 a l e, low 3 e]
    iterate 3 rw [skPut_out V _ _ _ _ a l (by omega)]
  · iterate 3 rw [skPut_out V _ _ _ _ a l (by omega)]
    rw [skPut_in V 4 _ _ _ _ a4 a l e, high 0 e]
    iterate 4 rw [skPut_out V _ _ _ _ a l (by omega)]
  · iterate 2 rw [skPut_out V _ _ _ _ a l (by omega)]
    rw [skPut_in V 5 _ _ _ _ a5 a l e, high 1 e]
    iterate 5 rw [skPut_out V _ _ _ _ a l (by omega)]
  · iterate 1 rw [skPut_out V _ _ _ _ a l (by omega)]
    rw [skPut_in V 6 _ _ _ _ a6 a l e, high 2 e]
    iterate 6 rw [skPut_out V _ _ _ _ a l (by omega)]
  · rw [skPut_in V 7 _ _ _ _ a7 a l e, high 3 e]
    iterate 7 rw [skPut_out V _ _ _ _ a l (by omega)]

include hv hw in
/-- The same from the sums before the point. -/
theorem skFirst_at (o : Vec Ideal S8x128 .f32) (a : Fin 8) (l : Fin 128) :
    View.canon (Val := Elt Ideal) (skFirst o v w) (ix2 a l) = o (ix2 a l) + ((-∑ q, D a q : ℝ) : EReal) := by
  have low (g : Fin 4) (e : (a : ℕ) = g) : headAt 0 g = a := Fin.ext (by show 0 * 4 + (g : ℕ) = a; omega)
  have high (g : Fin 4) (e : (a : ℕ) = 4 + g) : headAt 1 g = a := Fin.ext (by show 1 * 4 + (g : ℕ) = a; omega)
  unfold Blk.skFirst
  rcases (by omega : (a : ℕ) = 0 ∨ (a : ℕ) = 1 ∨ (a : ℕ) = 2 ∨ (a : ℕ) = 3 ∨ (a : ℕ) = 4 ∨ (a : ℕ) = 5 ∨ (a : ℕ) = 6 ∨ (a : ℕ) = 7) with e | e | e | e | e | e | e | e
  · iterate 7 rw [skNew_out o _ _ _ _ a l (by omega)]
    rw [skNew_in o 0 _ _ _ _ (sp0_at (F := fun g => D (headAt 0 g)) hv) a l e, low 0 e]
  · iterate 6 rw [skNew_out o _ _ _ _ a l (by omega)]
    rw [skNew_in o 1 _ _ _ _ (sp1_at (F := fun g => D (headAt 0 g)) hv) a l e, low 1 e]
  · iterate 5 rw [skNew_out o _ _ _ _ a l (by omega)]
    rw [skNew_in o 2 _ _ _ _ (sp2_at (F := fun g => D (headAt 0 g)) hv) a l e, low 2 e]
  · iterate 4 rw [skNew_out o _ _ _ _ a l (by omega)]
    rw [skNew_in o 3 _ _ _ _ (sp3_at (F := fun g => D (headAt 0 g)) hv) a l e, low 3 e]
  · iterate 3 rw [skNew_out o _ _ _ _ a l (by omega)]
    rw [skNew_in o 4 _ _ _ _ (sp0_at (F := fun g => D (headAt 1 g)) hw) a l e, high 0 e]
  · iterate 2 rw [skNew_out o _ _ _ _ a l (by omega)]
    rw [skNew_in o 5 _ _ _ _ (sp1_at (F := fun g => D (headAt 1 g)) hw) a l e, high 1 e]
  · rw [skNew_out o _ _ _ _ a l (by omega)]
    rw [skNew_in o 6 _ _ _ _ (sp2_at (F := fun g => D (headAt 1 g)) hw) a l e, high 2 e]
  · rw [skNew_in o 7 _ _ _ _ (sp3_at (F := fun g => D (headAt 1 g)) hw) a l e, high 3 e]
end

/-- What a block takes from a sink's gradient. -/
def skPart (x : Inp) (i : Fin 16) (a : Fin 8) : ℝ := -∑ j : Fin 4, (x.hd (nth i j) a).dS

/-- The four query blocks' together. -/
theorem sk_four (x : Inp) (i : Fin 16) (a : Fin 8) (o : EReal) :
    o + ((-∑ q, (x.hd (nth i 0) a).ps q * (x.hd (nth i 0) a).dl q : ℝ) : EReal) + ((-∑ q, (x.hd (nth i 1) a).ps q * (x.hd (nth i 1) a).dl q : ℝ) : EReal)
      + ((-∑ q, (x.hd (nth i 2) a).ps q * (x.hd (nth i 2) a).dl q : ℝ) : EReal) + ((-∑ q, (x.hd (nth i 3) a).ps q * (x.hd (nth i 3) a).dl q : ℝ) : EReal)
      = o + (skPart x i a : EReal) := by
  rw [add_assoc, add_assoc, add_assoc, ← EReal.coe_add, ← EReal.coe_add, ← EReal.coe_add]
  refine congrArg (fun z : ℝ => o + (z : EReal)) ?_
  unfold skPart
  rw [Fin.sum_univ_four]
  unfold Head.dS
  ring

/-- A later point's sums. -/
theorem dskL_at (h : b.Is x i) (h0 : BiasIs 0 b0) (h1 : BiasIs 1 b1) (V : View Cert.MxKernelIdeal.sig (Proc.kind (τ := τ) Proc.tc) Space.vmem S8x128 .f32)
    (o : Vec Ideal S8x128 .f32) (a : Fin 8) (l : Fin 128) :
    View.canon (Val := Elt Ideal) (b.dskL V b0 b1 (skFirst o (b.tile0 b0 b1).st0 (b.tile0 b0 b1).st1)) (ix2 a l) = o (ix2 a l) + (skPart x i a : EReal) := by
  unfold Blk.dskL
  rw [skTile_at (D := fun a q => (x.hd (nth i 3) a).ps q * (x.hd (nth i 3) a).dl q) (Tile.st0_at (tile3_is h b0 b1 h0 h1)) (Tile.st1_at (tile3_is h b0 b1 h0 h1)),
    skTile_at (D := fun a q => (x.hd (nth i 2) a).ps q * (x.hd (nth i 2) a).dl q) (Tile.st0_at (tile2_is h b0 b1 h0 h1)) (Tile.st1_at (tile2_is h b0 b1 h0 h1)),
    skTile_at (D := fun a q => (x.hd (nth i 1) a).ps q * (x.hd (nth i 1) a).dl q) (Tile.st0_at (tile1_is h b0 b1 h0 h1)) (Tile.st1_at (tile1_is h b0 b1 h0 h1)),
    skFirst_at (D := fun a q => (x.hd (nth i 0) a).ps q * (x.hd (nth i 0) a).dl q) (Tile.st0_at (tile0_is h b0 b1 h0 h1)) (Tile.st1_at (tile0_is h b0 b1 h0 h1))]
  exact sk_four x i a _

/-- The first point's sums. -/
theorem dskLA_at (h : b.Is x i) (h0 : BiasIs 0 b0) (h1 : BiasIs 1 b1) (V : View Cert.MxKernelIdeal.sig (Proc.kind (τ := τ) Proc.tc) Space.vmem S8x128 .f32)
    (L : List (View.Piece (Elt Ideal) S8x128 .f32)) (a : Fin 8) (l : Fin 128) :
    View.canon (Val := Elt Ideal) (b.dskL V b0 b1 (skTile V (b.tile0 b0 b1).st0 (b.tile0 b0 b1).st1 L)) (ix2 a l) = View.canon (Val := Elt Ideal) L (ix2 a l) + (skPart x i a : EReal) := by
  unfold Blk.dskL
  rw [skTile_at (D := fun a q => (x.hd (nth i 3) a).ps q * (x.hd (nth i 3) a).dl q) (Tile.st0_at (tile3_is h b0 b1 h0 h1)) (Tile.st1_at (tile3_is h b0 b1 h0 h1)),
    skTile_at (D := fun a q => (x.hd (nth i 2) a).ps q * (x.hd (nth i 2) a).dl q) (Tile.st0_at (tile2_is h b0 b1 h0 h1)) (Tile.st1_at (tile2_is h b0 b1 h0 h1)),
    skTile_at (D := fun a q => (x.hd (nth i 1) a).ps q * (x.hd (nth i 1) a).dl q) (Tile.st0_at (tile1_is h b0 b1 h0 h1)) (Tile.st1_at (tile1_is h b0 b1 h0 h1)),
    skTile_at (D := fun a q => (x.hd (nth i 0) a).ps q * (x.hd (nth i 0) a).dl q) (Tile.st0_at (tile0_is h b0 b1 h0 h1)) (Tile.st1_at (tile0_is h b0 b1 h0 h1))]
  exact sk_four x i a _

end Blk

end Cert.Proof.Mx.Point
end
-- ==== Proof.MxFinal.lean ====
/- What the mixing layer's kernel leaves in its six arrays, as the step's numbers. -/
module

public import proofs.«01_k».proof.Proof.MxBlk
public import proofs.«01_k».proof.Proof.MxStep
public import proofs.«01_k».proof.Proof.MxStart
public import proofs.«01_k».proof.Proof.MxSink
public import proofs.«01_k».proof.Proof.MxSums
public import proofs.«01_k».proof.Proof.MxMem

@[expose] public section

set_option maxRecDepth 16384

noncomputable section

open Idealize.ShloMosaic Idealize.ShloMosaic.TcCoe Idealize.SL.Sem

namespace Cert.Proof.Mx.Point

open Cert.MxKernelIdeal Cert.MxKernelIdeal.Gen Cert.Proof.RealLift Cert.Proof.Norm Cert.Proof.Mx.Host
open Cert.Proof.Mx.Body (rq rg)

variable (m : (ℓ : Loc nD τ Cert.MxKernelIdeal.sig) → Buf (Elt Ideal) ℓ) (c : Dev nD)

theorem ri_val (t : Fin cfg0.N) : (ri t : ℕ) = 15 - t.val := rfl
theorem lt16 (t : Fin cfg0.N) : t.val < 16 := lt_of_lt_of_eq t.isLt N_0

/-! ## Sums over the points -/

/-- The points take the row blocks from the last to the first. -/
theorem ri_bij : Function.Bijective ri :=
  ⟨fun s t h => by
      have e := congrArg (fun i : Fin 16 => (i : ℕ)) h
      simp only [ri_val] at e
      have := lt16 s; have := lt16 t
      exact Fin.ext (by omega),
   fun i => ⟨⟨15 - (i : ℕ), by have e : cfg0.N = 16 := N_0; omega⟩, Fin.ext (by show 15 - (15 - (i : ℕ)) = i; omega)⟩⟩

theorem sum_points (f : Fin 16 → ℝ) : (∑ t : Fin cfg0.N, ((f (ri t) : ℝ) : EReal)) = ((∑ i, f i : ℝ) : EReal) := by
  rw [← coe_sum]
  exact congrArg _ (Fintype.sum_bijective ri ri_bij _ _ fun _ => rfl)

theorem sum_rows (f : Fin 8192 → ℝ) : (∑ i : Fin 16, ∑ r : Fin 512, f (rowI i r)) = ∑ r, f r := by
  rw [← Fintype.sum_prod_type']
  exact Fintype.sum_equiv (finProdFinEquiv.trans (finCongr (by norm_num : 16 * 512 = 8192))) _ _ fun p =>
    congrArg f (Fin.ext (by show 512 * (p.1 : ℕ) + (p.2 : ℕ) = (p.2 : ℕ) + 512 * (p.1 : ℕ); omega))

theorem sum_nth (f : Fin 64 → ℝ) : (∑ i : Fin 16, ∑ j : Fin 4, f (nth i j)) = ∑ n, f n := by
  rw [← Fintype.sum_prod_type']
  exact Fintype.sum_equiv (finProdFinEquiv.trans (finCongr (by norm_num : 16 * 4 = 64))) _ _ fun p =>
    congrArg f (Fin.ext (by show 4 * (p.1 : ℕ) + (p.2 : ℕ) = (p.2 : ℕ) + 4 * (p.1 : ℕ); omega))

/-! ## The kept bias -/

theorem bias0_is {v : Vec Ideal S2x512x256 .f32} (h : KeptIs v) : BiasIs 0 (bias0 v) := fun u r s => (congrArg v (bias_in 0 0 rfl _ u r s)).trans (h 0 r s)
theorem bias1_is {v : Vec Ideal S2x512x256 .f32} (h : KeptIs v) : BiasIs 1 (bias1 v) := fun u r s => (congrArg v (bias_in 1 1 rfl _ u r s)).trans (h 1 r s)

/-- A later point leaves the bias as it was. -/
theorem kept_step (t : Fin cfg0.N) (h0 : ¬t.val % 16 = 0) :
    (outsAt0 m c t.val t.isLt).2.2.2.2.2.2.2.1 = (outsAt0 m c (t.val - 1) (by omega)).2.2.2.2.2.2.2.1 := by
  by_cases h2 : t.val % 16 = 15
  · rw [outsAt0_C m c t h0 h0 h2]; frame_out; rfl
  · rw [outsAt0_B m c t h0 h0 h2]; frame_out; rfl

theorem kept (n : ℕ) : ∀ hn : n < cfg0.N, KeptIs (outsAt0 m c n hn).2.2.2.2.2.2.2.1 := by
  induction n with
  | zero =>
    intro hn k r s
    exact (congrFun (start m c ⟨0, hn⟩ (Nat.zero_mod 16) (by show ¬0 % 16 = 15; omega)).2.2.2.2.2.1 _).trans (kept_biasL k r s)
  | succ n ih =>
    intro hn k r s
    have e := kept_step m c ⟨n + 1, hn⟩ (by have := lt16 ⟨n + 1, hn⟩; show ¬(n + 1) % 16 = 0; simp only at this; omega)
    exact (congrFun e _).trans (ih (by omega) k r s)

/-- The two planes a later point reads. -/
theorem kept0 (t : Fin cfg0.N) : BiasIs 0 (bias0 (raw3 (outsAt0 m c (t.val - 1) (by omega)).2.2.2.2.2.2.2.1)) := by
  rw [raw3_eq]; exact bias0_is (kept m c _ _)
theorem kept1 (t : Fin cfg0.N) : BiasIs 1 (bias1 (raw3 (outsAt0 m c (t.val - 1) (by omega)).2.2.2.2.2.2.2.1)) := by
  rw [raw3_eq]; exact bias1_is (kept m c _ _)

variable {x : Inp} (hI : ∀ t : Fin cfg0.N, (blkR m c t).Is x (ri t))

/-! ## The carried gradients -/

include hI in
/-- What a point carries to the next. -/
theorem carry_out (t : Fin cfg0.N) (q : Fin 128) (k : Fin 256) :
    (outsAt0 m c t.val t.isLt).2.2.2.2.2.2.1 (ix2 q k) = ((Tile.add x (nth (ri t) 0) ⟨q, by omega⟩ k : ℝ) : EReal) := by
  by_cases h0 : t.val % 16 = 0
  · exact (congrFun (start m c t h0 (by omega)).2.2.2.2.1 _).trans ((whole_at (N := 128) (M := 256) (e := .f32) _ _ _ q k).trans
      (Blk.carryOut_at (hI t) bias0A_is bias1A_is q k))
  · exact (congrFun (step m c t h0).2.2.2.2.1 _).trans ((whole_at (N := 128) (M := 256) (e := .f32) _ _ _ q k).trans
      (Blk.carryOut_at (hI t) (kept0 m c t) (kept1 m c t) q k))

include hI in
/-- What a later point finds carried. -/
theorem carry_is (t : Fin cfg0.N) (h0 : ¬t.val % 16 = 0) : Blk.CarryIs x (ri t) (raw2 (outsAt0 m c (t.val - 1) (by omega)).2.2.2.2.2.2.1) := by
  intro q k
  have ht := lt16 t
  have hlt : (nth (ri t) 3 : ℕ) + 1 < 64 := by show 4 * (15 - t.val) + 3 + 1 < 64; omega
  rw [raw2_eq, dif_pos hlt]
  have e : nth (ri (⟨t.val - 1, by omega⟩ : Fin cfg0.N)) 0 = ⟨nth (ri t) 3 + 1, hlt⟩ := Fin.ext (by show 4 * (15 - (t.val - 1)) + 0 = 4 * (15 - t.val) + 3 + 1; omega)
  exact e ▸ carry_out m c hI ⟨t.val - 1, by omega⟩ q k

/-- Nothing is carried to the first point. -/
theorem carryA_is (t : Fin cfg0.N) (h0 : t.val % 16 = 0) : Blk.CarryIs x (ri t) carryA := by
  intro q k
  have ht := lt16 t
  rw [dif_neg (by show ¬4 * (15 - t.val) + 3 + 1 < 64; omega)]
  exact carryA_at q k

/-! ## The rows' gradients -/

include hI in
theorem proj_at (t : Fin cfg0.N) (r : Fin 512) (k : Fin 2304) : (outsAt0 m c t.val t.isLt).1 (ix2 r k) = (x.dproj (rowI (ri t) r) k : EReal) := by
  by_cases h0 : t.val % 16 = 0
  · exact (congrFun (start m c t h0 (by omega)).1 _).trans (Blk.dprojL_at (hI t) bias0A_is bias1A_is (carryA_is t h0) r k)
  · exact (congrFun (step m c t h0).1 _).trans (Blk.dprojL_at (hI t) (kept0 m c t) (kept1 m c t) (carry_is m c hI t h0) r k)

/-- The rows' gradients as one array. -/
def projOf (x : Inp) : FVec Ideal S8192x2304 .bf16 := fun y => (x.dproj (y 0) (y 1) : EReal)

include hI in
/-- The rows' gradients the kernel leaves. -/
theorem final13 : (dats m 0 c).arrAt 13 cfg0.N = projOf x := by
  refine (dats m 0 c).arrAt_eq_of_covers 13 _ (by decide +kernel) fun t hf y => ?_
  idx_vars y
  have h := emb13 t y0 y1
  have e := proj_at m c hI t y0 y1
  blk_simp
  rw [after0_13]
  refine Eq.trans ?_ (congrArg (projOf x) h).symm
  exact e

/-! ## The sums -/

include hI in
theorem sk_reset (t : Fin cfg0.N) (h0 : t.val % 16 = 0) (a : Fin 8) (l : Fin 128) :
    (outsAt0 m c t.val t.isLt).2.1 (ix2 a l) = 0 + ((Blk.skPart x (ri t) a : ℝ) : EReal) :=
  (congrFun (start_dsk m c t h0 (by omega)) _).trans ((Blk.dskLA_at (hI t) bias0A_is bias1A_is _ _ a l).trans (congrArg (· + _) ((whole_at (N := 8) (M := 128) (e := .f32) _ _ _ a l).trans (zero22 a l))))
include hI in
theorem sk_step (t : Fin cfg0.N) (h0 : ¬t.val % 16 = 0) (a : Fin 8) (l : Fin 128) :
    (outsAt0 m c t.val t.isLt).2.1 (ix2 a l) = (outsAt0 m c (t.val - 1) (by omega)).2.1 (ix2 a l) + ((Blk.skPart x (ri t) a : ℝ) : EReal) := by
  refine (congrFun (step_dsk m c t h0) _).trans ((Blk.dskL_at (hI t) (kept0 m c t) (kept1 m c t) _ _ a l).trans ?_)
  rw [raw14_eq]
include hI in
/-- The sinks' gradients after the last point. -/
theorem sk_last (a : Fin 8) (l : Fin 128) : (outsAt0 m c t0_15.val t0_15.isLt).2.1 (ix2 a l) = (x.dsk a : EReal) := by
  refine (Pipeline.eq_sum_fin_of_reset_step_apply_last (fun n h => (outsAt0 m c n h).2.1) 16 (fun _ => 0)
    (fun t (j : S8x128.Idx) => ((Blk.skPart x (ri t) (j 0) : ℝ) : EReal))
    (fun t h j => by idx_vars j; exact sk_reset m c hI t h j0 j1)
    (fun t h j => by idx_vars j; exact sk_step m c hI t h j0 j1)
    (le_of_eq N_0) t0_15 rfl (ix2 a l)).trans ?_
  rw [zero_add]
  refine (sum_points (fun i => Blk.skPart x i a)).trans (congrArg _ ?_)
  unfold Blk.skPart Inp.dsk
  rw [Finset.sum_neg_distrib]
  exact congrArg Neg.neg (sum_nth fun n => (x.hd n a).dS)

include hI in
theorem pw_reset (t : Fin cfg0.N) (h0 : t.val % 16 = 0) (a : Fin 512) (l : Fin 128) :
    (outsAt0 m c t.val t.isLt).2.2.1 (ix2 a l) = 0 + ((Blk.pwPart x (ri t) a l : ℝ) : EReal) :=
  (congrFun (start m c t h0 (by omega)).2.1 _).trans (Blk.dpwLA_at (hI t) _ a l)
include hI in
theorem pw_step (t : Fin cfg0.N) (h0 : ¬t.val % 16 = 0) (a : Fin 512) (l : Fin 128) :
    (outsAt0 m c t.val t.isLt).2.2.1 (ix2 a l) = (outsAt0 m c (t.val - 1) (by omega)).2.2.1 (ix2 a l) + ((Blk.pwPart x (ri t) a l : ℝ) : EReal) := by
  refine (congrFun (step m c t h0).2.1 _).trans ((Blk.dpwL_at (hI t) _ a l _ _ _ _).trans ?_)
  rw [raw15_eq]
include hI in
/-- The pooling matrices' gradients after the last point. -/
theorem pw_last (a : Fin 512) (l : Fin 128) : (outsAt0 m c t0_15.val t0_15.isLt).2.2.1 (ix2 a l) = (x.dpw (grpOf a) (inGrp a) l : EReal) := by
  refine (Pipeline.eq_sum_fin_of_reset_step_apply_last (fun n h => (outsAt0 m c n h).2.2.1) 16 (fun _ => 0)
    (fun t (j : S512x128.Idx) => ((Blk.pwPart x (ri t) (j 0) (j 1) : ℝ) : EReal))
    (fun t h j => by idx_vars j; exact pw_reset m c hI t h j0 j1)
    (fun t h j => by idx_vars j; exact pw_step m c hI t h j0 j1)
    (le_of_eq N_0) t0_15 rfl (ix2 a l)).trans ?_
  rw [zero_add]
  refine (sum_points (fun i => Blk.pwPart x i a l)).trans (congrArg _ ?_)
  exact sum_rows fun r => x.pl (grpOf a) r (inGrp a) * x.dyr r (grpCol (grpOf a) l)

include hI in
theorem ps_reset (t : Fin cfg0.N) (h0 : t.val % 16 = 0) (a : Fin 1) (l : Fin 512) :
    (outsAt0 m c t.val t.isLt).2.2.2.1 (ix2 a l) = 0 + ((Blk.psPart x (ri t) l : ℝ) : EReal) :=
  (congrFun (start m c t h0 (by omega)).2.2.1 _).trans (Blk.dpsLA_at (hI t) _ a l)
include hI in
theorem ps_step (t : Fin cfg0.N) (h0 : ¬t.val % 16 = 0) (a : Fin 1) (l : Fin 512) :
    (outsAt0 m c t.val t.isLt).2.2.2.1 (ix2 a l) = (outsAt0 m c (t.val - 1) (by omega)).2.2.2.1 (ix2 a l) + ((Blk.psPart x (ri t) l : ℝ) : EReal) := by
  refine (congrFun (step m c t h0).2.2.1 _).trans ((Blk.dpsL_at (hI t) _ a l _ _ _ _).trans ?_)
  rw [raw16_eq]
include hI in
/-- The pooling scales' gradients after the last point. -/
theorem ps_last (a : Fin 1) (l : Fin 512) : (outsAt0 m c t0_15.val t0_15.isLt).2.2.2.1 (ix2 a l) = (x.dps l : EReal) := by
  refine (Pipeline.eq_sum_fin_of_reset_step_apply_last (fun n h => (outsAt0 m c n h).2.2.2.1) 16 (fun _ => 0)
    (fun t (j : S1x512.Idx) => ((Blk.psPart x (ri t) (j 1) : ℝ) : EReal))
    (fun t h j => by idx_vars j; exact ps_reset m c hI t h j0 j1)
    (fun t h j => by idx_vars j; exact ps_step m c hI t h j0 j1)
    (le_of_eq N_0) t0_15 rfl (ix2 a l)).trans ?_
  rw [zero_add]
  refine (sum_points (fun i => Blk.psPart x i l)).trans (congrArg _ ?_)
  exact sum_rows fun r => x.dyp r l * x.yraw r l

include hI in
theorem po_reset (t : Fin cfg0.N) (h0 : t.val % 16 = 0) (a : Fin 1) (l : Fin 1024) :
    (outsAt0 m c t.val t.isLt).2.2.2.2.2.1 (ix2 a l) = 0 + ((∑ r : Fin 512, x.G (rowI (ri t) r) l * (x.y (rowI (ri t) r) l * rs (x.y (rowI (ri t) r))) : ℝ) : EReal) :=
  (congrFun (start m c t h0 (by omega)).2.2.2.1 _).trans ((whole_at (N := 1) (M := 1024) (e := .f32) _ _ _ a l).trans ((Blk.dpo_at (hI t) _ a l).trans (congrArg (· + _) (dpoA_at _ a l))))
include hI in
theorem po_step (t : Fin cfg0.N) (h0 : ¬t.val % 16 = 0) (a : Fin 1) (l : Fin 1024) :
    (outsAt0 m c t.val t.isLt).2.2.2.2.2.1 (ix2 a l) = (outsAt0 m c (t.val - 1) (by omega)).2.2.2.2.2.1 (ix2 a l) + ((∑ r : Fin 512, x.G (rowI (ri t) r) l * (x.y (rowI (ri t) r) l * rs (x.y (rowI (ri t) r))) : ℝ) : EReal) := by
  refine (congrFun (step m c t h0).2.2.2.1 _).trans ((whole_at (N := 1) (M := 1024) (e := .f32) _ _ _ a l).trans ((Blk.dpo_at (hI t) _ a l).trans ?_))
  rw [raw18_eq]
include hI in
/-- The gain's gradient after the last point. -/
theorem po_last (a : Fin 1) (l : Fin 1024) : (outsAt0 m c t0_15.val t0_15.isLt).2.2.2.2.2.1 (ix2 a l) = (x.dpo l : EReal) := by
  refine (Pipeline.eq_sum_fin_of_reset_step_apply_last (fun n h => (outsAt0 m c n h).2.2.2.2.2.1) 16 (fun _ => 0)
    (fun t (j : S1x1024.Idx) => ((∑ r : Fin 512, x.G (rowI (ri t) r) (j 1) * (x.y (rowI (ri t) r) (j 1) * rs (x.y (rowI (ri t) r))) : ℝ) : EReal))
    (fun t h j => by idx_vars j; exact po_reset m c hI t h j0 j1)
    (fun t h j => by idx_vars j; exact po_step m c hI t h j0 j1)
    (le_of_eq N_0) t0_15 rfl (ix2 a l)).trans ?_
  rw [zero_add]
  refine (sum_points (fun i => ∑ r : Fin 512, x.G (rowI i r) l * (x.y (rowI i r) l * rs (x.y (rowI i r))))).trans (congrArg _ ?_)
  exact sum_rows fun r => x.G r l * (x.y r l * rs (x.y r))

include hI in
theorem wo_reset (t : Fin cfg0.N) (h0 : t.val % 16 = 0) (a : Fin 1024) (l : Fin 1024) :
    (outsAt0 m c t.val t.isLt).2.2.2.2.2.2.2.2 (ix2 a l) = 0 + ((∑ r : Fin 512, x.mix (rowI (ri t) r) a * x.dy (rowI (ri t) r) l : ℝ) : EReal) :=
  (congrFun (start m c t h0 (by omega)).2.2.2.2.2.2 _).trans ((whole_at (N := 1024) (M := 1024) (e := .f32) _ _ _ a l).trans ((Blk.dwo_at (hI t) _ a l).trans (congrArg (· + _) (dwoA_at a l))))
include hI in
theorem wo_step (t : Fin cfg0.N) (h0 : ¬t.val % 16 = 0) (a : Fin 1024) (l : Fin 1024) :
    (outsAt0 m c t.val t.isLt).2.2.2.2.2.2.2.2 (ix2 a l) = (outsAt0 m c (t.val - 1) (by omega)).2.2.2.2.2.2.2.2 (ix2 a l) + ((∑ r : Fin 512, x.mix (rowI (ri t) r) a * x.dy (rowI (ri t) r) l : ℝ) : EReal) := by
  refine (congrFun (step m c t h0).2.2.2.2.2 _).trans ((whole_at (N := 1024) (M := 1024) (e := .f32) _ _ _ a l).trans ((Blk.dwo_at (hI t) _ a l).trans ?_))
  rw [raw4_eq]
include hI in
/-- The output matrix's gradient after the last point. -/
theorem wo_last (a : Fin 1024) (l : Fin 1024) : (outsAt0 m c t0_15.val t0_15.isLt).2.2.2.2.2.2.2.2 (ix2 a l) = (x.dwo a l : EReal) := by
  refine (Pipeline.eq_sum_fin_of_reset_step_apply_last (fun n h => (outsAt0 m c n h).2.2.2.2.2.2.2.2) 16 (fun _ => 0)
    (fun t (j : S1024x1024.Idx) => ((∑ r : Fin 512, x.mix (rowI (ri t) r) (j 0) * x.dy (rowI (ri t) r) (j 1) : ℝ) : EReal))
    (fun t h j => by idx_vars j; exact wo_reset m c hI t h j0 j1)
    (fun t h j => by idx_vars j; exact wo_step m c hI t h j0 j1)
    (le_of_eq N_0) t0_15 rfl (ix2 a l)).trans ?_
  rw [zero_add]
  refine (sum_points (fun i => ∑ r : Fin 512, x.mix (rowI i r) a * x.dy (rowI i r) l)).trans (congrArg _ ?_)
  exact sum_rows fun r => x.mix r a * x.dy r l

/-- The last point stores the output matrix's gradient rounded. -/
theorem wo16_eq (t : Fin cfg0.N) (h0 : ¬t.val % 16 = 0) (h2 : t.val % 16 = 15) (a l : Fin 1024) :
    (outsAt0 m c t.val t.isLt).2.2.2.2.1 (ix2 a l) = (outsAt0 m c t.val t.isLt).2.2.2.2.2.2.2.2 (ix2 a l) := by
  refine (congrFun (step_last m c t h0 h2) _).trans ((whole_at (N := 1024) (M := 1024) (e := .bf16) _ _ _ a l).trans ((dwo16_at _ a l).trans ?_))
  exact ((congrFun (step m c t h0).2.2.2.2.2 _).trans (whole_at (N := 1024) (M := 1024) (e := .f32) _ _ _ a l)).symm

include hI in
/-- The rounded copy of the output matrix's gradient after the last point. -/
theorem wo16_last (a l : Fin 1024) : (outsAt0 m c t0_15.val t0_15.isLt).2.2.2.2.1 (ix2 a l) = (x.dwo a l : EReal) :=
  (wo16_eq m c t0_15 (by decide) (by decide) a l).trans (wo_last m c hI a l)

/-- The sinks' gradients as one array. -/
def skOf (x : Inp) : FVec Ideal S8x128 .f32 := fun y => (x.dsk (y 0) : EReal)

include hI in
/-- The sinks' gradients the kernel leaves. -/
theorem final14 : (dats m 0 c).arrAt 14 cfg0.N = skOf x := by
  refine (dats m 0 c).arrAt_eq_of_after_last 14 t0_15 (by decide +kernel) _ fun j => ?_
  blk_simp
  rw [after0_14]
  idx_vars j
  exact sk_last m c hI j0 j1

/-- The pooling matrices' gradients as one array. -/
def pwOf (x : Inp) : FVec Ideal S512x128 .f32 := fun y => (x.dpw (grpOf (y 0)) (inGrp (y 0)) (y 1) : EReal)

include hI in
/-- The pooling matrices' gradients the kernel leaves. -/
theorem final15 : (dats m 0 c).arrAt 15 cfg0.N = pwOf x := by
  refine (dats m 0 c).arrAt_eq_of_after_last 15 t0_15 (by decide +kernel) _ fun j => ?_
  blk_simp
  rw [after0_15]
  idx_vars j
  exact pw_last m c hI j0 j1

/-- The pooling scales' gradients as one array. -/
def psOf (x : Inp) : FVec Ideal S1x512 .f32 := fun y => (x.dps (y 1) : EReal)

include hI in
/-- The pooling scales' gradients the kernel leaves. -/
theorem final16 : (dats m 0 c).arrAt 16 cfg0.N = psOf x := by
  refine (dats m 0 c).arrAt_eq_of_after_last 16 t0_15 (by decide +kernel) _ fun j => ?_
  blk_simp
  rw [after0_16]
  idx_vars j
  exact ps_last m c hI j0 j1

/-- The output matrix's gradient as one array. -/
def woOf (x : Inp) : FVec Ideal S1024x1024 .bf16 := fun y => (x.dwo (y 0) (y 1) : EReal)

include hI in
/-- The output matrix's gradient the kernel leaves. -/
theorem final17 : (dats m 0 c).arrAt 17 cfg0.N = woOf x := by
  refine (dats m 0 c).arrAt_eq_of_after_last 17 t0_15 (by decide +kernel) _ fun j => ?_
  blk_simp
  rw [after0_17]
  idx_vars j
  exact wo16_last m c hI j0 j1

/-- The gain's gradient as one array. -/
def poOf (x : Inp) : FVec Ideal S1x1024 .f32 := fun y => (x.dpo (y 1) : EReal)

include hI in
/-- The gain's gradient the kernel leaves. -/
theorem final18 : (dats m 0 c).arrAt 18 cfg0.N = poOf x := by
  refine (dats m 0 c).arrAt_eq_of_after_last 18 t0_15 (by decide +kernel) _ fun j => ?_
  blk_simp
  rw [after0_18]
  idx_vars j
  exact po_last m c hI j0 j1

end Cert.Proof.Mx.Point

end
-- ==== Proof.MxBack.lean ====
/- The mixing layer's gradient lines on the host, each vector read at an index as a real: the norm, the gates and
   the pooled half. -/
module

public import proofs.«01_k».proof.Proof.MxFwd

@[expose] public section

set_option maxRecDepth 16384

noncomputable section

open Idealize.ShloMosaic Idealize.ShloMosaic.TcCoe Idealize.SL.Sem

namespace Cert.Proof.Mx.Host

open Cert.MxReferenceIdeal Cert.MxReferenceIdeal.Gen Cert.Proof.RealLift Cert.Proof.Norm

/-- A column of the two halves before their gates, and its gate's argument. -/
def hv (x : Inp) (r : Fin 8192) (c : Fin 1024) : ℝ :=
  if hc : (c : ℕ) < 512 then x.att r ⟨c, hc⟩ else x.yraw r ⟨c - 512, by omega⟩ * x.C ⟨c - 512, by omega⟩
def gv (x : Inp) (r : Fin 8192) (c : Fin 1024) : ℝ := if hc : (c : ℕ) < 512 then x.pga r ⟨c, hc⟩ else x.pgb r ⟨c - 512, by omega⟩

/-- The gate's derivative as the derivative rule writes it. -/
theorem dgate_eq (a g : ℝ) : a / (1 + Real.exp (-g)) + -(-(a * (1 / ((1 + Real.exp (-g)) * (1 + Real.exp (-g)))) * g) * Real.exp (-g)) = a * dsilu g := by
  have := (sig_den_pos g).ne'
  unfold dsilu sig
  field_simp
  ring

variable {x : Inp} {a0 : FVec Ideal S8192x2304 .f32} {a1 : FVec Ideal S1x8 .f32} {a2 : FVec Ideal S1x4x128x128 .f32} {a3 : FVec Ideal S1x512 .f32}
  {a4 : FVec Ideal S1x1024x1024 .f32} {a5 : FVec Ideal S2x1024 .f32} {a6 : FVec Ideal S8192x1024 .f32}
  (h : Reads x a0 a1 a2 a3 a4 a5 a6)

include h

/-! ## The norm -/

theorem msq_at (r : Fin 8192) (u : Fin 1) : msq a0 a1 a2 a3 a4 (ix2 r u) = (ms (x.y r) : EReal) := by
  pointwise [msq, rows_at h]
  exact ms_eq _

theorem rsq_at (r : Fin 8192) (u : Fin 1) : rsq a0 a1 a2 a3 a4 (ix2 r u) = (rs (x.y r) : EReal) := by
  pointwise [rsq, msq_at h]
  exact rs_eq _

theorem normed_at (r : Fin 8192) (j : Fin 1024) : normed a0 a1 a2 a3 a4 (ix2 r j) = ((x.y r j * rs (x.y r) : ℝ) : EReal) := by
  pointwise [normed, rows_at h, rsq_at h]
  rw [EReal.coe_mul]

theorem gGain_at (r : Fin 8192) (j : Fin 1024) : gGain a5 a6 (ix2 r j) = ((x.G r j * x.po j : ℝ) : EReal) := by
  pointwise [gGain, gain, h.po, h.G]
  rw [EReal.coe_mul]

theorem back1_at (r : Fin 8192) (j : Fin 1024) :
    back1 a0 a1 a2 a3 a4 a5 a6 (ix2 r j) = (coef (x.y r) (fun j => x.G r j * x.po j) : EReal) := by
  pointwise [back1, rows_at h, gGain_at h, rsq_at h, msq_at h]
  simp only [bits_1024, bits_neg_half, ← EReal.coe_mul, ← coe_sum]
  rw [Fin.sum_univ_one, div_coe_coe _ _ (ms_pos _).ne', ← EReal.coe_mul, ← EReal.coe_mul, div_coe_coe _ _ (by norm_num)]
  rfl

theorem dRows_at (r : Fin 8192) (j : Fin 1024) : dRows a0 a1 a2 a3 a4 a5 a6 (ix2 r j) = (x.dy r j : EReal) := by
  pointwise [dRows, rows_at h, gGain_at h, rsq_at h, back1_at h]
  simp only [← EReal.coe_mul, ← EReal.coe_add]
  exact congrArg _ (back_eq (x.y r) (fun j => x.G r j * x.po j) j)

theorem dMixed_at (r : Fin 8192) (c : Fin 1024) : dMixed a0 a1 a2 a3 a4 a5 a6 (ix2 r c) = (x.dmix r c : EReal) := by
  pointwise [dMixed, dRows_at h, outW_at h]
  simp only [← EReal.coe_mul, ← coe_sum]
  rfl

/-! ## The gates -/

theorem silus_gv (r : Fin 8192) (c : Fin 1024) : silus a0 (ix2 r c) = (silu (gv x r c) : EReal) := by
  rw [silus_at h]
  refine congrArg _ ?_
  unfold gv
  split
  · rfl
  · rfl

theorem dHalves_at (r : Fin 8192) (c : Fin 1024) : dHalves a0 a1 a2 a3 a4 a5 a6 (ix2 r c) = ((x.dmix r c * silu (gv x r c) : ℝ) : EReal) := by
  pointwise [dHalves, dMixed_at h, silus_gv h]
  rw [EReal.coe_mul]

theorem expGate_at (r : Fin 8192) (c : Fin 1024) : expGate a0 (ix2 r c) = (Real.exp (-(gv x r c)) : EReal) := by
  pointwise [expGate, gates_at h]
  rw [← EReal.coe_neg, Ideal.exp_coe]
  rfl

theorem gateDen_at (r : Fin 8192) (c : Fin 1024) : gateDen a0 (ix2 r c) = ((1 + Real.exp (-(gv x r c)) : ℝ) : EReal) := by
  pointwise [gateDen, expGate_at h]
  rw [EReal.coe_add, EReal.coe_one]

theorem dGate1_at (r : Fin 8192) (c : Fin 1024) : dGate1 a0 a1 a2 a3 a4 a5 a6 (ix2 r c) = ((hv x r c * x.dmix r c : ℝ) : EReal) := by
  pointwise [dGate1, dMixed_at h, halves_at h]
  rw [EReal.coe_mul]
  rfl

theorem gates_gv (r : Fin 8192) (c : Fin 1024) : gates a0 (ix2 r c) = (gv x r c : EReal) := gates_at h r c

theorem dGates_at (r : Fin 8192) (c : Fin 1024) : dGates a0 a1 a2 a3 a4 a5 a6 (ix2 r c) = ((hv x r c * x.dmix r c * dsilu (gv x r c) : ℝ) : EReal) := by
  have hd := (sig_den_pos (gv x r c)).ne'
  pointwise [dGates, dGate1_at h, gateDen_at h, expGate_at h, gates_gv h]
  simp only [← EReal.coe_one, ← EReal.coe_mul]
  rw [div_coe_coe _ _ hd, div_coe_coe _ _ (mul_ne_zero hd hd)]
  simp only [← EReal.coe_mul, ← EReal.coe_neg, ← EReal.coe_add]
  exact congrArg _ (dgate_eq _ _)

theorem dga_at (r : Fin 8192) (c : Fin 512) : dGates a0 a1 a2 a3 a4 a5 a6 (ix2 r (⟨c, by omega⟩ : Fin 1024)) = (x.dga r c : EReal) := by
  rw [dGates_at h]
  refine congrArg _ ?_
  unfold hv gv
  rw [dif_pos c.isLt, dif_pos c.isLt]
  unfold Inp.dga Inp.dma
  ring

theorem dgb_at (r : Fin 8192) (c : Fin 512) (k : Fin 1024) (hk : (k : ℕ) = 512 + c) : dGates a0 a1 a2 a3 a4 a5 a6 (ix2 r k) = (x.dgb r c : EReal) := by
  have ec : (⟨k - 512, by omega⟩ : Fin 512) = c := Fin.ext (by show (k : ℕ) - 512 = c; omega)
  have ek : (⟨512 + c, by omega⟩ : Fin 1024) = k := Fin.ext (by show 512 + (c : ℕ) = k; omega)
  rw [dGates_at h]
  refine congrArg _ ?_
  unfold hv gv
  rw [dif_neg (by omega), dif_neg (by omega)]
  unfold Inp.dgb Inp.dmb
  rw [ec, ek]
  ring

/-! ## The pooled half -/

theorem dPool_at (r : Fin 8192) (c : Fin 512) : dPool a0 a1 a2 a3 a4 a5 a6 (ix2 r c) = (x.dyp r c : EReal) := by
  pointwise [dPool, dHalves_at h]
  refine congrArg _ ?_
  unfold gv
  rw [dif_neg (by show ¬ 512 + (c : ℕ) < 512; omega)]
  unfold Inp.dyp Inp.dmb
  refine congrArg (fun z => x.dmix r ⟨512 + c, by omega⟩ * silu (x.pgb r z)) (Fin.ext ?_)
  show 512 + (c : ℕ) - 512 = c
  omega

theorem dRaw_at (g : Fin 4) (r : Fin 8192) (e : Fin 128) : dRaw a0 a1 a2 a3 a4 a5 a6 (ix3 g r e) = (x.dyr r (grpCol g e) : EReal) := by
  pointwise [dRaw, scales, dPool_at h, h.C]
  unfold Inp.dyr grpCol
  rw [EReal.coe_mul]

theorem dPooled_at (r : Fin 8192) (g : Fin 4) (e : Fin 128) : dPooled a0 a1 a2 a3 a4 a5 a6 (ix3 r g e) = (x.dpl g r e : EReal) := by
  pointwise [dPooled, dRaw_at h, poolW_at h]
  simp only [← EReal.coe_mul, ← coe_sum]
  rfl

/-- A window's sum's cotangent. -/
theorem dSums_at (r : Fin 8192) (g : Fin 4) (e : Fin 128) : dSums a0 a1 a2 a3 a4 a5 a6 (ix3 r g e) = ((x.dpl g r e / cnt (win g) r : ℝ) : EReal) := by
  pointwise [dSums, dPooled_at h, counts_at]
  exact div_coe_coe _ _ (cnt_pos (by unfold win; positivity) r).ne'

theorem dSumsNeg_at (r : Fin 8192) (g : Fin 4) (e : Fin 128) : dSumsNeg a0 a1 a2 a3 a4 a5 a6 (ix3 r g e) = ((-(x.dpl g r e / cnt (win g) r) : ℝ) : EReal) := by
  pointwise [dSumsNeg, dSums_at h]
  rw [EReal.coe_neg]

/-- The running sum `16 - w` rows on of a window of `w`. -/
theorem dShift_at (s : Fin 8208) (g : Fin 4) (e : Fin 128) : dShift a0 a1 a2 a3 a4 a5 a6 (ix3 s g e)
    = ((if hs : 16 ≤ (s : ℕ) + win g ∧ (s : ℕ) + win g < 8208 then -(x.dpl g ⟨s + win g - 16, by omega⟩ e / cnt (win g) (s + win g - 16)) else 0 : ℝ) : EReal) := by
  have term : ∀ (p : Prop) [Decidable p] (hp : p ↔ (16 ≤ (s : ℕ) + win g ∧ (s : ℕ) + win g < 8208)) (k : p → Fin 4) (t : p → Fin 8192)
      (_ : ∀ q, k q = g) (_ : ∀ q, (t q : ℕ) = s + win g - 16),
      (if q : p then ((-(x.dpl (k q) (t q) e / cnt (win (k q)) (t q)) : ℝ) : EReal) else 0)
        = ((if hs : 16 ≤ (s : ℕ) + win g ∧ (s : ℕ) + win g < 8208 then -(x.dpl g ⟨s + win g - 16, by omega⟩ e / cnt (win g) (s + win g - 16)) else 0 : ℝ) : EReal) := by
    intro p _ hp k t hk ht
    by_cases q : p
    · rw [dif_pos q, dif_pos (hp.mp q), hk q, show t q = ⟨s + win g - 16, by have := hp.mp q; omega⟩ from Fin.ext (ht q)]
    · rw [dif_neg q, dif_neg (hp.not.mp q), EReal.coe_zero]
  pointwise [dShift, dSumsNeg_at h]
  fin_vals g with hg
  · obtain rfl : g = 0 := Fin.ext hg
    rw [dif_neg (by simp), dif_neg (by simp), dif_neg (by simp), zero_add, zero_add, zero_add]
    refine term _ (by show _ ↔ 16 ≤ (s : ℕ) + 2 ∧ (s : ℕ) + 2 < 8208; simp; omega) _ _ (fun _ => rfl) fun _ => ?_
    show (s : ℕ) - 14 = s + 2 - 16
    omega
  · obtain rfl : g = 1 := Fin.ext hg
    rw [dif_neg (by simp), dif_neg (by simp), dif_neg (c := (14 ≤ (s : ℕ) ∧ (s : ℕ) - 14 < 8192) ∧ _) (by simp), zero_add, zero_add, add_zero]
    refine term _ (by show _ ↔ 16 ≤ (s : ℕ) + 4 ∧ (s : ℕ) + 4 < 8208; simp; omega) _ _ (fun _ => rfl) fun _ => ?_
    show (s : ℕ) - 12 = s + 4 - 16
    omega
  · obtain rfl : g = 2 := Fin.ext hg
    rw [dif_neg (by simp), dif_neg (c := (12 ≤ (s : ℕ) ∧ (s : ℕ) - 12 < 8192) ∧ _) (by simp), dif_neg (c := (14 ≤ (s : ℕ) ∧ (s : ℕ) - 14 < 8192) ∧ _) (by simp), zero_add, add_zero, add_zero]
    refine term _ (by show _ ↔ 16 ≤ (s : ℕ) + 8 ∧ (s : ℕ) + 8 < 8208; simp; omega) _ _ (fun _ => rfl) fun _ => ?_
    show (s : ℕ) - 8 = s + 8 - 16
    omega
  · obtain rfl : g = 3 := Fin.ext hg
    rw [dif_neg (c := (8 ≤ (s : ℕ) ∧ (s : ℕ) - 8 < 8192) ∧ _) (by simp), dif_neg (c := (12 ≤ (s : ℕ) ∧ (s : ℕ) - 12 < 8192) ∧ _) (by simp), dif_neg (c := (14 ≤ (s : ℕ) ∧ (s : ℕ) - 14 < 8192) ∧ _) (by simp), add_zero, add_zero, add_zero]
    refine term _ (by show _ ↔ 16 ≤ (s : ℕ) + 16 ∧ (s : ℕ) + 16 < 8208; simp; omega) _ _ (fun _ => rfl) fun _ => ?_
    show (s : ℕ) = s + 16 - 16
    omega

omit h in
/-- A sum over shifted positions. -/
theorem shift_eq (w r : ℕ) (f : Fin 8192 → ℝ) :
    (∑ i : Fin 8192, if r ≤ i then (if hi : (i : ℕ) + w < 8192 then f ⟨i + w, hi⟩ else 0) else 0)
      = ∑ j : Fin 8192, if r < j + 1 - w then f j else 0 := by
  have e : ∀ i : Fin 8192, (if r ≤ i then (if hi : (i : ℕ) + w < 8192 then f ⟨i + w, hi⟩ else 0) else 0)
      = ∑ j : Fin 8192, if r ≤ (i : ℕ) ∧ (j : ℕ) = i + w then f j else 0 := by
    intro i
    by_cases hr : r ≤ (i : ℕ)
    · rw [if_pos hr]
      by_cases hi : (i : ℕ) + w < 8192
      · rw [dif_pos hi, Finset.sum_eq_single (⟨i + w, hi⟩ : Fin 8192) (fun j _ hj => if_neg fun hh => hj (Fin.ext hh.2)) (fun hh => absurd (Finset.mem_univ _) hh),
          if_pos ⟨hr, rfl⟩]
      · rw [dif_neg hi, Finset.sum_eq_zero fun j _ => if_neg (by have := j.isLt; omega)]
    · rw [if_neg hr, Finset.sum_eq_zero fun j _ => if_neg fun hh => hr hh.1]
  simp only [e]
  rw [Finset.sum_comm]
  refine Finset.sum_congr rfl fun j _ => ?_
  by_cases hj : r < (j : ℕ) + 1 - w
  · rw [if_pos hj, Finset.sum_eq_single (⟨j - w, by omega⟩ : Fin 8192) (fun i _ hi => if_neg fun hh => hi (Fin.ext (by show (i : ℕ) = j - w; omega)))
      (fun hh => absurd (Finset.mem_univ _) hh), if_pos (by show r ≤ (j : ℕ) - w ∧ (j : ℕ) = j - w + w; omega)]
  · rw [if_neg hj, Finset.sum_eq_zero fun i _ => if_neg (by omega)]

/-- The rows' gradient through the running sums. -/
def dRun (a0 : FVec Ideal S8192x2304 .f32) (a1 : FVec Ideal S1x8 .f32) (a2 : FVec Ideal S1x4x128x128 .f32) (a3 : FVec Ideal S1x512 .f32)
    (a4 : FVec Ideal S1x1024x1024 .f32) (a5 : FVec Ideal S2x1024 .f32) (a6 : FVec Ideal S8192x1024 .f32) : FVec Ideal S8192x4x128 .f32 :=
  Host.reduceWindowAdd ![8192, 1, 1] ![1, 1, 1] ![0, 0, 0] ![8191, 0, 0] (addf (dSums a0 a1 a2 a3 a4 a5 a6) (extractStridedSlice S8192x4x128 ![16, 0, 0] (dShift a0 a1 a2 a3 a4 a5 a6) slices_S8208x4x128_S8192x4x128_16_0_0)) (broadcastInDim S_ ![] bcast_S_S_ (constant (F := Ideal) S_ .f32 0x00000000#32)) reduceWindows_S8192x4x128_S8192x4x128_w8192s1p0_8191_w1s1p0_0_w1s1p0_0 h_S_

theorem dRun_at (r : Fin 8192) (g : Fin 4) (e : Fin 128) : dRun a0 a1 a2 a3 a4 a5 a6 (ix3 r g e)
    = ((∑ i : Fin 8192, if In (win g) i r then x.dpl g i e / cnt (win g) i else 0 : ℝ) : EReal) := by
  have e0 : (broadcastInDim S_ ![] bcast_S_S_ (constant (F := Ideal) S_ .f32 0x00000000#32) (Shape.Idx.first h_S_) : EReal) = 0 := by
    show Ideal.ofBits .f32 0x00000000#32 = 0
    rw [bits_zero, EReal.coe_zero]
  unfold dRun Host.reduceWindowAdd
  rw [Ideal.hostReduceWindowAdd_def, e0]
  refine (window_sum 0 8191 _ _ r g e).trans ?_
  rw [← unwindow_eq (win g) (fun i => x.dpl g i e / cnt (win g) i) r, ← shift_eq, ← Finset.sum_add_distrib, coe_sum]
  refine Finset.sum_congr rfl fun i _ => ?_
  have hw : 0 < win g := by unfold win; positivity
  by_cases hi : (r : ℕ) ≤ i
  · rw [if_pos ⟨by omega, by have := i.isLt; omega⟩, if_pos hi, if_pos hi]
    pointwise [dSums_at h, dShift_at h]
    rw [← EReal.coe_add]
    refine congrArg (fun z : ℝ => ((x.dpl g i e / cnt (win g) i + z : ℝ) : EReal)) ?_
    by_cases hn : (i : ℕ) + win g < 8192
    · rw [dif_pos hn, dif_pos (by omega)]
      have e1 : 16 + (i : ℕ) + win g - 16 = i + win g := by omega
      simp only [e1]
    · rw [dif_neg hn, dif_neg (by omega)]
  · rw [if_neg (by omega), if_neg hi, if_neg hi, add_zero, EReal.coe_zero]

end Cert.Proof.Mx.Host

end
-- ==== Proof.MxAtt.lean ====
/- The mixing layer's gradient lines on the host, each vector read at an index as a real: the attention. -/
module

public import proofs.«01_k».proof.Proof.MxBack

@[expose] public section

set_option maxRecDepth 16384

noncomputable section

open Idealize.ShloMosaic Idealize.ShloMosaic.TcCoe Idealize.SL.Sem

namespace Cert.Proof.Mx.Host

open Cert.MxReferenceIdeal Cert.MxReferenceIdeal.Gen Cert.Proof.RealLift

/-- A maximum over a nonempty type is attained. -/
theorem fold_max_attained {ι : Type*} [Fintype ι] [Nonempty ι] (f : ι → EReal) : ∃ i, f i = Finset.univ.fold max ⊥ f := by
  classical
  have key : ∀ s : Finset ι, s.fold max ⊥ f = ⊥ ∨ ∃ i, f i = s.fold max ⊥ f := by
    intro s
    induction s using Finset.induction_on with
    | empty => exact Or.inl Finset.fold_empty
    | insert a s ha ih =>
      rw [Finset.fold_insert ha]
      rcases le_total (f a) (s.fold max ⊥ f) with hl | hl
      · rw [max_eq_right hl]; exact ih
      · rw [max_eq_left hl]; exact Or.inr ⟨a, rfl⟩
  rcases key Finset.univ with hb | hb
  · obtain ⟨i⟩ := (inferInstance : Nonempty ι)
    refine ⟨i, le_antisymm ?_ ?_⟩
    · rw [Finset.le_fold_max]
      exact Or.inr ⟨i, Finset.mem_univ _, le_rfl⟩
    · rw [hb]; exact bot_le
  · exact hb

/-- A decided bit as a number. -/
theorem bit_num (p : Prop) [Decidable p] : (((BitVec.ofBool (decide p)).toNat : ℝ) : EReal) = if p then 1 else 0 := by
  by_cases h : p <;> simp [h]

variable {x : Inp} {a0 : FVec Ideal S8192x2304 .f32} {a1 : FVec Ideal S1x8 .f32} {a2 : FVec Ideal S1x4x128x128 .f32} {a3 : FVec Ideal S1x512 .f32}
  {a4 : FVec Ideal S1x1024x1024 .f32} {a5 : FVec Ideal S2x1024 .f32} {a6 : FVec Ideal S8192x1024 .f32}
  (h : Reads x a0 a1 a2 a3 a4 a5 a6)

include h

/-! ## Scores -/

theorem hit_at (n : Fin 64) (k : Fin 2) (q : Fin 128) (g : Fin 4) (s : Fin 256) : hit a0 (ix5 n k q g s)
    = if (x.hd n (headAt k g)).score q s = Finset.univ.fold max ⊥ ((x.hd n (headAt k g)).score q) then (1 : EReal) else 0 := by
  pointwise [hit, score_at h, top_at h]
  exact bit_num _

/-- How many keys attain the row's maximum: never none. -/
theorem hits_ne (n : Fin 64) (k : Fin 2) (q : Fin 128) (g : Fin 4) : (∑ s : Fin 256, hit a0 (ix5 n k q g s) : EReal) ≠ 0 := by
  obtain ⟨s, hs⟩ := fold_max_attained ((x.hd n (headAt k g)).score q)
  have nn : ∀ t ∈ (Finset.univ : Finset (Fin 256)), (0 : EReal) ≤ hit a0 (ix5 n k q g t) := fun t _ => by
    rw [hit_at h]; split <;> simp
  intro h0
  have := (Finset.sum_eq_zero_iff_of_nonneg nn).mp h0 s (Finset.mem_univ _)
  rw [hit_at h, if_pos hs] at this
  exact one_ne_zero this

theorem dAtt_at (n : Fin 64) (k : Fin 2) (q : Fin 128) (g : Fin 4) (d : Fin 64) :
    dAtt a0 a1 a2 a3 a4 a5 a6 (ix5 n k q g d) = ((x.hd n (headAt k g)).dO q d : EReal) := by
  pointwise [dAtt, dHalves_at h]
  have e1 : (⟨k * 256 + g * 64 + d, by omega⟩ : Fin 512) = headCol (headAt k g) d := Fin.ext (by show (k * 256 + g * 64 + d : ℕ) = (k * 4 + g) * 64 + d; omega)
  have e2 : gv x (rowOf n q) ⟨k * 256 + g * 64 + d, by omega⟩ = x.pga (rowOf n q) (headCol (headAt k g) d) := by
    unfold gv
    rw [dif_pos (by show (k * 256 + g * 64 + d : ℕ) < 512; omega)]
    exact congrArg _ e1
  show ((x.dmix (rowOf n q) ⟨k * 256 + g * 64 + d, _⟩ * silu (gv x (rowOf n q) ⟨k * 256 + g * 64 + d, _⟩) : ℝ) : EReal) = ((x.dma (rowOf n q) (headCol (headAt k g) d) * silu (x.pga (rowOf n q) (headCol (headAt k g) d)) : ℝ) : EReal)
  rw [e2, ← e1]
  rfl

theorem hd_V (n : Fin 64) (k : Fin 2) (g : Fin 4) : (x.hd n (headAt k g)).V = Inp.past x.pv n k := by
  show Inp.past x.pv n (kvOf (headAt k g)) = _
  rw [kvOf_headAt]

theorem hd_K (n : Fin 64) (k : Fin 2) (g : Fin 4) : (x.hd n (headAt k g)).K = Inp.past x.pk n k := by
  show Inp.past x.pk n (kvOf (headAt k g)) = _
  rw [kvOf_headAt]

theorem dWeights_at (n : Fin 64) (k : Fin 2) (q : Fin 128) (g : Fin 4) (s : Fin 256) :
    dWeights a0 a1 a2 a3 a4 a5 a6 (ix5 n k q g s) = ((x.hd n (headAt k g)).dp q s : EReal) := by
  pointwise [dWeights, dAtt_at h, vals_at h]
  simp only [← EReal.coe_mul, ← coe_sum]
  unfold Head.dp
  rw [hd_V h]

theorem dNorm_at (n : Fin 64) (k : Fin 2) (q : Fin 128) (g : Fin 4) :
    dNorm a0 a1 a2 a3 a4 a5 a6 (ix4 n k q g) = ((-((x.hd n (headAt k g)).dl q / (x.hd n (headAt k g)).den q) : ℝ) : EReal) := by
  pointwise [dNorm, dWeights_at h, norms_at h, exps_at h]
  have hd := ((x.hd n (headAt k g)).den_pos q).ne'
  rw [← EReal.coe_one]
  simp only [bits_zero, bits_one, ← EReal.coe_mul, div_coe_coe _ _ (mul_ne_zero hd hd), ← EReal.coe_neg, ← coe_sum, EReal.coe_zero, zero_add]
  rw [← Head.dden_eq, ← Finset.sum_neg_distrib]

theorem dSinkE_at (n : Fin 64) (k : Fin 2) (q : Fin 128) (g : Fin 4) :
    dSinkE a0 a1 a2 a3 a4 a5 a6 (ix4 n k q g) = ((-((x.hd n (headAt k g)).ps q * (x.hd n (headAt k g)).dl q) : ℝ) : EReal) := by
  pointwise [dSinkE, dNorm_at h, expSink_at h]
  rw [← EReal.coe_mul, Head.dsink_eq]

theorem dScoreE_at (n : Fin 64) (k : Fin 2) (q : Fin 128) (g : Fin 4) (s : Fin 256) :
    dScoreE a0 a1 a2 a3 a4 a5 a6 (ix5 n k q g s) = ((x.hd n (headAt k g)).ds q s : EReal) := by
  pointwise [dScoreE, dWeights_at h, norms_at h, dNorm_at h, exps_at h]
  rw [div_coe_coe _ _ ((x.hd n (headAt k g)).den_pos q).ne', ← EReal.coe_add, ← EReal.coe_mul, Head.ds_eq]

theorem dMax_at (n : Fin 64) (k : Fin 2) (q : Fin 128) (g : Fin 4) : dMax a0 a1 a2 a3 a4 a5 a6 (ix4 n k q g) = ((0 : ℝ) : EReal) := by
  pointwise [dMax, dSinkE_at h, dScoreE_at h]
  simp only [bits_zero, ← EReal.coe_neg, ← coe_sum, EReal.coe_zero, zero_add]
  rw [← EReal.coe_add, Head.dmax_eq, EReal.coe_zero]

omit h in
theorem hits_at (v : FVec Ideal S64x2x128x4x256 .f32) (n : Fin 64) (k : Fin 2) (q : Fin 128) (g : Fin 4) :
    Host.reduceAdd v (constant (F := Ideal) S_ .f32 0x00000000#32) reducesTo_S64x2x128x4x256_S64x2x128x4_d4 h_S_ (ix4 n k q g)
      = ∑ s : Fin 256, (v (ix5 n k q g s) : EReal) := by
  pointwise []

omit h in
/-- A score's cotangent, where the maximum's is zero. -/
theorem score_line (p : IVec S64x2x128x4x256 1) (E H : FVec Ideal S64x2x128x4x256 .f32) (D S C : FVec Ideal S64x2x128x4 .f32)
    (n : Fin 64) (k : Fin 2) (q : Fin 128) (g : Fin 4) (s : Fin 256) (hD : D (ix4 n k q g) = ((0 : ℝ) : EReal)) (hC : (C (ix4 n k q g) : EReal) ≠ 0) :
    mulf (select p (addf E (mulf (broadcastInDim S64x2x128x4x256 ![0, 1, 2, 3] bcast_S64x2x128x4_S64x2x128x4x256_0_1_2_3 (Host.divf (mulf D S) C)) H)) (broadcastInDim S64x2x128x4x256 ![] bcast_S_S64x2x128x4x256 (constant (F := Ideal) S_ .f32 0x00000000#32))) (broadcastInDim S64x2x128x4x256 ![] bcast_S_S64x2x128x4x256 (constant (F := Ideal) S_ .f32 0x3E000000#32)) (ix5 n k q g s)
      = (Scalar.select (p (ix5 n k q g s)) (E (ix5 n k q g s)) 0 : EReal) * ((1 / 8 : ℝ) : EReal) := by
  pointwise [hD]
  rw [EReal.coe_zero, zero_mul]
  unfold Ideal.div
  rw [if_neg hC, zero_mul, zero_mul, add_zero, bits_eighth]

theorem dScore_at (n : Fin 64) (k : Fin 2) (q : Fin 128) (g : Fin 4) (s : Fin 256) :
    dScore a0 a1 a2 a3 a4 a5 a6 (ix5 n k q g s) = (((x.hd n (headAt k g)).ds q s * (1 / 8) : ℝ) : EReal) := by
  unfold dScore
  refine (score_line _ _ _ _ _ _ n k q g s (dMax_at h n k q g) ?_).trans ?_
  · rw [hits_at]
    exact hits_ne h n k q g
  · rw [seen_at, sel, dScoreE_at h]
    split
    · rw [EReal.coe_mul]
    · rw [Head.ds_unseen _ ‹_›, zero_mul, zero_mul, EReal.coe_zero]

/-! ## The sinks -/

omit h in
/-- A sum over the blocks and the rows of a block. -/
theorem sum_rows (v : FVec Ideal S64x2x128x4 .f32) (k : Fin 2) (g : Fin 4) :
    Host.reduceAdd v (constant (F := Ideal) S_ .f32 0x00000000#32) reducesTo_S64x2x128x4_S2x4_d0_2 h_S_ (ix2 k g)
      = ∑ n : Fin 64, ∑ q : Fin 128, (v (ix4 n k q g) : EReal) := by
  have hd : ∀ (n : Fin 64) (k' : Fin 2) (q : Fin 128) (g' : Fin 4), reducesTo_S64x2x128x4_S2x4_d0_2.drop (ix4 n k' q g') = ix2 k' g' := by
    intro n k' q g'
    funext b
    refine Fin.ext ?_
    match b with
    | ⟨0, _⟩ => rfl
    | ⟨1, _⟩ => rfl
  rw [ValueIdx.hostReduceAdd_apply]
  show (Ideal.ofBits .f32 0x00000000#32 : EReal) + ∑ i ∈ Finset.univ.filter (fun i => reducesTo_S64x2x128x4_S2x4_d0_2.drop i = ix2 k g), (v i : EReal) = _
  rw [bits_zero, EReal.coe_zero, zero_add, Finset.sum_filter]
  refine (sum_idx4 _).trans ?_
  refine Finset.sum_congr rfl fun n _ => ?_
  simp only [hd, ix2_inj]
  rw [Finset.sum_eq_single k (fun k' _ hk => Finset.sum_eq_zero fun q _ => Finset.sum_eq_zero fun g' _ => if_neg fun hh => hk hh.1) (fun hh => absurd (Finset.mem_univ _) hh)]
  refine Finset.sum_congr rfl fun q _ => ?_
  rw [Finset.sum_eq_single g (fun g' _ hg => if_neg fun hh => hg hh.2) (fun hh => absurd (Finset.mem_univ _) hh), if_pos ⟨rfl, rfl⟩]

theorem dsk_at (z : FVec Ideal S64x2x128x4 .f32) (k : Fin 2) (g : Fin 4) :
    Host.reduceAdd (addf (dSinkE a0 a1 a2 a3 a4 a5 a6) (mulf (dMax a0 a1 a2 a3 a4 a5 a6) z)) (constant (F := Ideal) S_ .f32 0x00000000#32) reducesTo_S64x2x128x4_S2x4_d0_2 h_S_ (ix2 k g)
      = (x.dsk (headAt k g) : EReal) := by
  refine (sum_rows _ k g).trans ?_
  have key : ∀ (u v w : FVec Ideal S64x2x128x4 .f32) i, addf u (mulf v w) i = (u i + v i * w i : EReal) := fun _ _ _ _ => rfl
  simp only [key, dSinkE_at h, dMax_at h]
  simp only [EReal.coe_zero, zero_mul, add_zero, ← coe_sum]
  unfold Inp.dsk Head.dS
  simp only [Finset.sum_neg_distrib]

/-! ## Queries, keys and values -/

theorem weights_dot (n : Fin 64) (s : Fin 256) (k : Fin 2) (d : Fin 64) :
    Host.dotGeneral dot_S64x2x128x4x64_S64x2x128x4x256_S64x2x64x256_23_23_4_4_01_01 none (dAtt a0 a1 a2 a3 a4 a5 a6) (weights a0 a1) (ix4 n k d s)
      = (x.dvAt n s ⟨k * 64 + d, by omega⟩ : EReal) := by
  pointwise [dAtt_at h, weights_at h]
  simp only [← EReal.coe_mul, ← coe_sum]
  unfold Inp.dvAt Head.dV
  have e1 : (⟨(k * 64 + d : ℕ) / 64, by omega⟩ : Fin 2) = k := Fin.ext (by show (k * 64 + d : ℕ) / 64 = k; omega)
  have e2 : (⟨(k * 64 + d : ℕ) % 64, by omega⟩ : Fin 64) = d := Fin.ext (by show (k * 64 + d : ℕ) % 64 = d; omega)
  rw [Finset.sum_comm, e1, e2]
  exact congrArg _ (Finset.sum_congr rfl fun g _ => Finset.sum_congr rfl fun q _ => mul_comm _ _)

theorem scores_dot (n : Fin 64) (s : Fin 256) (k : Fin 2) (d : Fin 64) :
    Host.dotGeneral dot_S64x2x128x4x256_S64x128x2x4x64_S64x2x256x64_23_13_4_4_01_02 none (dScore a0 a1 a2 a3 a4 a5 a6) (queries a0) (ix4 n k s d)
      = (x.dkAt n s ⟨k * 64 + d, by omega⟩ : EReal) := by
  pointwise [dScore_at h, queries_at h]
  simp only [← EReal.coe_mul, ← coe_sum]
  unfold Inp.dkAt Head.dK
  have e1 : (⟨(k * 64 + d : ℕ) / 64, by omega⟩ : Fin 2) = k := Fin.ext (by show (k * 64 + d : ℕ) / 64 = k; omega)
  have e2 : (⟨(k * 64 + d : ℕ) % 64, by omega⟩ : Fin 64) = d := Fin.ext (by show (k * 64 + d : ℕ) % 64 = d; omega)
  rw [Finset.sum_comm, e1, e2]
  exact congrArg _ (Finset.sum_congr rfl fun g _ => Finset.sum_congr rfl fun q _ => by rw [mul_assoc, mul_comm (1 / 8 : ℝ)]; rfl)

theorem dKvPast_at (n : Fin 64) (s : Fin 256) (t k : Fin 2) (d : Fin 64) : dKvPast a0 a1 a2 a3 a4 a5 a6 (ix5 n s t k d)
    = ((if t = 0 then x.dkAt n s ⟨k * 64 + d, by omega⟩ else x.dvAt n s ⟨k * 64 + d, by omega⟩ : ℝ) : EReal) := by
  unfold dKvPast
  generalize hA : (Host.dotGeneral (F := Ideal) dot_S64x2x128x4x64_S64x2x128x4x256_S64x2x64x256_23_23_4_4_01_01 none (dAtt a0 a1 a2 a3 a4 a5 a6) (weights a0 a1) : FVec Ideal S64x2x64x256 .f32) = A
  generalize hB : (Host.dotGeneral (F := Ideal) dot_S64x2x128x4x256_S64x128x2x4x64_S64x2x256x64_23_13_4_4_01_02 none (dScore a0 a1 a2 a3 a4 a5 a6) (queries a0) : FVec Ideal S64x2x256x64 .f32) = B
  pointwise []
  subst hA hB
  rw [weights_dot h, scores_dot h]
  fin_vals t with ht
  · obtain rfl : t = 0 := Fin.ext ht
    rw [dif_neg (by simp), dif_pos (by simp), zero_add, if_pos rfl]
  · obtain rfl : t = 1 := Fin.ext ht
    rw [dif_pos (by simp), dif_neg (by simp), add_zero, if_neg (by simp)]

/-- The gradient of the pooled half's rows. -/
def dUp (a0 : FVec Ideal S8192x2304 .f32) (a1 : FVec Ideal S1x8 .f32) (a2 : FVec Ideal S1x4x128x128 .f32) (a3 : FVec Ideal S1x512 .f32)
    (a4 : FVec Ideal S1x1024x1024 .f32) (a5 : FVec Ideal S2x1024 .f32) (a6 : FVec Ideal S8192x1024 .f32) : FVec Ideal S8192x4x128 .f32 :=
  addf (Host.negf (dPooled a0 a1 a2 a3 a4 a5 a6)) (dRun a0 a1 a2 a3 a4 a5 a6)

theorem dUp_at (r : Fin 8192) (c : Fin 512) : dUp a0 a1 a2 a3 a4 a5 a6 (ix3 r (grpOf c) (inGrp c)) = (x.du r c : EReal) := by
  pointwise [dUp, dPooled_at h, dRun_at h]
  rw [← EReal.coe_neg, ← EReal.coe_add, neg_add_eq_sub]
  rfl

/-- The gradient of keys and values, row by row. -/
def dKv (a0 : FVec Ideal S8192x2304 .f32) (a1 : FVec Ideal S1x8 .f32) (a2 : FVec Ideal S1x4x128x128 .f32) (a3 : FVec Ideal S1x512 .f32)
    (a4 : FVec Ideal S1x1024x1024 .f32) (a5 : FVec Ideal S2x1024 .f32) (a6 : FVec Ideal S8192x1024 .f32) : FVec Ideal S64x128x2x2x64 .f32 :=
  addf (extractStridedSlice S64x128x2x2x64 ![0, 128, 0, 0, 0] (dKvPast a0 a1 a2 a3 a4 a5 a6) slices_S64x256x2x2x64_S64x128x2x2x64_0_128_0_0_0) (pad S64x128x2x2x64 ![0, 0, 0, 0, 0] ![1, 0, 0, 0, 0] ![0, 0, 0, 0, 0] (extractStridedSlice S63x128x2x2x64 ![1, 0, 0, 0, 0] (dKvPrev a0 a1 a2 a3 a4 a5 a6) slices_S64x128x2x2x64_S63x128x2x2x64_1_0_0_0_0) (constant (F := Ideal) S_ .f32 0x00000000#32) pads_S63x128x2x2x64_S64x128x2x2x64_010_000_000_000_000 h_S_)

theorem dKv_at (r : Fin 8192) (t k : Fin 2) (d : Fin 64) : dKv a0 a1 a2 a3 a4 a5 a6 (ix5 (blkOf r) (inBlk r) t k d)
    = ((if t = 0 then x.dk r ⟨k * 64 + d, by omega⟩ else x.dv r ⟨k * 64 + d, by omega⟩ : ℝ) : EReal) := by
  have hr := r.isLt
  pointwise [dKv, dKvPrev, dKvPast_at h]
  have key : ∀ (f : Fin 64 → Fin 256 → Fin 128 → ℝ) (c : Fin 128),
      ((f (blkOf r) ⟨128 + inBlk r, by omega⟩ c : ℝ) : EReal) + (if hb : (blkOf r : ℕ) < 63 then ((f ⟨1 + blkOf r, by omega⟩ ⟨inBlk r, by omega⟩ c : ℝ) : EReal) else 0)
        = ((Inp.both f r c : ℝ) : EReal) := by
    intro f c
    unfold Inp.both
    by_cases hb : (blkOf r : ℕ) < 63
    · have e1 : (⟨1 + blkOf r, by omega⟩ : Fin 64) = ⟨blkOf r + 1, by omega⟩ := Fin.ext (Nat.add_comm _ _)
      rw [dif_pos hb, dif_pos (by omega), e1, EReal.coe_add]
    · rw [dif_neg hb, dif_neg (by omega), add_zero, add_zero]
  by_cases ht : t = 0
  · simp only [if_pos ht]
    exact key x.dkAt _
  · simp only [if_neg ht]
    exact key x.dvAt _

/-- The gradient of the queries, row by row. -/
def dQs (a0 : FVec Ideal S8192x2304 .f32) (a1 : FVec Ideal S1x8 .f32) (a2 : FVec Ideal S1x4x128x128 .f32) (a3 : FVec Ideal S1x512 .f32)
    (a4 : FVec Ideal S1x1024x1024 .f32) (a5 : FVec Ideal S2x1024 .f32) (a6 : FVec Ideal S8192x1024 .f32) : FVec Ideal S64x128x2x4x64 .f32 :=
  transpose S64x128x2x4x64 [0, 2, 1, 3, 4] (Host.dotGeneral dot_S64x2x128x4x256_S64x256x2x64_S64x2x128x4x64_4_1_23_3_01_02 none (dScore a0 a1 a2 a3 a4 a5 a6) (keys a0)) transposes_S64x2x128x4x64_S64x128x2x4x64_0_2_1_3_4

theorem dQs_at (n : Fin 64) (q : Fin 128) (k : Fin 2) (g : Fin 4) (d : Fin 64) : dQs a0 a1 a2 a3 a4 a5 a6 (ix5 n q k g d)
    = ((x.hd n (headAt k g)).dQ q d : EReal) := by
  pointwise [dQs, dScore_at h, keys_at h]
  simp only [← EReal.coe_mul, ← coe_sum]
  unfold Head.dQ
  rw [hd_K h, Finset.sum_mul]
  exact congrArg _ (Finset.sum_congr rfl fun s _ => by ring)

/-- The gradient of the projected rows. -/
def rProj (a0 : FVec Ideal S8192x2304 .f32) (a1 : FVec Ideal S1x8 .f32) (a2 : FVec Ideal S1x4x128x128 .f32) (a3 : FVec Ideal S1x512 .f32)
    (a4 : FVec Ideal S1x1024x1024 .f32) (a5 : FVec Ideal S2x1024 .f32) (a6 : FVec Ideal S8192x1024 .f32) : FVec Ideal S8192x2304 .bf16 :=
  truncf .bf16 (addf (addf (addf (addf (pad S8192x2304 ![0, 1792] ![0, 0] ![0, 0] (extractStridedSlice S8192x512 ![0, 512] (dGates a0 a1 a2 a3 a4 a5 a6) slices_S8192x1024_S8192x512_0_512) (constant (F := Ideal) S_ .f32 0x00000000#32) pads_S8192x512_S8192x2304_000_179200 h_S_) (pad S8192x2304 ![0, 768] ![0, 1024] ![0, 0] (extractStridedSlice S8192x512 ![0, 0] (dGates a0 a1 a2 a3 a4 a5 a6) slices_S8192x1024_S8192x512_0_0) (constant (F := Ideal) S_ .f32 0x00000000#32) pads_S8192x512_S8192x2304_000_76810240 h_S_)) (pad S8192x2304 ![0, 1280] ![0, 512] ![0, 0] (shapeCast _ (dUp a0 a1 a2 a3 a4 a5 a6) shapeCasts_S8192x4x128_S8192x512) (constant (F := Ideal) S_ .f32 0x00000000#32) pads_S8192x512_S8192x2304_000_12805120 h_S_)) (pad S8192x2304 ![0, 512] ![0, 1536] ![0, 0] (shapeCast _ (dKv a0 a1 a2 a3 a4 a5 a6) shapeCasts_S64x128x2x2x64_S8192x256) (constant (F := Ideal) S_ .f32 0x00000000#32) pads_S8192x256_S8192x2304_000_51215360 h_S_)) (pad S8192x2304 ![0, 0] ![0, 1792] ![0, 0] (shapeCast _ (dQs a0 a1 a2 a3 a4 a5 a6) shapeCasts_S64x128x2x4x64_S8192x512) (constant (F := Ideal) S_ .f32 0x00000000#32) pads_S8192x512_S8192x2304_000_017920 h_S_)) bitsLt_bf16_f32

omit h in
theorem hv_low (x : Inp) (r : Fin 8192) (c : Fin 512) : hv x r ⟨c, by omega⟩ = x.att r c := by
  unfold hv; rw [dif_pos (show (c : ℕ) < 512 from c.isLt)]

omit h in
theorem gv_low (x : Inp) (r : Fin 8192) (c : Fin 512) : gv x r ⟨c, by omega⟩ = x.pga r c := by
  unfold gv; rw [dif_pos (show (c : ℕ) < 512 from c.isLt)]

omit h in
theorem hv_high (x : Inp) (r : Fin 8192) (c : Fin 512) : hv x r ⟨512 + c, by omega⟩ = x.yraw r c * x.C c := by
  have e : (⟨512 + c - 512, by omega⟩ : Fin 512) = c := Fin.ext (by show 512 + (c : ℕ) - 512 = c; omega)
  unfold hv; rw [dif_neg (show ¬ 512 + (c : ℕ) < 512 by omega)]
  exact congrArg (fun j => x.yraw r j * x.C j) e

omit h in
theorem gv_high (x : Inp) (r : Fin 8192) (c : Fin 512) : gv x r ⟨512 + c, by omega⟩ = x.pgb r c := by
  have e : (⟨512 + c - 512, by omega⟩ : Fin 512) = c := Fin.ext (by show 512 + (c : ℕ) - 512 = c; omega)
  unfold gv; rw [dif_neg (show ¬ 512 + (c : ℕ) < 512 by omega)]
  exact congrArg (x.pgb r) e

theorem rProj_at (r : Fin 8192) (c : Fin 2304) : rProj a0 a1 a2 a3 a4 a5 a6 (ix2 r c) = (x.dproj r c : EReal) := by
  pointwise [rProj, dGates_at h]
  have hc := c.isLt
  unfold Inp.dproj
  by_cases h0 : (c : ℕ) < 512
  · rw [dif_neg (by omega), dif_neg (by omega), dif_neg (by omega), dif_neg (by omega), dif_pos (by omega), dif_pos h0, add_zero, add_zero, add_zero, zero_add, dQs_at h]
    have e1 : headAt ⟨c / 256, by omega⟩ ⟨c / 64 % 4, by omega⟩ = headOf ⟨c, h0⟩ := Fin.ext (by show (c / 256 * 4 + c / 64 % 4 : ℕ) = c / 64; omega)
    rw [e1]
    rfl
  by_cases h1 : (c : ℕ) < 768
  · rw [dif_neg (by omega), dif_neg (by omega), dif_neg (by omega), dif_pos (by omega), dif_neg (by omega), dif_neg h0, add_zero, add_zero, add_zero, zero_add]
    refine (dKv_at h r ⟨(c - 512) / 128, by omega⟩ ⟨(c - 512) / 64 % 2, by omega⟩ ⟨(c - 512) % 64, by omega⟩).trans ?_
    by_cases h2 : (c : ℕ) < 640
    · rw [if_pos (Fin.ext (by show ((c : ℕ) - 512) / 128 = 0; omega)), dif_pos h2]
      exact congrArg (fun j => (x.dk r j : EReal)) (Fin.ext (by show (((c : ℕ) - 512) / 64 % 2 * 64 + (c - 512) % 64) = c - 512; omega))
    · rw [if_neg (fun hh => by have : ((c : ℕ) - 512) / 128 = 0 := congrArg Fin.val hh; omega), dif_neg h2, dif_pos h1]
      exact congrArg (fun j => (x.dv r j : EReal)) (Fin.ext (by show (((c : ℕ) - 512) / 64 % 2 * 64 + (c - 512) % 64) = c - 640; omega))
  by_cases h3 : (c : ℕ) < 1280
  · rw [dif_neg (by omega), dif_pos (by omega), dif_neg (by omega), dif_neg (by omega), dif_neg (by omega), dif_neg h0, dif_neg (by omega), dif_neg h1, dif_pos h3,
      add_zero, add_zero, add_zero, zero_add]
    refine congrArg (fun z : ℝ => (z : EReal)) ((congrArg₂ (fun u v => u * x.dmix r ⟨c - 768, by omega⟩ * dsilu v) (hv_low x r ⟨c - 768, by omega⟩) (gv_low x r ⟨c - 768, by omega⟩)).trans ?_)
    unfold Inp.dga Inp.dma
    ring
  by_cases h4 : (c : ℕ) < 1792
  · rw [dif_neg (by omega), dif_neg (by omega), dif_pos (by omega), dif_neg (by omega), dif_neg (by omega), dif_neg h0, dif_neg (by omega), dif_neg h1, dif_neg h3, dif_pos h4,
      add_zero, add_zero, zero_add, zero_add]
    exact dUp_at h r ⟨c - 1280, by omega⟩
  · rw [dif_pos (by omega), dif_neg (by omega), dif_neg (by omega), dif_neg (by omega), dif_neg (by omega), dif_neg h0, dif_neg (by omega), dif_neg h1, dif_neg h3, dif_neg h4,
      add_zero, add_zero, add_zero, add_zero]
    refine congrArg (fun z : ℝ => (z : EReal)) ((congrArg₂ (fun u v => u * x.dmix r ⟨512 + (c - 1792), by omega⟩ * dsilu v) (hv_high x r ⟨c - 1792, by omega⟩) (gv_high x r ⟨c - 1792, by omega⟩)).trans ?_)
    unfold Inp.dgb Inp.dmb
    ring

/-- The gradient of the sinks. -/
def rSk (a0 : FVec Ideal S8192x2304 .f32) (a1 : FVec Ideal S1x8 .f32) (a2 : FVec Ideal S1x4x128x128 .f32) (a3 : FVec Ideal S1x512 .f32)
    (a4 : FVec Ideal S1x1024x1024 .f32) (a5 : FVec Ideal S2x1024 .f32) (a6 : FVec Ideal S8192x1024 .f32) : FVec Ideal S8x128 .f32 :=
  broadcastInDim S8x128 ![0, 1] bcast_S8x1_S8x128_0_1 (shapeCast _ (shapeCast _ (Host.reduceAdd (addf (dSinkE a0 a1 a2 a3 a4 a5 a6) (mulf (dMax a0 a1 a2 a3 a4 a5 a6) (select (cmpf .ogt (sinks a1) (top a0)) (broadcastInDim S64x2x128x4 ![] bcast_S_S64x2x128x4 (constant (F := Ideal) S_ .f32 0x3F800000#32)) (select (cmpf .oeq (sinks a1) (top a0)) (broadcastInDim S64x2x128x4 ![] bcast_S_S64x2x128x4 (constant (F := Ideal) S_ .f32 0x3F000000#32)) (broadcastInDim S64x2x128x4 ![] bcast_S_S64x2x128x4 (constant (F := Ideal) S_ .f32 0x00000000#32)))))) (constant (F := Ideal) S_ .f32 0x00000000#32) reducesTo_S64x2x128x4_S2x4_d0_2 h_S_) shapeCasts_S2x4_S1x8) shapeCasts_S1x8_S8x1)

/-- The gradient of the pooling matrices. -/
def rPw (a0 : FVec Ideal S8192x2304 .f32) (a1 : FVec Ideal S1x8 .f32) (a2 : FVec Ideal S1x4x128x128 .f32) (a3 : FVec Ideal S1x512 .f32)
    (a4 : FVec Ideal S1x1024x1024 .f32) (a5 : FVec Ideal S2x1024 .f32) (a6 : FVec Ideal S8192x1024 .f32) : FVec Ideal S512x128 .f32 :=
  shapeCast _ (transpose S4x128x128 [0, 2, 1] (Host.dotGeneral dot_S4x8192x128_S8192x4x128_S4x128x128_1_0_2_2_0_1 none (dRaw a0 a1 a2 a3 a4 a5 a6) (pooled a0)) transposes_S4x128x128_S4x128x128_0_2_1) shapeCasts_S4x128x128_S512x128

/-- The gradient of the pooling scales. -/
def rPs (a0 : FVec Ideal S8192x2304 .f32) (a1 : FVec Ideal S1x8 .f32) (a2 : FVec Ideal S1x4x128x128 .f32) (a3 : FVec Ideal S1x512 .f32)
    (a4 : FVec Ideal S1x1024x1024 .f32) (a5 : FVec Ideal S2x1024 .f32) (a6 : FVec Ideal S8192x1024 .f32) : FVec Ideal S1x512 .f32 :=
  broadcastInDim S1x512 ![1] bcast_S512_S1x512_1 (Host.reduceAdd (mulf (raw a0 a2) (dPool a0 a1 a2 a3 a4 a5 a6)) (constant (F := Ideal) S_ .f32 0x00000000#32) reducesTo_S8192x512_S512_d0 h_S_)

/-- The gradient of the output matrix. -/
def rWo (a0 : FVec Ideal S8192x2304 .f32) (a1 : FVec Ideal S1x8 .f32) (a2 : FVec Ideal S1x4x128x128 .f32) (a3 : FVec Ideal S1x512 .f32)
    (a4 : FVec Ideal S1x1024x1024 .f32) (a5 : FVec Ideal S2x1024 .f32) (a6 : FVec Ideal S8192x1024 .f32) : FVec Ideal S1024x1024 .bf16 :=
  truncf .bf16 (transpose S1024x1024 [1, 0] (Host.dotGeneral dot_S8192x1024_S8192x1024_S1024x1024_0_0_1_1_n_n none (dRows a0 a1 a2 a3 a4 a5 a6) (mixed a0 a1 a2 a3)) transposes_S1024x1024_S1024x1024_1_0) bitsLt_bf16_f32

/-- The gradient of the gain. -/
def rPo (a0 : FVec Ideal S8192x2304 .f32) (a1 : FVec Ideal S1x8 .f32) (a2 : FVec Ideal S1x4x128x128 .f32) (a3 : FVec Ideal S1x512 .f32)
    (a4 : FVec Ideal S1x1024x1024 .f32) (a5 : FVec Ideal S2x1024 .f32) (a6 : FVec Ideal S8192x1024 .f32) : FVec Ideal S1x1024 .f32 :=
  broadcastInDim S1x1024 ![1] bcast_S1024_S1x1024_1 (Host.reduceAdd (shapeCast _ (Host.reduceAdd (mulf (normed a0 a1 a2 a3 a4) a6) (constant (F := Ideal) S_ .f32 0x00000000#32) reducesTo_S8192x1024_S1024_d0 h_S_) shapeCasts_S1024_S1x1024) (constant (F := Ideal) S_ .f32 0x00000000#32) reducesTo_S1x1024_S1024_d0 h_S_)

theorem rSk_at (i : Fin 8) (c : Fin 128) : rSk a0 a1 a2 a3 a4 a5 a6 (ix2 i c) = (x.dsk i : EReal) := by
  unfold rSk
  generalize hz : select (cmpf .ogt (sinks a1) (top a0)) _ _ = z
  have e := dsk_at h z
  generalize Host.reduceAdd (addf (dSinkE a0 a1 a2 a3 a4 a5 a6) (mulf (dMax a0 a1 a2 a3 a4 a5 a6) z)) _ _ _ = w at e ⊢
  pointwise [e]
  exact congrArg (fun j => (x.dsk j : EReal)) (Fin.ext (by show (i / 4 * 4 + i % 4 : ℕ) = i; omega))

theorem rPw_at (i : Fin 512) (c : Fin 128) : rPw a0 a1 a2 a3 a4 a5 a6 (ix2 i c) = (x.dpw (grpOf i) (inGrp i) c : EReal) := by
  pointwise [rPw, dRaw_at h, pooled_at h]
  simp only [← EReal.coe_mul, ← coe_sum]
  exact congrArg _ (Finset.sum_congr rfl fun r _ => mul_comm _ _)

theorem rPs_at (u : Fin 1) (c : Fin 512) : rPs a0 a1 a2 a3 a4 a5 a6 (ix2 u c) = (x.dps c : EReal) := by
  pointwise [rPs, raw_at h, dPool_at h]
  simp only [bits_zero, EReal.coe_zero, zero_add, ← EReal.coe_mul, ← coe_sum]
  exact congrArg _ (Finset.sum_congr rfl fun r _ => mul_comm _ _)

theorem rWo_at (c j : Fin 1024) : rWo a0 a1 a2 a3 a4 a5 a6 (ix2 c j) = (x.dwo c j : EReal) := by
  pointwise [rWo, dRows_at h, mixed_at h]
  simp only [← EReal.coe_mul, ← coe_sum]
  exact congrArg _ (Finset.sum_congr rfl fun r _ => mul_comm _ _)

theorem rPo_at (u : Fin 1) (j : Fin 1024) : rPo a0 a1 a2 a3 a4 a5 a6 (ix2 u j) = (x.dpo j : EReal) := by
  pointwise [rPo, normed_at h, h.G]
  simp only [bits_zero, EReal.coe_zero, zero_add, ← EReal.coe_mul, ← coe_sum, Fin.sum_univ_one]
  exact congrArg _ (Finset.sum_congr rfl fun r _ => mul_comm _ _)

end Cert.Proof.Mx.Host

end
-- ==== Proof.MxRef.lean ====
/- The mixing layer's reference read as the host lines of its gradient. -/
module

public import proofs.«01_k».proof.Proof.Gen.MxReferenceIdeal.Run
public import proofs.«01_k».proof.Proof.MxAtt

@[expose] public section

set_option maxRecDepth 16384

noncomputable section

open Idealize.ShloMosaic Idealize.ShloMosaic.TcCoe Idealize.SL.Sem

namespace Cert.Proof.Mx.Host

open Cert.MxReferenceIdeal Cert.MxReferenceIdeal.Gen Cert.MxReferenceIdeal.Value

set_option maxHeartbeats 8000000 in
/-- The reference leaves the host lines' gradients and its arguments. -/
theorem ref_run (m : (ℓ : Loc nD τ Cert.MxReferenceIdeal.sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v265) = rProj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v267) = rSk (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v268) = rPw (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v184) = rPs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v269) = rWo (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v270) = rPo (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans rfl, (h c).2.1.trans rfl, (h c).2.2.1.trans rfl, (h c).2.2.2.1.trans rfl, (h c).2.2.2.2.1.trans rfl,
    (h c).2.2.2.2.2.1.trans rfl, (h c).2.2.2.2.2.2⟩) (Cert.MxReferenceIdeal.Value.run (F := Ideal) m ρ)

end Cert.Proof.Mx.Host

end
-- ==== Proof.MxReals.lean ====
/- Arguments the mixing layer's precondition holds of are arrays of reals. -/
module

public import proofs.«01_k».proof.Pre_mx_finite
public import proofs.«01_k».proof.Proof.MxFwd

@[expose] public section

set_option maxRecDepth 16384

noncomputable section

open Idealize.ShloMosaic Idealize.ShloMosaic.TcCoe Idealize.SL.Sem

namespace Cert.Pre_mx_finite

open Cert.Proof.RealLift Cert.Proof.Mx.Host Cert.Proof.Mx

variable [Facts]

/-- Arrays whose absolute values the predicate finds below infinity hold the step's real numbers. -/
theorem reals (P A W C O N G) (h : (fn (F := Ideal) P A W C O N G).1 = (fun _ => 1#1) ∧ (fn (F := Ideal) P A W C O N G).2.1 = (fun _ => 1#1)
    ∧ (fn (F := Ideal) P A W C O N G).2.2.1 = (fun _ => 1#1) ∧ (fn (F := Ideal) P A W C O N G).2.2.2.1 = (fun _ => 1#1)
    ∧ (fn (F := Ideal) P A W C O N G).2.2.2.2.1 = (fun _ => 1#1) ∧ (fn (F := Ideal) P A W C O N G).2.2.2.2.2.1 = (fun _ => 1#1)
    ∧ (fn (F := Ideal) P A W C O N G).2.2.2.2.2.2 = (fun _ => 1#1)) :
    ∃ x : Inp, Reads x P A W C O N G := by
  obtain ⟨h0, h1, h2, h3, h4, h5, h6⟩ := h
  have e0 (r c) : ∃ v : ℝ, P (ix2 r c) = (v : EReal) := by
    have h' := congrFun h0 (ix2 r c)
    unfold fn fn_part1 at h'
    pointwise at h'
    exact real_of_word h'
  have e1 (j) : ∃ v : ℝ, A (ix2 0 j) = (v : EReal) := by
    have h' := congrFun h1 (ix2 0 j)
    unfold fn fn_part1 at h'
    pointwise at h'
    exact real_of_word h'
  have e2 (g e c) : ∃ v : ℝ, W (ix4 0 g e c) = (v : EReal) := by
    have h' := congrFun h2 (ix4 0 g e c)
    unfold fn fn_part1 at h'
    pointwise at h'
    exact real_of_word h'
  have e3 (c) : ∃ v : ℝ, C (ix2 0 c) = (v : EReal) := by
    have h' := congrFun h3 (ix2 0 c)
    unfold fn fn_part1 at h'
    pointwise at h'
    exact real_of_word h'
  have e4 (c j) : ∃ v : ℝ, O (ix3 0 c j) = (v : EReal) := by
    have h' := congrFun h4 (ix3 0 c j)
    unfold fn fn_part1 at h'
    pointwise at h'
    exact real_of_word h'
  have e5 (j) : ∃ v : ℝ, N (ix2 (0 : Fin 2) j) = (v : EReal) := by
    have h' := congrFun h5 (ix2 0 j)
    unfold fn fn_part1 at h'
    pointwise at h'
    exact real_of_word h'
  have e6 (r j) : ∃ v : ℝ, G (ix2 r j) = (v : EReal) := by
    have h' := congrFun h6 (ix2 r j)
    unfold fn fn_part1 at h'
    pointwise at h'
    exact real_of_word h'
  choose p hp using e0
  choose a ha using e1
  choose w hw using e2
  choose s hs using e3
  choose o ho using e4
  choose n hn using e5
  choose g hg using e6
  refine ⟨⟨p, a, w, s, o, n, g⟩, hp, fun u j => ?_, fun u => ?_, fun u c => ?_, fun u => ?_, hn, hg⟩ <;>
    obtain rfl : u = 0 := Subsingleton.elim _ _
  · exact ha j
  · exact hw
  · exact hs c
  · exact ho

end Cert.Pre_mx_finite

end
-- ==== Proof.MxClaim.lean ====
/- The claims on layer 0's mixing backward: it runs from every memory, and so does its idealization; from finite
   arguments it leaves the derivative of the forward lines. -/
module

public import proofs.«01_k».proof.Defs
public import proofs.«01_k».proof.Proof.MxFinal
public import proofs.«01_k».proof.Proof.MxAtt
public import proofs.«01_k».proof.Proof.MxRef
public import proofs.«01_k».proof.Proof.MxReals
public import proofs.«01_k».proof.Proof.Gen.Pre_mx_finite
public import proofs.«01_k».proof.Proof.Gen.MxKernel.Frame
public import proofs.«01_k».proof.Proof.Gen.MxKernelIdeal.Frame
public import proofs.«01_k».proof.Proof.Gen.MxKernelIdeal.Value
public import Idealize.ShloMosaic.Lib.Claim

@[expose] public section

set_option maxRecDepth 16384

noncomputable section

open Idealize.ShloMosaic Idealize.ShloMosaic.TcCoe Idealize.SL.Sem

namespace Cert.Proof.Mx

open Host Point Cert.Proof.RealLift

/-! ## The reference's arrays as the step's numbers -/

section
variable {x : Inp} {a0 a1 a2 a3 a4 a5 a6} (h : Reads x a0 a1 a2 a3 a4 a5 a6)
include h

/-- The projection's gradient. -/
theorem ref_proj : rProj a0 a1 a2 a3 a4 a5 a6 = projOf x := by
  funext i; idx_vars i; exact rProj_at h i0 i1
/-- The sinks' gradients. -/
theorem ref_sk : rSk a0 a1 a2 a3 a4 a5 a6 = skOf x := by
  funext i; idx_vars i; exact rSk_at h i0 i1
/-- The pooling matrices' gradients. -/
theorem ref_pw : rPw a0 a1 a2 a3 a4 a5 a6 = pwOf x := by
  funext i; idx_vars i; exact rPw_at h i0 i1
/-- The pooling scales' gradients. -/
theorem ref_ps : rPs a0 a1 a2 a3 a4 a5 a6 = psOf x := by
  funext i; idx_vars i; exact rPs_at h i0 i1
/-- The output matrix's gradient. -/
theorem ref_wo : rWo a0 a1 a2 a3 a4 a5 a6 = woOf x := by
  funext i; idx_vars i; exact rWo_at h i0 i1
/-- The gain's gradient. -/
theorem ref_po : rPo a0 a1 a2 a3 a4 a5 a6 = poOf x := by
  funext i; idx_vars i; exact rPo_at h i0 i1
end

/-! ## The two sides agree -/

section
variable {m : (ℓ : Loc Cert.MxKernelIdeal.nD Cert.MxKernelIdeal.τ Cert.MxKernelIdeal.sig) → Buf (Elt Ideal) ℓ} {c : Dev Cert.MxKernelIdeal.nD} {x : Inp}
  (h : Reads x (m ((c : Thread Cert.MxKernelIdeal.nD Cert.MxKernelIdeal.τ).loc Cert.MxKernelIdeal.main_arg0)) (m ((c : Thread Cert.MxKernelIdeal.nD Cert.MxKernelIdeal.τ).loc Cert.MxKernelIdeal.main_arg1)) (m ((c : Thread Cert.MxKernelIdeal.nD Cert.MxKernelIdeal.τ).loc Cert.MxKernelIdeal.main_arg2)) (m ((c : Thread Cert.MxKernelIdeal.nD Cert.MxKernelIdeal.τ).loc Cert.MxKernelIdeal.main_arg3)) (m ((c : Thread Cert.MxKernelIdeal.nD Cert.MxKernelIdeal.τ).loc Cert.MxKernelIdeal.main_arg4)) (m ((c : Thread Cert.MxKernelIdeal.nD Cert.MxKernelIdeal.τ).loc Cert.MxKernelIdeal.main_arg5)) (m ((c : Thread Cert.MxKernelIdeal.nD Cert.MxKernelIdeal.τ).loc Cert.MxKernelIdeal.main_arg6)))
include h

/-- The projection's gradient. -/
theorem same_proj : rProj (m ((c : Thread Cert.MxKernelIdeal.nD Cert.MxKernelIdeal.τ).loc Cert.MxKernelIdeal.main_arg0)) (m ((c : Thread Cert.MxKernelIdeal.nD Cert.MxKernelIdeal.τ).loc Cert.MxKernelIdeal.main_arg1)) (m ((c : Thread Cert.MxKernelIdeal.nD Cert.MxKernelIdeal.τ).loc Cert.MxKernelIdeal.main_arg2)) (m ((c : Thread Cert.MxKernelIdeal.nD Cert.MxKernelIdeal.τ).loc Cert.MxKernelIdeal.main_arg3)) (m ((c : Thread Cert.MxKernelIdeal.nD Cert.MxKernelIdeal.τ).loc Cert.MxKernelIdeal.main_arg4)) (m ((c : Thread Cert.MxKernelIdeal.nD Cert.MxKernelIdeal.τ).loc Cert.MxKernelIdeal.main_arg5)) (m ((c : Thread Cert.MxKernelIdeal.nD Cert.MxKernelIdeal.τ).loc Cert.MxKernelIdeal.main_arg6)) =
    (Cert.MxKernelIdeal.Gen.dats m 0 c).arrAt 13 Cert.MxKernelIdeal.cfg0.N :=
  (ref_proj h).trans (final13 m c (blk_is m c h)).symm

/-- The sinks' gradients. -/
theorem same_sk : rSk (m ((c : Thread Cert.MxKernelIdeal.nD Cert.MxKernelIdeal.τ).loc Cert.MxKernelIdeal.main_arg0)) (m ((c : Thread Cert.MxKernelIdeal.nD Cert.MxKernelIdeal.τ).loc Cert.MxKernelIdeal.main_arg1)) (m ((c : Thread Cert.MxKernelIdeal.nD Cert.MxKernelIdeal.τ).loc Cert.MxKernelIdeal.main_arg2)) (m ((c : Thread Cert.MxKernelIdeal.nD Cert.MxKernelIdeal.τ).loc Cert.MxKernelIdeal.main_arg3)) (m ((c : Thread Cert.MxKernelIdeal.nD Cert.MxKernelIdeal.τ).loc Cert.MxKernelIdeal.main_arg4)) (m ((c : Thread Cert.MxKernelIdeal.nD Cert.MxKernelIdeal.τ).loc Cert.MxKernelIdeal.main_arg5)) (m ((c : Thread Cert.MxKernelIdeal.nD Cert.MxKernelIdeal.τ).loc Cert.MxKernelIdeal.main_arg6)) =
    (Cert.MxKernelIdeal.Gen.dats m 0 c).arrAt 14 Cert.MxKernelIdeal.cfg0.N :=
  (ref_sk h).trans (final14 m c (blk_is m c h)).symm

/-- The pooling matrices' gradients. -/
theorem same_pw : rPw (m ((c : Thread Cert.MxKernelIdeal.nD Cert.MxKernelIdeal.τ).loc Cert.MxKernelIdeal.main_arg0)) (m ((c : Thread Cert.MxKernelIdeal.nD Cert.MxKernelIdeal.τ).loc Cert.MxKernelIdeal.main_arg1)) (m ((c : Thread Cert.MxKernelIdeal.nD Cert.MxKernelIdeal.τ).loc Cert.MxKernelIdeal.main_arg2)) (m ((c : Thread Cert.MxKernelIdeal.nD Cert.MxKernelIdeal.τ).loc Cert.MxKernelIdeal.main_arg3)) (m ((c : Thread Cert.MxKernelIdeal.nD Cert.MxKernelIdeal.τ).loc Cert.MxKernelIdeal.main_arg4)) (m ((c : Thread Cert.MxKernelIdeal.nD Cert.MxKernelIdeal.τ).loc Cert.MxKernelIdeal.main_arg5)) (m ((c : Thread Cert.MxKernelIdeal.nD Cert.MxKernelIdeal.τ).loc Cert.MxKernelIdeal.main_arg6)) =
    (Cert.MxKernelIdeal.Gen.dats m 0 c).arrAt 15 Cert.MxKernelIdeal.cfg0.N :=
  (ref_pw h).trans (final15 m c (blk_is m c h)).symm

/-- The pooling scales' gradients. -/
theorem same_ps : rPs (m ((c : Thread Cert.MxKernelIdeal.nD Cert.MxKernelIdeal.τ).loc Cert.MxKernelIdeal.main_arg0)) (m ((c : Thread Cert.MxKernelIdeal.nD Cert.MxKernelIdeal.τ).loc Cert.MxKernelIdeal.main_arg1)) (m ((c : Thread Cert.MxKernelIdeal.nD Cert.MxKernelIdeal.τ).loc Cert.MxKernelIdeal.main_arg2)) (m ((c : Thread Cert.MxKernelIdeal.nD Cert.MxKernelIdeal.τ).loc Cert.MxKernelIdeal.main_arg3)) (m ((c : Thread Cert.MxKernelIdeal.nD Cert.MxKernelIdeal.τ).loc Cert.MxKernelIdeal.main_arg4)) (m ((c : Thread Cert.MxKernelIdeal.nD Cert.MxKernelIdeal.τ).loc Cert.MxKernelIdeal.main_arg5)) (m ((c : Thread Cert.MxKernelIdeal.nD Cert.MxKernelIdeal.τ).loc Cert.MxKernelIdeal.main_arg6)) =
    (Cert.MxKernelIdeal.Gen.dats m 0 c).arrAt 16 Cert.MxKernelIdeal.cfg0.N :=
  (ref_ps h).trans (final16 m c (blk_is m c h)).symm

/-- The output matrix's gradient. -/
theorem same_wo : rWo (m ((c : Thread Cert.MxKernelIdeal.nD Cert.MxKernelIdeal.τ).loc Cert.MxKernelIdeal.main_arg0)) (m ((c : Thread Cert.MxKernelIdeal.nD Cert.MxKernelIdeal.τ).loc Cert.MxKernelIdeal.main_arg1)) (m ((c : Thread Cert.MxKernelIdeal.nD Cert.MxKernelIdeal.τ).loc Cert.MxKernelIdeal.main_arg2)) (m ((c : Thread Cert.MxKernelIdeal.nD Cert.MxKernelIdeal.τ).loc Cert.MxKernelIdeal.main_arg3)) (m ((c : Thread Cert.MxKernelIdeal.nD Cert.MxKernelIdeal.τ).loc Cert.MxKernelIdeal.main_arg4)) (m ((c : Thread Cert.MxKernelIdeal.nD Cert.MxKernelIdeal.τ).loc Cert.MxKernelIdeal.main_arg5)) (m ((c : Thread Cert.MxKernelIdeal.nD Cert.MxKernelIdeal.τ).loc Cert.MxKernelIdeal.main_arg6)) =
    (Cert.MxKernelIdeal.Gen.dats m 0 c).arrAt 17 Cert.MxKernelIdeal.cfg0.N :=
  (ref_wo h).trans (final17 m c (blk_is m c h)).symm

/-- The gain's gradient. -/
theorem same_po : rPo (m ((c : Thread Cert.MxKernelIdeal.nD Cert.MxKernelIdeal.τ).loc Cert.MxKernelIdeal.main_arg0)) (m ((c : Thread Cert.MxKernelIdeal.nD Cert.MxKernelIdeal.τ).loc Cert.MxKernelIdeal.main_arg1)) (m ((c : Thread Cert.MxKernelIdeal.nD Cert.MxKernelIdeal.τ).loc Cert.MxKernelIdeal.main_arg2)) (m ((c : Thread Cert.MxKernelIdeal.nD Cert.MxKernelIdeal.τ).loc Cert.MxKernelIdeal.main_arg3)) (m ((c : Thread Cert.MxKernelIdeal.nD Cert.MxKernelIdeal.τ).loc Cert.MxKernelIdeal.main_arg4)) (m ((c : Thread Cert.MxKernelIdeal.nD Cert.MxKernelIdeal.τ).loc Cert.MxKernelIdeal.main_arg5)) (m ((c : Thread Cert.MxKernelIdeal.nD Cert.MxKernelIdeal.τ).loc Cert.MxKernelIdeal.main_arg6)) =
    (Cert.MxKernelIdeal.Gen.dats m 0 c).arrAt 18 Cert.MxKernelIdeal.cfg0.N :=
  (ref_po h).trans (final18 m c (blk_is m c h)).symm
end

/-! ## The claims -/

/-- The kernel runs from every memory and leaves its arguments; every counter ends at zero. -/
theorem frame_kernel : Cert.quiescent_MxKernel := fun m ρ _ => Cert.MxKernel.Gen.frame m ρ

/-- The same of its idealization, with or without the precondition. -/
theorem frame_ideal : Cert.quiescent_MxKernelIdeal := fun m ρ _ => Cert.MxKernelIdeal.Gen.frame m ρ
theorem frame_ideal_pre : Cert.quiescent_MxKernelIdeal_pre_mx_finite := fun m ρ _ => Cert.MxKernelIdeal.Gen.frame m ρ

/-- The same of the reference: its host run read at the arguments; it declares no semaphore. -/
theorem frame_ref : Cert.quiescent_MxReferenceIdeal := fun m ρ _ =>
  (θ_run Cert.MxReferenceIdeal.defs _ _).mono (fun r h => ⟨fun c => (h c).2.2.2.2.2.2, Idealize.ShloMosaic.sem_eq_zero_of_no_sems (by decide) r.2⟩)
    (ref_run m ρ)
theorem frame_ref_pre : Cert.quiescent_MxReferenceIdeal_pre_mx_finite := fun m ρ _ => frame_ref m ρ trivial

/-- The one constant rewritten is the mask, read as minus infinity. -/
theorem preserves : Cert.preserves_MxKernel_MxKernelIdeal :=
  IdealRules.named_const.statement Cert.MxKernelIdeal.κ "mask" .f32 0xF149F2CA#32 ⊥ rfl

set_option maxHeartbeats 4000000 in
/-- From finite arguments the kernel and the derivative of the forward lines leave the same gradients. -/
theorem algebraic : Cert.algebraic_MxKernelIdeal_MxReferenceIdeal_pre_mx_finite := by
  pair_intro
  · run_from Cert.MxKernelIdeal.Value.run_blocks (F := Ideal) m g
  · have reads := fun c => Cert.Pre_mx_finite.reals _ _ _ _ _ _ _ (hpre c)
    run_from ref_run m' g'
    · exact (reads c).elim fun x h => same_proj h
    · exact (reads c).elim fun x h => same_sk h
    · exact (reads c).elim fun x h => same_pw h
    · exact (reads c).elim fun x h => same_ps h
    · exact (reads c).elim fun x h => same_wo h
    · exact (reads c).elim fun x h => same_po h

end Cert.Proof.Mx

end
-- ==== Proof.NpValue.lean ====
/- Layer 1's projection behind its norm, `proj1_fwd`: a row of the result is the normalised row of the input times the weights,
   the same on both sides whatever the arguments hold. -/
module

public import proofs.«01_k».proof.Proof.DwValue
public import proofs.«01_k».proof.Proof.Gen.NpKernelIdeal.Value
public import proofs.«01_k».proof.Proof.Gen.NpReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Np

open Cert.Proof.Norm

/-- One entry of the projection: a row normalised, times a column of the weights. -/
def proj (x g w : Fin 1024 → EReal) : EReal := ∑ i, x i * rsE x * g i * w i

/-- The projection as one function of the arguments. -/
def out (X : FVec Ideal ⟨2, ![8192, 1024]⟩ .f32) (G : FVec Ideal ⟨2, ![2, 1024]⟩ .f32) (W : FVec Ideal ⟨3, ![1, 1024, 3072]⟩ .f32) :
    FVec Ideal ⟨2, ![8192, 3072]⟩ .f32 :=
  fun y => proj (fun i => X (ix2 (y 0) i)) (fun i => G (ix2 1 i)) (fun i => W (ix3 0 i (y 1)))

end Cert.Proof.Np

namespace Cert.Proof.Np.Kernel

open Cert.NpKernelIdeal Cert.NpKernelIdeal.Gen Cert.Proof.Norm

/-- What a point stores. -/
theorem pay1_at (x : Vec Ideal S1024x1024 .f32) (g : Vec Ideal S1x1024 .f32) (w : Vec Ideal S3072x1024 .bf16) (r : Fin 1024) (n : Fin 3072) :
    k0_pay1 (F := Ideal) x g w (ix2 r n) = proj (fun i => x (ix2 r i)) (fun i => g (ix2 0 i)) (fun i => w (ix2 n i)) := by
  pointwise [k0_pay1]
  rfl

/-- The weights transposed and rounded, as the host hands them to the kernel. -/
def wT (A : FVec Ideal S1x1024x3072 .f32) : FVec Ideal S3072x1024 .bf16 :=
  truncf .bf16 (transpose S3072x1024 [1, 0] (shapeCast S1024x3072 A shapeCasts_S1x1024x3072_S1024x3072) transposes_S1024x3072_S3072x1024_1_0) bitsLt_bf16_f32

theorem wT_at (A : FVec Ideal S1x1024x3072 .f32) (k : Fin 3072) (i : Fin 1024) : wT A (ix2 k i) = A (ix3 0 i k) := by
  pointwise [wT]

variable (m : (ℓ : Loc nD τ sig) → Buf (Elt Ideal) ℓ) (c : Dev nD)

/-- The transposed weights as the kernel's region finds them. -/
theorem V_w : V m c main_v2 = wT (m ((c : Thread nD τ).loc main_arg2)) := by
  unfold V wT; after_results; try rfl

/-- The gain's row as the kernel's region finds it. -/
theorem V_p : V m c main_v3 = extractStridedSlice S1x1024 ![1, 0] (m ((c : Thread nD τ).loc main_arg1)) slices_S2x1024_S1x1024_1_0 := by
  unfold V; after_results; try rfl

theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- A point's row of the whole array. -/
def row (t : Fin cfg0.N) (r : Fin 1024) : Fin 8192 := ⟨t.val * 1024 + r, by have := lt_of_lt_of_eq t.isLt N_0; omega⟩

theorem blk0_at (t : Fin cfg0.N) (r i : Fin 1024) :
    (iblk m c 0 t : Vec Ideal S1024x1024 .f32) (ix2 r i) = (m ((c : Thread nD τ).loc main_arg0) : FVec Ideal S8192x1024 .f32) (ix2 (row t r) i) := by
  blk_point [iblk, V, idx t, row]

theorem blk1_at (t : Fin cfg0.N) (i : Fin 1024) :
    (iblk m c 1 t : Vec Ideal S1x1024 .f32) (ix2 0 i) = (m ((c : Thread nD τ).loc main_arg1) : FVec Ideal S2x1024 .f32) (ix2 1 i) := by
  blk_point [iblk, V_p, idx t]

theorem blk2_at (t : Fin cfg0.N) (k : Fin 3072) (i : Fin 1024) :
    (iblk m c 2 t : Vec Ideal S3072x1024 .bf16) (ix2 k i) = (m ((c : Thread nD τ).loc main_arg2) : FVec Ideal S1x1024x3072 .f32) (ix3 0 i k) := by
  unfold iblk
  rw [show V m c (Pipeline.arrRef spec0 2) = _ from V_w m c]
  have h : (win0_2.blk t).view.emb (ix2 k i) = (ix2 k i : S3072x1024.Idx) := by blk_ext [idx t]
  exact (congrArg (wT (m ((c : Thread nD τ).loc main_arg2))) h).trans (wT_at _ k i)

/-- The projection the kernel leaves. -/
theorem final3 : (dats m 0 c).arrAt 3 cfg0.N
    = out (m ((c : Thread nD τ).loc main_arg0)) (m ((c : Thread nD τ).loc main_arg1)) (m ((c : Thread nD τ).loc main_arg2)) := by
  refine (dats m 0 c).arrAt_eq_of_covers 3 _ (by decide +kernel) fun t hf y => ?_
  idx_vars y
  have e := pay1_at (iblk m c 0 t) (iblk m c 1 t) (iblk m c 2 t) y0 y1
  simp only [blk0_at, blk1_at, blk2_at] at e
  have h : (win0_3.blk t).view.emb (ix2 y0 y1) = (ix2 (row t y0) y1 : S8192x3072.Idx) := by blk_ext [idx t, row]
  blk_simp
  rw [after0_3]
  refine Eq.trans ?_ (congrArg (out (m ((c : Thread nD τ).loc main_arg0)) (m ((c : Thread nD τ).loc main_arg1)) (m ((c : Thread nD τ).loc main_arg2))) h).symm
  frame_out
  exact e

end Cert.Proof.Np.Kernel

namespace Cert.Proof.Np.Ref

open Cert.NpReferenceIdeal Cert.NpReferenceIdeal.Gen Cert.Proof.Norm

/-- The forward lines' product. -/
def out (X : FVec Ideal S8192x1024 .f32) (G : FVec Ideal S2x1024 .f32) (W : FVec Ideal S1x1024x3072 .f32) : FVec Ideal S8192x3072 .f32 :=
  Host.dotGeneral dot_S8192x1024_S1024x3072_S8192x3072_1_0_0_1_n_n none (mulf (mulf X (broadcastInDim S8192x1024 ![0, 1] bcast_S8192x1_S8192x1024_0_1 (Host.rsqrt (addf (Host.divf (broadcastInDim S8192x1 ![0] bcast_S8192_S8192x1_0 (Host.reduceAdd (mulf X X) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (shapeCast _ (extractStridedSlice S1x1024 ![1, 0] G slices_S2x1024_S1x1024_1_0) shapeCasts_S1x1024_S1024)))) (shapeCast _ W shapeCasts_S1x1024x3072_S1024x3072)

/-- It is the kernel's function of the arguments. -/
theorem out_eq (X G W) : out X G W = Np.out X G W := by
  funext i
  idx_vars i
  show _ = proj _ _ _
  pointwise [out]
  rfl

end Cert.Proof.Np.Ref

end
-- ==== Proof.NpClaim.lean ====
/- The claims on layer 1's projection behind its norm. -/
module

public import proofs.«01_k».proof.Defs
public import proofs.«01_k».proof.Proof.NpValue
public import proofs.«01_k».proof.Proof.Gen.NpKernel.Frame
public import Idealize.ShloMosaic.Lib.Claim

@[expose] public section

set_option maxRecDepth 16384

noncomputable section

open Idealize.ShloMosaic Idealize.ShloMosaic.TcCoe Idealize.SL.Sem

namespace Cert.Proof.Np

/-- The kernel runs from every memory and leaves its arguments; every counter ends at zero. -/
theorem frame_kernel : Cert.quiescent_NpKernel := fun m ρ _ => Cert.NpKernel.Gen.frame m ρ

/-- The same of its idealization. -/
theorem frame_ideal : Cert.quiescent_NpKernelIdeal := fun m ρ _ => Cert.NpKernelIdeal.Gen.frame m ρ

/-- The same of the reference: its host run read at the arguments; it declares no semaphore. -/
theorem frame_ref : Cert.quiescent_NpReferenceIdeal := fun m ρ _ =>
  (θ_run Cert.NpReferenceIdeal.defs _ _).mono (fun r h => ⟨fun c => (h c).2, Idealize.ShloMosaic.sem_eq_zero_of_no_sems (by decide) r.2⟩)
    (Cert.NpReferenceIdeal.Value.run (F := Ideal) m ρ)

/-- The idealization rewrote nothing. -/
theorem preserves : Cert.preserves_NpKernel_NpKernelIdeal := trivial

/-- The kernel and the forward lines leave the same projection, from any arguments. -/
theorem algebraic : Cert.algebraic_NpKernelIdeal_NpReferenceIdeal := by
  pair_intro
  · run_from Cert.NpKernelIdeal.Value.run_blocks (F := Ideal) m g
  · run_from Cert.NpReferenceIdeal.Value.run (F := Ideal) m' g'
    exact (Ref.out_eq _ _ _).trans (Kernel.final3 m c).symm

end Cert.Proof.Np

end
-- ==== Proof.FwPoint.lean ====
/- What one grid point of the mixing layer's forward leaves: the gated halves from the attention and pooling parts, their
   product with the output matrix, and the residual with the normed rows. -/
module

public import proofs.«01_k».proof.Proof.MxFinal
public import proofs.«01_k».proof.Proof.Gen.FwKernelIdeal.Frame
public import proofs.«01_k».proof.Proof.Gen.FwKernelIdeal.Value

@[expose] public section

set_option maxRecDepth 16384

noncomputable section

open Idealize.ShloMosaic Idealize.ShloMosaic.TcCoe Idealize.SL.Sem

namespace Cert.Proof.Mx.Point

open Cert.MxKernelIdeal Cert.MxKernelIdeal.Gen

/-- The gate in the short form. -/
def Tile.gate (x : Tile) : FVec Ideal S128x512 .f32 := addf (mulf (mulf Tile.half x.ga) (tanh (mulf Tile.half x.ga))) (mulf Tile.half x.ga)
/-- A query block's gated attention. -/
def Tile.mixed (x : Tile) : FVec Ideal S128x512 .bf16 :=
  truncf .bf16 (mulf (concatenate S128x512 1 [⟨S128x256, x.outs0⟩, ⟨S128x256, x.outs1⟩] concatenates_S128x256_S128x256_S128x512_d1) x.gate) bitsLt_bf16_f32
def Grp.gate (g : Grp) : FVec Ideal S512x128 .f32 := addf (mulf (mulf Grp.half g.gb) (tanh (mulf Grp.half g.gb))) (mulf Grp.half g.gb)
/-- A pooling group's gated rows. -/
def Grp.mixed (g : Grp) : FVec Ideal S512x128 .bf16 :=
  truncf .bf16 (mulf (mulf g.yraw (broadcastTo S512x128 g.sc broadcasts_S1x128_S512x128)) g.gate) bitsLt_bf16_f32

/-- The gated halves a point writes. -/
def Blk.mixL (b : Blk) (b0 b1 : Vec Ideal S1x512x256 .f32) : List (View.Piece (Elt Ideal) S512x1024 .bf16) :=
  [⟨Rect.unit ![0, 896] ![512, 128] inb_S512x1024_S512x128_0_896, b.grp3.mixed⟩, ⟨Rect.unit ![0, 768] ![512, 128] inb_S512x1024_S512x128_0_768, b.grp2.mixed⟩,
   ⟨Rect.unit ![0, 640] ![512, 128] inb_S512x1024_S512x128_0_640, b.grp1.mixed⟩, ⟨Rect.unit ![0, 512] ![512, 128] inb_S512x1024_S512x128_0_512, b.grp0.mixed⟩,
   ⟨Rect.unit ![384, 0] ![128, 512] (by decide), (b.tile3 b0 b1).mixed⟩, ⟨Rect.unit ![256, 0] ![128, 512] (by decide), (b.tile2 b0 b1).mixed⟩,
   ⟨Rect.unit ![128, 0] ![128, 512] (by decide), (b.tile1 b0 b1).mixed⟩, ⟨Rect.unit ![0, 0] ![128, 512] (by decide), (b.tile0 b0 b1).mixed⟩]

end Cert.Proof.Mx.Point

namespace Cert.Proof.Fw.Point

open Cert.FwKernelIdeal Cert.FwKernelIdeal.Gen
open Cert.Proof.Mx (Inp)
open Cert.Proof.Mx.Point (Blk Tile Grp rowI nextRow)

variable (m : (ℓ : Loc nD τ Cert.FwKernelIdeal.sig) → Buf (Elt Ideal) ℓ)

/-- The row block a point handles. -/
def ri (t : Fin cfg0.N) : Fin 16 := ⟨t.val, lt_of_lt_of_eq t.isLt N_0⟩

/-- A point's blocks; what the forward does not read is filled with the numbers the gradient would find. -/
def blkR (x : Inp) (c : Dev nD) (t : Fin cfg0.N) : Blk :=
  ⟨BitVec.ofNat 32 (grid0.coords t 0),
    (@View.read Cert.FwKernelIdeal.sig (Elt Ideal) (Proc.kind (τ := τ) Proc.tc) Space.vmem S512x2304 .f32 (ms0_0 t).view ((hs0_0 t).unread (iblk m c 0 t))),
    (@View.read Cert.FwKernelIdeal.sig (Elt Ideal) (Proc.kind (τ := τ) Proc.tc) Space.vmem S128x2304 .f32 (ms0_1 t).view ((hs0_1 t).unread (iblk m c 1 t))),
    fun y => ((x.P (nextRow (ri t) (y 0)) (y 1) : ℝ) : EReal), fun y => ((x.G (rowI (ri t) (y 0)) (y 1) : ℝ) : EReal), fun y => ((x.G (nextRow (ri t) (y 0)) (y 1) : ℝ) : EReal),
    fun y => ((x.y (rowI (ri t) (y 0)) (y 1) : ℝ) : EReal), fun y => ((x.y (nextRow (ri t) (y 0)) (y 1) : ℝ) : EReal),
    fun y => ((x.mix (rowI (ri t) (y 0)) (y 1) : ℝ) : EReal), fun y => ((x.O (y 0) (y 1) : ℝ) : EReal), fun y => ((x.po (y 1) : ℝ) : EReal),
    (@View.read Cert.FwKernelIdeal.sig (Elt Ideal) (Proc.kind (τ := τ) Proc.tc) Space.smem S1x8 .f32 (ms0_2 t).view ((hs0_2 t).unread (iblk m c 2 t))),
    (@View.read Cert.FwKernelIdeal.sig (Elt Ideal) (Proc.kind (τ := τ) Proc.tc) Space.vmem S4x128x128 .f32 (ms0_3 t).view ((hs0_3 t).unread (iblk m c 3 t))),
    (@View.read Cert.FwKernelIdeal.sig (Elt Ideal) (Proc.kind (τ := τ) Proc.tc) Space.vmem S1x512 .f32 (ms0_4 t).view ((hs0_4 t).unread (iblk m c 4 t)))⟩

/-- The output matrix, the residual rows and the gain as a point reads them. -/
def woR (c : Dev nD) (t : Fin cfg0.N) : Vec Ideal S1024x1024 .bf16 := View.ld (@View.read Cert.FwKernelIdeal.sig (Elt Ideal) (Proc.kind (τ := τ) Proc.tc) Space.vmem S1024x1024 .bf16 (ms0_5 t).view ((hs0_5 t).unread (iblk m c 5 t))) (Rect.unit ![0, 0] S1024x1024.size (by decide))
def xR (c : Dev nD) (t : Fin cfg0.N) : Vec Ideal S512x1024 .f32 := View.ld (@View.read Cert.FwKernelIdeal.sig (Elt Ideal) (Proc.kind (τ := τ) Proc.tc) Space.vmem S512x1024 .f32 (ms0_6 t).view ((hs0_6 t).unread (iblk m c 6 t))) (Rect.unit ![0, 0] S512x1024.size (by decide))
def poR (c : Dev nD) (t : Fin cfg0.N) : Vec Ideal S1x1024 .f32 := View.ld (@View.read Cert.FwKernelIdeal.sig (Elt Ideal) (Proc.kind (τ := τ) Proc.tc) Space.vmem S1x1024 .f32 (ms0_7 t).view ((hs0_7 t).unread (iblk m c 7 t))) (Rect.unit ![0, 0] S1x1024.size (by decide))

/-- The two planes of the bias as the first point reads them. -/
abbrev bV : View Cert.FwKernelIdeal.sig (Proc.kind (τ := τ) Proc.tc) Space.vmem S2x512x256 .f32 := View.whole cc0_scratch1
def raw1 (v : Vec Ideal S2x512x256 .f32) : Vec Ideal S2x512x256 .f32 :=
  @View.read Cert.FwKernelIdeal.sig (Elt Ideal) (Proc.kind (τ := τ) Proc.tc) Space.vmem S2x512x256 .f32 (View.whole cc0_scratch1) (@Memref.IsWhole.unread Cert.FwKernelIdeal.sig (Elt Ideal) Kind.tc Space.vmem S2x512x256 .f32 scM0_1 (@Memref.isWhole_whole Cert.FwKernelIdeal.sig Kind.tc cc0_scratch1) v)
theorem raw1_eq (v : Vec Ideal S2x512x256 .f32) : raw1 v = v := Memref.IsWhole.read_unread (m := scM0_1) (Memref.isWhole_whole cc0_scratch1) v

/-- The written halves read back, the product and the residual sum. -/
def mixR (t : Fin cfg0.N) (L : List (View.Piece (Elt Ideal) S512x1024 .bf16)) : Vec Ideal S512x1024 .bf16 :=
  (ms0_8 t).view.readCov (Val := Elt Ideal) L (Rect.unit (s := S512x1024) ![0, 0] ![512, 1024] (by decide)).toLoadRect
def yOf (v : Vec Ideal S512x1024 .bf16) (w : Vec Ideal S1024x1024 .bf16) : FVec Ideal S512x1024 .f32 :=
  k0_pay133 (k0_pay131 v) (k0_pay132 w) (constant S512x1024 .f32 0x00000000#32)
def xOf (v : Vec Ideal S512x1024 .bf16) (w : Vec Ideal S1024x1024 .bf16) (x : Vec Ideal S512x1024 .f32) (p : Vec Ideal S1x1024 .f32) : FVec Ideal S512x1024 .f32 :=
  k0_pay134 (k0_pay131 v) (k0_pay132 w) (constant S512x1024 .f32 0x00000000#32) x p

set_option maxHeartbeats 4000000 in
/-- A later point. -/
theorem step (x : Inp) (c : Dev nD) (t : Fin cfg0.N) (h0 : ¬t.val % 16 = 0) :
    (outsAt0 m c t.val t.isLt).1 = View.canon (Val := Elt Ideal) (s := S512x1024) (e := .bf16)
      ((blkR m x c t).mixL (Cert.Proof.Mx.Point.bias0 (raw1 (outsAt0 m c (t.val - 1) (by omega)).2.2.2)) (Cert.Proof.Mx.Point.bias1 (raw1 (outsAt0 m c (t.val - 1) (by omega)).2.2.2))) := by
  rw [outsAt0_B m c t h0]
  (frame_open; refine (View.read_writes_junk_eq_canon _ _).trans ?_; conv_rhs => dsimp only [raw1, Cert.Proof.Mx.Point.bias0, Cert.Proof.Mx.Point.bias1, blkR, woR, xR, poR, mixR, yOf, xOf, Blk.mixL, Tile.mixed, Tile.gate, Grp.mixed, Grp.gate, Blk.grp0, Blk.grp1, Blk.grp2, Blk.grp3, Grp.yraw, Grp.mat, Blk.pooled, Blk.ext0, Blk.ext1, Blk.ext2, Blk.ext3, Blk.ext, Blk.nums, Cert.Proof.Mx.Point.down, Grp.half, Blk.tile0, Blk.tile1, Blk.tile2, Blk.tile3, Tile.outs0, Tile.outs1, Tile.q0, Tile.q1, Tile.half, Blk.kv, Blk.kvL, Blk.sk0, Blk.sk1, Blk.t0])
  simp only [View.readCov_eq_canon']
  rfl

end Cert.Proof.Fw.Point
end
-- ==== Proof.FwMix.lean ====
/- The gated halves a point of the mixing layer's forward writes are the step's rows. -/
module

public import proofs.«01_k».proof.Proof.FwPoint
public import proofs.«01_k».proof.Proof.MxFinal

@[expose] public section

set_option maxRecDepth 16384

noncomputable section

open Idealize.ShloMosaic Idealize.ShloMosaic.TcCoe Idealize.SL.Sem

namespace Cert.Proof.Mx.Point

open Cert.MxKernelIdeal Cert.MxKernelIdeal.Gen Cert.Proof.RealLift Cert.Proof.Norm Cert.Proof.Mx.Host
open Cert.Proof.Mx.Body (rq rg)

/-- A query block's gated attention. -/
theorem Tile.mixed_at {t : Tile} {x : Inp} {n : Fin 64} {K V : Fin 256 → Fin 128 → ℝ} (h : t.Is x n K V) (q : Fin 128) (c : Fin 512) :
    t.mixed (ix2 q c) = ((x.att (rowOf n q) c * silu (x.pga (rowOf n q) c) : ℝ) : EReal) := by
  rw [← Inp.att_eq, blkOf_rowOf, inBlk_rowOf]
  pointwise [Tile.mixed, Tile.gate, Tile.half, Tile.outs0_at h, Tile.outs1_at h, h.ga]
  rw [Body.bits_half, gn_eq, EReal.coe_mul]
  split
  next hc =>
    obtain ⟨e1, e2⟩ := Tile.hd_of x n q c 0 ⟨c, hc⟩ (by show (c : ℕ) = 0 * 256 + c; omega)
    rw [← e1, ← e2]
  next hc =>
    obtain ⟨e1, e2⟩ := Tile.hd_of x n q c 1 ⟨c - 256, by omega⟩ (by show (c : ℕ) = 1 * 256 + (c - 256); omega)
    rw [← e1, ← e2]

/-- A pooling group's gated rows. -/
theorem Grp.mixed_at {g : Grp} {x : Inp} {i : Fin 16} {k : Fin 4} (h : g.Is x i k) (r : Fin 512) (c : Fin 128) :
    g.mixed (ix2 r c) = ((x.yraw (rowI i r) (grpCol k c) * x.C (grpCol k c) * silu (x.pgb (rowI i r) (grpCol k c)) : ℝ) : EReal) := by
  pointwise [Grp.mixed, Grp.gate, Grp.half, Grp.yraw_at h, h.gb, h.sc]
  rw [Body.bits_half, gn_eq, EReal.coe_mul, EReal.coe_mul]

/-- The first half of a row of gated values. -/
theorem mix_a (x : Inp) (R : Fin 8192) (c : Fin 1024) (k : Fin 512) (hc : (c : ℕ) = k) : x.mix R c = x.att R k * silu (x.pga R k) := by
  have e : (⟨(c : ℕ), by omega⟩ : Fin 512) = k := Fin.ext hc
  unfold Inp.mix; rw [dif_pos (by omega), e]
/-- The second half of a row of gated values. -/
theorem mix_b (x : Inp) (R : Fin 8192) (c : Fin 1024) (g : Fin 4) (e : Fin 128) (hc : (c : ℕ) = 512 + 128 * (g : ℕ) + e) :
    x.mix R c = x.yraw R (grpCol g e) * x.C (grpCol g e) * silu (x.pgb R (grpCol g e)) := by
  have k : (⟨(c : ℕ) - 512, by omega⟩ : Fin 512) = grpCol g e := Fin.ext (by show (c : ℕ) - 512 = g * 128 + e; omega)
  unfold Inp.mix
  rw [dif_neg (by omega), k]

set_option maxHeartbeats 2000000 in
/-- The halves a point writes. -/
theorem Blk.mixL_at {b : Blk} {x : Inp} {i : Fin 16} {b0 b1 : Vec Ideal S1x512x256 .f32} (h : b.Is x i) (h0 : BiasIs 0 b0) (h1 : BiasIs 1 b1) (r : Fin 512) (c : Fin 1024) :
    View.canon (Val := Elt Ideal) (s := S512x1024) (e := .bf16) (b.mixL b0 b1) (ix2 r c) = (x.mix (rowI i r) c : EReal) := by
  have o (n : ℕ) (hn : n ≤ c) (hl : (c : ℕ) < n + 128) : (c : ℕ) = n + ((⟨c - n, by omega⟩ : Fin 128) : ℕ) := by show (c : ℕ) = n + (c - n); omega
  have u (G : Grp) (g : Fin 4) (hG : G.Is x i g) (e : Fin 128) (k : (c : ℕ) = 512 + 128 * (g : ℕ) + e) : G.mixed (ix2 r e) = (x.mix (rowI i r) c : EReal) := by
    rw [Grp.mixed_at hG, mix_b _ _ c g e k]
  have q (T : Tile) (j : Fin 4) (hT : T.Is x (nth i j) (keysOf x i j) (valsOf x i j)) (k : Fin 512) (e : (c : ℕ) = k) (s : Fin 128) (hs : (r : ℕ) = 128 * (j : ℕ) + s) :
      T.mixed (ix2 s k) = (x.mix (rowI i r) c : EReal) := by
    rw [Tile.mixed_at hT, mix_a _ _ c k e, rowOf_nth i j s r hs]
  unfold Blk.mixL
  by_cases k3 : 896 ≤ (c : ℕ)
  · exact (canon_in (N := 512) (M := 1024) _ _ _ r c r _ (by omega) (o 896 (by omega) (by omega))).trans (u _ 3 (grp3_is h) _ (o 896 (by omega) (by omega)))
  refine (canon_out (N := 512) (M := 1024) _ _ _ r c (by omega)).trans ?_
  by_cases k2 : 768 ≤ (c : ℕ)
  · exact (canon_in (N := 512) (M := 1024) _ _ _ r c r _ (by omega) (o 768 (by omega) (by omega))).trans (u _ 2 (grp2_is h) _ (o 768 (by omega) (by omega)))
  refine (canon_out (N := 512) (M := 1024) _ _ _ r c (by omega)).trans ?_
  by_cases k1 : 640 ≤ (c : ℕ)
  · exact (canon_in (N := 512) (M := 1024) _ _ _ r c r _ (by omega) (o 640 (by omega) (by omega))).trans (u _ 1 (grp1_is h) _ (o 640 (by omega) (by omega)))
  refine (canon_out (N := 512) (M := 1024) _ _ _ r c (by omega)).trans ?_
  by_cases k0 : 512 ≤ (c : ℕ)
  · exact (canon_in (N := 512) (M := 1024) _ _ _ r c r _ (by omega) (o 512 (by omega) (by omega))).trans (u _ 0 (grp0_is h) _ (o 512 (by omega) (by omega)))
  refine (canon_out (N := 512) (M := 1024) _ _ _ r c (by omega)).trans ?_
  by_cases c3 : 384 ≤ (r : ℕ)
  · exact (canon_in (N := 512) (M := 1024) _ _ _ r c (⟨r - 384, by omega⟩ : Fin 128) (⟨c, by omega⟩ : Fin 512) (by show (r : ℕ) = 384 + (r - 384); omega) (by show (c : ℕ) = 0 + c; omega)).trans
      (q _ 3 (tile3_is h b0 b1 h0 h1) _ rfl _ (by show (r : ℕ) = 128 * 3 + (r - 384); omega))
  refine (canon_out (N := 512) (M := 1024) _ _ _ r c (by omega)).trans ?_
  by_cases c2 : 256 ≤ (r : ℕ)
  · exact (canon_in (N := 512) (M := 1024) _ _ _ r c (⟨r - 256, by omega⟩ : Fin 128) (⟨c, by omega⟩ : Fin 512) (by show (r : ℕ) = 256 + (r - 256); omega) (by show (c : ℕ) = 0 + c; omega)).trans
      (q _ 2 (tile2_is h b0 b1 h0 h1) _ rfl _ (by show (r : ℕ) = 128 * 2 + (r - 256); omega))
  refine (canon_out (N := 512) (M := 1024) _ _ _ r c (by omega)).trans ?_
  by_cases c1 : 128 ≤ (r : ℕ)
  · exact (canon_in (N := 512) (M := 1024) _ _ _ r c (⟨r - 128, by omega⟩ : Fin 128) (⟨c, by omega⟩ : Fin 512) (by show (r : ℕ) = 128 + (r - 128); omega) (by show (c : ℕ) = 0 + c; omega)).trans
      (q _ 1 (tile1_is h b0 b1 h0 h1) _ rfl _ (by show (r : ℕ) = 128 * 1 + (r - 128); omega))
  refine (canon_out (N := 512) (M := 1024) _ _ _ r c (by omega)).trans ?_
  exact (canon_in (N := 512) (M := 1024) _ _ _ r c (⟨r, by omega⟩ : Fin 128) (⟨c, by omega⟩ : Fin 512) (by show (r : ℕ) = 0 + r; omega) (by show (c : ℕ) = 0 + c; omega)).trans
    (q _ 0 (tile0_is h b0 b1 h0 h1) _ rfl _ (by show (r : ℕ) = 128 * 0 + r; omega))

end Cert.Proof.Mx.Point

end
-- ==== Proof.FwRef.lean ====
/- The mixing layer's forward reference: the gated halves are the forward lines of the gradient's reference, and what follows
   is one function of them. -/
module

public import proofs.«01_k».proof.Proof.Gen.FwReferenceIdeal.Run
public import proofs.«01_k».proof.Proof.MxFwd
public import proofs.«01_k».proof.Proof.NpValue

@[expose] public section

set_option maxRecDepth 16384

noncomputable section

open Idealize.ShloMosaic Idealize.ShloMosaic.TcCoe Idealize.SL.Sem

namespace Cert.Proof.Fw

open Cert.Proof.Norm Cert.Proof.Mx

/-- The gated halves as one array of the step's numbers. -/
def mixOf (x : Inp) : FVec Ideal ⟨2, ![8192, 1024]⟩ .bf16 := fun i => ((x.mix (i 0) (i 1) : ℝ) : EReal)
/-- A row of their product with the output matrix. -/
def yAt (x : Inp) (O : FVec Ideal ⟨3, ![1, 1024, 1024]⟩ .f32) (r : Fin 8192) : Fin 1024 → EReal := fun j => ∑ k, ((x.mix r k : ℝ) : EReal) * O (ix3 0 k j)
/-- Their product with the output matrix. -/
def yOut (x : Inp) (O : FVec Ideal ⟨3, ![1, 1024, 1024]⟩ .f32) : FVec Ideal ⟨2, ![8192, 1024]⟩ .f32 := fun i => yAt x O (i 0) (i 1)
/-- The residual rows with the normed product. -/
def xOut (x : Inp) (O : FVec Ideal ⟨3, ![1, 1024, 1024]⟩ .f32) (X : FVec Ideal ⟨2, ![8192, 1024]⟩ .f32) (N : FVec Ideal ⟨2, ![2, 1024]⟩ .f32) : FVec Ideal ⟨2, ![8192, 1024]⟩ .f32 :=
  fun i => X i + yAt x O (i 0) (i 1) * rsE (yAt x O (i 0)) * N (ix2 0 (i 1))

end Cert.Proof.Fw

namespace Cert.Proof.Fw.Ref

open Cert.FwReferenceIdeal Cert.FwReferenceIdeal.Gen Cert.FwReferenceIdeal.Value Cert.Proof.Norm
open Cert.Proof.Mx (Inp)
open Cert.Proof.Mx.Host (Reads)

section
variable (a0 : FVec Ideal S8192x2304 .f32) (a1 : FVec Ideal S1x8 .f32) (a2 : FVec Ideal S1x4x128x128 .f32) (a3 : FVec Ideal S1x512 .f32)
  (a4 : FVec Ideal S1x1024x1024 .f32) (a5 : FVec Ideal S8192x1024 .f32) (a6 : FVec Ideal S2x1024 .f32)

/-- The pooling matrices. -/
def poolW : FVec Ideal S4x128x128 .f32 :=
  shapeCast _ a2 shapeCasts_S1x4x128x128_S4x128x128
/-- The queries. -/
def queries : FVec Ideal S64x128x2x4x64 .f32 :=
  shapeCast _ (extractStridedSlice S8192x512 ![0, 0] a0 slices_S8192x2304_S8192x512_0_0) shapeCasts_S8192x512_S64x128x2x4x64
/-- The keys and values, block by block. -/
def kvRows : FVec Ideal S64x128x2x2x64 .f32 :=
  shapeCast _ (extractStridedSlice S8192x256 ![0, 512] a0 slices_S8192x2304_S8192x256_0_512) shapeCasts_S8192x256_S64x128x2x2x64
/-- Each block's keys and values behind those of the block before. -/
def kvPast : FVec Ideal S64x256x2x2x64 .f32 :=
  concatenate S64x256x2x2x64 1 [⟨S64x128x2x2x64, (concatenate S64x128x2x2x64 0 [⟨S1x128x2x2x64, (broadcastInDim S1x128x2x2x64 ![] bcast_S_S1x128x2x2x64 (constant (F := Ideal) S_ .f32 0x00000000#32))⟩, ⟨S63x128x2x2x64, (extractStridedSlice S63x128x2x2x64 ![0, 0, 0, 0, 0] (kvRows a0) slices_S64x128x2x2x64_S63x128x2x2x64_0_0_0_0_0)⟩] concatenates_S1x128x2x2x64_S63x128x2x2x64_S64x128x2x2x64_d0)⟩, ⟨S64x128x2x2x64, (kvRows a0)⟩] concatenates_S64x128x2x2x64_S64x128x2x2x64_S64x256x2x2x64_d1
/-- The keys a block looks at. -/
def keys : FVec Ideal S64x256x2x64 .f32 :=
  shapeCast _ (extractStridedSlice S64x256x1x2x64 ![0, 0, 0, 0, 0] (kvPast a0) slices_S64x256x2x2x64_S64x256x1x2x64_0_0_0_0_0) shapeCasts_S64x256x1x2x64_S64x256x2x64
/-- The values a block looks at. -/
def vals : FVec Ideal S64x256x2x64 .f32 :=
  shapeCast _ (extractStridedSlice S64x256x1x2x64 ![0, 0, 1, 0, 0] (kvPast a0) slices_S64x256x2x2x64_S64x256x1x2x64_0_0_1_0_0) shapeCasts_S64x256x1x2x64_S64x256x2x64
/-- The distance from a query to a key. -/
def dist : IVec S128x256 32 :=
  subi (extractStridedSlice S128x256 ![128, 0] (iotaInDim S256x256 32 0) slices_S256x256_S128x256_128_0) (iotaInDim S128x256 32 1)
/-- The block length. -/
def blocks : IVec S64x256 32 :=
  broadcastInDim S64x256 ![] bcast_S_S64x256 (constantI S_ 32 128#32)
/-- The keys a query sees. -/
def seen : IVec S64x2x128x4x256 1 :=
  broadcastInDim S64x2x128x4x256 ![0, 2, 4] bcast_S64x128x256_S64x2x128x4x256_0_2_4 (andi (broadcastInDim S64x128x256 ![1, 2] bcast_S128x256_S64x128x256_1_2 (andi (cmpi .sge dist (broadcastInDim S128x256 ![] bcast_S_S128x256 (constantI S_ 32 0#32))) (cmpi .slt dist (broadcastInDim S128x256 ![] bcast_S_S128x256 (constantI S_ 32 128#32))))) (broadcastInDim S64x128x256 ![0, 2] bcast_S64x256_S64x128x256_0_2 (cmpi .sge (addi (muli (iotaInDim S64x256 32 0) blocks) (iotaInDim S64x256 32 1)) blocks)))
/-- The masked scores. -/
def score : FVec Ideal S64x2x128x4x256 .f32 :=
  select seen (subf (mulf (Host.dotGeneral dot_S64x128x2x4x64_S64x256x2x64_S64x2x128x4x256_4_3_13_1_02_02 none (queries a0) (keys a0)) (broadcastInDim S64x2x128x4x256 ![] bcast_S_S64x2x128x4x256 (constant (F := Ideal) S_ .f32 0x3E000000#32))) (broadcastInDim S64x2x128x4x256 ![1, 2, 3, 4] bcast_S2x128x4x256_S64x2x128x4x256_1_2_3_4 (mulf (broadcastInDim S2x128x4x256 ![0, 2] bcast_S2x4_S2x128x4x256_0_2 (shapeCast _ (fun i => FloatOps.ofBits .f32 (lit0 (S8.rowMajor i)) : FVec Ideal S8 .f32) shapeCasts_S8_S2x4)) (broadcastInDim S2x128x4x256 ![1, 3] bcast_S128x256_S2x128x4x256_1_3 (sitofp .f32 dist))))) (broadcastInDim S64x2x128x4x256 ![] bcast_S_S64x2x128x4x256 (constant (F := Ideal) S_ .f32 0xFF800000#32))
/-- The sinks. -/
def sinks : FVec Ideal S64x2x128x4 .f32 :=
  broadcastInDim S64x2x128x4 ![1, 3] bcast_S2x4_S64x2x128x4_1_3 (shapeCast _ a1 shapeCasts_S1x8_S2x4)
/-- The rows' largest scores. -/
def top : FVec Ideal S64x2x128x4 .f32 :=
  Host.reduce FloatOps.maximumf (score a0) (constant (F := Ideal) S_ .f32 0xFF800000#32) reducesTo_S64x2x128x4x256_S64x2x128x4_d4 h_S_
/-- The rows' maxima. -/
def maxes : FVec Ideal S64x2x128x4 .f32 :=
  maximumf (top a0) (sinks a1)
/-- The exponentials. -/
def exps : FVec Ideal S64x2x128x4x256 .f32 :=
  Host.exp (subf (score a0) (broadcastInDim S64x2x128x4x256 ![0, 1, 2, 3] bcast_S64x2x128x4_S64x2x128x4x256_0_1_2_3 (maxes a0 a1)))
/-- The sinks' exponentials. -/
def expSink : FVec Ideal S64x2x128x4 .f32 :=
  Host.exp (subf (sinks a1) (maxes a0 a1))
/-- The normalisers. -/
def norms : FVec Ideal S64x2x128x4x256 .f32 :=
  broadcastInDim S64x2x128x4x256 ![0, 1, 2, 3] bcast_S64x2x128x4_S64x2x128x4x256_0_1_2_3 (addf (Host.reduceAdd (exps a0 a1) (constant (F := Ideal) S_ .f32 0x00000000#32) reducesTo_S64x2x128x4x256_S64x2x128x4_d4 h_S_) (expSink a0 a1))
/-- The weights. -/
def weights : FVec Ideal S64x2x128x4x256 .f32 :=
  Host.divf (exps a0 a1) (norms a0 a1)
/-- The rows to pool. -/
def pooledIn : FVec Ideal S8192x4x128 .f32 :=
  shapeCast _ (extractStridedSlice S8192x512 ![0, 1280] a0 slices_S8192x2304_S8192x512_0_1280) shapeCasts_S8192x512_S8192x4x128
/-- The running sums. -/
def sums : FVec Ideal S8192x4x128 .f32 :=
  Host.reduceWindowAdd ![8192, 1, 1] ![1, 1, 1] ![8191, 0, 0] ![0, 0, 0] (pooledIn a0) (broadcastInDim S_ ![] bcast_S_S_ (constant (F := Ideal) S_ .f32 0x00000000#32)) reduceWindows_S8192x4x128_S8192x4x128_w8192s1p8191_0_w1s1p0_0_w1s1p0_0 h_S_
/-- The running sums behind sixteen zero rows. -/
def sums16 : FVec Ideal S8208x4x128 .f32 :=
  concatenate S8208x4x128 0 [⟨S16x4x128, (broadcastInDim S16x4x128 ![] bcast_S_S16x4x128 (constant (F := Ideal) S_ .f32 0x00000000#32))⟩, ⟨S8192x4x128, (sums a0)⟩] concatenates_S16x4x128_S8192x4x128_S8208x4x128_d0
/-- The windows' lengths. -/
def counts : FVec Ideal S8192x4x128 .f32 :=
  broadcastInDim S8192x4x128 ![0, 1] bcast_S8192x4_S8192x4x128_0_1 (sitofp .f32 (minsi (extractStridedSlice S8192x4 ![1, 0] (iotaInDim S8193x4 32 0) slices_S8193x4_S8192x4_1_0) (broadcastInDim S8192x4 ![1] bcast_S4_S8192x4_1 (fun i => lit1 (S4.rowMajor i) : IVec S4 32))))
/-- The pooled rows. -/
def pooled : FVec Ideal S8192x4x128 .f32 :=
  subf (Host.divf (subf (sums a0) ((concatenate S8192x4x128 1 [⟨S8192x1x128, ((extractStridedSlice S8192x1x128 ![14, 0, 0] (sums16 a0) slices_S8208x4x128_S8192x1x128_14_0_0) : FVec Ideal S8192x1x128 .f32)⟩, ⟨S8192x1x128, ((extractStridedSlice S8192x1x128 ![12, 1, 0] (sums16 a0) slices_S8208x4x128_S8192x1x128_12_1_0) : FVec Ideal S8192x1x128 .f32)⟩, ⟨S8192x1x128, ((extractStridedSlice S8192x1x128 ![8, 2, 0] (sums16 a0) slices_S8208x4x128_S8192x1x128_8_2_0) : FVec Ideal S8192x1x128 .f32)⟩, ⟨S8192x1x128, ((extractStridedSlice S8192x1x128 ![0, 3, 0] (sums16 a0) slices_S8208x4x128_S8192x1x128_0_3_0) : FVec Ideal S8192x1x128 .f32)⟩] concatenates_S8192x1x128_S8192x1x128_S8192x1x128_S8192x1x128_S8192x4x128_d1 : FVec Ideal S8192x4x128 .f32))) counts) (pooledIn a0)
/-- The pooled rows under the pooling matrices. -/
def raw : FVec Ideal S8192x512 .f32 :=
  shapeCast _ (transpose S8192x4x128 [1, 0, 2] (Host.dotGeneral dot_S8192x4x128_S4x128x128_S4x8192x128_2_1_0_2_1_0 none (pooled a0) (poolW a2)) transposes_S4x8192x128_S8192x4x128_1_0_2) shapeCasts_S8192x4x128_S8192x512
/-- The pooling scales. -/
def scales : FVec Ideal S8192x512 .f32 :=
  broadcastInDim S8192x512 ![0, 1] bcast_S1x512_S8192x512_0_1 a3
/-- The gates' arguments. -/
def gates : FVec Ideal S8192x1024 .f32 :=
  concatenate S8192x1024 1 [⟨S8192x512, (extractStridedSlice S8192x512 ![0, 768] a0 slices_S8192x2304_S8192x512_0_768)⟩, ⟨S8192x512, (extractStridedSlice S8192x512 ![0, 1792] a0 slices_S8192x2304_S8192x512_0_1792)⟩] concatenates_S8192x512_S8192x512_S8192x1024_d1
/-- The two halves before their gates. -/
def halves : FVec Ideal S8192x1024 .f32 :=
  concatenate S8192x1024 1 [⟨S8192x512, (shapeCast _ (transpose S64x128x2x4x64 [0, 2, 1, 3, 4] (Host.dotGeneral dot_S64x2x128x4x256_S64x256x2x64_S64x2x128x4x64_4_1_23_3_01_02 none (weights a0 a1) (vals a0)) transposes_S64x2x128x4x64_S64x128x2x4x64_0_2_1_3_4) shapeCasts_S64x128x2x4x64_S8192x512)⟩, ⟨S8192x512, (mulf (raw a0 a2) (scales a3))⟩] concatenates_S8192x512_S8192x512_S8192x1024_d1
/-- The gates' exponentials. -/
def expGate : FVec Ideal S8192x1024 .f32 :=
  Host.exp (Host.negf (gates a0))
/-- The gates' denominators. -/
def gateDen : FVec Ideal S8192x1024 .f32 :=
  addf (broadcastInDim S8192x1024 ![] bcast_S_S8192x1024 (constant (F := Ideal) S_ .f32 0x3F800000#32)) (expGate a0)
/-- The gates. -/
def silus : FVec Ideal S8192x1024 .f32 :=
  Host.divf (gates a0) (gateDen a0)
/-- The gated halves. -/
def mixed : FVec Ideal S8192x1024 .f32 :=
  mulf (halves a0 a1 a2 a3) (silus a0)

/-! They are the forward lines of the gradient's reference. -/

/-- The two programs write the same slopes. -/
theorem lit0_eq : Cert.FwReferenceIdeal.lit0 = Cert.MxReferenceIdeal.lit0 := by funext i; fin_cases i <;> rfl
/-- The two programs write the same windows. -/
theorem lit1_eq : Cert.FwReferenceIdeal.lit1 = Cert.MxReferenceIdeal.lit1 := by funext i; fin_cases i <;> rfl
/-- The two programs compute the same `poolW`. -/
theorem poolW_eq : poolW a2 = Cert.Proof.Mx.Host.poolW a2 := by
  unfold poolW Cert.Proof.Mx.Host.poolW
  first | done | rfl
/-- The two programs compute the same `queries`. -/
theorem queries_eq : queries a0 = Cert.Proof.Mx.Host.queries a0 := by
  unfold queries Cert.Proof.Mx.Host.queries
  first | done | rfl
/-- The two programs compute the same `kvRows`. -/
theorem kvRows_eq : kvRows a0 = Cert.Proof.Mx.Host.kvRows a0 := by
  unfold kvRows Cert.Proof.Mx.Host.kvRows
  first | done | rfl
/-- The two programs compute the same `kvPast`. -/
theorem kvPast_eq : kvPast a0 = Cert.Proof.Mx.Host.kvPast a0 := by
  unfold kvPast Cert.Proof.Mx.Host.kvPast
  rw [kvRows_eq]
  first | done | rfl
/-- The two programs compute the same `keys`. -/
theorem keys_eq : keys a0 = Cert.Proof.Mx.Host.keys a0 := by
  unfold keys Cert.Proof.Mx.Host.keys
  rw [kvPast_eq]
  first | done | rfl
/-- The two programs compute the same `vals`. -/
theorem vals_eq : vals a0 = Cert.Proof.Mx.Host.vals a0 := by
  unfold vals Cert.Proof.Mx.Host.vals
  rw [kvPast_eq]
  first | done | rfl
/-- The two programs compute the same `dist`. -/
theorem dist_eq : dist = Cert.Proof.Mx.Host.dist := by
  unfold dist Cert.Proof.Mx.Host.dist
  first | done | rfl
/-- The two programs compute the same `blocks`. -/
theorem blocks_eq : blocks = Cert.Proof.Mx.Host.blocks := by
  unfold blocks Cert.Proof.Mx.Host.blocks
  first | done | rfl
/-- The two programs compute the same `seen`. -/
theorem seen_eq : seen = Cert.Proof.Mx.Host.seen := by
  unfold seen Cert.Proof.Mx.Host.seen
  rw [dist_eq, blocks_eq]
  first | done | rfl
/-- The two programs compute the same `score`. -/
theorem score_eq : score a0 = Cert.Proof.Mx.Host.score a0 := by
  unfold score Cert.Proof.Mx.Host.score
  rw [queries_eq, keys_eq, dist_eq, seen_eq, lit0_eq]
  first | done | rfl
/-- The two programs compute the same `sinks`. -/
theorem sinks_eq : sinks a1 = Cert.Proof.Mx.Host.sinks a1 := by
  unfold sinks Cert.Proof.Mx.Host.sinks
  first | done | rfl
/-- The two programs compute the same `top`. -/
theorem top_eq : top a0 = Cert.Proof.Mx.Host.top a0 := by
  unfold top Cert.Proof.Mx.Host.top
  rw [score_eq]
  first | done | rfl
/-- The two programs compute the same `maxes`. -/
theorem maxes_eq : maxes a0 a1 = Cert.Proof.Mx.Host.maxes a0 a1 := by
  unfold maxes Cert.Proof.Mx.Host.maxes
  rw [sinks_eq, top_eq]
  first | done | rfl
/-- The two programs compute the same `exps`. -/
theorem exps_eq : exps a0 a1 = Cert.Proof.Mx.Host.exps a0 a1 := by
  unfold exps Cert.Proof.Mx.Host.exps
  rw [score_eq, maxes_eq]
  first | done | rfl
/-- The two programs compute the same `expSink`. -/
theorem expSink_eq : expSink a0 a1 = Cert.Proof.Mx.Host.expSink a0 a1 := by
  unfold expSink Cert.Proof.Mx.Host.expSink
  rw [sinks_eq, maxes_eq]
  first | done | rfl
/-- The two programs compute the same `norms`. -/
theorem norms_eq : norms a0 a1 = Cert.Proof.Mx.Host.norms a0 a1 := by
  unfold norms Cert.Proof.Mx.Host.norms
  rw [exps_eq, expSink_eq]
  first | done | rfl
/-- The two programs compute the same `weights`. -/
theorem weights_eq : weights a0 a1 = Cert.Proof.Mx.Host.weights a0 a1 := by
  unfold weights Cert.Proof.Mx.Host.weights
  rw [exps_eq, norms_eq]
  first | done | rfl
/-- The two programs compute the same `pooledIn`. -/
theorem pooledIn_eq : pooledIn a0 = Cert.Proof.Mx.Host.pooledIn a0 := by
  unfold pooledIn Cert.Proof.Mx.Host.pooledIn
  first | done | rfl
/-- The two programs compute the same `sums`. -/
theorem sums_eq : sums a0 = Cert.Proof.Mx.Host.sums a0 := by
  unfold sums Cert.Proof.Mx.Host.sums
  rw [pooledIn_eq]
  first | done | rfl
/-- The two programs compute the same `sums16`. -/
theorem sums16_eq : sums16 a0 = Cert.Proof.Mx.Host.sums16 a0 := by
  unfold sums16 Cert.Proof.Mx.Host.sums16
  rw [sums_eq]
  first | done | rfl
/-- The two programs compute the same `counts`. -/
theorem counts_eq : counts = Cert.Proof.Mx.Host.counts := by
  unfold counts Cert.Proof.Mx.Host.counts
  rw [lit1_eq]
  first | done | rfl
/-- The two programs compute the same `pooled`. -/
theorem pooled_eq : pooled a0 = Cert.Proof.Mx.Host.pooled a0 := by
  unfold pooled Cert.Proof.Mx.Host.pooled
  rw [pooledIn_eq, sums_eq, sums16_eq, counts_eq]
  first | done | rfl
/-- The two programs compute the same `raw`. -/
theorem raw_eq : raw a0 a2 = Cert.Proof.Mx.Host.raw a0 a2 := by
  unfold raw Cert.Proof.Mx.Host.raw
  rw [poolW_eq, pooled_eq]
  first | done | rfl
/-- The two programs compute the same `scales`. -/
theorem scales_eq : scales a3 = Cert.Proof.Mx.Host.scales a3 := by
  unfold scales Cert.Proof.Mx.Host.scales
  first | done | rfl
/-- The two programs compute the same `gates`. -/
theorem gates_eq : gates a0 = Cert.Proof.Mx.Host.gates a0 := by
  unfold gates Cert.Proof.Mx.Host.gates
  first | done | rfl
/-- The two programs compute the same `halves`. -/
theorem halves_eq : halves a0 a1 a2 a3 = Cert.Proof.Mx.Host.halves a0 a1 a2 a3 := by
  unfold halves Cert.Proof.Mx.Host.halves
  rw [vals_eq, weights_eq, raw_eq, scales_eq]
  first | done | rfl
/-- The two programs compute the same `expGate`. -/
theorem expGate_eq : expGate a0 = Cert.Proof.Mx.Host.expGate a0 := by
  unfold expGate Cert.Proof.Mx.Host.expGate
  rw [gates_eq]
  first | done | rfl
/-- The two programs compute the same `gateDen`. -/
theorem gateDen_eq : gateDen a0 = Cert.Proof.Mx.Host.gateDen a0 := by
  unfold gateDen Cert.Proof.Mx.Host.gateDen
  rw [expGate_eq]
  first | done | rfl
/-- The two programs compute the same `silus`. -/
theorem silus_eq : silus a0 = Cert.Proof.Mx.Host.silus a0 := by
  unfold silus Cert.Proof.Mx.Host.silus
  rw [gates_eq, gateDen_eq]
  first | done | rfl
/-- The two programs compute the same `mixed`. -/
theorem mixed_eq : mixed a0 a1 a2 a3 = Cert.Proof.Mx.Host.mixed a0 a1 a2 a3 := by
  unfold mixed Cert.Proof.Mx.Host.mixed
  rw [halves_eq, silus_eq]
  first | done | rfl

/-- The product and the residual sum of given halves. -/
def y (v : FVec Ideal S8192x1024 .f32) : FVec Ideal S8192x1024 .f32 := Host.dotGeneral dot_S8192x1024_S1024x1024_S8192x1024_1_0_0_1_n_n none v (shapeCast _ a4 shapeCasts_S1x1024x1024_S1024x1024)
/-- The residual sum. -/
def xo (y : FVec Ideal S8192x1024 .f32) : FVec Ideal S8192x1024 .f32 :=
  addf a5 (mulf (mulf y (broadcastInDim S8192x1024 ![0, 1] bcast_S8192x1_S8192x1024_0_1 (Host.rsqrt (addf (Host.divf (broadcastInDim S8192x1 ![0] bcast_S8192_S8192x1_0 (Host.reduceAdd (mulf y y) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (shapeCast _ (extractStridedSlice S1x1024 ![0, 0] a6 slices_S2x1024_S1x1024_0_0) shapeCasts_S1x1024_S1024))))

variable {a0 a1 a2 a3} {x : Inp} {z4 z5 z6} (h : Reads x a0 a1 a2 a3 z4 z5 z6)
include h

/-- One entry of the gated halves. -/
theorem mix_at (r : Fin 8192) (c : Fin 1024) : mixed a0 a1 a2 a3 (ix2 r c) = (x.mix r c : EReal) := by
  rw [mixed_eq]; exact Cert.Proof.Mx.Host.mixed_at h r c
/-- One entry of their product. -/
theorem y_at (r : Fin 8192) (j : Fin 1024) : y a4 (mixed a0 a1 a2 a3) (ix2 r j) = yAt x a4 r j := by
  pointwise [y, mix_at h]
  rfl
/-- One entry of the residual sum. -/
theorem xo_at (r : Fin 8192) (j : Fin 1024) : xo a5 a6 (y a4 (mixed a0 a1 a2 a3)) (ix2 r j) = xOut x a4 a5 a6 (ix2 r j) := by
  show _ = a5 (ix2 r j) + yAt x a4 r j * rsE (yAt x a4 r) * a6 (ix2 0 j)
  pointwise [xo, y_at a4 h]
  rfl
end

section
variable (a0 : FVec Ideal S8192x2304 .f32) (a1 : FVec Ideal S1x8 .f32) (a2 : FVec Ideal S1x4x128x128 .f32) (a3 : FVec Ideal S1x512 .f32)
  (a4 : FVec Ideal S1x1024x1024 .f32) (a5 : FVec Ideal S8192x1024 .f32) (a6 : FVec Ideal S2x1024 .f32)
/-- The halves the reference returns. -/
def rMix : FVec Ideal S8192x1024 .bf16 := truncf .bf16 (mixed a0 a1 a2 a3) bitsLt_bf16_f32
/-- The product the reference returns. -/
def rY : FVec Ideal S8192x1024 .f32 := y a4 (mixed a0 a1 a2 a3)
/-- The residual rows the reference returns. -/
def rX : FVec Ideal S8192x1024 .f32 := xo a5 a6 (y a4 (mixed a0 a1 a2 a3))

variable {a0 a1 a2 a3} {x : Inp} {z4 z5 z6} (h : Reads x a0 a1 a2 a3 z4 z5 z6)
include h
/-- The reference's three arrays as the step's numbers. -/
theorem rMix_eq : rMix a0 a1 a2 a3 = mixOf x := by
  funext i; idx_vars i; exact mix_at h i0 i1
/-- The product is that of the step. -/
theorem rY_eq : rY a0 a1 a2 a3 a4 = yOut x a4 := by
  funext i; idx_vars i; exact y_at a4 h i0 i1
/-- The residual rows are those of the step. -/
theorem rX_eq : rX a0 a1 a2 a3 a4 a5 a6 = xOut x a4 a5 a6 := by
  funext i; idx_vars i; exact xo_at a4 a5 a6 h i0 i1
end

set_option maxHeartbeats 4000000 in
/-- What the reference leaves. -/
theorem ref_run (m : (ℓ : Loc nD τ Cert.FwReferenceIdeal.sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v96) = rMix (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v95) = rY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v112) = rX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans rfl, (h c).2.1.trans rfl, (h c).2.2.1.trans rfl, (h c).2.2.2⟩) (Cert.FwReferenceIdeal.Value.run (F := Ideal) m ρ)

end Cert.Proof.Fw.Ref

end
-- ==== Proof.FwStartMix.lean ====
/- The gated halves the first point of the mixing layer's forward leaves. -/
module

public import proofs.«01_k».proof.Proof.FwPoint

@[expose] public section

set_option maxRecDepth 16384

noncomputable section

open Idealize.ShloMosaic Idealize.ShloMosaic.TcCoe Idealize.SL.Sem

namespace Cert.Proof.Fw.Point

open Cert.FwKernelIdeal Cert.FwKernelIdeal.Gen
open Cert.Proof.Mx (Inp)
open Cert.Proof.Mx.Point (Blk Tile Grp bias0 bias1 bias0A bias1A biasL)

variable (m : (ℓ : Loc nD τ Cert.FwKernelIdeal.sig) → Buf (Elt Ideal) ℓ)

set_option maxHeartbeats 4000000 in
/-- The first point's gated halves. -/
theorem start (x : Inp) (c : Dev nD) (t : Fin cfg0.N) (h0 : t.val % 16 = 0) :
    (outsAt0 m c t.val t.isLt).1 = View.canon (Val := Elt Ideal) (s := S512x1024) (e := .bf16) ((blkR m x c t).mixL bias0A bias1A) := by
  rw [outsAt0_A m c t h0]
  (frame_open; refine (View.read_writes_junk_eq_canon _ _).trans ?_; conv_rhs => dsimp only [raw1, Cert.Proof.Mx.Point.bias0, Cert.Proof.Mx.Point.bias1, blkR, woR, xR, poR, mixR, yOf, xOf, Blk.mixL, Tile.mixed, Tile.gate, Grp.mixed, Grp.gate, Blk.grp0, Blk.grp1, Blk.grp2, Blk.grp3, Grp.yraw, Grp.mat, Blk.pooled, Blk.ext0, Blk.ext1, Blk.ext2, Blk.ext3, Blk.ext, Blk.nums, Cert.Proof.Mx.Point.down, Grp.half, Blk.tile0, Blk.tile1, Blk.tile2, Blk.tile3, Tile.outs0, Tile.outs1, Tile.q0, Tile.q1, Tile.half, Blk.kv, Blk.kvL, Blk.sk0, Blk.sk1, Blk.t0, Cert.Proof.Mx.Point.biasL, Cert.Proof.Mx.Point.inRow, Cert.Proof.Mx.Point.dist, Cert.Proof.Mx.Point.band, Cert.Proof.Mx.Point.rq0, Cert.Proof.Mx.Point.rq1, Cert.Proof.Mx.Point.rq2, Cert.Proof.Mx.Point.biasA, Cert.Proof.Mx.Point.biasB, Cert.Proof.Mx.Point.bias0A, Cert.Proof.Mx.Point.bias1A])
  simp only [View.readCov_eq_canon']
  rfl

end Cert.Proof.Fw.Point
end
-- ==== Proof.FwStepRows.lean ====
/- The product and the residual sum a later point of the mixing layer's forward leaves. -/
module

public import proofs.«01_k».proof.Proof.FwPoint

@[expose] public section

set_option maxRecDepth 16384

noncomputable section

open Idealize.ShloMosaic Idealize.ShloMosaic.TcCoe Idealize.SL.Sem

namespace Cert.Proof.Fw.Point

open Cert.FwKernelIdeal Cert.FwKernelIdeal.Gen
open Cert.Proof.Mx (Inp)
open Cert.Proof.Mx.Point (Blk Tile Grp bias0 bias1 bias0A bias1A biasL)

variable (m : (ℓ : Loc nD τ Cert.FwKernelIdeal.sig) → Buf (Elt Ideal) ℓ)

set_option maxHeartbeats 4000000 in
/-- A later point's product. -/
theorem step_y (x : Inp) (c : Dev nD) (t : Fin cfg0.N) (h0 : ¬t.val % 16 = 0) :
    (outsAt0 m c t.val t.isLt).2.1 = View.canon (Val := Elt Ideal) (s := S512x1024) (e := .f32)
      [⟨Rect.unit ![0, 0] ![512, 1024] (by decide), yOf (mixR t ((blkR m x c t).mixL (bias0 (raw1 (outsAt0 m c (t.val - 1) (by omega)).2.2.2)) (bias1 (raw1 (outsAt0 m c (t.val - 1) (by omega)).2.2.2)))) (woR m c t)⟩] := by
  rw [outsAt0_B m c t h0]
  (frame_open; refine (View.read_writes_junk_eq_canon _ _).trans ?_; conv_rhs => dsimp only [raw1, Cert.Proof.Mx.Point.bias0, Cert.Proof.Mx.Point.bias1, blkR, woR, xR, poR, mixR, yOf, xOf, Blk.mixL, Tile.mixed, Tile.gate, Grp.mixed, Grp.gate, Blk.grp0, Blk.grp1, Blk.grp2, Blk.grp3, Grp.yraw, Grp.mat, Blk.pooled, Blk.ext0, Blk.ext1, Blk.ext2, Blk.ext3, Blk.ext, Blk.nums, Cert.Proof.Mx.Point.down, Grp.half, Blk.tile0, Blk.tile1, Blk.tile2, Blk.tile3, Tile.outs0, Tile.outs1, Tile.q0, Tile.q1, Tile.half, Blk.kv, Blk.kvL, Blk.sk0, Blk.sk1, Blk.t0])
  simp only [View.readCov_eq_canon']
  rfl

set_option maxHeartbeats 4000000 in
/-- A later point's residual sum. -/
theorem step_x (x : Inp) (c : Dev nD) (t : Fin cfg0.N) (h0 : ¬t.val % 16 = 0) :
    (outsAt0 m c t.val t.isLt).2.2.1 = View.canon (Val := Elt Ideal) (s := S512x1024) (e := .f32)
      [⟨Rect.unit ![0, 0] ![512, 1024] (by decide), xOf (mixR t ((blkR m x c t).mixL (bias0 (raw1 (outsAt0 m c (t.val - 1) (by omega)).2.2.2)) (bias1 (raw1 (outsAt0 m c (t.val - 1) (by omega)).2.2.2)))) (woR m c t) (xR m c t) (poR m c t)⟩] := by
  rw [outsAt0_B m c t h0]
  (frame_open; refine (View.read_writes_junk_eq_canon _ _).trans ?_; conv_rhs => dsimp only [raw1, Cert.Proof.Mx.Point.bias0, Cert.Proof.Mx.Point.bias1, blkR, woR, xR, poR, mixR, yOf, xOf, Blk.mixL, Tile.mixed, Tile.gate, Grp.mixed, Grp.gate, Blk.grp0, Blk.grp1, Blk.grp2, Blk.grp3, Grp.yraw, Grp.mat, Blk.pooled, Blk.ext0, Blk.ext1, Blk.ext2, Blk.ext3, Blk.ext, Blk.nums, Cert.Proof.Mx.Point.down, Grp.half, Blk.tile0, Blk.tile1, Blk.tile2, Blk.tile3, Tile.outs0, Tile.outs1, Tile.q0, Tile.q1, Tile.half, Blk.kv, Blk.kvL, Blk.sk0, Blk.sk1, Blk.t0])
  simp only [View.readCov_eq_canon']
  rfl

end Cert.Proof.Fw.Point
end
-- ==== Proof.FwStartRows.lean ====
/- The product and the residual sum the first point of the mixing layer's forward leaves. -/
module

public import proofs.«01_k».proof.Proof.FwPoint

@[expose] public section

set_option maxRecDepth 16384

noncomputable section

open Idealize.ShloMosaic Idealize.ShloMosaic.TcCoe Idealize.SL.Sem

namespace Cert.Proof.Fw.Point

open Cert.FwKernelIdeal Cert.FwKernelIdeal.Gen
open Cert.Proof.Mx (Inp)
open Cert.Proof.Mx.Point (Blk Tile Grp bias0 bias1 bias0A bias1A biasL)

variable (m : (ℓ : Loc nD τ Cert.FwKernelIdeal.sig) → Buf (Elt Ideal) ℓ)

set_option maxHeartbeats 4000000 in
/-- The first point's product. -/
theorem start_y (x : Inp) (c : Dev nD) (t : Fin cfg0.N) (h0 : t.val % 16 = 0) :
    (outsAt0 m c t.val t.isLt).2.1 = View.canon (Val := Elt Ideal) (s := S512x1024) (e := .f32)
      [⟨Rect.unit ![0, 0] ![512, 1024] (by decide), yOf (mixR t ((blkR m x c t).mixL bias0A bias1A)) (woR m c t)⟩] := by
  rw [outsAt0_A m c t h0]
  (frame_open; refine (View.read_writes_junk_eq_canon _ _).trans ?_; conv_rhs => dsimp only [raw1, Cert.Proof.Mx.Point.bias0, Cert.Proof.Mx.Point.bias1, blkR, woR, xR, poR, mixR, yOf, xOf, Blk.mixL, Tile.mixed, Tile.gate, Grp.mixed, Grp.gate, Blk.grp0, Blk.grp1, Blk.grp2, Blk.grp3, Grp.yraw, Grp.mat, Blk.pooled, Blk.ext0, Blk.ext1, Blk.ext2, Blk.ext3, Blk.ext, Blk.nums, Cert.Proof.Mx.Point.down, Grp.half, Blk.tile0, Blk.tile1, Blk.tile2, Blk.tile3, Tile.outs0, Tile.outs1, Tile.q0, Tile.q1, Tile.half, Blk.kv, Blk.kvL, Blk.sk0, Blk.sk1, Blk.t0, Cert.Proof.Mx.Point.biasL, Cert.Proof.Mx.Point.inRow, Cert.Proof.Mx.Point.dist, Cert.Proof.Mx.Point.band, Cert.Proof.Mx.Point.rq0, Cert.Proof.Mx.Point.rq1, Cert.Proof.Mx.Point.rq2, Cert.Proof.Mx.Point.biasA, Cert.Proof.Mx.Point.biasB, Cert.Proof.Mx.Point.bias0A, Cert.Proof.Mx.Point.bias1A])
  simp only [View.readCov_eq_canon']
  rfl

set_option maxHeartbeats 4000000 in
/-- The first point's residual sum. -/
theorem start_x (x : Inp) (c : Dev nD) (t : Fin cfg0.N) (h0 : t.val % 16 = 0) :
    (outsAt0 m c t.val t.isLt).2.2.1 = View.canon (Val := Elt Ideal) (s := S512x1024) (e := .f32)
      [⟨Rect.unit ![0, 0] ![512, 1024] (by decide), xOf (mixR t ((blkR m x c t).mixL bias0A bias1A)) (woR m c t) (xR m c t) (poR m c t)⟩] := by
  rw [outsAt0_A m c t h0]
  (frame_open; refine (View.read_writes_junk_eq_canon _ _).trans ?_; conv_rhs => dsimp only [raw1, Cert.Proof.Mx.Point.bias0, Cert.Proof.Mx.Point.bias1, blkR, woR, xR, poR, mixR, yOf, xOf, Blk.mixL, Tile.mixed, Tile.gate, Grp.mixed, Grp.gate, Blk.grp0, Blk.grp1, Blk.grp2, Blk.grp3, Grp.yraw, Grp.mat, Blk.pooled, Blk.ext0, Blk.ext1, Blk.ext2, Blk.ext3, Blk.ext, Blk.nums, Cert.Proof.Mx.Point.down, Grp.half, Blk.tile0, Blk.tile1, Blk.tile2, Blk.tile3, Tile.outs0, Tile.outs1, Tile.q0, Tile.q1, Tile.half, Blk.kv, Blk.kvL, Blk.sk0, Blk.sk1, Blk.t0, Cert.Proof.Mx.Point.biasL, Cert.Proof.Mx.Point.inRow, Cert.Proof.Mx.Point.dist, Cert.Proof.Mx.Point.band, Cert.Proof.Mx.Point.rq0, Cert.Proof.Mx.Point.rq1, Cert.Proof.Mx.Point.rq2, Cert.Proof.Mx.Point.biasA, Cert.Proof.Mx.Point.biasB, Cert.Proof.Mx.Point.bias0A, Cert.Proof.Mx.Point.bias1A])
  simp only [View.readCov_eq_canon']
  rfl

end Cert.Proof.Fw.Point
end
-- ==== Proof.FwBias.lean ====
/- The scores' bias the mixing layer's forward keeps. -/
module

public import proofs.«01_k».proof.Proof.FwPoint

@[expose] public section

set_option maxRecDepth 16384

noncomputable section

open Idealize.ShloMosaic Idealize.ShloMosaic.TcCoe Idealize.SL.Sem

namespace Cert.Proof.Fw.Point

open Cert.FwKernelIdeal Cert.FwKernelIdeal.Gen
open Cert.Proof.Mx (Inp)
open Cert.Proof.Mx.Point (Blk Tile Grp bias0 bias1 bias0A bias1A biasL)

variable (m : (ℓ : Loc nD τ Cert.FwKernelIdeal.sig) → Buf (Elt Ideal) ℓ)

set_option maxHeartbeats 4000000 in
/-- The first point sets the bias. -/
theorem start_bias (c : Dev nD) (t : Fin cfg0.N) (h0 : t.val % 16 = 0) :
    (outsAt0 m c t.val t.isLt).2.2.2 = View.canon (Val := Elt Ideal) (s := S2x512x256) (e := .f32) biasL := by
  rw [outsAt0_A m c t h0]
  (frame_open; refine (View.read_writes_junk_eq_canon _ _).trans ?_; conv_rhs => dsimp only [raw1, Cert.Proof.Mx.Point.bias0, Cert.Proof.Mx.Point.bias1, blkR, woR, xR, poR, mixR, yOf, xOf, Blk.mixL, Tile.mixed, Tile.gate, Grp.mixed, Grp.gate, Blk.grp0, Blk.grp1, Blk.grp2, Blk.grp3, Grp.yraw, Grp.mat, Blk.pooled, Blk.ext0, Blk.ext1, Blk.ext2, Blk.ext3, Blk.ext, Blk.nums, Cert.Proof.Mx.Point.down, Grp.half, Blk.tile0, Blk.tile1, Blk.tile2, Blk.tile3, Tile.outs0, Tile.outs1, Tile.q0, Tile.q1, Tile.half, Blk.kv, Blk.kvL, Blk.sk0, Blk.sk1, Blk.t0, Cert.Proof.Mx.Point.biasL, Cert.Proof.Mx.Point.inRow, Cert.Proof.Mx.Point.dist, Cert.Proof.Mx.Point.band, Cert.Proof.Mx.Point.rq0, Cert.Proof.Mx.Point.rq1, Cert.Proof.Mx.Point.rq2, Cert.Proof.Mx.Point.biasA, Cert.Proof.Mx.Point.biasB, Cert.Proof.Mx.Point.bias0A, Cert.Proof.Mx.Point.bias1A])
  rfl

/-- A later point leaves it. -/
theorem kept_step (c : Dev nD) (t : Fin cfg0.N) (h0 : ¬t.val % 16 = 0) :
    (outsAt0 m c t.val t.isLt).2.2.2 = (outsAt0 m c (t.val - 1) (by omega)).2.2.2 := by
  rw [outsAt0_B m c t h0]; frame_out; rfl

end Cert.Proof.Fw.Point
end
-- ==== Proof.FwValue.lean ====
/- What the mixing layer's forward leaves in its three arrays, as the step's numbers. -/
module

public import proofs.«01_k».proof.Proof.FwMix
public import proofs.«01_k».proof.Proof.FwRef
public import proofs.«01_k».proof.Proof.FwStartMix
public import proofs.«01_k».proof.Proof.FwStepRows
public import proofs.«01_k».proof.Proof.FwStartRows
public import proofs.«01_k».proof.Proof.FwBias
public import Idealize.ShloMosaic.Lib.Pipeline.ValueKit

@[expose] public section

set_option maxRecDepth 16384

noncomputable section

open Idealize.ShloMosaic Idealize.ShloMosaic.TcCoe Idealize.SL.Sem

namespace Cert.Proof.Fw.Point

open Cert.FwKernelIdeal Cert.FwKernelIdeal.Gen Cert.Proof.Norm
open Cert.Proof.Mx (Inp)
open Cert.Proof.Mx.Host (Reads poolW poolW_at outW)
open Cert.Proof.Mx.Point (rowI haloRow Blk Tile Grp bias0 bias1 bias0A bias1A biasL KeptIs BiasIs kept_biasL bias0_is bias1_is bias0A_is bias1A_is whole_at halo_off)

variable (m : (ℓ : Loc nD τ Cert.FwKernelIdeal.sig) → Buf (Elt Ideal) ℓ) (c : Dev nD)

/-! ## What a point reads -/

/-- Which blocks a point handles. -/
theorem idx : ∀ t : Fin cfg0.N, win0_0.index t = ![t.val, 0] ∧ win0_1.index t = ![(if t.val = 0 then 0 else 4 * t.val - 1), 0]
    ∧ win0_2.index t = ![0, 0] ∧ win0_3.index t = ![0, 0, 0] ∧ win0_4.index t = ![0, 0] ∧ win0_5.index t = ![0, 0]
    ∧ win0_6.index t = ![t.val, 0] ∧ win0_7.index t = ![0, 0] ∧ win0_8.index t = ![t.val, 0] ∧ win0_9.index t = ![t.val, 0]
    ∧ win0_10.index t = ![t.val, 0] :=
  (by decide +kernel : ∀ t : Fin grid0.N, _)

/-- The number of a point. -/
theorem ii_at : ∀ t : Fin cfg0.N, BitVec.ofNat 32 (grid0.coords t 0).val = BitVec.ofNat 32 t.val :=
  (by decide +kernel : ∀ t : Fin grid0.N, _)

/-- The host's arrays as the kernel's region finds them. -/
theorem V_pw : V m c main_v0 = poolW (m ((c : Thread nD τ).loc main_arg2)) := by
  unfold V; after_results; try rfl
/-- The output matrix, cast. -/
theorem V_wo : V m c main_v2 = truncf .bf16 (outW (m ((c : Thread nD τ).loc main_arg4))) bitsLt_bf16_f32 := by
  unfold V; after_results; try rfl
/-- The gain. -/
theorem V_po : V m c main_v3 = extractStridedSlice S1x1024 ![0, 0] (m ((c : Thread nD τ).loc main_arg6)) slices_S2x1024_S1x1024_0_0 := by
  unfold V; after_results; try rfl

/-- Where block 0 of a point lies in its array. -/
theorem emb0 (t : Fin cfg0.N) (r : Fin 512) (k : Fin 2304) : (win0_0.blk t).view.emb (ix2 r k) = (ix2 (rowI (ri t) r) k : S8192x2304.Idx) := by
  blk_ext [idx t, rowI, ri]
/-- A point's rows of the projection. -/
theorem blk0_at (t : Fin cfg0.N) (r : Fin 512) (k : Fin 2304) : (iblk m c 0 t : Vec Ideal S512x2304 .f32) (ix2 r k) = ((m ((c : Thread nD τ).loc main_arg0)) : FVec Ideal S8192x2304 .f32) (ix2 (rowI (ri t) r) k) := by
  unfold iblk
  rw [show V m c (Pipeline.arrRef spec0 0) = _ from V_main_arg0 m c]
  exact congrArg (m ((c : Thread nD τ).loc main_arg0)) (emb0 t r k)
/-- Where block 1 of a point lies in its array. -/
theorem emb1 (t : Fin cfg0.N) (r : Fin 128) (k : Fin 2304) : (win0_1.blk t).view.emb (ix2 r k) = (ix2 (haloRow (ri t) r) k : S8192x2304.Idx) := by
  blk_ext [idx t]
  exact (halo_off (ri t) r).symm
/-- A point's rows before its tile. -/
theorem blk1_at (t : Fin cfg0.N) (r : Fin 128) (k : Fin 2304) : (iblk m c 1 t : Vec Ideal S128x2304 .f32) (ix2 r k) = ((m ((c : Thread nD τ).loc main_arg0)) : FVec Ideal S8192x2304 .f32) (ix2 (haloRow (ri t) r) k) := by
  unfold iblk
  rw [show V m c (Pipeline.arrRef spec0 1) = _ from V_main_arg0 m c]
  exact congrArg (m ((c : Thread nD τ).loc main_arg0)) (emb1 t r k)
/-- Where block 2 of a point lies in its array. -/
theorem emb2 (t : Fin cfg0.N) (r : Fin 1) (k : Fin 8) : (win0_2.blk t).view.emb (ix2 r k) = (ix2 r k : S1x8.Idx) := by
  blk_ext [idx t]
/-- A point's sinks. -/
theorem blk2_at (t : Fin cfg0.N) (r : Fin 1) (k : Fin 8) : (iblk m c 2 t : Vec Ideal S1x8 .f32) (ix2 r k) = ((m ((c : Thread nD τ).loc main_arg1)) : FVec Ideal S1x8 .f32) (ix2 r k) := by
  unfold iblk
  rw [show V m c (Pipeline.arrRef spec0 2) = _ from V_main_arg1 m c]
  exact congrArg (m ((c : Thread nD τ).loc main_arg1)) (emb2 t r k)
/-- Where block 3 of a point lies in its array. -/
theorem emb3 (t : Fin cfg0.N) (r : Fin 4) (l k : Fin 128) : (win0_3.blk t).view.emb (ix3 r l k) = (ix3 r l k : S4x128x128.Idx) := by
  blk_ext [idx t]
/-- A point's pooling matrices. -/
theorem blk3_at (t : Fin cfg0.N) (r : Fin 4) (l k : Fin 128) : (iblk m c 3 t : Vec Ideal S4x128x128 .f32) (ix3 r l k) = ((poolW (m ((c : Thread nD τ).loc main_arg2))) : FVec Ideal S4x128x128 .f32) (ix3 r l k) := by
  unfold iblk
  rw [show V m c (Pipeline.arrRef spec0 3) = _ from V_pw m c]
  exact congrArg (poolW (m ((c : Thread nD τ).loc main_arg2))) (emb3 t r l k)
/-- Where block 4 of a point lies in its array. -/
theorem emb4 (t : Fin cfg0.N) (r : Fin 1) (k : Fin 512) : (win0_4.blk t).view.emb (ix2 r k) = (ix2 r k : S1x512.Idx) := by
  blk_ext [idx t]
/-- A point's pooling scales. -/
theorem blk4_at (t : Fin cfg0.N) (r : Fin 1) (k : Fin 512) : (iblk m c 4 t : Vec Ideal S1x512 .f32) (ix2 r k) = ((m ((c : Thread nD τ).loc main_arg3)) : FVec Ideal S1x512 .f32) (ix2 r k) := by
  unfold iblk
  rw [show V m c (Pipeline.arrRef spec0 4) = _ from V_main_arg3 m c]
  exact congrArg (m ((c : Thread nD τ).loc main_arg3)) (emb4 t r k)
/-- Where block 5 of a point lies in its array. -/
theorem emb5 (t : Fin cfg0.N) (r k : Fin 1024) : (win0_5.blk t).view.emb (ix2 r k) = (ix2 r k : S1024x1024.Idx) := by
  blk_ext [idx t]
/-- A point's output matrix. -/
theorem blk5_at (t : Fin cfg0.N) (r k : Fin 1024) : (iblk m c 5 t : Vec Ideal S1024x1024 .bf16) (ix2 r k) = ((truncf .bf16 (outW (m ((c : Thread nD τ).loc main_arg4))) bitsLt_bf16_f32) : FVec Ideal S1024x1024 .bf16) (ix2 r k) := by
  unfold iblk
  rw [show V m c (Pipeline.arrRef spec0 5) = _ from V_wo m c]
  exact congrArg (truncf .bf16 (outW (m ((c : Thread nD τ).loc main_arg4))) bitsLt_bf16_f32) (emb5 t r k)
/-- Where block 6 of a point lies in its array. -/
theorem emb6 (t : Fin cfg0.N) (r : Fin 512) (k : Fin 1024) : (win0_6.blk t).view.emb (ix2 r k) = (ix2 (rowI (ri t) r) k : S8192x1024.Idx) := by
  blk_ext [idx t, rowI, ri]
/-- A point's residual rows. -/
theorem blk6_at (t : Fin cfg0.N) (r : Fin 512) (k : Fin 1024) : (iblk m c 6 t : Vec Ideal S512x1024 .f32) (ix2 r k) = ((m ((c : Thread nD τ).loc main_arg5)) : FVec Ideal S8192x1024 .f32) (ix2 (rowI (ri t) r) k) := by
  unfold iblk
  rw [show V m c (Pipeline.arrRef spec0 6) = _ from V_main_arg5 m c]
  exact congrArg (m ((c : Thread nD τ).loc main_arg5)) (emb6 t r k)
/-- Where block 7 of a point lies in its array. -/
theorem emb7 (t : Fin cfg0.N) (r : Fin 1) (k : Fin 1024) : (win0_7.blk t).view.emb (ix2 r k) = (ix2 r k : S1x1024.Idx) := by
  blk_ext [idx t]
/-- A point's gain. -/
theorem blk7_at (t : Fin cfg0.N) (r : Fin 1) (k : Fin 1024) : (iblk m c 7 t : Vec Ideal S1x1024 .f32) (ix2 r k) = ((extractStridedSlice S1x1024 ![0, 0] (m ((c : Thread nD τ).loc main_arg6)) slices_S2x1024_S1x1024_0_0) : FVec Ideal S1x1024 .f32) (ix2 r k) := by
  unfold iblk
  rw [show V m c (Pipeline.arrRef spec0 7) = _ from V_po m c]
  exact congrArg (extractStridedSlice S1x1024 ![0, 0] (m ((c : Thread nD τ).loc main_arg6)) slices_S2x1024_S1x1024_0_0) (emb7 t r k)
/-- Where block 8 of a point lies in its array. -/
theorem emb8 (t : Fin cfg0.N) (r : Fin 512) (k : Fin 1024) : (win0_8.blk t).view.emb (ix2 r k) = (ix2 (rowI (ri t) r) k : S8192x1024.Idx) := by
  blk_ext [idx t, rowI, ri]
/-- Where block 9 of a point lies in its array. -/
theorem emb9 (t : Fin cfg0.N) (r : Fin 512) (k : Fin 1024) : (win0_9.blk t).view.emb (ix2 r k) = (ix2 (rowI (ri t) r) k : S8192x1024.Idx) := by
  blk_ext [idx t, rowI, ri]
/-- Where block 10 of a point lies in its array. -/
theorem emb10 (t : Fin cfg0.N) (r : Fin 512) (k : Fin 1024) : (win0_10.blk t).view.emb (ix2 r k) = (ix2 (rowI (ri t) r) k : S8192x1024.Idx) := by
  blk_ext [idx t, rowI, ri]

/-- One entry of the output matrix a point reads. -/
theorem woR_at (t : Fin cfg0.N) (r k : Fin 1024) : woR m c t (ix2 r k) = ((m ((c : Thread nD τ).loc main_arg4)) : FVec Ideal S1x1024x1024 .f32) (ix3 0 r k) := by
  unfold woR
  rw [(hs0_5 t).read_unread]
  refine (Cert.Proof.Mx.Point.ld_at (N := 1024) (M := 1024) (e := .bf16) _ _ r k r k (by omega) (by omega)).trans ((blk5_at m c t r k).trans ?_)
  generalize (m ((c : Thread nD τ).loc main_arg4)) = a
  pointwise [outW]
/-- One entry of the residual rows a point reads. -/
theorem xR_at (t : Fin cfg0.N) (r : Fin 512) (k : Fin 1024) : xR m c t (ix2 r k) = ((m ((c : Thread nD τ).loc main_arg5)) : FVec Ideal S8192x1024 .f32) (ix2 (rowI (ri t) r) k) := by
  unfold xR
  rw [(hs0_6 t).read_unread]
  exact (Cert.Proof.Mx.Point.ld_at (N := 512) (M := 1024) (e := .f32) _ _ r k r k (by omega) (by omega)).trans (blk6_at m c t r k)
/-- One entry of the gain a point reads. -/
theorem poR_at (t : Fin cfg0.N) (r : Fin 1) (k : Fin 1024) : poR m c t (ix2 r k) = ((m ((c : Thread nD τ).loc main_arg6)) : FVec Ideal S2x1024 .f32) (ix2 0 k) := by
  unfold poR
  rw [(hs0_7 t).read_unread]
  refine (Cert.Proof.Mx.Point.ld_at (N := 1) (M := 1024) (e := .f32) _ _ r k r k (by omega) (by omega)).trans ((blk7_at m c t r k).trans ?_)
  exact Cert.Proof.Mx.Point.gain_row _ r k

variable {m c} {x : Inp} {z4 z5 z6} (h : Reads x (m ((c : Thread nD τ).loc main_arg0)) (m ((c : Thread nD τ).loc main_arg1)) (m ((c : Thread nD τ).loc main_arg2)) (m ((c : Thread nD τ).loc main_arg3)) z4 z5 z6)

include h in
/-- A point's blocks hold the step's numbers at its row block. -/
theorem blk_is (t : Fin cfg0.N) : (blkR m x c t).Is x (ri t) := by
  unfold blkR
  rw [(hs0_0 t).read_unread, (hs0_1 t).read_unread, (hs0_2 t).read_unread, (hs0_3 t).read_unread, (hs0_4 t).read_unread]
  refine ⟨?_, ?_, ?_, ?_, ?_, ?_, ?_, ?_, ?_, ?_, ?_, ?_, ?_, ?_⟩
  · exact (ii_at t :)
  · intro r k; have e := blk0_at m c t r k; rw [h.P (rowI (ri t) r) k] at e; dsimp only; exact e
  · intro r k; have e := blk1_at m c t r k; rw [h.P (haloRow (ri t) r) k] at e; dsimp only; exact e
  · intro r k; rfl
  · intro r k; rfl
  · intro r k; rfl
  · intro r k; rfl
  · intro r k; rfl
  · intro r k; rfl
  · intro r k; rfl
  · intro r k; rfl
  · intro r k; have e := blk2_at m c t r k; rw [h.sk r k] at e; dsimp only; exact e
  · intro g e k; have q := blk3_at m c t g e k; rw [poolW_at h g e k] at q; dsimp only; exact q
  · intro r k; have e := blk4_at m c t r k; rw [h.C r k] at e; dsimp only; exact e

/-! ## The kept bias -/

variable (m c) in
/-- Every point finds the bias the first one set. -/
theorem kept (n : ℕ) : ∀ hn : n < cfg0.N, KeptIs (outsAt0 m c n hn).2.2.2 := by
  induction n with
  | zero =>
    intro hn k r s
    exact (congrFun (start_bias m c ⟨0, hn⟩ (Nat.zero_mod 16)) _).trans (kept_biasL k r s)
  | succ n ih =>
    intro hn k r s
    have e := kept_step m c ⟨n + 1, hn⟩ (by have : n + 1 < 16 := lt_of_lt_of_eq hn N_0; show ¬(n + 1) % 16 = 0; omega)
    exact (congrFun e _).trans (ih (by omega) k r s)

variable (m c) in
/-- The first plane a later point reads. -/
theorem kept0 (t : Fin cfg0.N) : BiasIs 0 (bias0 (raw1 (outsAt0 m c (t.val - 1) (by omega)).2.2.2)) := by
  rw [raw1_eq]; exact bias0_is (kept m c _ _)
variable (m c) in
/-- The second plane a later point reads. -/
theorem kept1 (t : Fin cfg0.N) : BiasIs 1 (bias1 (raw1 (outsAt0 m c (t.val - 1) (by omega)).2.2.2)) := by
  rw [raw1_eq]; exact bias1_is (kept m c _ _)

/-! ## What a point stores -/

variable (m c) in
/-- A row of the halves, multiplied out. -/
theorem yOf_at (t : Fin cfg0.N) (v : Vec Ideal S512x1024 .bf16) (hv : ∀ r k, v (ix2 r k) = (x.mix (rowI (ri t) r) k : EReal)) (r : Fin 512) (j : Fin 1024) :
    yOf v (woR m c t) (ix2 r j) = yAt x (m ((c : Thread nD τ).loc main_arg4)) (rowI (ri t) r) j := by
  unfold yAt
  generalize hw : woR m c t = w
  have e : ∀ k j, w (ix2 k j) = (m ((c : Thread nD τ).loc main_arg4)) (ix3 0 k j) := fun k j => hw ▸ woR_at m c t k j
  simp only [← e]
  pointwise [yOf, k0_pay133, k0_pay132, k0_pay131, hv]
/-- The residual sum at one entry. -/
theorem xOut_at (x : Inp) (O : FVec Ideal S1x1024x1024 .f32) (X : FVec Ideal S8192x1024 .f32) (N : FVec Ideal S2x1024 .f32) (r : Fin 8192) (j : Fin 1024) :
    xOut x O X N (ix2 r j) = X (ix2 r j) + yAt x O r j * rsE (yAt x O r) * N (ix2 0 j) := rfl
variable (m c) in
/-- The residual sum of a row. -/
theorem xOf_at (t : Fin cfg0.N) (v : Vec Ideal S512x1024 .bf16) (hv : ∀ r k, v (ix2 r k) = (x.mix (rowI (ri t) r) k : EReal)) (r : Fin 512) (j : Fin 1024) :
    xOf v (woR m c t) (xR m c t) (poR m c t) (ix2 r j) = xOut x (m ((c : Thread nD τ).loc main_arg4)) (m ((c : Thread nD τ).loc main_arg5)) (m ((c : Thread nD τ).loc main_arg6)) (ix2 (rowI (ri t) r) j) := by
  have ey := yOf_at m c t v hv
  have ex := xR_at m c t r j
  have ep := poR_at m c t 0 j
  refine Eq.trans ?_ (xOut_at x _ _ _ _ j).symm
  rw [← ex, ← ep, ← show (fun j => yOf v (woR m c t) (ix2 r j)) = yAt x (m ((c : Thread nD τ).loc main_arg4)) (rowI (ri t) r) from funext fun j => ey r j]
  dsimp only
  generalize xR m c t = a
  generalize poR m c t = b
  unfold xOf yOf
  generalize hY : k0_pay133 (k0_pay131 v) (k0_pay132 (woR m c t)) (constant S512x1024 .f32 0x00000000#32) = Y
  pointwise [k0_pay134, hY]
  rfl

/-- The written halves read back are what was written. -/
theorem mixR_at (t : Fin cfg0.N) (L : List (View.Piece (Elt Ideal) S512x1024 .bf16)) (r : Fin 512) (k : Fin 1024) :
    mixR t L (ix2 r k) = View.canon (Val := Elt Ideal) (s := S512x1024) (e := .bf16) L (ix2 r k) := by
  unfold mixR
  rw [View.readCov_eq_canon']
  refine congrArg (View.canon (Val := Elt Ideal) L) ?_
  funext a
  match a with
  | ⟨0, _⟩ => exact Fin.ext ((Idealize.ShloMosaic.ValueKit.rect_emb_unit_val (s := S512x1024) ![0, 0] ![512, 1024] (by decide) (ix2 r k) 0).trans (by show 0 + (r : ℕ) = r; omega))
  | ⟨1, _⟩ => exact Fin.ext ((Idealize.ShloMosaic.ValueKit.rect_emb_unit_val (s := S512x1024) ![0, 0] ![512, 1024] (by decide) (ix2 r k) 1).trans (by show 0 + (k : ℕ) = k; omega))

include h in
/-- One entry of the halves a point stores. -/
theorem mix_at (t : Fin cfg0.N) (r : Fin 512) (k : Fin 1024) : (outsAt0 m c t.val t.isLt).1 (ix2 r k) = (x.mix (rowI (ri t) r) k : EReal) := by
  by_cases h0 : t.val % 16 = 0
  · exact (congrFun (start m x c t h0) _).trans (Blk.mixL_at (blk_is h t) bias0A_is bias1A_is r k)
  · exact (congrFun (step m x c t h0) _).trans (Blk.mixL_at (blk_is h t) (kept0 m c t) (kept1 m c t) r k)

include h in
/-- One entry of the product a point stores. -/
theorem y_at (t : Fin cfg0.N) (r : Fin 512) (k : Fin 1024) : (outsAt0 m c t.val t.isLt).2.1 (ix2 r k) = yAt x (m ((c : Thread nD τ).loc main_arg4)) (rowI (ri t) r) k := by
  by_cases h0 : t.val % 16 = 0
  · exact (congrFun (start_y m x c t h0) _).trans ((whole_at (N := 512) (M := 1024) (e := .f32) _ _ _ r k).trans
      (yOf_at m c t _ (fun r k => (mixR_at t _ r k).trans (Blk.mixL_at (blk_is h t) bias0A_is bias1A_is r k)) r k))
  · exact (congrFun (step_y m x c t h0) _).trans ((whole_at (N := 512) (M := 1024) (e := .f32) _ _ _ r k).trans
      (yOf_at m c t _ (fun r k => (mixR_at t _ r k).trans (Blk.mixL_at (blk_is h t) (kept0 m c t) (kept1 m c t) r k)) r k))

include h in
/-- One entry of the residual rows a point stores. -/
theorem x_at (t : Fin cfg0.N) (r : Fin 512) (k : Fin 1024) : (outsAt0 m c t.val t.isLt).2.2.1 (ix2 r k) = xOut x (m ((c : Thread nD τ).loc main_arg4)) (m ((c : Thread nD τ).loc main_arg5)) (m ((c : Thread nD τ).loc main_arg6)) (ix2 (rowI (ri t) r) k) := by
  by_cases h0 : t.val % 16 = 0
  · exact (congrFun (start_x m x c t h0) _).trans ((whole_at (N := 512) (M := 1024) (e := .f32) _ _ _ r k).trans
      (xOf_at m c t _ (fun r k => (mixR_at t _ r k).trans (Blk.mixL_at (blk_is h t) bias0A_is bias1A_is r k)) r k))
  · exact (congrFun (step_x m x c t h0) _).trans ((whole_at (N := 512) (M := 1024) (e := .f32) _ _ _ r k).trans
      (xOf_at m c t _ (fun r k => (mixR_at t _ r k).trans (Blk.mixL_at (blk_is h t) (kept0 m c t) (kept1 m c t) r k)) r k))

/-! ## What the kernel leaves -/

include h in
/-- The gated halves the kernel leaves. -/
theorem final8 : (dats m 0 c).arrAt 8 cfg0.N = mixOf x := by
  refine (dats m 0 c).arrAt_eq_of_covers 8 _ (by decide +kernel) fun t hf y => ?_
  idx_vars y
  have q := emb8 t y0 y1
  have e := mix_at h t y0 y1
  blk_simp
  rw [after0_8]
  refine Eq.trans ?_ (congrArg (mixOf x) q).symm
  exact e

include h in
/-- The product the kernel leaves. -/
theorem final9 : (dats m 0 c).arrAt 9 cfg0.N = yOut x (m ((c : Thread nD τ).loc main_arg4)) := by
  refine (dats m 0 c).arrAt_eq_of_covers 9 _ (by decide +kernel) fun t hf y => ?_
  idx_vars y
  have q := emb9 t y0 y1
  have e := y_at h t y0 y1
  blk_simp
  rw [after0_9]
  refine Eq.trans ?_ (congrArg (yOut x (m ((c : Thread nD τ).loc main_arg4))) q).symm
  exact e

include h in
/-- The residual rows the kernel leaves. -/
theorem final10 : (dats m 0 c).arrAt 10 cfg0.N = xOut x (m ((c : Thread nD τ).loc main_arg4)) (m ((c : Thread nD τ).loc main_arg5)) (m ((c : Thread nD τ).loc main_arg6)) := by
  refine (dats m 0 c).arrAt_eq_of_covers 10 _ (by decide +kernel) fun t hf y => ?_
  idx_vars y
  have q := emb10 t y0 y1
  have e := x_at h t y0 y1
  blk_simp
  rw [after0_10]
  refine Eq.trans ?_ (congrArg (xOut x (m ((c : Thread nD τ).loc main_arg4)) (m ((c : Thread nD τ).loc main_arg5)) (m ((c : Thread nD τ).loc main_arg6))) q).symm
  exact e

end Cert.Proof.Fw.Point

end
-- ==== Proof.FwReals.lean ====
/- Arguments the mixing forward's precondition holds of are arrays of reals. -/
module

public import proofs.«01_k».proof.Pre_fw_finite
public import proofs.«01_k».proof.Proof.MxFwd

@[expose] public section

set_option maxRecDepth 16384

noncomputable section

open Idealize.ShloMosaic Idealize.ShloMosaic.TcCoe Idealize.SL.Sem

namespace Cert.Pre_fw_finite

open Cert.Proof.RealLift Cert.Proof.Mx.Host Cert.Proof.Mx

variable [Facts]

/-- The arrays no precondition asks about, here at zero. -/
abbrev z4 : FVec Ideal ⟨3, ![1, 1024, 1024]⟩ .f32 := fun _ => ((0 : ℝ) : EReal)
abbrev z5 : FVec Ideal ⟨2, ![2, 1024]⟩ .f32 := fun _ => ((0 : ℝ) : EReal)
abbrev z6 : FVec Ideal ⟨2, ![8192, 1024]⟩ .f32 := fun _ => ((0 : ℝ) : EReal)

/-- Arrays whose absolute values the predicate finds below infinity hold the step's real numbers. -/
theorem reals (P A W C O X N) (h : (fn (F := Ideal) P A W C O X N).1 = (fun _ => 1#1) ∧ (fn (F := Ideal) P A W C O X N).2.1 = (fun _ => 1#1)
    ∧ (fn (F := Ideal) P A W C O X N).2.2.1 = (fun _ => 1#1) ∧ (fn (F := Ideal) P A W C O X N).2.2.2 = (fun _ => 1#1)) :
    ∃ x : Inp, Reads x P A W C z4 z5 z6 := by
  obtain ⟨h0, h1, h2, h3⟩ := h
  have e0 (r c) : ∃ v : ℝ, P (ix2 r c) = (v : EReal) := by
    have h' := congrFun h0 (ix2 r c)
    unfold fn at h'
    pointwise at h'
    exact real_of_word h'
  have e1 (j) : ∃ v : ℝ, A (ix2 0 j) = (v : EReal) := by
    have h' := congrFun h1 (ix2 0 j)
    unfold fn at h'
    pointwise at h'
    exact real_of_word h'
  have e2 (g e c) : ∃ v : ℝ, W (ix4 0 g e c) = (v : EReal) := by
    have h' := congrFun h2 (ix4 0 g e c)
    unfold fn at h'
    pointwise at h'
    exact real_of_word h'
  have e3 (c) : ∃ v : ℝ, C (ix2 0 c) = (v : EReal) := by
    have h' := congrFun h3 (ix2 0 c)
    unfold fn at h'
    pointwise at h'
    exact real_of_word h'
  choose p hp using e0
  choose a ha using e1
  choose w hw using e2
  choose s hs using e3
  refine ⟨⟨p, a, w, s, fun _ _ => 0, fun _ => 0, fun _ _ => 0⟩, hp, fun u j => ?_, fun u => ?_, fun u c => ?_, fun _ _ _ => rfl, fun _ => rfl, fun _ _ => rfl⟩ <;>
    obtain rfl : u = 0 := Subsingleton.elim _ _
  · exact ha j
  · exact hw
  · exact hs c

end Cert.Pre_fw_finite

end
-- ==== Proof.FwClaim.lean ====
/- The claims on layer 0's mixing forward: it runs from every memory, and so does its idealization; from a finite
   projection, finite sinks and finite pooling parameters it leaves the forward lines' values. -/
module

public import proofs.«01_k».proof.Defs
public import proofs.«01_k».proof.Proof.Gen.FwKernel.Frame
public import proofs.«01_k».proof.Proof.Gen.FwKernelIdeal.Frame
public import proofs.«01_k».proof.Proof.FwValue
public import proofs.«01_k».proof.Proof.FwReals
public import proofs.«01_k».proof.Proof.Gen.Pre_fw_finite
public import proofs.«01_k».proof.Proof.Gen.FwKernelIdeal.Value
public import Idealize.ShloMosaic.Lib.Claim

@[expose] public section

set_option maxRecDepth 16384

noncomputable section

open Idealize.ShloMosaic Idealize.ShloMosaic.TcCoe Idealize.SL.Sem

namespace Cert.Proof.Fw

/-- The kernel runs from every memory and leaves its arguments; every counter ends at zero. -/
theorem frame_kernel : Cert.quiescent_FwKernel := fun m ρ _ => Cert.FwKernel.Gen.frame m ρ

/-- The same of its idealization, with or without the precondition. -/
theorem frame_ideal : Cert.quiescent_FwKernelIdeal := fun m ρ _ => Cert.FwKernelIdeal.Gen.frame m ρ

/-- Its idealization, from arguments the precondition holds of. -/
theorem frame_ideal_pre : Cert.quiescent_FwKernelIdeal_pre_fw_finite := fun m ρ _ => Cert.FwKernelIdeal.Gen.frame m ρ

/-- The same of the reference: its host run read at the arguments; it declares no semaphore. -/
theorem frame_ref : Cert.quiescent_FwReferenceIdeal := fun m ρ _ =>
  (θ_run Cert.FwReferenceIdeal.defs _ _).mono (fun r h => ⟨fun c => (h c).2.2.2, Idealize.ShloMosaic.sem_eq_zero_of_no_sems (by decide) r.2⟩)
    (Ref.ref_run m ρ)
/-- The reference, from arguments the precondition holds of. -/
theorem frame_ref_pre : Cert.quiescent_FwReferenceIdeal_pre_fw_finite := fun m ρ _ => frame_ref m ρ trivial

/-- The one constant rewritten is the mask, read as minus infinity. -/
theorem preserves : Cert.preserves_FwKernel_FwKernelIdeal :=
  IdealRules.named_const.statement Cert.FwKernelIdeal.κ "mask" .f32 0xF149F2CA#32 ⊥ rfl

/-! ## The two sides agree -/

section
variable {m : (ℓ : Loc Cert.FwKernelIdeal.nD Cert.FwKernelIdeal.τ Cert.FwKernelIdeal.sig) → Buf (Elt Ideal) ℓ} {c : Dev Cert.FwKernelIdeal.nD} {x : Mx.Inp} {z4 z5 z6}
  (h : Mx.Host.Reads x (m ((c : Thread Cert.FwKernelIdeal.nD Cert.FwKernelIdeal.τ).loc Cert.FwKernelIdeal.main_arg0)) (m ((c : Thread Cert.FwKernelIdeal.nD Cert.FwKernelIdeal.τ).loc Cert.FwKernelIdeal.main_arg1)) (m ((c : Thread Cert.FwKernelIdeal.nD Cert.FwKernelIdeal.τ).loc Cert.FwKernelIdeal.main_arg2)) (m ((c : Thread Cert.FwKernelIdeal.nD Cert.FwKernelIdeal.τ).loc Cert.FwKernelIdeal.main_arg3)) z4 z5 z6)
include h
/-- The gated halves, the product and the residual rows. -/
theorem same_mix : Ref.rMix (m ((c : Thread Cert.FwKernelIdeal.nD Cert.FwKernelIdeal.τ).loc Cert.FwKernelIdeal.main_arg0)) (m ((c : Thread Cert.FwKernelIdeal.nD Cert.FwKernelIdeal.τ).loc Cert.FwKernelIdeal.main_arg1)) (m ((c : Thread Cert.FwKernelIdeal.nD Cert.FwKernelIdeal.τ).loc Cert.FwKernelIdeal.main_arg2)) (m ((c : Thread Cert.FwKernelIdeal.nD Cert.FwKernelIdeal.τ).loc Cert.FwKernelIdeal.main_arg3)) = (Cert.FwKernelIdeal.Gen.dats m 0 c).arrAt 8 Cert.FwKernelIdeal.cfg0.N := (Ref.rMix_eq h).trans (Point.final8 h).symm
/-- The product. -/
theorem same_y : Ref.rY (m ((c : Thread Cert.FwKernelIdeal.nD Cert.FwKernelIdeal.τ).loc Cert.FwKernelIdeal.main_arg0)) (m ((c : Thread Cert.FwKernelIdeal.nD Cert.FwKernelIdeal.τ).loc Cert.FwKernelIdeal.main_arg1)) (m ((c : Thread Cert.FwKernelIdeal.nD Cert.FwKernelIdeal.τ).loc Cert.FwKernelIdeal.main_arg2)) (m ((c : Thread Cert.FwKernelIdeal.nD Cert.FwKernelIdeal.τ).loc Cert.FwKernelIdeal.main_arg3)) (m ((c : Thread Cert.FwKernelIdeal.nD Cert.FwKernelIdeal.τ).loc Cert.FwKernelIdeal.main_arg4)) = (Cert.FwKernelIdeal.Gen.dats m 0 c).arrAt 9 Cert.FwKernelIdeal.cfg0.N := (Ref.rY_eq _ h).trans (Point.final9 h).symm
/-- The residual rows. -/
theorem same_x : Ref.rX (m ((c : Thread Cert.FwKernelIdeal.nD Cert.FwKernelIdeal.τ).loc Cert.FwKernelIdeal.main_arg0)) (m ((c : Thread Cert.FwKernelIdeal.nD Cert.FwKernelIdeal.τ).loc Cert.FwKernelIdeal.main_arg1)) (m ((c : Thread Cert.FwKernelIdeal.nD Cert.FwKernelIdeal.τ).loc Cert.FwKernelIdeal.main_arg2)) (m ((c : Thread Cert.FwKernelIdeal.nD Cert.FwKernelIdeal.τ).loc Cert.FwKernelIdeal.main_arg3)) (m ((c : Thread Cert.FwKernelIdeal.nD Cert.FwKernelIdeal.τ).loc Cert.FwKernelIdeal.main_arg4)) (m ((c : Thread Cert.FwKernelIdeal.nD Cert.FwKernelIdeal.τ).loc Cert.FwKernelIdeal.main_arg5)) (m ((c : Thread Cert.FwKernelIdeal.nD Cert.FwKernelIdeal.τ).loc Cert.FwKernelIdeal.main_arg6)) = (Cert.FwKernelIdeal.Gen.dats m 0 c).arrAt 10 Cert.FwKernelIdeal.cfg0.N := (Ref.rX_eq _ _ _ h).trans (Point.final10 h).symm
end

set_option maxHeartbeats 4000000 in
/-- From finite arguments the kernel and the forward lines leave the same arrays. -/
theorem algebraic : Cert.algebraic_FwKernelIdeal_FwReferenceIdeal_pre_fw_finite := by
  pair_intro
  · run_from Cert.FwKernelIdeal.Value.run_blocks (F := Ideal) m g
  · have reads := fun c => Cert.Pre_fw_finite.reals _ _ _ _ _ _ _ (hpre c)
    run_from Ref.ref_run m' g'
    · exact (reads c).elim fun x h => same_mix h
    · exact (reads c).elim fun x h => same_y h
    · exact (reads c).elim fun x h => same_x h

end Cert.Proof.Fw

end
-- ==== Proof.lean ====
module

public import proofs.«01_k».proof.Proof.Gen.PjKernel
public import proofs.«01_k».proof.Proof.Gen.PjKernelIdeal
public import proofs.«01_k».proof.Proof.Gen.PjKernelIdeal.Value
public import proofs.«01_k».proof.Proof.Gen.PjReferenceIdeal.Run
public import proofs.«01_k».proof.Proof.Gen.PjReferenceIdeal
public import proofs.«01_k».proof.Proof.Gen.DwKernel
public import proofs.«01_k».proof.Proof.Gen.DwKernel.Frame
public import proofs.«01_k».proof.Proof.Gen.PjKernel.Frame
public import proofs.«01_k».proof.Proof.Gen.DwKernelIdeal
public import proofs.«01_k».proof.Proof.Gen.DwKernelIdeal.Value
public import proofs.«01_k».proof.Proof.Gen.DwReferenceIdeal.Run
public import proofs.«01_k».proof.Proof.Gen.DwReferenceIdeal
public import proofs.«01_k».proof.Defs
public import proofs.«01_k».proof.Proof.Gen.DxKernel
public import proofs.«01_k».proof.Proof.Gen.DxKernel.Frame
public import proofs.«01_k».proof.Proof.Gen.DxKernelIdeal
public import proofs.«01_k».proof.Proof.Gen.DxKernelIdeal.Frame
public import proofs.«01_k».proof.Proof.Gen.DxKernelIdeal.Value
public import proofs.«01_k».proof.Proof.Gen.DxReferenceIdeal
public import proofs.«01_k».proof.Proof.Gen.DxReferenceIdeal.Run
public import proofs.«01_k».proof.Proof.Gen.Pre_dx_finite
public import proofs.«01_k».proof.Proof.Gen.MxKernel
public import proofs.«01_k».proof.Proof.Gen.MxKernel.Frame
public import proofs.«01_k».proof.Proof.Gen.MxKernelIdeal
public import proofs.«01_k».proof.Proof.Gen.MxKernelIdeal.Frame
public import proofs.«01_k».proof.Proof.Gen.MxKernelIdeal.Value
public import proofs.«01_k».proof.Proof.Gen.MxReferenceIdeal
public import proofs.«01_k».proof.Proof.Gen.MxReferenceIdeal.Run
public import proofs.«01_k».proof.Proof.Gen.Pre_mx_finite
public import proofs.«01_k».proof.Proof.Gen.Pre_pj_finite
public import proofs.«01_k».proof.Proof.Gen.NpKernel
public import proofs.«01_k».proof.Proof.Gen.NpKernel.Frame
public import proofs.«01_k».proof.Proof.Gen.NpKernelIdeal
public import proofs.«01_k».proof.Proof.Gen.NpKernelIdeal.Frame
public import proofs.«01_k».proof.Proof.Gen.NpKernelIdeal.Value
public import proofs.«01_k».proof.Proof.Gen.NpReferenceIdeal
public import proofs.«01_k».proof.Proof.Gen.NpReferenceIdeal.Run
public import proofs.«01_k».proof.Proof.Gen.FwKernel
public import proofs.«01_k».proof.Proof.Gen.FwKernel.Frame
public import proofs.«01_k».proof.Proof.Gen.FwKernelIdeal
public import proofs.«01_k».proof.Proof.Gen.FwKernelIdeal.Frame
public import proofs.«01_k».proof.Proof.Gen.FwKernelIdeal.Value
public import proofs.«01_k».proof.Proof.Gen.FwReferenceIdeal
public import proofs.«01_k».proof.Proof.Gen.FwReferenceIdeal.Run
public import proofs.«01_k».proof.Proof.Gen.Pre_fw_finite
public import proofs.«01_k».proof.Proof.DxClaim
public import proofs.«01_k».proof.Proof.ProjClaim
public import proofs.«01_k».proof.Proof.MxClaim
public import proofs.«01_k».proof.Proof.NpClaim
public import proofs.«01_k».proof.Proof.FwClaim
public import Idealize.ShloMosaic.Adequacy
public import Idealize.ShloMosaic.Init

@[expose] public section

noncomputable section

namespace Cert.Proof

open Idealize.ShloMosaic Idealize.SL.Sem Cert.DxKernel

/-- Every claim of the file, in its order. -/
theorem claim : Cert.Claim := ⟨Cert.DxKernel.Gen.facts, Cert.DxKernelIdeal.Gen.facts, Cert.DxReferenceIdeal.Gen.facts,
  Cert.PjKernel.Gen.facts, Cert.PjKernelIdeal.Gen.facts, Cert.PjReferenceIdeal.Gen.facts,
  Cert.DwKernel.Gen.facts, Cert.DwKernelIdeal.Gen.facts, Cert.DwReferenceIdeal.Gen.facts,
  Cert.MxKernel.Gen.facts, Cert.MxKernelIdeal.Gen.facts, Cert.MxReferenceIdeal.Gen.facts,
  Cert.NpKernel.Gen.facts, Cert.NpKernelIdeal.Gen.facts, Cert.NpReferenceIdeal.Gen.facts, Cert.FwKernel.Gen.facts, Cert.FwKernelIdeal.Gen.facts, Cert.FwReferenceIdeal.Gen.facts,
  Cert.Pre_dx_finite.Gen.facts, Cert.Pre_pj_finite.Gen.facts, Cert.Pre_mx_finite.Gen.facts, Cert.Pre_fw_finite.Gen.facts,
  Dx.frame_kernel, Dx.frame_ideal, Dx.frame_ideal_pre, Dx.frame_ref, Dx.frame_ref_pre,
  Pj.frame_kernel, Pj.frame_ideal, Pj.frame_ideal_pre, Pj.frame_ref, Pj.frame_ref_pre,
  Dw.frame_kernel, Dw.frame_ideal, Dw.frame_ref,
  Mx.frame_kernel, Mx.frame_ideal, Mx.frame_ideal_pre, Mx.frame_ref, Mx.frame_ref_pre,
  Np.frame_kernel, Np.frame_ideal, Np.frame_ref, Fw.frame_kernel, Fw.frame_ideal, Fw.frame_ideal_pre, Fw.frame_ref, Fw.frame_ref_pre,
  Dx.preserves, Dx.algebraic, Pj.preserves, Pj.algebraic, Dw.preserves, Dw.algebraic, Mx.preserves, Mx.algebraic,
  Np.preserves, Np.algebraic, Fw.preserves, Fw.algebraic⟩

end Cert.Proof

end
